-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19)
      ∧ r.2.mem ((c.tc : Thread Cert.Kernel7.nD Cert.Kernel7.τ).loc Cert.Kernel7.main_arg20) = m ((c.tc : Thread Cert.Kernel7.nD Cert.Kernel7.τ).loc Cert.Kernel7.main_arg20)
      ∧ r.2.mem ((c.tc : Thread Cert.Kernel7.nD Cert.Kernel7.τ).loc Cert.Kernel7.main_arg21) = m ((c.tc : Thread Cert.Kernel7.nD Cert.Kernel7.τ).loc Cert.Kernel7.main_arg21)
      ∧ r.2.mem ((c.tc : Thread Cert.Kernel7.nD Cert.Kernel7.τ).loc Cert.Kernel7.main_arg22) = m ((c.tc : Thread Cert.Kernel7.nD Cert.Kernel7.τ).loc Cert.Kernel7.main_arg22)
      ∧ r.2.mem ((c.tc : Thread Cert.Kernel7.nD Cert.Kernel7.τ).loc Cert.Kernel7.main_arg23) = m ((c.tc : Thread Cert.Kernel7.nD Cert.Kernel7.τ).loc Cert.Kernel7.main_arg23)
      ∧ r.2.mem ((c.tc : Thread Cert.Kernel7.nD Cert.Kernel7.τ).loc Cert.Kernel7.main_arg24) = m ((c.tc : Thread Cert.Kernel7.nD Cert.Kernel7.τ).loc Cert.Kernel7.main_arg24)
      ∧ r.2.mem ((c.tc : Thread Cert.Kernel7.nD Cert.Kernel7.τ).loc Cert.Kernel7.main_arg25) = m ((c.tc : Thread Cert.Kernel7.nD Cert.Kernel7.τ).loc Cert.Kernel7.main_arg25)
      ∧ r.2.mem ((c.tc : Thread Cert.Kernel7.nD Cert.Kernel7.τ).loc Cert.Kernel7.main_arg26) = m ((c.tc : Thread Cert.Kernel7.nD Cert.Kernel7.τ).loc Cert.Kernel7.main_arg26)
      ∧ r.2.mem ((c.tc : Thread Cert.Kernel7.nD Cert.Kernel7.τ).loc Cert.Kernel7.main_arg27) = m ((c.tc : Thread Cert.Kernel7.nD Cert.Kernel7.τ).loc Cert.Kernel7.main_arg27)
      ∧ r.2.mem ((c.tc : Thread Cert.Kernel7.nD Cert.Kernel7.τ).loc Cert.Kernel7.main_arg28) = m ((c.tc : Thread Cert.Kernel7.nD Cert.Kernel7.τ).loc Cert.Kernel7.main_arg28)
      ∧ r.2.mem ((c.tc : Thread Cert.Kernel7.nD Cert.Kernel7.τ).loc Cert.Kernel7.main_arg29) = m ((c.tc : Thread Cert.Kernel7.nD Cert.Kernel7.τ).loc Cert.Kernel7.main_arg29)
      ∧ r.2.mem ((c.tc : Thread Cert.Kernel7.nD Cert.Kernel7.τ).loc Cert.Kernel7.main_arg30) = m ((c.tc : Thread Cert.Kernel7.nD Cert.Kernel7.τ).loc Cert.Kernel7.main_arg30)
      ∧ r.2.mem ((c.tc : Thread Cert.Kernel7.nD Cert.Kernel7.τ).loc Cert.Kernel7.main_arg31) = m ((c.tc : Thread Cert.Kernel7.nD Cert.Kernel7.τ).loc Cert.Kernel7.main_arg31)
      ∧ r.2.mem ((c.tc : Thread Cert.Kernel7.nD Cert.Kernel7.τ).loc Cert.Kernel7.main_arg32) = m ((c.tc : Thread Cert.Kernel7.nD Cert.Kernel7.τ).loc Cert.Kernel7.main_arg32)
      ∧ r.2.mem ((c.tc : Thread Cert.Kernel7.nD Cert.Kernel7.τ).loc Cert.Kernel7.main_arg33) = m ((c.tc : Thread Cert.Kernel7.nD Cert.Kernel7.τ).loc Cert.Kernel7.main_arg33)
      ∧ r.2.mem ((c.tc : Thread Cert.Kernel7.nD Cert.Kernel7.τ).loc Cert.Kernel7.main_arg34) = m ((c.tc : Thread Cert.Kernel7.nD Cert.Kernel7.τ).loc Cert.Kernel7.main_arg34)
      ∧ r.2.mem ((c.tc : Thread Cert.Kernel7.nD Cert.Kernel7.τ).loc Cert.Kernel7.main_arg35) = m ((c.tc : Thread Cert.Kernel7.nD Cert.Kernel7.τ).loc Cert.Kernel7.main_arg35)
      ∧ r.2.mem ((c.tc : Thread Cert.Kernel7.nD Cert.Kernel7.τ).loc Cert.Kernel7.main_arg36) = m ((c.tc : Thread Cert.Kernel7.nD Cert.Kernel7.τ).loc Cert.Kernel7.main_arg36)
      ∧ r.2.mem ((c.tc : Thread Cert.Kernel7.nD Cert.Kernel7.τ).loc Cert.Kernel7.main_arg37) = m ((c.tc : Thread Cert.Kernel7.nD Cert.Kernel7.τ).loc Cert.Kernel7.main_arg37)
      ∧ r.2.mem ((c.tc : Thread Cert.Kernel7.nD Cert.Kernel7.τ).loc Cert.Kernel7.main_arg38) = m ((c.tc : Thread Cert.Kernel7.nD Cert.Kernel7.τ).loc Cert.Kernel7.main_arg38))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
      ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
      ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
      ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
      ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
      ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
      ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
      ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
      ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
      ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
      ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
      ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
      ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
      ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
      ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
      ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
      ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35)
      ∧ r.2.mem ((c.tc : Thread Cert.Kernel7Ideal.nD Cert.Kernel7Ideal.τ).loc Cert.Kernel7Ideal.main_arg36) = m ((c.tc : Thread Cert.Kernel7Ideal.nD Cert.Kernel7Ideal.τ).loc Cert.Kernel7Ideal.main_arg36)
      ∧ r.2.mem ((c.tc : Thread Cert.Kernel7Ideal.nD Cert.Kernel7Ideal.τ).loc Cert.Kernel7Ideal.main_arg37) = m ((c.tc : Thread Cert.Kernel7Ideal.nD Cert.Kernel7Ideal.τ).loc Cert.Kernel7Ideal.main_arg37)
      ∧ r.2.mem ((c.tc : Thread Cert.Kernel7Ideal.nD Cert.Kernel7Ideal.τ).loc Cert.Kernel7Ideal.main_arg38) = m ((c.tc : Thread Cert.Kernel7Ideal.nD Cert.Kernel7Ideal.τ).loc Cert.Kernel7Ideal.main_arg38))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19)
      ∧ r.2.mem ((c.tc : Thread Cert.Reference7Ideal.nD Cert.Reference7Ideal.τ).loc Cert.Reference7Ideal.main_arg20) = m ((c.tc : Thread Cert.Reference7Ideal.nD Cert.Reference7Ideal.τ).loc Cert.Reference7Ideal.main_arg20)
      ∧ r.2.mem ((c.tc : Thread Cert.Reference7Ideal.nD Cert.Reference7Ideal.τ).loc Cert.Reference7Ideal.main_arg21) = m ((c.tc : Thread Cert.Reference7Ideal.nD Cert.Reference7Ideal.τ).loc Cert.Reference7Ideal.main_arg21)
      ∧ r.2.mem ((c.tc : Thread Cert.Reference7Ideal.nD Cert.Reference7Ideal.τ).loc Cert.Reference7Ideal.main_arg22) = m ((c.tc : Thread Cert.Reference7Ideal.nD Cert.Reference7Ideal.τ).loc Cert.Reference7Ideal.main_arg22)
      ∧ r.2.mem ((c.tc : Thread Cert.Reference7Ideal.nD Cert.Reference7Ideal.τ).loc Cert.Reference7Ideal.main_arg23) = m ((c.tc : Thread Cert.Reference7Ideal.nD Cert.Reference7Ideal.τ).loc Cert.Reference7Ideal.main_arg23)
      ∧ r.2.mem ((c.tc : Thread Cert.Reference7Ideal.nD Cert.Reference7Ideal.τ).loc Cert.Reference7Ideal.main_arg24) = m ((c.tc : Thread Cert.Reference7Ideal.nD Cert.Reference7Ideal.τ).loc Cert.Reference7Ideal.main_arg24)
      ∧ r.2.mem ((c.tc : Thread Cert.Reference7Ideal.nD Cert.Reference7Ideal.τ).loc Cert.Reference7Ideal.main_arg25) = m ((c.tc : Thread Cert.Reference7Ideal.nD Cert.Reference7Ideal.τ).loc Cert.Reference7Ideal.main_arg25)
      ∧ r.2.mem ((c.tc : Thread Cert.Reference7Ideal.nD Cert.Reference7Ideal.τ).loc Cert.Reference7Ideal.main_arg26) = m ((c.tc : Thread Cert.Reference7Ideal.nD Cert.Reference7Ideal.τ).loc Cert.Reference7Ideal.main_arg26)
      ∧ r.2.mem ((c.tc : Thread Cert.Reference7Ideal.nD Cert.Reference7Ideal.τ).loc Cert.Reference7Ideal.main_arg27) = m ((c.tc : Thread Cert.Reference7Ideal.nD Cert.Reference7Ideal.τ).loc Cert.Reference7Ideal.main_arg27)
      ∧ r.2.mem ((c.tc : Thread Cert.Reference7Ideal.nD Cert.Reference7Ideal.τ).loc Cert.Reference7Ideal.main_arg28) = m ((c.tc : Thread Cert.Reference7Ideal.nD Cert.Reference7Ideal.τ).loc Cert.Reference7Ideal.main_arg28)
      ∧ r.2.mem ((c.tc : Thread Cert.Reference7Ideal.nD Cert.Reference7Ideal.τ).loc Cert.Reference7Ideal.main_arg29) = m ((c.tc : Thread Cert.Reference7Ideal.nD Cert.Reference7Ideal.τ).loc Cert.Reference7Ideal.main_arg29)
      ∧ r.2.mem ((c.tc : Thread Cert.Reference7Ideal.nD Cert.Reference7Ideal.τ).loc Cert.Reference7Ideal.main_arg30) = m ((c.tc : Thread Cert.Reference7Ideal.nD Cert.Reference7Ideal.τ).loc Cert.Reference7Ideal.main_arg30)
      ∧ r.2.mem ((c.tc : Thread Cert.Reference7Ideal.nD Cert.Reference7Ideal.τ).loc Cert.Reference7Ideal.main_arg31) = m ((c.tc : Thread Cert.Reference7Ideal.nD Cert.Reference7Ideal.τ).loc Cert.Reference7Ideal.main_arg31)
      ∧ r.2.mem ((c.tc : Thread Cert.Reference7Ideal.nD Cert.Reference7Ideal.τ).loc Cert.Reference7Ideal.main_arg32) = m ((c.tc : Thread Cert.Reference7Ideal.nD Cert.Reference7Ideal.τ).loc Cert.Reference7Ideal.main_arg32)
      ∧ r.2.mem ((c.tc : Thread Cert.Reference7Ideal.nD Cert.Reference7Ideal.τ).loc Cert.Reference7Ideal.main_arg33) = m ((c.tc : Thread Cert.Reference7Ideal.nD Cert.Reference7Ideal.τ).loc Cert.Reference7Ideal.main_arg33)
      ∧ r.2.mem ((c.tc : Thread Cert.Reference7Ideal.nD Cert.Reference7Ideal.τ).loc Cert.Reference7Ideal.main_arg34) = m ((c.tc : Thread Cert.Reference7Ideal.nD Cert.Reference7Ideal.τ).loc Cert.Reference7Ideal.main_arg34)
      ∧ r.2.mem ((c.tc : Thread Cert.Reference7Ideal.nD Cert.Reference7Ideal.τ).loc Cert.Reference7Ideal.main_arg35) = m ((c.tc : Thread Cert.Reference7Ideal.nD Cert.Reference7Ideal.τ).loc Cert.Reference7Ideal.main_arg35)
      ∧ r.2.mem ((c.tc : Thread Cert.Reference7Ideal.nD Cert.Reference7Ideal.τ).loc Cert.Reference7Ideal.main_arg36) = m ((c.tc : Thread Cert.Reference7Ideal.nD Cert.Reference7Ideal.τ).loc Cert.Reference7Ideal.main_arg36)
      ∧ r.2.mem ((c.tc : Thread Cert.Reference7Ideal.nD Cert.Reference7Ideal.τ).loc Cert.Reference7Ideal.main_arg37) = m ((c.tc : Thread Cert.Reference7Ideal.nD Cert.Reference7Ideal.τ).loc Cert.Reference7Ideal.main_arg37)
      ∧ r.2.mem ((c.tc : Thread Cert.Reference7Ideal.nD Cert.Reference7Ideal.τ).loc Cert.Reference7Ideal.main_arg38) = m ((c.tc : Thread Cert.Reference7Ideal.nD Cert.Reference7Ideal.τ).loc Cert.Reference7Ideal.main_arg38))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v2_0)) (v2 : (c : Dev Cert.Kernel2Ideal.nD) → Buf (Elt Ideal) ((c.tc : Thread Cert.Kernel2Ideal.nD Cert.Kernel2Ideal.τ).loc Cert.Kernel2Ideal.main_v2_1)) (v3 : (c : Dev Cert.Kernel2Ideal.nD) → Buf (Elt Ideal) ((c.tc : Thread Cert.Kernel2Ideal.nD Cert.Kernel2Ideal.τ).loc Cert.Kernel2Ideal.main_v4)) (v4 : (c : Dev Cert.Kernel2Ideal.nD) → Buf (Elt Ideal) ((c.tc : Thread Cert.Kernel2Ideal.nD Cert.Kernel2Ideal.τ).loc Cert.Kernel2Ideal.main_v5)) (v5 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v2_0) = v1 c
          ∧ r.2.mem ((c.tc : Thread Cert.Kernel2Ideal.nD Cert.Kernel2Ideal.τ).loc Cert.Kernel2Ideal.main_v2_1) = v2 c
          ∧ r.2.mem ((c.tc : Thread Cert.Kernel2Ideal.nD Cert.Kernel2Ideal.τ).loc Cert.Kernel2Ideal.main_v4) = v3 c
          ∧ r.2.mem ((c.tc : Thread Cert.Kernel2Ideal.nD Cert.Kernel2Ideal.τ).loc Cert.Kernel2Ideal.main_v5) = v4 c
          ∧ r.2.mem ((c.tc : Thread Cert.Kernel2Ideal.nD Cert.Kernel2Ideal.τ).loc Cert.Kernel2Ideal.main_v3) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_v32) = v4 c
          ∧ r.2.mem ((c.tc : Thread Cert.Reference2Ideal.nD Cert.Reference2Ideal.τ).loc Cert.Reference2Ideal.main_v33) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v3)) (v3 : (c : Dev Cert.Kernel4Ideal.nD) → Buf (Elt Ideal) ((c.tc : Thread Cert.Kernel4Ideal.nD Cert.Kernel4Ideal.τ).loc Cert.Kernel4Ideal.main_v5)) (v4 : (c : Dev Cert.Kernel4Ideal.nD) → Buf (Elt Ideal) ((c.tc : Thread Cert.Kernel4Ideal.nD Cert.Kernel4Ideal.τ).loc Cert.Kernel4Ideal.main_v7)) (v5 : (c : Dev Cert.Kernel4Ideal.nD) → Buf (Elt Ideal) ((c.tc : Thread Cert.Kernel4Ideal.nD Cert.Kernel4Ideal.τ).loc Cert.Kernel4Ideal.main_v8)) (v6 : (c : Dev Cert.Kernel4Ideal.nD) → Buf (Elt Ideal) ((c.tc : Thread Cert.Kernel4Ideal.nD Cert.Kernel4Ideal.τ).loc Cert.Kernel4Ideal.main_v9)) (v7 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v3) = v2 c
          ∧ r.2.mem ((c.tc : Thread Cert.Kernel4Ideal.nD Cert.Kernel4Ideal.τ).loc Cert.Kernel4Ideal.main_v5) = v3 c
          ∧ r.2.mem ((c.tc : Thread Cert.Kernel4Ideal.nD Cert.Kernel4Ideal.τ).loc Cert.Kernel4Ideal.main_v7) = v4 c
          ∧ r.2.mem ((c.tc : Thread Cert.Kernel4Ideal.nD Cert.Kernel4Ideal.τ).loc Cert.Kernel4Ideal.main_v8) = v5 c
          ∧ r.2.mem ((c.tc : Thread Cert.Kernel4Ideal.nD Cert.Kernel4Ideal.τ).loc Cert.Kernel4Ideal.main_v9) = v6 c
          ∧ r.2.mem ((c.tc : Thread Cert.Kernel4Ideal.nD Cert.Kernel4Ideal.τ).loc Cert.Kernel4Ideal.main_v10) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_v17) = v3 c
          ∧ r.2.mem ((c.tc : Thread Cert.Reference4Ideal.nD Cert.Reference4Ideal.τ).loc Cert.Reference4Ideal.main_v18) = v4 c
          ∧ r.2.mem ((c.tc : Thread Cert.Reference4Ideal.nD Cert.Reference4Ideal.τ).loc Cert.Reference4Ideal.main_v20) = v5 c
          ∧ r.2.mem ((c.tc : Thread Cert.Reference4Ideal.nD Cert.Reference4Ideal.τ).loc Cert.Reference4Ideal.main_v21) = v6 c
          ∧ r.2.mem ((c.tc : Thread Cert.Reference4Ideal.nD Cert.Reference4Ideal.τ).loc Cert.Reference4Ideal.main_v11) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "scale_log2e" .f32 0x3DD53B95#32 (((Real.sqrt 192)⁻¹ * (Real.log 2)⁻¹ : ℝ) : EReal)
  ∧ IdealRules.named_const.Statement Cert.Kernel5Ideal.κ "log2e" .f32 0x3FB8AA3B#32 (((Real.log 2)⁻¹ : ℝ) : EReal)
  ∧ IdealRules.named_const.Statement Cert.Kernel5Ideal.κ "scale" .f32 0x3D93CD3A#32 (((Real.sqrt 192)⁻¹ : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v1_0)) (v2 : (c : Dev Cert.Kernel5Ideal.nD) → Buf (Elt Ideal) ((c.tc : Thread Cert.Kernel5Ideal.nD Cert.Kernel5Ideal.τ).loc Cert.Kernel5Ideal.main_v1_1)) (v3 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v1_0) = v1 c
          ∧ r.2.mem ((c.tc : Thread Cert.Kernel5Ideal.nD Cert.Kernel5Ideal.τ).loc Cert.Kernel5Ideal.main_v1_1) = v2 c
          ∧ r.2.mem ((c.tc : Thread Cert.Kernel5Ideal.nD Cert.Kernel5Ideal.τ).loc Cert.Kernel5Ideal.main_v1_2) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v66) = v1 c
          ∧ r.2.mem ((c.tc : Thread Cert.Reference5Ideal.nD Cert.Reference5Ideal.τ).loc Cert.Reference5Ideal.main_v65) = v2 c
          ∧ r.2.mem ((c.tc : Thread Cert.Reference5Ideal.nD Cert.Reference5Ideal.τ).loc Cert.Reference5Ideal.main_v67) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)) (v1 : (c : Dev Cert.Kernel6Ideal.nD) → Buf (Elt Ideal) ((c.tc : Thread Cert.Kernel6Ideal.nD Cert.Kernel6Ideal.τ).loc Cert.Kernel6Ideal.main_v1)) (v2 : (c : Dev Cert.Kernel6Ideal.nD) → Buf (Elt Ideal) ((c.tc : Thread Cert.Kernel6Ideal.nD Cert.Kernel6Ideal.τ).loc Cert.Kernel6Ideal.main_v2)) (v3 : (c : Dev Cert.Kernel6Ideal.nD) → Buf (Elt Ideal) ((c.tc : Thread Cert.Kernel6Ideal.nD Cert.Kernel6Ideal.τ).loc Cert.Kernel6Ideal.main_v3)) (v4 : (c : Dev Cert.Kernel6Ideal.nD) → Buf (Elt Ideal) ((c.tc : Thread Cert.Kernel6Ideal.nD Cert.Kernel6Ideal.τ).loc Cert.Kernel6Ideal.main_v4)) (v5 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_v1) = v1 c
          ∧ r.2.mem ((c.tc : Thread Cert.Kernel6Ideal.nD Cert.Kernel6Ideal.τ).loc Cert.Kernel6Ideal.main_v2) = v2 c
          ∧ r.2.mem ((c.tc : Thread Cert.Kernel6Ideal.nD Cert.Kernel6Ideal.τ).loc Cert.Kernel6Ideal.main_v3) = v3 c
          ∧ r.2.mem ((c.tc : Thread Cert.Kernel6Ideal.nD Cert.Kernel6Ideal.τ).loc Cert.Kernel6Ideal.main_v4) = v4 c
          ∧ r.2.mem ((c.tc : Thread Cert.Kernel6Ideal.nD Cert.Kernel6Ideal.τ).loc Cert.Kernel6Ideal.main_v5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v13) = v2 c
          ∧ r.2.mem ((c.tc : Thread Cert.Reference6Ideal.nD Cert.Reference6Ideal.τ).loc Cert.Reference6Ideal.main_v15) = v3 c
          ∧ r.2.mem ((c.tc : Thread Cert.Reference6Ideal.nD Cert.Reference6Ideal.τ).loc Cert.Reference6Ideal.main_v10) = v4 c
          ∧ r.2.mem ((c.tc : Thread Cert.Reference6Ideal.nD Cert.Reference6Ideal.τ).loc Cert.Reference6Ideal.main_v16) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)
      ∧ m' ((c.tc : Thread Cert.Reference7Ideal.nD Cert.Reference7Ideal.τ).loc Cert.Reference7Ideal.main_arg20) = m ((c.tc : Thread Cert.Kernel7Ideal.nD Cert.Kernel7Ideal.τ).loc Cert.Kernel7Ideal.main_arg20)
      ∧ m' ((c.tc : Thread Cert.Reference7Ideal.nD Cert.Reference7Ideal.τ).loc Cert.Reference7Ideal.main_arg21) = m ((c.tc : Thread Cert.Kernel7Ideal.nD Cert.Kernel7Ideal.τ).loc Cert.Kernel7Ideal.main_arg21)
      ∧ m' ((c.tc : Thread Cert.Reference7Ideal.nD Cert.Reference7Ideal.τ).loc Cert.Reference7Ideal.main_arg22) = m ((c.tc : Thread Cert.Kernel7Ideal.nD Cert.Kernel7Ideal.τ).loc Cert.Kernel7Ideal.main_arg22)
      ∧ m' ((c.tc : Thread Cert.Reference7Ideal.nD Cert.Reference7Ideal.τ).loc Cert.Reference7Ideal.main_arg23) = m ((c.tc : Thread Cert.Kernel7Ideal.nD Cert.Kernel7Ideal.τ).loc Cert.Kernel7Ideal.main_arg23)
      ∧ m' ((c.tc : Thread Cert.Reference7Ideal.nD Cert.Reference7Ideal.τ).loc Cert.Reference7Ideal.main_arg24) = m ((c.tc : Thread Cert.Kernel7Ideal.nD Cert.Kernel7Ideal.τ).loc Cert.Kernel7Ideal.main_arg24)
      ∧ m' ((c.tc : Thread Cert.Reference7Ideal.nD Cert.Reference7Ideal.τ).loc Cert.Reference7Ideal.main_arg25) = m ((c.tc : Thread Cert.Kernel7Ideal.nD Cert.Kernel7Ideal.τ).loc Cert.Kernel7Ideal.main_arg25)
      ∧ m' ((c.tc : Thread Cert.Reference7Ideal.nD Cert.Reference7Ideal.τ).loc Cert.Reference7Ideal.main_arg26) = m ((c.tc : Thread Cert.Kernel7Ideal.nD Cert.Kernel7Ideal.τ).loc Cert.Kernel7Ideal.main_arg26)
      ∧ m' ((c.tc : Thread Cert.Reference7Ideal.nD Cert.Reference7Ideal.τ).loc Cert.Reference7Ideal.main_arg27) = m ((c.tc : Thread Cert.Kernel7Ideal.nD Cert.Kernel7Ideal.τ).loc Cert.Kernel7Ideal.main_arg27)
      ∧ m' ((c.tc : Thread Cert.Reference7Ideal.nD Cert.Reference7Ideal.τ).loc Cert.Reference7Ideal.main_arg28) = m ((c.tc : Thread Cert.Kernel7Ideal.nD Cert.Kernel7Ideal.τ).loc Cert.Kernel7Ideal.main_arg28)
      ∧ m' ((c.tc : Thread Cert.Reference7Ideal.nD Cert.Reference7Ideal.τ).loc Cert.Reference7Ideal.main_arg29) = m ((c.tc : Thread Cert.Kernel7Ideal.nD Cert.Kernel7Ideal.τ).loc Cert.Kernel7Ideal.main_arg29)
      ∧ m' ((c.tc : Thread Cert.Reference7Ideal.nD Cert.Reference7Ideal.τ).loc Cert.Reference7Ideal.main_arg30) = m ((c.tc : Thread Cert.Kernel7Ideal.nD Cert.Kernel7Ideal.τ).loc Cert.Kernel7Ideal.main_arg30)
      ∧ m' ((c.tc : Thread Cert.Reference7Ideal.nD Cert.Reference7Ideal.τ).loc Cert.Reference7Ideal.main_arg31) = m ((c.tc : Thread Cert.Kernel7Ideal.nD Cert.Kernel7Ideal.τ).loc Cert.Kernel7Ideal.main_arg31)
      ∧ m' ((c.tc : Thread Cert.Reference7Ideal.nD Cert.Reference7Ideal.τ).loc Cert.Reference7Ideal.main_arg32) = m ((c.tc : Thread Cert.Kernel7Ideal.nD Cert.Kernel7Ideal.τ).loc Cert.Kernel7Ideal.main_arg32)
      ∧ m' ((c.tc : Thread Cert.Reference7Ideal.nD Cert.Reference7Ideal.τ).loc Cert.Reference7Ideal.main_arg33) = m ((c.tc : Thread Cert.Kernel7Ideal.nD Cert.Kernel7Ideal.τ).loc Cert.Kernel7Ideal.main_arg33)
      ∧ m' ((c.tc : Thread Cert.Reference7Ideal.nD Cert.Reference7Ideal.τ).loc Cert.Reference7Ideal.main_arg34) = m ((c.tc : Thread Cert.Kernel7Ideal.nD Cert.Kernel7Ideal.τ).loc Cert.Kernel7Ideal.main_arg34)
      ∧ m' ((c.tc : Thread Cert.Reference7Ideal.nD Cert.Reference7Ideal.τ).loc Cert.Reference7Ideal.main_arg35) = m ((c.tc : Thread Cert.Kernel7Ideal.nD Cert.Kernel7Ideal.τ).loc Cert.Kernel7Ideal.main_arg35)
      ∧ m' ((c.tc : Thread Cert.Reference7Ideal.nD Cert.Reference7Ideal.τ).loc Cert.Reference7Ideal.main_arg36) = m ((c.tc : Thread Cert.Kernel7Ideal.nD Cert.Kernel7Ideal.τ).loc Cert.Kernel7Ideal.main_arg36)
      ∧ m' ((c.tc : Thread Cert.Reference7Ideal.nD Cert.Reference7Ideal.τ).loc Cert.Reference7Ideal.main_arg37) = m ((c.tc : Thread Cert.Kernel7Ideal.nD Cert.Kernel7Ideal.τ).loc Cert.Kernel7Ideal.main_arg37)
      ∧ m' ((c.tc : Thread Cert.Reference7Ideal.nD Cert.Reference7Ideal.τ).loc Cert.Reference7Ideal.main_arg38) = m ((c.tc : Thread Cert.Kernel7Ideal.nD Cert.Kernel7Ideal.τ).loc Cert.Kernel7Ideal.main_arg38)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v1_0)) (v5 : (c : Dev Cert.Kernel7Ideal.nD) → Buf (Elt Ideal) ((c.tc : Thread Cert.Kernel7Ideal.nD Cert.Kernel7Ideal.τ).loc Cert.Kernel7Ideal.main_v1_1)) (v6 : (c : Dev Cert.Kernel7Ideal.nD) → Buf (Elt Ideal) ((c.tc : Thread Cert.Kernel7Ideal.nD Cert.Kernel7Ideal.τ).loc Cert.Kernel7Ideal.main_v1_2)) (v7 : (c : Dev Cert.Kernel7Ideal.nD) → Buf (Elt Ideal) ((c.tc : Thread Cert.Kernel7Ideal.nD Cert.Kernel7Ideal.τ).loc Cert.Kernel7Ideal.main_v1_3)) (v8 : (c : Dev Cert.Kernel7Ideal.nD) → Buf (Elt Ideal) ((c.tc : Thread Cert.Kernel7Ideal.nD Cert.Kernel7Ideal.τ).loc Cert.Kernel7Ideal.main_v2_0)) (v9 : (c : Dev Cert.Kernel7Ideal.nD) → Buf (Elt Ideal) ((c.tc : Thread Cert.Kernel7Ideal.nD Cert.Kernel7Ideal.τ).loc Cert.Kernel7Ideal.main_v2_1)) (v10 : (c : Dev Cert.Kernel7Ideal.nD) → Buf (Elt Ideal) ((c.tc : Thread Cert.Kernel7Ideal.nD Cert.Kernel7Ideal.τ).loc Cert.Kernel7Ideal.main_v2_2)) (v11 : (c : Dev Cert.Kernel7Ideal.nD) → Buf (Elt Ideal) ((c.tc : Thread Cert.Kernel7Ideal.nD Cert.Kernel7Ideal.τ).loc Cert.Kernel7Ideal.main_v2_3)) (v12 : (c : Dev Cert.Kernel7Ideal.nD) → Buf (Elt Ideal) ((c.tc : Thread Cert.Kernel7Ideal.nD Cert.Kernel7Ideal.τ).loc Cert.Kernel7Ideal.main_v3_0)) (v13 : (c : Dev Cert.Kernel7Ideal.nD) → Buf (Elt Ideal) ((c.tc : Thread Cert.Kernel7Ideal.nD Cert.Kernel7Ideal.τ).loc Cert.Kernel7Ideal.main_v3_1)) (v14 : (c : Dev Cert.Kernel7Ideal.nD) → Buf (Elt Ideal) ((c.tc : Thread Cert.Kernel7Ideal.nD Cert.Kernel7Ideal.τ).loc Cert.Kernel7Ideal.main_v3_2)) (v15 : (c : Dev Cert.Kernel7Ideal.nD) → Buf (Elt Ideal) ((c.tc : Thread Cert.Kernel7Ideal.nD Cert.Kernel7Ideal.τ).loc Cert.Kernel7Ideal.main_v3_3)) (v16 : (c : Dev Cert.Kernel7Ideal.nD) → Buf (Elt Ideal) ((c.tc : Thread Cert.Kernel7Ideal.nD Cert.Kernel7Ideal.τ).loc Cert.Kernel7Ideal.main_v4_0)) (v17 : (c : Dev Cert.Kernel7Ideal.nD) → Buf (Elt Ideal) ((c.tc : Thread Cert.Kernel7Ideal.nD Cert.Kernel7Ideal.τ).loc Cert.Kernel7Ideal.main_v4_1)) (v18 : (c : Dev Cert.Kernel7Ideal.nD) → Buf (Elt Ideal) ((c.tc : Thread Cert.Kernel7Ideal.nD Cert.Kernel7Ideal.τ).loc Cert.Kernel7Ideal.main_v4_2)) (v19 : (c : Dev Cert.Kernel7Ideal.nD) → Buf (Elt Ideal) ((c.tc : Thread Cert.Kernel7Ideal.nD Cert.Kernel7Ideal.τ).loc Cert.Kernel7Ideal.main_v4_3)) (v20 : (c : Dev Cert.Kernel7Ideal.nD) → Buf (Elt Ideal) ((c.tc : Thread Cert.Kernel7Ideal.nD Cert.Kernel7Ideal.τ).loc Cert.Kernel7Ideal.main_v5_0)) (v21 : (c : Dev Cert.Kernel7Ideal.nD) → Buf (Elt Ideal) ((c.tc : Thread Cert.Kernel7Ideal.nD Cert.Kernel7Ideal.τ).loc Cert.Kernel7Ideal.main_v5_1)) (v22 : (c : Dev Cert.Kernel7Ideal.nD) → Buf (Elt Ideal) ((c.tc : Thread Cert.Kernel7Ideal.nD Cert.Kernel7Ideal.τ).loc Cert.Kernel7Ideal.main_v5_2)) (v23 : (c : Dev Cert.Kernel7Ideal.nD) → Buf (Elt Ideal) ((c.tc : Thread Cert.Kernel7Ideal.nD Cert.Kernel7Ideal.τ).loc Cert.Kernel7Ideal.main_v5_3)) (v24 : (c : Dev Cert.Kernel7Ideal.nD) → Buf (Elt Ideal) ((c.tc : Thread Cert.Kernel7Ideal.nD Cert.Kernel7Ideal.τ).loc Cert.Kernel7Ideal.main_v6_0)) (v25 : (c : Dev Cert.Kernel7Ideal.nD) → Buf (Elt Ideal) ((c.tc : Thread Cert.Kernel7Ideal.nD Cert.Kernel7Ideal.τ).loc Cert.Kernel7Ideal.main_v6_1)) (v26 : (c : Dev Cert.Kernel7Ideal.nD) → Buf (Elt Ideal) ((c.tc : Thread Cert.Kernel7Ideal.nD Cert.Kernel7Ideal.τ).loc Cert.Kernel7Ideal.main_v6_2)) (v27 : (c : Dev Cert.Kernel7Ideal.nD) → Buf (Elt Ideal) ((c.tc : Thread Cert.Kernel7Ideal.nD Cert.Kernel7Ideal.τ).loc Cert.Kernel7Ideal.main_v6_3)) (v28 : (c : Dev Cert.Kernel7Ideal.nD) → Buf (Elt Ideal) ((c.tc : Thread Cert.Kernel7Ideal.nD Cert.Kernel7Ideal.τ).loc Cert.Kernel7Ideal.main_v7_0)) (v29 : (c : Dev Cert.Kernel7Ideal.nD) → Buf (Elt Ideal) ((c.tc : Thread Cert.Kernel7Ideal.nD Cert.Kernel7Ideal.τ).loc Cert.Kernel7Ideal.main_v7_1)) (v30 : (c : Dev Cert.Kernel7Ideal.nD) → Buf (Elt Ideal) ((c.tc : Thread Cert.Kernel7Ideal.nD Cert.Kernel7Ideal.τ).loc Cert.Kernel7Ideal.main_v7_2)) (v31 : (c : Dev Cert.Kernel7Ideal.nD) → Buf (Elt Ideal) ((c.tc : Thread Cert.Kernel7Ideal.nD Cert.Kernel7Ideal.τ).loc Cert.Kernel7Ideal.main_v7_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v1_0) = v4 c
          ∧ r.2.mem ((c.tc : Thread Cert.Kernel7Ideal.nD Cert.Kernel7Ideal.τ).loc Cert.Kernel7Ideal.main_v1_1) = v5 c
          ∧ r.2.mem ((c.tc : Thread Cert.Kernel7Ideal.nD Cert.Kernel7Ideal.τ).loc Cert.Kernel7Ideal.main_v1_2) = v6 c
          ∧ r.2.mem ((c.tc : Thread Cert.Kernel7Ideal.nD Cert.Kernel7Ideal.τ).loc Cert.Kernel7Ideal.main_v1_3) = v7 c
          ∧ r.2.mem ((c.tc : Thread Cert.Kernel7Ideal.nD Cert.Kernel7Ideal.τ).loc Cert.Kernel7Ideal.main_v2_0) = v8 c
          ∧ r.2.mem ((c.tc : Thread Cert.Kernel7Ideal.nD Cert.Kernel7Ideal.τ).loc Cert.Kernel7Ideal.main_v2_1) = v9 c
          ∧ r.2.mem ((c.tc : Thread Cert.Kernel7Ideal.nD Cert.Kernel7Ideal.τ).loc Cert.Kernel7Ideal.main_v2_2) = v10 c
          ∧ r.2.mem ((c.tc : Thread Cert.Kernel7Ideal.nD Cert.Kernel7Ideal.τ).loc Cert.Kernel7Ideal.main_v2_3) = v11 c
          ∧ r.2.mem ((c.tc : Thread Cert.Kernel7Ideal.nD Cert.Kernel7Ideal.τ).loc Cert.Kernel7Ideal.main_v3_0) = v12 c
          ∧ r.2.mem ((c.tc : Thread Cert.Kernel7Ideal.nD Cert.Kernel7Ideal.τ).loc Cert.Kernel7Ideal.main_v3_1) = v13 c
          ∧ r.2.mem ((c.tc : Thread Cert.Kernel7Ideal.nD Cert.Kernel7Ideal.τ).loc Cert.Kernel7Ideal.main_v3_2) = v14 c
          ∧ r.2.mem ((c.tc : Thread Cert.Kernel7Ideal.nD Cert.Kernel7Ideal.τ).loc Cert.Kernel7Ideal.main_v3_3) = v15 c
          ∧ r.2.mem ((c.tc : Thread Cert.Kernel7Ideal.nD Cert.Kernel7Ideal.τ).loc Cert.Kernel7Ideal.main_v4_0) = v16 c
          ∧ r.2.mem ((c.tc : Thread Cert.Kernel7Ideal.nD Cert.Kernel7Ideal.τ).loc Cert.Kernel7Ideal.main_v4_1) = v17 c
          ∧ r.2.mem ((c.tc : Thread Cert.Kernel7Ideal.nD Cert.Kernel7Ideal.τ).loc Cert.Kernel7Ideal.main_v4_2) = v18 c
          ∧ r.2.mem ((c.tc : Thread Cert.Kernel7Ideal.nD Cert.Kernel7Ideal.τ).loc Cert.Kernel7Ideal.main_v4_3) = v19 c
          ∧ r.2.mem ((c.tc : Thread Cert.Kernel7Ideal.nD Cert.Kernel7Ideal.τ).loc Cert.Kernel7Ideal.main_v5_0) = v20 c
          ∧ r.2.mem ((c.tc : Thread Cert.Kernel7Ideal.nD Cert.Kernel7Ideal.τ).loc Cert.Kernel7Ideal.main_v5_1) = v21 c
          ∧ r.2.mem ((c.tc : Thread Cert.Kernel7Ideal.nD Cert.Kernel7Ideal.τ).loc Cert.Kernel7Ideal.main_v5_2) = v22 c
          ∧ r.2.mem ((c.tc : Thread Cert.Kernel7Ideal.nD Cert.Kernel7Ideal.τ).loc Cert.Kernel7Ideal.main_v5_3) = v23 c
          ∧ r.2.mem ((c.tc : Thread Cert.Kernel7Ideal.nD Cert.Kernel7Ideal.τ).loc Cert.Kernel7Ideal.main_v6_0) = v24 c
          ∧ r.2.mem ((c.tc : Thread Cert.Kernel7Ideal.nD Cert.Kernel7Ideal.τ).loc Cert.Kernel7Ideal.main_v6_1) = v25 c
          ∧ r.2.mem ((c.tc : Thread Cert.Kernel7Ideal.nD Cert.Kernel7Ideal.τ).loc Cert.Kernel7Ideal.main_v6_2) = v26 c
          ∧ r.2.mem ((c.tc : Thread Cert.Kernel7Ideal.nD Cert.Kernel7Ideal.τ).loc Cert.Kernel7Ideal.main_v6_3) = v27 c
          ∧ r.2.mem ((c.tc : Thread Cert.Kernel7Ideal.nD Cert.Kernel7Ideal.τ).loc Cert.Kernel7Ideal.main_v7_0) = v28 c
          ∧ r.2.mem ((c.tc : Thread Cert.Kernel7Ideal.nD Cert.Kernel7Ideal.τ).loc Cert.Kernel7Ideal.main_v7_1) = v29 c
          ∧ r.2.mem ((c.tc : Thread Cert.Kernel7Ideal.nD Cert.Kernel7Ideal.τ).loc Cert.Kernel7Ideal.main_v7_2) = v30 c
          ∧ r.2.mem ((c.tc : Thread Cert.Kernel7Ideal.nD Cert.Kernel7Ideal.τ).loc Cert.Kernel7Ideal.main_v7_3) = v31 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
          ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
          ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
          ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
          ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
          ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
          ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
          ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
          ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
          ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
          ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
          ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
          ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
          ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
          ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
          ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
          ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35)
          ∧ r.2.mem ((c.tc : Thread Cert.Kernel7Ideal.nD Cert.Kernel7Ideal.τ).loc Cert.Kernel7Ideal.main_arg36) = m ((c.tc : Thread Cert.Kernel7Ideal.nD Cert.Kernel7Ideal.τ).loc Cert.Kernel7Ideal.main_arg36)
          ∧ r.2.mem ((c.tc : Thread Cert.Kernel7Ideal.nD Cert.Kernel7Ideal.τ).loc Cert.Kernel7Ideal.main_arg37) = m ((c.tc : Thread Cert.Kernel7Ideal.nD Cert.Kernel7Ideal.τ).loc Cert.Kernel7Ideal.main_arg37)
          ∧ r.2.mem ((c.tc : Thread Cert.Kernel7Ideal.nD Cert.Kernel7Ideal.τ).loc Cert.Kernel7Ideal.main_arg38) = m ((c.tc : Thread Cert.Kernel7Ideal.nD Cert.Kernel7Ideal.τ).loc Cert.Kernel7Ideal.main_arg38))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_v19) = v2 c
          ∧ r.2.mem ((c.tc : Thread Cert.Reference7Ideal.nD Cert.Reference7Ideal.τ).loc Cert.Reference7Ideal.main_v25) = v3 c
          ∧ r.2.mem ((c.tc : Thread Cert.Reference7Ideal.nD Cert.Reference7Ideal.τ).loc Cert.Reference7Ideal.main_v3) = v4 c
          ∧ r.2.mem ((c.tc : Thread Cert.Reference7Ideal.nD Cert.Reference7Ideal.τ).loc Cert.Reference7Ideal.main_v62) = v5 c
          ∧ r.2.mem ((c.tc : Thread Cert.Reference7Ideal.nD Cert.Reference7Ideal.τ).loc Cert.Reference7Ideal.main_v43) = v6 c
          ∧ r.2.mem ((c.tc : Thread Cert.Reference7Ideal.nD Cert.Reference7Ideal.τ).loc Cert.Reference7Ideal.main_v49) = v7 c
          ∧ r.2.mem ((c.tc : Thread Cert.Reference7Ideal.nD Cert.Reference7Ideal.τ).loc Cert.Reference7Ideal.main_v5) = v8 c
          ∧ r.2.mem ((c.tc : Thread Cert.Reference7Ideal.nD Cert.Reference7Ideal.τ).loc Cert.Reference7Ideal.main_v86) = v9 c
          ∧ r.2.mem ((c.tc : Thread Cert.Reference7Ideal.nD Cert.Reference7Ideal.τ).loc Cert.Reference7Ideal.main_v67) = v10 c
          ∧ r.2.mem ((c.tc : Thread Cert.Reference7Ideal.nD Cert.Reference7Ideal.τ).loc Cert.Reference7Ideal.main_v73) = v11 c
          ∧ r.2.mem ((c.tc : Thread Cert.Reference7Ideal.nD Cert.Reference7Ideal.τ).loc Cert.Reference7Ideal.main_v7) = v12 c
          ∧ r.2.mem ((c.tc : Thread Cert.Reference7Ideal.nD Cert.Reference7Ideal.τ).loc Cert.Reference7Ideal.main_v110) = v13 c
          ∧ r.2.mem ((c.tc : Thread Cert.Reference7Ideal.nD Cert.Reference7Ideal.τ).loc Cert.Reference7Ideal.main_v91) = v14 c
          ∧ r.2.mem ((c.tc : Thread Cert.Reference7Ideal.nD Cert.Reference7Ideal.τ).loc Cert.Reference7Ideal.main_v97) = v15 c
          ∧ r.2.mem ((c.tc : Thread Cert.Reference7Ideal.nD Cert.Reference7Ideal.τ).loc Cert.Reference7Ideal.main_v9) = v16 c
          ∧ r.2.mem ((c.tc : Thread Cert.Reference7Ideal.nD Cert.Reference7Ideal.τ).loc Cert.Reference7Ideal.main_v134) = v17 c
          ∧ r.2.mem ((c.tc : Thread Cert.Reference7Ideal.nD Cert.Reference7Ideal.τ).loc Cert.Reference7Ideal.main_v115) = v18 c
          ∧ r.2.mem ((c.tc : Thread Cert.Reference7Ideal.nD Cert.Reference7Ideal.τ).loc Cert.Reference7Ideal.main_v121) = v19 c
          ∧ r.2.mem ((c.tc : Thread Cert.Reference7Ideal.nD Cert.Reference7Ideal.τ).loc Cert.Reference7Ideal.main_v11) = v20 c
          ∧ r.2.mem ((c.tc : Thread Cert.Reference7Ideal.nD Cert.Reference7Ideal.τ).loc Cert.Reference7Ideal.main_v158) = v21 c
          ∧ r.2.mem ((c.tc : Thread Cert.Reference7Ideal.nD Cert.Reference7Ideal.τ).loc Cert.Reference7Ideal.main_v139) = v22 c
          ∧ r.2.mem ((c.tc : Thread Cert.Reference7Ideal.nD Cert.Reference7Ideal.τ).loc Cert.Reference7Ideal.main_v145) = v23 c
          ∧ r.2.mem ((c.tc : Thread Cert.Reference7Ideal.nD Cert.Reference7Ideal.τ).loc Cert.Reference7Ideal.main_v13) = v24 c
          ∧ r.2.mem ((c.tc : Thread Cert.Reference7Ideal.nD Cert.Reference7Ideal.τ).loc Cert.Reference7Ideal.main_v182) = v25 c
          ∧ r.2.mem ((c.tc : Thread Cert.Reference7Ideal.nD Cert.Reference7Ideal.τ).loc Cert.Reference7Ideal.main_v163) = v26 c
          ∧ r.2.mem ((c.tc : Thread Cert.Reference7Ideal.nD Cert.Reference7Ideal.τ).loc Cert.Reference7Ideal.main_v169) = v27 c
          ∧ r.2.mem ((c.tc : Thread Cert.Reference7Ideal.nD Cert.Reference7Ideal.τ).loc Cert.Reference7Ideal.main_v14) = v28 c
          ∧ r.2.mem ((c.tc : Thread Cert.Reference7Ideal.nD Cert.Reference7Ideal.τ).loc Cert.Reference7Ideal.main_v206) = v29 c
          ∧ r.2.mem ((c.tc : Thread Cert.Reference7Ideal.nD Cert.Reference7Ideal.τ).loc Cert.Reference7Ideal.main_v187) = v30 c
          ∧ r.2.mem ((c.tc : Thread Cert.Reference7Ideal.nD Cert.Reference7Ideal.τ).loc Cert.Reference7Ideal.main_v193) = v31 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19)
          ∧ r.2.mem ((c.tc : Thread Cert.Reference7Ideal.nD Cert.Reference7Ideal.τ).loc Cert.Reference7Ideal.main_arg20) = m' ((c.tc : Thread Cert.Reference7Ideal.nD Cert.Reference7Ideal.τ).loc Cert.Reference7Ideal.main_arg20)
          ∧ r.2.mem ((c.tc : Thread Cert.Reference7Ideal.nD Cert.Reference7Ideal.τ).loc Cert.Reference7Ideal.main_arg21) = m' ((c.tc : Thread Cert.Reference7Ideal.nD Cert.Reference7Ideal.τ).loc Cert.Reference7Ideal.main_arg21)
          ∧ r.2.mem ((c.tc : Thread Cert.Reference7Ideal.nD Cert.Reference7Ideal.τ).loc Cert.Reference7Ideal.main_arg22) = m' ((c.tc : Thread Cert.Reference7Ideal.nD Cert.Reference7Ideal.τ).loc Cert.Reference7Ideal.main_arg22)
          ∧ r.2.mem ((c.tc : Thread Cert.Reference7Ideal.nD Cert.Reference7Ideal.τ).loc Cert.Reference7Ideal.main_arg23) = m' ((c.tc : Thread Cert.Reference7Ideal.nD Cert.Reference7Ideal.τ).loc Cert.Reference7Ideal.main_arg23)
          ∧ r.2.mem ((c.tc : Thread Cert.Reference7Ideal.nD Cert.Reference7Ideal.τ).loc Cert.Reference7Ideal.main_arg24) = m' ((c.tc : Thread Cert.Reference7Ideal.nD Cert.Reference7Ideal.τ).loc Cert.Reference7Ideal.main_arg24)
          ∧ r.2.mem ((c.tc : Thread Cert.Reference7Ideal.nD Cert.Reference7Ideal.τ).loc Cert.Reference7Ideal.main_arg25) = m' ((c.tc : Thread Cert.Reference7Ideal.nD Cert.Reference7Ideal.τ).loc Cert.Reference7Ideal.main_arg25)
          ∧ r.2.mem ((c.tc : Thread Cert.Reference7Ideal.nD Cert.Reference7Ideal.τ).loc Cert.Reference7Ideal.main_arg26) = m' ((c.tc : Thread Cert.Reference7Ideal.nD Cert.Reference7Ideal.τ).loc Cert.Reference7Ideal.main_arg26)
          ∧ r.2.mem ((c.tc : Thread Cert.Reference7Ideal.nD Cert.Reference7Ideal.τ).loc Cert.Reference7Ideal.main_arg27) = m' ((c.tc : Thread Cert.Reference7Ideal.nD Cert.Reference7Ideal.τ).loc Cert.Reference7Ideal.main_arg27)
          ∧ r.2.mem ((c.tc : Thread Cert.Reference7Ideal.nD Cert.Reference7Ideal.τ).loc Cert.Reference7Ideal.main_arg28) = m' ((c.tc : Thread Cert.Reference7Ideal.nD Cert.Reference7Ideal.τ).loc Cert.Reference7Ideal.main_arg28)
          ∧ r.2.mem ((c.tc : Thread Cert.Reference7Ideal.nD Cert.Reference7Ideal.τ).loc Cert.Reference7Ideal.main_arg29) = m' ((c.tc : Thread Cert.Reference7Ideal.nD Cert.Reference7Ideal.τ).loc Cert.Reference7Ideal.main_arg29)
          ∧ r.2.mem ((c.tc : Thread Cert.Reference7Ideal.nD Cert.Reference7Ideal.τ).loc Cert.Reference7Ideal.main_arg30) = m' ((c.tc : Thread Cert.Reference7Ideal.nD Cert.Reference7Ideal.τ).loc Cert.Reference7Ideal.main_arg30)
          ∧ r.2.mem ((c.tc : Thread Cert.Reference7Ideal.nD Cert.Reference7Ideal.τ).loc Cert.Reference7Ideal.main_arg31) = m' ((c.tc : Thread Cert.Reference7Ideal.nD Cert.Reference7Ideal.τ).loc Cert.Reference7Ideal.main_arg31)
          ∧ r.2.mem ((c.tc : Thread Cert.Reference7Ideal.nD Cert.Reference7Ideal.τ).loc Cert.Reference7Ideal.main_arg32) = m' ((c.tc : Thread Cert.Reference7Ideal.nD Cert.Reference7Ideal.τ).loc Cert.Reference7Ideal.main_arg32)
          ∧ r.2.mem ((c.tc : Thread Cert.Reference7Ideal.nD Cert.Reference7Ideal.τ).loc Cert.Reference7Ideal.main_arg33) = m' ((c.tc : Thread Cert.Reference7Ideal.nD Cert.Reference7Ideal.τ).loc Cert.Reference7Ideal.main_arg33)
          ∧ r.2.mem ((c.tc : Thread Cert.Reference7Ideal.nD Cert.Reference7Ideal.τ).loc Cert.Reference7Ideal.main_arg34) = m' ((c.tc : Thread Cert.Reference7Ideal.nD Cert.Reference7Ideal.τ).loc Cert.Reference7Ideal.main_arg34)
          ∧ r.2.mem ((c.tc : Thread Cert.Reference7Ideal.nD Cert.Reference7Ideal.τ).loc Cert.Reference7Ideal.main_arg35) = m' ((c.tc : Thread Cert.Reference7Ideal.nD Cert.Reference7Ideal.τ).loc Cert.Reference7Ideal.main_arg35)
          ∧ r.2.mem ((c.tc : Thread Cert.Reference7Ideal.nD Cert.Reference7Ideal.τ).loc Cert.Reference7Ideal.main_arg36) = m' ((c.tc : Thread Cert.Reference7Ideal.nD Cert.Reference7Ideal.τ).loc Cert.Reference7Ideal.main_arg36)
          ∧ r.2.mem ((c.tc : Thread Cert.Reference7Ideal.nD Cert.Reference7Ideal.τ).loc Cert.Reference7Ideal.main_arg37) = m' ((c.tc : Thread Cert.Reference7Ideal.nD Cert.Reference7Ideal.τ).loc Cert.Reference7Ideal.main_arg37)
          ∧ r.2.mem ((c.tc : Thread Cert.Reference7Ideal.nD Cert.Reference7Ideal.τ).loc Cert.Reference7Ideal.main_arg38) = m' ((c.tc : Thread Cert.Reference7Ideal.nD Cert.Reference7Ideal.τ).loc Cert.Reference7Ideal.main_arg38))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v48) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_v49) = v2 c
          ∧ r.2.mem ((c.tc : Thread Cert.Reference8Ideal.nD Cert.Reference8Ideal.τ).loc Cert.Reference8Ideal.main_v50) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)) (v1 : (c : Dev Cert.Kernel9Ideal.nD) → Buf (Elt Ideal) ((c.tc : Thread Cert.Kernel9Ideal.nD Cert.Kernel9Ideal.τ).loc Cert.Kernel9Ideal.main_v1_0)) (v2 : (c : Dev Cert.Kernel9Ideal.nD) → Buf (Elt Ideal) ((c.tc : Thread Cert.Kernel9Ideal.nD Cert.Kernel9Ideal.τ).loc Cert.Kernel9Ideal.main_v1_1)) (v3 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_v1_0) = v1 c
          ∧ r.2.mem ((c.tc : Thread Cert.Kernel9Ideal.nD Cert.Kernel9Ideal.τ).loc Cert.Kernel9Ideal.main_v1_1) = v2 c
          ∧ r.2.mem ((c.tc : Thread Cert.Kernel9Ideal.nD Cert.Kernel9Ideal.τ).loc Cert.Kernel9Ideal.main_v1_2) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v35) = v0 c
          ∧ r.2.mem ((c.tc : Thread Cert.Reference9Ideal.nD Cert.Reference9Ideal.τ).loc Cert.Reference9Ideal.main_v34) = v1 c
          ∧ r.2.mem ((c.tc : Thread Cert.Reference9Ideal.nD Cert.Reference9Ideal.τ).loc Cert.Reference9Ideal.main_v17) = v2 c
          ∧ r.2.mem ((c.tc : Thread Cert.Reference9Ideal.nD Cert.Reference9Ideal.τ).loc Cert.Reference9Ideal.main_v36) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0)) (v1 : (c : Dev Cert.Kernel10Ideal.nD) → Buf (Elt Ideal) ((c.tc : Thread Cert.Kernel10Ideal.nD Cert.Kernel10Ideal.τ).loc Cert.Kernel10Ideal.main_v1)) (v2 : (c : Dev Cert.Kernel10Ideal.nD) → Buf (Elt Ideal) ((c.tc : Thread Cert.Kernel10Ideal.nD Cert.Kernel10Ideal.τ).loc Cert.Kernel10Ideal.main_v2_0)) (v3 : (c : Dev Cert.Kernel10Ideal.nD) → Buf (Elt Ideal) ((c.tc : Thread Cert.Kernel10Ideal.nD Cert.Kernel10Ideal.τ).loc Cert.Kernel10Ideal.main_v2_1)) (v4 : (c : Dev Cert.Kernel10Ideal.nD) → Buf (Elt Ideal) ((c.tc : Thread Cert.Kernel10Ideal.nD Cert.Kernel10Ideal.τ).loc Cert.Kernel10Ideal.main_v3_0)) (v5 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_v1) = v1 c
          ∧ r.2.mem ((c.tc : Thread Cert.Kernel10Ideal.nD Cert.Kernel10Ideal.τ).loc Cert.Kernel10Ideal.main_v2_0) = v2 c
          ∧ r.2.mem ((c.tc : Thread Cert.Kernel10Ideal.nD Cert.Kernel10Ideal.τ).loc Cert.Kernel10Ideal.main_v2_1) = v3 c
          ∧ r.2.mem ((c.tc : Thread Cert.Kernel10Ideal.nD Cert.Kernel10Ideal.τ).loc Cert.Kernel10Ideal.main_v3_0) = v4 c
          ∧ r.2.mem ((c.tc : Thread Cert.Kernel10Ideal.nD Cert.Kernel10Ideal.τ).loc Cert.Kernel10Ideal.main_v3_1) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v70) = v0 c
          ∧ r.2.mem ((c.tc : Thread Cert.Reference10Ideal.nD Cert.Reference10Ideal.τ).loc Cert.Reference10Ideal.main_v71) = v1 c
          ∧ r.2.mem ((c.tc : Thread Cert.Reference10Ideal.nD Cert.Reference10Ideal.τ).loc Cert.Reference10Ideal.main_v72) = v2 c
          ∧ r.2.mem ((c.tc : Thread Cert.Reference10Ideal.nD Cert.Reference10Ideal.τ).loc Cert.Reference10Ideal.main_v18) = v3 c
          ∧ r.2.mem ((c.tc : Thread Cert.Reference10Ideal.nD Cert.Reference10Ideal.τ).loc Cert.Reference10Ideal.main_v73) = v4 c
          ∧ r.2.mem ((c.tc : Thread Cert.Reference10Ideal.nD Cert.Reference10Ideal.τ).loc Cert.Reference10Ideal.main_v53) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v0)) (v1 : (c : Dev Cert.Kernel11Ideal.nD) → Buf (Elt Ideal) ((c.tc : Thread Cert.Kernel11Ideal.nD Cert.Kernel11Ideal.τ).loc Cert.Kernel11Ideal.main_v1)) (v2 : (c : Dev Cert.Kernel11Ideal.nD) → Buf (Elt Ideal) ((c.tc : Thread Cert.Kernel11Ideal.nD Cert.Kernel11Ideal.τ).loc Cert.Kernel11Ideal.main_v2)) (v3 : (c : Dev Cert.Kernel11Ideal.nD) → Buf (Elt Ideal) ((c.tc : Thread Cert.Kernel11Ideal.nD Cert.Kernel11Ideal.τ).loc Cert.Kernel11Ideal.main_v3_0)) (v4 : (c : Dev Cert.Kernel11Ideal.nD) → Buf (Elt Ideal) ((c.tc : Thread Cert.Kernel11Ideal.nD Cert.Kernel11Ideal.τ).loc Cert.Kernel11Ideal.main_v3_1)) (v5 : (c : Dev Cert.Kernel11Ideal.nD) → Buf (Elt Ideal) ((c.tc : Thread Cert.Kernel11Ideal.nD Cert.Kernel11Ideal.τ).loc Cert.Kernel11Ideal.main_v4_0)) (v6 : (c : Dev Cert.Kernel11Ideal.nD) → Buf (Elt Ideal) ((c.tc : Thread Cert.Kernel11Ideal.nD Cert.Kernel11Ideal.τ).loc Cert.Kernel11Ideal.main_v4_1)) (v7 : (c : Dev Cert.Kernel11Ideal.nD) → Buf (Elt Ideal) ((c.tc : Thread Cert.Kernel11Ideal.nD Cert.Kernel11Ideal.τ).loc Cert.Kernel11Ideal.main_v5_0)) (v8 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_v1) = v1 c
          ∧ r.2.mem ((c.tc : Thread Cert.Kernel11Ideal.nD Cert.Kernel11Ideal.τ).loc Cert.Kernel11Ideal.main_v2) = v2 c
          ∧ r.2.mem ((c.tc : Thread Cert.Kernel11Ideal.nD Cert.Kernel11Ideal.τ).loc Cert.Kernel11Ideal.main_v3_0) = v3 c
          ∧ r.2.mem ((c.tc : Thread Cert.Kernel11Ideal.nD Cert.Kernel11Ideal.τ).loc Cert.Kernel11Ideal.main_v3_1) = v4 c
          ∧ r.2.mem ((c.tc : Thread Cert.Kernel11Ideal.nD Cert.Kernel11Ideal.τ).loc Cert.Kernel11Ideal.main_v4_0) = v5 c
          ∧ r.2.mem ((c.tc : Thread Cert.Kernel11Ideal.nD Cert.Kernel11Ideal.τ).loc Cert.Kernel11Ideal.main_v4_1) = v6 c
          ∧ r.2.mem ((c.tc : Thread Cert.Kernel11Ideal.nD Cert.Kernel11Ideal.τ).loc Cert.Kernel11Ideal.main_v5_0) = v7 c
          ∧ r.2.mem ((c.tc : Thread Cert.Kernel11Ideal.nD Cert.Kernel11Ideal.τ).loc Cert.Kernel11Ideal.main_v5_1) = v8 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v102) = v0 c
          ∧ r.2.mem ((c.tc : Thread Cert.Reference11Ideal.nD Cert.Reference11Ideal.τ).loc Cert.Reference11Ideal.main_v103) = v1 c
          ∧ r.2.mem ((c.tc : Thread Cert.Reference11Ideal.nD Cert.Reference11Ideal.τ).loc Cert.Reference11Ideal.main_v104) = v2 c
          ∧ r.2.mem ((c.tc : Thread Cert.Reference11Ideal.nD Cert.Reference11Ideal.τ).loc Cert.Reference11Ideal.main_v33) = v3 c
          ∧ r.2.mem ((c.tc : Thread Cert.Reference11Ideal.nD Cert.Reference11Ideal.τ).loc Cert.Reference11Ideal.main_v17) = v4 c
          ∧ r.2.mem ((c.tc : Thread Cert.Reference11Ideal.nD Cert.Reference11Ideal.τ).loc Cert.Reference11Ideal.main_v67) = v5 c
          ∧ r.2.mem ((c.tc : Thread Cert.Reference11Ideal.nD Cert.Reference11Ideal.τ).loc Cert.Reference11Ideal.main_v51) = v6 c
          ∧ r.2.mem ((c.tc : Thread Cert.Reference11Ideal.nD Cert.Reference11Ideal.τ).loc Cert.Reference11Ideal.main_v101) = v7 c
          ∧ r.2.mem ((c.tc : Thread Cert.Reference11Ideal.nD Cert.Reference11Ideal.τ).loc Cert.Reference11Ideal.main_v85) = v8 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0)) (v1 : (c : Dev Cert.Kernel12Ideal.nD) → Buf (Elt Ideal) ((c.tc : Thread Cert.Kernel12Ideal.nD Cert.Kernel12Ideal.τ).loc Cert.Kernel12Ideal.main_v1)) (v2 : (c : Dev Cert.Kernel12Ideal.nD) → Buf (Elt Ideal) ((c.tc : Thread Cert.Kernel12Ideal.nD Cert.Kernel12Ideal.τ).loc Cert.Kernel12Ideal.main_v2_0)) (v3 : (c : Dev Cert.Kernel12Ideal.nD) → Buf (Elt Ideal) ((c.tc : Thread Cert.Kernel12Ideal.nD Cert.Kernel12Ideal.τ).loc Cert.Kernel12Ideal.main_v2_1)) (v4 : (c : Dev Cert.Kernel12Ideal.nD) → Buf (Elt Ideal) ((c.tc : Thread Cert.Kernel12Ideal.nD Cert.Kernel12Ideal.τ).loc Cert.Kernel12Ideal.main_v3_0)) (v5 : (c : Dev Cert.Kernel12Ideal.nD) → Buf (Elt Ideal) ((c.tc : Thread Cert.Kernel12Ideal.nD Cert.Kernel12Ideal.τ).loc Cert.Kernel12Ideal.main_v3_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_v1) = v1 c
          ∧ r.2.mem ((c.tc : Thread Cert.Kernel12Ideal.nD Cert.Kernel12Ideal.τ).loc Cert.Kernel12Ideal.main_v2_0) = v2 c
          ∧ r.2.mem ((c.tc : Thread Cert.Kernel12Ideal.nD Cert.Kernel12Ideal.τ).loc Cert.Kernel12Ideal.main_v2_1) = v3 c
          ∧ r.2.mem ((c.tc : Thread Cert.Kernel12Ideal.nD Cert.Kernel12Ideal.τ).loc Cert.Kernel12Ideal.main_v3_0) = v4 c
          ∧ r.2.mem ((c.tc : Thread Cert.Kernel12Ideal.nD Cert.Kernel12Ideal.τ).loc Cert.Kernel12Ideal.main_v3_1) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v74) = v0 c
          ∧ r.2.mem ((c.tc : Thread Cert.Reference12Ideal.nD Cert.Reference12Ideal.τ).loc Cert.Reference12Ideal.main_v75) = v1 c
          ∧ r.2.mem ((c.tc : Thread Cert.Reference12Ideal.nD Cert.Reference12Ideal.τ).loc Cert.Reference12Ideal.main_v77) = v2 c
          ∧ r.2.mem ((c.tc : Thread Cert.Reference12Ideal.nD Cert.Reference12Ideal.τ).loc Cert.Reference12Ideal.main_v20) = v3 c
          ∧ r.2.mem ((c.tc : Thread Cert.Reference12Ideal.nD Cert.Reference12Ideal.τ).loc Cert.Reference12Ideal.main_v79) = v4 c
          ∧ r.2.mem ((c.tc : Thread Cert.Reference12Ideal.nD Cert.Reference12Ideal.τ).loc Cert.Reference12Ideal.main_v57) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4096x768 : Shape := ⟨2, ![4096, 768]⟩
abbrev S4096x256 : Shape := ⟨2, ![4096, 256]⟩
abbrev S_ : Shape := ⟨0, ![]⟩

class Facts : Prop where
  bitsLt_bf16_f32 : FTy.bits .bf16 < FTy.bits .f32
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v16 : IVec S_ 1) (main_v17 : FVec F S4096x768 .f32) : IVec S_ 1 :=
  let main_cst_4 : FVec F S_ .f32 := constant S_ .f32 0x7F800000#32
  let main_v18 : FVec F S4096x768 .f32 := broadcastInDim S4096x768 ![] bcast_S_S4096x768 main_cst_4
  let main_v19 : IVec S4096x768 1 := cmpf .olt main_v17 main_v18
  let main_c_5 : IVec S_ 1 := constantI S_ 1 1#1
  let main_v20 : IVec S_ 1 := (fun x v => Host.reduce IntOp.andi x v reducesTo_S4096x768_S_d0_1 h_S_) main_v19 main_c_5
  let main_v21 : IVec S_ 1 := andi main_v16 main_v20
  main_v21

def fn {F : FTy → Type} [FloatOps F] (main_arg0 : FVec F S4096x768 .bf16) (main_arg1 : FVec F S4096x256 .bf16) (main_arg2 : FVec F S4096x256 .bf16) (main_arg3 : FVec F S4096x768 .f32) : IVec S_ 1 :=
  let main_v0 : FVec F S4096x768 .f32 := (extf .f32 · bitsLt_bf16_f32) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_c : IVec S_ 1 := constantI S_ 1 1#1
  let main_v4 : IVec S_ 1 := (fun x v => Host.reduce IntOp.andi x v reducesTo_S4096x768_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S4096x256 .f32 := (extf .f32 · bitsLt_bf16_f32) main_arg2
  let main_v12 : FVec F S4096x256 .f32 := Host.absf main_v11
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_c_3 : IVec S_ 1 := constantI S_ 1 1#1
  let main_v15 : IVec S_ 1 := (fun x v => Host.reduce IntOp.andi x v reducesTo_S4096x256_S_d0_1 h_S_) main_v14 main_c_3
  let main_v16 : IVec S_ 1 := andi main_v10 main_v15
  let main_v17 : FVec F S4096x768 .f32 := Host.absf main_arg3
  fn_part1 (F := F) main_v16 main_v17
-- ==== Pre_finite2.lean ====
abbrev S4096x2048 : Shape := ⟨2, ![4096, 2048]⟩
abbrev S4x2048x1408 : Shape := ⟨3, ![4, 2048, 1408]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bitsLt_bf16_f32 : FTy.bits .bf16 < FTy.bits .f32
  bcast_S_S4x2048x1408 : S_.BroadcastsInDim S4x2048x1408 (![] : Fin 0 → Fin S4x2048x1408.rank)
  reducesTo_S4x2048x1408_S_d0_1_2 : S4x2048x1408.ReducesTo [0, 1, 2] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S5632x2048 .bf16) (main_arg5 : FVec F S4096x2048 .bf16) (main_v15 : IVec S_ 1) (main_v17 : FVec F S4x2048x1408 .f32) : IVec S_ 1 :=
  let main_cst_4 : FVec F S_ .f32 := constant S_ .f32 0x7F800000#32
  let main_v18 : FVec F S4x2048x1408 .f32 := broadcastInDim S4x2048x1408 ![] bcast_S_S4x2048x1408 main_cst_4
  let main_v19 : IVec S4x2048x1408 1 := cmpf .olt main_v17 main_v18
  let main_c_5 : IVec S_ 1 := constantI S_ 1 1#1
  let main_v20 : IVec S_ 1 := (fun x v => Host.reduce IntOp.andi x v reducesTo_S4x2048x1408_S_d0_1_2 h_S_) main_v19 main_c_5
  let main_v21 : IVec S_ 1 := andi main_v15 main_v20
  let main_v22 : FVec F S5632x2048 .f32 := (extf .f32 · bitsLt_bf16_f32) main_arg4
  let main_v23 : FVec F S5632x2048 .f32 := Host.absf main_v22
  let main_cst_6 : FVec F S_ .f32 := constant S_ .f32 0x7F800000#32
  let main_v24 : FVec F S5632x2048 .f32 := broadcastInDim S5632x2048 ![] bcast_S_S5632x2048 main_cst_6
  let main_v25 : IVec S5632x2048 1 := cmpf .olt main_v23 main_v24
  let main_c_7 : IVec S_ 1 := constantI S_ 1 1#1
  let main_v26 : IVec S_ 1 := (fun x v => Host.reduce IntOp.andi x v reducesTo_S5632x2048_S_d0_1 h_S_) main_v25 main_c_7
  let main_v27 : IVec S_ 1 := andi main_v21 main_v26
  let main_v28 : FVec F S4096x2048 .f32 := (extf .f32 · bitsLt_bf16_f32) main_arg5
  let main_v29 : FVec F S4096x2048 .f32 := Host.absf main_v28
  let main_cst_8 : FVec F S_ .f32 := constant S_ .f32 0x7F800000#32
  let main_v30 : FVec F S4096x2048 .f32 := broadcastInDim S4096x2048 ![] bcast_S_S4096x2048 main_cst_8
  let main_v31 : IVec S4096x2048 1 := cmpf .olt main_v29 main_v30
  let main_c_9 : IVec S_ 1 := constantI S_ 1 1#1
  let main_v32 : IVec S_ 1 := (fun x v => Host.reduce IntOp.andi x v reducesTo_S4096x2048_S_d0_1 h_S_) main_v31 main_c_9
  let main_v33 : IVec S_ 1 := andi main_v27 main_v32
  main_v33

def fn {F : FTy → Type} [FloatOps F] (main_arg0 : FVec F S4096x2048 .f32) (main_arg1 : FVec F S4096x2048 .bf16) (main_arg2 : FVec F S4x2048x1408 .bf16) (main_arg3 : FVec F S4x2048x1408 .bf16) (main_arg4 : FVec F S5632x2048 .bf16) (main_arg5 : FVec F S4096x2048 .bf16) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_c_1 : IVec S_ 1 := constantI S_ 1 1#1
  let main_v8 : IVec S_ 1 := (fun x v => Host.reduce IntOp.andi x v reducesTo_S4096x2048_S_d0_1 h_S_) main_v7 main_c_1
  let main_v9 : IVec S_ 1 := andi main_v3 main_v8
  let main_v10 : FVec F S4x2048x1408 .f32 := (extf .f32 · bitsLt_bf16_f32) main_arg2
  let main_v11 : FVec F S4x2048x1408 .f32 := Host.absf main_v10
  let main_cst_2 : FVec F S_ .f32 := constant S_ .f32 0x7F800000#32
  let main_v12 : FVec F S4x2048x1408 .f32 := broadcastInDim S4x2048x1408 ![] bcast_S_S4x2048x1408 main_cst_2
  let main_v13 : IVec S4x2048x1408 1 := cmpf .olt main_v11 main_v12
  let main_c_3 : IVec S_ 1 := constantI S_ 1 1#1
  let main_v14 : IVec S_ 1 := (fun x v => Host.reduce IntOp.andi x v reducesTo_S4x2048x1408_S_d0_1_2 h_S_) main_v13 main_c_3
  let main_v15 : IVec S_ 1 := andi main_v9 main_v14
  let main_v16 : FVec F S4x2048x1408 .f32 := (extf .f32 · bitsLt_bf16_f32) main_arg3
  let main_v17 : FVec F S4x2048x1408 .f32 := Host.absf main_v16
  fn_part1 (F := F) main_arg4 main_arg5 main_v15 main_v17
-- ==== Pre_finite5.lean ====
abbrev S4096x1024 : Shape := ⟨2, ![4096, 1024]⟩
abbrev S4096x512 : Shape := ⟨2, ![4096, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v16 : IVec S_ 1) (main_v17 : FVec F S4096x512 .f32) : IVec S_ 1 :=
  let main_cst_4 : FVec F S_ .f32 := constant S_ .f32 0x7F800000#32
  let main_v18 : FVec F S4096x512 .f32 := broadcastInDim S4096x512 ![] bcast_S_S4096x512 main_cst_4
  let main_v19 : IVec S4096x512 1 := cmpf .olt main_v17 main_v18
  let main_c_5 : IVec S_ 1 := constantI S_ 1 1#1
  let main_v20 : IVec S_ 1 := (fun x v => Host.reduce IntOp.andi x v reducesTo_S4096x512_S_d0_1 h_S_) main_v19 main_c_5
  let main_v21 : IVec S_ 1 := andi main_v16 main_v20
  main_v21

def fn {F : FTy → Type} [FloatOps F] (main_arg0 : FVec F S4096x1024 .bf16) (main_arg1 : FVec F S4096x1024 .bf16) (main_arg2 : FVec F S4096x1024 .bf16) (main_arg3 : FVec F S4096x512 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x512 .f32 := Host.absf main_arg3
  fn_part1 (F := F) main_v16 main_v17
-- ==== Kernel.lean ====
abbrev S4096x768 : Shape := ⟨2, ![4096, 768]⟩
abbrev S4096x256 : Shape := ⟨2, ![4096, 256]⟩
abbrev S6x4096x128 : Shape := ⟨3, ![6, 4096, 128]⟩
abbrev S1024x128 : Shape := ⟨2, ![1024, 128]⟩
abbrev S4096x128 : Shape := ⟨2, ![4096, 128]⟩
abbrev S1x1024x128 : Shape := ⟨3, ![1, 1024, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x256x128 : Shape := ⟨3, ![1, 256, 128]⟩
abbrev S1x256x1 : Shape := ⟨3, ![1, 256, 1]⟩

abbrev nBuf : Space → Nat
  | .hbm => 9
  | .vmem => 28
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S4096x256, .bf16⟩
  | .hbm, ⟨3, _⟩ => ⟨S4096x768, .f32⟩
  | .hbm, ⟨4, _⟩ => ⟨S4096x768, .f32⟩
  | .hbm, ⟨5, _⟩ => ⟨S6x4096x128, .f32⟩
  | .hbm, ⟨6, _⟩ => ⟨S4096x768, .f32⟩
  | .hbm, ⟨7, _⟩ => ⟨S4096x256, .f32⟩
  | .hbm, ⟨8, _⟩ => ⟨S4096x256, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x128, .bf16⟩
  | .local _ .vmem, ⟨11, _⟩ => ⟨S1024x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x1024x128, .f32⟩
  | .local _ .vmem, ⟨21, _⟩ => ⟨S1x1024x128, .f32⟩
  | .local _ .vmem, ⟨22, _⟩ => ⟨S1024x128, .f32⟩
  | .local _ .vmem, ⟨23, _⟩ => ⟨S1024x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  ![c0_i32_5.toNat, v17.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli c1_i32_4 v16
  let c0_i32_5 : BitVec 32 := 0#32
  let v18 : BitVec 32 := Scalar.addi c0_i32_5 v17
  let c0_i32_6 : BitVec 32 := 0#32
  let c0_i32_7 : BitVec 32 := 0#32
  ![c0_i32_6.toNat, v18.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![6, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  ![c0_i32_5.toNat, v17.toNat]

def cc1_transform_2 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli c1_i32_4 v16
  let c0_i32_5 : BitVec 32 := 0#32
  let v18 : BitVec 32 := Scalar.addi c0_i32_5 v17
  let c0_i32_6 : BitVec 32 := 0#32
  let c0_i32_7 : BitVec 32 := 0#32
  ![c0_i32_6.toNat, v18.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc1_transform_8 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "log2e" => some (((Real.log 2)⁻¹ : ℝ) : EReal)
  | "scale" => some (((Real.sqrt 128)⁻¹ : ℝ) : EReal)
  | "scale_log2e" => some (((Real.sqrt 128)⁻¹ * (Real.log 2)⁻¹ : ℝ) : EReal)
  | _ => none
-- ==== ReferenceIdeal.lean ====
abbrev S4096x768 : Shape := ⟨2, ![4096, 768]⟩
abbrev S4096x256 : Shape := ⟨2, ![4096, 256]⟩
abbrev S4096x2x3x128 : Shape := ⟨4, ![4096, 2, 3, 128]⟩
abbrev S4096x2x128 : Shape := ⟨3, ![4096, 2, 128]⟩
abbrev S2x4096x4096x3 : Shape := ⟨4, ![2, 4096, 4096, 3]⟩
abbrev S2x3x4096x4096 : Shape := ⟨4, ![2, 3, 4096, 4096]⟩
abbrev S_ : Shape := ⟨0, ![]⟩
abbrev S2x3x4096 : Shape := ⟨3, ![2, 3, 4096]⟩
abbrev S2x3x4096x1 : Shape := ⟨4, ![2, 3, 4096, 1]⟩
abbrev S2x128x3x4096 : Shape := ⟨4, ![2, 128, 3, 4096]⟩
abbrev S2x128x4096 : Shape := ⟨3, ![2, 128, 4096]⟩
abbrev S2x4096x3x128 : Shape := ⟨4, ![2, 4096, 3, 128]⟩
abbrev S2x4096x128 : Shape := ⟨3, ![2, 4096, 128]⟩

abbrev nBuf : Space → Nat
  | .hbm => 86
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S4096x256, .bf16⟩
  | .hbm, ⟨3, _⟩ => ⟨S4096x768, .f32⟩
  | .hbm, ⟨4, _⟩ => ⟨S4096x768, .f32⟩
  | .hbm, ⟨5, _⟩ => ⟨S4096x256, .f32⟩
  | .hbm, ⟨6, _⟩ => ⟨S4096x256, .f32⟩
  | .hbm, ⟨7, _⟩ => ⟨S4096x2x3x128, .f32⟩
  | .hbm, ⟨8, _⟩ => ⟨S4096x2x128, .f32⟩
  | .hbm, ⟨9, _⟩ => ⟨S4096x2x128, .f32⟩
  | .hbm, ⟨10, _⟩ => ⟨S2x4096x4096x3, .f32⟩
  | .hbm, ⟨11, _⟩ => ⟨S2x3x4096x4096, .f32⟩
  | .hbm, ⟨12, _⟩ => ⟨S_, .f32⟩
  | .hbm, ⟨13, _⟩ => ⟨S_, .f32⟩
  | .hbm, ⟨14, _⟩ => ⟨S2x3x4096x4096, .f32⟩
  | .hbm, ⟨15, _⟩ => ⟨S2x3x4096x4096, .f32⟩
  | .hbm, ⟨16, _⟩ => ⟨S_, .f32⟩
  | .hbm, ⟨17, _⟩ => ⟨S2x3x4096, .f32⟩
  | .hbm, ⟨18, _⟩ => ⟨S2x3x4096x1, .f32⟩
  | .hbm, ⟨19, _⟩ => ⟨S2x3x4096x4096, .f32⟩
  | .hbm, ⟨20, _⟩ => ⟨S2x3x4096x4096, .i1⟩
  | .hbm, ⟨21, _⟩ => ⟨S2x3x4096x4096, .f32⟩
  | .hbm, ⟨22, _⟩ => ⟨S_, .f32⟩
  | .hbm, ⟨23, _⟩ => ⟨S2x3x4096, .f32⟩
  | .hbm, ⟨24, _⟩ => ⟨S_, .f32⟩
  | .hbm, ⟨25, _⟩ => ⟨S2x3x4096, .f32⟩
  | .hbm, ⟨26, _⟩ => ⟨S2x3x4096, .f32⟩
  | .hbm, ⟨27, _⟩ => ⟨S_, .f32⟩
  | .hbm, ⟨28, _⟩ => ⟨S2x3x4096, .f32⟩
  | .hbm, ⟨29, _⟩ => ⟨S2x3x4096, .i1⟩
  | .hbm, ⟨30, _⟩ => ⟨S_, .f32⟩
  | .hbm, ⟨31, _⟩ => ⟨S2x3x4096, .f32⟩
  | .hbm, ⟨32, _⟩ => ⟨S2x3x4096, .i1⟩
  | .hbm, ⟨33, _⟩ => ⟨S_, .f32⟩
  | .hbm, ⟨34, _⟩ => ⟨S2x3x4096, .f32⟩
  | .hbm, ⟨35, _⟩ => ⟨S_, .f32⟩
  | .hbm, ⟨36, _⟩ => ⟨S2x3x4096, .f32⟩
  | .hbm, ⟨37, _⟩ => ⟨S_, .f32⟩
  | .hbm, ⟨38, _⟩ => ⟨S2x3x4096, .f32⟩
  | .hbm, ⟨39, _⟩ => ⟨S2x3x4096, .f32⟩
  | .hbm, ⟨40, _⟩ => ⟨S2x3x4096, .f32⟩
  | .hbm, ⟨41, _⟩ => ⟨S2x3x4096x1, .f32⟩
  | .hbm, ⟨42, _⟩ => ⟨S2x3x4096x4096, .f32⟩
  | .hbm, ⟨43, _⟩ => ⟨S2x3x4096x4096, .f32⟩
  | .hbm, ⟨44, _⟩ => ⟨S2x3x4096x4096, .f32⟩
  | .hbm, ⟨45, _⟩ => ⟨S_, .f32⟩
  | .hbm, ⟨46, _⟩ => ⟨S2x3x4096, .f32⟩
  | .hbm, ⟨47, _⟩ => ⟨S2x3x4096x1, .f32⟩
  | .hbm, ⟨48, _⟩ => ⟨S2x3x4096x4096, .f32⟩
  | .hbm, ⟨49, _⟩ => ⟨S2x3x4096x4096, .f32⟩
  | .hbm, ⟨50, _⟩ => ⟨S2x3x4096x1, .f32⟩
  | .hbm, ⟨51, _⟩ => ⟨S_, .f32⟩
  | .hbm, ⟨52, _⟩ => ⟨S2x3x4096x1, .f32⟩
  | .hbm, ⟨53, _⟩ => ⟨S2x3x4096x1, .f32⟩
  | .hbm, ⟨54, _⟩ => ⟨S2x128x3x4096, .f32⟩
  | .hbm, ⟨55, _⟩ => ⟨S4096x2x3x128, .f32⟩
  | .hbm, ⟨56, _⟩ => ⟨S4096x768, .f32⟩
  | .hbm, ⟨57, _⟩ => ⟨S4096x2x3x128, .f32⟩
  | .hbm, ⟨58, _⟩ => ⟨S2x128x3x4096, .f32⟩
  | .hbm, ⟨59, _⟩ => ⟨S2x3x4096x4096, .f32⟩
  | .hbm, ⟨60, _⟩ => ⟨S2x128x4096, .f32⟩
  | .hbm, ⟨61, _⟩ => ⟨S4096x2x128, .f32⟩
  | .hbm, ⟨62, _⟩ => ⟨S2x3x4096x4096, .f32⟩
  | .hbm, ⟨63, _⟩ => ⟨S2x3x4096x4096, .f32⟩
  | .hbm, ⟨64, _⟩ => ⟨S2x3x4096x4096, .f32⟩
  | .hbm, ⟨65, _⟩ => ⟨S_, .f32⟩
  | .hbm, ⟨66, _⟩ => ⟨S2x3x4096, .f32⟩
  | .hbm, ⟨67, _⟩ => ⟨S2x3x4096x1, .f32⟩
  | .hbm, ⟨68, _⟩ => ⟨S2x3x4096x1, .f32⟩
  | .hbm, ⟨69, _⟩ => ⟨S2x3x4096x4096, .f32⟩
  | .hbm, ⟨70, _⟩ => ⟨S2x3x4096x4096, .f32⟩
  | .hbm, ⟨71, _⟩ => ⟨S_, .f32⟩
  | .hbm, ⟨72, _⟩ => ⟨S2x3x4096, .f32⟩
  | .hbm, ⟨73, _⟩ => ⟨S2x3x4096x4096, .f32⟩
  | .hbm, ⟨74, _⟩ => ⟨S2x3x4096x4096, .f32⟩
  | .hbm, ⟨75, _⟩ => ⟨S2x3x4096x4096, .f32⟩
  | .hbm, ⟨76, _⟩ => ⟨S2x3x4096x4096, .f32⟩
  | .hbm, ⟨77, _⟩ => ⟨S2x3x4096x4096, .f32⟩
  | .hbm, ⟨78, _⟩ => ⟨S2x4096x4096x3, .f32⟩
  | .hbm, ⟨79, _⟩ => ⟨S2x4096x3x128, .f32⟩
  | .hbm, ⟨80, _⟩ => ⟨S4096x2x3x128, .f32⟩
  | .hbm, ⟨81, _⟩ => ⟨S2x4096x128, .f32⟩
  | .hbm, ⟨82, _⟩ => ⟨S4096x2x128, .f32⟩
  | .hbm, ⟨83, _⟩ => ⟨S4096x256, .f32⟩
  | .hbm, ⟨84, _⟩ => ⟨S4096x256, .f32⟩
  | .hbm, ⟨85, _⟩ => ⟨S4096x768, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel2.lean ====
abbrev S4096x2048 : Shape := ⟨2, ![4096, 2048]⟩
abbrev S4x2048x1408 : Shape := ⟨3, ![4, 2048, 1408]⟩
abbrev S5632x2048 : Shape := ⟨2, ![5632, 2048]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S1024x5632 : Shape := ⟨2, ![1024, 5632]⟩
abbrev S5632x512 : Shape := ⟨2, ![5632, 512]⟩
abbrev S1024x512 : Shape := ⟨2, ![1024, 512]⟩
abbrev S1024x2048 : Shape := ⟨2, ![1024, 2048]⟩
abbrev S4096x512 : Shape := ⟨2, ![4096, 512]⟩
abbrev S4096x1024 : Shape := ⟨2, ![4096, 1024]⟩
abbrev S4096x1408 : Shape := ⟨2, ![4096, 1408]⟩
abbrev S1x1024x1408 : Shape := ⟨3, ![1, 1024, 1408]⟩
abbrev S1024x1408 : Shape := ⟨2, ![1024, 1408]⟩

abbrev nBuf : Space → Nat
  | .hbm => 15
  | .vmem => 49
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x2048x1408, .bf16⟩
  | .hbm, ⟨3, _⟩ => ⟨S4x2048x1408, .bf16⟩
  | .hbm, ⟨4, _⟩ => ⟨S5632x2048, .bf16⟩
  | .hbm, ⟨5, _⟩ => ⟨S4096x2048, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x2048, .f32⟩
  | .hbm, ⟨10, _⟩ => ⟨S4096x5632, .bf16⟩
  | .hbm, ⟨11, _⟩ => ⟨S4096x5632, .bf16⟩
  | .hbm, ⟨12, _⟩ => ⟨S5632x2048, .bf16⟩
  | .hbm, ⟨13, _⟩ => ⟨S4x2048x1408, .bf16⟩
  | .hbm, ⟨14, _⟩ => ⟨S4x2048x1408, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1024x5632, .bf16⟩
  | .local _ .vmem, ⟨13, _⟩ => ⟨S1024x5632, .bf16⟩
  | .local _ .vmem, ⟨14, _⟩ => ⟨S5632x512, .bf16⟩
  | .local _ .vmem, ⟨15, _⟩ => ⟨S5632x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x2048, .bf16⟩
  | .local _ .vmem, ⟨21, _⟩ => ⟨S1024x2048, .bf16⟩
  | .local _ .vmem, ⟨22, _⟩ => ⟨S512x2048, .bf16⟩
  | .local _ .vmem, ⟨23, _⟩ => ⟨S512x2048, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .bf16⟩
  | .local _ .vmem, ⟨32, _⟩ => ⟨S4096x512, .bf16⟩
  | .local _ .vmem, ⟨33, _⟩ => ⟨S4096x512, .bf16⟩
  | .local _ .vmem, ⟨34, _⟩ => ⟨S4096x2048, .bf16⟩
  | .local _ .vmem, ⟨35, _⟩ => ⟨S512x2048, .bf16⟩
  | .local _ .vmem, ⟨36, _⟩ => ⟨S512x2048, .bf16⟩
  | .local _ .vmem, ⟨37, _⟩ => ⟨S4096x1024, .bf16⟩
  | .local _ .vmem, ⟨38, _⟩ => ⟨S4096x1024, .bf16⟩
  | .local _ .vmem, ⟨39, _⟩ => ⟨S4096x1408, .bf16⟩
  | .local _ .vmem, ⟨40, _⟩ => ⟨S4096x1408, .bf16⟩
  | .local _ .vmem, ⟨41, _⟩ => ⟨S1x1024x1408, .bf16⟩
  | .local _ .vmem, ⟨42, _⟩ => ⟨S1x1024x1408, .bf16⟩
  | .local _ .vmem, ⟨43, _⟩ => ⟨S4096x1024, .bf16⟩
  | .local _ .vmem, ⟨44, _⟩ => ⟨S4096x1024, .bf16⟩
  | .local _ .vmem, ⟨45, _⟩ => ⟨S4096x1408, .bf16⟩
  | .local _ .vmem, ⟨46, _⟩ => ⟨S4096x1408, .bf16⟩
  | .local _ .vmem, ⟨47, _⟩ => ⟨S1x1024x1408, .bf16⟩
  | .local _ .vmem, ⟨48, _⟩ => ⟨S1x1024x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg2_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem2_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![11, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x1024x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference2Ideal.lean ====
abbrev S4096x2048 : Shape := ⟨2, ![4096, 2048]⟩
abbrev S4x2048x1408 : Shape := ⟨3, ![4, 2048, 1408]⟩
abbrev S5632x2048 : Shape := ⟨2, ![5632, 2048]⟩
abbrev S2048x4x1408 : Shape := ⟨3, ![2048, 4, 1408]⟩
abbrev S2048x5632 : Shape := ⟨2, ![2048, 5632]⟩
abbrev S4096x5632 : Shape := ⟨2, ![4096, 5632]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x2048x1408, .bf16⟩
  | .hbm, ⟨3, _⟩ => ⟨S4x2048x1408, .bf16⟩
  | .hbm, ⟨4, _⟩ => ⟨S5632x2048, .bf16⟩
  | .hbm, ⟨5, _⟩ => ⟨S4096x2048, .bf16⟩
  | .hbm, ⟨6, _⟩ => ⟨S4096x2048, .f32⟩
  | .hbm, ⟨7, _⟩ => ⟨S4x2048x1408, .f32⟩
  | .hbm, ⟨8, _⟩ => ⟨S4x2048x1408, .f32⟩
  | .hbm, ⟨9, _⟩ => ⟨S5632x2048, .f32⟩
  | .hbm, ⟨10, _⟩ => ⟨S4096x2048, .f32⟩
  | .hbm, ⟨11, _⟩ => ⟨S2048x4x1408, .f32⟩
  | .hbm, ⟨12, _⟩ => ⟨S2048x5632, .f32⟩
  | .hbm, ⟨13, _⟩ => ⟨S4096x5632, .f32⟩
  | .hbm, ⟨14, _⟩ => ⟨S2048x4x1408, .f32⟩
  | .hbm, ⟨15, _⟩ => ⟨S2048x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S_, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x2048, .f32⟩
  | .hbm, ⟨32, _⟩ => ⟨S2048x5632, .f32⟩
  | .hbm, ⟨33, _⟩ => ⟨S5632x2048, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S5632x2048, .f32⟩
  | .hbm, ⟨42, _⟩ => ⟨S2048x5632, .f32⟩
  | .hbm, ⟨43, _⟩ => ⟨S2048x4x1408, .f32⟩
  | .hbm, ⟨44, _⟩ => ⟨S4x2048x1408, .f32⟩
  | .hbm, ⟨45, _⟩ => ⟨S5632x2048, .f32⟩
  | .hbm, ⟨46, _⟩ => ⟨S2048x5632, .f32⟩
  | .hbm, ⟨47, _⟩ => ⟨S2048x4x1408, .f32⟩
  | .hbm, ⟨48, _⟩ => ⟨S4x2048x1408, .f32⟩
  | .hbm, ⟨49, _⟩ => ⟨S4096x2048, .f32⟩
  | .hbm, ⟨50, _⟩ => ⟨S4096x5632, .bf16⟩
  | .hbm, ⟨51, _⟩ => ⟨S4096x5632, .bf16⟩
  | .hbm, ⟨52, _⟩ => ⟨S4x2048x1408, .bf16⟩
  | .hbm, ⟨53, _⟩ => ⟨S4x2048x1408, .bf16⟩
  | .hbm, ⟨54, _⟩ => ⟨S5632x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v11_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v11_1 : Ref sig .tc := ⟨.hbm, 28, rfl⟩
abbrev main_v11_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel3.lean ====
abbrev S4096x5632 : Shape := ⟨2, ![4096, 5632]⟩
abbrev S4x2048x1408 : Shape := ⟨3, ![4, 2048, 1408]⟩
abbrev S4096x2048 : Shape := ⟨2, ![4096, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x1408, .bf16⟩
  | .hbm, ⟨3, _⟩ => ⟨S4x2048x1408, .bf16⟩
  | .hbm, ⟨4, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  let c0_i32_1 : BitVec 32 := 0#32
  ![v1.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4096x5632 : Shape := ⟨2, ![4096, 5632]⟩
abbrev S4x2048x1408 : Shape := ⟨3, ![4, 2048, 1408]⟩
abbrev S_ : Shape := ⟨0, ![]⟩
abbrev S4096x2048 : Shape := ⟨2, ![4096, 2048]⟩
abbrev S2048x4x1408 : Shape := ⟨3, ![2048, 4, 1408]⟩
abbrev S2048x5632 : Shape := ⟨2, ![2048, 5632]⟩

abbrev nBuf : Space → Nat
  | .hbm => 19
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x1408, .bf16⟩
  | .hbm, ⟨3, _⟩ => ⟨S4x2048x1408, .bf16⟩
  | .hbm, ⟨4, _⟩ => ⟨S4096x5632, .f32⟩
  | .hbm, ⟨5, _⟩ => ⟨S4096x5632, .f32⟩
  | .hbm, ⟨6, _⟩ => ⟨S4x2048x1408, .f32⟩
  | .hbm, ⟨7, _⟩ => ⟨S4x2048x1408, .f32⟩
  | .hbm, ⟨8, _⟩ => ⟨S_, .f32⟩
  | .hbm, ⟨9, _⟩ => ⟨S4096x2048, .f32⟩
  | .hbm, ⟨10, _⟩ => ⟨S2048x4x1408, .f32⟩
  | .hbm, ⟨11, _⟩ => ⟨S2048x5632, .f32⟩
  | .hbm, ⟨12, _⟩ => ⟨S4096x5632, .f32⟩
  | .hbm, ⟨13, _⟩ => ⟨S2048x4x1408, .f32⟩
  | .hbm, ⟨14, _⟩ => ⟨S2048x5632, .f32⟩
  | .hbm, ⟨15, _⟩ => ⟨S4096x5632, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S4096x2048 : Shape := ⟨2, ![4096, 2048]⟩
abbrev S5120x2048 : Shape := ⟨2, ![5120, 2048]⟩
abbrev S2048x2048 : Shape := ⟨2, ![2048, 2048]⟩
abbrev S4096x5120 : Shape := ⟨2, ![4096, 5120]⟩
abbrev S1024x2048 : Shape := ⟨2, ![1024, 2048]⟩
abbrev S1280x2048 : Shape := ⟨2, ![1280, 2048]⟩
abbrev S1024x1280 : Shape := ⟨2, ![1024, 1280]⟩
abbrev S2048x1024 : Shape := ⟨2, ![2048, 1024]⟩
abbrev S1024x1024 : Shape := ⟨2, ![1024, 1024]⟩
abbrev S512x2048 : Shape := ⟨2, ![512, 2048]⟩
abbrev S4096x512 : Shape := ⟨2, ![4096, 512]⟩
abbrev S1024x512 : Shape := ⟨2, ![1024, 512]⟩
abbrev S768x2048 : Shape := ⟨2, ![768, 2048]⟩
abbrev S4096x768 : Shape := ⟨2, ![4096, 768]⟩
abbrev S1024x768 : Shape := ⟨2, ![1024, 768]⟩
abbrev S4096x640 : Shape := ⟨2, ![4096, 640]⟩
abbrev S640x2048 : Shape := ⟨2, ![640, 2048]⟩
abbrev S1024x5120 : Shape := ⟨2, ![1024, 5120]⟩
abbrev S5120x512 : Shape := ⟨2, ![5120, 512]⟩

abbrev nBuf : Space → Nat
  | .hbm => 18
  | .vmem => 45
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S5120x2048, .bf16⟩
  | .hbm, ⟨3, _⟩ => ⟨S4096x2048, .bf16⟩
  | .hbm, ⟨4, _⟩ => ⟨S2048x2048, .bf16⟩
  | .hbm, ⟨5, _⟩ => ⟨S4096x2048, .bf16⟩
  | .hbm, ⟨6, _⟩ => ⟨S4096x5120, .bf16⟩
  | .hbm, ⟨7, _⟩ => ⟨S4096x5120, .f32⟩
  | .hbm, ⟨8, _⟩ => ⟨S4096x2048, .f32⟩
  | .hbm, ⟨9, _⟩ => ⟨S512x2048, .bf16⟩
  | .hbm, ⟨10, _⟩ => ⟨S4096x512, .f32⟩
  | .hbm, ⟨11, _⟩ => ⟨S768x2048, .bf16⟩
  | .hbm, ⟨12, _⟩ => ⟨S4096x768, .f32⟩
  | .hbm, ⟨13, _⟩ => ⟨S768x2048, .bf16⟩
  | .hbm, ⟨14, _⟩ => ⟨S4096x768, .f32⟩
  | .hbm, ⟨15, _⟩ => ⟨S2048x2048, .bf16⟩
  | .hbm, ⟨16, _⟩ => ⟨S5120x2048, .bf16⟩
  | .hbm, ⟨17, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2048, .bf16⟩
  | .local _ .vmem, ⟨15, _⟩ => ⟨S1024x2048, .bf16⟩
  | .local _ .vmem, ⟨16, _⟩ => ⟨S512x2048, .bf16⟩
  | .local _ .vmem, ⟨17, _⟩ => ⟨S1024x512, .f32⟩
  | .local _ .vmem, ⟨18, _⟩ => ⟨S1024x512, .f32⟩
  | .local _ .vmem, ⟨19, _⟩ => ⟨S1024x2048, .bf16⟩
  | .local _ .vmem, ⟨20, _⟩ => ⟨S1024x2048, .bf16⟩
  | .local _ .vmem, ⟨21, _⟩ => ⟨S768x2048, .bf16⟩
  | .local _ .vmem, ⟨22, _⟩ => ⟨S1024x768, .f32⟩
  | .local _ .vmem, ⟨23, _⟩ => ⟨S1024x768, .f32⟩
  | .local _ .vmem, ⟨24, _⟩ => ⟨S1024x2048, .bf16⟩
  | .local _ .vmem, ⟨25, _⟩ => ⟨S1024x2048, .bf16⟩
  | .local _ .vmem, ⟨26, _⟩ => ⟨S768x2048, .bf16⟩
  | .local _ .vmem, ⟨27, _⟩ => ⟨S1024x768, .f32⟩
  | .local _ .vmem, ⟨28, _⟩ => ⟨S1024x768, .f32⟩
  | .local _ .vmem, ⟨29, _⟩ => ⟨S4096x512, .bf16⟩
  | .local _ .vmem, ⟨30, _⟩ => ⟨S4096x512, .bf16⟩
  | .local _ .vmem, ⟨31, _⟩ => ⟨S4096x2048, .bf16⟩
  | .local _ .vmem, ⟨32, _⟩ => ⟨S512x2048, .bf16⟩
  | .local _ .vmem, ⟨33, _⟩ => ⟨S512x2048, .bf16⟩
  | .local _ .vmem, ⟨34, _⟩ => ⟨S4096x640, .bf16⟩
  | .local _ .vmem, ⟨35, _⟩ => ⟨S4096x640, .bf16⟩
  | .local _ .vmem, ⟨36, _⟩ => ⟨S4096x2048, .bf16⟩
  | .local _ .vmem, ⟨37, _⟩ => ⟨S640x2048, .bf16⟩
  | .local _ .vmem, ⟨38, _⟩ => ⟨S640x2048, .bf16⟩
  | .local _ .vmem, ⟨39, _⟩ => ⟨S1024x5120, .bf16⟩
  | .local _ .vmem, ⟨40, _⟩ => ⟨S1024x5120, .bf16⟩
  | .local _ .vmem, ⟨41, _⟩ => ⟨S5120x512, .bf16⟩
  | .local _ .vmem, ⟨42, _⟩ => ⟨S5120x512, .bf16⟩
  | .local _ .vmem, ⟨43, _⟩ => ⟨S1024x512, .f32⟩
  | .local _ .vmem, ⟨44, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc7_stg2_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc7_sem2_1 : DmaSem sig := 44

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S512x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S768x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S768x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x768 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S4096x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S512x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S4096x640 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S4096x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S640x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x5120 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S5120x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== Reference4Ideal.lean ====
abbrev S4096x2048 : Shape := ⟨2, ![4096, 2048]⟩
abbrev S5120x2048 : Shape := ⟨2, ![5120, 2048]⟩
abbrev S2048x2048 : Shape := ⟨2, ![2048, 2048]⟩
abbrev S4096x5120 : Shape := ⟨2, ![4096, 5120]⟩
abbrev S2048x5120 : Shape := ⟨2, ![2048, 5120]⟩
abbrev S4096x512 : Shape := ⟨2, ![4096, 512]⟩
abbrev S4096x768 : Shape := ⟨2, ![4096, 768]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S5120x2048, .bf16⟩
  | .hbm, ⟨3, _⟩ => ⟨S4096x2048, .bf16⟩
  | .hbm, ⟨4, _⟩ => ⟨S2048x2048, .bf16⟩
  | .hbm, ⟨5, _⟩ => ⟨S4096x2048, .bf16⟩
  | .hbm, ⟨6, _⟩ => ⟨S4096x5120, .bf16⟩
  | .hbm, ⟨7, _⟩ => ⟨S4096x2048, .f32⟩
  | .hbm, ⟨8, _⟩ => ⟨S5120x2048, .f32⟩
  | .hbm, ⟨9, _⟩ => ⟨S4096x2048, .f32⟩
  | .hbm, ⟨10, _⟩ => ⟨S2048x2048, .f32⟩
  | .hbm, ⟨11, _⟩ => ⟨S4096x2048, .f32⟩
  | .hbm, ⟨12, _⟩ => ⟨S4096x5120, .f32⟩
  | .hbm, ⟨13, _⟩ => ⟨S2048x5120, .f32⟩
  | .hbm, ⟨14, _⟩ => ⟨S4096x5120, .f32⟩
  | .hbm, ⟨15, _⟩ => ⟨S4096x2048, .f32⟩
  | .hbm, ⟨16, _⟩ => ⟨S5120x2048, .f32⟩
  | .hbm, ⟨17, _⟩ => ⟨S2048x5120, .f32⟩
  | .hbm, ⟨18, _⟩ => ⟨S4096x2048, .f32⟩
  | .hbm, ⟨19, _⟩ => ⟨S5120x2048, .f32⟩
  | .hbm, ⟨20, _⟩ => ⟨S2048x2048, .f32⟩
  | .hbm, ⟨21, _⟩ => ⟨S2048x2048, .f32⟩
  | .hbm, ⟨22, _⟩ => ⟨S4096x2048, .f32⟩
  | .hbm, ⟨23, _⟩ => ⟨S4096x512, .f32⟩
  | .hbm, ⟨24, _⟩ => ⟨S4096x768, .f32⟩
  | .hbm, ⟨25, _⟩ => ⟨S4096x768, .f32⟩
  | .hbm, ⟨26, _⟩ => ⟨S4096x2048, .f32⟩
  | .hbm, ⟨27, _⟩ => ⟨S2048x2048, .bf16⟩
  | .hbm, ⟨28, _⟩ => ⟨S5120x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel5.lean ====
abbrev S4096x1024 : Shape := ⟨2, ![4096, 1024]⟩
abbrev S4096x512 : Shape := ⟨2, ![4096, 512]⟩
abbrev S4x4096x128 : Shape := ⟨3, ![4, 4096, 128]⟩
abbrev S1024x256 : Shape := ⟨2, ![1024, 256]⟩
abbrev S4096x256 : Shape := ⟨2, ![4096, 256]⟩
abbrev S4096x128 : Shape := ⟨2, ![4096, 128]⟩
abbrev S1024x128 : Shape := ⟨2, ![1024, 128]⟩
abbrev S1x1024x128 : Shape := ⟨3, ![1, 1024, 128]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x256x1 : Shape := ⟨3, ![1, 256, 1]⟩

abbrev nBuf : Space → Nat
  | .hbm => 9
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x512, .f32⟩
  | .hbm, ⟨4, _⟩ => ⟨S4096x512, .f32⟩
  | .hbm, ⟨5, _⟩ => ⟨S4x4096x128, .f32⟩
  | .hbm, ⟨6, _⟩ => ⟨S4096x1024, .f32⟩
  | .hbm, ⟨7, _⟩ => ⟨S4096x1024, .f32⟩
  | .hbm, ⟨8, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x256, .bf16⟩
  | .local _ .vmem, ⟨11, _⟩ => ⟨S1024x256, .bf16⟩
  | .local _ .vmem, ⟨12, _⟩ => ⟨S4096x256, .bf16⟩
  | .local _ .vmem, ⟨13, _⟩ => ⟨S4096x256, .bf16⟩
  | .local _ .vmem, ⟨14, _⟩ => ⟨S4096x128, .bf16⟩
  | .local _ .vmem, ⟨15, _⟩ => ⟨S4096x128, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x1024x128, .f32⟩
  | .local _ .vmem, ⟨21, _⟩ => ⟨S1x1024x128, .f32⟩
  | .local _ .vmem, ⟨22, _⟩ => ⟨S1024x256, .f32⟩
  | .local _ .vmem, ⟨23, _⟩ => ⟨S1024x256, .f32⟩
  | .local _ .vmem, ⟨24, _⟩ => ⟨S4096x256, .f32⟩
  | .local _ .vmem, ⟨25, _⟩ => ⟨S4096x256, .f32⟩
  | .local _ .vmem, ⟨26, _⟩ => ⟨S4096x128, .f32⟩
  | .local _ .vmem, ⟨27, _⟩ => ⟨S4096x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  ![c0_i32_6.toNat, v17.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi c1_i32_5 v17
  let c0_i32_6 : BitVec 32 := 0#32
  let c0_i32_7 : BitVec 32 := 0#32
  ![c0_i32_6.toNat, v18.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  ![c0_i32_6.toNat, v17.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi c1_i32_5 v17
  let c0_i32_6 : BitVec 32 := 0#32
  let c0_i32_7 : BitVec 32 := 0#32
  ![c0_i32_6.toNat, v18.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== Kernel5Ideal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== Reference5Ideal.lean ====
abbrev S4096x1024 : Shape := ⟨2, ![4096, 1024]⟩
abbrev S4096x512 : Shape := ⟨2, ![4096, 512]⟩
abbrev S4096x4x256 : Shape := ⟨3, ![4096, 4, 256]⟩
abbrev S4096x4x128 : Shape := ⟨3, ![4096, 4, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x4096x256 : Shape := ⟨3, ![4, 4096, 256]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x4x256, .f32⟩
  | .hbm, ⟨8, _⟩ => ⟨S4096x4x128, .f32⟩
  | .hbm, ⟨9, _⟩ => ⟨S4096x4x256, .f32⟩
  | .hbm, ⟨10, _⟩ => ⟨S4096x4x256, .f32⟩
  | .hbm, ⟨11, _⟩ => ⟨S4x4096x4096, .f32⟩
  | .hbm, ⟨12, _⟩ => ⟨S_, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S4x4096x4096, .f32⟩
  | .hbm, ⟨20, _⟩ => ⟨S4x4096x4096, .i1⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .i1⟩
  | .hbm, ⟨30, _⟩ => ⟨S_, .f32⟩
  | .hbm, ⟨31, _⟩ => ⟨S4x4096, .f32⟩
  | .hbm, ⟨32, _⟩ => ⟨S4x4096, .i1⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S_, .f32⟩
  | .hbm, ⟨38, _⟩ => ⟨S4x4096, .f32⟩
  | .hbm, ⟨39, _⟩ => ⟨S4x4096, .f32⟩
  | .hbm, ⟨40, _⟩ => ⟨S4x4096, .f32⟩
  | .hbm, ⟨41, _⟩ => ⟨S4x4096x1, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S4x4096x4096, .f32⟩
  | .hbm, ⟨49, _⟩ => ⟨S4x4096x4096, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x128x4096, .f32⟩
  | .hbm, ⟨55, _⟩ => ⟨S4096x4x128, .f32⟩
  | .hbm, ⟨56, _⟩ => ⟨S4096x512, .f32⟩
  | .hbm, ⟨57, _⟩ => ⟨S4096x4x128, .f32⟩
  | .hbm, ⟨58, _⟩ => ⟨S4x128x4096, .f32⟩
  | .hbm, ⟨59, _⟩ => ⟨S4x4096x4096, .f32⟩
  | .hbm, ⟨60, _⟩ => ⟨S4x128x4096, .f32⟩
  | .hbm, ⟨61, _⟩ => ⟨S4096x4x128, .f32⟩
  | .hbm, ⟨62, _⟩ => ⟨S4x4096x4096, .f32⟩
  | .hbm, ⟨63, _⟩ => ⟨S4x4096x4096, .f32⟩
  | .hbm, ⟨64, _⟩ => ⟨S4x4096x4096, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S4x4096x1, .f32⟩
  | .hbm, ⟨69, _⟩ => ⟨S4x4096x4096, .f32⟩
  | .hbm, ⟨70, _⟩ => ⟨S4x4096x4096, .f32⟩
  | .hbm, ⟨71, _⟩ => ⟨S_, .f32⟩
  | .hbm, ⟨72, _⟩ => ⟨S4x4096, .f32⟩
  | .hbm, ⟨73, _⟩ => ⟨S4x4096x4096, .f32⟩
  | .hbm, ⟨74, _⟩ => ⟨S4x4096x4096, .f32⟩
  | .hbm, ⟨75, _⟩ => ⟨S4x4096x4096, .f32⟩
  | .hbm, ⟨76, _⟩ => ⟨S4x4096x4096, .f32⟩
  | .hbm, ⟨77, _⟩ => ⟨S4x4096x4096, .f32⟩
  | .hbm, ⟨78, _⟩ => ⟨S4x4096x256, .f32⟩
  | .hbm, ⟨79, _⟩ => ⟨S4096x4x256, .f32⟩
  | .hbm, ⟨80, _⟩ => ⟨S4x4096x256, .f32⟩
  | .hbm, ⟨81, _⟩ => ⟨S4096x4x256, .f32⟩
  | .hbm, ⟨82, _⟩ => ⟨S4096x1024, .f32⟩
  | .hbm, ⟨83, _⟩ => ⟨S4096x1024, .f32⟩
  | .hbm, ⟨84, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Kernel6.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 12
  | .vmem => 26
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .bf16⟩
  | .hbm, ⟨3, _⟩ => ⟨S512x1024, .bf16⟩
  | .hbm, ⟨4, _⟩ => ⟨S4096x1024, .bf16⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x512, .f32⟩
  | .hbm, ⟨9, _⟩ => ⟨S512x1024, .bf16⟩
  | .hbm, ⟨10, _⟩ => ⟨S4096x512, .f32⟩
  | .hbm, ⟨11, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S1024x512, .f32⟩
  | .local _ .vmem, ⟨14, _⟩ => ⟨S1024x512, .f32⟩
  | .local _ .vmem, ⟨15, _⟩ => ⟨S4096x512, .bf16⟩
  | .local _ .vmem, ⟨16, _⟩ => ⟨S4096x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .bf16⟩
  | .local _ .vmem, ⟨21, _⟩ => ⟨S1024x512, .f32⟩
  | .local _ .vmem, ⟨22, _⟩ => ⟨S1024x512, .f32⟩
  | .local _ .vmem, ⟨23, _⟩ => ⟨S4096x512, .bf16⟩
  | .local _ .vmem, ⟨24, _⟩ => ⟨S4096x1024, .bf16⟩
  | .local _ .vmem, ⟨25, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg1_0 : Ref sig .tc := ⟨.vmem, 24, rfl⟩
abbrev cc5_stg2_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem1_0 : DmaSem sig := 24
abbrev cc5_sem2_0 : DmaSem sig := 25

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S4096x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S512x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![4, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S512x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S4096x512 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S512x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]
-- ==== Reference6Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 23
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .bf16⟩
  | .hbm, ⟨3, _⟩ => ⟨S512x1024, .bf16⟩
  | .hbm, ⟨4, _⟩ => ⟨S4096x1024, .bf16⟩
  | .hbm, ⟨5, _⟩ => ⟨S4096x1024, .bf16⟩
  | .hbm, ⟨6, _⟩ => ⟨S4096x512, .f32⟩
  | .hbm, ⟨7, _⟩ => ⟨S512x1024, .f32⟩
  | .hbm, ⟨8, _⟩ => ⟨S4096x512, .f32⟩
  | .hbm, ⟨9, _⟩ => ⟨S512x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1024x512, .f32⟩
  | .hbm, ⟨15, _⟩ => ⟨S512x1024, .f32⟩
  | .hbm, ⟨16, _⟩ => ⟨S4096x512, .f32⟩
  | .hbm, ⟨17, _⟩ => ⟨S1024x512, .f32⟩
  | .hbm, ⟨18, _⟩ => ⟨S512x1024, .f32⟩
  | .hbm, ⟨19, _⟩ => ⟨S4096x512, .f32⟩
  | .hbm, ⟨20, _⟩ => ⟨S4096x1024, .bf16⟩
  | .hbm, ⟨21, _⟩ => ⟨S512x1024, .bf16⟩
  | .hbm, ⟨22, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel7.lean ====
abbrev S2336x2048 : Shape := ⟨2, ![2336, 2048]⟩
abbrev S2x1168x2048 : Shape := ⟨3, ![2, 1168, 2048]⟩
abbrev S1024x192 : Shape := ⟨2, ![1024, 192]⟩
abbrev S2x512x192 : Shape := ⟨3, ![2, 512, 192]⟩
abbrev S1024x256 : Shape := ⟨2, ![1024, 256]⟩
abbrev S2x512x256 : Shape := ⟨3, ![2, 512, 256]⟩
abbrev S1024x2048 : Shape := ⟨2, ![1024, 2048]⟩
abbrev S2x512x2048 : Shape := ⟨3, ![2, 512, 2048]⟩
abbrev S4096x1408 : Shape := ⟨2, ![4096, 1408]⟩
abbrev S2x2048x1408 : Shape := ⟨3, ![2, 2048, 1408]⟩
abbrev S2816x2048 : Shape := ⟨2, ![2816, 2048]⟩
abbrev S2x1408x2048 : Shape := ⟨3, ![2, 1408, 2048]⟩
abbrev S8x136x128 : Shape := ⟨3, ![8, 136, 128]⟩
abbrev S136x128 : Shape := ⟨2, ![136, 128]⟩
abbrev S584x512 : Shape := ⟨2, ![584, 512]⟩
abbrev S1x584x512 : Shape := ⟨3, ![1, 584, 512]⟩
abbrev S512x192 : Shape := ⟨2, ![512, 192]⟩
abbrev S1x512x192 : Shape := ⟨3, ![1, 512, 192]⟩
abbrev S512x256 : Shape := ⟨2, ![512, 256]⟩
abbrev S1x512x256 : Shape := ⟨3, ![1, 512, 256]⟩
abbrev S256x512 : Shape := ⟨2, ![256, 512]⟩
abbrev S1x256x512 : Shape := ⟨3, ![1, 256, 512]⟩
abbrev S128x1408 : Shape := ⟨2, ![128, 1408]⟩
abbrev S1x128x1408 : Shape := ⟨3, ![1, 128, 1408]⟩
abbrev S352x512 : Shape := ⟨2, ![352, 512]⟩
abbrev S1x352x512 : Shape := ⟨3, ![1, 352, 512]⟩
abbrev S1x136x128 : Shape := ⟨3, ![1, 136, 128]⟩

abbrev nBuf : Space → Nat
  | .hbm => 71
  | .vmem => 134
  | .smem => 0
  | _ => 0

abbrev vmemTy0_0 (i : Nat) : BufTy := match i % 128 with
  | 0 => ⟨S584x512, .f32⟩
  | 1 => ⟨S584x512, .f32⟩
  | 2 => ⟨S584x512, .f32⟩
  | 3 => ⟨S584x512, .f32⟩
  | 4 => ⟨S1x584x512, .f32⟩
  | 5 => ⟨S1x584x512, .f32⟩
  | 6 => ⟨S1x584x512, .f32⟩
  | 7 => ⟨S1x584x512, .f32⟩
  | 8 => ⟨S1x584x512, .f32⟩
  | 9 => ⟨S1x584x512, .f32⟩
  | 10 => ⟨S1x584x512, .f32⟩
  | 11 => ⟨S1x584x512, .f32⟩
  | 12 => ⟨S1x584x512, .f32⟩
  | 13 => ⟨S1x584x512, .f32⟩
  | 14 => ⟨S1x584x512, .f32⟩
  | 15 => ⟨S1x584x512, .f32⟩
  | 16 => ⟨S1x584x512, .f32⟩
  | 17 => ⟨S1x584x512, .f32⟩
  | 18 => ⟨S512x192, .f32⟩
  | 19 => ⟨S512x192, .f32⟩
  | 20 => ⟨S512x192, .f32⟩
  | 21 => ⟨S512x192, .f32⟩
  | 22 => ⟨S1x512x192, .f32⟩
  | 23 => ⟨S1x512x192, .f32⟩
  | 24 => ⟨S1x512x192, .f32⟩
  | 25 => ⟨S1x512x192, .f32⟩
  | 26 => ⟨S1x512x192, .f32⟩
  | 27 => ⟨S1x512x192, .f32⟩
  | 28 => ⟨S1x512x192, .f32⟩
  | 29 => ⟨S1x512x192, .f32⟩
  | 30 => ⟨S1x512x192, .f32⟩
  | 31 => ⟨S1x512x192, .f32⟩
  | 32 => ⟨S1x512x192, .f32⟩
  | 33 => ⟨S1x512x192, .f32⟩
  | 34 => ⟨S1x512x192, .f32⟩
  | 35 => ⟨S1x512x192, .f32⟩
  | 36 => ⟨S512x256, .f32⟩
  | 37 => ⟨S512x256, .f32⟩
  | 38 => ⟨S512x256, .f32⟩
  | 39 => ⟨S512x256, .f32⟩
  | 40 => ⟨S1x512x256, .f32⟩
  | 41 => ⟨S1x512x256, .f32⟩
  | 42 => ⟨S1x512x256, .f32⟩
  | 43 => ⟨S1x512x256, .f32⟩
  | 44 => ⟨S1x512x256, .f32⟩
  | 45 => ⟨S1x512x256, .f32⟩
  | 46 => ⟨S1x512x256, .f32⟩
  | 47 => ⟨S1x512x256, .f32⟩
  | 48 => ⟨S1x512x256, .f32⟩
  | 49 => ⟨S1x512x256, .f32⟩
  | 50 => ⟨S1x512x256, .f32⟩
  | 51 => ⟨S1x512x256, .f32⟩
  | 52 => ⟨S1x512x256, .f32⟩
  | 53 => ⟨S1x512x256, .f32⟩
  | 54 => ⟨S256x512, .f32⟩
  | 55 => ⟨S256x512, .f32⟩
  | 56 => ⟨S256x512, .f32⟩
  | 57 => ⟨S256x512, .f32⟩
  | 58 => ⟨S1x256x512, .f32⟩
  | 59 => ⟨S1x256x512, .f32⟩
  | 60 => ⟨S1x256x512, .f32⟩
  | 61 => ⟨S1x256x512, .f32⟩
  | 62 => ⟨S1x256x512, .f32⟩
  | 63 => ⟨S1x256x512, .f32⟩
  | 64 => ⟨S1x256x512, .f32⟩
  | 65 => ⟨S1x256x512, .f32⟩
  | 66 => ⟨S1x256x512, .f32⟩
  | 67 => ⟨S1x256x512, .f32⟩
  | 68 => ⟨S1x256x512, .f32⟩
  | 69 => ⟨S1x256x512, .f32⟩
  | 70 => ⟨S1x256x512, .f32⟩
  | 71 => ⟨S1x256x512, .f32⟩
  | 72 => ⟨S128x1408, .f32⟩
  | 73 => ⟨S128x1408, .f32⟩
  | 74 => ⟨S128x1408, .f32⟩
  | 75 => ⟨S128x1408, .f32⟩
  | 76 => ⟨S1x128x1408, .f32⟩
  | 77 => ⟨S1x128x1408, .f32⟩
  | 78 => ⟨S1x128x1408, .f32⟩
  | 79 => ⟨S1x128x1408, .f32⟩
  | 80 => ⟨S1x128x1408, .f32⟩
  | 81 => ⟨S1x128x1408, .f32⟩
  | 82 => ⟨S1x128x1408, .f32⟩
  | 83 => ⟨S1x128x1408, .f32⟩
  | 84 => ⟨S1x128x1408, .f32⟩
  | 85 => ⟨S1x128x1408, .f32⟩
  | 86 => ⟨S1x128x1408, .f32⟩
  | 87 => ⟨S1x128x1408, .f32⟩
  | 88 => ⟨S1x128x1408, .f32⟩
  | 89 => ⟨S1x128x1408, .f32⟩
  | 90 => ⟨S128x1408, .f32⟩
  | 91 => ⟨S128x1408, .f32⟩
  | 92 => ⟨S128x1408, .f32⟩
  | 93 => ⟨S128x1408, .f32⟩
  | 94 => ⟨S1x128x1408, .f32⟩
  | 95 => ⟨S1x128x1408, .f32⟩
  | 96 => ⟨S1x128x1408, .f32⟩
  | 97 => ⟨S1x128x1408, .f32⟩
  | 98 => ⟨S1x128x1408, .f32⟩
  | 99 => ⟨S1x128x1408, .f32⟩
  | 100 => ⟨S1x128x1408, .f32⟩
  | 101 => ⟨S1x128x1408, .f32⟩
  | 102 => ⟨S1x128x1408, .f32⟩
  | 103 => ⟨S1x128x1408, .f32⟩
  | 104 => ⟨S1x128x1408, .f32⟩
  | 105 => ⟨S1x128x1408, .f32⟩
  | 106 => ⟨S1x128x1408, .f32⟩
  | 107 => ⟨S1x128x1408, .f32⟩
  | 108 => ⟨S352x512, .f32⟩
  | 109 => ⟨S352x512, .f32⟩
  | 110 => ⟨S352x512, .f32⟩
  | 111 => ⟨S352x512, .f32⟩
  | 112 => ⟨S1x352x512, .f32⟩
  | 113 => ⟨S1x352x512, .f32⟩
  | 114 => ⟨S1x352x512, .f32⟩
  | 115 => ⟨S1x352x512, .f32⟩
  | 116 => ⟨S1x352x512, .f32⟩
  | 117 => ⟨S1x352x512, .f32⟩
  | 118 => ⟨S1x352x512, .f32⟩
  | 119 => ⟨S1x352x512, .f32⟩
  | 120 => ⟨S1x352x512, .f32⟩
  | 121 => ⟨S1x352x512, .f32⟩
  | 122 => ⟨S1x352x512, .f32⟩
  | 123 => ⟨S1x352x512, .f32⟩
  | 124 => ⟨S1x352x512, .f32⟩
  | 125 => ⟨S1x352x512, .f32⟩
  | 126 => ⟨S8x136x128, .f32⟩
  | 127 => ⟨S136x128, .f32⟩
  | _ => ⟨S2336x2048, .f32⟩

abbrev vmemTy0_1 (i : Nat) : BufTy := match i % 128 with
  | 0 => ⟨S136x128, .f32⟩
  | 1 => ⟨S136x128, .f32⟩
  | 2 => ⟨S136x128, .f32⟩
  | 3 => ⟨S136x128, .f32⟩
  | 4 => ⟨S136x128, .f32⟩
  | 5 => ⟨S136x128, .f32⟩
  | _ => ⟨S2336x2048, .f32⟩

abbrev vmemTy (i : Nat) : BufTy := match i / 128 with
  | 0 => vmemTy0_0 i
  | 1 => vmemTy0_1 i
  | _ => ⟨S2336x2048, .f32⟩

abbrev bufTy : (tb : Table) → Fin (tcTables nBuf tb) → BufTy
  | .hbm, ⟨0, _⟩ => ⟨S2336x2048, .f32⟩
  | .hbm, ⟨1, _⟩ => ⟨S2336x2048, .f32⟩
  | .hbm, ⟨2, _⟩ => ⟨S2x1168x2048, .f32⟩
  | .hbm, ⟨3, _⟩ => ⟨S2x1168x2048, .f32⟩
  | .hbm, ⟨4, _⟩ => ⟨S2x1168x2048, .f32⟩
  | .hbm, ⟨5, _⟩ => ⟨S1024x192, .f32⟩
  | .hbm, ⟨6, _⟩ => ⟨S1024x192, .f32⟩
  | .hbm, ⟨7, _⟩ => ⟨S2x512x192, .f32⟩
  | .hbm, ⟨8, _⟩ => ⟨S2x512x192, .f32⟩
  | .hbm, ⟨9, _⟩ => ⟨S2x512x192, .f32⟩
  | .hbm, ⟨10, _⟩ => ⟨S1024x256, .f32⟩
  | .hbm, ⟨11, _⟩ => ⟨S1024x256, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S1024x2048, .f32⟩
  | .hbm, ⟨16, _⟩ => ⟨S1024x2048, .f32⟩
  | .hbm, ⟨17, _⟩ => ⟨S2x512x2048, .f32⟩
  | .hbm, ⟨18, _⟩ => ⟨S2x512x2048, .f32⟩
  | .hbm, ⟨19, _⟩ => ⟨S2x512x2048, .f32⟩
  | .hbm, ⟨20, _⟩ => ⟨S4096x1408, .f32⟩
  | .hbm, ⟨21, _⟩ => ⟨S4096x1408, .f32⟩
  | .hbm, ⟨22, _⟩ => ⟨S2x2048x1408, .f32⟩
  | .hbm, ⟨23, _⟩ => ⟨S2x2048x1408, .f32⟩
  | .hbm, ⟨24, _⟩ => ⟨S2x2048x1408, .f32⟩
  | .hbm, ⟨25, _⟩ => ⟨S4096x1408, .f32⟩
  | .hbm, ⟨26, _⟩ => ⟨S4096x1408, .f32⟩
  | .hbm, ⟨27, _⟩ => ⟨S2x2048x1408, .f32⟩
  | .hbm, ⟨28, _⟩ => ⟨S2x2048x1408, .f32⟩
  | .hbm, ⟨29, _⟩ => ⟨S2x2048x1408, .f32⟩
  | .hbm, ⟨30, _⟩ => ⟨S2816x2048, .f32⟩
  | .hbm, ⟨31, _⟩ => ⟨S2816x2048, .f32⟩
  | .hbm, ⟨32, _⟩ => ⟨S2x1408x2048, .f32⟩
  | .hbm, ⟨33, _⟩ => ⟨S2x1408x2048, .f32⟩
  | .hbm, ⟨34, _⟩ => ⟨S2x1408x2048, .f32⟩
  | .hbm, ⟨35, _⟩ => ⟨S8x136x128, .f32⟩
  | .hbm, ⟨36, _⟩ => ⟨S136x128, .f32⟩
  | .hbm, ⟨37, _⟩ => ⟨S136x128, .f32⟩
  | .hbm, ⟨38, _⟩ => ⟨S136x128, .f32⟩
  | .hbm, ⟨39, _⟩ => ⟨S2x1168x2048, .f32⟩
  | .hbm, ⟨40, _⟩ => ⟨S2x1168x2048, .f32⟩
  | .hbm, ⟨41, _⟩ => ⟨S2x1168x2048, .f32⟩
  | .hbm, ⟨42, _⟩ => ⟨S2x1168x2048, .f32⟩
  | .hbm, ⟨43, _⟩ => ⟨S2x512x192, .f32⟩
  | .hbm, ⟨44, _⟩ => ⟨S2x512x192, .f32⟩
  | .hbm, ⟨45, _⟩ => ⟨S2x512x192, .f32⟩
  | .hbm, ⟨46, _⟩ => ⟨S2x512x192, .f32⟩
  | .hbm, ⟨47, _⟩ => ⟨S2x512x256, .f32⟩
  | .hbm, ⟨48, _⟩ => ⟨S2x512x256, .f32⟩
  | .hbm, ⟨49, _⟩ => ⟨S2x512x256, .f32⟩
  | .hbm, ⟨50, _⟩ => ⟨S2x512x256, .f32⟩
  | .hbm, ⟨51, _⟩ => ⟨S2x512x2048, .f32⟩
  | .hbm, ⟨52, _⟩ => ⟨S2x512x2048, .f32⟩
  | .hbm, ⟨53, _⟩ => ⟨S2x512x2048, .f32⟩
  | .hbm, ⟨54, _⟩ => ⟨S2x512x2048, .f32⟩
  | .hbm, ⟨55, _⟩ => ⟨S2x2048x1408, .f32⟩
  | .hbm, ⟨56, _⟩ => ⟨S2x2048x1408, .f32⟩
  | .hbm, ⟨57, _⟩ => ⟨S2x2048x1408, .f32⟩
  | .hbm, ⟨58, _⟩ => ⟨S2x2048x1408, .f32⟩
  | .hbm, ⟨59, _⟩ => ⟨S2x2048x1408, .f32⟩
  | .hbm, ⟨60, _⟩ => ⟨S2x2048x1408, .f32⟩
  | .hbm, ⟨61, _⟩ => ⟨S2x2048x1408, .f32⟩
  | .hbm, ⟨62, _⟩ => ⟨S2x2048x1408, .f32⟩
  | .hbm, ⟨63, _⟩ => ⟨S2x1408x2048, .f32⟩
  | .hbm, ⟨64, _⟩ => ⟨S2x1408x2048, .f32⟩
  | .hbm, ⟨65, _⟩ => ⟨S2x1408x2048, .f32⟩
  | .hbm, ⟨66, _⟩ => ⟨S2x1408x2048, .f32⟩
  | .hbm, ⟨67, _⟩ => ⟨S136x128, .f32⟩
  | .hbm, ⟨68, _⟩ => ⟨S136x128, .f32⟩
  | .hbm, ⟨69, _⟩ => ⟨S136x128, .f32⟩
  | .hbm, ⟨70, _⟩ => ⟨S136x128, .f32⟩
  | .local _ .vmem, ⟨i, _⟩ => vmemTy i
  | _, _ => ⟨S2336x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0_0 : Ref sig .tc := ⟨.hbm, 39, rfl⟩
abbrev main_v0_1 : Ref sig .tc := ⟨.hbm, 40, rfl⟩
abbrev main_v0_2 : Ref sig .tc := ⟨.hbm, 41, rfl⟩
abbrev main_v0_3 : Ref sig .tc := ⟨.hbm, 42, rfl⟩
abbrev main_v1_0 : Ref sig .tc := ⟨.hbm, 43, rfl⟩
abbrev main_v1_1 : Ref sig .tc := ⟨.hbm, 44, rfl⟩
abbrev main_v1_2 : Ref sig .tc := ⟨.hbm, 45, rfl⟩
abbrev main_v1_3 : Ref sig .tc := ⟨.hbm, 46, rfl⟩
abbrev main_v2_0 : Ref sig .tc := ⟨.hbm, 47, rfl⟩
abbrev main_v2_1 : Ref sig .tc := ⟨.hbm, 48, rfl⟩
abbrev main_v2_2 : Ref sig .tc := ⟨.hbm, 49, rfl⟩
abbrev main_v2_3 : Ref sig .tc := ⟨.hbm, 50, rfl⟩
abbrev main_v3_0 : Ref sig .tc := ⟨.hbm, 51, rfl⟩
abbrev main_v3_1 : Ref sig .tc := ⟨.hbm, 52, rfl⟩
abbrev main_v3_2 : Ref sig .tc := ⟨.hbm, 53, rfl⟩
abbrev main_v3_3 : Ref sig .tc := ⟨.hbm, 54, rfl⟩
abbrev main_v4_0 : Ref sig .tc := ⟨.hbm, 55, rfl⟩
abbrev main_v4_1 : Ref sig .tc := ⟨.hbm, 56, rfl⟩
abbrev main_v4_2 : Ref sig .tc := ⟨.hbm, 57, rfl⟩
abbrev main_v4_3 : Ref sig .tc := ⟨.hbm, 58, rfl⟩
abbrev main_v5_0 : Ref sig .tc := ⟨.hbm, 59, rfl⟩
abbrev main_v5_1 : Ref sig .tc := ⟨.hbm, 60, rfl⟩
abbrev main_v5_2 : Ref sig .tc := ⟨.hbm, 61, rfl⟩
abbrev main_v5_3 : Ref sig .tc := ⟨.hbm, 62, rfl⟩
abbrev main_v6_0 : Ref sig .tc := ⟨.hbm, 63, rfl⟩
abbrev main_v6_1 : Ref sig .tc := ⟨.hbm, 64, rfl⟩
abbrev main_v6_2 : Ref sig .tc := ⟨.hbm, 65, rfl⟩
abbrev main_v6_3 : Ref sig .tc := ⟨.hbm, 66, rfl⟩
abbrev main_v7_0 : Ref sig .tc := ⟨.hbm, 67, rfl⟩
abbrev main_v7_1 : Ref sig .tc := ⟨.hbm, 68, rfl⟩
abbrev main_v7_2 : Ref sig .tc := ⟨.hbm, 69, rfl⟩
abbrev main_v7_3 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc3_stg6_0 : Ref sig .tc := ⟨.vmem, 66, rfl⟩
abbrev cc3_stg6_1 : Ref sig .tc := ⟨.vmem, 67, rfl⟩
abbrev cc3_stg7_0 : Ref sig .tc := ⟨.vmem, 68, rfl⟩
abbrev cc3_stg7_1 : Ref sig .tc := ⟨.vmem, 69, rfl⟩
abbrev cc3_stg8_0 : Ref sig .tc := ⟨.vmem, 70, rfl⟩
abbrev cc3_stg8_1 : Ref sig .tc := ⟨.vmem, 71, rfl⟩
abbrev cc4_stg0_0 : Ref sig .tc := ⟨.vmem, 72, rfl⟩
abbrev cc4_stg0_1 : Ref sig .tc := ⟨.vmem, 73, rfl⟩
abbrev cc4_stg1_0 : Ref sig .tc := ⟨.vmem, 74, rfl⟩
abbrev cc4_stg1_1 : Ref sig .tc := ⟨.vmem, 75, rfl⟩
abbrev cc4_stg2_0 : Ref sig .tc := ⟨.vmem, 76, rfl⟩
abbrev cc4_stg2_1 : Ref sig .tc := ⟨.vmem, 77, rfl⟩
abbrev cc4_stg3_0 : Ref sig .tc := ⟨.vmem, 78, rfl⟩
abbrev cc4_stg3_1 : Ref sig .tc := ⟨.vmem, 79, rfl⟩
abbrev cc4_stg4_0 : Ref sig .tc := ⟨.vmem, 80, rfl⟩
abbrev cc4_stg4_1 : Ref sig .tc := ⟨.vmem, 81, rfl⟩
abbrev cc4_stg5_0 : Ref sig .tc := ⟨.vmem, 82, rfl⟩
abbrev cc4_stg5_1 : Ref sig .tc := ⟨.vmem, 83, rfl⟩
abbrev cc4_stg6_0 : Ref sig .tc := ⟨.vmem, 84, rfl⟩
abbrev cc4_stg6_1 : Ref sig .tc := ⟨.vmem, 85, rfl⟩
abbrev cc4_stg7_0 : Ref sig .tc := ⟨.vmem, 86, rfl⟩
abbrev cc4_stg7_1 : Ref sig .tc := ⟨.vmem, 87, rfl⟩
abbrev cc4_stg8_0 : Ref sig .tc := ⟨.vmem, 88, rfl⟩
abbrev cc4_stg8_1 : Ref sig .tc := ⟨.vmem, 89, rfl⟩
abbrev cc5_stg0_0 : Ref sig .tc := ⟨.vmem, 90, rfl⟩
abbrev cc5_stg0_1 : Ref sig .tc := ⟨.vmem, 91, rfl⟩
abbrev cc5_stg1_0 : Ref sig .tc := ⟨.vmem, 92, rfl⟩
abbrev cc5_stg1_1 : Ref sig .tc := ⟨.vmem, 93, rfl⟩
abbrev cc5_stg2_0 : Ref sig .tc := ⟨.vmem, 94, rfl⟩
abbrev cc5_stg2_1 : Ref sig .tc := ⟨.vmem, 95, rfl⟩
abbrev cc5_stg3_0 : Ref sig .tc := ⟨.vmem, 96, rfl⟩
abbrev cc5_stg3_1 : Ref sig .tc := ⟨.vmem, 97, rfl⟩
abbrev cc5_stg4_0 : Ref sig .tc := ⟨.vmem, 98, rfl⟩
abbrev cc5_stg4_1 : Ref sig .tc := ⟨.vmem, 99, rfl⟩
abbrev cc5_stg5_0 : Ref sig .tc := ⟨.vmem, 100, rfl⟩
abbrev cc5_stg5_1 : Ref sig .tc := ⟨.vmem, 101, rfl⟩
abbrev cc5_stg6_0 : Ref sig .tc := ⟨.vmem, 102, rfl⟩
abbrev cc5_stg6_1 : Ref sig .tc := ⟨.vmem, 103, rfl⟩
abbrev cc5_stg7_0 : Ref sig .tc := ⟨.vmem, 104, rfl⟩
abbrev cc5_stg7_1 : Ref sig .tc := ⟨.vmem, 105, rfl⟩
abbrev cc5_stg8_0 : Ref sig .tc := ⟨.vmem, 106, rfl⟩
abbrev cc5_stg8_1 : Ref sig .tc := ⟨.vmem, 107, rfl⟩
abbrev cc6_stg0_0 : Ref sig .tc := ⟨.vmem, 108, rfl⟩
abbrev cc6_stg0_1 : Ref sig .tc := ⟨.vmem, 109, rfl⟩
abbrev cc6_stg1_0 : Ref sig .tc := ⟨.vmem, 110, rfl⟩
abbrev cc6_stg1_1 : Ref sig .tc := ⟨.vmem, 111, rfl⟩
abbrev cc6_stg2_0 : Ref sig .tc := ⟨.vmem, 112, rfl⟩
abbrev cc6_stg2_1 : Ref sig .tc := ⟨.vmem, 113, rfl⟩
abbrev cc6_stg3_0 : Ref sig .tc := ⟨.vmem, 114, rfl⟩
abbrev cc6_stg3_1 : Ref sig .tc := ⟨.vmem, 115, rfl⟩
abbrev cc6_stg4_0 : Ref sig .tc := ⟨.vmem, 116, rfl⟩
abbrev cc6_stg4_1 : Ref sig .tc := ⟨.vmem, 117, rfl⟩
abbrev cc6_stg5_0 : Ref sig .tc := ⟨.vmem, 118, rfl⟩
abbrev cc6_stg5_1 : Ref sig .tc := ⟨.vmem, 119, rfl⟩
abbrev cc6_stg6_0 : Ref sig .tc := ⟨.vmem, 120, rfl⟩
abbrev cc6_stg6_1 : Ref sig .tc := ⟨.vmem, 121, rfl⟩
abbrev cc6_stg7_0 : Ref sig .tc := ⟨.vmem, 122, rfl⟩
abbrev cc6_stg7_1 : Ref sig .tc := ⟨.vmem, 123, rfl⟩
abbrev cc6_stg8_0 : Ref sig .tc := ⟨.vmem, 124, rfl⟩
abbrev cc6_stg8_1 : Ref sig .tc := ⟨.vmem, 125, rfl⟩
abbrev cc7_stg0_0 : Ref sig .tc := ⟨.vmem, 126, rfl⟩
abbrev cc7_stg1_0 : Ref sig .tc := ⟨.vmem, 127, rfl⟩
abbrev cc7_stg2_0 : Ref sig .tc := ⟨.vmem, 128, rfl⟩
abbrev cc7_stg3_0 : Ref sig .tc := ⟨.vmem, 129, rfl⟩
abbrev cc7_stg4_0 : Ref sig .tc := ⟨.vmem, 130, rfl⟩
abbrev cc7_stg5_0 : Ref sig .tc := ⟨.vmem, 131, rfl⟩
abbrev cc7_stg6_0 : Ref sig .tc := ⟨.vmem, 132, rfl⟩
abbrev cc7_stg7_0 : Ref sig .tc := ⟨.vmem, 133, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem5_1 : DmaSem sig := 65
abbrev cc3_sem6_0 : DmaSem sig := 66
abbrev cc3_sem6_1 : DmaSem sig := 67
abbrev cc3_sem7_0 : DmaSem sig := 68
abbrev cc3_sem7_1 : DmaSem sig := 69
abbrev cc3_sem8_0 : DmaSem sig := 70
abbrev cc3_sem8_1 : DmaSem sig := 71
abbrev cc4_sem0_0 : DmaSem sig := 72
abbrev cc4_sem0_1 : DmaSem sig := 73
abbrev cc4_sem1_0 : DmaSem sig := 74
abbrev cc4_sem1_1 : DmaSem sig := 75
abbrev cc4_sem2_0 : DmaSem sig := 76
abbrev cc4_sem2_1 : DmaSem sig := 77
abbrev cc4_sem3_0 : DmaSem sig := 78
abbrev cc4_sem3_1 : DmaSem sig := 79
abbrev cc4_sem4_0 : DmaSem sig := 80
abbrev cc4_sem4_1 : DmaSem sig := 81
abbrev cc4_sem5_0 : DmaSem sig := 82
abbrev cc4_sem5_1 : DmaSem sig := 83
abbrev cc4_sem6_0 : DmaSem sig := 84
abbrev cc4_sem6_1 : DmaSem sig := 85
abbrev cc4_sem7_0 : DmaSem sig := 86
abbrev cc4_sem7_1 : DmaSem sig := 87
abbrev cc4_sem8_0 : DmaSem sig := 88
abbrev cc4_sem8_1 : DmaSem sig := 89
abbrev cc5_sem0_0 : DmaSem sig := 90
abbrev cc5_sem0_1 : DmaSem sig := 91
abbrev cc5_sem1_0 : DmaSem sig := 92
abbrev cc5_sem1_1 : DmaSem sig := 93
abbrev cc5_sem2_0 : DmaSem sig := 94
abbrev cc5_sem2_1 : DmaSem sig := 95
abbrev cc5_sem3_0 : DmaSem sig := 96
abbrev cc5_sem3_1 : DmaSem sig := 97
abbrev cc5_sem4_0 : DmaSem sig := 98
abbrev cc5_sem4_1 : DmaSem sig := 99
abbrev cc5_sem5_0 : DmaSem sig := 100
abbrev cc5_sem5_1 : DmaSem sig := 101
abbrev cc5_sem6_0 : DmaSem sig := 102
abbrev cc5_sem6_1 : DmaSem sig := 103
abbrev cc5_sem7_0 : DmaSem sig := 104
abbrev cc5_sem7_1 : DmaSem sig := 105
abbrev cc5_sem8_0 : DmaSem sig := 106
abbrev cc5_sem8_1 : DmaSem sig := 107
abbrev cc6_sem0_0 : DmaSem sig := 108
abbrev cc6_sem0_1 : DmaSem sig := 109
abbrev cc6_sem1_0 : DmaSem sig := 110
abbrev cc6_sem1_1 : DmaSem sig := 111
abbrev cc6_sem2_0 : DmaSem sig := 112
abbrev cc6_sem2_1 : DmaSem sig := 113
abbrev cc6_sem3_0 : DmaSem sig := 114
abbrev cc6_sem3_1 : DmaSem sig := 115
abbrev cc6_sem4_0 : DmaSem sig := 116
abbrev cc6_sem4_1 : DmaSem sig := 117
abbrev cc6_sem5_0 : DmaSem sig := 118
abbrev cc6_sem5_1 : DmaSem sig := 119
abbrev cc6_sem6_0 : DmaSem sig := 120
abbrev cc6_sem6_1 : DmaSem sig := 121
abbrev cc6_sem7_0 : DmaSem sig := 122
abbrev cc6_sem7_1 : DmaSem sig := 123
abbrev cc6_sem8_0 : DmaSem sig := 124
abbrev cc6_sem8_1 : DmaSem sig := 125
abbrev cc7_sem0_0 : DmaSem sig := 126
abbrev cc7_sem1_0 : DmaSem sig := 127
abbrev cc7_sem2_0 : DmaSem sig := 128
abbrev cc7_sem3_0 : DmaSem sig := 129
abbrev cc7_sem4_0 : DmaSem sig := 130
abbrev cc7_sem5_0 : DmaSem sig := 131
abbrev cc7_sem6_0 : DmaSem sig := 132
abbrev cc7_sem7_0 : DmaSem sig := 133

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S584x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S584x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x584x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x584x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x584x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x584x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x584x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x584x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x584x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![v1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![v1.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S512x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S512x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x512x192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x512x192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x512x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x512x192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S1x512x192 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![v1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![v1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_8 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 2 → Memref sig .tc .vmem S1x512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

abbrev stage2_6 : Fin 2 → Memref sig .tc .vmem S1x512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true]

abbrev stage2_7 : Fin 2 → Memref sig .tc .vmem S1x512x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, true]

abbrev stage2_8 : Fin 2 → Memref sig .tc .vmem S1x512x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true, true]

abbrev grid3 : Pipeline.Grid := ⟨3, ![2, 2, 4], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_7 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_8 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 2 → Memref sig .tc .vmem S256x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S256x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x256x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x256x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x256x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x256x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev stage3_6 : Fin 2 → Memref sig .tc .vmem S1x256x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, true]

abbrev stage3_7 : Fin 2 → Memref sig .tc .vmem S1x256x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true, true]

abbrev stage3_8 : Fin 2 → Memref sig .tc .vmem S1x256x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true, true]

abbrev grid4 : Pipeline.Grid := ⟨3, ![2, 16, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_4 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_5 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_6 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_7 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc4_transform_8 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage4_0 : Fin 2 → Memref sig .tc .vmem S128x1408 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, true]

abbrev stage4_1 : Fin 2 → Memref sig .tc .vmem S128x1408 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true, true]

abbrev stage4_2 : Fin 2 → Memref sig .tc .vmem S1x128x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true]

abbrev stage4_3 : Fin 2 → Memref sig .tc .vmem S1x128x1408 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, true]

abbrev stage4_4 : Fin 2 → Memref sig .tc .vmem S1x128x1408 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, true]

abbrev stage4_5 : Fin 2 → Memref sig .tc .vmem S1x128x1408 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true, true]

abbrev stage4_6 : Fin 2 → Memref sig .tc .vmem S1x128x1408 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true, true]

abbrev stage4_7 : Fin 2 → Memref sig .tc .vmem S1x128x1408 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true, true]

abbrev stage4_8 : Fin 2 → Memref sig .tc .vmem S1x128x1408 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true, true]

abbrev grid5 : Pipeline.Grid := ⟨3, ![2, 16, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_4 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_5 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_6 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_7 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_8 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage5_0 : Fin 2 → Memref sig .tc .vmem S128x1408 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, true]

abbrev stage5_1 : Fin 2 → Memref sig .tc .vmem S128x1408 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true, true]

abbrev stage5_2 : Fin 2 → Memref sig .tc .vmem S1x128x1408 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true]

abbrev stage5_3 : Fin 2 → Memref sig .tc .vmem S1x128x1408 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, true]

abbrev stage5_4 : Fin 2 → Memref sig .tc .vmem S1x128x1408 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, true]

abbrev stage5_5 : Fin 2 → Memref sig .tc .vmem S1x128x1408 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true, true]

abbrev stage5_6 : Fin 2 → Memref sig .tc .vmem S1x128x1408 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true, true]

abbrev stage5_7 : Fin 2 → Memref sig .tc .vmem S1x128x1408 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true, true]

abbrev stage5_8 : Fin 2 → Memref sig .tc .vmem S1x128x1408 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true, true]

abbrev grid6 : Pipeline.Grid := ⟨3, ![2, 4, 4], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_4 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_5 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_6 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_7 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc6_transform_8 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage6_0 : Fin 2 → Memref sig .tc .vmem S352x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true, true]

abbrev stage6_1 : Fin 2 → Memref sig .tc .vmem S352x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true, true]

abbrev stage6_2 : Fin 2 → Memref sig .tc .vmem S1x352x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, true]

abbrev stage6_3 : Fin 2 → Memref sig .tc .vmem S1x352x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, true]

abbrev stage6_4 : Fin 2 → Memref sig .tc .vmem S1x352x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true, true]

abbrev stage6_5 : Fin 2 → Memref sig .tc .vmem S1x352x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true, true]

abbrev stage6_6 : Fin 2 → Memref sig .tc .vmem S1x352x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true, true]

abbrev stage6_7 : Fin 2 → Memref sig .tc .vmem S1x352x512 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true, true]

abbrev stage6_8 : Fin 2 → Memref sig .tc .vmem S1x352x512 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, true, true]

abbrev grid7 : Pipeline.Grid := .none

abbrev stage7_0 : Fin 1 → Memref sig .tc .vmem S8x136x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S136x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S136x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S136x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S136x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S136x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S136x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))

abbrev stage7_7 : Fin 1 → Memref sig .tc .vmem S136x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
-- ==== Reference7Ideal.lean ====
abbrev S2336x2048 : Shape := ⟨2, ![2336, 2048]⟩
abbrev S2x1168x2048 : Shape := ⟨3, ![2, 1168, 2048]⟩
abbrev S1024x192 : Shape := ⟨2, ![1024, 192]⟩
abbrev S2x512x192 : Shape := ⟨3, ![2, 512, 192]⟩
abbrev S1024x256 : Shape := ⟨2, ![1024, 256]⟩
abbrev S2x512x256 : Shape := ⟨3, ![2, 512, 256]⟩
abbrev S1024x2048 : Shape := ⟨2, ![1024, 2048]⟩
abbrev S2x512x2048 : Shape := ⟨3, ![2, 512, 2048]⟩
abbrev S4096x1408 : Shape := ⟨2, ![4096, 1408]⟩
abbrev S2x2048x1408 : Shape := ⟨3, ![2, 2048, 1408]⟩
abbrev S2816x2048 : Shape := ⟨2, ![2816, 2048]⟩
abbrev S2x1408x2048 : Shape := ⟨3, ![2, 1408, 2048]⟩
abbrev S8x136x128 : Shape := ⟨3, ![8, 136, 128]⟩
abbrev S136x128 : Shape := ⟨2, ![136, 128]⟩
abbrev S_ : Shape := ⟨0, ![]⟩

abbrev nBuf : Space → Nat
  | .hbm => 319
  | .vmem => 0
  | .smem => 0
  | _ => 0

abbrev hbmTy0_0 (i : Nat) : BufTy := match i % 128 with
  | 0 => ⟨S2336x2048, .f32⟩
  | 1 => ⟨S2336x2048, .f32⟩
  | 2 => ⟨S2x1168x2048, .f32⟩
  | 3 => ⟨S2x1168x2048, .f32⟩
  | 4 => ⟨S2x1168x2048, .f32⟩
  | 5 => ⟨S1024x192, .f32⟩
  | 6 => ⟨S1024x192, .f32⟩
  | 7 => ⟨S2x512x192, .f32⟩
  | 8 => ⟨S2x512x192, .f32⟩
  | 9 => ⟨S2x512x192, .f32⟩
  | 10 => ⟨S1024x256, .f32⟩
  | 11 => ⟨S1024x256, .f32⟩
  | 12 => ⟨S2x512x256, .f32⟩
  | 13 => ⟨S2x512x256, .f32⟩
  | 14 => ⟨S2x512x256, .f32⟩
  | 15 => ⟨S1024x2048, .f32⟩
  | 16 => ⟨S1024x2048, .f32⟩
  | 17 => ⟨S2x512x2048, .f32⟩
  | 18 => ⟨S2x512x2048, .f32⟩
  | 19 => ⟨S2x512x2048, .f32⟩
  | 20 => ⟨S4096x1408, .f32⟩
  | 21 => ⟨S4096x1408, .f32⟩
  | 22 => ⟨S2x2048x1408, .f32⟩
  | 23 => ⟨S2x2048x1408, .f32⟩
  | 24 => ⟨S2x2048x1408, .f32⟩
  | 25 => ⟨S4096x1408, .f32⟩
  | 26 => ⟨S4096x1408, .f32⟩
  | 27 => ⟨S2x2048x1408, .f32⟩
  | 28 => ⟨S2x2048x1408, .f32⟩
  | 29 => ⟨S2x2048x1408, .f32⟩
  | 30 => ⟨S2816x2048, .f32⟩
  | 31 => ⟨S2816x2048, .f32⟩
  | 32 => ⟨S2x1408x2048, .f32⟩
  | 33 => ⟨S2x1408x2048, .f32⟩
  | 34 => ⟨S2x1408x2048, .f32⟩
  | 35 => ⟨S8x136x128, .f32⟩
  | 36 => ⟨S136x128, .f32⟩
  | 37 => ⟨S136x128, .f32⟩
  | 38 => ⟨S136x128, .f32⟩
  | 39 => ⟨S2336x2048, .f32⟩
  | 40 => ⟨S2x1168x2048, .f32⟩
  | 41 => ⟨S1024x192, .f32⟩
  | 42 => ⟨S2x512x192, .f32⟩
  | 43 => ⟨S1024x256, .f32⟩
  | 44 => ⟨S2x512x256, .f32⟩
  | 45 => ⟨S1024x2048, .f32⟩
  | 46 => ⟨S2x512x2048, .f32⟩
  | 47 => ⟨S4096x1408, .f32⟩
  | 48 => ⟨S2x2048x1408, .f32⟩
  | 49 => ⟨S4096x1408, .f32⟩
  | 50 => ⟨S2x2048x1408, .f32⟩
  | 51 => ⟨S2816x2048, .f32⟩
  | 52 => ⟨S2x1408x2048, .f32⟩
  | 53 => ⟨S_, .f32⟩
  | 54 => ⟨S136x128, .f32⟩
  | 55 => ⟨S_, .f32⟩
  | 56 => ⟨S2x1168x2048, .f32⟩
  | 57 => ⟨S2x1168x2048, .f32⟩
  | 58 => ⟨S_, .f32⟩
  | 59 => ⟨S2x1168x2048, .f32⟩
  | 60 => ⟨S2x1168x2048, .f32⟩
  | 61 => ⟨S2x1168x2048, .f32⟩
  | 62 => ⟨S_, .f32⟩
  | 63 => ⟨S2x1168x2048, .f32⟩
  | 64 => ⟨S2x1168x2048, .f32⟩
  | 65 => ⟨S2x1168x2048, .f32⟩
  | 66 => ⟨S_, .f32⟩
  | 67 => ⟨S2x1168x2048, .f32⟩
  | 68 => ⟨S2x1168x2048, .f32⟩
  | 69 => ⟨S2x1168x2048, .f32⟩
  | 70 => ⟨S_, .f32⟩
  | 71 => ⟨S2x1168x2048, .f32⟩
  | 72 => ⟨S2x1168x2048, .f32⟩
  | 73 => ⟨S_, .f32⟩
  | 74 => ⟨S2x1168x2048, .f32⟩
  | 75 => ⟨S2x1168x2048, .f32⟩
  | 76 => ⟨S2x1168x2048, .f32⟩
  | 77 => ⟨S_, .f32⟩
  | 78 => ⟨S2x1168x2048, .f32⟩
  | 79 => ⟨S2x1168x2048, .f32⟩
  | 80 => ⟨S2x1168x2048, .f32⟩
  | 81 => ⟨S_, .f32⟩
  | 82 => ⟨S2x1168x2048, .f32⟩
  | 83 => ⟨S2x1168x2048, .f32⟩
  | 84 => ⟨S2x1168x2048, .f32⟩
  | 85 => ⟨S_, .f32⟩
  | 86 => ⟨S2x1168x2048, .f32⟩
  | 87 => ⟨S2x1168x2048, .f32⟩
  | 88 => ⟨S_, .f32⟩
  | 89 => ⟨S2x512x192, .f32⟩
  | 90 => ⟨S2x512x192, .f32⟩
  | 91 => ⟨S_, .f32⟩
  | 92 => ⟨S2x512x192, .f32⟩
  | 93 => ⟨S2x512x192, .f32⟩
  | 94 => ⟨S2x512x192, .f32⟩
  | 95 => ⟨S_, .f32⟩
  | 96 => ⟨S2x512x192, .f32⟩
  | 97 => ⟨S2x512x192, .f32⟩
  | 98 => ⟨S2x512x192, .f32⟩
  | 99 => ⟨S_, .f32⟩
  | 100 => ⟨S2x512x192, .f32⟩
  | 101 => ⟨S2x512x192, .f32⟩
  | 102 => ⟨S2x512x192, .f32⟩
  | 103 => ⟨S_, .f32⟩
  | 104 => ⟨S2x512x192, .f32⟩
  | 105 => ⟨S2x512x192, .f32⟩
  | 106 => ⟨S_, .f32⟩
  | 107 => ⟨S2x512x192, .f32⟩
  | 108 => ⟨S2x512x192, .f32⟩
  | 109 => ⟨S2x512x192, .f32⟩
  | 110 => ⟨S_, .f32⟩
  | 111 => ⟨S2x512x192, .f32⟩
  | 112 => ⟨S2x512x192, .f32⟩
  | 113 => ⟨S2x512x192, .f32⟩
  | 114 => ⟨S_, .f32⟩
  | 115 => ⟨S2x512x192, .f32⟩
  | 116 => ⟨S2x512x192, .f32⟩
  | 117 => ⟨S2x512x192, .f32⟩
  | 118 => ⟨S_, .f32⟩
  | 119 => ⟨S2x512x192, .f32⟩
  | 120 => ⟨S2x512x192, .f32⟩
  | 121 => ⟨S_, .f32⟩
  | 122 => ⟨S2x512x256, .f32⟩
  | 123 => ⟨S2x512x256, .f32⟩
  | 124 => ⟨S_, .f32⟩
  | 125 => ⟨S2x512x256, .f32⟩
  | 126 => ⟨S2x512x256, .f32⟩
  | 127 => ⟨S2x512x256, .f32⟩
  | _ => ⟨S2336x2048, .f32⟩

abbrev hbmTy0_1 (i : Nat) : BufTy := match i % 128 with
  | 0 => ⟨S_, .f32⟩
  | 1 => ⟨S2x512x256, .f32⟩
  | 2 => ⟨S2x512x256, .f32⟩
  | 3 => ⟨S2x512x256, .f32⟩
  | 4 => ⟨S_, .f32⟩
  | 5 => ⟨S2x512x256, .f32⟩
  | 6 => ⟨S2x512x256, .f32⟩
  | 7 => ⟨S2x512x256, .f32⟩
  | 8 => ⟨S_, .f32⟩
  | 9 => ⟨S2x512x256, .f32⟩
  | 10 => ⟨S2x512x256, .f32⟩
  | 11 => ⟨S_, .f32⟩
  | 12 => ⟨S2x512x256, .f32⟩
  | 13 => ⟨S2x512x256, .f32⟩
  | 14 => ⟨S2x512x256, .f32⟩
  | 15 => ⟨S_, .f32⟩
  | 16 => ⟨S2x512x256, .f32⟩
  | 17 => ⟨S2x512x256, .f32⟩
  | 18 => ⟨S2x512x256, .f32⟩
  | 19 => ⟨S_, .f32⟩
  | 20 => ⟨S2x512x256, .f32⟩
  | 21 => ⟨S2x512x256, .f32⟩
  | 22 => ⟨S2x512x256, .f32⟩
  | 23 => ⟨S_, .f32⟩
  | 24 => ⟨S2x512x256, .f32⟩
  | 25 => ⟨S2x512x256, .f32⟩
  | 26 => ⟨S_, .f32⟩
  | 27 => ⟨S2x512x2048, .f32⟩
  | 28 => ⟨S2x512x2048, .f32⟩
  | 29 => ⟨S_, .f32⟩
  | 30 => ⟨S2x512x2048, .f32⟩
  | 31 => ⟨S2x512x2048, .f32⟩
  | 32 => ⟨S2x512x2048, .f32⟩
  | 33 => ⟨S_, .f32⟩
  | 34 => ⟨S2x512x2048, .f32⟩
  | 35 => ⟨S2x512x2048, .f32⟩
  | 36 => ⟨S2x512x2048, .f32⟩
  | 37 => ⟨S_, .f32⟩
  | 38 => ⟨S2x512x2048, .f32⟩
  | 39 => ⟨S2x512x2048, .f32⟩
  | 40 => ⟨S2x512x2048, .f32⟩
  | 41 => ⟨S_, .f32⟩
  | 42 => ⟨S2x512x2048, .f32⟩
  | 43 => ⟨S2x512x2048, .f32⟩
  | 44 => ⟨S_, .f32⟩
  | 45 => ⟨S2x512x2048, .f32⟩
  | 46 => ⟨S2x512x2048, .f32⟩
  | 47 => ⟨S2x512x2048, .f32⟩
  | 48 => ⟨S_, .f32⟩
  | 49 => ⟨S2x512x2048, .f32⟩
  | 50 => ⟨S2x512x2048, .f32⟩
  | 51 => ⟨S2x512x2048, .f32⟩
  | 52 => ⟨S_, .f32⟩
  | 53 => ⟨S2x512x2048, .f32⟩
  | 54 => ⟨S2x512x2048, .f32⟩
  | 55 => ⟨S2x512x2048, .f32⟩
  | 56 => ⟨S_, .f32⟩
  | 57 => ⟨S2x512x2048, .f32⟩
  | 58 => ⟨S2x512x2048, .f32⟩
  | 59 => ⟨S_, .f32⟩
  | 60 => ⟨S2x2048x1408, .f32⟩
  | 61 => ⟨S2x2048x1408, .f32⟩
  | 62 => ⟨S_, .f32⟩
  | 63 => ⟨S2x2048x1408, .f32⟩
  | 64 => ⟨S2x2048x1408, .f32⟩
  | 65 => ⟨S2x2048x1408, .f32⟩
  | 66 => ⟨S_, .f32⟩
  | 67 => ⟨S2x2048x1408, .f32⟩
  | 68 => ⟨S2x2048x1408, .f32⟩
  | 69 => ⟨S2x2048x1408, .f32⟩
  | 70 => ⟨S_, .f32⟩
  | 71 => ⟨S2x2048x1408, .f32⟩
  | 72 => ⟨S2x2048x1408, .f32⟩
  | 73 => ⟨S2x2048x1408, .f32⟩
  | 74 => ⟨S_, .f32⟩
  | 75 => ⟨S2x2048x1408, .f32⟩
  | 76 => ⟨S2x2048x1408, .f32⟩
  | 77 => ⟨S_, .f32⟩
  | 78 => ⟨S2x2048x1408, .f32⟩
  | 79 => ⟨S2x2048x1408, .f32⟩
  | 80 => ⟨S2x2048x1408, .f32⟩
  | 81 => ⟨S_, .f32⟩
  | 82 => ⟨S2x2048x1408, .f32⟩
  | 83 => ⟨S2x2048x1408, .f32⟩
  | 84 => ⟨S2x2048x1408, .f32⟩
  | 85 => ⟨S_, .f32⟩
  | 86 => ⟨S2x2048x1408, .f32⟩
  | 87 => ⟨S2x2048x1408, .f32⟩
  | 88 => ⟨S2x2048x1408, .f32⟩
  | 89 => ⟨S_, .f32⟩
  | 90 => ⟨S2x2048x1408, .f32⟩
  | 91 => ⟨S2x2048x1408, .f32⟩
  | 92 => ⟨S_, .f32⟩
  | 93 => ⟨S2x2048x1408, .f32⟩
  | 94 => ⟨S2x2048x1408, .f32⟩
  | 95 => ⟨S_, .f32⟩
  | 96 => ⟨S2x2048x1408, .f32⟩
  | 97 => ⟨S2x2048x1408, .f32⟩
  | 98 => ⟨S2x2048x1408, .f32⟩
  | 99 => ⟨S_, .f32⟩
  | 100 => ⟨S2x2048x1408, .f32⟩
  | 101 => ⟨S2x2048x1408, .f32⟩
  | 102 => ⟨S2x2048x1408, .f32⟩
  | 103 => ⟨S_, .f32⟩
  | 104 => ⟨S2x2048x1408, .f32⟩
  | 105 => ⟨S2x2048x1408, .f32⟩
  | 106 => ⟨S2x2048x1408, .f32⟩
  | 107 => ⟨S_, .f32⟩
  | 108 => ⟨S2x2048x1408, .f32⟩
  | 109 => ⟨S2x2048x1408, .f32⟩
  | 110 => ⟨S_, .f32⟩
  | 111 => ⟨S2x2048x1408, .f32⟩
  | 112 => ⟨S2x2048x1408, .f32⟩
  | 113 => ⟨S2x2048x1408, .f32⟩
  | 114 => ⟨S_, .f32⟩
  | 115 => ⟨S2x2048x1408, .f32⟩
  | 116 => ⟨S2x2048x1408, .f32⟩
  | 117 => ⟨S2x2048x1408, .f32⟩
  | 118 => ⟨S_, .f32⟩
  | 119 => ⟨S2x2048x1408, .f32⟩
  | 120 => ⟨S2x2048x1408, .f32⟩
  | 121 => ⟨S2x2048x1408, .f32⟩
  | 122 => ⟨S_, .f32⟩
  | 123 => ⟨S2x2048x1408, .f32⟩
  | 124 => ⟨S2x2048x1408, .f32⟩
  | 125 => ⟨S_, .f32⟩
  | 126 => ⟨S2x1408x2048, .f32⟩
  | 127 => ⟨S2x1408x2048, .f32⟩
  | _ => ⟨S2336x2048, .f32⟩

abbrev hbmTy0_2 (i : Nat) : BufTy := match i % 128 with
  | 0 => ⟨S_, .f32⟩
  | 1 => ⟨S2x1408x2048, .f32⟩
  | 2 => ⟨S2x1408x2048, .f32⟩
  | 3 => ⟨S2x1408x2048, .f32⟩
  | 4 => ⟨S_, .f32⟩
  | 5 => ⟨S2x1408x2048, .f32⟩
  | 6 => ⟨S2x1408x2048, .f32⟩
  | 7 => ⟨S2x1408x2048, .f32⟩
  | 8 => ⟨S_, .f32⟩
  | 9 => ⟨S2x1408x2048, .f32⟩
  | 10 => ⟨S2x1408x2048, .f32⟩
  | 11 => ⟨S2x1408x2048, .f32⟩
  | 12 => ⟨S_, .f32⟩
  | 13 => ⟨S2x1408x2048, .f32⟩
  | 14 => ⟨S2x1408x2048, .f32⟩
  | 15 => ⟨S_, .f32⟩
  | 16 => ⟨S2x1408x2048, .f32⟩
  | 17 => ⟨S2x1408x2048, .f32⟩
  | 18 => ⟨S2x1408x2048, .f32⟩
  | 19 => ⟨S_, .f32⟩
  | 20 => ⟨S2x1408x2048, .f32⟩
  | 21 => ⟨S2x1408x2048, .f32⟩
  | 22 => ⟨S2x1408x2048, .f32⟩
  | 23 => ⟨S_, .f32⟩
  | 24 => ⟨S2x1408x2048, .f32⟩
  | 25 => ⟨S2x1408x2048, .f32⟩
  | 26 => ⟨S2x1408x2048, .f32⟩
  | 27 => ⟨S_, .f32⟩
  | 28 => ⟨S2x1408x2048, .f32⟩
  | 29 => ⟨S2x1408x2048, .f32⟩
  | 30 => ⟨S_, .f32⟩
  | 31 => ⟨S136x128, .f32⟩
  | 32 => ⟨S136x128, .f32⟩
  | 33 => ⟨S_, .f32⟩
  | 34 => ⟨S136x128, .f32⟩
  | 35 => ⟨S136x128, .f32⟩
  | 36 => ⟨S136x128, .f32⟩
  | 37 => ⟨S_, .f32⟩
  | 38 => ⟨S136x128, .f32⟩
  | 39 => ⟨S136x128, .f32⟩
  | 40 => ⟨S136x128, .f32⟩
  | 41 => ⟨S_, .f32⟩
  | 42 => ⟨S136x128, .f32⟩
  | 43 => ⟨S136x128, .f32⟩
  | 44 => ⟨S136x128, .f32⟩
  | 45 => ⟨S_, .f32⟩
  | 46 => ⟨S136x128, .f32⟩
  | 47 => ⟨S136x128, .f32⟩
  | 48 => ⟨S_, .f32⟩
  | 49 => ⟨S136x128, .f32⟩
  | 50 => ⟨S136x128, .f32⟩
  | 51 => ⟨S136x128, .f32⟩
  | 52 => ⟨S_, .f32⟩
  | 53 => ⟨S136x128, .f32⟩
  | 54 => ⟨S136x128, .f32⟩
  | 55 => ⟨S136x128, .f32⟩
  | 56 => ⟨S_, .f32⟩
  | 57 => ⟨S136x128, .f32⟩
  | 58 => ⟨S136x128, .f32⟩
  | 59 => ⟨S136x128, .f32⟩
  | 60 => ⟨S_, .f32⟩
  | 61 => ⟨S136x128, .f32⟩
  | 62 => ⟨S136x128, .f32⟩
  | _ => ⟨S2336x2048, .f32⟩

abbrev hbmTy (i : Nat) : BufTy := match i / 128 with
  | 0 => hbmTy0_0 i
  | 1 => hbmTy0_1 i
  | 2 => hbmTy0_2 i
  | _ => ⟨S2336x2048, .f32⟩

abbrev bufTy : (tb : Table) → Fin (tcTables nBuf tb) → BufTy
  | .hbm, ⟨i, _⟩ => hbmTy i
  | _, _ => ⟨S2336x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst : Ref sig .tc := ⟨.hbm, 53, rfl⟩
abbrev main_v14 : Ref sig .tc := ⟨.hbm, 54, rfl⟩
abbrev main_cst_0 : Ref sig .tc := ⟨.hbm, 55, rfl⟩
abbrev main_v15 : Ref sig .tc := ⟨.hbm, 56, rfl⟩
abbrev main_v16 : Ref sig .tc := ⟨.hbm, 57, rfl⟩
abbrev main_cst_1 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_2 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_3 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_4 : Ref sig .tc := ⟨.hbm, 70, rfl⟩
abbrev main_v26 : Ref sig .tc := ⟨.hbm, 71, rfl⟩
abbrev main_v27 : Ref sig .tc := ⟨.hbm, 72, rfl⟩
abbrev main_cst_5 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_cst_6 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_7 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst_8 : Ref sig .tc := ⟨.hbm, 85, rfl⟩
abbrev main_v37 : Ref sig .tc := ⟨.hbm, 86, rfl⟩
abbrev main_v38 : Ref sig .tc := ⟨.hbm, 87, rfl⟩
abbrev main_cst_9 : Ref sig .tc := ⟨.hbm, 88, rfl⟩
abbrev main_v39 : Ref sig .tc := ⟨.hbm, 89, rfl⟩
abbrev main_v40 : Ref sig .tc := ⟨.hbm, 90, rfl⟩
abbrev main_cst_10 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_cst_11 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_cst_12 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_cst_13 : Ref sig .tc := ⟨.hbm, 103, rfl⟩
abbrev main_v50 : Ref sig .tc := ⟨.hbm, 104, rfl⟩
abbrev main_v51 : Ref sig .tc := ⟨.hbm, 105, rfl⟩
abbrev main_cst_14 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_15 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_16 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_cst_17 : Ref sig .tc := ⟨.hbm, 118, rfl⟩
abbrev main_v61 : Ref sig .tc := ⟨.hbm, 119, rfl⟩
abbrev main_v62 : Ref sig .tc := ⟨.hbm, 120, rfl⟩
abbrev main_cst_18 : Ref sig .tc := ⟨.hbm, 121, rfl⟩
abbrev main_v63 : Ref sig .tc := ⟨.hbm, 122, rfl⟩
abbrev main_v64 : Ref sig .tc := ⟨.hbm, 123, rfl⟩
abbrev main_cst_19 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_cst_20 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_cst_21 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_22 : Ref sig .tc := ⟨.hbm, 136, rfl⟩
abbrev main_v74 : Ref sig .tc := ⟨.hbm, 137, rfl⟩
abbrev main_v75 : Ref sig .tc := ⟨.hbm, 138, rfl⟩
abbrev main_cst_23 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_cst_24 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_cst_25 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_cst_26 : Ref sig .tc := ⟨.hbm, 151, rfl⟩
abbrev main_v85 : Ref sig .tc := ⟨.hbm, 152, rfl⟩
abbrev main_v86 : Ref sig .tc := ⟨.hbm, 153, rfl⟩
abbrev main_cst_27 : Ref sig .tc := ⟨.hbm, 154, rfl⟩
abbrev main_v87 : Ref sig .tc := ⟨.hbm, 155, rfl⟩
abbrev main_v88 : Ref sig .tc := ⟨.hbm, 156, rfl⟩
abbrev main_cst_28 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_cst_29 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_cst_30 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_cst_31 : Ref sig .tc := ⟨.hbm, 169, rfl⟩
abbrev main_v98 : Ref sig .tc := ⟨.hbm, 170, rfl⟩
abbrev main_v99 : Ref sig .tc := ⟨.hbm, 171, rfl⟩
abbrev main_cst_32 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_cst_33 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_cst_34 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_cst_35 : Ref sig .tc := ⟨.hbm, 184, rfl⟩
abbrev main_v109 : Ref sig .tc := ⟨.hbm, 185, rfl⟩
abbrev main_v110 : Ref sig .tc := ⟨.hbm, 186, rfl⟩
abbrev main_cst_36 : Ref sig .tc := ⟨.hbm, 187, rfl⟩
abbrev main_v111 : Ref sig .tc := ⟨.hbm, 188, rfl⟩
abbrev main_v112 : Ref sig .tc := ⟨.hbm, 189, rfl⟩
abbrev main_cst_37 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_cst_38 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_cst_39 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_cst_40 : Ref sig .tc := ⟨.hbm, 202, rfl⟩
abbrev main_v122 : Ref sig .tc := ⟨.hbm, 203, rfl⟩
abbrev main_v123 : Ref sig .tc := ⟨.hbm, 204, rfl⟩
abbrev main_cst_41 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_cst_42 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_cst_43 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_cst_44 : Ref sig .tc := ⟨.hbm, 217, rfl⟩
abbrev main_v133 : Ref sig .tc := ⟨.hbm, 218, rfl⟩
abbrev main_v134 : Ref sig .tc := ⟨.hbm, 219, rfl⟩
abbrev main_cst_45 : Ref sig .tc := ⟨.hbm, 220, rfl⟩
abbrev main_v135 : Ref sig .tc := ⟨.hbm, 221, rfl⟩
abbrev main_v136 : Ref sig .tc := ⟨.hbm, 222, rfl⟩
abbrev main_cst_46 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_cst_47 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_cst_48 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_cst_49 : Ref sig .tc := ⟨.hbm, 235, rfl⟩
abbrev main_v146 : Ref sig .tc := ⟨.hbm, 236, rfl⟩
abbrev main_v147 : Ref sig .tc := ⟨.hbm, 237, rfl⟩
abbrev main_cst_50 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_cst_51 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_cst_52 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_cst_53 : Ref sig .tc := ⟨.hbm, 250, rfl⟩
abbrev main_v157 : Ref sig .tc := ⟨.hbm, 251, rfl⟩
abbrev main_v158 : Ref sig .tc := ⟨.hbm, 252, rfl⟩
abbrev main_cst_54 : Ref sig .tc := ⟨.hbm, 253, rfl⟩
abbrev main_v159 : Ref sig .tc := ⟨.hbm, 254, rfl⟩
abbrev main_v160 : Ref sig .tc := ⟨.hbm, 255, rfl⟩
abbrev main_cst_55 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_cst_56 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_cst_57 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_cst_58 : Ref sig .tc := ⟨.hbm, 268, rfl⟩
abbrev main_v170 : Ref sig .tc := ⟨.hbm, 269, rfl⟩
abbrev main_v171 : Ref sig .tc := ⟨.hbm, 270, rfl⟩
abbrev main_cst_59 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_cst_60 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_cst_61 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_cst_62 : Ref sig .tc := ⟨.hbm, 283, rfl⟩
abbrev main_v181 : Ref sig .tc := ⟨.hbm, 284, rfl⟩
abbrev main_v182 : Ref sig .tc := ⟨.hbm, 285, rfl⟩
abbrev main_cst_63 : Ref sig .tc := ⟨.hbm, 286, rfl⟩
abbrev main_v183 : Ref sig .tc := ⟨.hbm, 287, rfl⟩
abbrev main_v184 : Ref sig .tc := ⟨.hbm, 288, rfl⟩
abbrev main_cst_64 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_cst_65 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_cst_66 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_cst_67 : Ref sig .tc := ⟨.hbm, 301, rfl⟩
abbrev main_v194 : Ref sig .tc := ⟨.hbm, 302, rfl⟩
abbrev main_v195 : Ref sig .tc := ⟨.hbm, 303, rfl⟩
abbrev main_cst_68 : Ref sig .tc := ⟨.hbm, 304, rfl⟩
abbrev main_v196 : Ref sig .tc := ⟨.hbm, 305, rfl⟩
abbrev main_v197 : Ref sig .tc := ⟨.hbm, 306, rfl⟩
abbrev main_v198 : Ref sig .tc := ⟨.hbm, 307, rfl⟩
abbrev main_cst_69 : Ref sig .tc := ⟨.hbm, 308, rfl⟩
abbrev main_v199 : Ref sig .tc := ⟨.hbm, 309, rfl⟩
abbrev main_v200 : Ref sig .tc := ⟨.hbm, 310, rfl⟩
abbrev main_v201 : Ref sig .tc := ⟨.hbm, 311, rfl⟩
abbrev main_cst_70 : Ref sig .tc := ⟨.hbm, 312, rfl⟩
abbrev main_v202 : Ref sig .tc := ⟨.hbm, 313, rfl⟩
abbrev main_v203 : Ref sig .tc := ⟨.hbm, 314, rfl⟩
abbrev main_v204 : Ref sig .tc := ⟨.hbm, 315, rfl⟩
abbrev main_cst_71 : Ref sig .tc := ⟨.hbm, 316, rfl⟩
abbrev main_v205 : Ref sig .tc := ⟨.hbm, 317, rfl⟩
abbrev main_v206 : Ref sig .tc := ⟨.hbm, 318, rfl⟩

abbrev nD : Nat := 1
abbrev τ : Topo := Topo.v7x

variable {F : FTy → Type} [FloatOps F]
-- ==== Kernel8.lean ====
abbrev S4096x2048 : Shape := ⟨2, ![4096, 2048]⟩
abbrev S1x2048 : Shape := ⟨2, ![1, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S2048 : Shape := ⟨1, ![2048]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x128, .f32⟩
  | .hbm, ⟨6, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S1x2048, .f32⟩
  | .local _ .vmem, ⟨8, _⟩ => ⟨S1x128, .f32⟩
  | .local _ .vmem, ⟨9, _⟩ => ⟨S128x2048, .bf16⟩
  | .local _ .vmem, ⟨10, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x128, .f32⟩
  | .hbm, ⟨69, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel9.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 8
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .f32⟩
  | .hbm, ⟨6, _⟩ => ⟨S1x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S128x2048, .f32⟩
  | .local _ .vmem, ⟨6, _⟩ => ⟨S128x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S1x2048, .f32⟩
  | .local _ .vmem, ⟨15, _⟩ => ⟨S128x2048, .bf16⟩
  | .local _ .vmem, ⟨16, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S128x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== Reference9Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel10.lean ====
abbrev S4096x5120 : Shape := ⟨2, ![4096, 5120]⟩
abbrev S1x512 : Shape := ⟨2, ![1, 512]⟩
abbrev S4096x512 : Shape := ⟨2, ![4096, 512]⟩
abbrev S1024x512 : Shape := ⟨2, ![1024, 512]⟩
abbrev S1024 : Shape := ⟨1, ![1024]⟩
abbrev S1024x1 : Shape := ⟨2, ![1024, 1]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 26
  | .smem => 0
  | _ => 0

abbrev bufTy : (tb : Table) → Fin (tcTables nBuf tb) → BufTy
  | .hbm, ⟨0, _⟩ => ⟨S4096x5120, .f32⟩
  | .hbm, ⟨1, _⟩ => ⟨S1x512, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S1x512, .f32⟩
  | .hbm, ⟨9, _⟩ => ⟨S4096x512, .bf16⟩
  | .hbm, ⟨10, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S1x512, .f32⟩
  | .local _ .vmem, ⟨21, _⟩ => ⟨S512x512, .f32⟩
  | .local _ .vmem, ⟨22, _⟩ => ⟨S512x512, .f32⟩
  | .local _ .vmem, ⟨23, _⟩ => ⟨S512x512, .bf16⟩
  | .local _ .vmem, ⟨24, _⟩ => ⟨S512x512, .bf16⟩
  | .local _ .vmem, ⟨25, _⟩ => ⟨S1x512, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]
-- ==== Reference10Ideal.lean ====
abbrev S4096x5120 : Shape := ⟨2, ![4096, 5120]⟩
abbrev S1x512 : Shape := ⟨2, ![1, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 95
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S1x512, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x512, .f32⟩
  | .hbm, ⟨79, _⟩ => ⟨S4096x512, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x512, .f32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S4096x512, .bf16⟩
  | .hbm, ⟨92, _⟩ => ⟨S4096x512, .bf16⟩
  | .hbm, ⟨93, _⟩ => ⟨S4096x512, .bf16⟩
  | .hbm, ⟨94, _⟩ => ⟨S4096x512, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Kernel11.lean ====
abbrev S4096x512 : Shape := ⟨2, ![4096, 512]⟩
abbrev S4096x768 : Shape := ⟨2, ![4096, 768]⟩
abbrev S1x512 : Shape := ⟨2, ![1, 512]⟩
abbrev S1x768 : Shape := ⟨2, ![1, 768]⟩
abbrev S1024x512 : Shape := ⟨2, ![1024, 512]⟩
abbrev S1024 : Shape := ⟨1, ![1024]⟩
abbrev S1024x1 : Shape := ⟨2, ![1024, 1]⟩
abbrev S512x768 : Shape := ⟨2, ![512, 768]⟩
abbrev S512 : Shape := ⟨1, ![512]⟩
abbrev S512x1 : Shape := ⟨2, ![512, 1]⟩
abbrev S512x512 : Shape := ⟨2, ![512, 512]⟩
abbrev S256x768 : Shape := ⟨2, ![256, 768]⟩
abbrev S256 : Shape := ⟨1, ![256]⟩
abbrev S256x1 : Shape := ⟨2, ![256, 1]⟩
abbrev S768 : Shape := ⟨1, ![768]⟩

abbrev nBuf : Space → Nat
  | .hbm => 18
  | .vmem => 39
  | .smem => 0
  | _ => 0

abbrev bufTy : (tb : Table) → Fin (tcTables nBuf tb) → BufTy
  | .hbm, ⟨0, _⟩ => ⟨S4096x512, .f32⟩
  | .hbm, ⟨1, _⟩ => ⟨S4096x768, .f32⟩
  | .hbm, ⟨2, _⟩ => ⟨S4096x768, .f32⟩
  | .hbm, ⟨3, _⟩ => ⟨S1x512, .f32⟩
  | .hbm, ⟨4, _⟩ => ⟨S1x768, .f32⟩
  | .hbm, ⟨5, _⟩ => ⟨S1x768, .f32⟩
  | .hbm, ⟨6, _⟩ => ⟨S4096x512, .f32⟩
  | .hbm, ⟨7, _⟩ => ⟨S4096x768, .f32⟩
  | .hbm, ⟨8, _⟩ => ⟨S4096x768, .f32⟩
  | .hbm, ⟨9, _⟩ => ⟨S4096x512, .bf16⟩
  | .hbm, ⟨10, _⟩ => ⟨S4096x768, .bf16⟩
  | .hbm, ⟨11, _⟩ => ⟨S4096x768, .bf16⟩
  | .hbm, ⟨12, _⟩ => ⟨S4096x512, .f32⟩
  | .hbm, ⟨13, _⟩ => ⟨S1x512, .f32⟩
  | .hbm, ⟨14, _⟩ => ⟨S4096x768, .f32⟩
  | .hbm, ⟨15, _⟩ => ⟨S1x768, .f32⟩
  | .hbm, ⟨16, _⟩ => ⟨S4096x768, .f32⟩
  | .hbm, ⟨17, _⟩ => ⟨S1x768, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .bf16⟩
  | .local _ .vmem, ⟨4, _⟩ => ⟨S1024x512, .bf16⟩
  | .local _ .vmem, ⟨5, _⟩ => ⟨S512x768, .f32⟩
  | .local _ .vmem, ⟨6, _⟩ => ⟨S512x768, .f32⟩
  | .local _ .vmem, ⟨7, _⟩ => ⟨S1x768, .f32⟩
  | .local _ .vmem, ⟨8, _⟩ => ⟨S512x768, .bf16⟩
  | .local _ .vmem, ⟨9, _⟩ => ⟨S512x768, .bf16⟩
  | .local _ .vmem, ⟨10, _⟩ => ⟨S512x768, .f32⟩
  | .local _ .vmem, ⟨11, _⟩ => ⟨S512x768, .f32⟩
  | .local _ .vmem, ⟨12, _⟩ => ⟨S1x768, .f32⟩
  | .local _ .vmem, ⟨13, _⟩ => ⟨S512x768, .bf16⟩
  | .local _ .vmem, ⟨14, _⟩ => ⟨S512x768, .bf16⟩
  | .local _ .vmem, ⟨15, _⟩ => ⟨S512x512, .f32⟩
  | .local _ .vmem, ⟨16, _⟩ => ⟨S512x512, .f32⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S1x512, .f32⟩
  | .local _ .vmem, ⟨23, _⟩ => ⟨S256x768, .f32⟩
  | .local _ .vmem, ⟨24, _⟩ => ⟨S256x768, .f32⟩
  | .local _ .vmem, ⟨25, _⟩ => ⟨S1x768, .f32⟩
  | .local _ .vmem, ⟨26, _⟩ => ⟨S256x768, .f32⟩
  | .local _ .vmem, ⟨27, _⟩ => ⟨S256x768, .f32⟩
  | .local _ .vmem, ⟨28, _⟩ => ⟨S256x768, .f32⟩
  | .local _ .vmem, ⟨29, _⟩ => ⟨S256x768, .f32⟩
  | .local _ .vmem, ⟨30, _⟩ => ⟨S1x768, .f32⟩
  | .local _ .vmem, ⟨31, _⟩ => ⟨S256x768, .f32⟩
  | .local _ .vmem, ⟨32, _⟩ => ⟨S256x768, .f32⟩
  | .local _ .vmem, ⟨33, _⟩ => ⟨S1x768, .f32⟩
  | .local _ .vmem, ⟨34, _⟩ => ⟨S256x768, .f32⟩
  | .local _ .vmem, ⟨35, _⟩ => ⟨S256x768, .f32⟩
  | .local _ .vmem, ⟨36, _⟩ => ⟨S256x768, .f32⟩
  | .local _ .vmem, ⟨37, _⟩ => ⟨S256x768, .f32⟩
  | .local _ .vmem, ⟨38, _⟩ => ⟨S1x768, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4_0 : Ref sig .tc := ⟨.hbm, 14, rfl⟩
abbrev main_v4_1 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg3_1 : Ref sig .tc := ⟨.vmem, 29, rfl⟩
abbrev cc4_stg4_0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc5_stg4_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem3_1 : DmaSem sig := 29
abbrev cc4_sem4_0 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc5_sem3_0 : DmaSem sig := 36
abbrev cc5_sem3_1 : DmaSem sig := 37
abbrev cc5_sem4_0 : DmaSem sig := 38

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev grid4 : Pipeline.Grid := ⟨2, ![1, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S1x768 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S256x768 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S256x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 1 → Memref sig .tc .vmem S1x768 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev grid5 : Pipeline.Grid := ⟨2, ![1, 16], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S256x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S1x768 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S256x768 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S256x768 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 1 → Memref sig .tc .vmem S1x768 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]
-- ==== Reference11Ideal.lean ====
abbrev S4096x512 : Shape := ⟨2, ![4096, 512]⟩
abbrev S4096x768 : Shape := ⟨2, ![4096, 768]⟩
abbrev S1x512 : Shape := ⟨2, ![1, 512]⟩
abbrev S1x768 : Shape := ⟨2, ![1, 768]⟩
abbrev S_ : Shape := ⟨0, ![]⟩
abbrev S4096 : Shape := ⟨1, ![4096]⟩
abbrev S4096x1 : Shape := ⟨2, ![4096, 1]⟩
abbrev S512 : Shape := ⟨1, ![512]⟩
abbrev S768 : Shape := ⟨1, ![768]⟩

abbrev nBuf : Space → Nat
  | .hbm => 138
  | .vmem => 0
  | .smem => 0
  | _ => 0

abbrev hbmTy0_0 (i : Nat) : BufTy := match i % 128 with
  | 0 => ⟨S4096x512, .f32⟩
  | 1 => ⟨S4096x768, .f32⟩
  | 2 => ⟨S4096x768, .f32⟩
  | 3 => ⟨S1x512, .f32⟩
  | 4 => ⟨S1x768, .f32⟩
  | 5 => ⟨S1x768, .f32⟩
  | 6 => ⟨S4096x512, .f32⟩
  | 7 => ⟨S4096x768, .f32⟩
  | 8 => ⟨S4096x768, .f32⟩
  | 9 => ⟨S4096x512, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S_, .f32⟩
  | 30 => ⟨S512, .f32⟩
  | 31 => ⟨S1x512, .f32⟩
  | 32 => ⟨S4096x512, .f32⟩
  | 33 => ⟨S4096x512, .f32⟩
  | 34 => ⟨S4096x512, .f32⟩
  | 35 => ⟨S_, .f32⟩
  | 36 => ⟨S4096, .f32⟩
  | 37 => ⟨S4096x1, .f32⟩
  | 38 => ⟨S4096x512, .f32⟩
  | 39 => ⟨S4096x512, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x768, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x768, .f32⟩
  | 67 => ⟨S4096x768, .f32⟩
  | 68 => ⟨S4096x768, .f32⟩
  | 69 => ⟨S4096x768, .f32⟩
  | 70 => ⟨S4096x768, .f32⟩
  | 71 => ⟨S_, .f32⟩
  | 72 => ⟨S768, .f32⟩
  | 73 => ⟨S1x768, .f32⟩
  | 74 => ⟨S4096x768, .f32⟩
  | 75 => ⟨S4096x768, .f32⟩
  | 76 => ⟨S4096x768, .f32⟩
  | 77 => ⟨S_, .f32⟩
  | 78 => ⟨S4096, .f32⟩
  | 79 => ⟨S4096x1, .f32⟩
  | 80 => ⟨S4096x768, .f32⟩
  | 81 => ⟨S4096x768, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096, .f32⟩
  | 88 => ⟨S4096x768, .f32⟩
  | 89 => ⟨S4096x768, .f32⟩
  | 90 => ⟨S4096x768, .f32⟩
  | 91 => ⟨S4096x768, .f32⟩
  | 92 => ⟨S4096x768, .f32⟩
  | 93 => ⟨S4096x768, .f32⟩
  | 94 => ⟨S_, .f32⟩
  | 95 => ⟨S4096, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096x1, .f32⟩
  | 102 => ⟨S4096x1, .f32⟩
  | 103 => ⟨S4096x1, .f32⟩
  | 104 => ⟨S4096x1, .f32⟩
  | 105 => ⟨S_, .f32⟩
  | 106 => ⟨S4096x1, .f32⟩
  | 107 => ⟨S4096x1, .f32⟩
  | 108 => ⟨S4096x768, .f32⟩
  | 109 => ⟨S4096x768, .f32⟩
  | 110 => ⟨S4096x768, .f32⟩
  | 111 => ⟨S4096x768, .f32⟩
  | 112 => ⟨S4096x768, .f32⟩
  | 113 => ⟨S_, .f32⟩
  | 114 => ⟨S768, .f32⟩
  | 115 => ⟨S1x768, .f32⟩
  | 116 => ⟨S4096x768, .f32⟩
  | 117 => ⟨S4096x768, .f32⟩
  | 118 => ⟨S4096x768, .f32⟩
  | 119 => ⟨S_, .f32⟩
  | 120 => ⟨S4096, .f32⟩
  | 121 => ⟨S4096x1, .f32⟩
  | 122 => ⟨S4096x768, .f32⟩
  | 123 => ⟨S4096x768, .f32⟩
  | 124 => ⟨S4096x1, .f32⟩
  | 125 => ⟨S_, .f32⟩
  | 126 => ⟨S4096x1, .f32⟩
  | 127 => ⟨S4096x1, .f32⟩
  | _ => ⟨S4096x512, .f32⟩

abbrev hbmTy0_1 (i : Nat) : BufTy := match i % 128 with
  | 0 => ⟨S_, .f32⟩
  | 1 => ⟨S4096, .f32⟩
  | 2 => ⟨S4096x768, .f32⟩
  | 3 => ⟨S4096x768, .f32⟩
  | 4 => ⟨S4096x768, .f32⟩
  | 5 => ⟨S4096x768, .f32⟩
  | 6 => ⟨S4096x768, .f32⟩
  | 7 => ⟨S4096x512, .bf16⟩
  | 8 => ⟨S4096x768, .bf16⟩
  | 9 => ⟨S4096x768, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_20 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_21 : Ref sig .tc := ⟨.hbm, 125, rfl⟩
abbrev main_v94 : Ref sig .tc := ⟨.hbm, 126, rfl⟩
abbrev main_v95 : Ref sig .tc := ⟨.hbm, 127, rfl⟩
abbrev main_cst_22 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Kernel12.lean ====
abbrev S4096x5120 : Shape := ⟨2, ![4096, 5120]⟩
abbrev S1x128 : Shape := ⟨2, ![1, 128]⟩
abbrev S4096x768 : Shape := ⟨2, ![4096, 768]⟩
abbrev S4096x256 : Shape := ⟨2, ![4096, 256]⟩
abbrev S4096x128 : Shape := ⟨2, ![4096, 128]⟩
abbrev S4096 : Shape := ⟨1, ![4096]⟩
abbrev S4096x1 : Shape := ⟨2, ![4096, 1]⟩
abbrev S2048x128 : Shape := ⟨2, ![2048, 128]⟩
abbrev S2048 : Shape := ⟨1, ![2048]⟩
abbrev S2048x1 : Shape := ⟨2, ![2048, 1]⟩
abbrev S128 : Shape := ⟨1, ![128]⟩

abbrev nBuf : Space → Nat
  | .hbm => 11
  | .vmem => 26
  | .smem => 0
  | _ => 0

abbrev bufTy : (tb : Table) → Fin (tcTables nBuf tb) → BufTy
  | .hbm, ⟨0, _⟩ => ⟨S4096x5120, .f32⟩
  | .hbm, ⟨1, _⟩ => ⟨S1x128, .f32⟩
  | .hbm, ⟨2, _⟩ => ⟨S1x128, .f32⟩
  | .hbm, ⟨3, _⟩ => ⟨S4096x768, .f32⟩
  | .hbm, ⟨4, _⟩ => ⟨S4096x256, .f32⟩
  | .hbm, ⟨5, _⟩ => ⟨S4096x768, .f32⟩
  | .hbm, ⟨6, _⟩ => ⟨S4096x256, .f32⟩
  | .hbm, ⟨7, _⟩ => ⟨S4096x768, .bf16⟩
  | .hbm, ⟨8, _⟩ => ⟨S1x128, .f32⟩
  | .hbm, ⟨9, _⟩ => ⟨S4096x256, .bf16⟩
  | .hbm, ⟨10, _⟩ => ⟨S1x128, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S2048x128, .f32⟩
  | .local _ .vmem, ⟨11, _⟩ => ⟨S2048x128, .f32⟩
  | .local _ .vmem, ⟨12, _⟩ => ⟨S1x128, .f32⟩
  | .local _ .vmem, ⟨13, _⟩ => ⟨S2048x128, .f32⟩
  | .local _ .vmem, ⟨14, _⟩ => ⟨S2048x128, .f32⟩
  | .local _ .vmem, ⟨15, _⟩ => ⟨S2048x128, .bf16⟩
  | .local _ .vmem, ⟨16, _⟩ => ⟨S2048x128, .bf16⟩
  | .local _ .vmem, ⟨17, _⟩ => ⟨S1x128, .f32⟩
  | .local _ .vmem, ⟨18, _⟩ => ⟨S2048x128, .f32⟩
  | .local _ .vmem, ⟨19, _⟩ => ⟨S2048x128, .f32⟩
  | .local _ .vmem, ⟨20, _⟩ => ⟨S1x128, .f32⟩
  | .local _ .vmem, ⟨21, _⟩ => ⟨S2048x128, .f32⟩
  | .local _ .vmem, ⟨22, _⟩ => ⟨S2048x128, .f32⟩
  | .local _ .vmem, ⟨23, _⟩ => ⟨S2048x128, .bf16⟩
  | .local _ .vmem, ⟨24, _⟩ => ⟨S2048x128, .bf16⟩
  | .local _ .vmem, ⟨25, _⟩ => ⟨S1x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![6, 2], ![false, false]⟩

def cc2_transform_0 (i : grid2.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2048x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S2048x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]
-- ==== Reference12Ideal.lean ====
abbrev S4096x5120 : Shape := ⟨2, ![4096, 5120]⟩
abbrev S1x128 : Shape := ⟨2, ![1, 128]⟩
abbrev S4096x768 : Shape := ⟨2, ![4096, 768]⟩
abbrev S4096x256 : Shape := ⟨2, ![4096, 256]⟩
abbrev S24576x128 : Shape := ⟨2, ![24576, 128]⟩
abbrev S_ : Shape := ⟨0, ![]⟩
abbrev S24576 : Shape := ⟨1, ![24576]⟩
abbrev S24576x1 : Shape := ⟨2, ![24576, 1]⟩
abbrev S128 : Shape := ⟨1, ![128]⟩
abbrev S8192x128 : Shape := ⟨2, ![8192, 128]⟩
abbrev S8192 : Shape := ⟨1, ![8192]⟩
abbrev S8192x1 : Shape := ⟨2, ![8192, 1]⟩

abbrev nBuf : Space → Nat
  | .hbm => 101
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S1x128, .f32⟩
  | .hbm, ⟨2, _⟩ => ⟨S1x128, .f32⟩
  | .hbm, ⟨3, _⟩ => ⟨S4096x768, .f32⟩
  | .hbm, ⟨4, _⟩ => ⟨S4096x256, .f32⟩
  | .hbm, ⟨5, _⟩ => ⟨S4096x768, .f32⟩
  | .hbm, ⟨6, _⟩ => ⟨S24576x128, .f32⟩
  | .hbm, ⟨7, _⟩ => ⟨S24576x128, .f32⟩
  | .hbm, ⟨8, _⟩ => ⟨S24576x128, .f32⟩
  | .hbm, ⟨9, _⟩ => ⟨S_, .f32⟩
  | .hbm, ⟨10, _⟩ => ⟨S24576, .f32⟩
  | .hbm, ⟨11, _⟩ => ⟨S24576x1, .f32⟩
  | .hbm, ⟨12, _⟩ => ⟨S_, .f32⟩
  | .hbm, ⟨13, _⟩ => ⟨S24576x1, .f32⟩
  | .hbm, ⟨14, _⟩ => ⟨S24576x1, .f32⟩
  | .hbm, ⟨15, _⟩ => ⟨S_, .f32⟩
  | .hbm, ⟨16, _⟩ => ⟨S24576x1, .f32⟩
  | .hbm, ⟨17, _⟩ => ⟨S24576x1, .f32⟩
  | .hbm, ⟨18, _⟩ => ⟨S24576x1, .f32⟩
  | .hbm, ⟨19, _⟩ => ⟨S24576x1, .f32⟩
  | .hbm, ⟨20, _⟩ => ⟨S_, .f32⟩
  | .hbm, ⟨21, _⟩ => ⟨S24576x1, .f32⟩
  | .hbm, ⟨22, _⟩ => ⟨S24576x1, .f32⟩
  | .hbm, ⟨23, _⟩ => ⟨S24576x128, .f32⟩
  | .hbm, ⟨24, _⟩ => ⟨S24576x128, .f32⟩
  | .hbm, ⟨25, _⟩ => ⟨S24576x128, .f32⟩
  | .hbm, ⟨26, _⟩ => ⟨S24576x128, .f32⟩
  | .hbm, ⟨27, _⟩ => ⟨S24576x128, .f32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S24576x128, .f32⟩
  | .hbm, ⟨32, _⟩ => ⟨S24576x128, .f32⟩
  | .hbm, ⟨33, _⟩ => ⟨S24576x128, .f32⟩
  | .hbm, ⟨34, _⟩ => ⟨S_, .f32⟩
  | .hbm, ⟨35, _⟩ => ⟨S24576, .f32⟩
  | .hbm, ⟨36, _⟩ => ⟨S24576x1, .f32⟩
  | .hbm, ⟨37, _⟩ => ⟨S24576x128, .f32⟩
  | .hbm, ⟨38, _⟩ => ⟨S24576x128, .f32⟩
  | .hbm, ⟨39, _⟩ => ⟨S24576x1, .f32⟩
  | .hbm, ⟨40, _⟩ => ⟨S_, .f32⟩
  | .hbm, ⟨41, _⟩ => ⟨S24576x1, .f32⟩
  | .hbm, ⟨42, _⟩ => ⟨S24576x1, .f32⟩
  | .hbm, ⟨43, _⟩ => ⟨S_, .f32⟩
  | .hbm, ⟨44, _⟩ => ⟨S24576, .f32⟩
  | .hbm, ⟨45, _⟩ => ⟨S24576x128, .f32⟩
  | .hbm, ⟨46, _⟩ => ⟨S24576x128, .f32⟩
  | .hbm, ⟨47, _⟩ => ⟨S24576x128, .f32⟩
  | .hbm, ⟨48, _⟩ => ⟨S24576x128, .f32⟩
  | .hbm, ⟨49, _⟩ => ⟨S24576x128, .f32⟩
  | .hbm, ⟨50, _⟩ => ⟨S4096x256, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S_, .f32⟩
  | .hbm, ⟨74, _⟩ => ⟨S128, .f32⟩
  | .hbm, ⟨75, _⟩ => ⟨S1x128, .f32⟩
  | .hbm, ⟨76, _⟩ => ⟨S8192x128, .f32⟩
  | .hbm, ⟨77, _⟩ => ⟨S8192x128, .f32⟩
  | .hbm, ⟨78, _⟩ => ⟨S8192x128, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x128, .f32⟩
  | .hbm, ⟨83, _⟩ => ⟨S8192x128, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x128, .f32⟩
  | .hbm, ⟨91, _⟩ => ⟨S8192x128, .f32⟩
  | .hbm, ⟨92, _⟩ => ⟨S8192x128, .f32⟩
  | .hbm, ⟨93, _⟩ => ⟨S8192x128, .f32⟩
  | .hbm, ⟨94, _⟩ => ⟨S8192x128, .f32⟩
  | .hbm, ⟨95, _⟩ => ⟨S4096x768, .f32⟩
  | .hbm, ⟨96, _⟩ => ⟨S4096x256, .f32⟩
  | .hbm, ⟨97, _⟩ => ⟨S4096x768, .f32⟩
  | .hbm, ⟨98, _⟩ => ⟨S4096x768, .bf16⟩
  | .hbm, ⟨99, _⟩ => ⟨S4096x256, .f32⟩
  | .hbm, ⟨100, _⟩ => ⟨S4096x256, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== Proof.Reals.lean ====
/-
  Arrays of extended reals that hold real numbers, and what the operations of the two programs make of them. `IsR1`, `IsR2`,
  `IsR3` say that an array of rank 1, 2, 3 holds, at every index, the real number that a function of the coordinates
  (natural numbers) gives. One lemma per operation: from the functions of the operands to the function of the result.
-/
module

public import Idealize.ShloMosaic.Lib.MatmulPlain
public import Idealize.ShloMosaic.Lib.Pointwise
public import Idealize.ShloMosaic.Lib.ValueIdx
public import Idealize.ShloMosaic.Lib.ValueLayoutCasts
public import Idealize.ShloMosaic.Lib.Pipeline.Value
public import Idealize.ShloMosaic.PureOps.Ideal.Laws

@[expose] public section

set_option maxRecDepth 16384

noncomputable section

namespace Cert.Reals

open Idealize.ShloMosaic Idealize.ShloMosaic.TcCoe Idealize.SL.Sem
open Idealize.ShloMosaic.ValueIdx hiding ix1 ix2 ix3 ix4 ix5 ix6

/-! ## Sums, maxima and the elementary functions at real numbers -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_eq {ι : Type} [Fintype ι] {g : ι → EReal} {f : ι → ℝ} (h : ∀ i, g i = ((f i : ℝ) : EReal)) :
    ∑ i, g i = ((∑ i, f i : ℝ) : EReal) := by
  rw [← coe_sum]; exact Finset.sum_congr rfl fun i _ => h i

/-- The maximum of real numbers, from minus infinity, over a range that is not empty is a real number. -/
theorem fold_max_real {ι : Type} (s : Finset ι) (hs : s.Nonempty) {g : ι → EReal} {f : ι → ℝ} (h : ∀ i, g i = ((f i : ℝ) : EReal)) :
    ∃ M : ℝ, s.fold max ⊥ g = (M : EReal) := by
  classical
  induction hs using Finset.Nonempty.cons_induction with
  | singleton a => exact ⟨f a, by rw [Finset.fold_singleton, h]; exact max_bot_right _⟩
  | cons a s ha _ ih =>
    obtain ⟨M, hM⟩ := ih
    exact ⟨max (f a) M, by rw [Finset.fold_cons, hM, h]; exact (EReal.coe_strictMono.monotone.map_max).symm⟩

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

theorem div_real {a b : ℝ} (hb : b ≠ 0) : Ideal.div (a : EReal) (b : EReal) = ((a / b : ℝ) : EReal) := by
  rw [Ideal.div_coe hb, ← EReal.coe_mul, mul_one_div]

theorem log_real {a : ℝ} (ha : 0 < a) : Ideal.log (a : EReal) = ((Real.log a : ℝ) : EReal) := by
  rw [Ideal.log_coe, if_neg (not_le.mpr ha)]

/-- Two to the power of a multiple of the binary logarithm's factor. -/
theorem two_rpow (x : ℝ) : Real.rpow 2 x = Real.exp (Real.log 2 * x) := Real.rpow_def_of_pos (by norm_num) x

/-! ## Arrays that hold real numbers -/

def IsR1 {n : ℕ} (X : (⟨1, ![n]⟩ : Shape).Idx → EReal) (x : ℕ → ℝ) : Prop := ∀ i, X i = ((x (i 0).val : ℝ) : EReal)
def IsR2 {n0 n1 : ℕ} (X : (⟨2, ![n0, n1]⟩ : Shape).Idx → EReal) (x : ℕ → ℕ → ℝ) : Prop :=
  ∀ i, X i = ((x (i 0).val (i 1).val : ℝ) : EReal)
def IsR3 {n0 n1 n2 : ℕ} (X : (⟨3, ![n0, n1, n2]⟩ : Shape).Idx → EReal) (x : ℕ → ℕ → ℕ → ℝ) : Prop :=
  ∀ i, X i = ((x (i 0).val (i 1).val (i 2).val : ℝ) : EReal)

section Ops
variable {n m K M N : ℕ} {φ φ₁ φ₂ : FTy}

theorem IsR2.congr {X : (⟨2, ![n, m]⟩ : Shape).Idx → EReal} {x y : ℕ → ℕ → ℝ} (h : IsR2 X x) (e : ∀ a < n, ∀ b < m, x a b = y a b) :
    IsR2 X y := fun i => by rw [h i, e _ (i 0).isLt _ (i 1).isLt]

theorem IsR2.mul {A B : FVec Ideal ⟨2, ![n, m]⟩ φ} {a b : ℕ → ℕ → ℝ} (hA : IsR2 A a) (hB : IsR2 B b) :
    IsR2 (mulf A B) fun r c => a r c * b r c := fun i => by rw [mulf_apply, hA, hB, EReal.coe_mul]
theorem IsR2.add {A B : FVec Ideal ⟨2, ![n, m]⟩ φ} {a b : ℕ → ℕ → ℝ} (hA : IsR2 A a) (hB : IsR2 B b) :
    IsR2 (addf A B) fun r c => a r c + b r c := fun i => by rw [addf_apply, hA, hB, EReal.coe_add]
theorem IsR2.sub {A B : FVec Ideal ⟨2, ![n, m]⟩ φ} {a b : ℕ → ℕ → ℝ} (hA : IsR2 A a) (hB : IsR2 B b) :
    IsR2 (subf A B) fun r c => a r c - b r c := fun i => by rw [subf_apply, hA, hB, EReal.coe_sub]
theorem IsR2.div {A B : FVec Ideal ⟨2, ![n, m]⟩ φ} {a b : ℕ → ℕ → ℝ} (hA : IsR2 A a) (hB : IsR2 B b)
    (h0 : ∀ r < n, ∀ c < m, b r c ≠ 0) : IsR2 (divf A B) fun r c => a r c / b r c :=
  fun i => by rw [divf_apply, hA, hB, div_real (h0 _ (i 0).isLt _ (i 1).isLt)]
theorem IsR2.pow2 {A : FVec Ideal ⟨2, ![n, m]⟩ φ} {a : ℕ → ℕ → ℝ} (hA : IsR2 A a) :
    IsR2 (exp2 A) fun r c => Real.exp (Real.log 2 * a r c) := fun i => by
  show Ideal.exp2 (A i) = _
  rw [hA, Ideal.exp2_coe, two_rpow]
theorem IsR2.ln {A : FVec Ideal ⟨2, ![n, m]⟩ φ} {a : ℕ → ℕ → ℝ} (hA : IsR2 A a) (h0 : ∀ r < n, ∀ c < m, 0 < a r c) :
    IsR2 (log A) fun r c => Real.log (a r c) := fun i => by
  show Ideal.log (A i) = _
  rw [hA, log_real (h0 _ (i 0).isLt _ (i 1).isLt)]
theorem IsR2.trunc {ψ : FTy} {A : FVec Ideal ⟨2, ![n, m]⟩ φ} {a : ℕ → ℕ → ℝ} (hA : IsR2 A a) (h : ψ.bits < φ.bits) :
    IsR2 (truncf ψ A h) a := fun i => by rw [truncf_apply, hA]
theorem IsR2.const {x : EReal} {y : ℝ} (h : x = (y : EReal)) : IsR2 (broadcast ⟨2, ![n, m]⟩ x) fun _ _ => y :=
  fun i => by rw [broadcast_apply, h]
/-- A column laid along the rows. -/
theorem IsR2.spread {A : (⟨2, ![n, 1]⟩ : Shape).Idx → EReal} {a : ℕ → ℕ → ℝ} (hA : IsR2 A a)
    (h : (⟨2, ![n, 1]⟩ : Shape).Broadcasts ⟨2, ![n, m]⟩) : IsR2 (broadcastTo ⟨2, ![n, m]⟩ A h) fun r _ => a r 0 := fun i => by
  have hi : (i 0).val < n := (i 0).isLt
  rw [broadcastTo_apply A h i (ValueIdx.ix2 (⟨(i 0).val, hi⟩ : Fin n) (0 : Fin 1)) (fun d => by
    match d with
    | ⟨0, _⟩ =>
      show (i 0).val = if n = 1 then 0 else (i 0).val
      split <;> omega
    | ⟨1, _⟩ => rfl)]
  exact hA _
theorem IsR2.cast {A : (⟨2, ![n, m]⟩ : Shape).Idx → EReal} {a : ℕ → ℕ → ℝ} (hA : IsR2 A a)
    (h : (⟨2, ![n, m]⟩ : Shape).ShapeCasts ⟨2, ![n, m]⟩) : IsR2 (shapeCast ⟨2, ![n, m]⟩ A h) a := fun i => by
  rw [shapeCast_self]; exact hA i
theorem IsR1.toCol {A : (⟨1, ![n]⟩ : Shape).Idx → EReal} {a : ℕ → ℝ} (hA : IsR1 A a)
    (h : (⟨1, ![n]⟩ : Shape).ShapeCasts ⟨2, ![n, 1]⟩) : IsR2 (shapeCast ⟨2, ![n, 1]⟩ A h) fun r _ => a r := fun i => by
  rw [ValueIdx.eq_ix2 i]
  exact (shapeCast_a_a1_apply A h (i 0) (i 1)).trans (hA _)
theorem IsR3.toPlane {A : (⟨3, ![1, n, m]⟩ : Shape).Idx → EReal} {a : ℕ → ℕ → ℕ → ℝ} (hA : IsR3 A a)
    (h : (⟨3, ![1, n, m]⟩ : Shape).ShapeCasts ⟨2, ![n, m]⟩) : IsR2 (shapeCast ⟨2, ![n, m]⟩ A h) fun r c => a 0 r c := fun i =>
  (shapeCast_dropUnit_apply ![n, m] A h i).trans (hA _)
theorem IsR2.toSlab {A : (⟨2, ![n, m]⟩ : Shape).Idx → EReal} {a : ℕ → ℕ → ℝ} (hA : IsR2 A a)
    (h : (⟨2, ![n, m]⟩ : Shape).ShapeCasts ⟨3, ![1, n, m]⟩) : IsR3 (shapeCast ⟨3, ![1, n, m]⟩ A h) fun _ r c => a r c := fun i =>
  (shapeCast_addUnit_apply ![n, m] A h i).trans (hA _)

theorem IsR2.rowSum {A : FVec Ideal ⟨2, ![n, m]⟩ .f32} {a : ℕ → ℕ → ℝ} (hA : IsR2 A a)
    (h : (⟨2, ![n, m]⟩ : Shape).Reduces [1] ⟨1, ![n]⟩) (hφ : FKind.Formats .f32) (hacc : (0x00000000#32 : BitVec 32) = FKind.add.neutral .f32 hφ) :
    IsR1 (multiReduction .add [1] ⟨1, ![n]⟩ A 0x00000000#32 h hφ hacc) fun r => ∑ k : Fin m, a r k := fun i => by
  pointwise
  exact sum_eq fun k => hA _
theorem IsR2.rowMax {A : FVec Ideal ⟨2, ![n, m]⟩ .f32} {a : ℕ → ℕ → ℝ} (hA : IsR2 A a) (hm : 0 < m)
    (h : (⟨2, ![n, m]⟩ : Shape).Reduces [1] ⟨1, ![n]⟩) (hφ : FKind.Formats .f32) (hacc : (0xFF800000#32 : BitVec 32) = FKind.maximumf.neutral .f32 hφ) :
    ∃ M : ℕ → ℝ, IsR1 (multiReduction .maximumf [1] ⟨1, ![n]⟩ A 0xFF800000#32 h hφ hacc) M := by
  have key : ∀ i, ∃ M : ℝ, multiReduction .maximumf [1] ⟨1, ![n]⟩ A 0xFF800000#32 h hφ hacc i = (M : EReal) := fun i => by
    rw [Ideal.multiReduction_maximumf_single]
    have e : (FloatOps.ofBits .f32 0xFF800000#32 : Ideal .f32) = ⊥ := ofBits_neg_inf
    rw [e]
    exact fold_max_real (Finset.univ : Finset (Fin m)) ⟨⟨0, hm⟩, Finset.mem_univ _⟩ fun k => hA (h.lift i k)
  choose M hM using key
  refine ⟨fun r => if hr : r < n then M (ValueIdx.ix1 ⟨r, hr⟩) else 0, fun i => ?_⟩
  have hi : (i 0).val < n := (i 0).isLt
  show _ = ((if hr : (i 0).val < n then M (ValueIdx.ix1 ⟨(i 0).val, hr⟩) else 0 : ℝ) : EReal)
  rw [hM i, dif_pos hi]
  exact congrArg (fun j => ((M j : ℝ) : EReal)) (ValueIdx.eq_ix1 i)

theorem IsR2.matmul {A : FVec Ideal ⟨2, ![M, K]⟩ φ₁} {B : FVec Ideal ⟨2, ![K, N]⟩ φ₂} {a b : ℕ → ℕ → ℝ} (hA : IsR2 A a) (hB : IsR2 B b)
    (prec : Option ContractPrecision) :
    IsR2 (FloatOps.matmul (DotDims.plain M K N) prec A B (constant ⟨2, ![M, N]⟩ .f32 0x00000000#32)) fun r c => ∑ k : Fin K, a r k * b k c := fun i => by
  rw [ValueIdx.eq_ix2 i]
  refine (Ideal.matmul_plain_apply prec A B _ (i 0) (i 1)).trans ?_
  rw [constant_apply, Ideal.ofBits_zero_f32, zero_add]
  exact sum_eq fun k => by rw [hA, hB, EReal.coe_mul]; rfl
theorem IsR2.matmulT {A : FVec Ideal ⟨2, ![M, K]⟩ φ₁} {B : FVec Ideal ⟨2, ![N, K]⟩ φ₂} {a b : ℕ → ℕ → ℝ} (hA : IsR2 A a) (hB : IsR2 B b)
    (prec : Option ContractPrecision) :
    IsR2 (FloatOps.matmul (DotDims.transposedRhs M K N) prec A B (constant ⟨2, ![M, N]⟩ .f32 0x00000000#32)) fun r c => ∑ k : Fin K, a r k * b c k := fun i => by
  rw [ValueIdx.eq_ix2 i]
  refine (Ideal.matmul_transposedRhs_apply prec A B _ (i 0) (i 1)).trans ?_
  rw [constant_apply, Ideal.ofBits_zero_f32, zero_add]
  exact sum_eq fun k => by rw [hA, hB, EReal.coe_mul]; rfl
/-- The product with the left operand transposed: both operands' first axes are summed over. -/
theorem IsR2.matmulL {A : FVec Ideal ⟨2, ![K, M]⟩ φ₁} {B : FVec Ideal ⟨2, ![K, N]⟩ φ₂} {a b : ℕ → ℕ → ℝ} (hA : IsR2 A a) (hB : IsR2 B b)
    (prec : Option ContractPrecision) (D : DotDims ⟨2, ![K, M]⟩ ⟨2, ![K, N]⟩ ⟨2, ![M, N]⟩) (hr : D.contr.rank = 1)
    (hs : D.contr.size ⟨0, by omega⟩ = K)
    (hl : ∀ i k, (D.lhsIdx i ((contrEquiv1 D K hr hs).symm k) 0).val = k.val ∧ (D.lhsIdx i ((contrEquiv1 D K hr hs).symm k) 1).val = (i 0).val)
    (hR : ∀ i k, (D.rhsIdx i ((contrEquiv1 D K hr hs).symm k) 0).val = k.val ∧ (D.rhsIdx i ((contrEquiv1 D K hr hs).symm k) 1).val = (i 1).val) :
    IsR2 (FloatOps.matmul D prec A B (constant ⟨2, ![M, N]⟩ .f32 0x00000000#32)) fun r c => ∑ k : Fin K, a k r * b k c := fun i => by
  refine (Ideal.matmul_constant_zero_apply D prec A B i).trans ?_
  rw [← Equiv.sum_comp (contrEquiv1 D K hr hs).symm]
  exact sum_eq fun k => by rw [hA, hB, (hl i k).1, (hl i k).2, (hR i k).1, (hR i k).2, EReal.coe_mul]
end Ops

end Cert.Reals
-- ==== Proof.Spec.lean ====
/-
  Attention with grouped query heads and its gradient over the real numbers: 4096 tokens, heads of `D` query and key
  columns and 128 value columns, `G` query heads to a key and value head, the scores times `c`. `q`, `k`, `v` and the
  gradient `g` of the result are read at a token and a column.
-/
module

public import Mathlib.Analysis.SpecialFunctions.Log.Basic
public import Mathlib.Analysis.SpecialFunctions.Pow.Real
public import Mathlib.Algebra.BigOperators.Fin
public import Mathlib.Algebra.BigOperators.Field

@[expose] public section

noncomputable section

namespace Cert.Attn

/-! ## One row of the softmax -/

section Row
variable {n : ℕ} (s : Fin n → ℝ)

theorem sum_exp_pos (hn : 0 < n) : 0 < ∑ j, Real.exp (s j) :=
  Finset.sum_pos (fun j _ => Real.exp_pos _) ⟨⟨0, hn⟩, Finset.mem_univ _⟩

/-- Scores in the binary logarithm's scale, lowered by any number, have the same softmax. -/
theorem softmax_shift {L : ℝ} (hL : L ≠ 0) (M : ℝ) (j : Fin n) :
    Real.exp (L * (s j * L⁻¹ - M)) = Real.exp (s j) * Real.exp (-(L * M)) := by
  rw [← Real.exp_add]; congr 1; field_simp; ring
theorem sum_shift {L : ℝ} (hL : L ≠ 0) (M : ℝ) :
    ∑ j, Real.exp (L * (s j * L⁻¹ - M)) = (∑ j, Real.exp (s j)) * Real.exp (-(L * M)) := by
  rw [Finset.sum_mul]; exact Finset.sum_congr rfl fun j _ => softmax_shift s hL M j
theorem log_sum_shift (hn : 0 < n) {L : ℝ} (hL : L ≠ 0) (M : ℝ) :
    M + Real.log (∑ j, Real.exp (L * (s j * L⁻¹ - M))) * L⁻¹ = Real.log (∑ j, Real.exp (s j)) * L⁻¹ := by
  rw [sum_shift s hL, Real.log_mul (sum_exp_pos s hn).ne' (Real.exp_pos _).ne', Real.log_exp]
  field_simp; ring
theorem mean_shift (hn : 0 < n) {L : ℝ} (hL : L ≠ 0) (M : ℝ) (w : Fin n → ℝ) :
    (∑ j, Real.exp (L * (s j * L⁻¹ - M)) * w j) / (∑ j, Real.exp (L * (s j * L⁻¹ - M)))
      = ∑ j, Real.exp (s j) / (∑ j, Real.exp (s j)) * w j := by
  have hp := (sum_exp_pos s hn).ne'
  have he := (Real.exp_pos (-(L * M))).ne'
  rw [sum_shift s hL, Finset.sum_div]
  refine Finset.sum_congr rfl fun j _ => ?_
  rw [softmax_shift s hL]; field_simp
theorem exp_sub_log (hn : 0 < n) {L : ℝ} (hL : L ≠ 0) (j : Fin n) :
    Real.exp (L * (s j * L⁻¹ - Real.log (∑ j, Real.exp (s j)) * L⁻¹)) = Real.exp (s j) / ∑ j, Real.exp (s j) := by
  rw [show L * (s j * L⁻¹ - Real.log (∑ j, Real.exp (s j)) * L⁻¹) = s j - Real.log (∑ j, Real.exp (s j)) by field_simp,
    Real.exp_sub, Real.exp_log (sum_exp_pos s hn)]
/-- The same shift for the natural exponential. -/
theorem softmax_sub (M : ℝ) (j : Fin n) :
    Real.exp (s j - M) / (∑ j, Real.exp (s j - M)) = Real.exp (s j) / ∑ j, Real.exp (s j) := by
  simp only [Real.exp_sub, ← Finset.sum_div]
  have := (Real.exp_pos M).ne'
  field_simp
end Row

/-! ## A tile of query rows `a`, their gradients `g`, and the keys `b` and values `w` of their head -/

section Tile
variable (D : ℕ) (c : ℝ) (a b w g : ℕ → ℕ → ℝ)

def tS (r j : ℕ) : ℝ := (∑ d : Fin D, a r d * b j d) * c
def tL (r : ℕ) : ℝ := ∑ j : Fin 4096, Real.exp (tS D c a b r j)
def tP (r j : ℕ) : ℝ := Real.exp (tS D c a b r j) / tL D c a b r
def tO (r d : ℕ) : ℝ := ∑ j : Fin 4096, tP D c a b r j * w j d
def tLse (r : ℕ) : ℝ := Real.log (tL D c a b r) * (Real.log 2)⁻¹
def tDP (r j : ℕ) : ℝ := ∑ d : Fin 128, g r d * w j d
def tDlt (r : ℕ) : ℝ := ∑ d : Fin 128, g r d * tO D c a b w r d
def tDS (r j : ℕ) : ℝ := tP D c a b r j * (tDP w g r j - tDlt D c a b w g r) * c
def tDQ (r d : ℕ) : ℝ := ∑ j : Fin 4096, tDS D c a b w g r j * b j d

theorem tL_pos (r : ℕ) : 0 < tL D c a b r := sum_exp_pos (fun j : Fin 4096 => tS D c a b r j) (by norm_num)
theorem log2_ne : Real.log 2 ≠ 0 := (Real.log_pos (by norm_num)).ne'
end Tile

/-! ## The whole arrays -/

section Whole
variable (D G : ℕ) (c : ℝ) (q k v g : ℕ → ℕ → ℝ)

/-- Head `h` of an array whose heads have `n` columns. -/
def head (n : ℕ) (x : ℕ → ℕ → ℝ) (h : ℕ) : ℕ → ℕ → ℝ := fun r d => x r (h * n + d)

def P (h i j : ℕ) : ℝ := tP D c (head D q h) (head D k (h / G)) i j
def O (h i d : ℕ) : ℝ := tO D c (head D q h) (head D k (h / G)) (head 128 v (h / G)) i d
def Lse (h i : ℕ) : ℝ := tLse D c (head D q h) (head D k (h / G)) i
def DS (h i j : ℕ) : ℝ := tDS D c (head D q h) (head D k (h / G)) (head 128 v (h / G)) (head 128 g h) i j
def DQ (h i d : ℕ) : ℝ := tDQ D c (head D q h) (head D k (h / G)) (head 128 v (h / G)) (head 128 g h) i d
def DK (u j d : ℕ) : ℝ := ∑ e : Fin G, ∑ i : Fin 4096, DS D G c q k v g (u * G + e) i j * head D q (u * G + e) i d
def DV (u j d : ℕ) : ℝ := ∑ e : Fin G, ∑ i : Fin 4096, P D G c q k (u * G + e) i j * head 128 g (u * G + e) i d
end Whole

end Cert.Attn
-- ==== Proof.Chunk.lean ====
/-
  What one chunk of 256 query rows makes of its loads, in both kernels, at the ideal values. The printed bodies spell the four
  chunks out with the cuts into parts falling differently; each is shown to be the first chunk's functions by unfolding.
-/
module

public import proofs.«01_k».proof.Proof.Gen.KernelIdeal.Frame
public import proofs.«01_k».proof.Proof.Reals
public import proofs.«01_k».proof.Proof.Spec
public import Idealize.ShloMosaic.PureOps.IdealRules

@[expose] public section

set_option maxRecDepth 16384

noncomputable section

namespace Cert.KernelIdeal.Val

open Idealize.ShloMosaic Idealize.ShloMosaic.TcCoe Idealize.SL.Sem
open Cert.KernelIdeal Cert.KernelIdeal.Gen Cert.Reals Cert.Attn

/-- The scale of the scores, one over the square root of the head's width. -/
abbrev cs : ℝ := (Real.sqrt 128)⁻¹

theorem named_sl (b : BitVec 32) : (Named.named κ "scale_log2e" b : Ideal .f32) = ((cs * (Real.log 2)⁻¹ : ℝ) : EReal) :=
  IdealRules.named_const.ideal_named_scalar κ "scale_log2e" (φ := .f32) b _ rfl
theorem named_s (b : BitVec 32) : (Named.named κ "scale" b : Ideal .f32) = ((cs : ℝ) : EReal) :=
  IdealRules.named_const.ideal_named_scalar κ "scale" (φ := .f32) b _ rfl
theorem named_l (b : BitVec 32) : (Named.named κ "log2e" b : Ideal .f32) = (((Real.log 2)⁻¹ : ℝ) : EReal) :=
  IdealRules.named_const.ideal_named_scalar κ "log2e" (φ := .f32) b _ rfl

section Ideal
variable {K W : Vec Ideal S4096x128 .bf16} {Q : Vec Ideal S256x128 .bf16} {a b w g o : ℕ → ℕ → ℝ}

/-! ## The forward kernel -/

theorem score (hQ : IsR2 Q a) (hK : IsR2 K b) : IsR2 (k0_pay8 (F := Ideal) K Q) fun r j => tS 128 cs a b r j * (Real.log 2)⁻¹ :=
  ((hQ.matmulT hK none).mul (IsR2.const (named_sl _))).congr fun r _ j _ => by
    show (∑ d : Fin 128, a r d * b j d) * (cs * (Real.log 2)⁻¹) = _
    unfold tS; ring

theorem forward (hQ : IsR2 Q a) (hK : IsR2 K b) (hW : IsR2 W w) :
    IsR2 (k0_pay12 (F := Ideal) K W Q) (tO 128 cs a b w) ∧ IsR3 (k0_pay13 (F := Ideal) K Q) fun _ r _ => tLse 128 cs a b r := by
  obtain ⟨M, hM⟩ := (score hQ hK).rowMax (by norm_num) reduces_S256x4096_S256 (.inl rfl) rfl
  have h9 : IsR2 (k0_pay9 (F := Ideal) K Q) fun r _ => M r := hM.toCol shapeCasts_S256_S256x1
  have h10 := ((score hQ hK).sub (h9.spread broadcasts_S256x1_S256x4096)).pow2
  have h11 := (h10.rowSum reduces_S256x4096_S256 (.inl rfl) rfl).toCol shapeCasts_S256_S256x1
  have pos : ∀ r, 0 < ∑ k : Fin 4096, Real.exp (Real.log 2 * (tS 128 cs a b r k * (Real.log 2)⁻¹ - M r)) :=
    fun r => sum_exp_pos _ (by norm_num)
  constructor
  · exact ((((h10.trunc bitsLt_bf16_f32).matmul hW none).div (h11.spread broadcasts_S256x1_S256x128)
      fun r _ _ _ => (pos r).ne').cast shapeCasts_S256x128_S256x128).congr fun r _ d _ =>
        mean_shift (fun j : Fin 4096 => tS 128 cs a b r j) (by norm_num) log2_ne (M r) fun j => w j d
  · have := (((h9.add ((h11.ln fun r _ _ _ => pos r).mul (IsR2.const (named_l 0x3FB8AA3B#32)))).cast shapeCasts_S256x1_S256x1).spread
      broadcasts_S256x1_S256x128).toSlab shapeCasts_S256x128_S1x256x128
    exact fun i => (this i).trans (congrArg _ (log_sum_shift (fun j : Fin 4096 => tS 128 cs a b (i 1).val j) (by norm_num) log2_ne (M _)))

/-! ## The backward kernel -/

variable {L : Vec Ideal S1x256x1 .f32} {DO OO : Vec Ideal S256x128 .f32}

theorem probs (hQ : IsR2 Q a) (hK : IsR2 K b) (hL : IsR3 L fun _ r _ => tLse 128 cs a b r) :
    IsR2 (k1_pay5 (F := Ideal) K Q L) (tP 128 cs a b) :=
  ((score hQ hK).sub ((hL.toPlane shapeCasts_S1x256x1_S256x1).spread broadcasts_S256x1_S256x4096)).pow2.congr fun r _ j hj =>
    exp_sub_log (fun j : Fin 4096 => tS 128 cs a b r j) (by norm_num) log2_ne ⟨j, hj⟩

theorem dscore (hQ : IsR2 Q a) (hK : IsR2 K b) (hW : IsR2 W w) (hL : IsR3 L fun _ r _ => tLse 128 cs a b r) (hG : IsR2 DO g)
    (hO : IsR2 OO (tO 128 cs a b w)) :
    IsR2 (k1_pay8 (F := Ideal) (k1_pay5 K Q L) (k1_pay6 W DO) (k1_pay7 DO OO)) (tDS 128 cs a b w g) := by
  have h6 : IsR2 (k1_pay6 (F := Ideal) W DO) (tDP w g) := (hG.trunc bitsLt_bf16_f32).matmulT hW none
  have hd := ((hG.mul hO).rowSum reduces_S256x128_S256 (.inl rfl) rfl).toCol shapeCasts_S256_S256x1
  exact ((((probs hQ hK hL).mul (h6.sub (hd.spread broadcasts_S256x1_S256x4096))).mul (IsR2.const (named_s _))).trunc bitsLt_bf16_f32)

theorem dq_chunk (hQ : IsR2 Q a) (hK : IsR2 K b) (hW : IsR2 W w) (hL : IsR3 L fun _ r _ => tLse 128 cs a b r) (hG : IsR2 DO g)
    (hO : IsR2 OO (tO 128 cs a b w)) :
    IsR2 (k1_pay11 (F := Ideal) K (k1_pay5 K Q L) (k1_pay6 W DO) (k1_pay7 DO OO)) (tDQ 128 cs a b w g) :=
  ((dscore hQ hK hW hL hG hO).matmul hK none).cast shapeCasts_S256x128_S256x128

theorem tn_l (i : S4096x128.Idx) (k : Fin 256) :
    let D := dot_S256x4096_S256x128_S4096x128_0_0_1_1_n_n
    (D.lhsIdx i ((ValueIdx.contrEquiv1 D 256 rfl rfl).symm k) 0).val = k.val ∧ (D.lhsIdx i ((ValueIdx.contrEquiv1 D 256 rfl rfl).symm k) 1).val = (i 0).val :=
  ⟨ValueIdx.contrEquiv1_symm_val dot_S256x4096_S256x128_S4096x128_0_0_1_1_n_n 256 rfl rfl k, rfl⟩
theorem tn_r (i : S4096x128.Idx) (k : Fin 256) :
    let D := dot_S256x4096_S256x128_S4096x128_0_0_1_1_n_n
    (D.rhsIdx i ((ValueIdx.contrEquiv1 D 256 rfl rfl).symm k) 0).val = k.val ∧ (D.rhsIdx i ((ValueIdx.contrEquiv1 D 256 rfl rfl).symm k) 1).val = (i 1).val :=
  ⟨ValueIdx.contrEquiv1_symm_val dot_S256x4096_S256x128_S4096x128_0_0_1_1_n_n 256 rfl rfl k, rfl⟩

theorem dk_chunk {X : Vec Ideal S4096x128 .f32} {x : ℕ → ℕ → ℝ} (hX : IsR2 X x) (hQ : IsR2 Q a) (hK : IsR2 K b) (hW : IsR2 W w)
    (hL : IsR3 L fun _ r _ => tLse 128 cs a b r) (hG : IsR2 DO g) (hO : IsR2 OO (tO 128 cs a b w)) :
    IsR2 (k1_pay10 (F := Ideal) Q (k1_pay5 K Q L) (k1_pay6 W DO) (k1_pay7 DO OO) X)
      fun j d => x j d + ∑ r : Fin 256, tDS 128 cs a b w g r j * a r d :=
  (hX.add ((dscore hQ hK hW hL hG hO).matmulL hQ none dot_S256x4096_S256x128_S4096x128_0_0_1_1_n_n rfl rfl tn_l tn_r)).cast
    shapeCasts_S4096x128_S4096x128

theorem dv_chunk {X : Vec Ideal S4096x128 .f32} {x : ℕ → ℕ → ℝ} (hX : IsR2 X x) (hQ : IsR2 Q a) (hK : IsR2 K b)
    (hL : IsR3 L fun _ r _ => tLse 128 cs a b r) (hG : IsR2 DO g) :
    IsR2 (k1_pay9 (F := Ideal) (k1_pay4 DO) (k1_pay5 K Q L) X)
      fun j d => x j d + ∑ r : Fin 256, tP 128 cs a b r j * g r d :=
  (hX.add (((probs hQ hK hL).trunc bitsLt_bf16_f32).matmulL (hG.trunc bitsLt_bf16_f32) none
    dot_S256x4096_S256x128_S4096x128_0_0_1_1_n_n rfl rfl tn_l tn_r)).cast shapeCasts_S4096x128_S4096x128

theorem zero_k : IsR2 (k1_pay2 (F := Ideal)) fun _ _ => 0 :=
  (IsR2.const (x := Ideal.ofBits .f32 0x00000000#32) (by rw [Ideal.ofBits_zero_f32]; rfl)).cast shapeCasts_S4096x128_S4096x128
theorem zero_v : IsR2 (k1_pay3 (F := Ideal)) fun _ _ => 0 :=
  (IsR2.const (x := Ideal.ofBits .f32 0x00000000#32) (by rw [Ideal.ofBits_zero_f32]; rfl)).cast shapeCasts_S4096x128_S4096x128
end Ideal

end Cert.KernelIdeal.Val
-- ==== Proof.Forward.lean ====
/-
  The forward kernel's two results: at a grid point the block of the output and of the log-sums as functions of the point's query,
  key and value blocks, then the two whole arrays.
-/
module

public import proofs.«01_k».proof.Proof.Chunk
public import Idealize.ShloMosaic.Lib.Pipeline.ValueKit.Point

@[expose] public section

set_option maxRecDepth 16384

noncomputable section

namespace Cert.KernelIdeal.Val

open Idealize.ShloMosaic Idealize.ShloMosaic.TcCoe Idealize.SL.Sem Idealize.ShloMosaic.Pipeline
open Cert.KernelIdeal Cert.KernelIdeal.Gen Cert.Reals Cert.Attn

/-- Rows `o` to `o + n` of a matrix of reals. -/
theorem ldRows {N M n o : ℕ} {X : (⟨2, ![N, M]⟩ : Shape).Idx → EReal} {x : ℕ → ℕ → ℝ} (hX : IsR2 X x)
    (inb : ∀ a, (![o, 0] : Fin 2 → ℕ) a + (![n, M] : Fin 2 → ℕ) a ≤ (⟨2, ![N, M]⟩ : Shape).size a) :
    IsR2 (n0 := n) (n1 := M) (fun i => X ((Rect.unit (s := ⟨2, ![N, M]⟩) ![o, 0] ![n, M] inb).idx i)) fun r d => x (o + r) d := fun i =>
  (hX _).trans (congrArg _ (by congr 1 <;> simp [Rect.idx_unit_val]))

section Ideal
variable {K W : Vec Ideal S4096x128 .bf16} {Q : Vec Ideal S1024x128 .bf16} {a b w : ℕ → ℕ → ℝ}

theorem full {K : Vec Ideal S4096x128 .bf16} {b : ℕ → ℕ → ℝ} (hK : IsR2 K b) : IsR2 (n0 := 4096) (n1 := 128) (View.ld K r0_0) b :=
  (ldRows hK (o := 0) (n := 4096) inb_S4096x128_S4096x128_0_0).congr (y := b) fun r _ d _ => by rw [Nat.zero_add]

theorem o_block (hQ : IsR2 Q a) (hK : IsR2 K b) (hW : IsR2 W w) : IsR2 (out0_3 (F := Ideal) Q K W) (tO 128 cs a b w) := fun y => by
  unfold_out out0_3
  canon_tiles x ha using cover0_3 ..
  case piece0 => exact ((forward (ldRows hQ inb_S1024x128_S256x128_768_0) (full hK) (full hW)).1 x).trans (by rw [ha0, ha1]; rfl)
  case piece1 => exact ((forward (ldRows hQ inb_S1024x128_S256x128_512_0) (full hK) (full hW)).1 x).trans (by rw [ha0, ha1]; rfl)
  case piece2 => exact ((forward (ldRows hQ inb_S1024x128_S256x128_256_0) (full hK) (full hW)).1 x).trans (by rw [ha0, ha1]; rfl)
  case piece3 => exact ((forward (ldRows hQ inb_S1024x128_S256x128_0_0) (full hK) (full hW)).1 x).trans (by rw [ha0, ha1]; simp only [tO, tP, tL, tS, Nat.zero_add])

theorem lse_block (hQ : IsR2 Q a) (hK : IsR2 K b) (hW : IsR2 W w) :
    IsR3 (out0_4 (F := Ideal) Q K W) fun _ r _ => tLse 128 cs a b r := fun y => by
  unfold_out out0_4
  canon_tiles x ha using cover0_4 ..
  case piece0 => exact ((forward (ldRows hQ inb_S1024x128_S256x128_768_0) (full hK) (full hW)).2 x).trans (by rw [ha1]; rfl)
  case piece1 => exact ((forward (ldRows hQ inb_S1024x128_S256x128_512_0) (full hK) (full hW)).2 x).trans (by rw [ha1]; rfl)
  case piece2 => exact ((forward (ldRows hQ inb_S1024x128_S256x128_256_0) (full hK) (full hW)).2 x).trans (by rw [ha1]; rfl)
  case piece3 => exact ((forward (ldRows hQ inb_S1024x128_S256x128_0_0) (full hK) (full hW)).2 x).trans (by rw [ha1]; simp only [tLse, tL, tS, Nat.zero_add])
end Ideal

/-! ## The blocks of a grid point, and the arrays -/

theorem ix0 : (∀ t : Fin cfg0.N, win0_0.index t = ![t.val % 4, t.val / 4]) ∧ (∀ t : Fin cfg0.N, win0_1.index t = ![0, t.val / 4 / 3])
    ∧ (∀ t : Fin cfg0.N, win0_2.index t = ![0, t.val / 4 / 3]) ∧ (∀ t : Fin cfg0.N, win0_3.index t = ![t.val % 4, t.val / 4])
    ∧ (∀ t : Fin cfg0.N, win0_4.index t = ![t.val / 4, t.val % 4, 0]) := by decide +kernel

section Run
variable {V : (c : Dev nD) → (b : Ref sig .tc) → Buf (Elt Ideal) ((c : Thread nD τ).loc b)} {q k v : ℕ → ℕ → ℝ}

/-- The `1024` rows and the head's columns that grid point `t` reads of a matrix the heads of which lie side by side. -/
abbrev qT (q : ℕ → ℕ → ℝ) (t : ℕ) : ℕ → ℕ → ℝ := fun r d => head 128 q (t / 4) (t % 4 * 1024 + r) d
/-- The key head's columns that grid point `t` reads. -/
abbrev kT (k : ℕ → ℕ → ℝ) (t : ℕ) : ℕ → ℕ → ℝ := head 128 k (t / 4 / 3)

theorem q0 (c : Dev nD) (hq : IsR2 (n0 := 4096) (n1 := 768) (V c main_arg0) q) (t : Fin cfg0.N) :
    IsR2 (n0 := 1024) (n1 := 128) (iblk0 V c 0 t) (qT q t) := fun y => by
  blk_simp [iblk0]
  refine (hq _).trans (congrArg _ ?_)
  blk_simp [ix0.1 t]
  rfl
theorem k0 (c : Dev nD) (hk : IsR2 (n0 := 4096) (n1 := 256) (V c main_arg1) k) (t : Fin cfg0.N) :
    IsR2 (n0 := 4096) (n1 := 128) (iblk0 V c 1 t) (kT k t) := fun y => by
  blk_simp [iblk0]
  refine (hk _).trans (congrArg _ ?_)
  blk_simp [ix0.2.1 t]
  simp [kT, head]
theorem v0 (c : Dev nD) (hv : IsR2 (n0 := 4096) (n1 := 256) (V c main_arg2) v) (t : Fin cfg0.N) :
    IsR2 (n0 := 4096) (n1 := 128) (iblk0 V c 2 t) (kT v t) := fun y => by
  blk_simp [iblk0]
  refine (hv _).trans (congrArg _ ?_)
  blk_simp [ix0.2.2.1 t]
  simp [kT, head]

/-- The output array. -/
theorem o_array (c : Dev nD) (hq : IsR2 (n0 := 4096) (n1 := 768) (V c main_arg0) q) (hk : IsR2 (n0 := 4096) (n1 := 256) (V c main_arg1) k)
    (hv : IsR2 (n0 := 4096) (n1 := 256) (V c main_arg2) v) :
    IsR2 (n0 := 4096) (n1 := 768) ((dat0 V c).arrAt 3 cfg0.N) fun r j => O 128 3 cs q k v (j / 128) r (j % 128) := by
  intro i
  refine (dat0 V c).arrAt_forall_of_covers 3 (fun i x => x = ((O 128 3 cs q k v ((i 1).val / 128) (i 0).val ((i 1).val % 128) : ℝ) : EReal))
    (by decide +kernel) (fun t _ y => ?_) i
  blk_simp [ix0.2.2.2.1 t]
  rw [after0_3]
  refine (o_block (q0 c hq t) (k0 c hk t) (v0 c hv t) _).trans (congrArg _ ?_)
  idx_bounds y
  have e1 : (t.val / 4 * 128 + (y 1).val) / 128 = t.val / 4 := by omega
  have e2 : (t.val / 4 * 128 + (y 1).val) % 128 = (y 1).val := by omega
  rw [e1, e2]; rfl

/-- The array of the log-sums, each spread along the lanes. -/
theorem lse_array (c : Dev nD) (hq : IsR2 (n0 := 4096) (n1 := 768) (V c main_arg0) q) (hk : IsR2 (n0 := 4096) (n1 := 256) (V c main_arg1) k)
    (hv : IsR2 (n0 := 4096) (n1 := 256) (V c main_arg2) v) :
    IsR3 (n0 := 6) (n1 := 4096) (n2 := 128) ((dat0 V c).arrAt 4 cfg0.N) fun h r _ => Lse 128 3 cs q k h r := by
  intro i
  refine (dat0 V c).arrAt_forall_of_covers 4 (fun i x => x = ((Lse 128 3 cs q k (i 0).val (i 1).val : ℝ) : EReal))
    (by decide +kernel) (fun t _ y => ?_) i
  blk_simp [ix0.2.2.2.2 t]
  rw [after0_4]
  refine (lse_block (q0 c hq t) (k0 c hk t) (v0 c hv t) _).trans (congrArg _ ?_)
  rfl
end Run

end Cert.KernelIdeal.Val
-- ==== Proof.Backward.lean ====
/-
  The backward kernel's three results. A grid point's query block is taken in four chunks of 256 rows; the key and value gradients
  stay in their buffers over the 12 points of a key head (3 query heads by 4 blocks) and gather one chunk's share at a time.
-/
module

public import proofs.«01_k».proof.Proof.Forward

@[expose] public section

set_option maxRecDepth 16384

noncomputable section

namespace Cert.KernelIdeal.Val

open Idealize.ShloMosaic Idealize.ShloMosaic.TcCoe Idealize.SL.Sem Idealize.ShloMosaic.Pipeline
open Cert.KernelIdeal Cert.KernelIdeal.Gen Cert.Reals Cert.Attn

/-- The first lane of rows `o` to `o + n` of a slab. -/
theorem ldCol {N n o : ℕ} {X : (⟨3, ![1, N, 128]⟩ : Shape).Idx → EReal} {x : ℕ → ℝ} (hX : IsR3 X fun _ r _ => x r)
    (inb : ∀ a, (![0, o, 0] : Fin 3 → ℕ) a + (![1, n, 1] : Fin 3 → ℕ) a ≤ (⟨3, ![1, N, 128]⟩ : Shape).size a) :
    IsR3 (n0 := 1) (n1 := n) (n2 := 1) (fun i => X ((Rect.unit (s := ⟨3, ![1, N, 128]⟩) ![0, o, 0] ![1, n, 1] inb).idx i)) fun _ r _ => x (o + r) := fun i =>
  (hX _).trans (congrArg _ (by simp [Rect.idx_unit_val]))

theorem ix1 : (∀ t : Fin cfg1.N, win1_0.index t = ![t.val % 4, t.val / 4]) ∧ (∀ t : Fin cfg1.N, win1_1.index t = ![0, t.val / 4 / 3])
    ∧ (∀ t : Fin cfg1.N, win1_2.index t = ![0, t.val / 4 / 3]) ∧ (∀ t : Fin cfg1.N, win1_3.index t = ![t.val % 4, t.val / 4])
    ∧ (∀ t : Fin cfg1.N, win1_4.index t = ![t.val % 4, t.val / 4]) ∧ (∀ t : Fin cfg1.N, win1_5.index t = ![t.val / 4, t.val % 4, 0])
    ∧ (∀ t : Fin cfg1.N, win1_6.index t = ![t.val % 4, t.val / 4]) ∧ (∀ t : Fin cfg1.N, win1_7.index t = ![0, t.val / 4 / 3])
    ∧ (∀ t : Fin cfg1.N, win1_8.index t = ![0, t.val / 4 / 3]) := by decide +kernel

section Run
variable {V : (c : Dev nD) → (b : Ref sig .tc) → Buf (Elt Ideal) ((c : Thread nD τ).loc b)} {q k v g : ℕ → ℕ → ℝ}

/-- What the backward kernel starts from: the four arguments, and the forward kernel's two results. -/
structure Start (V : (c : Dev nD) → (b : Ref sig .tc) → Buf (Elt Ideal) ((c : Thread nD τ).loc b)) (c : Dev nD) (q k v g : ℕ → ℕ → ℝ) : Prop where
  hq : IsR2 (n0 := 4096) (n1 := 768) (V c main_arg0) q
  hk : IsR2 (n0 := 4096) (n1 := 256) (V c main_arg1) k
  hv : IsR2 (n0 := 4096) (n1 := 256) (V c main_arg2) v
  hg : IsR2 (n0 := 4096) (n1 := 768) (V c main_arg3) g
  ho : IsR2 (n0 := 4096) (n1 := 768) (V c main_v0_0) fun r j => O 128 3 cs q k v (j / 128) r (j % 128)
  hl : IsR3 (n0 := 6) (n1 := 4096) (n2 := 128) (V c main_v0_1) fun h r _ => Lse 128 3 cs q k h r

variable {c : Dev nD} (S : Start V c q k v g) (t : Fin cfg1.N)
include S

theorem Start.q1 : IsR2 (n0 := 1024) (n1 := 128) (iblk1 V c 0 t) (qT q t) := fun y => by
  blk_simp [iblk1]
  refine (S.hq _).trans (congrArg _ ?_)
  blk_simp [ix1.1 t]
  rfl
theorem Start.k1 : IsR2 (n0 := 4096) (n1 := 128) (iblk1 V c 1 t) (kT k t) := fun y => by
  blk_simp [iblk1]
  refine (S.hk _).trans (congrArg _ ?_)
  blk_simp [ix1.2.1 t]
  simp [kT, head]
theorem Start.v1 : IsR2 (n0 := 4096) (n1 := 128) (iblk1 V c 2 t) (kT v t) := fun y => by
  blk_simp [iblk1]
  refine (S.hv _).trans (congrArg _ ?_)
  blk_simp [ix1.2.2.1 t]
  simp [kT, head]
theorem Start.g1 : IsR2 (n0 := 1024) (n1 := 128) (iblk1 V c 4 t) (qT g t) := fun y => by
  blk_simp [iblk1]
  refine (S.hg _).trans (congrArg _ ?_)
  blk_simp [ix1.2.2.2.2.1 t]
  rfl
theorem Start.o1 : IsR2 (n0 := 1024) (n1 := 128) (iblk1 V c 3 t) (tO 128 cs (qT q t) (kT k t) (kT v t)) := fun y => by
  blk_simp [iblk1]
  refine (S.ho _).trans (congrArg _ ?_)
  blk_simp [ix1.2.2.2.1 t]
  idx_bounds y
  have e1 : (t.val / 4 * 128 + (y 1).val) / 128 = t.val / 4 := by omega
  have e2 : (t.val / 4 * 128 + (y 1).val) % 128 = (y 1).val := by omega
  rw [e1, e2]; rfl
theorem Start.l1 : IsR3 (n0 := 1) (n1 := 1024) (n2 := 128) (iblk1 V c 5 t) fun _ r _ => tLse 128 cs (qT q t) (kT k t) r := fun y => by
  blk_simp [iblk1]
  refine (S.hl _).trans (congrArg _ ?_)
  blk_simp [ix1.2.2.2.2.2.1 t]
  rfl

/-- The query gradient's block. -/
theorem Start.dq_block : IsR2 (n0 := 1024) (n1 := 128) (outsAt1 V c t.val t.isLt).1 (tDQ 128 cs (qT q t) (kT k t) (kT v t) (qT g t)) := fun y => by
  by_cases h : t.val % 12 = 0
  · rw [outsAt1_A V c t h]; frame_out
    canon_tiles x ha
    case piece0 => exact (dq_chunk (ldRows (S.q1 t) inb_S1024x128_S256x128_768_0) (S.k1 t) (S.v1 t) (ldCol (S.l1 t) inb_S1x1024x128_S1x256x1_0_768_0) (ldRows (S.g1 t) inb_S1024x128_S256x128_768_0) (ldRows (S.o1 t) inb_S1024x128_S256x128_768_0) x).trans (by rw [ha0, ha1]; rfl)
    case piece1 => exact (dq_chunk (ldRows (S.q1 t) inb_S1024x128_S256x128_512_0) (S.k1 t) (S.v1 t) (ldCol (S.l1 t) inb_S1x1024x128_S1x256x1_0_512_0) (ldRows (S.g1 t) inb_S1024x128_S256x128_512_0) (ldRows (S.o1 t) inb_S1024x128_S256x128_512_0) x).trans (by rw [ha0, ha1]; rfl)
    case piece2 => exact (dq_chunk (ldRows (S.q1 t) inb_S1024x128_S256x128_256_0) (S.k1 t) (S.v1 t) (ldCol (S.l1 t) inb_S1x1024x128_S1x256x1_0_256_0) (ldRows (S.g1 t) inb_S1024x128_S256x128_256_0) (ldRows (S.o1 t) inb_S1024x128_S256x128_256_0) x).trans (by rw [ha0, ha1]; rfl)
    case piece3 => exact (dq_chunk (ldRows (S.q1 t) inb_S1024x128_S256x128_0_0) (S.k1 t) (S.v1 t) (ldCol (S.l1 t) inb_S1x1024x128_S1x256x1_0_0_0) (ldRows (S.g1 t) inb_S1024x128_S256x128_0_0) (ldRows (S.o1 t) inb_S1024x128_S256x128_0_0) x).trans (by rw [ha0, ha1]; simp only [tDQ, tDS, tP, tL, tDP, tDlt, tO, tS, Nat.zero_add])
  · rw [outsAt1_B V c t h]; frame_out
    canon_tiles x ha
    case piece0 => exact (dq_chunk (ldRows (S.q1 t) inb_S1024x128_S256x128_768_0) (S.k1 t) (S.v1 t) (ldCol (S.l1 t) inb_S1x1024x128_S1x256x1_0_768_0) (ldRows (S.g1 t) inb_S1024x128_S256x128_768_0) (ldRows (S.o1 t) inb_S1024x128_S256x128_768_0) x).trans (by rw [ha0, ha1]; rfl)
    case piece1 => exact (dq_chunk (ldRows (S.q1 t) inb_S1024x128_S256x128_512_0) (S.k1 t) (S.v1 t) (ldCol (S.l1 t) inb_S1x1024x128_S1x256x1_0_512_0) (ldRows (S.g1 t) inb_S1024x128_S256x128_512_0) (ldRows (S.o1 t) inb_S1024x128_S256x128_512_0) x).trans (by rw [ha0, ha1]; rfl)
    case piece2 => exact (dq_chunk (ldRows (S.q1 t) inb_S1024x128_S256x128_256_0) (S.k1 t) (S.v1 t) (ldCol (S.l1 t) inb_S1x1024x128_S1x256x1_0_256_0) (ldRows (S.g1 t) inb_S1024x128_S256x128_256_0) (ldRows (S.o1 t) inb_S1024x128_S256x128_256_0) x).trans (by rw [ha0, ha1]; rfl)
    case piece3 => exact (dq_chunk (ldRows (S.q1 t) inb_S1024x128_S256x128_0_0) (S.k1 t) (S.v1 t) (ldCol (S.l1 t) inb_S1x1024x128_S1x256x1_0_0_0) (ldRows (S.g1 t) inb_S1024x128_S256x128_0_0) (ldRows (S.o1 t) inb_S1024x128_S256x128_0_0) x).trans (by rw [ha0, ha1]; simp only [tDQ, tDS, tP, tL, tDP, tDlt, tO, tS, Nat.zero_add])

omit S in
theorem sum_four (f : ℕ → ℝ) (x : ℝ) : x + ∑ r : Fin 256, f (0 + r) + ∑ r : Fin 256, f (256 + r) + ∑ r : Fin 256, f (512 + r)
    + ∑ r : Fin 256, f (768 + r) = x + ∑ r : Fin 1024, f r := by
  rw [Fin.sum_univ_eq_sum_range (fun r => f (0 + r)), Fin.sum_univ_eq_sum_range (fun r => f (256 + r)), Fin.sum_univ_eq_sum_range (fun r => f (512 + r)),
    Fin.sum_univ_eq_sum_range (fun r => f (768 + r)), Fin.sum_univ_eq_sum_range f, show 1024 = 256 + 256 + 256 + 256 from rfl, Finset.sum_range_add,
    Finset.sum_range_add, Finset.sum_range_add]
  simp only [Nat.zero_add, add_assoc, Nat.reduceAdd]

/-- One grid point's share of the key gradient. -/
def dkPart (q k v g : ℕ → ℕ → ℝ) (t j d : ℕ) : ℝ := ∑ r : Fin 1024, tDS 128 cs (qT q t) (kT k t) (kT v t) (qT g t) r j * qT q t r d
/-- One grid point's share of the value gradient. -/
def dvPart (q k g : ℕ → ℕ → ℝ) (t j d : ℕ) : ℝ := ∑ r : Fin 1024, tP 128 cs (qT q t) (kT k t) r j * qT g t r d

theorem Start.dk_first (h : t.val % 12 = 0) : IsR2 (n0 := 4096) (n1 := 128) (outsAt1 V c t.val t.isLt).2.1 (dkPart q k v g t) := by
  have h0 := dk_chunk zero_k (ldRows (S.q1 t) inb_S1024x128_S256x128_0_0) (S.k1 t) (S.v1 t) (ldCol (S.l1 t) inb_S1x1024x128_S1x256x1_0_0_0) (ldRows (S.g1 t) inb_S1024x128_S256x128_0_0) (ldRows (S.o1 t) inb_S1024x128_S256x128_0_0)
  have h1 := dk_chunk h0 (ldRows (S.q1 t) inb_S1024x128_S256x128_256_0) (S.k1 t) (S.v1 t) (ldCol (S.l1 t) inb_S1x1024x128_S1x256x1_0_256_0) (ldRows (S.g1 t) inb_S1024x128_S256x128_256_0) (ldRows (S.o1 t) inb_S1024x128_S256x128_256_0)
  have h2 := dk_chunk h1 (ldRows (S.q1 t) inb_S1024x128_S256x128_512_0) (S.k1 t) (S.v1 t) (ldCol (S.l1 t) inb_S1x1024x128_S1x256x1_0_512_0) (ldRows (S.g1 t) inb_S1024x128_S256x128_512_0) (ldRows (S.o1 t) inb_S1024x128_S256x128_512_0)
  have h3 := dk_chunk h2 (ldRows (S.q1 t) inb_S1024x128_S256x128_768_0) (S.k1 t) (S.v1 t) (ldCol (S.l1 t) inb_S1x1024x128_S1x256x1_0_768_0) (ldRows (S.g1 t) inb_S1024x128_S256x128_768_0) (ldRows (S.o1 t) inb_S1024x128_S256x128_768_0)
  rw [outsAt1_A V c t h]; frame_out
  exact IsR2.congr h3 fun j _ d _ => (sum_four (fun r => tDS 128 cs (qT q t) (kT k t) (kT v t) (qT g t) r j * qT q t r d) 0).trans (zero_add _)
theorem Start.dv_first (h : t.val % 12 = 0) : IsR2 (n0 := 4096) (n1 := 128) (outsAt1 V c t.val t.isLt).2.2 (dvPart q k g t) := by
  have h0 := dv_chunk zero_v (ldRows (S.q1 t) inb_S1024x128_S256x128_0_0) (S.k1 t) (ldCol (S.l1 t) inb_S1x1024x128_S1x256x1_0_0_0) (ldRows (S.g1 t) inb_S1024x128_S256x128_0_0)
  have h1 := dv_chunk h0 (ldRows (S.q1 t) inb_S1024x128_S256x128_256_0) (S.k1 t) (ldCol (S.l1 t) inb_S1x1024x128_S1x256x1_0_256_0) (ldRows (S.g1 t) inb_S1024x128_S256x128_256_0)
  have h2 := dv_chunk h1 (ldRows (S.q1 t) inb_S1024x128_S256x128_512_0) (S.k1 t) (ldCol (S.l1 t) inb_S1x1024x128_S1x256x1_0_512_0) (ldRows (S.g1 t) inb_S1024x128_S256x128_512_0)
  have h3 := dv_chunk h2 (ldRows (S.q1 t) inb_S1024x128_S256x128_768_0) (S.k1 t) (ldCol (S.l1 t) inb_S1x1024x128_S1x256x1_0_768_0) (ldRows (S.g1 t) inb_S1024x128_S256x128_768_0)
  rw [outsAt1_A V c t h]; frame_out
  exact IsR2.congr h3 fun j _ d _ => (sum_four (fun r => tP 128 cs (qT q t) (kT k t) r j * qT g t r d) 0).trans (zero_add _)
theorem Start.dk_next (h : ¬t.val % 12 = 0) {x : ℕ → ℕ → ℝ} (hx : IsR2 (n0 := 4096) (n1 := 128) (outsAt1 V c (t.val - 1) (by omega)).2.1 x) :
    IsR2 (n0 := 4096) (n1 := 128) (outsAt1 V c t.val t.isLt).2.1 fun j d => x j d + dkPart q k v g t j d := by
  have h0 := dk_chunk hx (ldRows (S.q1 t) inb_S1024x128_S256x128_0_0) (S.k1 t) (S.v1 t) (ldCol (S.l1 t) inb_S1x1024x128_S1x256x1_0_0_0) (ldRows (S.g1 t) inb_S1024x128_S256x128_0_0) (ldRows (S.o1 t) inb_S1024x128_S256x128_0_0)
  have h1 := dk_chunk h0 (ldRows (S.q1 t) inb_S1024x128_S256x128_256_0) (S.k1 t) (S.v1 t) (ldCol (S.l1 t) inb_S1x1024x128_S1x256x1_0_256_0) (ldRows (S.g1 t) inb_S1024x128_S256x128_256_0) (ldRows (S.o1 t) inb_S1024x128_S256x128_256_0)
  have h2 := dk_chunk h1 (ldRows (S.q1 t) inb_S1024x128_S256x128_512_0) (S.k1 t) (S.v1 t) (ldCol (S.l1 t) inb_S1x1024x128_S1x256x1_0_512_0) (ldRows (S.g1 t) inb_S1024x128_S256x128_512_0) (ldRows (S.o1 t) inb_S1024x128_S256x128_512_0)
  have h3 := dk_chunk h2 (ldRows (S.q1 t) inb_S1024x128_S256x128_768_0) (S.k1 t) (S.v1 t) (ldCol (S.l1 t) inb_S1x1024x128_S1x256x1_0_768_0) (ldRows (S.g1 t) inb_S1024x128_S256x128_768_0) (ldRows (S.o1 t) inb_S1024x128_S256x128_768_0)
  rw [outsAt1_B V c t h]; frame_out
  exact IsR2.congr h3 fun j _ d _ => sum_four (fun r => tDS 128 cs (qT q t) (kT k t) (kT v t) (qT g t) r j * qT q t r d) (x j d)
theorem Start.dv_next (h : ¬t.val % 12 = 0) {x : ℕ → ℕ → ℝ} (hx : IsR2 (n0 := 4096) (n1 := 128) (outsAt1 V c (t.val - 1) (by omega)).2.2 x) :
    IsR2 (n0 := 4096) (n1 := 128) (outsAt1 V c t.val t.isLt).2.2 fun j d => x j d + dvPart q k g t j d := by
  have h0 := dv_chunk hx (ldRows (S.q1 t) inb_S1024x128_S256x128_0_0) (S.k1 t) (ldCol (S.l1 t) inb_S1x1024x128_S1x256x1_0_0_0) (ldRows (S.g1 t) inb_S1024x128_S256x128_0_0)
  have h1 := dv_chunk h0 (ldRows (S.q1 t) inb_S1024x128_S256x128_256_0) (S.k1 t) (ldCol (S.l1 t) inb_S1x1024x128_S1x256x1_0_256_0) (ldRows (S.g1 t) inb_S1024x128_S256x128_256_0)
  have h2 := dv_chunk h1 (ldRows (S.q1 t) inb_S1024x128_S256x128_512_0) (S.k1 t) (ldCol (S.l1 t) inb_S1x1024x128_S1x256x1_0_512_0) (ldRows (S.g1 t) inb_S1024x128_S256x128_512_0)
  have h3 := dv_chunk h2 (ldRows (S.q1 t) inb_S1024x128_S256x128_768_0) (S.k1 t) (ldCol (S.l1 t) inb_S1x1024x128_S1x256x1_0_768_0) (ldRows (S.g1 t) inb_S1024x128_S256x128_768_0)
  rw [outsAt1_B V c t h]; frame_out
  exact IsR2.congr h3 fun j _ d _ => sum_four (fun r => tP 128 cs (qT q t) (kT k t) r j * qT g t r d) (x j d)

theorem Start.dk_sum (n : ℕ) (hn : n < cfg1.N) : IsR2 (n0 := 4096) (n1 := 128) (outsAt1 V c n hn).2.1
    fun j d => ∑ s ∈ Finset.range (n % 12 + 1), dkPart q k v g (n - n % 12 + s) j d := by
  induction n with
  | zero => exact (S.dk_first ⟨0, hn⟩ rfl).congr fun j _ d _ => by simp
  | succ n ih =>
    by_cases h : (n + 1) % 12 = 0
    · exact (S.dk_first ⟨n + 1, hn⟩ h).congr fun j _ d _ => by simp [h]
    · refine (S.dk_next ⟨n + 1, hn⟩ h (ih (by omega))).congr fun j _ d _ => ?_
      have e : (n + 1) % 12 = n % 12 + 1 := by omega
      rw [e, Finset.sum_range_succ _ (n % 12 + 1), show n + 1 - (n % 12 + 1) = n - n % 12 by omega, show n - n % 12 + (n % 12 + 1) = n + 1 by omega]
theorem Start.dv_sum (n : ℕ) (hn : n < cfg1.N) : IsR2 (n0 := 4096) (n1 := 128) (outsAt1 V c n hn).2.2
    fun j d => ∑ s ∈ Finset.range (n % 12 + 1), dvPart q k g (n - n % 12 + s) j d := by
  induction n with
  | zero => exact (S.dv_first ⟨0, hn⟩ rfl).congr fun j _ d _ => by simp
  | succ n ih =>
    by_cases h : (n + 1) % 12 = 0
    · exact (S.dv_first ⟨n + 1, hn⟩ h).congr fun j _ d _ => by simp [h]
    · refine (S.dv_next ⟨n + 1, hn⟩ h (ih (by omega))).congr fun j _ d _ => ?_
      have e : (n + 1) % 12 = n % 12 + 1 := by omega
      rw [e, Finset.sum_range_succ _ (n % 12 + 1), show n + 1 - (n % 12 + 1) = n - n % 12 by omega, show n - n % 12 + (n % 12 + 1) = n + 1 by omega]

omit S in
/-- The twelve points of a key head, as its three query heads by all the rows. -/
theorem regroup (F : ℕ → ℕ → ℝ) (u : ℕ) :
    ∑ s ∈ Finset.range 12, ∑ r : Fin 1024, F ((u * 12 + s) / 4) ((u * 12 + s) % 4 * 1024 + r) = ∑ e : Fin 3, ∑ i : Fin 4096, F (u * 3 + e) i := by
  have key : ∀ G : ℕ → ℝ, ∑ i : Fin 4096, G i = ∑ a ∈ Finset.range 4, ∑ r : Fin 1024, G (a * 1024 + r) := fun G => by
    rw [Fin.sum_univ_eq_sum_range G, show 4096 = 1024 + 1024 + 1024 + 1024 from rfl, Finset.sum_range_add, Finset.sum_range_add, Finset.sum_range_add]
    simp only [Finset.sum_range_succ _ 3, Finset.sum_range_succ _ 2, Finset.sum_range_succ _ 1, Finset.sum_range_one,
      Nat.zero_mul, Nat.zero_add, Nat.reduceMul, Nat.reduceAdd, Nat.one_mul]
    rw [Fin.sum_univ_eq_sum_range G, Fin.sum_univ_eq_sum_range (fun r => G (1024 + r)), Fin.sum_univ_eq_sum_range (fun r => G (2048 + r)),
      Fin.sum_univ_eq_sum_range (fun r => G (3072 + r))]
  rw [show 12 = 4 + 4 + 4 from rfl, Finset.sum_range_add, Finset.sum_range_add, Fin.sum_univ_three]
  simp only [key]
  congr 1
  congr 1
  all_goals
    refine Finset.sum_congr rfl fun a ha => Finset.sum_congr rfl fun r _ => ?_
    have := Finset.mem_range.mp ha
    congr 2
    all_goals simp
    all_goals omega

/-- The three arrays the backward kernel leaves. -/
theorem Start.dq_array : IsR2 (n0 := 4096) (n1 := 768) ((dat1 V c).arrAt 6 cfg1.N) fun r j => DQ 128 3 cs q k v g (j / 128) r (j % 128) := by
  intro i
  refine (dat1 V c).arrAt_forall_of_covers 6 (fun i x => x = ((DQ 128 3 cs q k v g ((i 1).val / 128) (i 0).val ((i 1).val % 128) : ℝ) : EReal))
    (by decide +kernel) (fun t _ y => ?_) i
  blk_simp [ix1.2.2.2.2.2.2.1 t]
  rw [after1_6]
  refine (S.dq_block t _).trans (congrArg _ ?_)
  idx_bounds y
  have e1 : (t.val / 4 * 128 + (y 1).val) / 128 = t.val / 4 := by omega
  have e2 : (t.val / 4 * 128 + (y 1).val) % 128 = (y 1).val := by omega
  rw [e1, e2]; rfl
theorem Start.dk_array : IsR2 (n0 := 4096) (n1 := 256) ((dat1 V c).arrAt 7 cfg1.N) fun r j => DK 128 3 cs q k v g (j / 128) r (j % 128) := by
  intro i
  refine (dat1 V c).arrAt_forall_of_covers 7 (fun i x => x = ((DK 128 3 cs q k v g ((i 1).val / 128) (i 0).val ((i 1).val % 128) : ℝ) : EReal))
    (by decide +kernel) (fun t hf y => ?_) i
  have h := (flush1_7 t).mp hf
  blk_simp [ix1.2.2.2.2.2.2.2.1 t]
  rw [after1_7]
  refine (S.dk_sum t.val t.isLt _).trans (congrArg _ ?_)
  idx_bounds y
  have e1 : (t.val / 4 / 3 * 128 + (y 1).val) / 128 = t.val / 4 / 3 := by omega
  have e2 : (t.val / 4 / 3 * 128 + (y 1).val) % 128 = (y 1).val := by omega
  rw [e1, e2, h, show t.val - 11 = t.val / 4 / 3 * 12 by omega]
  exact (regroup (fun h i => DS 128 3 cs q k v g h i _ * head 128 q h i _) _).trans (by simp [DK])
theorem Start.dv_array : IsR2 (n0 := 4096) (n1 := 256) ((dat1 V c).arrAt 8 cfg1.N) fun r j => DV 128 3 cs q k g (j / 128) r (j % 128) := by
  intro i
  refine (dat1 V c).arrAt_forall_of_covers 8 (fun i x => x = ((DV 128 3 cs q k g ((i 1).val / 128) (i 0).val ((i 1).val % 128) : ℝ) : EReal))
    (by decide +kernel) (fun t hf y => ?_) i
  have h := (flush1_8 t).mp hf
  blk_simp [ix1.2.2.2.2.2.2.2.2 t]
  rw [after1_8]
  refine (S.dv_sum t.val t.isLt _).trans (congrArg _ ?_)
  idx_bounds y
  have e1 : (t.val / 4 / 3 * 128 + (y 1).val) / 128 = t.val / 4 / 3 := by omega
  have e2 : (t.val / 4 / 3 * 128 + (y 1).val) % 128 = (y 1).val := by omega
  rw [e1, e2, h, show t.val - 11 = t.val / 4 / 3 * 12 by omega]
  exact (regroup (fun h i => P 128 3 cs q k h i _ * head 128 g h i _) _).trans (by simp [DV])
end Run

end Cert.KernelIdeal.Val
-- ==== Proof.Run.lean ====
/-
  The kernel's run with every buffer's final contents, and its four results at the ideal values.
-/
module

public import proofs.«01_k».proof.Proof.Gen.KernelIdeal.Frame
public import proofs.«01_k».proof.Proof.Backward

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Reals Cert.Attn

section
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and each buffer then holds what the two launches leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)
end

variable (m : (ℓ : Loc nD τ sig) → Buf (Elt Ideal) ℓ) (ρ : Dev nD → PrngReg) {q k v g : ℕ → ℕ → ℝ} (c : Dev nD)

/-- The four arguments as real matrices. -/
structure Args (q k v g : ℕ → ℕ → ℝ) : Prop where
  hq : IsR2 (n0 := 4096) (n1 := 768) (m ((c.tc : Thread nD τ).loc main_arg0)) q
  hk : IsR2 (n0 := 4096) (n1 := 256) (m ((c.tc : Thread nD τ).loc main_arg1)) k
  hv : IsR2 (n0 := 4096) (n1 := 256) (m ((c.tc : Thread nD τ).loc main_arg2)) v
  hg : IsR2 (n0 := 4096) (n1 := 768) (m ((c.tc : Thread nD τ).loc main_arg3)) g

variable {m c} (A : Args m c q k v g)
include A

/-- Between the launches the arguments stand, and the forward kernel's results are the attention and its rows' logarithms. -/
theorem Args.start : Start (V1 m ρ) c q k v g where
  hq := by rw [show V1 m ρ c main_arg0 = _ from W1_args m ρ c main_arg0 (by decide)]; exact A.hq
  hk := by rw [show V1 m ρ c main_arg1 = _ from W1_args m ρ c main_arg1 (by decide)]; exact A.hk
  hv := by rw [show V1 m ρ c main_arg2 = _ from W1_args m ρ c main_arg2 (by decide)]; exact A.hv
  hg := by rw [show V1 m ρ c main_arg3 = _ from W1_args m ρ c main_arg3 (by decide)]; exact A.hg
  ho := by rw [show V1 m ρ c main_v0_0 = _ from W1_arr m ρ c 3]; exact o_array c A.hq A.hk A.hv
  hl := by rw [show V1 m ρ c main_v0_1 = _ from W1_arr m ρ c 4]; exact lse_array c A.hq A.hk A.hv

theorem Args.o : IsR2 (n0 := 4096) (n1 := 768) (W2 m ρ c (Proc.devRef .tc main_v0_0)) fun r j => O 128 3 cs q k v (j / 128) r (j % 128) := by
  rw [W2_of m ρ c main_v0_0 (by decide)]
  exact (A.start ρ).ho
theorem Args.dq : IsR2 (n0 := 4096) (n1 := 768) (W2 m ρ c (Proc.devRef .tc main_v1_0)) fun r j => DQ 128 3 cs q k v g (j / 128) r (j % 128) := by
  rw [show W2 m ρ c (Proc.devRef .tc main_v1_0) = _ from W2_arr m ρ c 6]
  exact (A.start ρ).dq_array
theorem Args.dk : IsR2 (n0 := 4096) (n1 := 256) (W2 m ρ c (Proc.devRef .tc main_v1_1)) fun r j => DK 128 3 cs q k v g (j / 128) r (j % 128) := by
  rw [show W2 m ρ c (Proc.devRef .tc main_v1_1) = _ from W2_arr m ρ c 7]
  exact (A.start ρ).dk_array
theorem Args.dv : IsR2 (n0 := 4096) (n1 := 256) (W2 m ρ c (Proc.devRef .tc main_v1_2)) fun r j => DV 128 3 cs q k g (j / 128) r (j % 128) := by
  rw [show W2 m ρ c (Proc.devRef .tc main_v1_2) = _ from W2_arr m ρ c 8]
  exact (A.start ρ).dv_array

end Cert.KernelIdeal.Val
-- ==== Proof.Ref.lean ====
/-
  The reference at the ideal values: each stage of `softmax(q kᵀ / √128) v` and of its derivative as a function of real numbers, up to
  the four results, which are the specification's functions.
-/
module

public import proofs.«01_k».proof.Proof.Gen.ReferenceIdeal.Read
public import proofs.«01_k».proof.Proof.Reals
public import proofs.«01_k».proof.Proof.Spec
public import Idealize.ShloMosaic.Lib.TwoAxisContraction

@[expose] public section

set_option maxRecDepth 16384

noncomputable section

namespace Cert.ReferenceIdeal.Val

open Idealize.ShloMosaic Idealize.SL.Sem
open Cert.ReferenceIdeal Cert.ReferenceIdeal.Gen Cert.ReferenceIdeal.Read Cert.Reals Cert.Attn

/-- The scale of the scores. -/
abbrev cs : ℝ := (Real.sqrt 128)⁻¹

/-- Three coordinates' real numbers. -/
abbrev R3 {n0 n1 n2 : ℕ} (X : (⟨3, ![n0, n1, n2]⟩ : Shape).Idx → EReal) (x : ℕ → ℕ → ℕ → ℝ) : Prop :=
  ∀ i, X i = ((x (i 0).val (i 1).val (i 2).val : ℝ) : EReal)
/-- Four coordinates' real numbers. -/
abbrev R4 {n0 n1 n2 n3 : ℕ} (X : (⟨4, ![n0, n1, n2, n3]⟩ : Shape).Idx → EReal) (x : ℕ → ℕ → ℕ → ℕ → ℝ) : Prop :=
  ∀ i, X i = ((x (i 0).val (i 1).val (i 2).val (i 3).val : ℝ) : EReal)

section
variable {x0 : (⟨S4096x768, .bf16⟩ : BufTy).Contents (Elt Ideal)} {x1 x2 : (⟨S4096x256, .bf16⟩ : BufTy).Contents (Elt Ideal)}
  {x3 : (⟨S4096x768, .f32⟩ : BufTy).Contents (Elt Ideal)} {q k v g : ℕ → ℕ → ℝ}

/-! ## The arguments by heads -/

theorem split768 (a b c d : ℕ) (hb : b < 2) (hc : c < 3) (hd : d < 128) :
    (((a * 2 + b) * 3 + c) * 128 + d) / 768 = a ∧ (((a * 2 + b) * 3 + c) * 128 + d) % 768 = (b * 3 + c) * 128 + d := by omega
theorem split256 (a b d : ℕ) (hb : b < 2) (hd : d < 128) :
    ((a * 2 + b) * 128 + d) / 256 = a ∧ ((a * 2 + b) * 128 + d) % 256 = b * 128 + d := by omega

theorem q4 (hq : IsR2 x0 q) : R4 (val_main_v3 (F := Ideal) x0) fun r u e d => head 128 q (u * 3 + e) r d := fun i => by
  rw [val_main_v3_apply, val_main_v0_apply]
  have h := split768 (i 0).val (i 1).val (i 2).val (i 3).val (i 1).isLt (i 2).isLt (i 3).isLt
  exact (hq _).trans (congrArg _ (congrArg₂ q h.1 h.2))
theorem g4 (hg : IsR2 x3 g) : R4 (val_main_v42 (F := Ideal) x3) fun r u e d => head 128 g (u * 3 + e) r d := fun i => by
  rw [val_main_v42_apply]
  have h := split768 (i 0).val (i 1).val (i 2).val (i 3).val (i 1).isLt (i 2).isLt (i 3).isLt
  exact (hg _).trans (congrArg _ (congrArg₂ g h.1 h.2))
theorem k3 (hk : IsR2 x1 k) : R3 (val_main_v4 (F := Ideal) x1) fun r u d => head 128 k u r d := fun i => by
  rw [val_main_v4_apply, val_main_v1_apply]
  have h := split256 (i 0).val (i 1).val (i 2).val (i 1).isLt (i 2).isLt
  exact (hk _).trans (congrArg _ (congrArg₂ k h.1 h.2))
theorem v3 (hv : IsR2 x2 v) : R3 (val_main_v5 (F := Ideal) x2) fun r u d => head 128 v u r d := fun i => by
  rw [val_main_v5_apply, val_main_v2_apply]
  have h := split256 (i 0).val (i 1).val (i 2).val (i 1).isLt (i 2).isLt
  exact (hv _).trans (congrArg _ (congrArg₂ v h.1 h.2))
theorem g4t (hg : IsR2 x3 g) : R4 (val_main_v43 (F := Ideal) x3) fun u d e r => head 128 g (u * 3 + e) r d := fun i => by
  rw [val_main_v43_apply]; exact g4 hg _

/-! ## The softmax -/

theorem root (i : S_.Idx) : val_main_v8 (F := Ideal) i = ((Real.sqrt 128 : ℝ) : EReal) := by
  show Ideal.sqrt (Ideal.ofBits .f32 0x43000000#32) = _
  have : Ideal.ofBits .f32 0x43000000#32 = ((128 : ℝ) : EReal) := by
    simp [Ideal.ofBits, Ideal.ieee, ← EReal.coe_mul]; norm_num
  rw [this, Ideal.sqrt_coe, if_neg (by norm_num)]
theorem root_ne : Real.sqrt 128 ≠ 0 := (Real.sqrt_pos.mpr (by norm_num)).ne'

/-- The scores of key head `u`'s query head `e`. -/
abbrev sc (q k : ℕ → ℕ → ℝ) (u e i j : ℕ) : ℝ := tS 128 cs (head 128 q (u * 3 + e)) (head 128 k u) i j

theorem scores (hq : IsR2 x0 q) (hk : IsR2 x1 k) : R4 (val_main_v10 (F := Ideal) x0 x1) (sc q k) := fun i => by
  rw [val_main_v10_apply, val_main_v9_apply, root, val_main_v7_apply, val_main_v6_apply]
  rw [sum_eq (f := fun d : Fin 128 => head 128 k (i 0).val (i 3).val d * head 128 q ((i 0).val * 3 + (i 1).val) (i 2).val d)
    fun d => by rw [k3 hk, q4 hq, ← EReal.coe_mul]]
  refine (div_real root_ne).trans (congrArg _ ?_)
  unfold sc tS; rw [div_eq_mul_inv]; congr 1
  exact Finset.sum_congr rfl fun d _ => mul_comm _ _

theorem top_real (hq : IsR2 x0 q) (hk : IsR2 x1 k) (i : S2x3x4096.Idx) : ∃ M : ℝ, val_main_v18 (F := Ideal) x0 x1 i = (M : EReal) := by
  obtain ⟨M, hM⟩ := fold_max_real (Finset.univ : Finset (Fin 4096)) ⟨0, Finset.mem_univ _⟩
    (g := fun j => val_main_v10 (F := Ideal) x0 x1 ((by decide : S2x3x4096x4096.Reduces [3] S2x3x4096).lift i j)) (fun j => scores hq hk _)
  refine ⟨M, ?_⟩
  rw [val_main_v18_apply, val_main_v17_apply]
  have h11 : val_main_v11 (F := Ideal) x0 x1 i = (M : EReal) := by
    unfold val_main_v11
    rw [Host.reduce_eq_fold_single FloatOps.maximumf _ _ _ (by decide : S2x3x4096x4096.Reduces [3] S2x3x4096) h_S_ i, ← hM]
    exact congrArg (fun b => Finset.fold max b _ _) ofBits_neg_inf
  rw [h11]
  show max (Ideal.ofBits .f32 0xFF800000#32) _ = _
  rw [ofBits_neg_inf]; simp

/-- Each row's largest score. -/
def mx (x0 : (⟨S4096x768, .bf16⟩ : BufTy).Contents (Elt Ideal)) (x1 : (⟨S4096x256, .bf16⟩ : BufTy).Contents (Elt Ideal)) (u e i : ℕ) : ℝ :=
  (val_main_v18 (F := Ideal) x0 x1 (ValueIdx.ix3 (⟨u % 2, Nat.mod_lt _ (by norm_num)⟩ : Fin 2) (⟨e % 3, Nat.mod_lt _ (by norm_num)⟩ : Fin 3)
    (⟨i % 4096, Nat.mod_lt _ (by norm_num)⟩ : Fin 4096))).toReal

theorem top_mx (hq : IsR2 x0 q) (hk : IsR2 x1 k) : R3 (val_main_v18 (F := Ideal) x0 x1) (mx x0 x1) := fun i => by
  obtain ⟨M, hM⟩ := top_real hq hk i
  have e : (ValueIdx.ix3 (⟨(i 0).val % 2, Nat.mod_lt _ (by norm_num)⟩ : Fin 2) (⟨(i 1).val % 3, Nat.mod_lt _ (by norm_num)⟩ : Fin 3)
      (⟨(i 2).val % 4096, Nat.mod_lt _ (by norm_num)⟩ : Fin 4096)) = i := by
    exact funext fun a => match a with
      | ⟨0, _⟩ => Fin.ext (Nat.mod_eq_of_lt (i 0).isLt)
      | ⟨1, _⟩ => Fin.ext (Nat.mod_eq_of_lt (i 1).isLt)
      | ⟨2, _⟩ => Fin.ext (Nat.mod_eq_of_lt (i 2).isLt)
  show _ = ((mx x0 x1 (i 0).val (i 1).val (i 2).val : ℝ) : EReal)
  unfold mx
  rw [e, hM, EReal.toReal_coe]

/-- The exponentials and their sums. -/
abbrev ex (q k : ℕ → ℕ → ℝ) (M : ℕ → ℕ → ℕ → ℝ) (u e i j : ℕ) : ℝ := Real.exp (sc q k u e i j - M u e i)
abbrev den (q k : ℕ → ℕ → ℝ) (M : ℕ → ℕ → ℕ → ℝ) (u e i : ℕ) : ℝ := ∑ j : Fin 4096, ex q k M u e i j
theorem den_ne (M : ℕ → ℕ → ℕ → ℝ) (u e i : ℕ) : den q k M u e i ≠ 0 := (sum_exp_pos (fun j : Fin 4096 => sc q k u e i j - M u e i) (by norm_num)).ne'

theorem exps (hq : IsR2 x0 q) (hk : IsR2 x1 k) : R4 (val_main_v31 (F := Ideal) x0 x1) (ex q k (mx x0 x1)) := fun i => by
  rw [val_main_v31_apply, val_main_v30_apply, val_main_v29_apply, val_main_v28_apply, top_mx hq hk, scores hq hk]
  rw [Ideal.hostUnary_exp_def, Ideal.subf_def, ← EReal.coe_sub, Ideal.exp_coe]

theorem zero_real : Ideal.ofBits .f32 0x00000000#32 = 0 := by simp [Ideal.ofBits, Ideal.ieee]

theorem dens (hq : IsR2 x0 q) (hk : IsR2 x1 k) : R3 (val_main_v32 (F := Ideal) x0 x1) (den q k (mx x0 x1)) := fun i => by
  rw [val_main_v32_apply, sum_eq fun j => exps hq hk (idx_main_v32 i j)]
  show Ideal.ofBits .f32 0x00000000#32 + _ = _
  rw [zero_real, zero_add]
theorem dens4 (hq : IsR2 x0 q) (hk : IsR2 x1 k) : R4 (val_main_v33 (F := Ideal) x0 x1) fun u e i _ => den q k (mx x0 x1) u e i := fun i => by
  rw [val_main_v33_apply]; exact dens hq hk _

/-- The weights of key head `u`'s query head `e`. -/
abbrev pr (q k : ℕ → ℕ → ℝ) (u e i j : ℕ) : ℝ := tP 128 cs (head 128 q (u * 3 + e)) (head 128 k u) i j

theorem ex_div (M : ℕ → ℕ → ℕ → ℝ) (u e i j : ℕ) (hj : j < 4096) : ex q k M u e i j / den q k M u e i = pr q k u e i j :=
  softmax_sub (fun j : Fin 4096 => sc q k u e i j) (M u e i) ⟨j, hj⟩

theorem probs (hq : IsR2 x0 q) (hk : IsR2 x1 k) : R4 (val_main_v35 (F := Ideal) x0 x1) (pr q k) := fun i => by
  rw [val_main_v35_apply, val_main_v34_apply, exps hq hk, dens4 hq hk]
  refine (div_real (den_ne _ _ _ _)).trans (congrArg _ ?_)
  exact ex_div _ _ _ _ _ (i 3).isLt

/-! ## The attention's output -/

theorem out_col (a b : ℕ) (hb : b < 768) :
    (a * 768 + b) / 768 = a ∧ (a * 768 + b) / 384 % 2 * 3 + (a * 768 + b) / 128 % 3 = b / 128 ∧ (a * 768 + b) / 384 % 2 = b / 128 / 3
      ∧ (a * 768 + b) % 128 = b % 128 := by omega
theorem key_col (a b : ℕ) (hb : b < 256) :
    (a * 256 + b) / 256 = a ∧ (a * 256 + b) / 128 % 2 = b / 128 ∧ (a * 256 + b) % 128 = b % 128 := by omega

theorem out4 (hq : IsR2 x0 q) (hk : IsR2 x1 k) (hv : IsR2 x2 v) : R4 (val_main_v40 (F := Ideal) x0 x1 x2)
    fun r u e d => tO 128 cs (head 128 q (u * 3 + e)) (head 128 k u) (head 128 v u) r d := fun i => by
  rw [val_main_v40_apply, val_main_v39_apply]
  refine (sum_eq (f := fun j : Fin 4096 => head 128 v (i 1).val j (i 3).val * pr q k (i 1).val (i 2).val (i 0).val j)
    fun j => by rw [v3 hv, probs hq hk, ← EReal.coe_mul]).trans (congrArg _ ?_)
  exact Finset.sum_congr rfl fun j _ => mul_comm _ _

theorem o_eq (hq : IsR2 x0 q) (hk : IsR2 x1 k) (hv : IsR2 x2 v) : IsR2 (n0 := 4096) (n1 := 768) (val_main_v41 (F := Ideal) x0 x1 x2)
    fun r j => O 128 3 cs q k v (j / 128) r (j % 128) := fun i => by
  rw [val_main_v41_apply]
  refine (out4 hq hk hv _).trans (congrArg _ ?_)
  obtain ⟨h0, h1, h2, h3⟩ := out_col (i 0).val (i 1).val (i 1).isLt
  show tO 128 cs (head 128 q (((i 0).val * 768 + (i 1).val) / 384 % 2 * 3 + ((i 0).val * 768 + (i 1).val) / 128 % 3))
    (head 128 k (((i 0).val * 768 + (i 1).val) / 384 % 2)) (head 128 v (((i 0).val * 768 + (i 1).val) / 384 % 2))
    (((i 0).val * 768 + (i 1).val) / 768) (((i 0).val * 768 + (i 1).val) % 128) = _
  rw [h0, h1, h2, h3]; rfl

/-! ## The scores' derivative -/

/-- The weights' derivative. -/
abbrev dp (v g : ℕ → ℕ → ℝ) (u e i j : ℕ) : ℝ := tDP (head 128 v u) (head 128 g (u * 3 + e)) i j

theorem dps (hv : IsR2 x2 v) (hg : IsR2 x3 g) : R4 (val_main_v44 (F := Ideal) x2 x3) (dp v g) := fun i => by
  rw [val_main_v44_apply]
  exact sum_eq (f := fun d : Fin 128 => head 128 g ((i 0).val * 3 + (i 1).val) (i 2).val d * head 128 v (i 0).val (i 3).val d)
    fun d => by rw [g4t hg, v3 hv, ← EReal.coe_mul]

theorem one_real : Ideal.ofBits .f32 0x3F800000#32 = ((1 : ℝ) : EReal) := by
  simp [Ideal.ofBits, Ideal.ieee, ← EReal.coe_mul]; norm_num

theorem sq4 (hq : IsR2 x0 q) (hk : IsR2 x1 k) : R4 (val_main_v38 (F := Ideal) x0 x1)
    fun u e i _ => 1 / (den q k (mx x0 x1) u e i * den q k (mx x0 x1) u e i) := fun i => by
  rw [val_main_v38_apply, val_main_v36_apply, dens4 hq hk]
  have h1 : val_main_v37 (F := Ideal) i = ((1 : ℝ) : EReal) := by rw [val_main_v37_apply]; exact one_real
  rw [h1]
  show Ideal.div _ (_ * _) = _
  rw [← EReal.coe_mul, div_real (mul_ne_zero (den_ne _ _ _ _) (den_ne _ _ _ _))]

theorem terms (hq : IsR2 x0 q) (hk : IsR2 x1 k) (hv : IsR2 x2 v) (hg : IsR2 x3 g) : R4 (val_main_v49 (F := Ideal) x0 x1 x2 x3)
    fun u e i j => dp v g u e i j * (1 / (den q k (mx x0 x1) u e i * den q k (mx x0 x1) u e i)) * ex q k (mx x0 x1) u e i j := fun i => by
  rw [val_main_v49_apply, val_main_v48_apply, val_main_v47_apply, dps hv hg, sq4 hq hk, exps hq hk]
  show _ * _ * _ = _
  rw [← EReal.coe_mul, ← EReal.coe_mul]

/-- A row's sum of the weights' derivatives by the weights, over the row's denominator. -/
abbrev sm (q k v g : ℕ → ℕ → ℝ) (M : ℕ → ℕ → ℕ → ℝ) (u e i : ℕ) : ℝ :=
  ∑ j : Fin 4096, dp v g u e i j * (1 / (den q k M u e i * den q k M u e i)) * ex q k M u e i j

theorem sums (hq : IsR2 x0 q) (hk : IsR2 x1 k) (hv : IsR2 x2 v) (hg : IsR2 x3 g) : R3 (val_main_v50 (F := Ideal) x0 x1 x2 x3)
    (sm q k v g (mx x0 x1)) := fun i => by
  rw [val_main_v50_apply, sum_eq fun j => terms hq hk hv hg (idx_main_v50 i j)]
  show Ideal.ofBits .f32 0x00000000#32 + _ = _
  rw [zero_real, zero_add]

theorem unit_col (a b c d : ℕ) (hb : b < 3) (hc : c < 4096) (hd : d < 1) :
    (((a * 3 + b) * 4096 + c) * 1 + d) / 12288 = a ∧ (((a * 3 + b) * 4096 + c) * 1 + d) / 4096 % 3 = b ∧ (((a * 3 + b) * 4096 + c) * 1 + d) % 4096 = c := by
  omega

theorem negs (hq : IsR2 x0 q) (hk : IsR2 x1 k) (hv : IsR2 x2 v) (hg : IsR2 x3 g) : R4 (val_main_v52 (F := Ideal) x0 x1 x2 x3)
    fun u e i _ => -sm q k v g (mx x0 x1) u e i := fun i => by
  rw [val_main_v52_apply, val_main_v51_apply, sums hq hk hv hg]
  show -_ = _
  rw [← EReal.coe_neg]
  obtain ⟨h0, h1, h2⟩ := unit_col (i 0).val (i 1).val (i 2).val (i 3).val (i 1).isLt (i 2).isLt (i 3).isLt
  refine congrArg _ (congrArg Neg.neg ?_)
  show sm q k v g (mx x0 x1) (((((i 0).val * 3 + (i 1).val) * 4096 + (i 2).val) * 1 + (i 3).val) / 12288)
    (((((i 0).val * 3 + (i 1).val) * 4096 + (i 2).val) * 1 + (i 3).val) / 4096 % 3)
    (((((i 0).val * 3 + (i 1).val) * 4096 + (i 2).val) * 1 + (i 3).val) % 4096) = _
  rw [h0, h1, h2]

theorem negs3 (hq : IsR2 x0 q) (hk : IsR2 x1 k) (hv : IsR2 x2 v) (hg : IsR2 x3 g) : R3 (val_main_v55 (F := Ideal) x0 x1 x2 x3)
    fun u e i => -sm q k v g (mx x0 x1) u e i := fun i => by
  rw [val_main_v55_apply, sum_eq fun j => negs hq hk hv hg (idx_main_v55 i j)]
  show Ideal.ofBits .f32 0x00000000#32 + _ = _
  rw [zero_real, zero_add, Fin.sum_univ_one]

/-- A row's sum of its weights' derivatives by its weights is its output's product with its derivative. -/
theorem sum_dp (u e i : ℕ) : ∑ j : Fin 4096, dp v g u e i j * pr q k u e i j
    = tDlt 128 cs (head 128 q (u * 3 + e)) (head 128 k u) (head 128 v u) (head 128 g (u * 3 + e)) i := by
  simp only [dp, tDP, tDlt, tO, Finset.sum_mul, Finset.mul_sum]
  rw [Finset.sum_comm]
  exact Finset.sum_congr rfl fun d _ => Finset.sum_congr rfl fun j _ => by ring

theorem sm_eq (M : ℕ → ℕ → ℕ → ℝ) (u e i : ℕ) : sm q k v g M u e i
    = tDlt 128 cs (head 128 q (u * 3 + e)) (head 128 k u) (head 128 v u) (head 128 g (u * 3 + e)) i / den q k M u e i := by
  rw [← sum_dp, Finset.sum_div]
  refine Finset.sum_congr rfl fun j _ => ?_
  rw [← ex_div M u e i j j.isLt]
  have h := den_ne (q := q) (k := k) M u e i
  generalize den q k M u e i = l at h ⊢
  field_simp

/-- The scores' derivative of key head `u`'s query head `e`. -/
abbrev dsc (q k v g : ℕ → ℕ → ℝ) (u e i j : ℕ) : ℝ :=
  tDS 128 cs (head 128 q (u * 3 + e)) (head 128 k u) (head 128 v u) (head 128 g (u * 3 + e)) i j

theorem ds4 (hq : IsR2 x0 q) (hk : IsR2 x1 k) (hv : IsR2 x2 v) (hg : IsR2 x3 g) : R4 (val_main_v60 (F := Ideal) x0 x1 x2 x3) (dsc q k v g) := fun i => by
  rw [val_main_v60_apply, val_main_v58_apply, val_main_v57_apply, val_main_v59_apply, val_main_v56_apply, val_main_v54_apply, val_main_v53_apply, root,
    negs3 hq hk hv hg, dps hv hg, dens4 hq hk, exps hq hk]
  show Ideal.div ((Ideal.div _ _ + _) * _) _ = _
  rw [div_real (den_ne _ _ _ _), ← EReal.coe_add, ← EReal.coe_mul, div_real root_ne]
  refine congrArg _ ?_
  show (dp v g (i 0).val (i 1).val (i 2).val (i 3).val / den q k (mx x0 x1) (i 0).val (i 1).val (i 2).val
      + -sm q k v g (mx x0 x1) (i 0).val (i 1).val (i 2).val) * ex q k (mx x0 x1) (i 0).val (i 1).val (i 2).val (i 3).val / Real.sqrt 128 = _
  unfold dsc tDS
  rw [sm_eq, show tP 128 cs (head 128 q ((i 0).val * 3 + (i 1).val)) (head 128 k (i 0).val) (i 2).val (i 3).val = _
    from (ex_div (mx x0 x1) (i 0).val (i 1).val (i 2).val (i 3).val (i 3).isLt).symm]
  have h := den_ne (q := q) (k := k) (mx x0 x1) (i 0).val (i 1).val (i 2).val
  generalize den q k (mx x0 x1) (i 0).val (i 1).val (i 2).val = l at h ⊢
  have := root_ne
  field_simp
  ring

/-! ## The three derivatives -/

theorem ds4t (hq : IsR2 x0 q) (hk : IsR2 x1 k) (hv : IsR2 x2 v) (hg : IsR2 x3 g) : R4 (val_main_v61 (F := Ideal) x0 x1 x2 x3)
    fun u j i e => dsc q k v g u e i j := fun i => by
  rw [val_main_v61_apply]; exact ds4 hq hk hv hg _

theorem dq4 (hq : IsR2 x0 q) (hk : IsR2 x1 k) (hv : IsR2 x2 v) (hg : IsR2 x3 g) : R4 (val_main_v63 (F := Ideal) x0 x1 x2 x3)
    fun r u e d => tDQ 128 cs (head 128 q (u * 3 + e)) (head 128 k u) (head 128 v u) (head 128 g (u * 3 + e)) r d := fun i => by
  rw [val_main_v63_apply, val_main_v62_apply]
  exact sum_eq (f := fun j : Fin 4096 => dsc q k v g (i 1).val (i 2).val (i 0).val j * head 128 k (i 1).val j (i 3).val)
    fun j => by rw [ds4t hq hk hv hg, k3 hk, ← EReal.coe_mul]

theorem dq_eq (hq : IsR2 x0 q) (hk : IsR2 x1 k) (hv : IsR2 x2 v) (hg : IsR2 x3 g) :
    IsR2 (n0 := 4096) (n1 := 768) (val_main_v68 (F := Ideal) x0 x1 x2 x3) fun r j => DQ 128 3 cs q k v g (j / 128) r (j % 128) := fun i => by
  rw [val_main_v68_apply]
  refine (dq4 hq hk hv hg _).trans (congrArg _ ?_)
  obtain ⟨h0, h1, h2, h3⟩ := out_col (i 0).val (i 1).val (i 1).isLt
  show tDQ 128 cs (head 128 q (((i 0).val * 768 + (i 1).val) / 384 % 2 * 3 + ((i 0).val * 768 + (i 1).val) / 128 % 3))
    (head 128 k (((i 0).val * 768 + (i 1).val) / 384 % 2)) (head 128 v (((i 0).val * 768 + (i 1).val) / 384 % 2))
    (head 128 g (((i 0).val * 768 + (i 1).val) / 384 % 2 * 3 + ((i 0).val * 768 + (i 1).val) / 128 % 3))
    (((i 0).val * 768 + (i 1).val) / 768) (((i 0).val * 768 + (i 1).val) % 128) = _
  rw [h0, h1, h2, h3]; rfl

/-! The two products summed over query heads and rows. -/

theorem pv_lhs0 (i : S2x128x4096.Idx) (p : dot_S2x128x3x4096_S2x3x4096x4096_S2x128x4096_23_12_1_3_0_0.contr.Idx) :
    (dot_S2x128x3x4096_S2x3x4096x4096_S2x128x4096_23_12_1_3_0_0.lhsIdx i p 0).val = (i 0).val := by
  unfold DotDims.lhsIdx
  rw [dif_pos (show (0 : Fin S2x128x3x4096.rank) ∈ dot_S2x128x3x4096_S2x3x4096x4096_S2x128x4096_23_12_1_3_0_0.lhsBatch by decide)]
  rfl
theorem pv_lhs1 (i : S2x128x4096.Idx) (p : dot_S2x128x3x4096_S2x3x4096x4096_S2x128x4096_23_12_1_3_0_0.contr.Idx) :
    (dot_S2x128x3x4096_S2x3x4096x4096_S2x128x4096_23_12_1_3_0_0.lhsIdx i p 1).val = (i 1).val := by
  unfold DotDims.lhsIdx
  rw [dif_neg (show ¬(1 : Fin S2x128x3x4096.rank) ∈ dot_S2x128x3x4096_S2x3x4096x4096_S2x128x4096_23_12_1_3_0_0.lhsBatch by decide), dif_pos (show (1 : Fin S2x128x3x4096.rank) ∈ dot_S2x128x3x4096_S2x3x4096x4096_S2x128x4096_23_12_1_3_0_0.lhsNonContracting by decide)]
  rfl
theorem pv_lhs2 (i : S2x128x4096.Idx) (p : dot_S2x128x3x4096_S2x3x4096x4096_S2x128x4096_23_12_1_3_0_0.contr.Idx) :
    (dot_S2x128x3x4096_S2x3x4096x4096_S2x128x4096_23_12_1_3_0_0.lhsIdx i p 2).val = (p ⟨0, by decide⟩).val := by
  unfold DotDims.lhsIdx
  rw [dif_neg (show ¬(2 : Fin S2x128x3x4096.rank) ∈ dot_S2x128x3x4096_S2x3x4096x4096_S2x128x4096_23_12_1_3_0_0.lhsBatch by decide), dif_neg (show ¬(2 : Fin S2x128x3x4096.rank) ∈ dot_S2x128x3x4096_S2x3x4096x4096_S2x128x4096_23_12_1_3_0_0.lhsNonContracting by decide)]
  rfl
theorem pv_lhs3 (i : S2x128x4096.Idx) (p : dot_S2x128x3x4096_S2x3x4096x4096_S2x128x4096_23_12_1_3_0_0.contr.Idx) :
    (dot_S2x128x3x4096_S2x3x4096x4096_S2x128x4096_23_12_1_3_0_0.lhsIdx i p 3).val = (p ⟨1, by decide⟩).val := by
  unfold DotDims.lhsIdx
  rw [dif_neg (show ¬(3 : Fin S2x128x3x4096.rank) ∈ dot_S2x128x3x4096_S2x3x4096x4096_S2x128x4096_23_12_1_3_0_0.lhsBatch by decide), dif_neg (show ¬(3 : Fin S2x128x3x4096.rank) ∈ dot_S2x128x3x4096_S2x3x4096x4096_S2x128x4096_23_12_1_3_0_0.lhsNonContracting by decide)]
  rfl
theorem pv_rhs0 (i : S2x128x4096.Idx) (p : dot_S2x128x3x4096_S2x3x4096x4096_S2x128x4096_23_12_1_3_0_0.contr.Idx) :
    (dot_S2x128x3x4096_S2x3x4096x4096_S2x128x4096_23_12_1_3_0_0.rhsIdx i p 0).val = (i 0).val := by
  unfold DotDims.rhsIdx
  rw [dif_pos (show (0 : Fin S2x3x4096x4096.rank) ∈ dot_S2x128x3x4096_S2x3x4096x4096_S2x128x4096_23_12_1_3_0_0.rhsBatch by decide)]
  rfl
theorem pv_rhs1 (i : S2x128x4096.Idx) (p : dot_S2x128x3x4096_S2x3x4096x4096_S2x128x4096_23_12_1_3_0_0.contr.Idx) :
    (dot_S2x128x3x4096_S2x3x4096x4096_S2x128x4096_23_12_1_3_0_0.rhsIdx i p 1).val = (p ⟨0, by decide⟩).val := by
  unfold DotDims.rhsIdx
  rw [dif_neg (show ¬(1 : Fin S2x3x4096x4096.rank) ∈ dot_S2x128x3x4096_S2x3x4096x4096_S2x128x4096_23_12_1_3_0_0.rhsBatch by decide), dif_neg (show ¬(1 : Fin S2x3x4096x4096.rank) ∈ dot_S2x128x3x4096_S2x3x4096x4096_S2x128x4096_23_12_1_3_0_0.rhsNonContracting by decide)]
  rfl
theorem pv_rhs2 (i : S2x128x4096.Idx) (p : dot_S2x128x3x4096_S2x3x4096x4096_S2x128x4096_23_12_1_3_0_0.contr.Idx) :
    (dot_S2x128x3x4096_S2x3x4096x4096_S2x128x4096_23_12_1_3_0_0.rhsIdx i p 2).val = (p ⟨1, by decide⟩).val := by
  unfold DotDims.rhsIdx
  rw [dif_neg (show ¬(2 : Fin S2x3x4096x4096.rank) ∈ dot_S2x128x3x4096_S2x3x4096x4096_S2x128x4096_23_12_1_3_0_0.rhsBatch by decide), dif_neg (show ¬(2 : Fin S2x3x4096x4096.rank) ∈ dot_S2x128x3x4096_S2x3x4096x4096_S2x128x4096_23_12_1_3_0_0.rhsNonContracting by decide)]
  rfl
theorem pv_rhs3 (i : S2x128x4096.Idx) (p : dot_S2x128x3x4096_S2x3x4096x4096_S2x128x4096_23_12_1_3_0_0.contr.Idx) :
    (dot_S2x128x3x4096_S2x3x4096x4096_S2x128x4096_23_12_1_3_0_0.rhsIdx i p 3).val = (i 2).val := by
  unfold DotDims.rhsIdx
  rw [dif_neg (show ¬(3 : Fin S2x3x4096x4096.rank) ∈ dot_S2x128x3x4096_S2x3x4096x4096_S2x128x4096_23_12_1_3_0_0.rhsBatch by decide), dif_pos (show (3 : Fin S2x3x4096x4096.rank) ∈ dot_S2x128x3x4096_S2x3x4096x4096_S2x128x4096_23_12_1_3_0_0.rhsNonContracting by decide)]
  rfl
abbrev pv_l (i : S2x128x4096.Idx) (a : Fin 3) (b : Fin 4096) : S2x128x3x4096.Idx := fun x => match x with
  | ⟨0, _⟩ => ⟨(i 0).val, (i 0).isLt⟩
  | ⟨1, _⟩ => ⟨(i 1).val, (i 1).isLt⟩
  | ⟨2, _⟩ => ⟨a.val, a.isLt⟩
  | ⟨3, _⟩ => ⟨b.val, b.isLt⟩
abbrev pv_r (i : S2x128x4096.Idx) (a : Fin 3) (b : Fin 4096) : S2x3x4096x4096.Idx := fun x => match x with
  | ⟨0, _⟩ => ⟨(i 0).val, (i 0).isLt⟩
  | ⟨1, _⟩ => ⟨a.val, a.isLt⟩
  | ⟨2, _⟩ => ⟨b.val, b.isLt⟩
  | ⟨3, _⟩ => ⟨(i 2).val, (i 2).isLt⟩
theorem pv_apply (A : FVec Ideal S2x128x3x4096 .f32) (B : FVec Ideal S2x3x4096x4096 .f32) (i : S2x128x4096.Idx) :
    Host.dotGeneral (F := Ideal) dot_S2x128x3x4096_S2x3x4096x4096_S2x128x4096_23_12_1_3_0_0 none A B i = ∑ a : Fin 3, ∑ b : Fin 4096, A (pv_l i a b) * B (pv_r i a b) := by
  simp only [Host.dotGeneral]
  rw [Ideal.dotGeneral_apply, ValueIdx.sum_contr2 dot_S2x128x3x4096_S2x3x4096x4096_S2x128x4096_23_12_1_3_0_0 3 4096 rfl rfl rfl]
  refine Finset.sum_congr rfl fun a _ => Finset.sum_congr rfl fun b _ => ?_
  have h0 := ValueIdx.contrEquiv2_symm_val0 dot_S2x128x3x4096_S2x3x4096x4096_S2x128x4096_23_12_1_3_0_0 3 4096 rfl rfl rfl (a, b)
  have h1 := ValueIdx.contrEquiv2_symm_val1 dot_S2x128x3x4096_S2x3x4096x4096_S2x128x4096_23_12_1_3_0_0 3 4096 rfl rfl rfl (a, b)
  have el : dot_S2x128x3x4096_S2x3x4096x4096_S2x128x4096_23_12_1_3_0_0.lhsIdx i ((ValueIdx.contrEquiv2 dot_S2x128x3x4096_S2x3x4096x4096_S2x128x4096_23_12_1_3_0_0 3 4096 rfl rfl rfl).symm (a, b)) = pv_l i a b := funext fun x => Fin.ext (by
    match x with
    | ⟨0, _⟩ => exact pv_lhs0 _ _
    | ⟨1, _⟩ => exact pv_lhs1 _ _
    | ⟨2, _⟩ => exact (pv_lhs2 _ _).trans h0
    | ⟨3, _⟩ => exact (pv_lhs3 _ _).trans h1)
  have er : dot_S2x128x3x4096_S2x3x4096x4096_S2x128x4096_23_12_1_3_0_0.rhsIdx i ((ValueIdx.contrEquiv2 dot_S2x128x3x4096_S2x3x4096x4096_S2x128x4096_23_12_1_3_0_0 3 4096 rfl rfl rfl).symm (a, b)) = pv_r i a b := funext fun x => Fin.ext (by
    match x with
    | ⟨0, _⟩ => exact pv_rhs0 _ _
    | ⟨1, _⟩ => exact (pv_rhs1 _ _).trans h0
    | ⟨2, _⟩ => exact (pv_rhs2 _ _).trans h1
    | ⟨3, _⟩ => exact pv_rhs3 _ _)
  rw [el, er]

theorem pk_lhs0 (i : S2x4096x128.Idx) (p : dot_S2x4096x4096x3_S4096x2x3x128_S2x4096x128_23_02_1_3_0_1.contr.Idx) :
    (dot_S2x4096x4096x3_S4096x2x3x128_S2x4096x128_23_02_1_3_0_1.lhsIdx i p 0).val = (i 0).val := by
  unfold DotDims.lhsIdx
  rw [dif_pos (show (0 : Fin S2x4096x4096x3.rank) ∈ dot_S2x4096x4096x3_S4096x2x3x128_S2x4096x128_23_02_1_3_0_1.lhsBatch by decide)]
  rfl
theorem pk_lhs1 (i : S2x4096x128.Idx) (p : dot_S2x4096x4096x3_S4096x2x3x128_S2x4096x128_23_02_1_3_0_1.contr.Idx) :
    (dot_S2x4096x4096x3_S4096x2x3x128_S2x4096x128_23_02_1_3_0_1.lhsIdx i p 1).val = (i 1).val := by
  unfold DotDims.lhsIdx
  rw [dif_neg (show ¬(1 : Fin S2x4096x4096x3.rank) ∈ dot_S2x4096x4096x3_S4096x2x3x128_S2x4096x128_23_02_1_3_0_1.lhsBatch by decide), dif_pos (show (1 : Fin S2x4096x4096x3.rank) ∈ dot_S2x4096x4096x3_S4096x2x3x128_S2x4096x128_23_02_1_3_0_1.lhsNonContracting by decide)]
  rfl
theorem pk_lhs2 (i : S2x4096x128.Idx) (p : dot_S2x4096x4096x3_S4096x2x3x128_S2x4096x128_23_02_1_3_0_1.contr.Idx) :
    (dot_S2x4096x4096x3_S4096x2x3x128_S2x4096x128_23_02_1_3_0_1.lhsIdx i p 2).val = (p ⟨0, by decide⟩).val := by
  unfold DotDims.lhsIdx
  rw [dif_neg (show ¬(2 : Fin S2x4096x4096x3.rank) ∈ dot_S2x4096x4096x3_S4096x2x3x128_S2x4096x128_23_02_1_3_0_1.lhsBatch by decide), dif_neg (show ¬(2 : Fin S2x4096x4096x3.rank) ∈ dot_S2x4096x4096x3_S4096x2x3x128_S2x4096x128_23_02_1_3_0_1.lhsNonContracting by decide)]
  rfl
theorem pk_lhs3 (i : S2x4096x128.Idx) (p : dot_S2x4096x4096x3_S4096x2x3x128_S2x4096x128_23_02_1_3_0_1.contr.Idx) :
    (dot_S2x4096x4096x3_S4096x2x3x128_S2x4096x128_23_02_1_3_0_1.lhsIdx i p 3).val = (p ⟨1, by decide⟩).val := by
  unfold DotDims.lhsIdx
  rw [dif_neg (show ¬(3 : Fin S2x4096x4096x3.rank) ∈ dot_S2x4096x4096x3_S4096x2x3x128_S2x4096x128_23_02_1_3_0_1.lhsBatch by decide), dif_neg (show ¬(3 : Fin S2x4096x4096x3.rank) ∈ dot_S2x4096x4096x3_S4096x2x3x128_S2x4096x128_23_02_1_3_0_1.lhsNonContracting by decide)]
  rfl
theorem pk_rhs0 (i : S2x4096x128.Idx) (p : dot_S2x4096x4096x3_S4096x2x3x128_S2x4096x128_23_02_1_3_0_1.contr.Idx) :
    (dot_S2x4096x4096x3_S4096x2x3x128_S2x4096x128_23_02_1_3_0_1.rhsIdx i p 0).val = (p ⟨0, by decide⟩).val := by
  unfold DotDims.rhsIdx
  rw [dif_neg (show ¬(0 : Fin S4096x2x3x128.rank) ∈ dot_S2x4096x4096x3_S4096x2x3x128_S2x4096x128_23_02_1_3_0_1.rhsBatch by decide), dif_neg (show ¬(0 : Fin S4096x2x3x128.rank) ∈ dot_S2x4096x4096x3_S4096x2x3x128_S2x4096x128_23_02_1_3_0_1.rhsNonContracting by decide)]
  rfl
theorem pk_rhs1 (i : S2x4096x128.Idx) (p : dot_S2x4096x4096x3_S4096x2x3x128_S2x4096x128_23_02_1_3_0_1.contr.Idx) :
    (dot_S2x4096x4096x3_S4096x2x3x128_S2x4096x128_23_02_1_3_0_1.rhsIdx i p 1).val = (i 0).val := by
  unfold DotDims.rhsIdx
  rw [dif_pos (show (1 : Fin S4096x2x3x128.rank) ∈ dot_S2x4096x4096x3_S4096x2x3x128_S2x4096x128_23_02_1_3_0_1.rhsBatch by decide)]
  rfl
theorem pk_rhs2 (i : S2x4096x128.Idx) (p : dot_S2x4096x4096x3_S4096x2x3x128_S2x4096x128_23_02_1_3_0_1.contr.Idx) :
    (dot_S2x4096x4096x3_S4096x2x3x128_S2x4096x128_23_02_1_3_0_1.rhsIdx i p 2).val = (p ⟨1, by decide⟩).val := by
  unfold DotDims.rhsIdx
  rw [dif_neg (show ¬(2 : Fin S4096x2x3x128.rank) ∈ dot_S2x4096x4096x3_S4096x2x3x128_S2x4096x128_23_02_1_3_0_1.rhsBatch by decide), dif_neg (show ¬(2 : Fin S4096x2x3x128.rank) ∈ dot_S2x4096x4096x3_S4096x2x3x128_S2x4096x128_23_02_1_3_0_1.rhsNonContracting by decide)]
  rfl
theorem pk_rhs3 (i : S2x4096x128.Idx) (p : dot_S2x4096x4096x3_S4096x2x3x128_S2x4096x128_23_02_1_3_0_1.contr.Idx) :
    (dot_S2x4096x4096x3_S4096x2x3x128_S2x4096x128_23_02_1_3_0_1.rhsIdx i p 3).val = (i 2).val := by
  unfold DotDims.rhsIdx
  rw [dif_neg (show ¬(3 : Fin S4096x2x3x128.rank) ∈ dot_S2x4096x4096x3_S4096x2x3x128_S2x4096x128_23_02_1_3_0_1.rhsBatch by decide), dif_pos (show (3 : Fin S4096x2x3x128.rank) ∈ dot_S2x4096x4096x3_S4096x2x3x128_S2x4096x128_23_02_1_3_0_1.rhsNonContracting by decide)]
  rfl
abbrev pk_l (i : S2x4096x128.Idx) (a : Fin 4096) (b : Fin 3) : S2x4096x4096x3.Idx := fun x => match x with
  | ⟨0, _⟩ => ⟨(i 0).val, (i 0).isLt⟩
  | ⟨1, _⟩ => ⟨(i 1).val, (i 1).isLt⟩
  | ⟨2, _⟩ => ⟨a.val, a.isLt⟩
  | ⟨3, _⟩ => ⟨b.val, b.isLt⟩
abbrev pk_r (i : S2x4096x128.Idx) (a : Fin 4096) (b : Fin 3) : S4096x2x3x128.Idx := fun x => match x with
  | ⟨0, _⟩ => ⟨a.val, a.isLt⟩
  | ⟨1, _⟩ => ⟨(i 0).val, (i 0).isLt⟩
  | ⟨2, _⟩ => ⟨b.val, b.isLt⟩
  | ⟨3, _⟩ => ⟨(i 2).val, (i 2).isLt⟩
theorem pk_apply (A : FVec Ideal S2x4096x4096x3 .f32) (B : FVec Ideal S4096x2x3x128 .f32) (i : S2x4096x128.Idx) :
    Host.dotGeneral (F := Ideal) dot_S2x4096x4096x3_S4096x2x3x128_S2x4096x128_23_02_1_3_0_1 none A B i = ∑ a : Fin 4096, ∑ b : Fin 3, A (pk_l i a b) * B (pk_r i a b) := by
  simp only [Host.dotGeneral]
  rw [Ideal.dotGeneral_apply, ValueIdx.sum_contr2 dot_S2x4096x4096x3_S4096x2x3x128_S2x4096x128_23_02_1_3_0_1 4096 3 rfl rfl rfl]
  refine Finset.sum_congr rfl fun a _ => Finset.sum_congr rfl fun b _ => ?_
  have h0 := ValueIdx.contrEquiv2_symm_val0 dot_S2x4096x4096x3_S4096x2x3x128_S2x4096x128_23_02_1_3_0_1 4096 3 rfl rfl rfl (a, b)
  have h1 := ValueIdx.contrEquiv2_symm_val1 dot_S2x4096x4096x3_S4096x2x3x128_S2x4096x128_23_02_1_3_0_1 4096 3 rfl rfl rfl (a, b)
  have el : dot_S2x4096x4096x3_S4096x2x3x128_S2x4096x128_23_02_1_3_0_1.lhsIdx i ((ValueIdx.contrEquiv2 dot_S2x4096x4096x3_S4096x2x3x128_S2x4096x128_23_02_1_3_0_1 4096 3 rfl rfl rfl).symm (a, b)) = pk_l i a b := funext fun x => Fin.ext (by
    match x with
    | ⟨0, _⟩ => exact pk_lhs0 _ _
    | ⟨1, _⟩ => exact pk_lhs1 _ _
    | ⟨2, _⟩ => exact (pk_lhs2 _ _).trans h0
    | ⟨3, _⟩ => exact (pk_lhs3 _ _).trans h1)
  have er : dot_S2x4096x4096x3_S4096x2x3x128_S2x4096x128_23_02_1_3_0_1.rhsIdx i ((ValueIdx.contrEquiv2 dot_S2x4096x4096x3_S4096x2x3x128_S2x4096x128_23_02_1_3_0_1 4096 3 rfl rfl rfl).symm (a, b)) = pk_r i a b := funext fun x => Fin.ext (by
    match x with
    | ⟨0, _⟩ => exact (pk_rhs0 _ _).trans h0
    | ⟨1, _⟩ => exact pk_rhs1 _ _
    | ⟨2, _⟩ => exact (pk_rhs2 _ _).trans h1
    | ⟨3, _⟩ => exact pk_rhs3 _ _)
  rw [el, er]

theorem group (u e : ℕ) (he : e < 3) : (u * 3 + e) / 3 = u := by omega

theorem dv3 (hq : IsR2 x0 q) (hk : IsR2 x1 k) (hg : IsR2 x3 g) : R3 (val_main_v46 (F := Ideal) x0 x1 x3)
    fun j u d => DV 128 3 cs q k g u j d := fun i => by
  rw [val_main_v46_apply]
  unfold val_main_v45
  rw [pv_apply]
  refine (sum_eq fun e => sum_eq fun r => by rw [g4t hg, probs hq hk, ← EReal.coe_mul]).trans (congrArg _ ?_)
  refine Finset.sum_congr rfl fun e _ => Finset.sum_congr rfl fun r _ => ?_
  unfold P
  rw [group _ _ e.isLt, mul_comm]

theorem dk3 (hq : IsR2 x0 q) (hk : IsR2 x1 k) (hv : IsR2 x2 v) (hg : IsR2 x3 g) : R3 (val_main_v65 (F := Ideal) x0 x1 x2 x3)
    fun j u d => DK 128 3 cs q k v g u j d := fun i => by
  rw [val_main_v65_apply]
  unfold val_main_v64
  rw [pk_apply]
  refine (sum_eq fun r => sum_eq fun e => by rw [ds4t hq hk hv hg, q4 hq, ← EReal.coe_mul]).trans (congrArg _ ?_)
  rw [Finset.sum_comm]
  refine Finset.sum_congr rfl fun e _ => Finset.sum_congr rfl fun r _ => ?_
  unfold DS
  rw [group _ _ e.isLt]

theorem dv_eq (hq : IsR2 x0 q) (hk : IsR2 x1 k) (hg : IsR2 x3 g) :
    IsR2 (n0 := 4096) (n1 := 256) (val_main_v66 (F := Ideal) x0 x1 x3) fun r j => DV 128 3 cs q k g (j / 128) r (j % 128) := fun i => by
  rw [val_main_v66_apply]
  refine (dv3 hq hk hg _).trans (congrArg _ ?_)
  obtain ⟨h0, h1, h2⟩ := key_col (i 0).val (i 1).val (i 1).isLt
  show DV 128 3 cs q k g (((i 0).val * 256 + (i 1).val) / 128 % 2) (((i 0).val * 256 + (i 1).val) / 256) (((i 0).val * 256 + (i 1).val) % 128) = _
  rw [h0, h1, h2]
theorem dk_eq (hq : IsR2 x0 q) (hk : IsR2 x1 k) (hv : IsR2 x2 v) (hg : IsR2 x3 g) :
    IsR2 (n0 := 4096) (n1 := 256) (val_main_v67 (F := Ideal) x0 x1 x2 x3) fun r j => DK 128 3 cs q k v g (j / 128) r (j % 128) := fun i => by
  rw [val_main_v67_apply]
  refine (dk3 hq hk hv hg _).trans (congrArg _ ?_)
  obtain ⟨h0, h1, h2⟩ := key_col (i 0).val (i 1).val (i 1).isLt
  show DK 128 3 cs q k v g (((i 0).val * 256 + (i 1).val) / 128 % 2) (((i 0).val * 256 + (i 1).val) / 256) (((i 0).val * 256 + (i 1).val) % 128) = _
  rw [h0, h1, h2]

end
end Cert.ReferenceIdeal.Val
-- ==== Proof.Pre.lean ====
/-
  The precondition at the ideal values: every argument holds real numbers.
-/
module

public import proofs.«01_k».proof.Pre_finite
public import proofs.«01_k».proof.Proof.Reals
public import Idealize.ShloMosaic.Lib.ReduceAll
public import Idealize.ShloMosaic.Lib.Affine

@[expose] public section

set_option maxRecDepth 16384

noncomputable section

namespace Cert.Pre_finite.Val

open Idealize.ShloMosaic
open Cert.Reals

instance facts : Cert.Pre_finite.Facts where
  bitsLt_bf16_f32 := by decide
  bcast_S_S4096x768 := by decide
  reducesTo_S4096x768_S_d0_1 := by decide
  h_S_ := by decide
  bcast_S_S4096x256 := by decide
  reducesTo_S4096x256_S_d0_1 := by decide

instance : Subsingleton S_.Idx := ⟨fun _ _ => funext fun a => a.elim0⟩

/-- A value whose magnitude is below infinity is a real number. -/
theorem real_of_lt (x : EReal) (h : Ideal.cmp .olt (max x (-x)) (Ideal.ofBits .f32 0x7F800000#32) = 1#1) : x = (x.toReal : EReal) := by
  rw [ofBits_inf] at h
  have h' : max x (-x) < ⊤ := by
    by_contra hn
    simp only [Ideal.cmp, hn, decide_false] at h
    exact absurd h (by decide)
  induction x with
  | coe r => rfl
  | bot => simp at h'
  | top => simp at h'

/-- A matrix of real numbers, by row and column. -/
theorem isR2_of {n m : ℕ} (hn : 0 < n) (hm : 0 < m) (X : (⟨2, ![n, m]⟩ : Shape).Idx → EReal) (h : ∀ i, X i = ((X i).toReal : EReal)) :
    ∃ x : ℕ → ℕ → ℝ, IsR2 X x :=
  ⟨fun a b => (X (ValueIdx.ix2 (⟨a % n, Nat.mod_lt _ hn⟩ : Fin n) (⟨b % m, Nat.mod_lt _ hm⟩ : Fin m))).toReal, fun i => by
    have e : ValueIdx.ix2 (⟨(i 0).val % n, Nat.mod_lt _ hn⟩ : Fin n) (⟨(i 1).val % m, Nat.mod_lt _ hm⟩ : Fin m) = i :=
      funext fun a => match a with
        | ⟨0, _⟩ => Fin.ext (Nat.mod_eq_of_lt (i 0).isLt)
        | ⟨1, _⟩ => Fin.ext (Nat.mod_eq_of_lt (i 1).isLt)
    show X i = ((X (ValueIdx.ix2 (⟨(i 0).val % n, Nat.mod_lt _ hn⟩ : Fin n) (⟨(i 1).val % m, Nat.mod_lt _ hm⟩ : Fin m))).toReal : EReal)
    rw [e]; exact h i⟩

theorem finite (x0 : FVec Ideal S4096x768 .bf16) (x1 x2 : FVec Ideal S4096x256 .bf16) (x3 : FVec Ideal S4096x768 .f32)
    (h : Cert.Pre_finite.fn (F := Ideal) x0 x1 x2 x3 = fun _ => 1#1) :
    ∃ q k v g : ℕ → ℕ → ℝ, IsR2 (n0 := 4096) (n1 := 768) x0 q ∧ IsR2 (n0 := 4096) (n1 := 256) x1 k ∧ IsR2 (n0 := 4096) (n1 := 256) x2 v
      ∧ IsR2 (n0 := 4096) (n1 := 768) x3 g := by
  have h' := congrFun h (Shape.Idx.first facts.h_S_)
  unfold Cert.Pre_finite.fn Cert.Pre_finite.fn_part1 at h'
  obtain ⟨h012, h3⟩ := IntOp.andi_eq_one.mp h'
  obtain ⟨h01, h2⟩ := IntOp.andi_eq_one.mp h012
  obtain ⟨h0, h1⟩ := IntOp.andi_eq_one.mp h01
  obtain ⟨q, hq⟩ := isR2_of (by norm_num) (by norm_num) x0 fun i => real_of_lt _ (Host.reduce_andi_all _ _ _ _ _ h0 i)
  obtain ⟨k, hk⟩ := isR2_of (by norm_num) (by norm_num) x1 fun i => real_of_lt _ (Host.reduce_andi_all _ _ _ _ _ h1 i)
  obtain ⟨v, hv⟩ := isR2_of (by norm_num) (by norm_num) x2 fun i => real_of_lt _ (Host.reduce_andi_all _ _ _ _ _ h2 i)
  obtain ⟨g, hg⟩ := isR2_of (by norm_num) (by norm_num) x3 fun i => real_of_lt _ (Host.reduce_andi_all _ _ _ _ _ h3 i)
  exact ⟨q, k, v, g, hq, hk, hv, hg⟩
end Cert.Pre_finite.Val
-- ==== Proof.Ops.lean ====
/-
  More operations on arrays of real numbers: whole blocks read, exponentials, format changes, and the logistic function.
-/
module

public import proofs.«01_k».proof.Proof.Reals
public import Idealize.ShloMosaic.Lib.Pipeline.ValueKit.Point

@[expose] public section

set_option maxRecDepth 16384

noncomputable section

namespace Cert.Reals

open Idealize.ShloMosaic Idealize.ShloMosaic.TcCoe Idealize.SL.Sem
open Idealize.ShloMosaic.ValueIdx hiding ix1 ix2 ix3 ix4 ix5 ix6

section Ops
variable {n m l : ℕ} {φ : FTy}

theorem IsR3.congr {X : (⟨3, ![n, m, l]⟩ : Shape).Idx → EReal} {x y : ℕ → ℕ → ℕ → ℝ} (h : IsR3 X x)
    (e : ∀ a < n, ∀ b < m, ∀ c < l, x a b c = y a b c) : IsR3 X y := fun i => by
  rw [h i, e _ (i 0).isLt _ (i 1).isLt _ (i 2).isLt]

/-- A whole matrix read. -/
theorem IsR2.ld {X : (⟨2, ![n, m]⟩ : Shape).Idx → EReal} {x : ℕ → ℕ → ℝ} (hX : IsR2 X x)
    (inb : ∀ a, (![0, 0] : Fin 2 → ℕ) a + (![n, m] : Fin 2 → ℕ) a ≤ (⟨2, ![n, m]⟩ : Shape).size a) :
    IsR2 (n0 := n) (n1 := m) (fun i => X ((Rect.unit (s := ⟨2, ![n, m]⟩) ![0, 0] ![n, m] inb).idx i)) x := fun i =>
  (hX _).trans (congrArg _ (by congr 1 <;> simp [Rect.idx_unit_val]))
/-- A whole array of three axes read. -/
theorem IsR3.ld {X : (⟨3, ![n, m, l]⟩ : Shape).Idx → EReal} {x : ℕ → ℕ → ℕ → ℝ} (hX : IsR3 X x)
    (inb : ∀ a, (![0, 0, 0] : Fin 3 → ℕ) a + (![n, m, l] : Fin 3 → ℕ) a ≤ (⟨3, ![n, m, l]⟩ : Shape).size a) :
    IsR3 (n0 := n) (n1 := m) (n2 := l) (fun i => X ((Rect.unit (s := ⟨3, ![n, m, l]⟩) ![0, 0, 0] ![n, m, l] inb).idx i)) x := fun i =>
  (hX _).trans (congrArg _ (by
    have e : ∀ a, ((Rect.unit (s := ⟨3, ![n, m, l]⟩) ![0, 0, 0] ![n, m, l] inb).idx i a).val = (i a).val := fun a => by
      rw [Rect.idx_unit_val]; fin_cases a <;> simp
    rw [e 0, e 1, e 2]))

theorem IsR2.ext {ψ : FTy} {A : FVec Ideal ⟨2, ![n, m]⟩ φ} {a : ℕ → ℕ → ℝ} (hA : IsR2 A a) (h : φ.bits < ψ.bits) :
    IsR2 (extf ψ A h) a := fun i => by rw [extf_apply, hA]
theorem IsR2.expo {A : FVec Ideal ⟨2, ![n, m]⟩ φ} {a : ℕ → ℕ → ℝ} (hA : IsR2 A a) :
    IsR2 (exp A) fun r c => Real.exp (a r c) := fun i => by
  show Ideal.exp (A i) = _
  rw [hA, Ideal.exp_coe]

theorem one_f32 : Ideal.ofBits .f32 0x3F800000#32 = ((1 : ℝ) : EReal) := by
  simp [Ideal.ofBits, Ideal.ieee, ← EReal.coe_mul]; norm_num
theorem zero_f32 : Ideal.ofBits .f32 0x00000000#32 = ((0 : ℝ) : EReal) := by rw [Ideal.ofBits_zero_f32]; rfl

/-- The logistic function. -/
def sgm (x : ℝ) : ℝ := 1 / (1 + Real.exp (-x))

theorem one_add_exp (x : ℝ) : 1 + Real.exp x ≠ 0 := (add_pos one_pos (Real.exp_pos x)).ne'

variable {A : FVec Ideal ⟨2, ![n, m]⟩ .f32} {a : ℕ → ℕ → ℝ}

/-- One plus the exponential of the negation. -/
theorem IsR2.den (hA : IsR2 A a) : IsR2 (addf (broadcast ⟨2, ![n, m]⟩ (Scalar.ofBits .f32 0x3F800000#32 : Ideal .f32))
      (exp (subf (broadcast ⟨2, ![n, m]⟩ (Scalar.ofBits .f32 0x00000000#32 : Ideal .f32)) A))) fun r c => 1 + Real.exp (-a r c) :=
  ((IsR2.const one_f32).add ((IsR2.const zero_f32).sub hA).expo).congr fun r _ c _ => by rw [zero_sub]
end Ops

/-- A sum over `J · N` numbers by its `J` stretches of `N`. -/
theorem sum_stretches {M : Type} [AddCommMonoid M] (J N : ℕ) (f : ℕ → M) :
    ∑ i : Fin (J * N), f i.val = ∑ j ∈ Finset.range J, ∑ c : Fin N, f (j * N + c.val) := by
  rw [Finset.sum_range (fun j => ∑ c : Fin N, f (j * N + c.val)), ← Equiv.sum_comp finProdFinEquiv, Fintype.sum_prod_type]
  refine Finset.sum_congr rfl fun j _ => Finset.sum_congr rfl fun c _ => congrArg f ?_
  show c.val + N * j.val = _
  rw [Nat.mul_comm, Nat.add_comm]

end Cert.Reals
-- ==== Proof.FfnSpec.lean ====
/-
  The SwiGLU layer over the reals. The gate's and the up projection's weights are in four shards of `1408` columns.
-/
module

public import proofs.«01_k».proof.Proof.Ops

@[expose] public section

noncomputable section

namespace Cert.Ffn

open Cert.Reals

/-- The product of a matrix of `2048` columns with the shards side by side. -/
def proj (h : ℕ → ℕ → ℝ) (w : ℕ → ℕ → ℕ → ℝ) (r f : ℕ) : ℝ := ∑ k : Fin 2048, h r k * w (f / 1408) k (f % 1408)
/-- The product of two matrices of `2048` columns, the second transposed. -/
def projT (d w : ℕ → ℕ → ℝ) (r f : ℕ) : ℝ := ∑ k : Fin 2048, d r k * w f k
/-- The product of two matrices of `4096` rows, the first transposed. -/
def outer (a b : ℕ → ℕ → ℝ) (r j : ℕ) : ℝ := ∑ k : Fin 4096, a k r * b k j

/-- The gated activation. -/
def act (g u : ℝ) : ℝ := g / (1 + Real.exp (-g)) * u
/-- Its derivatives by the gate and by the other factor, where `d` is the result's. -/
def dgate (g u d : ℝ) : ℝ := d * u * (sgm g * (1 + g * (1 - sgm g)))
def dup (g d : ℝ) : ℝ := d * (g * sgm g)

end Cert.Ffn
-- ==== Proof.Ffn.lean ====
/-
  The SwiGLU kernels: what each of the six calls computes of its blocks, as functions of real numbers, and the whole arrays they leave.
-/
module

public import proofs.«01_k».proof.Proof.Gen.Kernel2Ideal.Frame
public import proofs.«01_k».proof.Proof.Ops
public import Idealize.ShloMosaic.Lib.Pipeline.ValueKit
public import Idealize.ShloMosaic.Lib.Pipeline.ValueKit.Point
public import proofs.«01_k».proof.Proof.FfnSpec

@[expose] public section

set_option maxRecDepth 16384

noncomputable section

namespace Cert.Kernel2Ideal.Val

open Idealize.ShloMosaic Idealize.ShloMosaic.TcCoe Idealize.SL.Sem Idealize.ShloMosaic.Pipeline
open Cert.Kernel2Ideal Cert.Kernel2Ideal.Gen Cert.Reals Cert.Ffn

/-! ## The blocks -/

section Blocks

section Up
variable {H : Vec Ideal S512x2048 .bf16} {G U : Vec Ideal S1x2048x1408 .bf16} {h : ℕ → ℕ → ℝ} {wg wu : ℕ → ℕ → ℕ → ℝ}

theorem gate_pay (hH : IsR2 H h) (hG : IsR3 G wg) : IsR2 (k0_pay1 (F := Ideal) H G) fun r c => ∑ k : Fin 2048, h r k * wg 0 k c :=
  hH.matmul (hG.toPlane shapeCasts_S1x2048x1408_S2048x1408) none
theorem up_pay (hH : IsR2 H h) (hU : IsR3 U wu) : IsR2 (k0_pay2 (F := Ideal) H U) fun r c => ∑ k : Fin 2048, h r k * wu 0 k c :=
  hH.matmul (hU.toPlane shapeCasts_S1x2048x1408_S2048x1408) none
theorem act_pay (hH : IsR2 H h) (hG : IsR3 G wg) (hU : IsR3 U wu) :
    IsR2 (k0_pay5 (F := Ideal) H G U) fun r c => act (∑ k : Fin 2048, h r k * wg 0 k c) (∑ k : Fin 2048, h r k * wu 0 k c) :=
  (((((gate_pay hH hG).div (gate_pay hH hG).den fun r _ c _ => one_add_exp _).mul (up_pay hH hU)).trunc bitsLt_bf16_f32).cast
    shapeCasts_S512x1408_S512x1408)

theorem gate_block (hH : IsR2 H h) (hG : IsR3 G wg) : IsR2 (out0_3 (F := Ideal) H G U) fun r c => ∑ k : Fin 2048, h r k * wg 0 k c := fun y => by
  unfold out0_3
  canon_tiles x ha using cover0_3 ..
  exact ((((gate_pay (hH.ld inb_S512x2048_S512x2048_0_0) (hG.ld inb_S1x2048x1408_S1x2048x1408_0_0_0)).trunc bitsLt_bf16_f32).cast
    shapeCasts_S512x1408_S512x1408) x).trans (by rw [ha0, ha1])
theorem up_block (hH : IsR2 H h) (hU : IsR3 U wu) : IsR2 (out0_4 (F := Ideal) H G U) fun r c => ∑ k : Fin 2048, h r k * wu 0 k c := fun y => by
  unfold out0_4
  canon_tiles x ha using cover0_4 ..
  exact ((((up_pay (hH.ld inb_S512x2048_S512x2048_0_0) (hU.ld inb_S1x2048x1408_S1x2048x1408_0_0_0)).trunc bitsLt_bf16_f32).cast
    shapeCasts_S512x1408_S512x1408) x).trans (by rw [ha0, ha1])
theorem act_block (hH : IsR2 H h) (hG : IsR3 G wg) (hU : IsR3 U wu) : IsR2 (out0_5 (F := Ideal) H G U)
    fun r c => act (∑ k : Fin 2048, h r k * wg 0 k c) (∑ k : Fin 2048, h r k * wu 0 k c) := fun y => by
  unfold out0_5
  canon_tiles x ha using cover0_5 ..
  exact ((act_pay (hH.ld inb_S512x2048_S512x2048_0_0) (hG.ld inb_S1x2048x1408_S1x2048x1408_0_0_0)
    (hU.ld inb_S1x2048x1408_S1x2048x1408_0_0_0)) x).trans (by rw [ha0, ha1])
end Up

section Down
variable {A : Vec Ideal S1024x5632 .bf16} {B : Vec Ideal S5632x512 .bf16} {C : Vec Ideal S1024x512 .f32} {a b c : ℕ → ℕ → ℝ}

theorem down_block (hA : IsR2 A a) (hB : IsR2 B b) (hC : IsR2 C c) :
    IsR2 (out1_3 (F := Ideal) A B C) fun r j => (∑ k : Fin 5632, a r k * b k j) + c r j := fun y => by
  unfold out1_3
  canon_tiles x ha using cover1_3 ..
  exact (((((hA.ld inb_S1024x5632_S1024x5632_0_0).matmul (hB.ld inb_S5632x512_S5632x512_0_0) none).add
    (hC.ld inb_S1024x512_S1024x512_0_0)).cast shapeCasts_S1024x512_S1024x512) x).trans (by rw [ha0, ha1])
end Down

section DownDx
variable {D : Vec Ideal S1024x2048 .bf16} {W : Vec Ideal S512x2048 .bf16} {G U : Vec Ideal S1024x512 .bf16} {d w g u : ℕ → ℕ → ℝ}

theorem dact_pay (hD : IsR2 D d) (hW : IsR2 W w) : IsR2 (k2_pay1 (F := Ideal) D W) fun r c => ∑ k : Fin 2048, d r k * w c k := hD.matmulT hW none
theorem sig_pay (hG : IsR2 G g) : IsR2 (k2_pay3 (F := Ideal) G) fun r c => sgm (g r c) :=
  (IsR2.const one_f32).div (hG.ext bitsLt_bf16_f32).den fun _ _ _ _ => one_add_exp _
theorem dgate_pay (hD : IsR2 D d) (hW : IsR2 W w) (hG : IsR2 G g) (hU : IsR2 U u) : IsR2 (k2_pay4 (F := Ideal) D W G U)
    fun r c => dgate (g r c) (u r c) (∑ k : Fin 2048, d r k * w c k) :=
  ((((dact_pay hD hW).mul (hU.ext bitsLt_bf16_f32)).mul ((sig_pay hG).mul ((IsR2.const one_f32).add ((hG.ext bitsLt_bf16_f32).mul
    ((IsR2.const one_f32).sub (sig_pay hG)))))).trunc bitsLt_bf16_f32).cast shapeCasts_S1024x512_S1024x512
theorem dup_pay (hD : IsR2 D d) (hW : IsR2 W w) (hG : IsR2 G g) : IsR2 (k2_pay5 (F := Ideal) D W G)
    fun r c => dup (g r c) (∑ k : Fin 2048, d r k * w c k) :=
  (((dact_pay hD hW).mul ((hG.ext bitsLt_bf16_f32).mul (sig_pay hG))).trunc bitsLt_bf16_f32).cast shapeCasts_S1024x512_S1024x512

theorem dgate_block (hD : IsR2 D d) (hW : IsR2 W w) (hG : IsR2 G g) (hU : IsR2 U u) : IsR2 (out2_4 (F := Ideal) D W G U)
    fun r c => dgate (g r c) (u r c) (∑ k : Fin 2048, d r k * w c k) := fun y => by
  unfold out2_4
  canon_tiles x ha using cover2_4 ..
  exact ((dgate_pay (hD.ld inb_S1024x2048_S1024x2048_0_0) (hW.ld inb_S512x2048_S512x2048_0_0) (hG.ld inb_S1024x512_S1024x512_0_0)
    (hU.ld inb_S1024x512_S1024x512_0_0)) x).trans (by rw [ha0, ha1])
theorem dup_block (hD : IsR2 D d) (hW : IsR2 W w) (hG : IsR2 G g) : IsR2 (out2_5 (F := Ideal) D W G U)
    fun r c => dup (g r c) (∑ k : Fin 2048, d r k * w c k) := fun y => by
  unfold out2_5
  canon_tiles x ha using cover2_5 ..
  exact ((dup_pay (hD.ld inb_S1024x2048_S1024x2048_0_0) (hW.ld inb_S512x2048_S512x2048_0_0) (hG.ld inb_S1024x512_S1024x512_0_0)) x).trans
    (by rw [ha0, ha1])
end DownDx

section Dw
variable {a b : ℕ → ℕ → ℝ}

theorem dwd_block {A : Vec Ideal S4096x512 .bf16} {B : Vec Ideal S4096x2048 .bf16} (hA : IsR2 A a) (hB : IsR2 B b) :
    IsR2 (out3_2 (F := Ideal) A B) fun r j => ∑ k : Fin 4096, a k r * b k j := fun y => by
  unfold out3_2
  canon_tiles x ha using cover3_2 ..
  exact (((((hA.ld inb_S4096x512_S4096x512_0_0).matmulL (hB.ld inb_S4096x2048_S4096x2048_0_0) none
    dot_S4096x512_S4096x2048_S512x2048_0_0_1_1_n_n rfl rfl
    (fun i k => ⟨ValueIdx.contrEquiv1_symm_val dot_S4096x512_S4096x2048_S512x2048_0_0_1_1_n_n 4096 rfl rfl k, rfl⟩)
    (fun i k => ⟨ValueIdx.contrEquiv1_symm_val dot_S4096x512_S4096x2048_S512x2048_0_0_1_1_n_n 4096 rfl rfl k, rfl⟩)).trunc bitsLt_bf16_f32).cast
    shapeCasts_S512x2048_S512x2048) x).trans (by rw [ha0, ha1])

theorem dwgu_pay {A : Vec Ideal S4096x1024 .bf16} {B : Vec Ideal S4096x1408 .bf16} (hA : IsR2 A a) (hB : IsR2 B b) :
    IsR3 (k4_pay1 (F := Ideal) A B) fun _ r j => ∑ k : Fin 4096, a k r * b k j :=
  ((hA.matmulL hB none dot_S4096x1024_S4096x1408_S1024x1408_0_0_1_1_n_n rfl rfl
    (fun i k => ⟨ValueIdx.contrEquiv1_symm_val dot_S4096x1024_S4096x1408_S1024x1408_0_0_1_1_n_n 4096 rfl rfl k, rfl⟩)
    (fun i k => ⟨ValueIdx.contrEquiv1_symm_val dot_S4096x1024_S4096x1408_S1024x1408_0_0_1_1_n_n 4096 rfl rfl k, rfl⟩)).trunc bitsLt_bf16_f32).toSlab
    shapeCasts_S1024x1408_S1x1024x1408

theorem dwg_block {A : Vec Ideal S4096x1024 .bf16} {B : Vec Ideal S4096x1408 .bf16} (hA : IsR2 A a) (hB : IsR2 B b) :
    IsR3 (out4_2 (F := Ideal) A B) fun _ r j => ∑ k : Fin 4096, a k r * b k j := fun y => by
  unfold out4_2
  canon_tiles x ha using cover4_2 ..
  exact ((dwgu_pay (hA.ld inb_S4096x1024_S4096x1024_0_0) (hB.ld inb_S4096x1408_S4096x1408_0_0)) x).trans
    (by rw [ha1, ha2])
theorem dwu_block {A : Vec Ideal S4096x1024 .bf16} {B : Vec Ideal S4096x1408 .bf16} (hA : IsR2 A a) (hB : IsR2 B b) :
    IsR3 (out5_2 (F := Ideal) A B) fun _ r j => ∑ k : Fin 4096, a k r * b k j := dwg_block hA hB
end Dw

end Blocks

/-! ## The blocks of a grid point, and the arrays -/

theorem ix0 : (∀ t : Fin cfg0.N, win0_0.index t = ![t.val % 8, 0]) ∧ (∀ t : Fin cfg0.N, win0_1.index t = ![t.val / 8, 0, 0])
    ∧ (∀ t : Fin cfg0.N, win0_2.index t = ![t.val / 8, 0, 0]) ∧ (∀ t : Fin cfg0.N, win0_3.index t = ![t.val % 8, t.val / 8])
    ∧ (∀ t : Fin cfg0.N, win0_4.index t = ![t.val % 8, t.val / 8]) ∧ (∀ t : Fin cfg0.N, win0_5.index t = ![t.val % 8, t.val / 8]) := by
  decide +kernel
theorem ix1 : (∀ t : Fin cfg1.N, win1_0.index t = ![t.val / 4, 0]) ∧ (∀ t : Fin cfg1.N, win1_1.index t = ![0, t.val % 4])
    ∧ (∀ t : Fin cfg1.N, win1_2.index t = ![t.val / 4, t.val % 4]) ∧ (∀ t : Fin cfg1.N, win1_3.index t = ![t.val / 4, t.val % 4]) := by
  decide +kernel
theorem ix2 : (∀ t : Fin cfg2.N, win2_0.index t = ![t.val / 11, 0]) ∧ (∀ t : Fin cfg2.N, win2_1.index t = ![t.val % 11, 0])
    ∧ (∀ t : Fin cfg2.N, win2_2.index t = ![t.val / 11, t.val % 11]) ∧ (∀ t : Fin cfg2.N, win2_3.index t = ![t.val / 11, t.val % 11])
    ∧ (∀ t : Fin cfg2.N, win2_4.index t = ![t.val / 11, t.val % 11]) ∧ (∀ t : Fin cfg2.N, win2_5.index t = ![t.val / 11, t.val % 11]) := by
  decide +kernel
theorem ix3 : (∀ t : Fin cfg3.N, win3_0.index t = ![0, t.val]) ∧ (∀ t : Fin cfg3.N, win3_1.index t = ![0, 0])
    ∧ (∀ t : Fin cfg3.N, win3_2.index t = ![t.val, 0]) := by decide +kernel
theorem ix4 : (∀ t : Fin cfg4.N, win4_0.index t = ![0, t.val / 4]) ∧ (∀ t : Fin cfg4.N, win4_1.index t = ![0, t.val % 4])
    ∧ (∀ t : Fin cfg4.N, win4_2.index t = ![t.val % 4, t.val / 4, 0]) := by decide +kernel
theorem ix5 : (∀ t : Fin cfg5.N, win5_0.index t = ![0, t.val / 4]) ∧ (∀ t : Fin cfg5.N, win5_1.index t = ![0, t.val % 4])
    ∧ (∀ t : Fin cfg5.N, win5_2.index t = ![t.val % 4, t.val / 4, 0]) := by decide +kernel

section Arrays
variable {V : (c : Dev nD) → (b : Ref sig .tc) → Buf (Elt Ideal) ((c : Thread nD τ).loc b)} (c : Dev nD)
  {x h dx wd g u a : ℕ → ℕ → ℝ} {wg wu : ℕ → ℕ → ℕ → ℝ}

section Call0
theorem h0 (hh : IsR2 (n0 := 4096) (n1 := 2048) (V c main_arg1) h) (t : Fin cfg0.N) :
    IsR2 (n0 := 512) (n1 := 2048) (iblk0 V c 0 t) fun r k => h (t.val % 8 * 512 + r) k := fun y => by
  blk_simp [iblk0]
  refine (hh _).trans (congrArg _ ?_)
  blk_simp [ix0.1 t]
theorem wg0 (hw : IsR3 (n0 := 4) (n1 := 2048) (n2 := 1408) (V c main_arg2) wg) (t : Fin cfg0.N) :
    IsR3 (n0 := 1) (n1 := 2048) (n2 := 1408) (iblk0 V c 1 t) fun j k e => wg (t.val / 8 + j) k e := fun y => by
  blk_simp [iblk0]
  refine (hw _).trans (congrArg _ ?_)
  blk_simp [ix0.2.1 t]
theorem wu0 (hw : IsR3 (n0 := 4) (n1 := 2048) (n2 := 1408) (V c main_arg3) wu) (t : Fin cfg0.N) :
    IsR3 (n0 := 1) (n1 := 2048) (n2 := 1408) (iblk0 V c 2 t) fun j k e => wu (t.val / 8 + j) k e := fun y => by
  blk_simp [iblk0]
  refine (hw _).trans (congrArg _ ?_)
  blk_simp [ix0.2.2.1 t]

theorem gate_array (hh : IsR2 (n0 := 4096) (n1 := 2048) (V c main_arg1) h)
    (hg : IsR3 (n0 := 4) (n1 := 2048) (n2 := 1408) (V c main_arg2) wg) :
    IsR2 (n0 := 4096) (n1 := 5632) ((dat0 V c).arrAt 3 cfg0.N) (proj h wg) := by
  intro i
  refine (dat0 V c).arrAt_forall_of_covers 3 (fun i x => x = ((proj h wg (i 0).val (i 1).val : ℝ) : EReal)) (by decide +kernel) (fun t _ y => ?_) i
  blk_simp [ix0.2.2.2.1 t]
  rw [after0_3]
  refine (gate_block (h0 c hh t) (wg0 c hg t) _).trans (congrArg _ ?_)
  idx_bounds y
  have e1 : (t.val / 8 * 1408 + (y 1).val) / 1408 = t.val / 8 := by omega
  have e2 : (t.val / 8 * 1408 + (y 1).val) % 1408 = (y 1).val := by omega
  unfold proj; rw [e1, e2]; rfl
theorem up_array (hh : IsR2 (n0 := 4096) (n1 := 2048) (V c main_arg1) h)
    (hu : IsR3 (n0 := 4) (n1 := 2048) (n2 := 1408) (V c main_arg3) wu) :
    IsR2 (n0 := 4096) (n1 := 5632) ((dat0 V c).arrAt 4 cfg0.N) (proj h wu) := by
  intro i
  refine (dat0 V c).arrAt_forall_of_covers 4 (fun i x => x = ((proj h wu (i 0).val (i 1).val : ℝ) : EReal)) (by decide +kernel) (fun t _ y => ?_) i
  blk_simp [ix0.2.2.2.2.1 t]
  rw [after0_4]
  refine (up_block (h0 c hh t) (wu0 c hu t) _).trans (congrArg _ ?_)
  idx_bounds y
  have e1 : (t.val / 8 * 1408 + (y 1).val) / 1408 = t.val / 8 := by omega
  have e2 : (t.val / 8 * 1408 + (y 1).val) % 1408 = (y 1).val := by omega
  unfold proj; rw [e1, e2]; rfl
theorem act_array (hh : IsR2 (n0 := 4096) (n1 := 2048) (V c main_arg1) h)
    (hg : IsR3 (n0 := 4) (n1 := 2048) (n2 := 1408) (V c main_arg2) wg) (hu : IsR3 (n0 := 4) (n1 := 2048) (n2 := 1408) (V c main_arg3) wu) :
    IsR2 (n0 := 4096) (n1 := 5632) ((dat0 V c).arrAt 5 cfg0.N) fun r f => act (proj h wg r f) (proj h wu r f) := by
  intro i
  refine (dat0 V c).arrAt_forall_of_covers 5 (fun i x => x = ((act (proj h wg (i 0).val (i 1).val) (proj h wu (i 0).val (i 1).val) : ℝ) : EReal))
    (by decide +kernel) (fun t _ y => ?_) i
  blk_simp [ix0.2.2.2.2.2 t]
  rw [after0_5]
  refine (act_block (h0 c hh t) (wg0 c hg t) (wu0 c hu t) _).trans (congrArg _ ?_)
  idx_bounds y
  have e1 : (t.val / 8 * 1408 + (y 1).val) / 1408 = t.val / 8 := by omega
  have e2 : (t.val / 8 * 1408 + (y 1).val) % 1408 = (y 1).val := by omega
  unfold proj; rw [e1, e2]; rfl
end Call0

/-- The product with the residual added. -/
theorem down_array (ha : IsR2 (n0 := 4096) (n1 := 5632) (V c main_v0_2) a) (hw : IsR2 (n0 := 5632) (n1 := 2048) (V c main_arg4) wd)
    (hx : IsR2 (n0 := 4096) (n1 := 2048) (V c main_arg0) x) :
    IsR2 (n0 := 4096) (n1 := 2048) ((dat1 V c).arrAt 3 cfg1.N) fun r j => (∑ k : Fin 5632, a r k * wd k j) + x r j := by
  intro i
  refine (dat1 V c).arrAt_forall_of_covers 3
    (fun i v => v = ((((∑ k : Fin 5632, a (i 0).val k * wd k (i 1).val) + x (i 0).val (i 1).val : ℝ)) : EReal)) (by decide +kernel) (fun t _ y => ?_) i
  have b0 : IsR2 (n0 := 1024) (n1 := 5632) (iblk1 V c 0 t) fun r k => a (t.val / 4 * 1024 + r) k := fun y => by
    blk_simp [iblk1]
    refine (ha _).trans (congrArg _ ?_)
    blk_simp [ix1.1 t]
  have b1 : IsR2 (n0 := 5632) (n1 := 512) (iblk1 V c 1 t) fun k j => wd k (t.val % 4 * 512 + j) := fun y => by
    blk_simp [iblk1]
    refine (hw _).trans (congrArg _ ?_)
    blk_simp [ix1.2.1 t]
  have b2 : IsR2 (n0 := 1024) (n1 := 512) (iblk1 V c 2 t) fun r j => x (t.val / 4 * 1024 + r) (t.val % 4 * 512 + j) := fun y => by
    blk_simp [iblk1]
    refine (hx _).trans (congrArg _ ?_)
    blk_simp [ix1.2.2.1 t]
  blk_simp [ix1.2.2.2 t]
  rw [after1_3]
  exact down_block b0 b1 b2 _

section Call2
variable (hd : IsR2 (n0 := 4096) (n1 := 2048) (V c main_arg5) dx) (hw : IsR2 (n0 := 5632) (n1 := 2048) (V c main_arg4) wd)
  (hg : IsR2 (n0 := 4096) (n1 := 5632) (V c main_v0_0) g) (hu : IsR2 (n0 := 4096) (n1 := 5632) (V c main_v0_1) u)

include hd in
theorem d2 (t : Fin cfg2.N) : IsR2 (n0 := 1024) (n1 := 2048) (iblk2 V c 0 t) fun r k => dx (t.val / 11 * 1024 + r) k := fun y => by
  blk_simp [iblk2]
  refine (hd _).trans (congrArg _ ?_)
  blk_simp [ix2.1 t]
include hw in
theorem w2 (t : Fin cfg2.N) : IsR2 (n0 := 512) (n1 := 2048) (iblk2 V c 1 t) fun f k => wd (t.val % 11 * 512 + f) k := fun y => by
  blk_simp [iblk2]
  refine (hw _).trans (congrArg _ ?_)
  blk_simp [ix2.2.1 t]
include hg in
theorem g2 (t : Fin cfg2.N) : IsR2 (n0 := 1024) (n1 := 512) (iblk2 V c 2 t) fun r f => g (t.val / 11 * 1024 + r) (t.val % 11 * 512 + f) := fun y => by
  blk_simp [iblk2]
  refine (hg _).trans (congrArg _ ?_)
  blk_simp [ix2.2.2.1 t]
include hu in
theorem u2 (t : Fin cfg2.N) : IsR2 (n0 := 1024) (n1 := 512) (iblk2 V c 3 t) fun r f => u (t.val / 11 * 1024 + r) (t.val % 11 * 512 + f) := fun y => by
  blk_simp [iblk2]
  refine (hu _).trans (congrArg _ ?_)
  blk_simp [ix2.2.2.2.1 t]

include hd hw hg hu in
theorem dgate_array : IsR2 (n0 := 4096) (n1 := 5632) ((dat2 V c).arrAt 4 cfg2.N) fun r f => dgate (g r f) (u r f) (projT dx wd r f) := by
  intro i
  refine (dat2 V c).arrAt_forall_of_covers 4
    (fun i v => v = ((dgate (g (i 0).val (i 1).val) (u (i 0).val (i 1).val) (projT dx wd (i 0).val (i 1).val) : ℝ) : EReal))
    (by decide +kernel) (fun t _ y => ?_) i
  blk_simp [ix2.2.2.2.2.1 t]
  rw [after2_4]
  exact dgate_block (d2 c hd t) (w2 c hw t) (g2 c hg t) (u2 c hu t) _
include hd hw hg in
theorem dup_array : IsR2 (n0 := 4096) (n1 := 5632) ((dat2 V c).arrAt 5 cfg2.N) fun r f => dup (g r f) (projT dx wd r f) := by
  intro i
  refine (dat2 V c).arrAt_forall_of_covers 5
    (fun i v => v = ((dup (g (i 0).val (i 1).val) (projT dx wd (i 0).val (i 1).val) : ℝ) : EReal)) (by decide +kernel) (fun t _ y => ?_) i
  blk_simp [ix2.2.2.2.2.2 t]
  rw [after2_5]
  exact dup_block (d2 c hd t) (w2 c hw t) (g2 c hg t) _
end Call2

theorem dwd_array (ha : IsR2 (n0 := 4096) (n1 := 5632) (V c main_v0_2) a) (hd : IsR2 (n0 := 4096) (n1 := 2048) (V c main_arg5) dx) :
    IsR2 (n0 := 5632) (n1 := 2048) ((dat3 V c).arrAt 2 cfg3.N) (outer a dx) := by
  intro i
  refine (dat3 V c).arrAt_forall_of_covers 2 (fun i v => v = ((outer a dx (i 0).val (i 1).val : ℝ) : EReal)) (by decide +kernel) (fun t _ y => ?_) i
  have b0 : IsR2 (n0 := 4096) (n1 := 512) (iblk3 V c 0 t) fun k r => a k (t.val * 512 + r) := fun y => by
    blk_simp [iblk3]
    refine (ha _).trans (congrArg _ ?_)
    blk_simp [ix3.1 t]
  have b1 : IsR2 (n0 := 4096) (n1 := 2048) (iblk3 V c 1 t) dx := fun y => by
    blk_simp [iblk3]
    refine (hd _).trans (congrArg _ ?_)
    blk_simp [ix3.2.1 t]
  blk_simp [ix3.2.2 t]
  rw [after3_2]
  exact (dwd_block b0 b1 _).trans (by unfold outer; simp)

theorem dwg_array (hh : IsR2 (n0 := 4096) (n1 := 2048) (V c main_arg1) h) (hg : IsR2 (n0 := 4096) (n1 := 5632) (V c main_v2_0) g) :
    IsR3 (n0 := 4) (n1 := 2048) (n2 := 1408) ((dat4 V c).arrAt 2 cfg4.N) fun j k e => outer h g k (j * 1408 + e) := by
  intro i
  refine (dat4 V c).arrAt_forall_of_covers 2 (fun i v => v = ((outer h g (i 1).val ((i 0).val * 1408 + (i 2).val) : ℝ) : EReal))
    (by decide +kernel) (fun t _ y => ?_) i
  have b0 : IsR2 (n0 := 4096) (n1 := 1024) (iblk4 V c 0 t) fun k r => h k (t.val / 4 * 1024 + r) := fun y => by
    blk_simp [iblk4]
    refine (hh _).trans (congrArg _ ?_)
    blk_simp [ix4.1 t]
  have b1 : IsR2 (n0 := 4096) (n1 := 1408) (iblk4 V c 1 t) fun k e => g k (t.val % 4 * 1408 + e) := fun y => by
    blk_simp [iblk4]
    refine (hg _).trans (congrArg _ ?_)
    blk_simp [ix4.2.1 t]
  blk_simp [ix4.2.2 t]
  rw [after4_2]
  refine (dwg_block b0 b1 _).trans (congrArg _ ?_)
  idx_bounds y
  unfold outer; simp
theorem dwu_array (hh : IsR2 (n0 := 4096) (n1 := 2048) (V c main_arg1) h) (hg : IsR2 (n0 := 4096) (n1 := 5632) (V c main_v2_1) g) :
    IsR3 (n0 := 4) (n1 := 2048) (n2 := 1408) ((dat5 V c).arrAt 2 cfg5.N) fun j k e => outer h g k (j * 1408 + e) := by
  intro i
  refine (dat5 V c).arrAt_forall_of_covers 2 (fun i v => v = ((outer h g (i 1).val ((i 0).val * 1408 + (i 2).val) : ℝ) : EReal))
    (by decide +kernel) (fun t _ y => ?_) i
  have b0 : IsR2 (n0 := 4096) (n1 := 1024) (iblk5 V c 0 t) fun k r => h k (t.val / 4 * 1024 + r) := fun y => by
    blk_simp [iblk5]
    refine (hh _).trans (congrArg _ ?_)
    blk_simp [ix5.1 t]
  have b1 : IsR2 (n0 := 4096) (n1 := 1408) (iblk5 V c 1 t) fun k e => g k (t.val % 4 * 1408 + e) := fun y => by
    blk_simp [iblk5]
    refine (hg _).trans (congrArg _ ?_)
    blk_simp [ix5.2.1 t]
  blk_simp [ix5.2.2 t]
  rw [after5_2]
  refine (dwu_block b0 b1 _).trans (congrArg _ ?_)
  idx_bounds y
  unfold outer; simp
end Arrays

end Cert.Kernel2Ideal.Val
-- ==== Proof.FfnRun.lean ====
/-
  The SwiGLU kernels' run with every buffer's final contents, and the six results at the ideal values.
-/
module

public import proofs.«01_k».proof.Proof.Gen.Kernel2Ideal.Frame
public import proofs.«01_k».proof.Proof.Ffn

@[expose] public section

set_option maxRecDepth 16384

noncomputable section

namespace Cert.Kernel2Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen Cert.Reals Cert.Ffn

section
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and each buffer then holds what the six launches leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)
end

variable (m : (ℓ : Loc nD τ sig) → Buf (Elt Ideal) ℓ) (ρ : Dev nD → PrngReg) {x h wd dx : ℕ → ℕ → ℝ} {wg wu : ℕ → ℕ → ℕ → ℝ} (c : Dev nD)

/-- The six arguments as real matrices. -/
structure Args (x h : ℕ → ℕ → ℝ) (wg wu : ℕ → ℕ → ℕ → ℝ) (wd dx : ℕ → ℕ → ℝ) : Prop where
  hx : IsR2 (n0 := 4096) (n1 := 2048) (m ((c.tc : Thread nD τ).loc main_arg0)) x
  hh : IsR2 (n0 := 4096) (n1 := 2048) (m ((c.tc : Thread nD τ).loc main_arg1)) h
  hg : IsR3 (n0 := 4) (n1 := 2048) (n2 := 1408) (m ((c.tc : Thread nD τ).loc main_arg2)) wg
  hu : IsR3 (n0 := 4) (n1 := 2048) (n2 := 1408) (m ((c.tc : Thread nD τ).loc main_arg3)) wu
  hw : IsR2 (n0 := 5632) (n1 := 2048) (m ((c.tc : Thread nD τ).loc main_arg4)) wd
  hd : IsR2 (n0 := 4096) (n1 := 2048) (m ((c.tc : Thread nD τ).loc main_arg5)) dx

variable {m c} (A : Args m c x h wg wu wd dx)
include A

/-! The arguments stand throughout. -/

theorem Args.x1 : IsR2 (n0 := 4096) (n1 := 2048) (V1 m ρ c main_arg0) x := by
  rw [show V1 m ρ c main_arg0 = _ from W1_args m ρ c main_arg0 (by decide)]; exact A.hx

theorem Args.h4 : IsR2 (n0 := 4096) (n1 := 2048) (V4 m ρ c main_arg1) h := by
  rw [show V4 m ρ c main_arg1 = _ from W4_args m ρ c main_arg1 (by decide)]; exact A.hh

theorem Args.h5 : IsR2 (n0 := 4096) (n1 := 2048) (V5 m ρ c main_arg1) h := by
  rw [show V5 m ρ c main_arg1 = _ from W5_args m ρ c main_arg1 (by decide)]; exact A.hh

theorem Args.w1 : IsR2 (n0 := 5632) (n1 := 2048) (V1 m ρ c main_arg4) wd := by
  rw [show V1 m ρ c main_arg4 = _ from W1_args m ρ c main_arg4 (by decide)]; exact A.hw

theorem Args.w2 : IsR2 (n0 := 5632) (n1 := 2048) (V2 m ρ c main_arg4) wd := by
  rw [show V2 m ρ c main_arg4 = _ from W2_args m ρ c main_arg4 (by decide)]; exact A.hw

theorem Args.d2 : IsR2 (n0 := 4096) (n1 := 2048) (V2 m ρ c main_arg5) dx := by
  rw [show V2 m ρ c main_arg5 = _ from W2_args m ρ c main_arg5 (by decide)]; exact A.hd

theorem Args.d3 : IsR2 (n0 := 4096) (n1 := 2048) (V3 m ρ c main_arg5) dx := by
  rw [show V3 m ρ c main_arg5 = _ from W3_args m ρ c main_arg5 (by decide)]; exact A.hd

/-! The results of each launch, as later launches find them and as they are at the end. -/

theorem Args.gate1 : IsR2 (n0 := 4096) (n1 := 5632) (W1 m ρ c (Proc.devRef .tc main_v0_0)) (proj h wg) := by
  rw [show W1 m ρ c (Proc.devRef .tc main_v0_0) = _ from W1_arr m ρ c 3]; exact gate_array c A.hh A.hg

theorem Args.up1 : IsR2 (n0 := 4096) (n1 := 5632) (W1 m ρ c (Proc.devRef .tc main_v0_1)) (proj h wu) := by
  rw [show W1 m ρ c (Proc.devRef .tc main_v0_1) = _ from W1_arr m ρ c 4]; exact up_array c A.hh A.hu

theorem Args.act1 : IsR2 (n0 := 4096) (n1 := 5632) (W1 m ρ c (Proc.devRef .tc main_v0_2)) fun r f => act (proj h wg r f) (proj h wu r f) := by
  rw [show W1 m ρ c (Proc.devRef .tc main_v0_2) = _ from W1_arr m ρ c 5]; exact act_array c A.hh A.hg A.hu

theorem Args.x2 : IsR2 (n0 := 4096) (n1 := 2048) (W6 m ρ c (Proc.devRef .tc main_v1)) fun r j => (∑ k : Fin 5632, act (proj h wg r k) (proj h wu r k) * wd k j) + x r j := by
  rw [show W6 m ρ c (Proc.devRef .tc main_v1) = _ from W6_of m ρ c main_v1 (by decide), show W5 m ρ c (Proc.devRef .tc main_v1) = _ from W5_of m ρ c main_v1 (by decide), show W4 m ρ c (Proc.devRef .tc main_v1) = _ from W4_of m ρ c main_v1 (by decide), show W3 m ρ c (Proc.devRef .tc main_v1) = _ from W3_of m ρ c main_v1 (by decide), show W2 m ρ c (Proc.devRef .tc main_v1) = _ from W2_arr m ρ c 3]
  exact down_array c (A.act1 ρ) (A.w1 ρ) (A.x1 ρ)

theorem Args.gate2 : IsR2 (n0 := 4096) (n1 := 5632) (V2 m ρ c main_v0_0) (proj h wg) := by
  rw [show V2 m ρ c main_v0_0 = _ from W2_of m ρ c main_v0_0 (by decide)]; exact A.gate1 ρ

theorem Args.up2 : IsR2 (n0 := 4096) (n1 := 5632) (V2 m ρ c main_v0_1) (proj h wu) := by
  rw [show V2 m ρ c main_v0_1 = _ from W2_of m ρ c main_v0_1 (by decide)]; exact A.up1 ρ

theorem Args.dgate3 : IsR2 (n0 := 4096) (n1 := 5632) (W3 m ρ c (Proc.devRef .tc main_v2_0)) fun r f => dgate (proj h wg r f) (proj h wu r f) (projT dx wd r f) := by
  rw [show W3 m ρ c (Proc.devRef .tc main_v2_0) = _ from W3_arr m ρ c 4]; exact dgate_array c (A.d2 ρ) (A.w2 ρ) (A.gate2 ρ) (A.up2 ρ)

theorem Args.dup3 : IsR2 (n0 := 4096) (n1 := 5632) (W3 m ρ c (Proc.devRef .tc main_v2_1)) fun r f => dup (proj h wg r f) (projT dx wd r f) := by
  rw [show W3 m ρ c (Proc.devRef .tc main_v2_1) = _ from W3_arr m ρ c 5]; exact dup_array c (A.d2 ρ) (A.w2 ρ) (A.gate2 ρ)

theorem Args.dgate6 : IsR2 (n0 := 4096) (n1 := 5632) (W6 m ρ c (Proc.devRef .tc main_v2_0)) fun r f => dgate (proj h wg r f) (proj h wu r f) (projT dx wd r f) := by
  rw [show W6 m ρ c (Proc.devRef .tc main_v2_0) = _ from W6_of m ρ c main_v2_0 (by decide), show W5 m ρ c (Proc.devRef .tc main_v2_0) = _ from W5_of m ρ c main_v2_0 (by decide), show W4 m ρ c (Proc.devRef .tc main_v2_0) = _ from W4_of m ρ c main_v2_0 (by decide)]; exact A.dgate3 ρ

theorem Args.dup6 : IsR2 (n0 := 4096) (n1 := 5632) (W6 m ρ c (Proc.devRef .tc main_v2_1)) fun r f => dup (proj h wg r f) (projT dx wd r f) := by
  rw [show W6 m ρ c (Proc.devRef .tc main_v2_1) = _ from W6_of m ρ c main_v2_1 (by decide), show W5 m ρ c (Proc.devRef .tc main_v2_1) = _ from W5_of m ρ c main_v2_1 (by decide), show W4 m ρ c (Proc.devRef .tc main_v2_1) = _ from W4_of m ρ c main_v2_1 (by decide)]; exact A.dup3 ρ

theorem Args.act3 : IsR2 (n0 := 4096) (n1 := 5632) (V3 m ρ c main_v0_2) fun r f => act (proj h wg r f) (proj h wu r f) := by
  rw [show V3 m ρ c main_v0_2 = _ from W3_of m ρ c main_v0_2 (by decide), show W2 m ρ c (Proc.devRef .tc main_v0_2) = _ from W2_of m ρ c main_v0_2 (by decide)]; exact A.act1 ρ

theorem Args.dwd : IsR2 (n0 := 5632) (n1 := 2048) (W6 m ρ c (Proc.devRef .tc main_v3)) (outer (fun r f => act (proj h wg r f) (proj h wu r f)) dx) := by
  rw [show W6 m ρ c (Proc.devRef .tc main_v3) = _ from W6_of m ρ c main_v3 (by decide), show W5 m ρ c (Proc.devRef .tc main_v3) = _ from W5_of m ρ c main_v3 (by decide), show W4 m ρ c (Proc.devRef .tc main_v3) = _ from W4_arr m ρ c 2]
  exact dwd_array c (A.act3 ρ) (A.d3 ρ)

theorem Args.dgate4 : IsR2 (n0 := 4096) (n1 := 5632) (V4 m ρ c main_v2_0) fun r f => dgate (proj h wg r f) (proj h wu r f) (projT dx wd r f) := by
  rw [show V4 m ρ c main_v2_0 = _ from W4_of m ρ c main_v2_0 (by decide)]; exact A.dgate3 ρ

theorem Args.dup5 : IsR2 (n0 := 4096) (n1 := 5632) (V5 m ρ c main_v2_1) fun r f => dup (proj h wg r f) (projT dx wd r f) := by
  rw [show V5 m ρ c main_v2_1 = _ from W5_of m ρ c main_v2_1 (by decide), show W4 m ρ c (Proc.devRef .tc main_v2_1) = _ from W4_of m ρ c main_v2_1 (by decide)]; exact A.dup3 ρ

theorem Args.dwg : IsR3 (n0 := 4) (n1 := 2048) (n2 := 1408) (W6 m ρ c (Proc.devRef .tc main_v4))
    fun j k e => outer h (fun r f => dgate (proj h wg r f) (proj h wu r f) (projT dx wd r f)) k (j * 1408 + e) := by
  rw [show W6 m ρ c (Proc.devRef .tc main_v4) = _ from W6_of m ρ c main_v4 (by decide), show W5 m ρ c (Proc.devRef .tc main_v4) = _ from W5_arr m ρ c 2]
  exact dwg_array c (A.h4 ρ) (A.dgate4 ρ)

theorem Args.dwu : IsR3 (n0 := 4) (n1 := 2048) (n2 := 1408) (W6 m ρ c (Proc.devRef .tc main_v5))
    fun j k e => outer h (fun r f => dup (proj h wg r f) (projT dx wd r f)) k (j * 1408 + e) := by
  rw [show W6 m ρ c (Proc.devRef .tc main_v5) = _ from W6_arr m ρ c 2]
  exact dwu_array c (A.h5 ρ) (A.dup5 ρ)

end Cert.Kernel2Ideal.Val
-- ==== Proof.FfnRef.lean ====
/-
  The SwiGLU layer's reference at the ideal values: each stage as a function of real numbers, up to the six results.
-/
module

public import proofs.«01_k».proof.Proof.Gen.Reference2Ideal.Read
public import proofs.«01_k».proof.Proof.FfnSpec

@[expose] public section

set_option maxRecDepth 16384

noncomputable section

namespace Cert.Reference2Ideal.Val

open Idealize.ShloMosaic Idealize.SL.Sem
open Cert.Reference2Ideal Cert.Reference2Ideal.Gen Cert.Reference2Ideal.Read Cert.Reals Cert.Ffn

variable {x0 : (⟨S4096x2048, .f32⟩ : BufTy).Contents (Elt Ideal)} {x1 : (⟨S4096x2048, .bf16⟩ : BufTy).Contents (Elt Ideal)}
  {x2 x3 : (⟨S4x2048x1408, .bf16⟩ : BufTy).Contents (Elt Ideal)} {x4 : (⟨S5632x2048, .bf16⟩ : BufTy).Contents (Elt Ideal)}
  {x5 : (⟨S4096x2048, .bf16⟩ : BufTy).Contents (Elt Ideal)} {x h wd dx : ℕ → ℕ → ℝ} {wg wu : ℕ → ℕ → ℕ → ℝ}

/-! ## The shards side by side -/

theorem split_col (a b : ℕ) (hb : b < 5632) : (a * 5632 + b) / 5632 = a ∧ (a * 5632 + b) / 1408 % 4 = b / 1408 ∧ (a * 5632 + b) % 1408 = b % 1408 := by
  omega
theorem join_col (a b c : ℕ) (hb : b < 4) (hc : c < 1408) :
    ((a * 4 + b) * 1408 + c) / 5632 = a ∧ ((a * 4 + b) * 1408 + c) % 5632 = b * 1408 + c := by omega

theorem gate_w (hg : IsR3 x2 wg) : IsR2 (val_main_v6 (F := Ideal) x2) fun k f => wg (f / 1408) k (f % 1408) := fun i => by
  rw [val_main_v6_apply, val_main_v5_apply, val_main_v1_apply]
  have e := split_col (i 0).val (i 1).val (i 1).isLt
  refine (hg _).trans (congrArg _ ?_)
  show wg (((i 0).val * 5632 + (i 1).val) / 1408 % 4) (((i 0).val * 5632 + (i 1).val) / 5632) (((i 0).val * 5632 + (i 1).val) % 1408) = _
  rw [e.1, e.2.1, e.2.2]
theorem up_w (hu : IsR3 x3 wu) : IsR2 (val_main_v9 (F := Ideal) x3) fun k f => wu (f / 1408) k (f % 1408) := fun i => by
  rw [val_main_v9_apply, val_main_v8_apply, val_main_v2_apply]
  have e := split_col (i 0).val (i 1).val (i 1).isLt
  refine (hu _).trans (congrArg _ ?_)
  show wu (((i 0).val * 5632 + (i 1).val) / 1408 % 4) (((i 0).val * 5632 + (i 1).val) / 5632) (((i 0).val * 5632 + (i 1).val) % 1408) = _
  rw [e.1, e.2.1, e.2.2]

theorem h_cast (hh : IsR2 x1 h) : IsR2 (val_main_v0 (F := Ideal) x1) h := fun i => by rw [val_main_v0_apply]; exact hh i
theorem wd_cast (hw : IsR2 x4 wd) : IsR2 (val_main_v3 (F := Ideal) x4) wd := fun i => by rw [val_main_v3_apply]; exact hw i
theorem dx_cast (hd : IsR2 x5 dx) : IsR2 (val_main_v4 (F := Ideal) x5) dx := fun i => by rw [val_main_v4_apply]; exact hd i

/-! ## The layer -/

section Forward
variable (hh : IsR2 x1 h) (hg : IsR3 x2 wg) (hu : IsR3 x3 wu)

include hh hg in
theorem gate_eq : IsR2 (val_main_v7 (F := Ideal) x1 x2) (proj h wg) := fun i => by
  rw [val_main_v7_apply]
  exact sum_eq fun k => by rw [h_cast hh, gate_w hg, ← EReal.coe_mul]
include hh hu in
theorem up_eq : IsR2 (val_main_v10 (F := Ideal) x1 x3) (proj h wu) := fun i => by
  rw [val_main_v10_apply]
  exact sum_eq fun k => by rw [h_cast hh, up_w hu, ← EReal.coe_mul]

theorem one0 (i : S4096x5632.Idx) : val_main_call0_v2 (F := Ideal) i = ((1 : ℝ) : EReal) := by
  rw [val_main_call0_v2_apply, val_main_call0_cst_apply]; exact one_f32
theorem one1 (i : S4096x5632.Idx) : val_main_call0_v4 (F := Ideal) i = ((1 : ℝ) : EReal) := by
  rw [val_main_call0_v4_apply, val_main_call0_cst_0_apply]; exact one_f32
theorem one2 (i : S4096x5632.Idx) : val_main_call0_v6 (F := Ideal) i = ((1 : ℝ) : EReal) := by
  rw [val_main_call0_v6_apply, val_main_call0_cst_1_apply]; exact one_f32

include hh hg in
theorem sgm_eq : IsR2 (val_main_v11_2 (F := Ideal) x1 x2) fun r f => sgm (proj h wg r f) := fun i => by
  rw [val_main_v11_2_apply, val_main_call0_v3_apply, val_main_call0_v1_apply, val_main_call0_v0_apply, one0, one1, gate_eq hh hg]
  show Ideal.div ((1 : ℝ) : EReal) (((1 : ℝ) : EReal) + Ideal.exp (-((proj h wg (i 0).val (i 1).val : ℝ) : EReal))) = _
  rw [← EReal.coe_neg, Ideal.exp_coe, ← EReal.coe_add]
  exact div_real (one_add_exp _)
include hh hg in
theorem slope_eq : IsR2 (val_main_v11_1 (F := Ideal) x1 x2) fun r f => sgm (proj h wg r f) * (1 - sgm (proj h wg r f)) := fun i => by
  rw [val_main_v11_1_apply, val_main_call0_v7_apply, one2, sgm_eq hh hg]
  show _ * (_ - _) = _
  rw [← EReal.coe_sub, ← EReal.coe_mul]
include hh hg in
theorem silu_eq : IsR2 (val_main_v11_0 (F := Ideal) x1 x2) fun r f => proj h wg r f * sgm (proj h wg r f) := fun i => by
  rw [val_main_v11_0_apply, gate_eq hh hg, sgm_eq hh hg]
  show _ * _ = _
  rw [← EReal.coe_mul]
include hh hg hu in
theorem act_eq : IsR2 (val_main_v12 (F := Ideal) x1 x2 x3) fun r f => act (proj h wg r f) (proj h wu r f) := fun i => by
  rw [val_main_v12_apply, silu_eq hh hg, up_eq hh hu]
  show _ * _ = _
  rw [← EReal.coe_mul]
  refine congrArg _ ?_
  unfold act sgm; ring
include hh hg hu in
theorem x2_eq (hw : IsR2 x4 wd) (hx : IsR2 x0 x) : IsR2 (val_main_v28 (F := Ideal) x0 x1 x2 x3 x4)
    fun r j => (∑ k : Fin 5632, act (proj h wg r k) (proj h wu r k) * wd k j) + x r j := fun i => by
  rw [val_main_v28_apply, val_main_v13_apply, hx]
  rw [sum_eq (f := fun k : Fin 5632 => act (proj h wg (i 0).val k) (proj h wu (i 0).val k) * wd k (i 1).val)
    fun k => by rw [act_eq hh hg hu, wd_cast hw, ← EReal.coe_mul]]
  show _ + _ = _
  rw [← EReal.coe_add, add_comm]
end Forward

/-! ## Its derivative -/

section Backward
variable (hh : IsR2 x1 h) (hg : IsR3 x2 wg) (hu : IsR3 x3 wu) (hw : IsR2 x4 wd) (hd : IsR2 x5 dx)

include hh hg hu hd in
theorem dwd_eq : IsR2 (val_main_v33 (F := Ideal) x1 x2 x3 x5) (outer (fun r f => act (proj h wg r f) (proj h wu r f)) dx) := fun i => by
  rw [val_main_v33_apply, val_main_v15_apply, val_main_v14_apply]
  refine (sum_eq fun k => by rw [dx_cast hd, act_eq hh hg hu, ← EReal.coe_mul]).trans (congrArg _ ?_)
  exact Finset.sum_congr rfl fun k _ => mul_comm _ _
include hw hd in
theorem dact_eq : IsR2 (val_main_v16 (F := Ideal) x4 x5) (projT dx wd) := fun i => by
  rw [val_main_v16_apply]
  exact sum_eq fun k => by rw [dx_cast hd, wd_cast hw, ← EReal.coe_mul]
include hh hg hw hd in
theorem dup_f32 : IsR2 (val_main_v17 (F := Ideal) x1 x2 x4 x5) fun r f => dup (proj h wg r f) (projT dx wd r f) := fun i => by
  rw [val_main_v17_apply, silu_eq hh hg, dact_eq hw hd]
  show _ * _ = _
  rw [← EReal.coe_mul]
  exact congrArg _ (mul_comm _ _)
include hh hg hw hd in
theorem dup_eq : IsR2 (val_main_v30 (F := Ideal) x1 x2 x4 x5) fun r f => dup (proj h wg r f) (projT dx wd r f) := fun i => by
  rw [val_main_v30_apply]; exact dup_f32 hh hg hw hd i
include hh hg hu hw hd in
theorem dgate_f32 : IsR2 (val_main_v19 (F := Ideal) x1 x2 x3 x4 x5)
    fun r f => dgate (proj h wg r f) (proj h wu r f) (projT dx wd r f) := fun i => by
  rw [val_main_v19_apply, val_main_call1_v1_apply, val_main_call1_v2_apply, val_main_call1_v0_apply, val_main_v18_apply, gate_eq hh hg,
    up_eq hh hu, dact_eq hw hd, sgm_eq hh hg, slope_eq hh hg]
  show _ * _ * _ + _ * (_ * _) * _ = _
  rw [← EReal.coe_mul, ← EReal.coe_mul, ← EReal.coe_mul, ← EReal.coe_mul, ← EReal.coe_add]
  refine congrArg _ ?_
  unfold dgate; ring
include hh hg hu hw hd in
theorem dgate_eq : IsR2 (val_main_v29 (F := Ideal) x1 x2 x3 x4 x5)
    fun r f => dgate (proj h wg r f) (proj h wu r f) (projT dx wd r f) := fun i => by
  rw [val_main_v29_apply]; exact dgate_f32 hh hg hu hw hd i
include hh hg hw hd in
theorem dwu_eq : IsR3 (val_main_v32 (F := Ideal) x1 x2 x4 x5)
    fun j k e => outer h (fun r f => dup (proj h wg r f) (projT dx wd r f)) k (j * 1408 + e) := fun i => by
  rw [val_main_v32_apply, val_main_v23_apply, val_main_v22_apply, val_main_v21_apply, val_main_v20_apply]
  have e := join_col (i 1).val (i 0).val (i 2).val (i 0).isLt (i 2).isLt
  refine (sum_eq fun k => by rw [dup_f32 hh hg hw hd, h_cast hh, ← EReal.coe_mul]).trans (congrArg _ ?_)
  refine Finset.sum_congr rfl fun k _ => (mul_comm _ _).trans ?_
  exact congrArg₂ _ (congrArg (h _) e.1) (by rw [← e.2])
include hh hg hu hw hd in
theorem dwg_eq : IsR3 (val_main_v31 (F := Ideal) x1 x2 x3 x4 x5)
    fun j k e => outer h (fun r f => dgate (proj h wg r f) (proj h wu r f) (projT dx wd r f)) k (j * 1408 + e) := fun i => by
  rw [val_main_v31_apply, val_main_v27_apply, val_main_v26_apply, val_main_v25_apply, val_main_v24_apply]
  have e := join_col (i 1).val (i 0).val (i 2).val (i 0).isLt (i 2).isLt
  refine (sum_eq fun k => by rw [dgate_f32 hh hg hu hw hd, h_cast hh, ← EReal.coe_mul]).trans (congrArg _ ?_)
  refine Finset.sum_congr rfl fun k _ => (mul_comm _ _).trans ?_
  exact congrArg₂ _ (congrArg (h _) e.1) (by rw [← e.2])
end Backward

end Cert.Reference2Ideal.Val
-- ==== Proof.FfnPre.lean ====
/-
  The SwiGLU layer's precondition at the ideal values: every argument holds real numbers.
-/
module

public import proofs.«01_k».proof.Pre_finite2
public import proofs.«01_k».proof.Proof.Pre

@[expose] public section

set_option maxRecDepth 16384

noncomputable section

namespace Cert.Pre_finite2.Val

open Idealize.ShloMosaic
open Cert.Reals Cert.Pre_finite.Val

instance facts : Cert.Pre_finite2.Facts where
  bitsLt_bf16_f32 := by decide
  bcast_S_S4096x2048 := by decide
  reducesTo_S4096x2048_S_d0_1 := by decide
  h_S_ := by decide
  bcast_S_S4x2048x1408 := by decide
  reducesTo_S4x2048x1408_S_d0_1_2 := by decide
  bcast_S_S5632x2048 := by decide
  reducesTo_S5632x2048_S_d0_1 := by decide

instance : Subsingleton S_.Idx := ⟨fun _ _ => funext fun a => a.elim0⟩

/-- A stack of matrices of real numbers. -/
theorem isR3_of {n m l : ℕ} (hn : 0 < n) (hm : 0 < m) (hl : 0 < l) (X : (⟨3, ![n, m, l]⟩ : Shape).Idx → EReal)
    (h : ∀ i, X i = ((X i).toReal : EReal)) : ∃ x : ℕ → ℕ → ℕ → ℝ, IsR3 X x :=
  ⟨fun a b c => (X (ValueIdx.ix3 (⟨a % n, Nat.mod_lt _ hn⟩ : Fin n) (⟨b % m, Nat.mod_lt _ hm⟩ : Fin m) (⟨c % l, Nat.mod_lt _ hl⟩ : Fin l))).toReal,
    fun i => by
      have e : ValueIdx.ix3 (⟨(i 0).val % n, Nat.mod_lt _ hn⟩ : Fin n) (⟨(i 1).val % m, Nat.mod_lt _ hm⟩ : Fin m)
          (⟨(i 2).val % l, Nat.mod_lt _ hl⟩ : Fin l) = i :=
        funext fun a => match a with
          | ⟨0, _⟩ => Fin.ext (Nat.mod_eq_of_lt (i 0).isLt)
          | ⟨1, _⟩ => Fin.ext (Nat.mod_eq_of_lt (i 1).isLt)
          | ⟨2, _⟩ => Fin.ext (Nat.mod_eq_of_lt (i 2).isLt)
      show X i = ((X (ValueIdx.ix3 (⟨(i 0).val % n, Nat.mod_lt _ hn⟩ : Fin n) (⟨(i 1).val % m, Nat.mod_lt _ hm⟩ : Fin m)
          (⟨(i 2).val % l, Nat.mod_lt _ hl⟩ : Fin l))).toReal : EReal)
      rw [e]; exact h i⟩

theorem finite (x0 : FVec Ideal S4096x2048 .f32) (x1 : FVec Ideal S4096x2048 .bf16) (x2 x3 : FVec Ideal S4x2048x1408 .bf16)
    (x4 : FVec Ideal S5632x2048 .bf16) (x5 : FVec Ideal S4096x2048 .bf16)
    (h : Cert.Pre_finite2.fn (F := Ideal) x0 x1 x2 x3 x4 x5 = fun _ => 1#1) :
    ∃ (x h : ℕ → ℕ → ℝ) (wg wu : ℕ → ℕ → ℕ → ℝ) (wd dx : ℕ → ℕ → ℝ), IsR2 (n0 := 4096) (n1 := 2048) x0 x ∧ IsR2 (n0 := 4096) (n1 := 2048) x1 h
      ∧ IsR3 (n0 := 4) (n1 := 2048) (n2 := 1408) x2 wg ∧ IsR3 (n0 := 4) (n1 := 2048) (n2 := 1408) x3 wu
      ∧ IsR2 (n0 := 5632) (n1 := 2048) x4 wd ∧ IsR2 (n0 := 4096) (n1 := 2048) x5 dx := by
  have h' := congrFun h (Shape.Idx.first facts.h_S_)
  unfold Cert.Pre_finite2.fn Cert.Pre_finite2.fn_part1 at h'
  obtain ⟨h, h5⟩ := IntOp.andi_eq_one.mp h'
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  obtain ⟨x, hx⟩ := isR2_of (by norm_num) (by norm_num) x0 fun i => real_of_lt _ (Host.reduce_andi_all _ _ _ _ _ h0 i)
  obtain ⟨n, hn⟩ := isR2_of (by norm_num) (by norm_num) x1 fun i => real_of_lt _ (Host.reduce_andi_all _ _ _ _ _ h1 i)
  obtain ⟨g, hg⟩ := isR3_of (by norm_num) (by norm_num) (by norm_num) x2 fun i => real_of_lt _ (Host.reduce_andi_all _ _ _ _ _ h2 i)
  obtain ⟨u, hu⟩ := isR3_of (by norm_num) (by norm_num) (by norm_num) x3 fun i => real_of_lt _ (Host.reduce_andi_all _ _ _ _ _ h3 i)
  obtain ⟨w, hw⟩ := isR2_of (by norm_num) (by norm_num) x4 fun i => real_of_lt _ (Host.reduce_andi_all _ _ _ _ _ h4 i)
  obtain ⟨d, hd⟩ := isR2_of (by norm_num) (by norm_num) x5 fun i => real_of_lt _ (Host.reduce_andi_all _ _ _ _ _ h5 i)
  exact ⟨x, n, g, u, w, d, hx, hn, hg, hu, hw, hd⟩
end Cert.Pre_finite2.Val
-- ==== Proof.FfnDx.lean ====
/-
  The product of the gate's and the other factor's gradients with their weights, summed over the shards in the kernel's scratch: what
  the scratch holds after each grid point and the result array, over the extended reals.
-/
module

public import proofs.«01_k».proof.Proof.Gen.Kernel3Ideal.Value
public import proofs.«01_k».proof.Proof.Ops
public import Idealize.ShloMosaic.Lib.Pipeline.ValueKit

@[expose] public section

set_option maxRecDepth 16384

noncomputable section

namespace Cert.Ext

open Idealize.ShloMosaic

/-- The values of a matrix, by row and column, and of a stack of matrices. -/
abbrev V2 {n m : ℕ} (X : (⟨2, ![n, m]⟩ : Shape).Idx → EReal) (x : ℕ → ℕ → EReal) : Prop := ∀ i, X i = x (i 0).val (i 1).val
abbrev V3 {n m l : ℕ} (X : (⟨3, ![n, m, l]⟩ : Shape).Idx → EReal) (x : ℕ → ℕ → ℕ → EReal) : Prop :=
  ∀ i, X i = x (i 0).val (i 1).val (i 2).val

theorem v2_of {n m : ℕ} (hn : 0 < n) (hm : 0 < m) (X : (⟨2, ![n, m]⟩ : Shape).Idx → EReal) : ∃ x, V2 X x :=
  ⟨fun a b => X (ValueIdx.ix2 (⟨a % n, Nat.mod_lt _ hn⟩ : Fin n) (⟨b % m, Nat.mod_lt _ hm⟩ : Fin m)), fun i => congrArg X (funext fun a => match a with
    | ⟨0, _⟩ => Fin.ext (Nat.mod_eq_of_lt (i 0).isLt).symm
    | ⟨1, _⟩ => Fin.ext (Nat.mod_eq_of_lt (i 1).isLt).symm)⟩
theorem v3_of {n m l : ℕ} (hn : 0 < n) (hm : 0 < m) (hl : 0 < l) (X : (⟨3, ![n, m, l]⟩ : Shape).Idx → EReal) : ∃ x, V3 X x :=
  ⟨fun a b c => X (ValueIdx.ix3 (⟨a % n, Nat.mod_lt _ hn⟩ : Fin n) (⟨b % m, Nat.mod_lt _ hm⟩ : Fin m) (⟨c % l, Nat.mod_lt _ hl⟩ : Fin l)),
    fun i => congrArg X (funext fun a => match a with
      | ⟨0, _⟩ => Fin.ext (Nat.mod_eq_of_lt (i 0).isLt).symm
      | ⟨1, _⟩ => Fin.ext (Nat.mod_eq_of_lt (i 1).isLt).symm
      | ⟨2, _⟩ => Fin.ext (Nat.mod_eq_of_lt (i 2).isLt).symm)⟩

/-- The gradients' product with the shards side by side, and both gradients' products together. -/
def back (d : ℕ → ℕ → EReal) (w : ℕ → ℕ → ℕ → EReal) (r j : ℕ) : EReal := ∑ f : Fin 5632, d r f * w (f / 1408) j (f % 1408)
def dh (dg du : ℕ → ℕ → EReal) (wg wu : ℕ → ℕ → ℕ → EReal) (r j : ℕ) : EReal := back dg wg r j + back du wu r j

/-- One shard's part of it. -/
def part (d : ℕ → ℕ → EReal) (w : ℕ → ℕ → ℕ → EReal) (s r j : ℕ) : EReal := ∑ e : Fin 1408, d r (s * 1408 + e) * w s j e
/-- The part a step adds: the gate's shards first, then the other factor's. -/
def step (dg du : ℕ → ℕ → EReal) (wg wu : ℕ → ℕ → ℕ → EReal) (s r j : ℕ) : EReal :=
  if s ≤ 3 then part dg wg s r j else part du wu (s - 4) r j

theorem back_parts (d : ℕ → ℕ → EReal) (w : ℕ → ℕ → ℕ → EReal) (r j : ℕ) : back d w r j = ∑ s ∈ Finset.range 4, part d w s r j := by
  refine (Cert.Reals.sum_stretches 4 1408 fun f => d r f * w (f / 1408) j (f % 1408)).trans (Finset.sum_congr rfl fun s _ => ?_)
  refine Finset.sum_congr rfl fun e _ => ?_
  have he := e.isLt
  have e1 : (s * 1408 + e.val) / 1408 = s := by omega
  have e2 : (s * 1408 + e.val) % 1408 = e.val := by omega
  rw [e1, e2]
theorem steps (dg du : ℕ → ℕ → EReal) (wg wu : ℕ → ℕ → ℕ → EReal) (r j : ℕ) :
    ∑ s ∈ Finset.range 8, step dg du wg wu s r j = dh dg du wg wu r j := by
  unfold dh
  rw [back_parts, back_parts, Finset.sum_range_add (fun s => step dg du wg wu s r j) 4 4]
  refine congrArg₂ _ (Finset.sum_congr rfl fun s hs => ?_) (Finset.sum_congr rfl fun s hs => ?_)
  · have := Finset.mem_range.mp hs
    unfold step; rw [if_pos (by omega)]
  · unfold step; rw [if_neg (by omega), Nat.add_sub_cancel_left]

end Cert.Ext

namespace Cert.Kernel3Ideal.Val

open Idealize.ShloMosaic Idealize.ShloMosaic.TcCoe Idealize.SL.Sem Idealize.ShloMosaic.Pipeline
open Cert.Kernel3Ideal Cert.Kernel3Ideal.Gen Cert.Ext

/-! ## What each case leaves -/

section Cases
variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a3 : Memref sig .tc .vmem S1024x1408 .bf16) (h3 : a3.IsWhole)
  (a4 : Memref sig .tc .vmem S1024x1408 .bf16) (h4 : a4.IsWhole) (a5 : Memref sig .tc .vmem S1x1024x1408 .bf16) (h5 : a5.IsWhole)
  (a6 : Memref sig .tc .vmem S1x1024x1408 .bf16) (h6 : a6.IsWhole) (a7 : Memref sig .tc .vmem S1024x1024 .f32) (h7 : a7.IsWhole)
  (a8 : Memref sig .tc .vmem S1024x1024 .f32) (h8 : a8.IsWhole)
  (x0 x1 : Vec F S1024x1408 .bf16) (x2 x3 : Vec F S1x1024x1408 .bf16) (xs : Vec F S1024x1024 .f32)

theorem first (hc0 hc1 hc2 hc3) : sout0_A_0 c i a3 h3 a4 h4 a5 h5 a6 h6 a7 h7 a8 h8 hc0 hc1 hc2 hc3 x0 x1 x2 x3 = k0_pay2 k0_pay1 x0 x2 := by
  unfold sout0_A_0
  rw [View.read_writes_eq_canon _ _ _ (scover0_A_0 c i a3 h3 a4 h4 a5 h5 a6 h6 a7 h7 a8 h8 hc0 hc1 hc2 hc3 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h5.read_unread, View.ld_unit_zero (S := S1024x1408) hz, View.ld_unit_zero (S := S1x1024x1408) hz3]
theorem gate (hc0 hc1 hc2 hc3) : sout0_B_0 c i a3 h3 a4 h4 a5 h5 a6 h6 a7 h7 a8 h8 hc0 hc1 hc2 hc3 x0 x1 x2 x3 xs = k0_pay2 xs x0 x2 := by
  unfold sout0_B_0
  rw [View.read_writes_eq_canon _ _ _ (scover0_B_0 c i a3 h3 a4 h4 a5 h5 a6 h6 a7 h7 a8 h8 hc0 hc1 hc2 hc3 x0 x1 x2 x3 xs)]
  unfold kernelRun0_B
  dsimp only
  rw [View.canon_unit_zero hz]
  simp only [View.readAt_eq_ld, h3.read_unread, h5.read_unread, h8.read_unread, View.ld_unit_zero (S := S1024x1408) hz,
    View.ld_unit_zero (S := S1x1024x1408) hz3, View.ld_unit_zero (S := S1024x1024) hz]
theorem other (hc0 hc1 hc2 hc3) : sout0_C_0 c i a3 h3 a4 h4 a5 h5 a6 h6 a7 h7 a8 h8 hc0 hc1 hc2 hc3 x0 x1 x2 x3 xs = k0_pay3 xs x1 x3 := by
  unfold sout0_C_0
  rw [View.read_writes_eq_canon _ _ _ (scover0_C_0 c i a3 h3 a4 h4 a5 h5 a6 h6 a7 h7 a8 h8 hc0 hc1 hc2 hc3 x0 x1 x2 x3 xs)]
  unfold kernelRun0_C
  dsimp only
  rw [View.canon_unit_zero hz]
  simp only [View.readAt_eq_ld, h4.read_unread, h6.read_unread, h8.read_unread, View.ld_unit_zero (S := S1024x1408) hz,
    View.ld_unit_zero (S := S1x1024x1408) hz3, View.ld_unit_zero (S := S1024x1024) hz]
theorem last (hc0 hc1 hc2 hc3) : sout0_D_0 c i a3 h3 a4 h4 a5 h5 a6 h6 a7 h7 a8 h8 hc0 hc1 hc2 hc3 x0 x1 x2 x3 xs = k0_pay3 xs x1 x3 := by
  unfold sout0_D_0
  rw [View.read_writes_eq_canon _ _ _ (scover0_D_0 c i a3 h3 a4 h4 a5 h5 a6 h6 a7 h7 a8 h8 hc0 hc1 hc2 hc3 x0 x1 x2 x3 xs)]
  unfold kernelRun0_D
  dsimp only
  sl_unfold_words
  rw [View.canon_unit_zero hz]
  simp only [View.readAt_eq_ld, h4.read_unread, h6.read_unread, h8.read_unread, View.ld_unit_zero (S := S1024x1408) hz,
    View.ld_unit_zero (S := S1x1024x1408) hz3, View.ld_unit_zero (S := S1024x1024) hz]
theorem written (hc0 hc1 hc2 hc3) : out0_D_4 c i a3 h3 a4 h4 a5 h5 a6 h6 a7 h7 a8 h8 hc0 hc1 hc2 hc3 x0 x1 x2 x3 xs = k0_pay4 (k0_pay3 xs x1 x3) := by
  unfold out0_D_4
  rw [View.read_writes_eq_canon _ _ _ (cover0_D_4 c i a3 h3 a4 h4 a5 h5 a6 h6 a7 h7 a8 h8 hc0 hc1 hc2 hc3 x0 x1 x2 x3 xs)]
  unfold kernelRun0_D
  dsimp only
  sl_unfold_words
  rw [View.canon_unit_zero hz, View.readCov_unit_zero (S := S1024x1024) _ hz]
  simp only [View.readAt_eq_ld, h4.read_unread, h6.read_unread, h8.read_unread, View.ld_unit_zero (S := S1024x1408) hz,
    View.ld_unit_zero (S := S1x1024x1408) hz3, View.ld_unit_zero (S := S1024x1024) hz]
end Cases

/-! ## The payloads and the blocks of a grid point -/

theorem add_block {X : Vec Ideal S1024x1024 .f32} {D : Vec Ideal S1024x1408 .bf16} {W : Vec Ideal S1x1024x1408 .bf16} {x d : ℕ → ℕ → EReal}
    {w : ℕ → ℕ → ℕ → EReal} (hX : V2 X x) (hD : V2 D d) (hW : V3 W w) :
    V2 (k0_pay2 (F := Ideal) X D W) fun r j => x r j + ∑ e : Fin 1408, d r e * w 0 j e := fun i => by
  unfold k0_pay2
  dsimp only
  rw [shapeCast_self]
  refine congrArg₂ (· + ·) (hX i) ?_
  rw [ValueIdx.eq_ix2 i]
  refine (Ideal.matmul_transposedRhs_apply none D _ _ (i 0) (i 1)).trans ?_
  refine (congrArg (· + _) Ideal.ofBits_zero_f32).trans ((zero_add _).trans ?_)
  refine Finset.sum_congr rfl fun k _ => congrArg₂ (· * ·) (hD _) ?_
  exact (shapeCast_dropUnit_apply ![1024, 1408] W shapeCasts_S1x1024x1408_S1024x1408 _).trans (hW _)

theorem ix0 : (∀ t : Fin cfg0.N, win0_0.index t = ![t.val / 16, min (t.val % 8) 3]) ∧ (∀ t : Fin cfg0.N, win0_1.index t = ![t.val / 16, t.val % 8 - 4])
    ∧ (∀ t : Fin cfg0.N, win0_2.index t = ![min (t.val % 8) 3, t.val / 8 % 2, 0])
    ∧ (∀ t : Fin cfg0.N, win0_3.index t = ![t.val % 8 - 4, t.val / 8 % 2, 0]) := by decide +kernel

section Run
variable (m : (ℓ : Loc nD τ sig) → Buf (Elt Ideal) ℓ) (c : Dev nD) {dg du : ℕ → ℕ → EReal} {wg wu : ℕ → ℕ → ℕ → EReal}

/-- The four arguments' values. -/
structure Args (dg du : ℕ → ℕ → EReal) (wg wu : ℕ → ℕ → ℕ → EReal) : Prop where
  h0 : V2 (n := 4096) (m := 5632) (V m c main_arg0) dg
  h1 : V2 (n := 4096) (m := 5632) (V m c main_arg1) du
  h2 : V3 (n := 4) (m := 2048) (l := 1408) (V m c main_arg2) wg
  h3 : V3 (n := 4) (m := 2048) (l := 1408) (V m c main_arg3) wu

variable {m c} (A : Args m c dg du wg wu) (t : Fin cfg0.N)
include A

theorem Args.b0 (h : t.val % 8 ≤ 3) : V2 (n := 1024) (m := 1408) (iblk m c 0 t) fun r e => dg (t.val / 16 * 1024 + r) (t.val % 8 * 1408 + e) := fun y => by
  blk_simp [iblk]
  refine (A.h0 _).trans ?_
  blk_simp [ix0.1 t]
  simp [Nat.min_eq_left h]
theorem Args.b1 : V2 (n := 1024) (m := 1408) (iblk m c 1 t) fun r e => du (t.val / 16 * 1024 + r) ((t.val % 8 - 4) * 1408 + e) := fun y => by
  blk_simp [iblk]
  refine (A.h1 _).trans ?_
  blk_simp [ix0.2.1 t]
theorem Args.b2 (h : t.val % 8 ≤ 3) : V3 (n := 1) (m := 1024) (l := 1408) (iblk m c 2 t) fun s j e => wg (t.val % 8 + s) (t.val / 8 % 2 * 1024 + j) e := fun y => by
  blk_simp [iblk]
  refine (A.h2 _).trans ?_
  blk_simp [ix0.2.2.1 t]
  simp [Nat.min_eq_left h]
theorem Args.b3 : V3 (n := 1) (m := 1024) (l := 1408) (iblk m c 3 t) fun s j e => wu (t.val % 8 - 4 + s) (t.val / 8 % 2 * 1024 + j) e := fun y => by
  blk_simp [iblk]
  refine (A.h3 _).trans ?_
  blk_simp [ix0.2.2.2 t]

omit A in
theorem v2_eq {n k : ℕ} {X : (⟨2, ![n, k]⟩ : Shape).Idx → EReal} {x y : ℕ → ℕ → EReal} (h : V2 X x) (e : ∀ r j, x r j = y r j) : V2 X y :=
  fun i => (h i).trans (e _ _)

/-- A gate step and a step of the other factor, from what the scratch holds before. -/
theorem Args.gate_step (h : t.val % 8 ≤ 3) {X : Vec Ideal S1024x1024 .f32} {x : ℕ → ℕ → EReal} (hX : V2 X x) :
    V2 (k0_pay2 (F := Ideal) X (iblk m c 0 t) (iblk m c 2 t)) fun r j =>
      x r j + step dg du wg wu (t.val % 8) (t.val / 16 * 1024 + r) (t.val / 8 % 2 * 1024 + j) :=
  v2_eq (add_block hX (A.b0 t h) (A.b2 t h)) fun r j => by
    unfold step part
    rw [if_pos h]; rfl
theorem Args.other_step (h : ¬t.val % 8 ≤ 3) {X : Vec Ideal S1024x1024 .f32} {x : ℕ → ℕ → EReal} (hX : V2 X x) :
    V2 (k0_pay3 (F := Ideal) X (iblk m c 1 t) (iblk m c 3 t)) fun r j =>
      x r j + step dg du wg wu (t.val % 8) (t.val / 16 * 1024 + r) (t.val / 8 % 2 * 1024 + j) :=
  v2_eq (add_block hX (A.b1 t) (A.b3 t)) fun r j => by
    unfold step part
    rw [if_neg h]; rfl

omit A in
theorem zeros : V2 (n := 1024) (m := 1024) (k0_pay1 (F := Ideal)) fun _ _ => 0 := fun i => by
  unfold k0_pay1
  dsimp only
  rw [shapeCast_self]
  exact Ideal.ofBits_zero_f32

/-- What the scratch holds after point `n`: its row of the grid's steps so far. -/
theorem Args.scratch : ∀ (n : ℕ) (h : n < cfg0.N), V2 (n := 1024) (m := 1024) (outsAt0 m c n h).2 fun r j =>
    ∑ s ∈ Finset.range (n % 8 + 1), step dg du wg wu s (n / 16 * 1024 + r) (n / 8 % 2 * 1024 + j) := by
  intro n
  induction n with
  | zero =>
    intro h
    rw [outsAt0_A m c ⟨0, h⟩ (by dsimp only) (by dsimp only; omega) (by dsimp only; omega) (by dsimp only; omega)]
    dsimp only
    rw [first]
    exact v2_eq (A.gate_step ⟨0, h⟩ (by dsimp only; omega) zeros) fun r j => by simp
  | succ n ih =>
    intro h
    have hN : n + 1 < 64 := by rw [← N_0]; exact h
    by_cases h0 : (n + 1) % 8 = 0
    · rw [outsAt0_A m c ⟨n + 1, h⟩ h0 (by dsimp only; omega) (by dsimp only; omega) (by dsimp only; omega)]
      dsimp only
      rw [first]
      exact v2_eq (A.gate_step ⟨n + 1, h⟩ (by dsimp only; omega) zeros) fun r j => by simp [h0]
    · have e1 : (n + 1) / 16 = n / 16 := by omega
      have e2 : (n + 1) / 8 % 2 = n / 8 % 2 := by omega
      have e3 : (n + 1) % 8 = n % 8 + 1 := by omega
      by_cases h1 : (n + 1) % 8 ≤ 3
      · rw [outsAt0_B m c ⟨n + 1, h⟩ h0 h1 (by dsimp only; omega) (by dsimp only; omega)]
        dsimp only
        rw [gate]
        exact v2_eq (A.gate_step ⟨n + 1, h⟩ h1 (ih (Nat.lt_of_succ_lt h))) fun r j => by
          dsimp only; rw [e1, e2, e3, Finset.sum_range_succ _ (n % 8 + 1)]
      · by_cases h3 : (n + 1) % 8 = 7
        · rw [outsAt0_D m c ⟨n + 1, h⟩ h0 h1 (by dsimp only; omega) h3]
          dsimp only
          rw [last]
          exact v2_eq (A.other_step ⟨n + 1, h⟩ h1 (ih (Nat.lt_of_succ_lt h))) fun r j => by
            dsimp only; rw [e1, e2, e3, Finset.sum_range_succ _ (n % 8 + 1)]
        · rw [outsAt0_C m c ⟨n + 1, h⟩ h0 h1 (by dsimp only; omega) h3]
          dsimp only
          rw [other]
          exact v2_eq (A.other_step ⟨n + 1, h⟩ h1 (ih (Nat.lt_of_succ_lt h))) fun r j => by
            dsimp only; rw [e1, e2, e3, Finset.sum_range_succ _ (n % 8 + 1)]

/-- What the last point of a row of the grid writes: the row's whole sum. -/
theorem Args.row (n : ℕ) (h : n < cfg0.N) (h7 : n % 8 = 7) : V2 (n := 1024) (m := 1024) (outsAt0 m c n h).1 fun r j =>
    dh dg du wg wu (n / 16 * 1024 + r) (n / 8 % 2 * 1024 + j) := by
  have hs := A.scratch n h
  have h0 : ¬n % 8 = 0 := by omega
  have h1 : ¬n % 8 ≤ 3 := by omega
  rw [outsAt0_D m c ⟨n, h⟩ h0 h1 (by dsimp only; omega) h7] at hs ⊢
  dsimp only at hs ⊢
  rw [last] at hs
  rw [written]
  unfold k0_pay4
  rw [shapeCast_self]
  exact v2_eq hs fun r j => by rw [h7]; exact steps dg du wg wu _ _

/-- The result array. -/
theorem Args.result : V2 (n := 4096) (m := 2048) (Value.G4 m c) (dh dg du wg wu) := fun i => by
  have b0 : (i 0).val < 4096 := (i 0).isLt
  have b1 : (i 1).val < 2048 := (i 1).isLt
  have hr : Value.run4Of i = 2 * ((i 0).val / 1024) + (i 1).val / 1024 := by unfold Value.run4Of; omega
  have hp : Value.pt4Of i = 8 * (2 * ((i 0).val / 1024) + (i 1).val / 1024) + 7 := by unfold Value.pt4Of; rw [hr]
  have hN : Value.pt4Of i < cfg0.N := by rw [hp, show cfg0.N = 64 from N_0]; omega
  have h7 : Value.pt4Of i % 8 = 7 := by omega
  unfold Value.G4
  rw [dif_pos hN, ← Value.outsAt0_sweep m c _ hN]
  refine (A.row _ hN h7 _).trans ?_
  rw [hp]
  unfold Value.loc4Of
  dsimp only
  congr 1 <;> simp <;> omega

end Run

end Cert.Kernel3Ideal.Val
-- ==== Proof.FfnDxRef.lean ====
/-
  The reference of the gradient of the feed-forward part's input, over the extended reals.
-/
module

public import proofs.«01_k».proof.Proof.Gen.Reference3Ideal.Read
public import proofs.«01_k».proof.Proof.FfnDx

@[expose] public section

set_option maxRecDepth 16384

noncomputable section

namespace Cert.Reference3Ideal.Val

open Idealize.ShloMosaic
open Cert.Reference3Ideal Cert.Reference3Ideal.Gen Cert.Reference3Ideal.Read Cert.Ext

theorem split_col (a b : ℕ) (hb : b < 5632) : (a * 5632 + b) / 5632 = a ∧ (a * 5632 + b) / 1408 % 4 = b / 1408 ∧ (a * 5632 + b) % 1408 = b % 1408 := by
  omega

variable {x0 x1 : (⟨S4096x5632, .bf16⟩ : BufTy).Contents (Elt Ideal)} {x2 x3 : (⟨S4x2048x1408, .bf16⟩ : BufTy).Contents (Elt Ideal)}
  {dg du : ℕ → ℕ → EReal} {wg wu : ℕ → ℕ → ℕ → EReal}

theorem gate_w (hg : V3 (n := 4) (m := 2048) (l := 1408) x2 wg) :
    V2 (n := 2048) (m := 5632) (val_main_v6 (F := Ideal) x2) fun k f => wg (f / 1408) k (f % 1408) := fun i => by
  rw [val_main_v6_apply, val_main_v5_apply, val_main_v2_apply]
  have e := split_col (i 0).val (i 1).val (i 1).isLt
  refine (hg _).trans ?_
  show wg (((i 0).val * 5632 + (i 1).val) / 1408 % 4) (((i 0).val * 5632 + (i 1).val) / 5632) (((i 0).val * 5632 + (i 1).val) % 1408) = _
  rw [e.1, e.2.1, e.2.2]
theorem up_w (hu : V3 (n := 4) (m := 2048) (l := 1408) x3 wu) :
    V2 (n := 2048) (m := 5632) (val_main_v9 (F := Ideal) x3) fun k f => wu (f / 1408) k (f % 1408) := fun i => by
  rw [val_main_v9_apply, val_main_v8_apply, val_main_v3_apply]
  have e := split_col (i 0).val (i 1).val (i 1).isLt
  refine (hu _).trans ?_
  show wu (((i 0).val * 5632 + (i 1).val) / 1408 % 4) (((i 0).val * 5632 + (i 1).val) / 5632) (((i 0).val * 5632 + (i 1).val) % 1408) = _
  rw [e.1, e.2.1, e.2.2]

theorem result (h0 : V2 (n := 4096) (m := 5632) x0 dg) (h1 : V2 (n := 4096) (m := 5632) x1 du)
    (h2 : V3 (n := 4) (m := 2048) (l := 1408) x2 wg) (h3 : V3 (n := 4) (m := 2048) (l := 1408) x3 wu) :
    V2 (n := 4096) (m := 2048) (val_main_v13 (F := Ideal) x0 x1 x2 x3) (dh dg du wg wu) := fun i => by
  rw [val_main_v13_apply, val_main_v11_apply, val_main_v12_apply]
  refine (add_comm _ _).trans (congrArg₂ (· + ·) (Finset.sum_congr rfl fun f _ => ?_) (Finset.sum_congr rfl fun f _ => ?_))
  · rw [val_main_v0_apply]; exact congrArg₂ (· * ·) (h0 _) (gate_w h2 _)
  · rw [val_main_v1_apply]; exact congrArg₂ (· * ·) (h1 _) (up_w h3 _)

end Cert.Reference3Ideal.Val
-- ==== Proof.Proj.lean ====
/-
  The projections: what each of the eight calls computes of its blocks, and the whole arrays they leave, over the extended reals.
-/
module

public import proofs.«01_k».proof.Proof.Gen.Kernel4Ideal.Frame
public import proofs.«01_k».proof.Proof.Ops
public import proofs.«01_k».proof.Proof.FfnDx
public import Idealize.ShloMosaic.Lib.Pipeline.ValueKit
public import Idealize.ShloMosaic.Lib.Pipeline.ValueKit.Point

@[expose] public section

set_option maxRecDepth 16384

noncomputable section

namespace Cert.Ext

open Idealize.ShloMosaic

/-- The three ways of multiplying two matrices over a shared axis of length `K`. -/
def nn (K : ℕ) (a b : ℕ → ℕ → EReal) (r j : ℕ) : EReal := ∑ k : Fin K, a r k * b k j
def nt (K : ℕ) (a b : ℕ → ℕ → EReal) (r j : ℕ) : EReal := ∑ k : Fin K, a r k * b j k
def tn (K : ℕ) (a b : ℕ → ℕ → EReal) (r j : ℕ) : EReal := ∑ k : Fin K, a k r * b k j

variable {n m l : ℕ} {φ₁ φ₂ : FTy}

/-- A whole matrix read. -/
theorem V2.ld {X : (⟨2, ![n, m]⟩ : Shape).Idx → EReal} {x : ℕ → ℕ → EReal} (hX : V2 X x)
    (inb : ∀ a, (![0, 0] : Fin 2 → ℕ) a + (![n, m] : Fin 2 → ℕ) a ≤ (⟨2, ![n, m]⟩ : Shape).size a) :
    V2 (n := n) (m := m) (fun i => X ((Rect.unit (s := ⟨2, ![n, m]⟩) ![0, 0] ![n, m] inb).idx i)) x := fun i =>
  (hX _).trans (by congr 1 <;> simp [Rect.idx_unit_val])

theorem V2.nn {A : FVec Ideal ⟨2, ![n, l]⟩ φ₁} {B : FVec Ideal ⟨2, ![l, m]⟩ φ₂} {a b : ℕ → ℕ → EReal} (hA : V2 A a) (hB : V2 B b) :
    V2 (FloatOps.matmul (DotDims.plain n l m) none A B (constant ⟨2, ![n, m]⟩ .f32 0x00000000#32)) (nn l a b) := fun i => by
  rw [ValueIdx.eq_ix2 i]
  refine (Ideal.matmul_plain_apply none A B _ (i 0) (i 1)).trans ?_
  refine (congrArg (· + _) Ideal.ofBits_zero_f32).trans ((zero_add _).trans ?_)
  exact Finset.sum_congr rfl fun k _ => congrArg₂ (· * ·) (hA _) (hB _)

theorem V2.nt {A : FVec Ideal ⟨2, ![n, l]⟩ φ₁} {B : FVec Ideal ⟨2, ![m, l]⟩ φ₂} {a b : ℕ → ℕ → EReal} (hA : V2 A a) (hB : V2 B b) :
    V2 (FloatOps.matmul (DotDims.transposedRhs n l m) none A B (constant ⟨2, ![n, m]⟩ .f32 0x00000000#32)) (nt l a b) := fun i => by
  rw [ValueIdx.eq_ix2 i]
  refine (Ideal.matmul_transposedRhs_apply none A B _ (i 0) (i 1)).trans ?_
  refine (congrArg (· + _) Ideal.ofBits_zero_f32).trans ((zero_add _).trans ?_)
  exact Finset.sum_congr rfl fun k _ => congrArg₂ (· * ·) (hA _) (hB _)

/-- The product over both operands' rows, of a contraction that reads them so. -/
theorem V2.tn {A : FVec Ideal ⟨2, ![l, n]⟩ φ₁} {B : FVec Ideal ⟨2, ![l, m]⟩ φ₂} {a b : ℕ → ℕ → EReal} (hA : V2 A a) (hB : V2 B b)
    (D : DotDims ⟨2, ![l, n]⟩ ⟨2, ![l, m]⟩ ⟨2, ![n, m]⟩) (hr : D.contr.rank = 1) (hs : D.contr.size ⟨0, by omega⟩ = l)
    (e1 : ∀ i (k : Fin l), (D.lhsIdx i ((ValueIdx.contrEquiv1 D l hr hs).symm k) 0).val = k.val
      ∧ (D.lhsIdx i ((ValueIdx.contrEquiv1 D l hr hs).symm k) 1).val = (i 0).val)
    (e2 : ∀ i (k : Fin l), (D.rhsIdx i ((ValueIdx.contrEquiv1 D l hr hs).symm k) 0).val = k.val
      ∧ (D.rhsIdx i ((ValueIdx.contrEquiv1 D l hr hs).symm k) 1).val = (i 1).val) :
    V2 (FloatOps.matmul D none A B (constant ⟨2, ![n, m]⟩ .f32 0x00000000#32)) (tn l a b) := fun i => by
  refine (Ideal.matmul_constant_zero_apply D none A B i).trans ?_
  rw [← Equiv.sum_comp (ValueIdx.contrEquiv1 D l hr hs).symm]
  refine Finset.sum_congr rfl fun k _ => congrArg₂ (· * ·) ?_ ?_
  · refine (hA _).trans ?_; rw [(e1 i k).1, (e1 i k).2]
  · refine (hB _).trans ?_; rw [(e2 i k).1, (e2 i k).2]

end Cert.Ext

namespace Cert.Kernel4Ideal.Val

open Idealize.ShloMosaic Idealize.ShloMosaic.TcCoe Idealize.SL.Sem Idealize.ShloMosaic.Pipeline
open Cert.Kernel4Ideal Cert.Kernel4Ideal.Gen Cert.Ext

/-! ## The blocks -/

section Blocks
variable {a b x : ℕ → ℕ → EReal}

theorem p_block {A : Vec Ideal S1024x2048 .bf16} {B : Vec Ideal S1280x2048 .bf16} (hA : V2 A a) (hB : V2 B b) :
    V2 (out0_2 (F := Ideal) A B) (nt 2048 a b) := fun y => by
  unfold out0_2
  canon_tiles z ha using cover0_2 ..
  unfold k0_pay1
  simp only [shapeCast_self]
  exact ((V2.nt (φ₁ := .bf16) (φ₂ := .bf16) (hA.ld inb_S1024x2048_S1024x2048_0_0) (hB.ld inb_S1280x2048_S1280x2048_0_0)) z).trans (by rw [ha0, ha1])

theorem x1_block {A : Vec Ideal S1024x2048 .bf16} {B : Vec Ideal S2048x1024 .bf16} {X : Vec Ideal S1024x1024 .f32} (hA : V2 A a) (hB : V2 B b) (hX : V2 X x) :
    V2 (out1_3 (F := Ideal) A B X) fun r j => nn 2048 a b r j + x r j := fun y => by
  unfold out1_3
  canon_tiles z ha using cover1_3 ..
  unfold k1_pay1
  simp only [shapeCast_self]
  exact (congrArg₂ (· + ·) ((V2.nn (φ₁ := .bf16) (φ₂ := .bf16) (hA.ld inb_S1024x2048_S1024x2048_0_0) (hB.ld inb_S2048x1024_S2048x1024_0_0)) z) ((hX.ld inb_S1024x1024_S1024x1024_0_0) z)).trans (by rw [ha0, ha1])

theorem dya_block {A : Vec Ideal S1024x2048 .bf16} {B : Vec Ideal S512x2048 .bf16} (hA : V2 A a) (hB : V2 B b) :
    V2 (out2_2 (F := Ideal) A B) (nt 2048 a b) := fun y => by
  unfold out2_2
  canon_tiles z ha using cover2_2 ..
  unfold k2_pay1
  simp only [shapeCast_self]
  exact ((V2.nt (φ₁ := .bf16) (φ₂ := .bf16) (hA.ld inb_S1024x2048_S1024x2048_0_0) (hB.ld inb_S512x2048_S512x2048_0_0)) z).trans (by rw [ha0, ha1])

theorem dyb_block {A : Vec Ideal S1024x2048 .bf16} {B : Vec Ideal S768x2048 .bf16} (hA : V2 A a) (hB : V2 B b) :
    V2 (out3_2 (F := Ideal) A B) (nt 2048 a b) := fun y => by
  unfold out3_2
  canon_tiles z ha using cover3_2 ..
  unfold k3_pay1
  simp only [shapeCast_self]
  exact ((V2.nt (φ₁ := .bf16) (φ₂ := .bf16) (hA.ld inb_S1024x2048_S1024x2048_0_0) (hB.ld inb_S768x2048_S768x2048_0_0)) z).trans (by rw [ha0, ha1])

theorem dyc_block {A : Vec Ideal S1024x2048 .bf16} {B : Vec Ideal S768x2048 .bf16} (hA : V2 A a) (hB : V2 B b) :
    V2 (out4_2 (F := Ideal) A B) (nt 2048 a b) := fun y => by
  unfold out4_2
  canon_tiles z ha using cover4_2 ..
  unfold k4_pay1
  simp only [shapeCast_self]
  exact ((V2.nt (φ₁ := .bf16) (φ₂ := .bf16) (hA.ld inb_S1024x2048_S1024x2048_0_0) (hB.ld inb_S768x2048_S768x2048_0_0)) z).trans (by rw [ha0, ha1])

theorem dwo_block {A : Vec Ideal S4096x512 .bf16} {B : Vec Ideal S4096x2048 .bf16} (hA : V2 A a) (hB : V2 B b) :
    V2 (out5_2 (F := Ideal) A B) (tn 4096 a b) := fun y => by
  unfold out5_2
  canon_tiles z ha using cover5_2 ..
  unfold k5_pay1
  simp only [shapeCast_self, truncf_apply]
  exact ((V2.tn (φ₁ := .bf16) (φ₂ := .bf16) (hA.ld inb_S4096x512_S4096x512_0_0) (hB.ld inb_S4096x2048_S4096x2048_0_0) dot_S4096x512_S4096x2048_S512x2048_0_0_1_1_n_n rfl rfl
    (fun i k => ⟨ValueIdx.contrEquiv1_symm_val dot_S4096x512_S4096x2048_S512x2048_0_0_1_1_n_n 4096 rfl rfl k, rfl⟩)
    (fun i k => ⟨ValueIdx.contrEquiv1_symm_val dot_S4096x512_S4096x2048_S512x2048_0_0_1_1_n_n 4096 rfl rfl k, rfl⟩)) z).trans (by rw [ha0, ha1])

theorem dwa_block {A : Vec Ideal S4096x640 .bf16} {B : Vec Ideal S4096x2048 .bf16} (hA : V2 A a) (hB : V2 B b) :
    V2 (out6_2 (F := Ideal) A B) (tn 4096 a b) := fun y => by
  unfold out6_2
  canon_tiles z ha using cover6_2 ..
  unfold k6_pay1
  simp only [shapeCast_self, truncf_apply]
  exact ((V2.tn (φ₁ := .bf16) (φ₂ := .bf16) (hA.ld inb_S4096x640_S4096x640_0_0) (hB.ld inb_S4096x2048_S4096x2048_0_0) dot_S4096x640_S4096x2048_S640x2048_0_0_1_1_n_n rfl rfl
    (fun i k => ⟨ValueIdx.contrEquiv1_symm_val dot_S4096x640_S4096x2048_S640x2048_0_0_1_1_n_n 4096 rfl rfl k, rfl⟩)
    (fun i k => ⟨ValueIdx.contrEquiv1_symm_val dot_S4096x640_S4096x2048_S640x2048_0_0_1_1_n_n 4096 rfl rfl k, rfl⟩)) z).trans (by rw [ha0, ha1])

theorem dh_block {A : Vec Ideal S1024x5120 .bf16} {B : Vec Ideal S5120x512 .bf16} (hA : V2 A a) (hB : V2 B b) :
    V2 (out7_2 (F := Ideal) A B) (nn 5120 a b) := fun y => by
  unfold out7_2
  canon_tiles z ha using cover7_2 ..
  unfold k7_pay1
  simp only [shapeCast_self]
  exact ((V2.nn (φ₁ := .bf16) (φ₂ := .bf16) (hA.ld inb_S1024x5120_S1024x5120_0_0) (hB.ld inb_S5120x512_S5120x512_0_0)) z).trans (by rw [ha0, ha1])

end Blocks

/-! ## The grids' indices -/

theorem ix0 : (∀ t : Fin cfg0.N, win0_0.index t = ![t.val / 4, 0]) ∧ (∀ t : Fin cfg0.N, win0_1.index t = ![t.val % 4, 0]) ∧ (∀ t : Fin cfg0.N, win0_2.index t = ![t.val / 4, t.val % 4]) := by
  decide +kernel
theorem ix1 : (∀ t : Fin cfg1.N, win1_0.index t = ![t.val / 2, 0]) ∧ (∀ t : Fin cfg1.N, win1_1.index t = ![0, t.val % 2]) ∧ (∀ t : Fin cfg1.N, win1_2.index t = ![t.val / 2, t.val % 2]) ∧ (∀ t : Fin cfg1.N, win1_3.index t = ![t.val / 2, t.val % 2]) := by
  decide +kernel
theorem ix2 : (∀ t : Fin cfg2.N, win2_0.index t = ![t.val, 0]) ∧ (∀ t : Fin cfg2.N, win2_1.index t = ![0, 0]) ∧ (∀ t : Fin cfg2.N, win2_2.index t = ![t.val, 0]) := by
  decide +kernel
theorem ix3 : (∀ t : Fin cfg3.N, win3_0.index t = ![t.val, 0]) ∧ (∀ t : Fin cfg3.N, win3_1.index t = ![0, 0]) ∧ (∀ t : Fin cfg3.N, win3_2.index t = ![t.val, 0]) := by
  decide +kernel
theorem ix4 : (∀ t : Fin cfg4.N, win4_0.index t = ![t.val, 0]) ∧ (∀ t : Fin cfg4.N, win4_1.index t = ![0, 0]) ∧ (∀ t : Fin cfg4.N, win4_2.index t = ![t.val, 0]) := by
  decide +kernel
theorem ix5 : (∀ t : Fin cfg5.N, win5_0.index t = ![0, t.val]) ∧ (∀ t : Fin cfg5.N, win5_1.index t = ![0, 0]) ∧ (∀ t : Fin cfg5.N, win5_2.index t = ![t.val, 0]) := by
  decide +kernel
theorem ix6 : (∀ t : Fin cfg6.N, win6_0.index t = ![0, t.val]) ∧ (∀ t : Fin cfg6.N, win6_1.index t = ![0, 0]) ∧ (∀ t : Fin cfg6.N, win6_2.index t = ![t.val, 0]) := by
  decide +kernel
theorem ix7 : (∀ t : Fin cfg7.N, win7_0.index t = ![t.val / 4, 0]) ∧ (∀ t : Fin cfg7.N, win7_1.index t = ![0, t.val % 4]) ∧ (∀ t : Fin cfg7.N, win7_2.index t = ![t.val / 4, t.val % 4]) := by
  decide +kernel

/-! ## The arrays -/

variable {V : (c : Dev nD) → (b : Ref sig .tc) → Buf (Elt Ideal) ((c : Thread nD τ).loc b)} (c : Dev nD) {a b x : ℕ → ℕ → EReal}

theorem p_array (ha : V2 (n := 4096) (m := 2048) (V c main_arg1) a) (hb : V2 (n := 5120) (m := 2048) (V c main_arg2) b) :
    V2 (n := 4096) (m := 5120) ((dat0 V c).arrAt 2 cfg0.N) (nt 2048 a b) := by
  intro i
  refine (dat0 V c).arrAt_forall_of_covers 2 (fun i v => v = nt 2048 a b (i 0).val (i 1).val) (by decide +kernel) (fun t _ y => ?_) i
  have b0 : V2 (n := 1024) (m := 2048) (iblk0 V c 0 t) fun r k => a (t.val / 4 * 1024 + r) k := fun y => by
    blk_simp [iblk0]
    refine (ha _).trans ?_
    blk_simp [ix0.1 t]
  have b1 : V2 (n := 1280) (m := 2048) (iblk0 V c 1 t) fun r k => b (t.val % 4 * 1280 + r) k := fun y => by
    blk_simp [iblk0]
    refine (hb _).trans ?_
    blk_simp [ix0.2.1 t]
  blk_simp [ix0.2.2 t]
  rw [after0_2]
  exact p_block b0 b1 _

theorem x1_array (ha : V2 (n := 4096) (m := 2048) (V c main_arg3) a) (hb : V2 (n := 2048) (m := 2048) (V c main_arg4) b)
    (hx : V2 (n := 4096) (m := 2048) (V c main_arg0) x) :
    V2 (n := 4096) (m := 2048) ((dat1 V c).arrAt 3 cfg1.N) fun r j => nn 2048 a b r j + x r j := by
  intro i
  refine (dat1 V c).arrAt_forall_of_covers 3 (fun i v => v = nn 2048 a b (i 0).val (i 1).val + x (i 0).val (i 1).val) (by decide +kernel) (fun t _ y => ?_) i
  have b0 : V2 (n := 1024) (m := 2048) (iblk1 V c 0 t) fun r k => a (t.val / 2 * 1024 + r) k := fun y => by
    blk_simp [iblk1]
    refine (ha _).trans ?_
    blk_simp [ix1.1 t]
  have b1 : V2 (n := 2048) (m := 1024) (iblk1 V c 1 t) fun r k => b r (t.val % 2 * 1024 + k) := fun y => by
    blk_simp [iblk1]
    refine (hb _).trans ?_
    blk_simp [ix1.2.1 t]
  have b2 : V2 (n := 1024) (m := 1024) (iblk1 V c 2 t) fun r k => x (t.val / 2 * 1024 + r) (t.val % 2 * 1024 + k) := fun y => by
    blk_simp [iblk1]
    refine (hx _).trans ?_
    blk_simp [ix1.2.2.1 t]
  blk_simp [ix1.2.2.2 t]
  rw [after1_3]
  exact x1_block b0 b1 b2 _

theorem dya_array (ha : V2 (n := 4096) (m := 2048) (V c main_arg5) a) (hb : V2 (n := 512) (m := 2048) (V c main_v2) b) :
    V2 (n := 4096) (m := 512) ((dat2 V c).arrAt 2 cfg2.N) (nt 2048 a b) := by
  intro i
  refine (dat2 V c).arrAt_forall_of_covers 2 (fun i v => v = nt 2048 a b (i 0).val (i 1).val) (by decide +kernel) (fun t _ y => ?_) i
  have b0 : V2 (n := 1024) (m := 2048) (iblk2 V c 0 t) fun r k => a (t.val * 1024 + r) k := fun y => by
    blk_simp [iblk2]
    refine (ha _).trans ?_
    blk_simp [ix2.1 t]
  have b1 : V2 (n := 512) (m := 2048) (iblk2 V c 1 t) fun r k => b r k := fun y => by
    blk_simp [iblk2]
    refine (hb _).trans ?_
    blk_simp [ix2.2.1 t]
  blk_simp [ix2.2.2 t]
  rw [after2_2]
  exact dya_block b0 b1 _

theorem dyb_array (ha : V2 (n := 4096) (m := 2048) (V c main_arg5) a) (hb : V2 (n := 768) (m := 2048) (V c main_v4) b) :
    V2 (n := 4096) (m := 768) ((dat3 V c).arrAt 2 cfg3.N) (nt 2048 a b) := by
  intro i
  refine (dat3 V c).arrAt_forall_of_covers 2 (fun i v => v = nt 2048 a b (i 0).val (i 1).val) (by decide +kernel) (fun t _ y => ?_) i
  have b0 : V2 (n := 1024) (m := 2048) (iblk3 V c 0 t) fun r k => a (t.val * 1024 + r) k := fun y => by
    blk_simp [iblk3]
    refine (ha _).trans ?_
    blk_simp [ix3.1 t]
  have b1 : V2 (n := 768) (m := 2048) (iblk3 V c 1 t) fun r k => b r k := fun y => by
    blk_simp [iblk3]
    refine (hb _).trans ?_
    blk_simp [ix3.2.1 t]
  blk_simp [ix3.2.2 t]
  rw [after3_2]
  exact dyb_block b0 b1 _

theorem dyc_array (ha : V2 (n := 4096) (m := 2048) (V c main_arg5) a) (hb : V2 (n := 768) (m := 2048) (V c main_v6) b) :
    V2 (n := 4096) (m := 768) ((dat4 V c).arrAt 2 cfg4.N) (nt 2048 a b) := by
  intro i
  refine (dat4 V c).arrAt_forall_of_covers 2 (fun i v => v = nt 2048 a b (i 0).val (i 1).val) (by decide +kernel) (fun t _ y => ?_) i
  have b0 : V2 (n := 1024) (m := 2048) (iblk4 V c 0 t) fun r k => a (t.val * 1024 + r) k := fun y => by
    blk_simp [iblk4]
    refine (ha _).trans ?_
    blk_simp [ix4.1 t]
  have b1 : V2 (n := 768) (m := 2048) (iblk4 V c 1 t) fun r k => b r k := fun y => by
    blk_simp [iblk4]
    refine (hb _).trans ?_
    blk_simp [ix4.2.1 t]
  blk_simp [ix4.2.2 t]
  rw [after4_2]
  exact dyc_block b0 b1 _

theorem dwo_array (ha : V2 (n := 4096) (m := 2048) (V c main_arg3) a) (hb : V2 (n := 4096) (m := 2048) (V c main_arg5) b) :
    V2 (n := 2048) (m := 2048) ((dat5 V c).arrAt 2 cfg5.N) (tn 4096 a b) := by
  intro i
  refine (dat5 V c).arrAt_forall_of_covers 2 (fun i v => v = tn 4096 a b (i 0).val (i 1).val) (by decide +kernel) (fun t _ y => ?_) i
  have b0 : V2 (n := 4096) (m := 512) (iblk5 V c 0 t) fun r k => a r (t.val * 512 + k) := fun y => by
    blk_simp [iblk5]
    refine (ha _).trans ?_
    blk_simp [ix5.1 t]
  have b1 : V2 (n := 4096) (m := 2048) (iblk5 V c 1 t) fun r k => b r k := fun y => by
    blk_simp [iblk5]
    refine (hb _).trans ?_
    blk_simp [ix5.2.1 t]
  blk_simp [ix5.2.2 t]
  rw [after5_2]
  exact dwo_block b0 b1 _

theorem dwa_array (ha : V2 (n := 4096) (m := 5120) (V c main_arg6) a) (hb : V2 (n := 4096) (m := 2048) (V c main_arg1) b) :
    V2 (n := 5120) (m := 2048) ((dat6 V c).arrAt 2 cfg6.N) (tn 4096 a b) := by
  intro i
  refine (dat6 V c).arrAt_forall_of_covers 2 (fun i v => v = tn 4096 a b (i 0).val (i 1).val) (by decide +kernel) (fun t _ y => ?_) i
  have b0 : V2 (n := 4096) (m := 640) (iblk6 V c 0 t) fun r k => a r (t.val * 640 + k) := fun y => by
    blk_simp [iblk6]
    refine (ha _).trans ?_
    blk_simp [ix6.1 t]
  have b1 : V2 (n := 4096) (m := 2048) (iblk6 V c 1 t) fun r k => b r k := fun y => by
    blk_simp [iblk6]
    refine (hb _).trans ?_
    blk_simp [ix6.2.1 t]
  blk_simp [ix6.2.2 t]
  rw [after6_2]
  exact dwa_block b0 b1 _

theorem dh_array (ha : V2 (n := 4096) (m := 5120) (V c main_arg6) a) (hb : V2 (n := 5120) (m := 2048) (V c main_arg2) b) :
    V2 (n := 4096) (m := 2048) ((dat7 V c).arrAt 2 cfg7.N) (nn 5120 a b) := by
  intro i
  refine (dat7 V c).arrAt_forall_of_covers 2 (fun i v => v = nn 5120 a b (i 0).val (i 1).val) (by decide +kernel) (fun t _ y => ?_) i
  have b0 : V2 (n := 1024) (m := 5120) (iblk7 V c 0 t) fun r k => a (t.val / 4 * 1024 + r) k := fun y => by
    blk_simp [iblk7]
    refine (ha _).trans ?_
    blk_simp [ix7.1 t]
  have b1 : V2 (n := 5120) (m := 512) (iblk7 V c 1 t) fun r k => b r (t.val % 4 * 512 + k) := fun y => by
    blk_simp [iblk7]
    refine (hb _).trans ?_
    blk_simp [ix7.2.1 t]
  blk_simp [ix7.2.2 t]
  rw [after7_2]
  exact dh_block b0 b1 _

end Cert.Kernel4Ideal.Val
-- ==== Proof.ProjRun.lean ====
/-
  The projections' run with every buffer's final contents, and the eight results at the ideal values.
-/
module

public import proofs.«01_k».proof.Proof.Gen.Kernel4Ideal.Frame
public import proofs.«01_k».proof.Proof.Proj

@[expose] public section

set_option maxRecDepth 16384

noncomputable section

namespace Cert.Kernel4Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Ext

section
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and each buffer then holds what the eight launches leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)
end

variable (m : (ℓ : Loc nD τ sig) → Buf (Elt Ideal) ℓ) (ρ : Dev nD → PrngReg) {x h wa y wo dx dp : ℕ → ℕ → EReal} (c : Dev nD)

/-- The seven arguments' values. -/
structure Args (x h wa y wo dx dp : ℕ → ℕ → EReal) : Prop where
  hx : Ext.V2 (n := 4096) (m := 2048) (m ((c.tc : Thread nD τ).loc main_arg0)) x
  hh : Ext.V2 (n := 4096) (m := 2048) (m ((c.tc : Thread nD τ).loc main_arg1)) h
  hwa : Ext.V2 (n := 5120) (m := 2048) (m ((c.tc : Thread nD τ).loc main_arg2)) wa
  hy : Ext.V2 (n := 4096) (m := 2048) (m ((c.tc : Thread nD τ).loc main_arg3)) y
  hwo : Ext.V2 (n := 2048) (m := 2048) (m ((c.tc : Thread nD τ).loc main_arg4)) wo
  hdx : Ext.V2 (n := 4096) (m := 2048) (m ((c.tc : Thread nD τ).loc main_arg5)) dx
  hdp : Ext.V2 (n := 4096) (m := 5120) (m ((c.tc : Thread nD τ).loc main_arg6)) dp

variable {m c} (A : Args m c x h wa y wo dx dp)
include A

/-! The arguments stand throughout. -/

theorem Args.y_1 : Ext.V2 (n := 4096) (m := 2048) (V1 m ρ c main_arg3) y := by
  rw [show V1 m ρ c main_arg3 = _ from W1_args m ρ c main_arg3 (by decide)]; exact A.hy
theorem Args.wo_1 : Ext.V2 (n := 2048) (m := 2048) (V1 m ρ c main_arg4) wo := by
  rw [show V1 m ρ c main_arg4 = _ from W1_args m ρ c main_arg4 (by decide)]; exact A.hwo
theorem Args.x_1 : Ext.V2 (n := 4096) (m := 2048) (V1 m ρ c main_arg0) x := by
  rw [show V1 m ρ c main_arg0 = _ from W1_args m ρ c main_arg0 (by decide)]; exact A.hx
theorem Args.dx_3 : Ext.V2 (n := 4096) (m := 2048) (V3 m ρ c main_arg5) dx := by
  rw [show V3 m ρ c main_arg5 = _ from W3_args m ρ c main_arg5 (by decide)]; exact A.hdx
theorem Args.dx_5 : Ext.V2 (n := 4096) (m := 2048) (V5 m ρ c main_arg5) dx := by
  rw [show V5 m ρ c main_arg5 = _ from W5_args m ρ c main_arg5 (by decide)]; exact A.hdx
theorem Args.dx_7 : Ext.V2 (n := 4096) (m := 2048) (V7 m ρ c main_arg5) dx := by
  rw [show V7 m ρ c main_arg5 = _ from W7_args m ρ c main_arg5 (by decide)]; exact A.hdx
theorem Args.y_8 : Ext.V2 (n := 4096) (m := 2048) (V8 m ρ c main_arg3) y := by
  rw [show V8 m ρ c main_arg3 = _ from W8_args m ρ c main_arg3 (by decide)]; exact A.hy
theorem Args.dx_8 : Ext.V2 (n := 4096) (m := 2048) (V8 m ρ c main_arg5) dx := by
  rw [show V8 m ρ c main_arg5 = _ from W8_args m ρ c main_arg5 (by decide)]; exact A.hdx
theorem Args.dp_9 : Ext.V2 (n := 4096) (m := 5120) (V9 m ρ c main_arg6) dp := by
  rw [show V9 m ρ c main_arg6 = _ from W9_args m ρ c main_arg6 (by decide)]; exact A.hdp
theorem Args.h_9 : Ext.V2 (n := 4096) (m := 2048) (V9 m ρ c main_arg1) h := by
  rw [show V9 m ρ c main_arg1 = _ from W9_args m ρ c main_arg1 (by decide)]; exact A.hh
theorem Args.dp_10 : Ext.V2 (n := 4096) (m := 5120) (V10 m ρ c main_arg6) dp := by
  rw [show V10 m ρ c main_arg6 = _ from W10_args m ρ c main_arg6 (by decide)]; exact A.hdp
theorem Args.wa_10 : Ext.V2 (n := 5120) (m := 2048) (V10 m ρ c main_arg2) wa := by
  rw [show V10 m ρ c main_arg2 = _ from W10_args m ρ c main_arg2 (by decide)]; exact A.hwa

/-! The three slices of the output weight that the host takes. -/

theorem Args.sa : Ext.V2 (n := 512) (m := 2048) (V3 m ρ c main_v2) fun r k => wo (0 + r) k := fun i => by
  have e : V3 m ρ c main_v2 = extractStridedSlice S512x2048 ![0, 0] (W2 m ρ c (Proc.devRef .tc main_arg4)) slices_S2048x2048_S512x2048_0_0 := by
    show StableHlo.after hostOps2 (W2 m ρ c) (Proc.devRef .tc main_v2) = _
    after_results
  rw [e, W2_args m ρ c main_arg4 (by decide)]
  have l0 : (i 0).val < 512 := (i 0).isLt
  refine (extractStridedSlice_apply ![0, 0] _ slices_S2048x2048_S512x2048_0_0 i
    (ValueIdx.ix2 (⟨0 + (i 0).val, by omega⟩ : Fin 2048) (⟨(i 1).val, (i 1).isLt⟩ : Fin 2048)) (fun a => match a with
      | ⟨0, _⟩ => rfl
      | ⟨1, _⟩ => (Nat.zero_add _).symm)).trans ?_
  exact A.hwo _

theorem Args.sb : Ext.V2 (n := 768) (m := 2048) (V5 m ρ c main_v4) fun r k => wo (512 + r) k := fun i => by
  have e : V5 m ρ c main_v4 = extractStridedSlice S768x2048 ![512, 0] (W4 m ρ c (Proc.devRef .tc main_arg4)) slices_S2048x2048_S768x2048_512_0 := by
    show StableHlo.after hostOps3 (W4 m ρ c) (Proc.devRef .tc main_v4) = _
    after_results
  rw [e, W4_args m ρ c main_arg4 (by decide)]
  have l0 : (i 0).val < 768 := (i 0).isLt
  refine (extractStridedSlice_apply ![512, 0] _ slices_S2048x2048_S768x2048_512_0 i
    (ValueIdx.ix2 (⟨512 + (i 0).val, by omega⟩ : Fin 2048) (⟨(i 1).val, (i 1).isLt⟩ : Fin 2048)) (fun a => match a with
      | ⟨0, _⟩ => rfl
      | ⟨1, _⟩ => (Nat.zero_add _).symm)).trans ?_
  exact A.hwo _

theorem Args.sc : Ext.V2 (n := 768) (m := 2048) (V7 m ρ c main_v6) fun r k => wo (1280 + r) k := fun i => by
  have e : V7 m ρ c main_v6 = extractStridedSlice S768x2048 ![1280, 0] (W6 m ρ c (Proc.devRef .tc main_arg4)) slices_S2048x2048_S768x2048_1280_0 := by
    show StableHlo.after hostOps4 (W6 m ρ c) (Proc.devRef .tc main_v6) = _
    after_results
  rw [e, W6_args m ρ c main_arg4 (by decide)]
  have l0 : (i 0).val < 768 := (i 0).isLt
  refine (extractStridedSlice_apply ![1280, 0] _ slices_S2048x2048_S768x2048_1280_0 i
    (ValueIdx.ix2 (⟨1280 + (i 0).val, by omega⟩ : Fin 2048) (⟨(i 1).val, (i 1).isLt⟩ : Fin 2048)) (fun a => match a with
      | ⟨0, _⟩ => rfl
      | ⟨1, _⟩ => (Nat.zero_add _).symm)).trans ?_
  exact A.hwo _

/-! The results at the end. -/

theorem Args.p : Ext.V2 (n := 4096) (m := 5120) (W11 m ρ c (Proc.devRef .tc main_v0)) (nt 2048 h wa) := by
  rw [show W11 m ρ c (Proc.devRef .tc main_v0) = _ from W11_of m ρ c main_v0 (by decide),
    show W10 m ρ c (Proc.devRef .tc main_v0) = _ from W10_of m ρ c main_v0 (by decide),
    show W9 m ρ c (Proc.devRef .tc main_v0) = _ from W9_of m ρ c main_v0 (by decide),
    show W8 m ρ c (Proc.devRef .tc main_v0) = _ from W8_of m ρ c main_v0 (by decide),
    show W7 m ρ c (Proc.devRef .tc main_v0) = _ from W7_of m ρ c main_v0 (by decide),
    show W6 m ρ c (Proc.devRef .tc main_v0) = _ from W6_of m ρ c main_v0 (by decide),
    show W5 m ρ c (Proc.devRef .tc main_v0) = _ from W5_of m ρ c main_v0 (by decide),
    show W4 m ρ c (Proc.devRef .tc main_v0) = _ from W4_of m ρ c main_v0 (by decide),
    show W3 m ρ c (Proc.devRef .tc main_v0) = _ from W3_of m ρ c main_v0 (by decide),
    show W2 m ρ c (Proc.devRef .tc main_v0) = _ from W2_of m ρ c main_v0 (by decide),
    show W1 m ρ c (Proc.devRef .tc main_v0) = _ from W1_arr m ρ c 2]
  exact p_array c A.hh A.hwa

theorem Args.x1 : Ext.V2 (n := 4096) (m := 2048) (W11 m ρ c (Proc.devRef .tc main_v1)) fun r j => nn 2048 y wo r j + x r j := by
  rw [show W11 m ρ c (Proc.devRef .tc main_v1) = _ from W11_of m ρ c main_v1 (by decide),
    show W10 m ρ c (Proc.devRef .tc main_v1) = _ from W10_of m ρ c main_v1 (by decide),
    show W9 m ρ c (Proc.devRef .tc main_v1) = _ from W9_of m ρ c main_v1 (by decide),
    show W8 m ρ c (Proc.devRef .tc main_v1) = _ from W8_of m ρ c main_v1 (by decide),
    show W7 m ρ c (Proc.devRef .tc main_v1) = _ from W7_of m ρ c main_v1 (by decide),
    show W6 m ρ c (Proc.devRef .tc main_v1) = _ from W6_of m ρ c main_v1 (by decide),
    show W5 m ρ c (Proc.devRef .tc main_v1) = _ from W5_of m ρ c main_v1 (by decide),
    show W4 m ρ c (Proc.devRef .tc main_v1) = _ from W4_of m ρ c main_v1 (by decide),
    show W3 m ρ c (Proc.devRef .tc main_v1) = _ from W3_of m ρ c main_v1 (by decide),
    show W2 m ρ c (Proc.devRef .tc main_v1) = _ from W2_arr m ρ c 3]
  exact x1_array c (A.y_1 ρ) (A.wo_1 ρ) (A.x_1 ρ)

theorem Args.dya : Ext.V2 (n := 4096) (m := 512) (W11 m ρ c (Proc.devRef .tc main_v3)) (nt 2048 dx fun r k => wo (0 + r) k) := by
  rw [show W11 m ρ c (Proc.devRef .tc main_v3) = _ from W11_of m ρ c main_v3 (by decide),
    show W10 m ρ c (Proc.devRef .tc main_v3) = _ from W10_of m ρ c main_v3 (by decide),
    show W9 m ρ c (Proc.devRef .tc main_v3) = _ from W9_of m ρ c main_v3 (by decide),
    show W8 m ρ c (Proc.devRef .tc main_v3) = _ from W8_of m ρ c main_v3 (by decide),
    show W7 m ρ c (Proc.devRef .tc main_v3) = _ from W7_of m ρ c main_v3 (by decide),
    show W6 m ρ c (Proc.devRef .tc main_v3) = _ from W6_of m ρ c main_v3 (by decide),
    show W5 m ρ c (Proc.devRef .tc main_v3) = _ from W5_of m ρ c main_v3 (by decide),
    show W4 m ρ c (Proc.devRef .tc main_v3) = _ from W4_arr m ρ c 2]
  exact dya_array c (A.dx_3 ρ) (A.sa ρ)

theorem Args.dyb : Ext.V2 (n := 4096) (m := 768) (W11 m ρ c (Proc.devRef .tc main_v5)) (nt 2048 dx fun r k => wo (512 + r) k) := by
  rw [show W11 m ρ c (Proc.devRef .tc main_v5) = _ from W11_of m ρ c main_v5 (by decide),
    show W10 m ρ c (Proc.devRef .tc main_v5) = _ from W10_of m ρ c main_v5 (by decide),
    show W9 m ρ c (Proc.devRef .tc main_v5) = _ from W9_of m ρ c main_v5 (by decide),
    show W8 m ρ c (Proc.devRef .tc main_v5) = _ from W8_of m ρ c main_v5 (by decide),
    show W7 m ρ c (Proc.devRef .tc main_v5) = _ from W7_of m ρ c main_v5 (by decide),
    show W6 m ρ c (Proc.devRef .tc main_v5) = _ from W6_arr m ρ c 2]
  exact dyb_array c (A.dx_5 ρ) (A.sb ρ)

theorem Args.dyc : Ext.V2 (n := 4096) (m := 768) (W11 m ρ c (Proc.devRef .tc main_v7)) (nt 2048 dx fun r k => wo (1280 + r) k) := by
  rw [show W11 m ρ c (Proc.devRef .tc main_v7) = _ from W11_of m ρ c main_v7 (by decide),
    show W10 m ρ c (Proc.devRef .tc main_v7) = _ from W10_of m ρ c main_v7 (by decide),
    show W9 m ρ c (Proc.devRef .tc main_v7) = _ from W9_of m ρ c main_v7 (by decide),
    show W8 m ρ c (Proc.devRef .tc main_v7) = _ from W8_arr m ρ c 2]
  exact dyc_array c (A.dx_7 ρ) (A.sc ρ)

theorem Args.dwo : Ext.V2 (n := 2048) (m := 2048) (W11 m ρ c (Proc.devRef .tc main_v8)) (tn 4096 y dx) := by
  rw [show W11 m ρ c (Proc.devRef .tc main_v8) = _ from W11_of m ρ c main_v8 (by decide),
    show W10 m ρ c (Proc.devRef .tc main_v8) = _ from W10_of m ρ c main_v8 (by decide),
    show W9 m ρ c (Proc.devRef .tc main_v8) = _ from W9_arr m ρ c 2]
  exact dwo_array c (A.y_8 ρ) (A.dx_8 ρ)

theorem Args.dwa : Ext.V2 (n := 5120) (m := 2048) (W11 m ρ c (Proc.devRef .tc main_v9)) (tn 4096 dp h) := by
  rw [show W11 m ρ c (Proc.devRef .tc main_v9) = _ from W11_of m ρ c main_v9 (by decide),
    show W10 m ρ c (Proc.devRef .tc main_v9) = _ from W10_arr m ρ c 2]
  exact dwa_array c (A.dp_9 ρ) (A.h_9 ρ)

theorem Args.dh : Ext.V2 (n := 4096) (m := 2048) (W11 m ρ c (Proc.devRef .tc main_v10)) (nn 5120 dp wa) := by
  rw [show W11 m ρ c (Proc.devRef .tc main_v10) = _ from W11_arr m ρ c 2]
  exact dh_array c (A.dp_10 ρ) (A.wa_10 ρ)

end Cert.Kernel4Ideal.Val
-- ==== Proof.ProjRef.lean ====
/-
  The reference of the projections, over the extended reals.
-/
module

public import proofs.«01_k».proof.Proof.Gen.Reference4Ideal.Read
public import proofs.«01_k».proof.Proof.Proj

@[expose] public section

set_option maxRecDepth 16384

noncomputable section

namespace Cert.Reference4Ideal.Val

open Idealize.ShloMosaic
open Cert.Reference4Ideal Cert.Reference4Ideal.Gen Cert.Reference4Ideal.Read Cert.Ext

variable {x0 : (⟨S4096x2048, .f32⟩ : BufTy).Contents (Elt Ideal)} {x1 x3 x5 : (⟨S4096x2048, .bf16⟩ : BufTy).Contents (Elt Ideal)}
  {x2 : (⟨S5120x2048, .bf16⟩ : BufTy).Contents (Elt Ideal)} {x4 : (⟨S2048x2048, .bf16⟩ : BufTy).Contents (Elt Ideal)}
  {x6 : (⟨S4096x5120, .bf16⟩ : BufTy).Contents (Elt Ideal)} {x h wa y wo dx dp : ℕ → ℕ → EReal}
  (hx : V2 (n := 4096) (m := 2048) x0 x) (hh : V2 (n := 4096) (m := 2048) x1 h) (hwa : V2 (n := 5120) (m := 2048) x2 wa)
  (hy : V2 (n := 4096) (m := 2048) x3 y) (hwo : V2 (n := 2048) (m := 2048) x4 wo) (hdx : V2 (n := 4096) (m := 2048) x5 dx)
  (hdp : V2 (n := 4096) (m := 5120) x6 dp)

include hh hwa in
theorem p : V2 (n := 4096) (m := 5120) (val_main_v7 (F := Ideal) x1 x2) (nt 2048 h wa) := fun i => by
  rw [val_main_v7_apply]
  refine Finset.sum_congr rfl fun k _ => ?_
  rw [val_main_v6_apply]
  exact congrArg₂ (· * ·) (hh _) (hwa _)

include hx hy hwo in
theorem sum : V2 (n := 4096) (m := 2048) (val_main_v19 (F := Ideal) x0 x3 x4) fun r j => nn 2048 y wo r j + x r j := fun i => by
  rw [val_main_v19_apply, val_main_v8_apply]
  refine (add_comm _ _).trans (congrArg₂ (· + ·) (Finset.sum_congr rfl fun k _ => ?_) (hx _))
  exact congrArg₂ (· * ·) (hy _) (hwo _)

include hwo hdx in
theorem dy (i) : val_main_v15 (F := Ideal) x4 x5 i = nt 2048 dx wo (i 0).val (i 1).val := by
  rw [val_main_v15_apply]
  exact Finset.sum_congr rfl fun k _ => congrArg₂ (· * ·) (hdx _) (hwo _)

include hwo hdx in
theorem dya : V2 (n := 4096) (m := 512) (val_main_v16 (F := Ideal) x4 x5) (nt 2048 dx fun r k => wo (0 + r) k) := fun i => by
  rw [val_main_v16_apply, dy hwo hdx]
  unfold nt
  simp

include hwo hdx in
theorem dyb : V2 (n := 4096) (m := 768) (val_main_v17 (F := Ideal) x4 x5) (nt 2048 dx fun r k => wo (512 + r) k) := fun i => by
  rw [val_main_v17_apply, dy hwo hdx]
  rfl

include hwo hdx in
theorem dyc : V2 (n := 4096) (m := 768) (val_main_v18 (F := Ideal) x4 x5) (nt 2048 dx fun r k => wo (1280 + r) k) := fun i => by
  rw [val_main_v18_apply, dy hwo hdx]
  rfl

include hy hdx in
theorem dwo : V2 (n := 2048) (m := 2048) (val_main_v20 (F := Ideal) x3 x5) (tn 4096 y dx) := fun i => by
  rw [val_main_v20_apply, val_main_v14_apply, val_main_v13_apply]
  exact Finset.sum_congr rfl fun k _ => (mul_comm _ _).trans (congrArg₂ (· * ·) (hy _) (hdx _))

include hh hdp in
theorem dwa : V2 (n := 5120) (m := 2048) (val_main_v21 (F := Ideal) x1 x6) (tn 4096 dp h) := fun i => by
  rw [val_main_v21_apply, val_main_v12_apply, val_main_v10_apply, val_main_v9_apply]
  exact Finset.sum_congr rfl fun k _ => congrArg₂ (· * ·) (hdp _) (hh _)

include hwa hdp in
theorem dh : V2 (n := 4096) (m := 2048) (val_main_v11 (F := Ideal) x2 x6) (nn 5120 dp wa) := fun i => by
  rw [val_main_v11_apply]
  refine Finset.sum_congr rfl fun k _ => ?_
  rw [val_main_v6_apply]
  exact congrArg₂ (· * ·) (hdp _) (hwa _)

end Cert.Reference4Ideal.Val
-- ==== Proof.LatChunk.lean ====
/-
  Mixer A: what one chunk of 256 query rows makes of its loads, in both kernels, at the ideal values; 256 columns of q and k to a head. The printed bodies spell the four
  chunks out with the cuts into parts falling differently; each is shown to be the first chunk's functions by unfolding.
-/
module

public import proofs.«01_k».proof.Proof.Gen.Kernel5Ideal.Frame
public import proofs.«01_k».proof.Proof.Reals
public import proofs.«01_k».proof.Proof.Spec
public import Idealize.ShloMosaic.PureOps.IdealRules

@[expose] public section

set_option maxRecDepth 16384

noncomputable section

namespace Cert.Kernel5Ideal.Val

open Idealize.ShloMosaic Idealize.ShloMosaic.TcCoe Idealize.SL.Sem
open Cert.Kernel5Ideal Cert.Kernel5Ideal.Gen Cert.Reals Cert.Attn

/-- The scale of the scores, one over the square root of the head's width without padding. -/
abbrev cs : ℝ := (Real.sqrt 192)⁻¹

theorem named_sl (b : BitVec 32) : (Named.named κ "scale_log2e" b : Ideal .f32) = ((cs * (Real.log 2)⁻¹ : ℝ) : EReal) :=
  IdealRules.named_const.ideal_named_scalar κ "scale_log2e" (φ := .f32) b _ rfl
theorem named_s (b : BitVec 32) : (Named.named κ "scale" b : Ideal .f32) = ((cs : ℝ) : EReal) :=
  IdealRules.named_const.ideal_named_scalar κ "scale" (φ := .f32) b _ rfl
theorem named_l (b : BitVec 32) : (Named.named κ "log2e" b : Ideal .f32) = (((Real.log 2)⁻¹ : ℝ) : EReal) :=
  IdealRules.named_const.ideal_named_scalar κ "log2e" (φ := .f32) b _ rfl

section Ideal
variable {K : Vec Ideal S4096x256 .bf16} {W : Vec Ideal S4096x128 .bf16} {Q : Vec Ideal S256x256 .bf16} {a b w g o : ℕ → ℕ → ℝ}

/-! ## The forward kernel -/

theorem score (hQ : IsR2 Q a) (hK : IsR2 K b) : IsR2 (k0_pay8 (F := Ideal) K Q) fun r j => tS 256 cs a b r j * (Real.log 2)⁻¹ :=
  ((hQ.matmulT hK none).mul (IsR2.const (named_sl _))).congr fun r _ j _ => by
    show (∑ d : Fin 256, a r d * b j d) * (cs * (Real.log 2)⁻¹) = _
    unfold tS; ring

theorem forward (hQ : IsR2 Q a) (hK : IsR2 K b) (hW : IsR2 W w) :
    IsR2 (k0_pay12 (F := Ideal) K W Q) (tO 256 cs a b w) ∧ IsR3 (k0_pay13 (F := Ideal) K Q) fun _ r _ => tLse 256 cs a b r := by
  obtain ⟨M, hM⟩ := (score hQ hK).rowMax (by norm_num) reduces_S256x4096_S256 (.inl rfl) rfl
  have h9 : IsR2 (k0_pay9 (F := Ideal) K Q) fun r _ => M r := hM.toCol shapeCasts_S256_S256x1
  have h10 := ((score hQ hK).sub (h9.spread broadcasts_S256x1_S256x4096)).pow2
  have h11 := (h10.rowSum reduces_S256x4096_S256 (.inl rfl) rfl).toCol shapeCasts_S256_S256x1
  have pos : ∀ r, 0 < ∑ k : Fin 4096, Real.exp (Real.log 2 * (tS 256 cs a b r k * (Real.log 2)⁻¹ - M r)) :=
    fun r => sum_exp_pos _ (by norm_num)
  constructor
  · exact ((((h10.trunc bitsLt_bf16_f32).matmul hW none).div (h11.spread broadcasts_S256x1_S256x128)
      fun r _ _ _ => (pos r).ne').cast shapeCasts_S256x128_S256x128).congr fun r _ d _ =>
        mean_shift (fun j : Fin 4096 => tS 256 cs a b r j) (by norm_num) log2_ne (M r) fun j => w j d
  · have := (((h9.add ((h11.ln fun r _ _ _ => pos r).mul (IsR2.const (named_l 0x3FB8AA3B#32)))).cast shapeCasts_S256x1_S256x1).spread
      broadcasts_S256x1_S256x128).toSlab shapeCasts_S256x128_S1x256x128
    exact fun i => (this i).trans (congrArg _ (log_sum_shift (fun j : Fin 4096 => tS 256 cs a b (i 1).val j) (by norm_num) log2_ne (M _)))

/-! ## The backward kernel -/

variable {L : Vec Ideal S1x256x1 .f32} {DO OO : Vec Ideal S256x128 .f32}

theorem probs (hQ : IsR2 Q a) (hK : IsR2 K b) (hL : IsR3 L fun _ r _ => tLse 256 cs a b r) :
    IsR2 (k1_pay5 (F := Ideal) K Q L) (tP 256 cs a b) :=
  ((score hQ hK).sub ((hL.toPlane shapeCasts_S1x256x1_S256x1).spread broadcasts_S256x1_S256x4096)).pow2.congr fun r _ j hj =>
    exp_sub_log (fun j : Fin 4096 => tS 256 cs a b r j) (by norm_num) log2_ne ⟨j, hj⟩

theorem dscore (hQ : IsR2 Q a) (hK : IsR2 K b) (hW : IsR2 W w) (hL : IsR3 L fun _ r _ => tLse 256 cs a b r) (hG : IsR2 DO g)
    (hO : IsR2 OO (tO 256 cs a b w)) :
    IsR2 (k1_pay8 (F := Ideal) (k1_pay5 K Q L) (k1_pay6 W DO) (k1_pay7 DO OO)) (tDS 256 cs a b w g) := by
  have h6 : IsR2 (k1_pay6 (F := Ideal) W DO) (tDP w g) := (hG.trunc bitsLt_bf16_f32).matmulT hW none
  have hd := ((hG.mul hO).rowSum reduces_S256x128_S256 (.inl rfl) rfl).toCol shapeCasts_S256_S256x1
  exact ((((probs hQ hK hL).mul (h6.sub (hd.spread broadcasts_S256x1_S256x4096))).mul (IsR2.const (named_s _))).trunc bitsLt_bf16_f32)

theorem dq_chunk (hQ : IsR2 Q a) (hK : IsR2 K b) (hW : IsR2 W w) (hL : IsR3 L fun _ r _ => tLse 256 cs a b r) (hG : IsR2 DO g)
    (hO : IsR2 OO (tO 256 cs a b w)) :
    IsR2 (k1_pay11 (F := Ideal) K (k1_pay5 K Q L) (k1_pay6 W DO) (k1_pay7 DO OO)) (tDQ 256 cs a b w g) :=
  ((dscore hQ hK hW hL hG hO).matmul hK none).cast shapeCasts_S256x256_S256x256

theorem tn_l (i : S4096x128.Idx) (k : Fin 256) :
    let D := dot_S256x4096_S256x128_S4096x128_0_0_1_1_n_n
    (D.lhsIdx i ((ValueIdx.contrEquiv1 D 256 rfl rfl).symm k) 0).val = k.val ∧ (D.lhsIdx i ((ValueIdx.contrEquiv1 D 256 rfl rfl).symm k) 1).val = (i 0).val :=
  ⟨ValueIdx.contrEquiv1_symm_val dot_S256x4096_S256x128_S4096x128_0_0_1_1_n_n 256 rfl rfl k, rfl⟩
theorem tn_r (i : S4096x128.Idx) (k : Fin 256) :
    let D := dot_S256x4096_S256x128_S4096x128_0_0_1_1_n_n
    (D.rhsIdx i ((ValueIdx.contrEquiv1 D 256 rfl rfl).symm k) 0).val = k.val ∧ (D.rhsIdx i ((ValueIdx.contrEquiv1 D 256 rfl rfl).symm k) 1).val = (i 1).val :=
  ⟨ValueIdx.contrEquiv1_symm_val dot_S256x4096_S256x128_S4096x128_0_0_1_1_n_n 256 rfl rfl k, rfl⟩

theorem tk_l (i : S4096x256.Idx) (k : Fin 256) :
    let D := dot_S256x4096_S256x256_S4096x256_0_0_1_1_n_n
    (D.lhsIdx i ((ValueIdx.contrEquiv1 D 256 rfl rfl).symm k) 0).val = k.val ∧ (D.lhsIdx i ((ValueIdx.contrEquiv1 D 256 rfl rfl).symm k) 1).val = (i 0).val :=
  ⟨ValueIdx.contrEquiv1_symm_val dot_S256x4096_S256x256_S4096x256_0_0_1_1_n_n 256 rfl rfl k, rfl⟩
theorem tk_r (i : S4096x256.Idx) (k : Fin 256) :
    let D := dot_S256x4096_S256x256_S4096x256_0_0_1_1_n_n
    (D.rhsIdx i ((ValueIdx.contrEquiv1 D 256 rfl rfl).symm k) 0).val = k.val ∧ (D.rhsIdx i ((ValueIdx.contrEquiv1 D 256 rfl rfl).symm k) 1).val = (i 1).val :=
  ⟨ValueIdx.contrEquiv1_symm_val dot_S256x4096_S256x256_S4096x256_0_0_1_1_n_n 256 rfl rfl k, rfl⟩

theorem dk_chunk {X : Vec Ideal S4096x256 .f32} {x : ℕ → ℕ → ℝ} (hX : IsR2 X x) (hQ : IsR2 Q a) (hK : IsR2 K b) (hW : IsR2 W w)
    (hL : IsR3 L fun _ r _ => tLse 256 cs a b r) (hG : IsR2 DO g) (hO : IsR2 OO (tO 256 cs a b w)) :
    IsR2 (k1_pay10 (F := Ideal) Q (k1_pay5 K Q L) (k1_pay6 W DO) (k1_pay7 DO OO) X)
      fun j d => x j d + ∑ r : Fin 256, tDS 256 cs a b w g r j * a r d :=
  (hX.add ((dscore hQ hK hW hL hG hO).matmulL hQ none dot_S256x4096_S256x256_S4096x256_0_0_1_1_n_n rfl rfl tk_l tk_r)).cast
    shapeCasts_S4096x256_S4096x256

theorem dv_chunk {X : Vec Ideal S4096x128 .f32} {x : ℕ → ℕ → ℝ} (hX : IsR2 X x) (hQ : IsR2 Q a) (hK : IsR2 K b)
    (hL : IsR3 L fun _ r _ => tLse 256 cs a b r) (hG : IsR2 DO g) :
    IsR2 (k1_pay9 (F := Ideal) (k1_pay4 DO) (k1_pay5 K Q L) X)
      fun j d => x j d + ∑ r : Fin 256, tP 256 cs a b r j * g r d :=
  (hX.add (((probs hQ hK hL).trunc bitsLt_bf16_f32).matmulL (hG.trunc bitsLt_bf16_f32) none
    dot_S256x4096_S256x128_S4096x128_0_0_1_1_n_n rfl rfl tn_l tn_r)).cast shapeCasts_S4096x128_S4096x128

theorem zero_k : IsR2 (k1_pay2 (F := Ideal)) fun _ _ => 0 :=
  (IsR2.const (x := Ideal.ofBits .f32 0x00000000#32) (by rw [Ideal.ofBits_zero_f32]; rfl)).cast shapeCasts_S4096x256_S4096x256
theorem zero_v : IsR2 (k1_pay3 (F := Ideal)) fun _ _ => 0 :=
  (IsR2.const (x := Ideal.ofBits .f32 0x00000000#32) (by rw [Ideal.ofBits_zero_f32]; rfl)).cast shapeCasts_S4096x128_S4096x128
end Ideal

end Cert.Kernel5Ideal.Val
-- ==== Proof.LatSpec.lean ====
/-
  Mixer A: where a head's 128 values lie.
-/
module

public import proofs.«01_k».proof.Proof.Spec

@[expose] public section

namespace Cert.Attn

/-- The values lie in the upper half of each head's 256 columns. -/
def vals (kv : ℕ → ℕ → ℝ) : ℕ → ℕ → ℝ := fun r j => kv r (j / 128 * 256 + 128 + j % 128)
theorem v_cols (u d : ℕ) (hd : d < 128) : (u * 128 + d) / 128 * 256 + 128 + (u * 128 + d) % 128 = (u * 2 + 1) * 128 + d := by omega
theorem head_vals (kv : ℕ → ℕ → ℝ) (u r d : ℕ) (hd : d < 128) : head 128 (vals kv) u r d = kv r ((u * 2 + 1) * 128 + d) := by
  unfold head vals; rw [v_cols _ _ hd]

end Cert.Attn
-- ==== Proof.LatForward.lean ====
/-
  Mixer A's forward kernel, its two results: at a grid point the block of the output and of the log-sums as functions of the point's query,
  key and value blocks, then the two whole arrays.
-/
module

public import proofs.«01_k».proof.Proof.LatChunk
public import proofs.«01_k».proof.Proof.LatSpec
public import Idealize.ShloMosaic.Lib.Pipeline.ValueKit.Point

@[expose] public section

set_option maxRecDepth 16384

noncomputable section

namespace Cert.Kernel5Ideal.Val

open Idealize.ShloMosaic Idealize.ShloMosaic.TcCoe Idealize.SL.Sem Idealize.ShloMosaic.Pipeline
open Cert.Kernel5Ideal Cert.Kernel5Ideal.Gen Cert.Reals Cert.Attn

/-- Rows `o` to `o + n` of a matrix of reals. -/
theorem ldRows {N M n o : ℕ} {X : (⟨2, ![N, M]⟩ : Shape).Idx → EReal} {x : ℕ → ℕ → ℝ} (hX : IsR2 X x)
    (inb : ∀ a, (![o, 0] : Fin 2 → ℕ) a + (![n, M] : Fin 2 → ℕ) a ≤ (⟨2, ![N, M]⟩ : Shape).size a) :
    IsR2 (n0 := n) (n1 := M) (fun i => X ((Rect.unit (s := ⟨2, ![N, M]⟩) ![o, 0] ![n, M] inb).idx i)) fun r d => x (o + r) d := fun i =>
  (hX _).trans (congrArg _ (by congr 1 <;> simp [Rect.idx_unit_val]))

section Ideal
variable {K : Vec Ideal S4096x256 .bf16} {W : Vec Ideal S4096x128 .bf16} {Q : Vec Ideal S1024x256 .bf16} {a b w : ℕ → ℕ → ℝ}

theorem full {K : Vec Ideal S4096x256 .bf16} {b : ℕ → ℕ → ℝ} (hK : IsR2 K b) : IsR2 (n0 := 4096) (n1 := 256) (View.ld K r0_0) b :=
  (ldRows hK (o := 0) (n := 4096) inb_S4096x256_S4096x256_0_0).congr (y := b) fun r _ d _ => by rw [Nat.zero_add]

theorem fullV {K : Vec Ideal S4096x128 .bf16} {b : ℕ → ℕ → ℝ} (hK : IsR2 K b) : IsR2 (n0 := 4096) (n1 := 128) (View.ld K r0_1) b :=
  (ldRows hK (o := 0) (n := 4096) inb_S4096x128_S4096x128_0_0).congr (y := b) fun r _ d _ => by rw [Nat.zero_add]

theorem o_block (hQ : IsR2 Q a) (hK : IsR2 K b) (hW : IsR2 W w) : IsR2 (out0_3 (F := Ideal) Q K W) (tO 256 cs a b w) := fun y => by
  unfold_out out0_3
  canon_tiles x ha using cover0_3 ..
  case piece0 => exact ((forward (ldRows hQ inb_S1024x256_S256x256_768_0) (full hK) (fullV hW)).1 x).trans (by rw [ha0, ha1]; rfl)
  case piece1 => exact ((forward (ldRows hQ inb_S1024x256_S256x256_512_0) (full hK) (fullV hW)).1 x).trans (by rw [ha0, ha1]; rfl)
  case piece2 => exact ((forward (ldRows hQ inb_S1024x256_S256x256_256_0) (full hK) (fullV hW)).1 x).trans (by rw [ha0, ha1]; rfl)
  case piece3 => exact ((forward (ldRows hQ inb_S1024x256_S256x256_0_0) (full hK) (fullV hW)).1 x).trans (by rw [ha0, ha1]; simp only [tO, tP, tL, tS, Nat.zero_add])

theorem lse_block (hQ : IsR2 Q a) (hK : IsR2 K b) (hW : IsR2 W w) :
    IsR3 (out0_4 (F := Ideal) Q K W) fun _ r _ => tLse 256 cs a b r := fun y => by
  unfold_out out0_4
  canon_tiles x ha using cover0_4 ..
  case piece0 => exact ((forward (ldRows hQ inb_S1024x256_S256x256_768_0) (full hK) (fullV hW)).2 x).trans (by rw [ha1]; rfl)
  case piece1 => exact ((forward (ldRows hQ inb_S1024x256_S256x256_512_0) (full hK) (fullV hW)).2 x).trans (by rw [ha1]; rfl)
  case piece2 => exact ((forward (ldRows hQ inb_S1024x256_S256x256_256_0) (full hK) (fullV hW)).2 x).trans (by rw [ha1]; rfl)
  case piece3 => exact ((forward (ldRows hQ inb_S1024x256_S256x256_0_0) (full hK) (fullV hW)).2 x).trans (by rw [ha1]; simp only [tLse, tL, tS, Nat.zero_add])
end Ideal

/-! ## The blocks of a grid point, and the arrays -/

theorem ix0 : (∀ t : Fin cfg0.N, win0_0.index t = ![t.val % 4, t.val / 4]) ∧ (∀ t : Fin cfg0.N, win0_1.index t = ![0, t.val / 4])
    ∧ (∀ t : Fin cfg0.N, win0_2.index t = ![0, t.val / 4 * 2 + 1]) ∧ (∀ t : Fin cfg0.N, win0_3.index t = ![t.val % 4, t.val / 4])
    ∧ (∀ t : Fin cfg0.N, win0_4.index t = ![t.val / 4, t.val % 4, 0]) := by decide +kernel

section Run
variable {V : (c : Dev nD) → (b : Ref sig .tc) → Buf (Elt Ideal) ((c : Thread nD τ).loc b)} {q k kv : ℕ → ℕ → ℝ}

/-- The `1024` rows and the head's `n` columns that grid point `t` reads of a matrix the heads of which lie side by side. -/
abbrev qT (n : ℕ) (q : ℕ → ℕ → ℝ) (t : ℕ) : ℕ → ℕ → ℝ := fun r d => head n q (t / 4) (t % 4 * 1024 + r) d
/-- The key head's columns that grid point `t` reads. -/
abbrev kT (n : ℕ) (k : ℕ → ℕ → ℝ) (t : ℕ) : ℕ → ℕ → ℝ := head n k (t / 4 / 1)

theorem q0 (c : Dev nD) (hq : IsR2 (n0 := 4096) (n1 := 1024) (V c main_arg0) q) (t : Fin cfg0.N) :
    IsR2 (n0 := 1024) (n1 := 256) (iblk0 V c 0 t) (qT 256 q t) := fun y => by
  blk_simp [iblk0]
  refine (hq _).trans (congrArg _ ?_)
  blk_simp [ix0.1 t]
  rfl
theorem k0 (c : Dev nD) (hk : IsR2 (n0 := 4096) (n1 := 1024) (V c main_arg1) k) (t : Fin cfg0.N) :
    IsR2 (n0 := 4096) (n1 := 256) (iblk0 V c 1 t) (kT 256 k t) := fun y => by
  blk_simp [iblk0]
  refine (hk _).trans (congrArg _ ?_)
  blk_simp [ix0.2.1 t]
  simp [kT, head]
theorem v0 (c : Dev nD) (hv : IsR2 (n0 := 4096) (n1 := 1024) (V c main_arg2) kv) (t : Fin cfg0.N) :
    IsR2 (n0 := 4096) (n1 := 128) (iblk0 V c 2 t) (kT 128 (vals kv) t) := fun y => by
  blk_simp [iblk0]
  refine (hv _).trans (congrArg _ ?_)
  blk_simp [ix0.2.2.1 t]
  unfold kT head vals
  rw [Nat.div_one, v_cols _ _ (y 1).isLt]

/-- The output array. -/
theorem o_array (c : Dev nD) (hq : IsR2 (n0 := 4096) (n1 := 1024) (V c main_arg0) q) (hk : IsR2 (n0 := 4096) (n1 := 1024) (V c main_arg1) k)
    (hv : IsR2 (n0 := 4096) (n1 := 1024) (V c main_arg2) kv) :
    IsR2 (n0 := 4096) (n1 := 512) ((dat0 V c).arrAt 3 cfg0.N) fun r j => O 256 1 cs q k (vals kv) (j / 128) r (j % 128) := by
  intro i
  refine (dat0 V c).arrAt_forall_of_covers 3 (fun i x => x = ((O 256 1 cs q k (vals kv) ((i 1).val / 128) (i 0).val ((i 1).val % 128) : ℝ) : EReal))
    (by decide +kernel) (fun t _ y => ?_) i
  blk_simp [ix0.2.2.2.1 t]
  rw [after0_3]
  refine (o_block (q0 c hq t) (k0 c hk t) (v0 c hv t) _).trans (congrArg _ ?_)
  idx_bounds y
  have e1 : (t.val / 4 * 128 + (y 1).val) / 128 = t.val / 4 := by omega
  have e2 : (t.val / 4 * 128 + (y 1).val) % 128 = (y 1).val := by omega
  rw [e1, e2]; rfl

/-- The array of the log-sums, each spread along the lanes. -/
theorem lse_array (c : Dev nD) (hq : IsR2 (n0 := 4096) (n1 := 1024) (V c main_arg0) q) (hk : IsR2 (n0 := 4096) (n1 := 1024) (V c main_arg1) k)
    (hv : IsR2 (n0 := 4096) (n1 := 1024) (V c main_arg2) kv) :
    IsR3 (n0 := 4) (n1 := 4096) (n2 := 128) ((dat0 V c).arrAt 4 cfg0.N) fun h r _ => Lse 256 1 cs q k h r := by
  intro i
  refine (dat0 V c).arrAt_forall_of_covers 4 (fun i x => x = ((Lse 256 1 cs q k (i 0).val (i 1).val : ℝ) : EReal))
    (by decide +kernel) (fun t _ y => ?_) i
  blk_simp [ix0.2.2.2.2 t]
  rw [after0_4]
  refine (lse_block (q0 c hq t) (k0 c hk t) (v0 c hv t) _).trans (congrArg _ ?_)
  rfl
end Run

end Cert.Kernel5Ideal.Val
-- ==== Proof.LatBackward.lean ====
/-
  Mixer A's backward kernel, its three results. A grid point's query block is taken in four chunks of 256 rows; the key and value gradients
  stay in their buffers over the four points of a head and gather one chunk's share at a time.
-/
module

public import proofs.«01_k».proof.Proof.LatForward

@[expose] public section

set_option maxRecDepth 16384

noncomputable section

namespace Cert.Kernel5Ideal.Val

open Idealize.ShloMosaic Idealize.ShloMosaic.TcCoe Idealize.SL.Sem Idealize.ShloMosaic.Pipeline
open Cert.Kernel5Ideal Cert.Kernel5Ideal.Gen Cert.Reals Cert.Attn

/-- The first lane of rows `o` to `o + n` of a slab. -/
theorem ldCol {N n o : ℕ} {X : (⟨3, ![1, N, 128]⟩ : Shape).Idx → EReal} {x : ℕ → ℝ} (hX : IsR3 X fun _ r _ => x r)
    (inb : ∀ a, (![0, o, 0] : Fin 3 → ℕ) a + (![1, n, 1] : Fin 3 → ℕ) a ≤ (⟨3, ![1, N, 128]⟩ : Shape).size a) :
    IsR3 (n0 := 1) (n1 := n) (n2 := 1) (fun i => X ((Rect.unit (s := ⟨3, ![1, N, 128]⟩) ![0, o, 0] ![1, n, 1] inb).idx i)) fun _ r _ => x (o + r) := fun i =>
  (hX _).trans (congrArg _ (by simp [Rect.idx_unit_val]))

theorem ix1 : (∀ t : Fin cfg1.N, win1_0.index t = ![t.val % 4, t.val / 4]) ∧ (∀ t : Fin cfg1.N, win1_1.index t = ![0, t.val / 4])
    ∧ (∀ t : Fin cfg1.N, win1_2.index t = ![0, t.val / 4 * 2 + 1]) ∧ (∀ t : Fin cfg1.N, win1_3.index t = ![t.val % 4, t.val / 4])
    ∧ (∀ t : Fin cfg1.N, win1_4.index t = ![t.val % 4, t.val / 4]) ∧ (∀ t : Fin cfg1.N, win1_5.index t = ![t.val / 4, t.val % 4, 0])
    ∧ (∀ t : Fin cfg1.N, win1_6.index t = ![t.val % 4, t.val / 4]) ∧ (∀ t : Fin cfg1.N, win1_7.index t = ![0, t.val / 4])
    ∧ (∀ t : Fin cfg1.N, win1_8.index t = ![0, t.val / 4]) := by decide +kernel

section Run
variable {V : (c : Dev nD) → (b : Ref sig .tc) → Buf (Elt Ideal) ((c : Thread nD τ).loc b)} {q k kv g : ℕ → ℕ → ℝ}

/-- What the backward kernel starts from: the four arguments, and the forward kernel's two results. -/
structure Start (V : (c : Dev nD) → (b : Ref sig .tc) → Buf (Elt Ideal) ((c : Thread nD τ).loc b)) (c : Dev nD) (q k kv g : ℕ → ℕ → ℝ) : Prop where
  hq : IsR2 (n0 := 4096) (n1 := 1024) (V c main_arg0) q
  hk : IsR2 (n0 := 4096) (n1 := 1024) (V c main_arg1) k
  hv : IsR2 (n0 := 4096) (n1 := 1024) (V c main_arg2) kv
  hg : IsR2 (n0 := 4096) (n1 := 512) (V c main_arg3) g
  ho : IsR2 (n0 := 4096) (n1 := 512) (V c main_v0_0) fun r j => O 256 1 cs q k (vals kv) (j / 128) r (j % 128)
  hl : IsR3 (n0 := 4) (n1 := 4096) (n2 := 128) (V c main_v0_1) fun h r _ => Lse 256 1 cs q k h r

variable {c : Dev nD} (S : Start V c q k kv g) (t : Fin cfg1.N)
include S

theorem Start.q1 : IsR2 (n0 := 1024) (n1 := 256) (iblk1 V c 0 t) (qT 256 q t) := fun y => by
  blk_simp [iblk1]
  refine (S.hq _).trans (congrArg _ ?_)
  blk_simp [ix1.1 t]
  rfl
theorem Start.k1 : IsR2 (n0 := 4096) (n1 := 256) (iblk1 V c 1 t) (kT 256 k t) := fun y => by
  blk_simp [iblk1]
  refine (S.hk _).trans (congrArg _ ?_)
  blk_simp [ix1.2.1 t]
  simp [kT, head]
theorem Start.v1 : IsR2 (n0 := 4096) (n1 := 128) (iblk1 V c 2 t) (kT 128 (vals kv) t) := fun y => by
  blk_simp [iblk1]
  refine (S.hv _).trans (congrArg _ ?_)
  blk_simp [ix1.2.2.1 t]
  unfold kT head vals
  rw [Nat.div_one, v_cols _ _ (y 1).isLt]
theorem Start.g1 : IsR2 (n0 := 1024) (n1 := 128) (iblk1 V c 4 t) (qT 128 g t) := fun y => by
  blk_simp [iblk1]
  refine (S.hg _).trans (congrArg _ ?_)
  blk_simp [ix1.2.2.2.2.1 t]
  rfl
theorem Start.o1 : IsR2 (n0 := 1024) (n1 := 128) (iblk1 V c 3 t) (tO 256 cs (qT 256 q t) (kT 256 k t) (kT 128 (vals kv) t)) := fun y => by
  blk_simp [iblk1]
  refine (S.ho _).trans (congrArg _ ?_)
  blk_simp [ix1.2.2.2.1 t]
  idx_bounds y
  have e1 : (t.val / 4 * 128 + (y 1).val) / 128 = t.val / 4 := by omega
  have e2 : (t.val / 4 * 128 + (y 1).val) % 128 = (y 1).val := by omega
  rw [e1, e2]; rfl
theorem Start.l1 : IsR3 (n0 := 1) (n1 := 1024) (n2 := 128) (iblk1 V c 5 t) fun _ r _ => tLse 256 cs (qT 256 q t) (kT 256 k t) r := fun y => by
  blk_simp [iblk1]
  refine (S.hl _).trans (congrArg _ ?_)
  blk_simp [ix1.2.2.2.2.2.1 t]
  rfl

/-- The query gradient's block. -/
theorem Start.dq_block : IsR2 (n0 := 1024) (n1 := 256) (outsAt1 V c t.val t.isLt).1 (tDQ 256 cs (qT 256 q t) (kT 256 k t) (kT 128 (vals kv) t) (qT 128 g t)) := fun y => by
  by_cases h : t.val % 4 = 0
  · rw [outsAt1_A V c t h]; frame_out
    canon_tiles x ha
    case piece0 => exact (dq_chunk (ldRows (S.q1 t) inb_S1024x256_S256x256_768_0) (S.k1 t) (S.v1 t) (ldCol (S.l1 t) inb_S1x1024x128_S1x256x1_0_768_0) (ldRows (S.g1 t) inb_S1024x128_S256x128_768_0) (ldRows (S.o1 t) inb_S1024x128_S256x128_768_0) x).trans (by rw [ha0, ha1]; rfl)
    case piece1 => exact (dq_chunk (ldRows (S.q1 t) inb_S1024x256_S256x256_512_0) (S.k1 t) (S.v1 t) (ldCol (S.l1 t) inb_S1x1024x128_S1x256x1_0_512_0) (ldRows (S.g1 t) inb_S1024x128_S256x128_512_0) (ldRows (S.o1 t) inb_S1024x128_S256x128_512_0) x).trans (by rw [ha0, ha1]; rfl)
    case piece2 => exact (dq_chunk (ldRows (S.q1 t) inb_S1024x256_S256x256_256_0) (S.k1 t) (S.v1 t) (ldCol (S.l1 t) inb_S1x1024x128_S1x256x1_0_256_0) (ldRows (S.g1 t) inb_S1024x128_S256x128_256_0) (ldRows (S.o1 t) inb_S1024x128_S256x128_256_0) x).trans (by rw [ha0, ha1]; rfl)
    case piece3 => exact (dq_chunk (ldRows (S.q1 t) inb_S1024x256_S256x256_0_0) (S.k1 t) (S.v1 t) (ldCol (S.l1 t) inb_S1x1024x128_S1x256x1_0_0_0) (ldRows (S.g1 t) inb_S1024x128_S256x128_0_0) (ldRows (S.o1 t) inb_S1024x128_S256x128_0_0) x).trans (by rw [ha0, ha1]; simp only [tDQ, tDS, tP, tL, tDP, tDlt, tO, tS, Nat.zero_add])
  · rw [outsAt1_B V c t h]; frame_out
    canon_tiles x ha
    case piece0 => exact (dq_chunk (ldRows (S.q1 t) inb_S1024x256_S256x256_768_0) (S.k1 t) (S.v1 t) (ldCol (S.l1 t) inb_S1x1024x128_S1x256x1_0_768_0) (ldRows (S.g1 t) inb_S1024x128_S256x128_768_0) (ldRows (S.o1 t) inb_S1024x128_S256x128_768_0) x).trans (by rw [ha0, ha1]; rfl)
    case piece1 => exact (dq_chunk (ldRows (S.q1 t) inb_S1024x256_S256x256_512_0) (S.k1 t) (S.v1 t) (ldCol (S.l1 t) inb_S1x1024x128_S1x256x1_0_512_0) (ldRows (S.g1 t) inb_S1024x128_S256x128_512_0) (ldRows (S.o1 t) inb_S1024x128_S256x128_512_0) x).trans (by rw [ha0, ha1]; rfl)
    case piece2 => exact (dq_chunk (ldRows (S.q1 t) inb_S1024x256_S256x256_256_0) (S.k1 t) (S.v1 t) (ldCol (S.l1 t) inb_S1x1024x128_S1x256x1_0_256_0) (ldRows (S.g1 t) inb_S1024x128_S256x128_256_0) (ldRows (S.o1 t) inb_S1024x128_S256x128_256_0) x).trans (by rw [ha0, ha1]; rfl)
    case piece3 => exact (dq_chunk (ldRows (S.q1 t) inb_S1024x256_S256x256_0_0) (S.k1 t) (S.v1 t) (ldCol (S.l1 t) inb_S1x1024x128_S1x256x1_0_0_0) (ldRows (S.g1 t) inb_S1024x128_S256x128_0_0) (ldRows (S.o1 t) inb_S1024x128_S256x128_0_0) x).trans (by rw [ha0, ha1]; simp only [tDQ, tDS, tP, tL, tDP, tDlt, tO, tS, Nat.zero_add])

omit S in
theorem sum_four (f : ℕ → ℝ) (x : ℝ) : x + ∑ r : Fin 256, f (0 + r) + ∑ r : Fin 256, f (256 + r) + ∑ r : Fin 256, f (512 + r)
    + ∑ r : Fin 256, f (768 + r) = x + ∑ r : Fin 1024, f r := by
  rw [Fin.sum_univ_eq_sum_range (fun r => f (0 + r)), Fin.sum_univ_eq_sum_range (fun r => f (256 + r)), Fin.sum_univ_eq_sum_range (fun r => f (512 + r)),
    Fin.sum_univ_eq_sum_range (fun r => f (768 + r)), Fin.sum_univ_eq_sum_range f, show 1024 = 256 + 256 + 256 + 256 from rfl, Finset.sum_range_add,
    Finset.sum_range_add, Finset.sum_range_add]
  simp only [Nat.zero_add, add_assoc, Nat.reduceAdd]

/-- One grid point's share of the key gradient. -/
def dkPart (q k kv g : ℕ → ℕ → ℝ) (t j d : ℕ) : ℝ := ∑ r : Fin 1024, tDS 256 cs (qT 256 q t) (kT 256 k t) (kT 128 (vals kv) t) (qT 128 g t) r j * qT 256 q t r d
/-- One grid point's share of the value gradient. -/
def dvPart (q k g : ℕ → ℕ → ℝ) (t j d : ℕ) : ℝ := ∑ r : Fin 1024, tP 256 cs (qT 256 q t) (kT 256 k t) r j * qT 128 g t r d

theorem Start.dk_first (h : t.val % 4 = 0) : IsR2 (n0 := 4096) (n1 := 256) (outsAt1 V c t.val t.isLt).2.1 (dkPart q k kv g t) := by
  have h0 := dk_chunk zero_k (ldRows (S.q1 t) inb_S1024x256_S256x256_0_0) (S.k1 t) (S.v1 t) (ldCol (S.l1 t) inb_S1x1024x128_S1x256x1_0_0_0) (ldRows (S.g1 t) inb_S1024x128_S256x128_0_0) (ldRows (S.o1 t) inb_S1024x128_S256x128_0_0)
  have h1 := dk_chunk h0 (ldRows (S.q1 t) inb_S1024x256_S256x256_256_0) (S.k1 t) (S.v1 t) (ldCol (S.l1 t) inb_S1x1024x128_S1x256x1_0_256_0) (ldRows (S.g1 t) inb_S1024x128_S256x128_256_0) (ldRows (S.o1 t) inb_S1024x128_S256x128_256_0)
  have h2 := dk_chunk h1 (ldRows (S.q1 t) inb_S1024x256_S256x256_512_0) (S.k1 t) (S.v1 t) (ldCol (S.l1 t) inb_S1x1024x128_S1x256x1_0_512_0) (ldRows (S.g1 t) inb_S1024x128_S256x128_512_0) (ldRows (S.o1 t) inb_S1024x128_S256x128_512_0)
  have h3 := dk_chunk h2 (ldRows (S.q1 t) inb_S1024x256_S256x256_768_0) (S.k1 t) (S.v1 t) (ldCol (S.l1 t) inb_S1x1024x128_S1x256x1_0_768_0) (ldRows (S.g1 t) inb_S1024x128_S256x128_768_0) (ldRows (S.o1 t) inb_S1024x128_S256x128_768_0)
  rw [outsAt1_A V c t h]; frame_out
  exact IsR2.congr h3 fun j _ d _ => (sum_four (fun r => tDS 256 cs (qT 256 q t) (kT 256 k t) (kT 128 (vals kv) t) (qT 128 g t) r j * qT 256 q t r d) 0).trans (zero_add _)
theorem Start.dv_first (h : t.val % 4 = 0) : IsR2 (n0 := 4096) (n1 := 128) (outsAt1 V c t.val t.isLt).2.2 (dvPart q k g t) := by
  have h0 := dv_chunk zero_v (ldRows (S.q1 t) inb_S1024x256_S256x256_0_0) (S.k1 t) (ldCol (S.l1 t) inb_S1x1024x128_S1x256x1_0_0_0) (ldRows (S.g1 t) inb_S1024x128_S256x128_0_0)
  have h1 := dv_chunk h0 (ldRows (S.q1 t) inb_S1024x256_S256x256_256_0) (S.k1 t) (ldCol (S.l1 t) inb_S1x1024x128_S1x256x1_0_256_0) (ldRows (S.g1 t) inb_S1024x128_S256x128_256_0)
  have h2 := dv_chunk h1 (ldRows (S.q1 t) inb_S1024x256_S256x256_512_0) (S.k1 t) (ldCol (S.l1 t) inb_S1x1024x128_S1x256x1_0_512_0) (ldRows (S.g1 t) inb_S1024x128_S256x128_512_0)
  have h3 := dv_chunk h2 (ldRows (S.q1 t) inb_S1024x256_S256x256_768_0) (S.k1 t) (ldCol (S.l1 t) inb_S1x1024x128_S1x256x1_0_768_0) (ldRows (S.g1 t) inb_S1024x128_S256x128_768_0)
  rw [outsAt1_A V c t h]; frame_out
  exact IsR2.congr h3 fun j _ d _ => (sum_four (fun r => tP 256 cs (qT 256 q t) (kT 256 k t) r j * qT 128 g t r d) 0).trans (zero_add _)
theorem Start.dk_next (h : ¬t.val % 4 = 0) {x : ℕ → ℕ → ℝ} (hx : IsR2 (n0 := 4096) (n1 := 256) (outsAt1 V c (t.val - 1) (by omega)).2.1 x) :
    IsR2 (n0 := 4096) (n1 := 256) (outsAt1 V c t.val t.isLt).2.1 fun j d => x j d + dkPart q k kv g t j d := by
  have h0 := dk_chunk hx (ldRows (S.q1 t) inb_S1024x256_S256x256_0_0) (S.k1 t) (S.v1 t) (ldCol (S.l1 t) inb_S1x1024x128_S1x256x1_0_0_0) (ldRows (S.g1 t) inb_S1024x128_S256x128_0_0) (ldRows (S.o1 t) inb_S1024x128_S256x128_0_0)
  have h1 := dk_chunk h0 (ldRows (S.q1 t) inb_S1024x256_S256x256_256_0) (S.k1 t) (S.v1 t) (ldCol (S.l1 t) inb_S1x1024x128_S1x256x1_0_256_0) (ldRows (S.g1 t) inb_S1024x128_S256x128_256_0) (ldRows (S.o1 t) inb_S1024x128_S256x128_256_0)
  have h2 := dk_chunk h1 (ldRows (S.q1 t) inb_S1024x256_S256x256_512_0) (S.k1 t) (S.v1 t) (ldCol (S.l1 t) inb_S1x1024x128_S1x256x1_0_512_0) (ldRows (S.g1 t) inb_S1024x128_S256x128_512_0) (ldRows (S.o1 t) inb_S1024x128_S256x128_512_0)
  have h3 := dk_chunk h2 (ldRows (S.q1 t) inb_S1024x256_S256x256_768_0) (S.k1 t) (S.v1 t) (ldCol (S.l1 t) inb_S1x1024x128_S1x256x1_0_768_0) (ldRows (S.g1 t) inb_S1024x128_S256x128_768_0) (ldRows (S.o1 t) inb_S1024x128_S256x128_768_0)
  rw [outsAt1_B V c t h]; frame_out
  exact IsR2.congr h3 fun j _ d _ => sum_four (fun r => tDS 256 cs (qT 256 q t) (kT 256 k t) (kT 128 (vals kv) t) (qT 128 g t) r j * qT 256 q t r d) (x j d)
theorem Start.dv_next (h : ¬t.val % 4 = 0) {x : ℕ → ℕ → ℝ} (hx : IsR2 (n0 := 4096) (n1 := 128) (outsAt1 V c (t.val - 1) (by omega)).2.2 x) :
    IsR2 (n0 := 4096) (n1 := 128) (outsAt1 V c t.val t.isLt).2.2 fun j d => x j d + dvPart q k g t j d := by
  have h0 := dv_chunk hx (ldRows (S.q1 t) inb_S1024x256_S256x256_0_0) (S.k1 t) (ldCol (S.l1 t) inb_S1x1024x128_S1x256x1_0_0_0) (ldRows (S.g1 t) inb_S1024x128_S256x128_0_0)
  have h1 := dv_chunk h0 (ldRows (S.q1 t) inb_S1024x256_S256x256_256_0) (S.k1 t) (ldCol (S.l1 t) inb_S1x1024x128_S1x256x1_0_256_0) (ldRows (S.g1 t) inb_S1024x128_S256x128_256_0)
  have h2 := dv_chunk h1 (ldRows (S.q1 t) inb_S1024x256_S256x256_512_0) (S.k1 t) (ldCol (S.l1 t) inb_S1x1024x128_S1x256x1_0_512_0) (ldRows (S.g1 t) inb_S1024x128_S256x128_512_0)
  have h3 := dv_chunk h2 (ldRows (S.q1 t) inb_S1024x256_S256x256_768_0) (S.k1 t) (ldCol (S.l1 t) inb_S1x1024x128_S1x256x1_0_768_0) (ldRows (S.g1 t) inb_S1024x128_S256x128_768_0)
  rw [outsAt1_B V c t h]; frame_out
  exact IsR2.congr h3 fun j _ d _ => sum_four (fun r => tP 256 cs (qT 256 q t) (kT 256 k t) r j * qT 128 g t r d) (x j d)

theorem Start.dk_sum (n : ℕ) (hn : n < cfg1.N) : IsR2 (n0 := 4096) (n1 := 256) (outsAt1 V c n hn).2.1
    fun j d => ∑ s ∈ Finset.range (n % 4 + 1), dkPart q k kv g (n - n % 4 + s) j d := by
  induction n with
  | zero => exact (S.dk_first ⟨0, hn⟩ rfl).congr fun j _ d _ => by simp
  | succ n ih =>
    by_cases h : (n + 1) % 4 = 0
    · exact (S.dk_first ⟨n + 1, hn⟩ h).congr fun j _ d _ => by simp [h]
    · refine (S.dk_next ⟨n + 1, hn⟩ h (ih (by omega))).congr fun j _ d _ => ?_
      have e : (n + 1) % 4 = n % 4 + 1 := by omega
      rw [e, Finset.sum_range_succ _ (n % 4 + 1), show n + 1 - (n % 4 + 1) = n - n % 4 by omega, show n - n % 4 + (n % 4 + 1) = n + 1 by omega]
theorem Start.dv_sum (n : ℕ) (hn : n < cfg1.N) : IsR2 (n0 := 4096) (n1 := 128) (outsAt1 V c n hn).2.2
    fun j d => ∑ s ∈ Finset.range (n % 4 + 1), dvPart q k g (n - n % 4 + s) j d := by
  induction n with
  | zero => exact (S.dv_first ⟨0, hn⟩ rfl).congr fun j _ d _ => by simp
  | succ n ih =>
    by_cases h : (n + 1) % 4 = 0
    · exact (S.dv_first ⟨n + 1, hn⟩ h).congr fun j _ d _ => by simp [h]
    · refine (S.dv_next ⟨n + 1, hn⟩ h (ih (by omega))).congr fun j _ d _ => ?_
      have e : (n + 1) % 4 = n % 4 + 1 := by omega
      rw [e, Finset.sum_range_succ _ (n % 4 + 1), show n + 1 - (n % 4 + 1) = n - n % 4 by omega, show n - n % 4 + (n % 4 + 1) = n + 1 by omega]

omit S in
/-- The four points of a head, as all its rows. -/
theorem regroup (F : ℕ → ℕ → ℝ) (u : ℕ) :
    ∑ s ∈ Finset.range 4, ∑ r : Fin 1024, F ((u * 4 + s) / 4) ((u * 4 + s) % 4 * 1024 + r) = ∑ e : Fin 1, ∑ i : Fin 4096, F (u * 1 + e) i := by
  have key : ∀ G : ℕ → ℝ, ∑ i : Fin 4096, G i = ∑ a ∈ Finset.range 4, ∑ r : Fin 1024, G (a * 1024 + r) := fun G => by
    rw [Fin.sum_univ_eq_sum_range G, show 4096 = 1024 + 1024 + 1024 + 1024 from rfl, Finset.sum_range_add, Finset.sum_range_add, Finset.sum_range_add]
    simp only [Finset.sum_range_succ _ 3, Finset.sum_range_succ _ 2, Finset.sum_range_succ _ 1, Finset.sum_range_one,
      Nat.zero_mul, Nat.zero_add, Nat.reduceMul, Nat.reduceAdd, Nat.one_mul]
    rw [Fin.sum_univ_eq_sum_range G, Fin.sum_univ_eq_sum_range (fun r => G (1024 + r)), Fin.sum_univ_eq_sum_range (fun r => G (2048 + r)),
      Fin.sum_univ_eq_sum_range (fun r => G (3072 + r))]
  rw [Fin.sum_univ_one, key]
  refine Finset.sum_congr rfl fun a ha => Finset.sum_congr rfl fun r _ => ?_
  have := Finset.mem_range.mp ha
  congr 2
  all_goals simp
  all_goals omega

/-- The three arrays the backward kernel leaves. -/
theorem Start.dq_array : IsR2 (n0 := 4096) (n1 := 1024) ((dat1 V c).arrAt 6 cfg1.N) fun r j => DQ 256 1 cs q k (vals kv) g (j / 256) r (j % 256) := by
  intro i
  refine (dat1 V c).arrAt_forall_of_covers 6 (fun i x => x = ((DQ 256 1 cs q k (vals kv) g ((i 1).val / 256) (i 0).val ((i 1).val % 256) : ℝ) : EReal))
    (by decide +kernel) (fun t _ y => ?_) i
  blk_simp [ix1.2.2.2.2.2.2.1 t]
  rw [after1_6]
  refine (S.dq_block t _).trans (congrArg _ ?_)
  idx_bounds y
  have e1 : (t.val / 4 * 256 + (y 1).val) / 256 = t.val / 4 := by omega
  have e2 : (t.val / 4 * 256 + (y 1).val) % 256 = (y 1).val := by omega
  rw [e1, e2]; rfl
theorem Start.dk_array : IsR2 (n0 := 4096) (n1 := 1024) ((dat1 V c).arrAt 7 cfg1.N) fun r j => DK 256 1 cs q k (vals kv) g (j / 256) r (j % 256) := by
  intro i
  refine (dat1 V c).arrAt_forall_of_covers 7 (fun i x => x = ((DK 256 1 cs q k (vals kv) g ((i 1).val / 256) (i 0).val ((i 1).val % 256) : ℝ) : EReal))
    (by decide +kernel) (fun t hf y => ?_) i
  have h := (flush1_7 t).mp hf
  blk_simp [ix1.2.2.2.2.2.2.2.1 t]
  rw [after1_7]
  refine (S.dk_sum t.val t.isLt _).trans (congrArg _ ?_)
  idx_bounds y
  have e1 : (t.val / 4 * 256 + (y 1).val) / 256 = t.val / 4 := by omega
  have e2 : (t.val / 4 * 256 + (y 1).val) % 256 = (y 1).val := by omega
  rw [e1, e2, h, show t.val - 3 = t.val / 4 * 4 by omega]
  exact (regroup (fun h i => DS 256 1 cs q k (vals kv) g h i _ * head 256 q h i _) _).trans (by simp [DK])
theorem Start.dv_array : IsR2 (n0 := 4096) (n1 := 512) ((dat1 V c).arrAt 8 cfg1.N) fun r j => DV 256 1 cs q k g (j / 128) r (j % 128) := by
  intro i
  refine (dat1 V c).arrAt_forall_of_covers 8 (fun i x => x = ((DV 256 1 cs q k g ((i 1).val / 128) (i 0).val ((i 1).val % 128) : ℝ) : EReal))
    (by decide +kernel) (fun t hf y => ?_) i
  have h := (flush1_8 t).mp hf
  blk_simp [ix1.2.2.2.2.2.2.2.2 t]
  rw [after1_8]
  refine (S.dv_sum t.val t.isLt _).trans (congrArg _ ?_)
  idx_bounds y
  have e1 : (t.val / 4 * 128 + (y 1).val) / 128 = t.val / 4 := by omega
  have e2 : (t.val / 4 * 128 + (y 1).val) % 128 = (y 1).val := by omega
  rw [e1, e2, h, show t.val - 3 = t.val / 4 * 4 by omega]
  exact (regroup (fun h i => P 256 1 cs q k h i _ * head 128 g h i _) _).trans (by simp [DV])
end Run

end Cert.Kernel5Ideal.Val
-- ==== Proof.LatRun.lean ====
/-
  Mixer A's attention: the kernel's run with every buffer's final contents, and its four results at the ideal values.
-/
module

public import proofs.«01_k».proof.Proof.Gen.Kernel5Ideal.Frame
public import proofs.«01_k».proof.Proof.LatBackward

@[expose] public section

set_option maxRecDepth 16384

noncomputable section

namespace Cert.Kernel5Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.Reals Cert.Attn

section
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and each buffer then holds what the two launches leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)
end

variable (m : (ℓ : Loc nD τ sig) → Buf (Elt Ideal) ℓ) (ρ : Dev nD → PrngReg) {q k kv g : ℕ → ℕ → ℝ} (c : Dev nD)

/-- The four arguments as real matrices. -/
structure Args (q k kv g : ℕ → ℕ → ℝ) : Prop where
  hq : IsR2 (n0 := 4096) (n1 := 1024) (m ((c.tc : Thread nD τ).loc main_arg0)) q
  hk : IsR2 (n0 := 4096) (n1 := 1024) (m ((c.tc : Thread nD τ).loc main_arg1)) k
  hv : IsR2 (n0 := 4096) (n1 := 1024) (m ((c.tc : Thread nD τ).loc main_arg2)) kv
  hg : IsR2 (n0 := 4096) (n1 := 512) (m ((c.tc : Thread nD τ).loc main_arg3)) g

variable {m c} (A : Args m c q k kv g)
include A

/-- Between the launches the arguments stand, and the forward kernel's results are the attention and its rows' logarithms. -/
theorem Args.start : Start (V1 m ρ) c q k kv g where
  hq := by rw [show V1 m ρ c main_arg0 = _ from W1_args m ρ c main_arg0 (by decide)]; exact A.hq
  hk := by rw [show V1 m ρ c main_arg1 = _ from W1_args m ρ c main_arg1 (by decide)]; exact A.hk
  hv := by rw [show V1 m ρ c main_arg2 = _ from W1_args m ρ c main_arg2 (by decide)]; exact A.hv
  hg := by rw [show V1 m ρ c main_arg3 = _ from W1_args m ρ c main_arg3 (by decide)]; exact A.hg
  ho := by rw [show V1 m ρ c main_v0_0 = _ from W1_arr m ρ c 3]; exact o_array c A.hq A.hk A.hv
  hl := by rw [show V1 m ρ c main_v0_1 = _ from W1_arr m ρ c 4]; exact lse_array c A.hq A.hk A.hv

theorem Args.o : IsR2 (n0 := 4096) (n1 := 512) (W2 m ρ c (Proc.devRef .tc main_v0_0)) fun r j => O 256 1 cs q k (vals kv) (j / 128) r (j % 128) := by
  rw [W2_of m ρ c main_v0_0 (by decide)]
  exact (A.start ρ).ho
theorem Args.dq : IsR2 (n0 := 4096) (n1 := 1024) (W2 m ρ c (Proc.devRef .tc main_v1_0)) fun r j => DQ 256 1 cs q k (vals kv) g (j / 256) r (j % 256) := by
  rw [show W2 m ρ c (Proc.devRef .tc main_v1_0) = _ from W2_arr m ρ c 6]
  exact (A.start ρ).dq_array
theorem Args.dk : IsR2 (n0 := 4096) (n1 := 1024) (W2 m ρ c (Proc.devRef .tc main_v1_1)) fun r j => DK 256 1 cs q k (vals kv) g (j / 256) r (j % 256) := by
  rw [show W2 m ρ c (Proc.devRef .tc main_v1_1) = _ from W2_arr m ρ c 7]
  exact (A.start ρ).dk_array
theorem Args.dv : IsR2 (n0 := 4096) (n1 := 512) (W2 m ρ c (Proc.devRef .tc main_v1_2)) fun r j => DV 256 1 cs q k g (j / 128) r (j % 128) := by
  rw [show W2 m ρ c (Proc.devRef .tc main_v1_2) = _ from W2_arr m ρ c 8]
  exact (A.start ρ).dv_array

end Cert.Kernel5Ideal.Val
-- ==== Proof.LatRef.lean ====
/-
  Mixer A's reference at the ideal values: each stage of `softmax(q kᵀ / √192) v` and of its derivative as a function of real
  numbers, up to the four results, which are the specification's functions.
-/
module

public import proofs.«01_k».proof.Proof.Gen.Reference5Ideal.Read
public import proofs.«01_k».proof.Proof.Reals
public import proofs.«01_k».proof.Proof.LatSpec

@[expose] public section

set_option maxRecDepth 16384

noncomputable section

namespace Cert.Reference5Ideal.Val

open Idealize.ShloMosaic Idealize.SL.Sem
open Cert.Reference5Ideal Cert.Reference5Ideal.Gen Cert.Reference5Ideal.Read Cert.Reals Cert.Attn

/-- The scale of the scores. -/
abbrev cs : ℝ := (Real.sqrt 192)⁻¹

/-- Three coordinates' real numbers. -/
abbrev R3 {n0 n1 n2 : ℕ} (X : (⟨3, ![n0, n1, n2]⟩ : Shape).Idx → EReal) (x : ℕ → ℕ → ℕ → ℝ) : Prop :=
  ∀ i, X i = ((x (i 0).val (i 1).val (i 2).val : ℝ) : EReal)

section
variable {x0 x1 x2 : (⟨S4096x1024, .bf16⟩ : BufTy).Contents (Elt Ideal)}
  {x3 : (⟨S4096x512, .f32⟩ : BufTy).Contents (Elt Ideal)} {q k kv g : ℕ → ℕ → ℝ}

/-! ## The arguments by heads -/

theorem split1024 (a b d : ℕ) (hb : b < 4) (hd : d < 256) :
    ((a * 4 + b) * 256 + d) / 1024 = a ∧ ((a * 4 + b) * 256 + d) % 1024 = b * 256 + d := by omega
theorem split512 (a b d : ℕ) (hb : b < 4) (hd : d < 128) :
    ((a * 4 + b) * 128 + d) / 512 = a ∧ ((a * 4 + b) * 128 + d) % 512 = b * 128 + d := by omega

theorem q3 (hq : IsR2 x0 q) : R3 (val_main_v5 (F := Ideal) x0) fun r u d => head 256 q u r d := fun i => by
  rw [val_main_v5_apply, val_main_v0_apply]
  have h := split1024 (i 0).val (i 1).val (i 2).val (i 1).isLt (i 2).isLt
  exact (hq _).trans (congrArg _ (congrArg₂ q h.1 h.2))
theorem k3 (hk : IsR2 x1 k) : R3 (val_main_v6 (F := Ideal) x1) fun r u d => head 256 k u r d := fun i => by
  rw [val_main_v6_apply, val_main_v1_apply]
  have h := split1024 (i 0).val (i 1).val (i 2).val (i 1).isLt (i 2).isLt
  exact (hk _).trans (congrArg _ (congrArg₂ k h.1 h.2))
theorem kv3 (hv : IsR2 x2 kv) : R3 (val_main_v3 (F := Ideal) x2) fun r u d => kv r (u * 256 + d) := fun i => by
  rw [val_main_v3_apply, val_main_v2_apply]
  have h := split1024 (i 0).val (i 1).val (i 2).val (i 1).isLt (i 2).isLt
  exact (hv _).trans (congrArg _ (congrArg₂ kv h.1 h.2))
theorem v3 (hv : IsR2 x2 kv) : R3 (val_main_v4 (F := Ideal) x2) fun r u d => head 128 (vals kv) u r d := fun i => by
  rw [val_main_v4_apply]
  refine (kv3 hv _).trans (congrArg _ ?_)
  show kv (i 0).val ((i 1).val * 256 + (128 + (i 2).val)) = head 128 (vals kv) (i 1).val (i 0).val (i 2).val
  rw [head_vals _ _ _ _ (i 2).isLt]
  congr 1
  omega
theorem g3 (hg : IsR2 x3 g) : R3 (val_main_v42 (F := Ideal) x3) fun r u d => head 128 g u r d := fun i => by
  rw [val_main_v42_apply]
  have h := split512 (i 0).val (i 1).val (i 2).val (i 1).isLt (i 2).isLt
  exact (hg _).trans (congrArg _ (congrArg₂ g h.1 h.2))
theorem g3t (hg : IsR2 x3 g) : R3 (val_main_v43 (F := Ideal) x3) fun u d r => head 128 g u r d := fun i => by
  rw [val_main_v43_apply]; exact g3 hg _

/-! ## The softmax -/

theorem root (i : S_.Idx) : val_main_v8 (F := Ideal) i = ((Real.sqrt 192 : ℝ) : EReal) := by
  show Ideal.sqrt (Ideal.ofBits .f32 0x43400000#32) = _
  have : Ideal.ofBits .f32 0x43400000#32 = ((192 : ℝ) : EReal) := by
    simp [Ideal.ofBits, Ideal.ieee, ← EReal.coe_mul]; norm_num
  rw [this, Ideal.sqrt_coe, if_neg (by norm_num)]
theorem root_ne : Real.sqrt 192 ≠ 0 := (Real.sqrt_pos.mpr (by norm_num)).ne'

/-- Head `u`'s scores. -/
abbrev sc (q k : ℕ → ℕ → ℝ) (u i j : ℕ) : ℝ := tS 256 cs (head 256 q u) (head 256 k u) i j

theorem scores (hq : IsR2 x0 q) (hk : IsR2 x1 k) : R3 (val_main_v10 (F := Ideal) x0 x1) (sc q k) := fun i => by
  rw [val_main_v10_apply, val_main_v9_apply, root, val_main_v7_apply]
  rw [sum_eq (f := fun d : Fin 256 => head 256 q (i 0).val (i 1).val d * head 256 k (i 0).val (i 2).val d)
    fun d => by rw [k3 hk, q3 hq, ← EReal.coe_mul]]
  refine (div_real root_ne).trans (congrArg _ ?_)
  unfold sc tS; rw [div_eq_mul_inv]

theorem top_real (hq : IsR2 x0 q) (hk : IsR2 x1 k) (i : S4x4096.Idx) : ∃ M : ℝ, val_main_v18 (F := Ideal) x0 x1 i = (M : EReal) := by
  obtain ⟨M, hM⟩ := fold_max_real (Finset.univ : Finset (Fin 4096)) ⟨0, Finset.mem_univ _⟩
    (g := fun j => val_main_v10 (F := Ideal) x0 x1 ((by decide : S4x4096x4096.Reduces [2] S4x4096).lift i j)) (fun j => scores hq hk _)
  refine ⟨M, ?_⟩
  rw [val_main_v18_apply, val_main_v17_apply]
  have h11 : val_main_v11 (F := Ideal) x0 x1 i = (M : EReal) := by
    unfold val_main_v11
    rw [Host.reduce_eq_fold_single FloatOps.maximumf _ _ _ (by decide : S4x4096x4096.Reduces [2] S4x4096) h_S_ i, ← hM]
    exact congrArg (fun b => Finset.fold max b _ _) ofBits_neg_inf
  rw [h11]
  show max (Ideal.ofBits .f32 0xFF800000#32) _ = _
  rw [ofBits_neg_inf]; simp

/-- Each row's largest score. -/
def mx (x0 x1 : (⟨S4096x1024, .bf16⟩ : BufTy).Contents (Elt Ideal)) (u i : ℕ) : ℝ :=
  (val_main_v18 (F := Ideal) x0 x1 (ValueIdx.ix2 (⟨u % 4, Nat.mod_lt _ (by norm_num)⟩ : Fin 4)
    (⟨i % 4096, Nat.mod_lt _ (by norm_num)⟩ : Fin 4096))).toReal

theorem top_mx (hq : IsR2 x0 q) (hk : IsR2 x1 k) : IsR2 (n0 := 4) (n1 := 4096) (val_main_v18 (F := Ideal) x0 x1) (mx x0 x1) := fun i => by
  obtain ⟨M, hM⟩ := top_real hq hk i
  have e : (ValueIdx.ix2 (⟨(i 0).val % 4, Nat.mod_lt _ (by norm_num)⟩ : Fin 4)
      (⟨(i 1).val % 4096, Nat.mod_lt _ (by norm_num)⟩ : Fin 4096)) = i := by
    exact funext fun a => match a with
      | ⟨0, _⟩ => Fin.ext (Nat.mod_eq_of_lt (i 0).isLt)
      | ⟨1, _⟩ => Fin.ext (Nat.mod_eq_of_lt (i 1).isLt)
  show _ = ((mx x0 x1 (i 0).val (i 1).val : ℝ) : EReal)
  unfold mx
  rw [e, hM, EReal.toReal_coe]

/-- The exponentials and their sums. -/
abbrev ex (q k M : ℕ → ℕ → ℝ) (u i j : ℕ) : ℝ := Real.exp (sc q k u i j - M u i)
abbrev den (q k M : ℕ → ℕ → ℝ) (u i : ℕ) : ℝ := ∑ j : Fin 4096, ex q k M u i j
theorem den_ne (M : ℕ → ℕ → ℝ) (u i : ℕ) : den q k M u i ≠ 0 := (sum_exp_pos (fun j : Fin 4096 => sc q k u i j - M u i) (by norm_num)).ne'

theorem exps (hq : IsR2 x0 q) (hk : IsR2 x1 k) : R3 (val_main_v31 (F := Ideal) x0 x1) (ex q k (mx x0 x1)) := fun i => by
  rw [val_main_v31_apply, val_main_v30_apply, val_main_v29_apply, val_main_v28_apply, top_mx hq hk, scores hq hk]
  rw [Ideal.hostUnary_exp_def, Ideal.subf_def, ← EReal.coe_sub, Ideal.exp_coe]

theorem zero_real : Ideal.ofBits .f32 0x00000000#32 = 0 := by simp [Ideal.ofBits, Ideal.ieee]

theorem dens (hq : IsR2 x0 q) (hk : IsR2 x1 k) : IsR2 (n0 := 4) (n1 := 4096) (val_main_v32 (F := Ideal) x0 x1) (den q k (mx x0 x1)) := fun i => by
  rw [val_main_v32_apply, sum_eq fun j => exps hq hk (idx_main_v32 i j)]
  show Ideal.ofBits .f32 0x00000000#32 + _ = _
  rw [zero_real, zero_add]
theorem dens3 (hq : IsR2 x0 q) (hk : IsR2 x1 k) : R3 (val_main_v33 (F := Ideal) x0 x1) fun u i _ => den q k (mx x0 x1) u i := fun i => by
  rw [val_main_v33_apply]; exact dens hq hk _

/-- Head `u`'s weights. -/
abbrev pr (q k : ℕ → ℕ → ℝ) (u i j : ℕ) : ℝ := tP 256 cs (head 256 q u) (head 256 k u) i j

theorem ex_div (M : ℕ → ℕ → ℝ) (u i j : ℕ) (hj : j < 4096) : ex q k M u i j / den q k M u i = pr q k u i j :=
  softmax_sub (fun j : Fin 4096 => sc q k u i j) (M u i) ⟨j, hj⟩

theorem probs (hq : IsR2 x0 q) (hk : IsR2 x1 k) : R3 (val_main_v35 (F := Ideal) x0 x1) (pr q k) := fun i => by
  rw [val_main_v35_apply, val_main_v34_apply, exps hq hk, dens3 hq hk]
  refine (div_real (den_ne _ _ _)).trans (congrArg _ ?_)
  exact ex_div _ _ _ _ (i 2).isLt

/-! ## The attention's output -/

theorem col512 (a b : ℕ) (hb : b < 512) :
    (a * 512 + b) / 512 = a ∧ (a * 512 + b) / 128 % 4 = b / 128 ∧ (a * 512 + b) % 128 = b % 128 := by omega
theorem col1024 (a b : ℕ) (hb : b < 1024) :
    (a * 1024 + b) / 1024 = a ∧ (a * 1024 + b) / 256 % 4 = b / 256 ∧ (a * 1024 + b) % 256 = b % 256 := by omega

theorem out3 (hq : IsR2 x0 q) (hk : IsR2 x1 k) (hv : IsR2 x2 kv) : R3 (val_main_v40 (F := Ideal) x0 x1 x2)
    fun r u d => O 256 1 cs q k (vals kv) u r d := fun i => by
  rw [val_main_v40_apply, val_main_v39_apply]
  refine (sum_eq (f := fun j : Fin 4096 => head 128 (vals kv) (i 1).val j (i 2).val * pr q k (i 1).val (i 0).val j)
    fun j => by rw [v3 hv, probs hq hk, ← EReal.coe_mul]).trans (congrArg _ ?_)
  simp only [O, tO, Nat.div_one]
  exact Finset.sum_congr rfl fun j _ => mul_comm _ _

theorem o_eq (hq : IsR2 x0 q) (hk : IsR2 x1 k) (hv : IsR2 x2 kv) : IsR2 (n0 := 4096) (n1 := 512) (val_main_v41 (F := Ideal) x0 x1 x2)
    fun r j => O 256 1 cs q k (vals kv) (j / 128) r (j % 128) := fun i => by
  rw [val_main_v41_apply]
  refine (out3 hq hk hv _).trans (congrArg _ ?_)
  obtain ⟨h0, h1, h2⟩ := col512 (i 0).val (i 1).val (i 1).isLt
  show O 256 1 cs q k (vals kv) (((i 0).val * 512 + (i 1).val) / 128 % 4) (((i 0).val * 512 + (i 1).val) / 512)
    (((i 0).val * 512 + (i 1).val) % 128) = _
  rw [h0, h1, h2]

/-! ## The scores' derivative -/

/-- The weights' derivative. -/
abbrev dp (kv g : ℕ → ℕ → ℝ) (u i j : ℕ) : ℝ := tDP (head 128 (vals kv) u) (head 128 g u) i j

theorem dps (hv : IsR2 x2 kv) (hg : IsR2 x3 g) : R3 (val_main_v44 (F := Ideal) x2 x3) (dp kv g) := fun i => by
  rw [val_main_v44_apply]
  exact sum_eq (f := fun d : Fin 128 => head 128 g (i 0).val (i 1).val d * head 128 (vals kv) (i 0).val (i 2).val d)
    fun d => by rw [g3t hg, v3 hv, ← EReal.coe_mul]

theorem one_real : Ideal.ofBits .f32 0x3F800000#32 = ((1 : ℝ) : EReal) := by
  simp [Ideal.ofBits, Ideal.ieee, ← EReal.coe_mul]; norm_num

theorem sq3 (hq : IsR2 x0 q) (hk : IsR2 x1 k) : R3 (val_main_v38 (F := Ideal) x0 x1)
    fun u i _ => 1 / (den q k (mx x0 x1) u i * den q k (mx x0 x1) u i) := fun i => by
  rw [val_main_v38_apply, val_main_v36_apply, dens3 hq hk]
  have h1 : val_main_v37 (F := Ideal) i = ((1 : ℝ) : EReal) := by rw [val_main_v37_apply]; exact one_real
  rw [h1]
  show Ideal.div _ (_ * _) = _
  rw [← EReal.coe_mul, div_real (mul_ne_zero (den_ne _ _ _) (den_ne _ _ _))]

theorem terms (hq : IsR2 x0 q) (hk : IsR2 x1 k) (hv : IsR2 x2 kv) (hg : IsR2 x3 g) : R3 (val_main_v49 (F := Ideal) x0 x1 x2 x3)
    fun u i j => dp kv g u i j * (1 / (den q k (mx x0 x1) u i * den q k (mx x0 x1) u i)) * ex q k (mx x0 x1) u i j := fun i => by
  rw [val_main_v49_apply, val_main_v48_apply, val_main_v47_apply, dps hv hg, sq3 hq hk, exps hq hk]
  show _ * _ * _ = _
  rw [← EReal.coe_mul, ← EReal.coe_mul]

/-- A row's sum of the weights' derivatives by the weights, over the row's denominator. -/
abbrev sm (q k kv g : ℕ → ℕ → ℝ) (M : ℕ → ℕ → ℝ) (u i : ℕ) : ℝ :=
  ∑ j : Fin 4096, dp kv g u i j * (1 / (den q k M u i * den q k M u i)) * ex q k M u i j

theorem sums (hq : IsR2 x0 q) (hk : IsR2 x1 k) (hv : IsR2 x2 kv) (hg : IsR2 x3 g) :
    IsR2 (n0 := 4) (n1 := 4096) (val_main_v50 (F := Ideal) x0 x1 x2 x3) (sm q k kv g (mx x0 x1)) := fun i => by
  rw [val_main_v50_apply, sum_eq fun j => terms hq hk hv hg (idx_main_v50 i j)]
  show Ideal.ofBits .f32 0x00000000#32 + _ = _
  rw [zero_real, zero_add]

theorem unit_col (a b c : ℕ) (hb : b < 4096) (hc : c < 1) :
    ((a * 4096 + b) * 1 + c) / 4096 = a ∧ ((a * 4096 + b) * 1 + c) % 4096 = b := by
  omega

theorem negs (hq : IsR2 x0 q) (hk : IsR2 x1 k) (hv : IsR2 x2 kv) (hg : IsR2 x3 g) : R3 (val_main_v52 (F := Ideal) x0 x1 x2 x3)
    fun u i _ => -sm q k kv g (mx x0 x1) u i := fun i => by
  rw [val_main_v52_apply, val_main_v51_apply, sums hq hk hv hg]
  show -_ = _
  rw [← EReal.coe_neg]
  obtain ⟨h0, h1⟩ := unit_col (i 0).val (i 1).val (i 2).val (i 1).isLt (i 2).isLt
  refine congrArg _ (congrArg Neg.neg ?_)
  show sm q k kv g (mx x0 x1) ((((i 0).val * 4096 + (i 1).val) * 1 + (i 2).val) / 4096)
    ((((i 0).val * 4096 + (i 1).val) * 1 + (i 2).val) % 4096) = _
  rw [h0, h1]

theorem negs2 (hq : IsR2 x0 q) (hk : IsR2 x1 k) (hv : IsR2 x2 kv) (hg : IsR2 x3 g) :
    IsR2 (n0 := 4) (n1 := 4096) (val_main_v55 (F := Ideal) x0 x1 x2 x3) fun u i => -sm q k kv g (mx x0 x1) u i := fun i => by
  rw [val_main_v55_apply, sum_eq fun j => negs hq hk hv hg (idx_main_v55 i j)]
  show Ideal.ofBits .f32 0x00000000#32 + _ = _
  rw [zero_real, zero_add, Fin.sum_univ_one]

/-- A row's sum of its weights' derivatives by its weights is its output's product with its derivative. -/
theorem sum_dp (u i : ℕ) : ∑ j : Fin 4096, dp kv g u i j * pr q k u i j
    = tDlt 256 cs (head 256 q u) (head 256 k u) (head 128 (vals kv) u) (head 128 g u) i := by
  simp only [dp, tDP, tDlt, tO, Finset.sum_mul, Finset.mul_sum]
  rw [Finset.sum_comm]
  exact Finset.sum_congr rfl fun d _ => Finset.sum_congr rfl fun j _ => by ring

theorem sm_eq (M : ℕ → ℕ → ℝ) (u i : ℕ) : sm q k kv g M u i
    = tDlt 256 cs (head 256 q u) (head 256 k u) (head 128 (vals kv) u) (head 128 g u) i / den q k M u i := by
  rw [← sum_dp, Finset.sum_div]
  refine Finset.sum_congr rfl fun j _ => ?_
  rw [← ex_div M u i j j.isLt]
  have h := den_ne (q := q) (k := k) M u i
  generalize den q k M u i = l at h ⊢
  field_simp

/-- The derivative of head `u`'s scores. -/
abbrev dsc (q k kv g : ℕ → ℕ → ℝ) (u i j : ℕ) : ℝ :=
  tDS 256 cs (head 256 q u) (head 256 k u) (head 128 (vals kv) u) (head 128 g u) i j

theorem ds3 (hq : IsR2 x0 q) (hk : IsR2 x1 k) (hv : IsR2 x2 kv) (hg : IsR2 x3 g) : R3 (val_main_v60 (F := Ideal) x0 x1 x2 x3) (dsc q k kv g) := fun i => by
  rw [val_main_v60_apply, val_main_v58_apply, val_main_v57_apply, val_main_v59_apply, val_main_v56_apply, val_main_v54_apply, val_main_v53_apply, root,
    negs2 hq hk hv hg, dps hv hg, dens3 hq hk, exps hq hk]
  show Ideal.div ((Ideal.div _ _ + _) * _) _ = _
  rw [div_real (den_ne _ _ _), ← EReal.coe_add, ← EReal.coe_mul, div_real root_ne]
  refine congrArg _ ?_
  show (dp kv g (i 0).val (i 1).val (i 2).val / den q k (mx x0 x1) (i 0).val (i 1).val
      + -sm q k kv g (mx x0 x1) (i 0).val (i 1).val) * ex q k (mx x0 x1) (i 0).val (i 1).val (i 2).val / Real.sqrt 192 = _
  unfold dsc tDS
  rw [sm_eq, show tP 256 cs (head 256 q (i 0).val) (head 256 k (i 0).val) (i 1).val (i 2).val = _
    from (ex_div (mx x0 x1) (i 0).val (i 1).val (i 2).val (i 2).isLt).symm]
  have h := den_ne (q := q) (k := k) (mx x0 x1) (i 0).val (i 1).val
  generalize den q k (mx x0 x1) (i 0).val (i 1).val = l at h ⊢
  have := root_ne
  field_simp
  ring

/-! ## The three derivatives -/

theorem dq3 (hq : IsR2 x0 q) (hk : IsR2 x1 k) (hv : IsR2 x2 kv) (hg : IsR2 x3 g) : R3 (val_main_v64 (F := Ideal) x0 x1 x2 x3)
    fun r u d => DQ 256 1 cs q k (vals kv) g u r d := fun i => by
  rw [val_main_v64_apply, val_main_v63_apply]
  refine (sum_eq (f := fun j : Fin 4096 => dsc q k kv g (i 1).val (i 0).val j * head 256 k (i 1).val j (i 2).val)
    fun j => by rw [ds3 hq hk hv hg, k3 hk, ← EReal.coe_mul]).trans (congrArg _ ?_)
  simp only [DQ, tDQ, Nat.div_one]
theorem dk3 (hq : IsR2 x0 q) (hk : IsR2 x1 k) (hv : IsR2 x2 kv) (hg : IsR2 x3 g) : R3 (val_main_v62 (F := Ideal) x0 x1 x2 x3)
    fun j u d => DK 256 1 cs q k (vals kv) g u j d := fun i => by
  rw [val_main_v62_apply, val_main_v61_apply]
  refine (sum_eq (f := fun r : Fin 4096 => dsc q k kv g (i 1).val r (i 0).val * head 256 q (i 1).val r (i 2).val)
    fun j => by rw [ds3 hq hk hv hg, q3 hq, ← EReal.coe_mul]).trans (congrArg _ ?_)
  simp only [DK, DS, Fin.sum_univ_one, Nat.mul_one, Nat.div_one, Fin.val_zero, Nat.add_zero]
theorem dv3 (hq : IsR2 x0 q) (hk : IsR2 x1 k) (hg : IsR2 x3 g) : R3 (val_main_v46 (F := Ideal) x0 x1 x3)
    fun j u d => DV 256 1 cs q k g u j d := fun i => by
  rw [val_main_v46_apply, val_main_v45_apply]
  refine (sum_eq (f := fun r : Fin 4096 => head 128 g (i 1).val r (i 2).val * pr q k (i 1).val r (i 0).val)
    fun j => by rw [g3t hg, probs hq hk, ← EReal.coe_mul]).trans (congrArg _ ?_)
  simp only [DV, P, Fin.sum_univ_one, Nat.mul_one, Nat.div_one, Fin.val_zero, Nat.add_zero]
  exact Finset.sum_congr rfl fun j _ => mul_comm _ _

theorem dq_eq (hq : IsR2 x0 q) (hk : IsR2 x1 k) (hv : IsR2 x2 kv) (hg : IsR2 x3 g) :
    IsR2 (n0 := 4096) (n1 := 1024) (val_main_v66 (F := Ideal) x0 x1 x2 x3) fun r j => DQ 256 1 cs q k (vals kv) g (j / 256) r (j % 256) := fun i => by
  rw [val_main_v66_apply]
  refine (dq3 hq hk hv hg _).trans (congrArg _ ?_)
  obtain ⟨h0, h1, h2⟩ := col1024 (i 0).val (i 1).val (i 1).isLt
  show DQ 256 1 cs q k (vals kv) g (((i 0).val * 1024 + (i 1).val) / 256 % 4) (((i 0).val * 1024 + (i 1).val) / 1024)
    (((i 0).val * 1024 + (i 1).val) % 256) = _
  rw [h0, h1, h2]
theorem dk_eq (hq : IsR2 x0 q) (hk : IsR2 x1 k) (hv : IsR2 x2 kv) (hg : IsR2 x3 g) :
    IsR2 (n0 := 4096) (n1 := 1024) (val_main_v65 (F := Ideal) x0 x1 x2 x3) fun r j => DK 256 1 cs q k (vals kv) g (j / 256) r (j % 256) := fun i => by
  rw [val_main_v65_apply]
  refine (dk3 hq hk hv hg _).trans (congrArg _ ?_)
  obtain ⟨h0, h1, h2⟩ := col1024 (i 0).val (i 1).val (i 1).isLt
  show DK 256 1 cs q k (vals kv) g (((i 0).val * 1024 + (i 1).val) / 256 % 4) (((i 0).val * 1024 + (i 1).val) / 1024)
    (((i 0).val * 1024 + (i 1).val) % 256) = _
  rw [h0, h1, h2]
theorem dv_eq (hq : IsR2 x0 q) (hk : IsR2 x1 k) (hg : IsR2 x3 g) :
    IsR2 (n0 := 4096) (n1 := 512) (val_main_v67 (F := Ideal) x0 x1 x3) fun r j => DV 256 1 cs q k g (j / 128) r (j % 128) := fun i => by
  rw [val_main_v67_apply]
  refine (dv3 hq hk hg _).trans (congrArg _ ?_)
  obtain ⟨h0, h1, h2⟩ := col512 (i 0).val (i 1).val (i 1).isLt
  show DV 256 1 cs q k g (((i 0).val * 512 + (i 1).val) / 128 % 4) (((i 0).val * 512 + (i 1).val) / 512) (((i 0).val * 512 + (i 1).val) % 128) = _
  rw [h0, h1, h2]

end
end Cert.Reference5Ideal.Val
-- ==== Proof.LatPre.lean ====
/-
  Mixer A's precondition at the ideal values: every argument holds real numbers.
-/
module

public import proofs.«01_k».proof.Pre_finite5
public import proofs.«01_k».proof.Proof.Pre

@[expose] public section

set_option maxRecDepth 16384

noncomputable section

namespace Cert.Pre_finite5.Val

open Idealize.ShloMosaic
open Cert.Reals Cert.Pre_finite.Val

instance facts : Cert.Pre_finite5.Facts where
  bitsLt_bf16_f32 := by decide
  bcast_S_S4096x1024 := by decide
  reducesTo_S4096x1024_S_d0_1 := by decide
  h_S_ := by decide
  bcast_S_S4096x512 := by decide
  reducesTo_S4096x512_S_d0_1 := by decide

instance : Subsingleton S_.Idx := ⟨fun _ _ => funext fun a => a.elim0⟩

theorem finite (x0 x1 x2 : FVec Ideal S4096x1024 .bf16) (x3 : FVec Ideal S4096x512 .f32)
    (h : Cert.Pre_finite5.fn (F := Ideal) x0 x1 x2 x3 = fun _ => 1#1) :
    ∃ q k kv g : ℕ → ℕ → ℝ, IsR2 (n0 := 4096) (n1 := 1024) x0 q ∧ IsR2 (n0 := 4096) (n1 := 1024) x1 k ∧ IsR2 (n0 := 4096) (n1 := 1024) x2 kv
      ∧ IsR2 (n0 := 4096) (n1 := 512) x3 g := by
  have h' := congrFun h (Shape.Idx.first facts.h_S_)
  unfold Cert.Pre_finite5.fn Cert.Pre_finite5.fn_part1 at h'
  obtain ⟨h012, h3⟩ := IntOp.andi_eq_one.mp h'
  obtain ⟨h01, h2⟩ := IntOp.andi_eq_one.mp h012
  obtain ⟨h0, h1⟩ := IntOp.andi_eq_one.mp h01
  obtain ⟨q, hq⟩ := isR2_of (by norm_num) (by norm_num) x0 fun i => real_of_lt _ (Host.reduce_andi_all _ _ _ _ _ h0 i)
  obtain ⟨k, hk⟩ := isR2_of (by norm_num) (by norm_num) x1 fun i => real_of_lt _ (Host.reduce_andi_all _ _ _ _ _ h1 i)
  obtain ⟨kv, hv⟩ := isR2_of (by norm_num) (by norm_num) x2 fun i => real_of_lt _ (Host.reduce_andi_all _ _ _ _ _ h2 i)
  obtain ⟨g, hg⟩ := isR2_of (by norm_num) (by norm_num) x3 fun i => real_of_lt _ (Host.reduce_andi_all _ _ _ _ _ h3 i)
  exact ⟨q, k, kv, g, hq, hk, hv, hg⟩
end Cert.Pre_finite5.Val
-- ==== Proof.UpProj.lean ====
/-
  Mixer A's up-projections: what each of the six calls computes of its blocks, and the whole arrays they leave, over the extended reals.
-/
module

public import proofs.«01_k».proof.Proof.Gen.Kernel6Ideal.Frame
public import proofs.«01_k».proof.Proof.Proj
public import Idealize.ShloMosaic.Lib.Pipeline.ValueKit
public import Idealize.ShloMosaic.Lib.Pipeline.ValueKit.Point

@[expose] public section

set_option maxRecDepth 16384

noncomputable section

namespace Cert.Kernel6Ideal.Val

open Idealize.ShloMosaic Idealize.ShloMosaic.TcCoe Idealize.SL.Sem Idealize.ShloMosaic.Pipeline
open Cert.Kernel6Ideal Cert.Kernel6Ideal.Gen Cert.Ext

/-! ## The blocks -/

section Blocks
variable {a b : ℕ → ℕ → EReal}

theorem q_block {A : Vec Ideal S1024x512 .bf16} {B : Vec Ideal S512x1024 .bf16} (hA : V2 A a) (hB : V2 B b) :
    V2 (out0_2 (F := Ideal) A B) (nn 512 a b) := fun y => by
  unfold out0_2
  canon_tiles z ha using cover0_2 ..
  unfold k0_pay1
  simp only [shapeCast_self]
  exact ((V2.nn (φ₁ := .bf16) (φ₂ := .bf16) (hA.ld inb_S1024x512_S1024x512_0_0) (hB.ld inb_S512x1024_S512x1024_0_0)) z).trans (by rw [ha0, ha1])

theorem kv_block {A : Vec Ideal S1024x512 .bf16} {B : Vec Ideal S512x1024 .bf16} (hA : V2 A a) (hB : V2 B b) :
    V2 (out1_2 (F := Ideal) A B) (nn 512 a b) := fun y => by
  unfold out1_2
  canon_tiles z ha using cover1_2 ..
  unfold k1_pay1
  simp only [shapeCast_self, truncf_apply]
  exact ((V2.nn (φ₁ := .bf16) (φ₂ := .bf16) (hA.ld inb_S1024x512_S1024x512_0_0) (hB.ld inb_S512x1024_S512x1024_0_0)) z).trans (by rw [ha0, ha1])

theorem dckv_block {A : Vec Ideal S1024x1024 .bf16} {B : Vec Ideal S512x1024 .bf16} (hA : V2 A a) (hB : V2 B b) :
    V2 (out2_2 (F := Ideal) A B) (nt 1024 a b) := fun y => by
  unfold out2_2
  canon_tiles z ha using cover2_2 ..
  unfold k2_pay1
  simp only [shapeCast_self]
  exact ((V2.nt (φ₁ := .bf16) (φ₂ := .bf16) (hA.ld inb_S1024x1024_S1024x1024_0_0) (hB.ld inb_S512x1024_S512x1024_0_0)) z).trans (by rw [ha0, ha1])

theorem dukv_block {A : Vec Ideal S4096x512 .bf16} {B : Vec Ideal S4096x1024 .bf16} (hA : V2 A a) (hB : V2 B b) :
    V2 (out3_2 (F := Ideal) A B) (tn 4096 a b) := fun y => by
  unfold out3_2
  canon_tiles z ha using cover3_2 ..
  unfold k3_pay1
  simp only [shapeCast_self, truncf_apply]
  exact ((V2.tn (φ₁ := .bf16) (φ₂ := .bf16) (hA.ld inb_S4096x512_S4096x512_0_0) (hB.ld inb_S4096x1024_S4096x1024_0_0) dot_S4096x512_S4096x1024_S512x1024_0_0_1_1_n_n rfl rfl
    (fun i k => ⟨ValueIdx.contrEquiv1_symm_val dot_S4096x512_S4096x1024_S512x1024_0_0_1_1_n_n 4096 rfl rfl k, rfl⟩)
    (fun i k => ⟨ValueIdx.contrEquiv1_symm_val dot_S4096x512_S4096x1024_S512x1024_0_0_1_1_n_n 4096 rfl rfl k, rfl⟩)) z).trans (by rw [ha0, ha1])

theorem dcq_block {A : Vec Ideal S1024x1024 .bf16} {B : Vec Ideal S512x1024 .bf16} (hA : V2 A a) (hB : V2 B b) :
    V2 (out4_2 (F := Ideal) A B) (nt 1024 a b) := fun y => by
  unfold out4_2
  canon_tiles z ha using cover4_2 ..
  unfold k4_pay1
  simp only [shapeCast_self]
  exact ((V2.nt (φ₁ := .bf16) (φ₂ := .bf16) (hA.ld inb_S1024x1024_S1024x1024_0_0) (hB.ld inb_S512x1024_S512x1024_0_0)) z).trans (by rw [ha0, ha1])

theorem duq_block {A : Vec Ideal S4096x512 .bf16} {B : Vec Ideal S4096x1024 .bf16} (hA : V2 A a) (hB : V2 B b) :
    V2 (out5_2 (F := Ideal) A B) (tn 4096 a b) := fun y => by
  unfold out5_2
  canon_tiles z ha using cover5_2 ..
  unfold k5_pay1
  simp only [shapeCast_self, truncf_apply]
  exact ((V2.tn (φ₁ := .bf16) (φ₂ := .bf16) (hA.ld inb_S4096x512_S4096x512_0_0) (hB.ld inb_S4096x1024_S4096x1024_0_0) dot_S4096x512_S4096x1024_S512x1024_0_0_1_1_n_n rfl rfl
    (fun i k => ⟨ValueIdx.contrEquiv1_symm_val dot_S4096x512_S4096x1024_S512x1024_0_0_1_1_n_n 4096 rfl rfl k, rfl⟩)
    (fun i k => ⟨ValueIdx.contrEquiv1_symm_val dot_S4096x512_S4096x1024_S512x1024_0_0_1_1_n_n 4096 rfl rfl k, rfl⟩)) z).trans (by rw [ha0, ha1])

end Blocks

/-! ## The grids' indices -/

theorem ix0 : (∀ t : Fin cfg0.N, win0_0.index t = ![t.val, 0]) ∧ (∀ t : Fin cfg0.N, win0_1.index t = ![0, 0]) ∧ (∀ t : Fin cfg0.N, win0_2.index t = ![t.val, 0]) := by
  decide +kernel
theorem ix1 : (∀ t : Fin cfg1.N, win1_0.index t = ![t.val, 0]) ∧ (∀ t : Fin cfg1.N, win1_1.index t = ![0, 0]) ∧ (∀ t : Fin cfg1.N, win1_2.index t = ![t.val, 0]) := by
  decide +kernel
theorem ix2 : (∀ t : Fin cfg2.N, win2_0.index t = ![t.val, 0]) ∧ (∀ t : Fin cfg2.N, win2_1.index t = ![0, 0]) ∧ (∀ t : Fin cfg2.N, win2_2.index t = ![t.val, 0]) := by
  decide +kernel
theorem ix3 : (∀ t : Fin cfg3.N, win3_0.index t = ![0, 0]) ∧ (∀ t : Fin cfg3.N, win3_1.index t = ![0, 0]) ∧ (∀ t : Fin cfg3.N, win3_2.index t = ![0, 0]) := by
  decide +kernel
theorem ix4 : (∀ t : Fin cfg4.N, win4_0.index t = ![t.val, 0]) ∧ (∀ t : Fin cfg4.N, win4_1.index t = ![0, 0]) ∧ (∀ t : Fin cfg4.N, win4_2.index t = ![t.val, 0]) := by
  decide +kernel
theorem ix5 : (∀ t : Fin cfg5.N, win5_0.index t = ![0, 0]) ∧ (∀ t : Fin cfg5.N, win5_1.index t = ![0, 0]) ∧ (∀ t : Fin cfg5.N, win5_2.index t = ![0, 0]) := by
  decide +kernel

/-! ## The arrays -/

variable {V : (c : Dev nD) → (b : Ref sig .tc) → Buf (Elt Ideal) ((c : Thread nD τ).loc b)} (c : Dev nD) {a b : ℕ → ℕ → EReal}

theorem q_array (ha : V2 (n := 4096) (m := 512) (V c main_arg0) a) (hb : V2 (n := 512) (m := 1024) (V c main_arg1) b) :
    V2 (n := 4096) (m := 1024) ((dat0 V c).arrAt 2 cfg0.N) (nn 512 a b) := by
  intro i
  refine (dat0 V c).arrAt_forall_of_covers 2 (fun i v => v = nn 512 a b (i 0).val (i 1).val) (by decide +kernel) (fun t _ y => ?_) i
  have b0 : V2 (n := 1024) (m := 512) (iblk0 V c 0 t) fun r k => a (t.val * 1024 + r) k := fun y => by
    blk_simp [iblk0]
    refine (ha _).trans ?_
    blk_simp [ix0.1 t]
  have b1 : V2 (n := 512) (m := 1024) (iblk0 V c 1 t) fun r k => b r k := fun y => by
    blk_simp [iblk0]
    refine (hb _).trans ?_
    blk_simp [ix0.2.1 t]
  blk_simp [ix0.2.2 t]
  rw [after0_2]
  exact q_block b0 b1 _

theorem kv_array (ha : V2 (n := 4096) (m := 512) (V c main_arg2) a) (hb : V2 (n := 512) (m := 1024) (V c main_arg3) b) :
    V2 (n := 4096) (m := 1024) ((dat1 V c).arrAt 2 cfg1.N) (nn 512 a b) := by
  intro i
  refine (dat1 V c).arrAt_forall_of_covers 2 (fun i v => v = nn 512 a b (i 0).val (i 1).val) (by decide +kernel) (fun t _ y => ?_) i
  have b0 : V2 (n := 1024) (m := 512) (iblk1 V c 0 t) fun r k => a (t.val * 1024 + r) k := fun y => by
    blk_simp [iblk1]
    refine (ha _).trans ?_
    blk_simp [ix1.1 t]
  have b1 : V2 (n := 512) (m := 1024) (iblk1 V c 1 t) fun r k => b r k := fun y => by
    blk_simp [iblk1]
    refine (hb _).trans ?_
    blk_simp [ix1.2.1 t]
  blk_simp [ix1.2.2 t]
  rw [after1_2]
  exact kv_block b0 b1 _

theorem dckv_array (ha : V2 (n := 4096) (m := 1024) (V c main_arg5) a) (hb : V2 (n := 512) (m := 1024) (V c main_arg3) b) :
    V2 (n := 4096) (m := 512) ((dat2 V c).arrAt 2 cfg2.N) (nt 1024 a b) := by
  intro i
  refine (dat2 V c).arrAt_forall_of_covers 2 (fun i v => v = nt 1024 a b (i 0).val (i 1).val) (by decide +kernel) (fun t _ y => ?_) i
  have b0 : V2 (n := 1024) (m := 1024) (iblk2 V c 0 t) fun r k => a (t.val * 1024 + r) k := fun y => by
    blk_simp [iblk2]
    refine (ha _).trans ?_
    blk_simp [ix2.1 t]
  have b1 : V2 (n := 512) (m := 1024) (iblk2 V c 1 t) fun r k => b r k := fun y => by
    blk_simp [iblk2]
    refine (hb _).trans ?_
    blk_simp [ix2.2.1 t]
  blk_simp [ix2.2.2 t]
  rw [after2_2]
  exact dckv_block b0 b1 _

theorem dukv_array (ha : V2 (n := 4096) (m := 512) (V c main_arg2) a) (hb : V2 (n := 4096) (m := 1024) (V c main_arg5) b) :
    V2 (n := 512) (m := 1024) ((dat3 V c).arrAt 2 cfg3.N) (tn 4096 a b) := by
  intro i
  refine (dat3 V c).arrAt_forall_of_covers 2 (fun i v => v = tn 4096 a b (i 0).val (i 1).val) (by decide +kernel) (fun t _ y => ?_) i
  have b0 : V2 (n := 4096) (m := 512) (iblk3 V c 0 t) fun r k => a r k := fun y => by
    blk_simp [iblk3]
    refine (ha _).trans ?_
    blk_simp [ix3.1 t]
  have b1 : V2 (n := 4096) (m := 1024) (iblk3 V c 1 t) fun r k => b r k := fun y => by
    blk_simp [iblk3]
    refine (hb _).trans ?_
    blk_simp [ix3.2.1 t]
  blk_simp [ix3.2.2 t]
  rw [after3_2]
  exact dukv_block b0 b1 _

theorem dcq_array (ha : V2 (n := 4096) (m := 1024) (V c main_arg4) a) (hb : V2 (n := 512) (m := 1024) (V c main_arg1) b) :
    V2 (n := 4096) (m := 512) ((dat4 V c).arrAt 2 cfg4.N) (nt 1024 a b) := by
  intro i
  refine (dat4 V c).arrAt_forall_of_covers 2 (fun i v => v = nt 1024 a b (i 0).val (i 1).val) (by decide +kernel) (fun t _ y => ?_) i
  have b0 : V2 (n := 1024) (m := 1024) (iblk4 V c 0 t) fun r k => a (t.val * 1024 + r) k := fun y => by
    blk_simp [iblk4]
    refine (ha _).trans ?_
    blk_simp [ix4.1 t]
  have b1 : V2 (n := 512) (m := 1024) (iblk4 V c 1 t) fun r k => b r k := fun y => by
    blk_simp [iblk4]
    refine (hb _).trans ?_
    blk_simp [ix4.2.1 t]
  blk_simp [ix4.2.2 t]
  rw [after4_2]
  exact dcq_block b0 b1 _

theorem duq_array (ha : V2 (n := 4096) (m := 512) (V c main_arg0) a) (hb : V2 (n := 4096) (m := 1024) (V c main_arg4) b) :
    V2 (n := 512) (m := 1024) ((dat5 V c).arrAt 2 cfg5.N) (tn 4096 a b) := by
  intro i
  refine (dat5 V c).arrAt_forall_of_covers 2 (fun i v => v = tn 4096 a b (i 0).val (i 1).val) (by decide +kernel) (fun t _ y => ?_) i
  have b0 : V2 (n := 4096) (m := 512) (iblk5 V c 0 t) fun r k => a r k := fun y => by
    blk_simp [iblk5]
    refine (ha _).trans ?_
    blk_simp [ix5.1 t]
  have b1 : V2 (n := 4096) (m := 1024) (iblk5 V c 1 t) fun r k => b r k := fun y => by
    blk_simp [iblk5]
    refine (hb _).trans ?_
    blk_simp [ix5.2.1 t]
  blk_simp [ix5.2.2 t]
  rw [after5_2]
  exact duq_block b0 b1 _

end Cert.Kernel6Ideal.Val
-- ==== Proof.UpRun.lean ====
/-
  The up-projections' run with every buffer's final contents, and the six results at the ideal values.
-/
module

public import proofs.«01_k».proof.Proof.Gen.Kernel6Ideal.Frame
public import proofs.«01_k».proof.Proof.UpProj

@[expose] public section

set_option maxRecDepth 16384

noncomputable section

namespace Cert.Kernel6Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen Cert.Ext

section
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and each buffer then holds what the six launches leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)
end

variable (m : (ℓ : Loc nD τ sig) → Buf (Elt Ideal) ℓ) (ρ : Dev nD → PrngReg) {cq uq ckv ukv dq dkv : ℕ → ℕ → EReal} (c : Dev nD)

/-- The six arguments' values. -/
structure Args (cq uq ckv ukv dq dkv : ℕ → ℕ → EReal) : Prop where
  hcq : Ext.V2 (n := 4096) (m := 512) (m ((c.tc : Thread nD τ).loc main_arg0)) cq
  huq : Ext.V2 (n := 512) (m := 1024) (m ((c.tc : Thread nD τ).loc main_arg1)) uq
  hckv : Ext.V2 (n := 4096) (m := 512) (m ((c.tc : Thread nD τ).loc main_arg2)) ckv
  hukv : Ext.V2 (n := 512) (m := 1024) (m ((c.tc : Thread nD τ).loc main_arg3)) ukv
  hdq : Ext.V2 (n := 4096) (m := 1024) (m ((c.tc : Thread nD τ).loc main_arg4)) dq
  hdkv : Ext.V2 (n := 4096) (m := 1024) (m ((c.tc : Thread nD τ).loc main_arg5)) dkv

variable {m c} (A : Args m c cq uq ckv ukv dq dkv)
include A

/-! The arguments stand throughout. -/

theorem Args.ckv_1 : Ext.V2 (n := 4096) (m := 512) (V1 m ρ c main_arg2) ckv := by
  rw [show V1 m ρ c main_arg2 = _ from W1_args m ρ c main_arg2 (by decide)]; exact A.hckv
theorem Args.ukv_1 : Ext.V2 (n := 512) (m := 1024) (V1 m ρ c main_arg3) ukv := by
  rw [show V1 m ρ c main_arg3 = _ from W1_args m ρ c main_arg3 (by decide)]; exact A.hukv
theorem Args.dkv_2 : Ext.V2 (n := 4096) (m := 1024) (V2 m ρ c main_arg5) dkv := by
  rw [show V2 m ρ c main_arg5 = _ from W2_args m ρ c main_arg5 (by decide)]; exact A.hdkv
theorem Args.ukv_2 : Ext.V2 (n := 512) (m := 1024) (V2 m ρ c main_arg3) ukv := by
  rw [show V2 m ρ c main_arg3 = _ from W2_args m ρ c main_arg3 (by decide)]; exact A.hukv
theorem Args.ckv_3 : Ext.V2 (n := 4096) (m := 512) (V3 m ρ c main_arg2) ckv := by
  rw [show V3 m ρ c main_arg2 = _ from W3_args m ρ c main_arg2 (by decide)]; exact A.hckv
theorem Args.dkv_3 : Ext.V2 (n := 4096) (m := 1024) (V3 m ρ c main_arg5) dkv := by
  rw [show V3 m ρ c main_arg5 = _ from W3_args m ρ c main_arg5 (by decide)]; exact A.hdkv
theorem Args.dq_4 : Ext.V2 (n := 4096) (m := 1024) (V4 m ρ c main_arg4) dq := by
  rw [show V4 m ρ c main_arg4 = _ from W4_args m ρ c main_arg4 (by decide)]; exact A.hdq
theorem Args.uq_4 : Ext.V2 (n := 512) (m := 1024) (V4 m ρ c main_arg1) uq := by
  rw [show V4 m ρ c main_arg1 = _ from W4_args m ρ c main_arg1 (by decide)]; exact A.huq
theorem Args.cq_5 : Ext.V2 (n := 4096) (m := 512) (V5 m ρ c main_arg0) cq := by
  rw [show V5 m ρ c main_arg0 = _ from W5_args m ρ c main_arg0 (by decide)]; exact A.hcq
theorem Args.dq_5 : Ext.V2 (n := 4096) (m := 1024) (V5 m ρ c main_arg4) dq := by
  rw [show V5 m ρ c main_arg4 = _ from W5_args m ρ c main_arg4 (by decide)]; exact A.hdq

/-! The results. -/

theorem Args.q : Ext.V2 (n := 4096) (m := 1024) (W6 m ρ c (Proc.devRef .tc main_v0)) (nn 512 cq uq) := by
  rw [show W6 m ρ c (Proc.devRef .tc main_v0) = _ from W6_of m ρ c main_v0 (by decide),
    show W5 m ρ c (Proc.devRef .tc main_v0) = _ from W5_of m ρ c main_v0 (by decide),
    show W4 m ρ c (Proc.devRef .tc main_v0) = _ from W4_of m ρ c main_v0 (by decide),
    show W3 m ρ c (Proc.devRef .tc main_v0) = _ from W3_of m ρ c main_v0 (by decide),
    show W2 m ρ c (Proc.devRef .tc main_v0) = _ from W2_of m ρ c main_v0 (by decide),
    show W1 m ρ c (Proc.devRef .tc main_v0) = _ from W1_arr m ρ c 2]
  exact q_array c A.hcq A.huq

theorem Args.kv : Ext.V2 (n := 4096) (m := 1024) (W6 m ρ c (Proc.devRef .tc main_v1)) (nn 512 ckv ukv) := by
  rw [show W6 m ρ c (Proc.devRef .tc main_v1) = _ from W6_of m ρ c main_v1 (by decide),
    show W5 m ρ c (Proc.devRef .tc main_v1) = _ from W5_of m ρ c main_v1 (by decide),
    show W4 m ρ c (Proc.devRef .tc main_v1) = _ from W4_of m ρ c main_v1 (by decide),
    show W3 m ρ c (Proc.devRef .tc main_v1) = _ from W3_of m ρ c main_v1 (by decide),
    show W2 m ρ c (Proc.devRef .tc main_v1) = _ from W2_arr m ρ c 2]
  exact kv_array c (A.ckv_1 ρ) (A.ukv_1 ρ)

theorem Args.dckv : Ext.V2 (n := 4096) (m := 512) (W6 m ρ c (Proc.devRef .tc main_v2)) (nt 1024 dkv ukv) := by
  rw [show W6 m ρ c (Proc.devRef .tc main_v2) = _ from W6_of m ρ c main_v2 (by decide),
    show W5 m ρ c (Proc.devRef .tc main_v2) = _ from W5_of m ρ c main_v2 (by decide),
    show W4 m ρ c (Proc.devRef .tc main_v2) = _ from W4_of m ρ c main_v2 (by decide),
    show W3 m ρ c (Proc.devRef .tc main_v2) = _ from W3_arr m ρ c 2]
  exact dckv_array c (A.dkv_2 ρ) (A.ukv_2 ρ)

theorem Args.dukv : Ext.V2 (n := 512) (m := 1024) (W6 m ρ c (Proc.devRef .tc main_v3)) (tn 4096 ckv dkv) := by
  rw [show W6 m ρ c (Proc.devRef .tc main_v3) = _ from W6_of m ρ c main_v3 (by decide),
    show W5 m ρ c (Proc.devRef .tc main_v3) = _ from W5_of m ρ c main_v3 (by decide),
    show W4 m ρ c (Proc.devRef .tc main_v3) = _ from W4_arr m ρ c 2]
  exact dukv_array c (A.ckv_3 ρ) (A.dkv_3 ρ)

theorem Args.dcq : Ext.V2 (n := 4096) (m := 512) (W6 m ρ c (Proc.devRef .tc main_v4)) (nt 1024 dq uq) := by
  rw [show W6 m ρ c (Proc.devRef .tc main_v4) = _ from W6_of m ρ c main_v4 (by decide),
    show W5 m ρ c (Proc.devRef .tc main_v4) = _ from W5_arr m ρ c 2]
  exact dcq_array c (A.dq_4 ρ) (A.uq_4 ρ)

theorem Args.duq : Ext.V2 (n := 512) (m := 1024) (W6 m ρ c (Proc.devRef .tc main_v5)) (tn 4096 cq dq) := by
  rw [show W6 m ρ c (Proc.devRef .tc main_v5) = _ from W6_arr m ρ c 2]
  exact duq_array c (A.cq_5 ρ) (A.dq_5 ρ)

end Cert.Kernel6Ideal.Val
-- ==== Proof.UpRef.lean ====
/-
  The reference of the up-projections, over the extended reals.
-/
module

public import proofs.«01_k».proof.Proof.Gen.Reference6Ideal.Read
public import proofs.«01_k».proof.Proof.Proj

@[expose] public section

set_option maxRecDepth 16384

noncomputable section

namespace Cert.Reference6Ideal.Val

open Idealize.ShloMosaic
open Cert.Reference6Ideal Cert.Reference6Ideal.Gen Cert.Reference6Ideal.Read Cert.Ext

variable {x0 x2 : (⟨S4096x512, .bf16⟩ : BufTy).Contents (Elt Ideal)} {x1 x3 : (⟨S512x1024, .bf16⟩ : BufTy).Contents (Elt Ideal)}
  {x4 x5 : (⟨S4096x1024, .bf16⟩ : BufTy).Contents (Elt Ideal)} {cq uq ckv ukv dq dkv : ℕ → ℕ → EReal}
  (hcq : V2 (n := 4096) (m := 512) x0 cq)
  (huq : V2 (n := 512) (m := 1024) x1 uq)
  (hckv : V2 (n := 4096) (m := 512) x2 ckv)
  (hukv : V2 (n := 512) (m := 1024) x3 ukv)
  (hdq : V2 (n := 4096) (m := 1024) x4 dq)
  (hdkv : V2 (n := 4096) (m := 1024) x5 dkv)

include hcq huq in
theorem q : V2 (n := 4096) (m := 1024) (val_main_v6 (F := Ideal) x0 x1) (nn 512 cq uq) := fun i => by
  rw [val_main_v6_apply]
  exact Finset.sum_congr rfl fun k _ => (congrArg₂ (· * ·) (hcq _) (huq _))

include hckv hukv in
theorem kv : V2 (n := 4096) (m := 1024) (val_main_v14 (F := Ideal) x2 x3) (nn 512 ckv ukv) := fun i => by
  rw [val_main_v14_apply, val_main_v7_apply]
  exact Finset.sum_congr rfl fun k _ => (congrArg₂ (· * ·) (hckv _) (hukv _))

include hukv hdkv in
theorem dckv : V2 (n := 4096) (m := 512) (val_main_v13 (F := Ideal) x3 x5) (nt 1024 dkv ukv) := fun i => by
  rw [val_main_v13_apply]
  exact Finset.sum_congr rfl fun k _ => (congrArg₂ (· * ·) (hdkv _) (hukv _))

include hckv hdkv in
theorem dukv : V2 (n := 512) (m := 1024) (val_main_v15 (F := Ideal) x2 x5) (tn 4096 ckv dkv) := fun i => by
  rw [val_main_v15_apply, val_main_v12_apply, val_main_v11_apply]
  exact Finset.sum_congr rfl fun k _ => (mul_comm _ _).trans (congrArg₂ (· * ·) (hckv _) (hdkv _))

include huq hdq in
theorem dcq : V2 (n := 4096) (m := 512) (val_main_v10 (F := Ideal) x1 x4) (nt 1024 dq uq) := fun i => by
  rw [val_main_v10_apply]
  exact Finset.sum_congr rfl fun k _ => (congrArg₂ (· * ·) (hdq _) (huq _))

include hcq hdq in
theorem duq : V2 (n := 512) (m := 1024) (val_main_v16 (F := Ideal) x0 x4) (tn 4096 cq dq) := fun i => by
  rw [val_main_v16_apply, val_main_v9_apply, val_main_v8_apply]
  exact Finset.sum_congr rfl fun k _ => (mul_comm _ _).trans (congrArg₂ (· * ·) (hcq _) (hdq _))

end Cert.Reference6Ideal.Val
-- ==== Proof.AdamSpec.lean ====
/-
  One AdamW step of one number, over the extended reals, and arrays of values read through a unit axis.
-/
module

public import proofs.«01_k».proof.Proof.Proj

@[expose] public section

set_option maxRecDepth 16384

noncomputable section

namespace Cert.Adam

open Idealize.ShloMosaic

/-- The first moment of a gradient `g`. -/
def newM (g m : EReal) : EReal :=
  (Ideal.ofBits .f32 0x3F666666#32 : EReal) * m + (Ideal.ofBits .f32 0x3DCCCCCD#32 : EReal) * g
/-- The second moment. -/
def newV (g v : EReal) : EReal :=
  (Ideal.ofBits .f32 0x3F7FBE77#32 : EReal) * v + (Ideal.ofBits .f32 0x3A83126F#32 : EReal) * (g * g)
/-- The step, from the weight and both new moments. -/
def delta (w m v : EReal) : EReal :=
  (Ideal.ofBits .f32 0xBA83126F#32 : EReal) *
    (Ideal.div (Ideal.div m (Ideal.ofBits .f32 0x3F26BD02#32))
      (Ideal.sqrt (Ideal.div v (Ideal.ofBits .f32 0x3C231ACC#32)) + (Ideal.ofBits .f32 0x322BCC77#32 : EReal)) +
     (Ideal.ofBits .f32 0x3C23D70A#32 : EReal) * w)

theorem delta_congr {w w' m m' v v' : EReal} (hw : w = w') (hm : m = m') (hv : v = v') : delta w m v = delta w' m' v' := by
  rw [hw, hm, hv]

end Cert.Adam

namespace Cert.Ext

open Idealize.ShloMosaic

variable {n m : ℕ}

/-- A whole slab read, a slab as a matrix and a matrix as a slab. -/
theorem V3.ld {l : ℕ} {X : (⟨3, ![l, n, m]⟩ : Shape).Idx → EReal} {x : ℕ → ℕ → ℕ → EReal} (hX : V3 X x)
    (inb : ∀ a, (![0, 0, 0] : Fin 3 → ℕ) a + (![l, n, m] : Fin 3 → ℕ) a ≤ (⟨3, ![l, n, m]⟩ : Shape).size a) :
    V3 (n := l) (m := n) (l := m) (fun i => X ((Rect.unit (s := ⟨3, ![l, n, m]⟩) ![0, 0, 0] ![l, n, m] inb).idx i)) x := fun i =>
  (hX _).trans (by congr 1 <;> simp [Rect.idx_unit_val])

theorem V3.plane {X : (⟨3, ![1, n, m]⟩ : Shape).Idx → EReal} {x : ℕ → ℕ → ℕ → EReal} (hX : V3 X x)
    (h : (⟨3, ![1, n, m]⟩ : Shape).ShapeCasts ⟨2, ![n, m]⟩) : V2 (shapeCast ⟨2, ![n, m]⟩ X h) (x 0) := fun i =>
  (shapeCast_dropUnit_apply ![n, m] X h i).trans (hX _)

theorem V2.slab {X : (⟨2, ![n, m]⟩ : Shape).Idx → EReal} {x : ℕ → ℕ → EReal} (hX : V2 X x)
    (h : (⟨2, ![n, m]⟩ : Shape).ShapeCasts ⟨3, ![1, n, m]⟩) : V3 (shapeCast ⟨3, ![1, n, m]⟩ X h) (fun _ => x) := fun i =>
  (shapeCast_addUnit_apply ![n, m] X h i).trans (hX _)

end Cert.Ext
-- ==== Proof.Adam.lean ====
/-
  The optimiser: what each AdamW call computes of its blocks, and the whole arrays it leaves, over the extended reals.
-/
module

public import proofs.«01_k».proof.Proof.Gen.Kernel7Ideal.Frame
public import proofs.«01_k».proof.Proof.AdamSpec

@[expose] public section

set_option maxRecDepth 16384

noncomputable section

namespace Cert.Kernel7Ideal.Val

open Idealize.ShloMosaic Idealize.ShloMosaic.TcCoe Idealize.SL.Sem Idealize.ShloMosaic.Pipeline
open Cert.Kernel7Ideal Cert.Kernel7Ideal.Gen Cert.Ext Cert.Adam

/-! ## The blocks -/

section Blocks
variable {a b : ℕ → ℕ → EReal} {w mm vv : ℕ → ℕ → ℕ → EReal}

section
variable {A B : Vec Ideal S584x512 .f32} {P Q S : Vec Ideal S1x584x512 .f32} (hA : V2 A a) (hB : V2 B b) (hP : V3 P w) (hQ : V3 Q mm) (hS : V3 S vv)
include hA hB
theorem g_pay0 : V2 (k0_pay5 (F := Ideal) A B) (fun r j => a r j + b r j) := fun i => congrArg₂ (· + ·) (hA i) (hB i)
include hQ in
theorem m_pay0 : V2 (k0_pay6 (F := Ideal) A B Q) (fun r j => newM (a r j + b r j) (mm 0 r j)) := fun i =>
  congrArg₂ newM (g_pay0 hA hB i) (hQ.plane shapeCasts_S1x584x512_S584x512 i)
include hS in
theorem v_pay0 : V2 (k0_pay7 (F := Ideal) A B S) (fun r j => newV (a r j + b r j) (vv 0 r j)) := fun i =>
  congrArg₂ newV (g_pay0 hA hB i) (hS.plane shapeCasts_S1x584x512_S584x512 i)
include hP hQ hS in
theorem d_pay0 : V2 (k0_pay8 (F := Ideal) A B P Q S) (fun r j => delta (w 0 r j) (newM (a r j + b r j) (mm 0 r j)) (newV (a r j + b r j) (vv 0 r j))) := fun i =>
  delta_congr (hP.plane shapeCasts_S1x584x512_S584x512 i) (m_pay0 hA hB hQ i) (v_pay0 hA hB hS i)

theorem g_block0 : V3 (out0_5 (F := Ideal) A B P Q S) (fun _ r j => a r j + b r j) := fun y => by
  unfold out0_5
  canon_tiles x ha using cover0_5 ..
  exact ((g_pay0 (hA.ld inb_S584x512_S584x512_0_0) (hB.ld inb_S584x512_S584x512_0_0)).slab shapeCasts_S584x512_S1x584x512 x).trans (by rw [ha1, ha2])
include hP hQ hS in
theorem d_block0 : V3 (out0_6 (F := Ideal) A B P Q S)
    (fun _ r j => delta (w 0 r j) (newM (a r j + b r j) (mm 0 r j)) (newV (a r j + b r j) (vv 0 r j))) := fun y => by
  unfold out0_6
  canon_tiles x ha using cover0_6 ..
  exact ((d_pay0 (hA.ld inb_S584x512_S584x512_0_0) (hB.ld inb_S584x512_S584x512_0_0) (hP.ld inb_S1x584x512_S1x584x512_0_0_0) (hQ.ld inb_S1x584x512_S1x584x512_0_0_0) (hS.ld inb_S1x584x512_S1x584x512_0_0_0)).slab shapeCasts_S584x512_S1x584x512 x).trans (by rw [ha1, ha2])
include hQ in
theorem m_block0 : V3 (out0_7 (F := Ideal) A B P Q S) (fun _ r j => newM (a r j + b r j) (mm 0 r j)) := fun y => by
  unfold out0_7
  canon_tiles x ha using cover0_7 ..
  exact ((m_pay0 (hA.ld inb_S584x512_S584x512_0_0) (hB.ld inb_S584x512_S584x512_0_0) (hQ.ld inb_S1x584x512_S1x584x512_0_0_0)).slab shapeCasts_S584x512_S1x584x512 x).trans (by rw [ha1, ha2])
include hS in
theorem v_block0 : V3 (out0_8 (F := Ideal) A B P Q S) (fun _ r j => newV (a r j + b r j) (vv 0 r j)) := fun y => by
  unfold out0_8
  canon_tiles x ha using cover0_8 ..
  exact ((v_pay0 (hA.ld inb_S584x512_S584x512_0_0) (hB.ld inb_S584x512_S584x512_0_0) (hS.ld inb_S1x584x512_S1x584x512_0_0_0)).slab shapeCasts_S584x512_S1x584x512 x).trans (by rw [ha1, ha2])
end

section
variable {A B : Vec Ideal S512x192 .f32} {P Q S : Vec Ideal S1x512x192 .f32} (hA : V2 A a) (hB : V2 B b) (hP : V3 P w) (hQ : V3 Q mm) (hS : V3 S vv)
include hA hB
theorem g_pay1 : V2 (k1_pay5 (F := Ideal) A B) (fun r j => a r j + b r j) := fun i => congrArg₂ (· + ·) (hA i) (hB i)
include hQ in
theorem m_pay1 : V2 (k1_pay6 (F := Ideal) A B Q) (fun r j => newM (a r j + b r j) (mm 0 r j)) := fun i =>
  congrArg₂ newM (g_pay1 hA hB i) (hQ.plane shapeCasts_S1x512x192_S512x192 i)
include hS in
theorem v_pay1 : V2 (k1_pay7 (F := Ideal) A B S) (fun r j => newV (a r j + b r j) (vv 0 r j)) := fun i =>
  congrArg₂ newV (g_pay1 hA hB i) (hS.plane shapeCasts_S1x512x192_S512x192 i)
include hP hQ hS in
theorem d_pay1 : V2 (k1_pay8 (F := Ideal) A B P Q S) (fun r j => delta (w 0 r j) (newM (a r j + b r j) (mm 0 r j)) (newV (a r j + b r j) (vv 0 r j))) := fun i =>
  delta_congr (hP.plane shapeCasts_S1x512x192_S512x192 i) (m_pay1 hA hB hQ i) (v_pay1 hA hB hS i)

theorem g_block1 : V3 (out1_5 (F := Ideal) A B P Q S) (fun _ r j => a r j + b r j) := fun y => by
  unfold out1_5
  canon_tiles x ha using cover1_5 ..
  exact ((g_pay1 (hA.ld inb_S512x192_S512x192_0_0) (hB.ld inb_S512x192_S512x192_0_0)).slab shapeCasts_S512x192_S1x512x192 x).trans (by rw [ha1, ha2])
include hP hQ hS in
theorem d_block1 : V3 (out1_6 (F := Ideal) A B P Q S)
    (fun _ r j => delta (w 0 r j) (newM (a r j + b r j) (mm 0 r j)) (newV (a r j + b r j) (vv 0 r j))) := fun y => by
  unfold out1_6
  canon_tiles x ha using cover1_6 ..
  exact ((d_pay1 (hA.ld inb_S512x192_S512x192_0_0) (hB.ld inb_S512x192_S512x192_0_0) (hP.ld inb_S1x512x192_S1x512x192_0_0_0) (hQ.ld inb_S1x512x192_S1x512x192_0_0_0) (hS.ld inb_S1x512x192_S1x512x192_0_0_0)).slab shapeCasts_S512x192_S1x512x192 x).trans (by rw [ha1, ha2])
include hQ in
theorem m_block1 : V3 (out1_7 (F := Ideal) A B P Q S) (fun _ r j => newM (a r j + b r j) (mm 0 r j)) := fun y => by
  unfold out1_7
  canon_tiles x ha using cover1_7 ..
  exact ((m_pay1 (hA.ld inb_S512x192_S512x192_0_0) (hB.ld inb_S512x192_S512x192_0_0) (hQ.ld inb_S1x512x192_S1x512x192_0_0_0)).slab shapeCasts_S512x192_S1x512x192 x).trans (by rw [ha1, ha2])
include hS in
theorem v_block1 : V3 (out1_8 (F := Ideal) A B P Q S) (fun _ r j => newV (a r j + b r j) (vv 0 r j)) := fun y => by
  unfold out1_8
  canon_tiles x ha using cover1_8 ..
  exact ((v_pay1 (hA.ld inb_S512x192_S512x192_0_0) (hB.ld inb_S512x192_S512x192_0_0) (hS.ld inb_S1x512x192_S1x512x192_0_0_0)).slab shapeCasts_S512x192_S1x512x192 x).trans (by rw [ha1, ha2])
end

section
variable {A B : Vec Ideal S512x256 .f32} {P Q S : Vec Ideal S1x512x256 .f32} (hA : V2 A a) (hB : V2 B b) (hP : V3 P w) (hQ : V3 Q mm) (hS : V3 S vv)
include hA hB
theorem g_pay2 : V2 (k2_pay5 (F := Ideal) A B) (fun r j => a r j + b r j) := fun i => congrArg₂ (· + ·) (hA i) (hB i)
include hQ in
theorem m_pay2 : V2 (k2_pay6 (F := Ideal) A B Q) (fun r j => newM (a r j + b r j) (mm 0 r j)) := fun i =>
  congrArg₂ newM (g_pay2 hA hB i) (hQ.plane shapeCasts_S1x512x256_S512x256 i)
include hS in
theorem v_pay2 : V2 (k2_pay7 (F := Ideal) A B S) (fun r j => newV (a r j + b r j) (vv 0 r j)) := fun i =>
  congrArg₂ newV (g_pay2 hA hB i) (hS.plane shapeCasts_S1x512x256_S512x256 i)
include hP hQ hS in
theorem d_pay2 : V2 (k2_pay8 (F := Ideal) A B P Q S) (fun r j => delta (w 0 r j) (newM (a r j + b r j) (mm 0 r j)) (newV (a r j + b r j) (vv 0 r j))) := fun i =>
  delta_congr (hP.plane shapeCasts_S1x512x256_S512x256 i) (m_pay2 hA hB hQ i) (v_pay2 hA hB hS i)

theorem g_block2 : V3 (out2_5 (F := Ideal) A B P Q S) (fun _ r j => a r j + b r j) := fun y => by
  unfold out2_5
  canon_tiles x ha using cover2_5 ..
  exact ((g_pay2 (hA.ld inb_S512x256_S512x256_0_0) (hB.ld inb_S512x256_S512x256_0_0)).slab shapeCasts_S512x256_S1x512x256 x).trans (by rw [ha1, ha2])
include hP hQ hS in
theorem d_block2 : V3 (out2_6 (F := Ideal) A B P Q S)
    (fun _ r j => delta (w 0 r j) (newM (a r j + b r j) (mm 0 r j)) (newV (a r j + b r j) (vv 0 r j))) := fun y => by
  unfold out2_6
  canon_tiles x ha using cover2_6 ..
  exact ((d_pay2 (hA.ld inb_S512x256_S512x256_0_0) (hB.ld inb_S512x256_S512x256_0_0) (hP.ld inb_S1x512x256_S1x512x256_0_0_0) (hQ.ld inb_S1x512x256_S1x512x256_0_0_0) (hS.ld inb_S1x512x256_S1x512x256_0_0_0)).slab shapeCasts_S512x256_S1x512x256 x).trans (by rw [ha1, ha2])
include hQ in
theorem m_block2 : V3 (out2_7 (F := Ideal) A B P Q S) (fun _ r j => newM (a r j + b r j) (mm 0 r j)) := fun y => by
  unfold out2_7
  canon_tiles x ha using cover2_7 ..
  exact ((m_pay2 (hA.ld inb_S512x256_S512x256_0_0) (hB.ld inb_S512x256_S512x256_0_0) (hQ.ld inb_S1x512x256_S1x512x256_0_0_0)).slab shapeCasts_S512x256_S1x512x256 x).trans (by rw [ha1, ha2])
include hS in
theorem v_block2 : V3 (out2_8 (F := Ideal) A B P Q S) (fun _ r j => newV (a r j + b r j) (vv 0 r j)) := fun y => by
  unfold out2_8
  canon_tiles x ha using cover2_8 ..
  exact ((v_pay2 (hA.ld inb_S512x256_S512x256_0_0) (hB.ld inb_S512x256_S512x256_0_0) (hS.ld inb_S1x512x256_S1x512x256_0_0_0)).slab shapeCasts_S512x256_S1x512x256 x).trans (by rw [ha1, ha2])
end

section
variable {A B : Vec Ideal S256x512 .f32} {P Q S : Vec Ideal S1x256x512 .f32} (hA : V2 A a) (hB : V2 B b) (hP : V3 P w) (hQ : V3 Q mm) (hS : V3 S vv)
include hA hB
theorem g_pay3 : V2 (k3_pay5 (F := Ideal) A B) (fun r j => a r j + b r j) := fun i => congrArg₂ (· + ·) (hA i) (hB i)
include hQ in
theorem m_pay3 : V2 (k3_pay6 (F := Ideal) A B Q) (fun r j => newM (a r j + b r j) (mm 0 r j)) := fun i =>
  congrArg₂ newM (g_pay3 hA hB i) (hQ.plane shapeCasts_S1x256x512_S256x512 i)
include hS in
theorem v_pay3 : V2 (k3_pay7 (F := Ideal) A B S) (fun r j => newV (a r j + b r j) (vv 0 r j)) := fun i =>
  congrArg₂ newV (g_pay3 hA hB i) (hS.plane shapeCasts_S1x256x512_S256x512 i)
include hP hQ hS in
theorem d_pay3 : V2 (k3_pay8 (F := Ideal) A B P Q S) (fun r j => delta (w 0 r j) (newM (a r j + b r j) (mm 0 r j)) (newV (a r j + b r j) (vv 0 r j))) := fun i =>
  delta_congr (hP.plane shapeCasts_S1x256x512_S256x512 i) (m_pay3 hA hB hQ i) (v_pay3 hA hB hS i)

theorem g_block3 : V3 (out3_5 (F := Ideal) A B P Q S) (fun _ r j => a r j + b r j) := fun y => by
  unfold out3_5
  canon_tiles x ha using cover3_5 ..
  exact ((g_pay3 (hA.ld inb_S256x512_S256x512_0_0) (hB.ld inb_S256x512_S256x512_0_0)).slab shapeCasts_S256x512_S1x256x512 x).trans (by rw [ha1, ha2])
include hP hQ hS in
theorem d_block3 : V3 (out3_6 (F := Ideal) A B P Q S)
    (fun _ r j => delta (w 0 r j) (newM (a r j + b r j) (mm 0 r j)) (newV (a r j + b r j) (vv 0 r j))) := fun y => by
  unfold out3_6
  canon_tiles x ha using cover3_6 ..
  exact ((d_pay3 (hA.ld inb_S256x512_S256x512_0_0) (hB.ld inb_S256x512_S256x512_0_0) (hP.ld inb_S1x256x512_S1x256x512_0_0_0) (hQ.ld inb_S1x256x512_S1x256x512_0_0_0) (hS.ld inb_S1x256x512_S1x256x512_0_0_0)).slab shapeCasts_S256x512_S1x256x512 x).trans (by rw [ha1, ha2])
include hQ in
theorem m_block3 : V3 (out3_7 (F := Ideal) A B P Q S) (fun _ r j => newM (a r j + b r j) (mm 0 r j)) := fun y => by
  unfold out3_7
  canon_tiles x ha using cover3_7 ..
  exact ((m_pay3 (hA.ld inb_S256x512_S256x512_0_0) (hB.ld inb_S256x512_S256x512_0_0) (hQ.ld inb_S1x256x512_S1x256x512_0_0_0)).slab shapeCasts_S256x512_S1x256x512 x).trans (by rw [ha1, ha2])
include hS in
theorem v_block3 : V3 (out3_8 (F := Ideal) A B P Q S) (fun _ r j => newV (a r j + b r j) (vv 0 r j)) := fun y => by
  unfold out3_8
  canon_tiles x ha using cover3_8 ..
  exact ((v_pay3 (hA.ld inb_S256x512_S256x512_0_0) (hB.ld inb_S256x512_S256x512_0_0) (hS.ld inb_S1x256x512_S1x256x512_0_0_0)).slab shapeCasts_S256x512_S1x256x512 x).trans (by rw [ha1, ha2])
end

section
variable {A B : Vec Ideal S128x1408 .f32} {P Q S : Vec Ideal S1x128x1408 .f32} (hA : V2 A a) (hB : V2 B b) (hP : V3 P w) (hQ : V3 Q mm) (hS : V3 S vv)
include hA hB
theorem g_pay4 : V2 (k4_pay5 (F := Ideal) A B) (fun r j => a r j + b r j) := fun i => congrArg₂ (· + ·) (hA i) (hB i)
include hQ in
theorem m_pay4 : V2 (k4_pay6 (F := Ideal) A B Q) (fun r j => newM (a r j + b r j) (mm 0 r j)) := fun i =>
  congrArg₂ newM (g_pay4 hA hB i) (hQ.plane shapeCasts_S1x128x1408_S128x1408 i)
include hS in
theorem v_pay4 : V2 (k4_pay7 (F := Ideal) A B S) (fun r j => newV (a r j + b r j) (vv 0 r j)) := fun i =>
  congrArg₂ newV (g_pay4 hA hB i) (hS.plane shapeCasts_S1x128x1408_S128x1408 i)
include hP hQ hS in
theorem d_pay4 : V2 (k4_pay8 (F := Ideal) A B P Q S) (fun r j => delta (w 0 r j) (newM (a r j + b r j) (mm 0 r j)) (newV (a r j + b r j) (vv 0 r j))) := fun i =>
  delta_congr (hP.plane shapeCasts_S1x128x1408_S128x1408 i) (m_pay4 hA hB hQ i) (v_pay4 hA hB hS i)

theorem g_block4 : V3 (out4_5 (F := Ideal) A B P Q S) (fun _ r j => a r j + b r j) := fun y => by
  unfold out4_5
  canon_tiles x ha using cover4_5 ..
  exact ((g_pay4 (hA.ld inb_S128x1408_S128x1408_0_0) (hB.ld inb_S128x1408_S128x1408_0_0)).slab shapeCasts_S128x1408_S1x128x1408 x).trans (by rw [ha1, ha2])
include hP hQ hS in
theorem d_block4 : V3 (out4_6 (F := Ideal) A B P Q S)
    (fun _ r j => delta (w 0 r j) (newM (a r j + b r j) (mm 0 r j)) (newV (a r j + b r j) (vv 0 r j))) := fun y => by
  unfold out4_6
  canon_tiles x ha using cover4_6 ..
  exact ((d_pay4 (hA.ld inb_S128x1408_S128x1408_0_0) (hB.ld inb_S128x1408_S128x1408_0_0) (hP.ld inb_S1x128x1408_S1x128x1408_0_0_0) (hQ.ld inb_S1x128x1408_S1x128x1408_0_0_0) (hS.ld inb_S1x128x1408_S1x128x1408_0_0_0)).slab shapeCasts_S128x1408_S1x128x1408 x).trans (by rw [ha1, ha2])
include hQ in
theorem m_block4 : V3 (out4_7 (F := Ideal) A B P Q S) (fun _ r j => newM (a r j + b r j) (mm 0 r j)) := fun y => by
  unfold out4_7
  canon_tiles x ha using cover4_7 ..
  exact ((m_pay4 (hA.ld inb_S128x1408_S128x1408_0_0) (hB.ld inb_S128x1408_S128x1408_0_0) (hQ.ld inb_S1x128x1408_S1x128x1408_0_0_0)).slab shapeCasts_S128x1408_S1x128x1408 x).trans (by rw [ha1, ha2])
include hS in
theorem v_block4 : V3 (out4_8 (F := Ideal) A B P Q S) (fun _ r j => newV (a r j + b r j) (vv 0 r j)) := fun y => by
  unfold out4_8
  canon_tiles x ha using cover4_8 ..
  exact ((v_pay4 (hA.ld inb_S128x1408_S128x1408_0_0) (hB.ld inb_S128x1408_S128x1408_0_0) (hS.ld inb_S1x128x1408_S1x128x1408_0_0_0)).slab shapeCasts_S128x1408_S1x128x1408 x).trans (by rw [ha1, ha2])
end

section
variable {A B : Vec Ideal S128x1408 .f32} {P Q S : Vec Ideal S1x128x1408 .f32} (hA : V2 A a) (hB : V2 B b) (hP : V3 P w) (hQ : V3 Q mm) (hS : V3 S vv)
include hA hB
theorem g_pay5 : V2 (k5_pay5 (F := Ideal) A B) (fun r j => a r j + b r j) := fun i => congrArg₂ (· + ·) (hA i) (hB i)
include hQ in
theorem m_pay5 : V2 (k5_pay6 (F := Ideal) A B Q) (fun r j => newM (a r j + b r j) (mm 0 r j)) := fun i =>
  congrArg₂ newM (g_pay5 hA hB i) (hQ.plane shapeCasts_S1x128x1408_S128x1408 i)
include hS in
theorem v_pay5 : V2 (k5_pay7 (F := Ideal) A B S) (fun r j => newV (a r j + b r j) (vv 0 r j)) := fun i =>
  congrArg₂ newV (g_pay5 hA hB i) (hS.plane shapeCasts_S1x128x1408_S128x1408 i)
include hP hQ hS in
theorem d_pay5 : V2 (k5_pay8 (F := Ideal) A B P Q S) (fun r j => delta (w 0 r j) (newM (a r j + b r j) (mm 0 r j)) (newV (a r j + b r j) (vv 0 r j))) := fun i =>
  delta_congr (hP.plane shapeCasts_S1x128x1408_S128x1408 i) (m_pay5 hA hB hQ i) (v_pay5 hA hB hS i)

theorem g_block5 : V3 (out5_5 (F := Ideal) A B P Q S) (fun _ r j => a r j + b r j) := fun y => by
  unfold out5_5
  canon_tiles x ha using cover5_5 ..
  exact ((g_pay5 (hA.ld inb_S128x1408_S128x1408_0_0) (hB.ld inb_S128x1408_S128x1408_0_0)).slab shapeCasts_S128x1408_S1x128x1408 x).trans (by rw [ha1, ha2])
include hP hQ hS in
theorem d_block5 : V3 (out5_6 (F := Ideal) A B P Q S)
    (fun _ r j => delta (w 0 r j) (newM (a r j + b r j) (mm 0 r j)) (newV (a r j + b r j) (vv 0 r j))) := fun y => by
  unfold out5_6
  canon_tiles x ha using cover5_6 ..
  exact ((d_pay5 (hA.ld inb_S128x1408_S128x1408_0_0) (hB.ld inb_S128x1408_S128x1408_0_0) (hP.ld inb_S1x128x1408_S1x128x1408_0_0_0) (hQ.ld inb_S1x128x1408_S1x128x1408_0_0_0) (hS.ld inb_S1x128x1408_S1x128x1408_0_0_0)).slab shapeCasts_S128x1408_S1x128x1408 x).trans (by rw [ha1, ha2])
include hQ in
theorem m_block5 : V3 (out5_7 (F := Ideal) A B P Q S) (fun _ r j => newM (a r j + b r j) (mm 0 r j)) := fun y => by
  unfold out5_7
  canon_tiles x ha using cover5_7 ..
  exact ((m_pay5 (hA.ld inb_S128x1408_S128x1408_0_0) (hB.ld inb_S128x1408_S128x1408_0_0) (hQ.ld inb_S1x128x1408_S1x128x1408_0_0_0)).slab shapeCasts_S128x1408_S1x128x1408 x).trans (by rw [ha1, ha2])
include hS in
theorem v_block5 : V3 (out5_8 (F := Ideal) A B P Q S) (fun _ r j => newV (a r j + b r j) (vv 0 r j)) := fun y => by
  unfold out5_8
  canon_tiles x ha using cover5_8 ..
  exact ((v_pay5 (hA.ld inb_S128x1408_S128x1408_0_0) (hB.ld inb_S128x1408_S128x1408_0_0) (hS.ld inb_S1x128x1408_S1x128x1408_0_0_0)).slab shapeCasts_S128x1408_S1x128x1408 x).trans (by rw [ha1, ha2])
end

section
variable {A B : Vec Ideal S352x512 .f32} {P Q S : Vec Ideal S1x352x512 .f32} (hA : V2 A a) (hB : V2 B b) (hP : V3 P w) (hQ : V3 Q mm) (hS : V3 S vv)
include hA hB
theorem g_pay6 : V2 (k6_pay5 (F := Ideal) A B) (fun r j => a r j + b r j) := fun i => congrArg₂ (· + ·) (hA i) (hB i)
include hQ in
theorem m_pay6 : V2 (k6_pay6 (F := Ideal) A B Q) (fun r j => newM (a r j + b r j) (mm 0 r j)) := fun i =>
  congrArg₂ newM (g_pay6 hA hB i) (hQ.plane shapeCasts_S1x352x512_S352x512 i)
include hS in
theorem v_pay6 : V2 (k6_pay7 (F := Ideal) A B S) (fun r j => newV (a r j + b r j) (vv 0 r j)) := fun i =>
  congrArg₂ newV (g_pay6 hA hB i) (hS.plane shapeCasts_S1x352x512_S352x512 i)
include hP hQ hS in
theorem d_pay6 : V2 (k6_pay8 (F := Ideal) A B P Q S) (fun r j => delta (w 0 r j) (newM (a r j + b r j) (mm 0 r j)) (newV (a r j + b r j) (vv 0 r j))) := fun i =>
  delta_congr (hP.plane shapeCasts_S1x352x512_S352x512 i) (m_pay6 hA hB hQ i) (v_pay6 hA hB hS i)

theorem g_block6 : V3 (out6_5 (F := Ideal) A B P Q S) (fun _ r j => a r j + b r j) := fun y => by
  unfold out6_5
  canon_tiles x ha using cover6_5 ..
  exact ((g_pay6 (hA.ld inb_S352x512_S352x512_0_0) (hB.ld inb_S352x512_S352x512_0_0)).slab shapeCasts_S352x512_S1x352x512 x).trans (by rw [ha1, ha2])
include hP hQ hS in
theorem d_block6 : V3 (out6_6 (F := Ideal) A B P Q S)
    (fun _ r j => delta (w 0 r j) (newM (a r j + b r j) (mm 0 r j)) (newV (a r j + b r j) (vv 0 r j))) := fun y => by
  unfold out6_6
  canon_tiles x ha using cover6_6 ..
  exact ((d_pay6 (hA.ld inb_S352x512_S352x512_0_0) (hB.ld inb_S352x512_S352x512_0_0) (hP.ld inb_S1x352x512_S1x352x512_0_0_0) (hQ.ld inb_S1x352x512_S1x352x512_0_0_0) (hS.ld inb_S1x352x512_S1x352x512_0_0_0)).slab shapeCasts_S352x512_S1x352x512 x).trans (by rw [ha1, ha2])
include hQ in
theorem m_block6 : V3 (out6_7 (F := Ideal) A B P Q S) (fun _ r j => newM (a r j + b r j) (mm 0 r j)) := fun y => by
  unfold out6_7
  canon_tiles x ha using cover6_7 ..
  exact ((m_pay6 (hA.ld inb_S352x512_S352x512_0_0) (hB.ld inb_S352x512_S352x512_0_0) (hQ.ld inb_S1x352x512_S1x352x512_0_0_0)).slab shapeCasts_S352x512_S1x352x512 x).trans (by rw [ha1, ha2])
include hS in
theorem v_block6 : V3 (out6_8 (F := Ideal) A B P Q S) (fun _ r j => newV (a r j + b r j) (vv 0 r j)) := fun y => by
  unfold out6_8
  canon_tiles x ha using cover6_8 ..
  exact ((v_pay6 (hA.ld inb_S352x512_S352x512_0_0) (hB.ld inb_S352x512_S352x512_0_0) (hS.ld inb_S1x352x512_S1x352x512_0_0_0)).slab shapeCasts_S352x512_S1x352x512 x).trans (by rw [ha1, ha2])
end

end Blocks

/-! ## The grids' indices -/

theorem ix0 : (∀ t : Fin cfg0.N, win0_0.index t = ![t.val / 4, t.val % 4]) ∧ (∀ t : Fin cfg0.N, win0_1.index t = ![t.val / 4, t.val % 4]) ∧ (∀ t : Fin cfg0.N, win0_2.index t = ![t.val / 8, t.val / 4 % 2, t.val % 4]) ∧ (∀ t : Fin cfg0.N, win0_3.index t = ![t.val / 8, t.val / 4 % 2, t.val % 4]) ∧ (∀ t : Fin cfg0.N, win0_4.index t = ![t.val / 8, t.val / 4 % 2, t.val % 4]) ∧ (∀ t : Fin cfg0.N, win0_5.index t = ![t.val / 8, t.val / 4 % 2, t.val % 4]) ∧ (∀ t : Fin cfg0.N, win0_6.index t = ![t.val / 8, t.val / 4 % 2, t.val % 4]) ∧ (∀ t : Fin cfg0.N, win0_7.index t = ![t.val / 8, t.val / 4 % 2, t.val % 4]) ∧ (∀ t : Fin cfg0.N, win0_8.index t = ![t.val / 8, t.val / 4 % 2, t.val % 4]) := by
  decide +kernel
theorem ix1 : (∀ t : Fin cfg1.N, win1_0.index t = ![t.val, 0]) ∧ (∀ t : Fin cfg1.N, win1_1.index t = ![t.val, 0]) ∧ (∀ t : Fin cfg1.N, win1_2.index t = ![t.val, 0, 0]) ∧ (∀ t : Fin cfg1.N, win1_3.index t = ![t.val, 0, 0]) ∧ (∀ t : Fin cfg1.N, win1_4.index t = ![t.val, 0, 0]) ∧ (∀ t : Fin cfg1.N, win1_5.index t = ![t.val, 0, 0]) ∧ (∀ t : Fin cfg1.N, win1_6.index t = ![t.val, 0, 0]) ∧ (∀ t : Fin cfg1.N, win1_7.index t = ![t.val, 0, 0]) ∧ (∀ t : Fin cfg1.N, win1_8.index t = ![t.val, 0, 0]) := by
  decide +kernel
theorem ix2 : (∀ t : Fin cfg2.N, win2_0.index t = ![t.val, 0]) ∧ (∀ t : Fin cfg2.N, win2_1.index t = ![t.val, 0]) ∧ (∀ t : Fin cfg2.N, win2_2.index t = ![t.val, 0, 0]) ∧ (∀ t : Fin cfg2.N, win2_3.index t = ![t.val, 0, 0]) ∧ (∀ t : Fin cfg2.N, win2_4.index t = ![t.val, 0, 0]) ∧ (∀ t : Fin cfg2.N, win2_5.index t = ![t.val, 0, 0]) ∧ (∀ t : Fin cfg2.N, win2_6.index t = ![t.val, 0, 0]) ∧ (∀ t : Fin cfg2.N, win2_7.index t = ![t.val, 0, 0]) ∧ (∀ t : Fin cfg2.N, win2_8.index t = ![t.val, 0, 0]) := by
  decide +kernel
theorem ix3 : (∀ t : Fin cfg3.N, win3_0.index t = ![t.val / 4, t.val % 4]) ∧ (∀ t : Fin cfg3.N, win3_1.index t = ![t.val / 4, t.val % 4]) ∧ (∀ t : Fin cfg3.N, win3_2.index t = ![t.val / 8, t.val / 4 % 2, t.val % 4]) ∧ (∀ t : Fin cfg3.N, win3_3.index t = ![t.val / 8, t.val / 4 % 2, t.val % 4]) ∧ (∀ t : Fin cfg3.N, win3_4.index t = ![t.val / 8, t.val / 4 % 2, t.val % 4]) ∧ (∀ t : Fin cfg3.N, win3_5.index t = ![t.val / 8, t.val / 4 % 2, t.val % 4]) ∧ (∀ t : Fin cfg3.N, win3_6.index t = ![t.val / 8, t.val / 4 % 2, t.val % 4]) ∧ (∀ t : Fin cfg3.N, win3_7.index t = ![t.val / 8, t.val / 4 % 2, t.val % 4]) ∧ (∀ t : Fin cfg3.N, win3_8.index t = ![t.val / 8, t.val / 4 % 2, t.val % 4]) := by
  decide +kernel
theorem ix4 : (∀ t : Fin cfg4.N, win4_0.index t = ![t.val, 0]) ∧ (∀ t : Fin cfg4.N, win4_1.index t = ![t.val, 0]) ∧ (∀ t : Fin cfg4.N, win4_2.index t = ![t.val / 16, t.val % 16, 0]) ∧ (∀ t : Fin cfg4.N, win4_3.index t = ![t.val / 16, t.val % 16, 0]) ∧ (∀ t : Fin cfg4.N, win4_4.index t = ![t.val / 16, t.val % 16, 0]) ∧ (∀ t : Fin cfg4.N, win4_5.index t = ![t.val / 16, t.val % 16, 0]) ∧ (∀ t : Fin cfg4.N, win4_6.index t = ![t.val / 16, t.val % 16, 0]) ∧ (∀ t : Fin cfg4.N, win4_7.index t = ![t.val / 16, t.val % 16, 0]) ∧ (∀ t : Fin cfg4.N, win4_8.index t = ![t.val / 16, t.val % 16, 0]) := by
  decide +kernel
theorem ix5 : (∀ t : Fin cfg5.N, win5_0.index t = ![t.val, 0]) ∧ (∀ t : Fin cfg5.N, win5_1.index t = ![t.val, 0]) ∧ (∀ t : Fin cfg5.N, win5_2.index t = ![t.val / 16, t.val % 16, 0]) ∧ (∀ t : Fin cfg5.N, win5_3.index t = ![t.val / 16, t.val % 16, 0]) ∧ (∀ t : Fin cfg5.N, win5_4.index t = ![t.val / 16, t.val % 16, 0]) ∧ (∀ t : Fin cfg5.N, win5_5.index t = ![t.val / 16, t.val % 16, 0]) ∧ (∀ t : Fin cfg5.N, win5_6.index t = ![t.val / 16, t.val % 16, 0]) ∧ (∀ t : Fin cfg5.N, win5_7.index t = ![t.val / 16, t.val % 16, 0]) ∧ (∀ t : Fin cfg5.N, win5_8.index t = ![t.val / 16, t.val % 16, 0]) := by
  decide +kernel
theorem ix6 : (∀ t : Fin cfg6.N, win6_0.index t = ![t.val / 4, t.val % 4]) ∧ (∀ t : Fin cfg6.N, win6_1.index t = ![t.val / 4, t.val % 4]) ∧ (∀ t : Fin cfg6.N, win6_2.index t = ![t.val / 16, t.val / 4 % 4, t.val % 4]) ∧ (∀ t : Fin cfg6.N, win6_3.index t = ![t.val / 16, t.val / 4 % 4, t.val % 4]) ∧ (∀ t : Fin cfg6.N, win6_4.index t = ![t.val / 16, t.val / 4 % 4, t.val % 4]) ∧ (∀ t : Fin cfg6.N, win6_5.index t = ![t.val / 16, t.val / 4 % 4, t.val % 4]) ∧ (∀ t : Fin cfg6.N, win6_6.index t = ![t.val / 16, t.val / 4 % 4, t.val % 4]) ∧ (∀ t : Fin cfg6.N, win6_7.index t = ![t.val / 16, t.val / 4 % 4, t.val % 4]) ∧ (∀ t : Fin cfg6.N, win6_8.index t = ![t.val / 16, t.val / 4 % 4, t.val % 4]) := by
  decide +kernel

/-! ## The arrays -/

section Arrays
variable {V : (c : Dev nD) → (b : Ref sig .tc) → Buf (Elt Ideal) ((c : Thread nD τ).loc b)} (c : Dev nD)
  {a b : ℕ → ℕ → EReal} {w mm vv : ℕ → ℕ → ℕ → EReal}

section
variable (ha : V2 (n := 2336) (m := 2048) (V c main_arg0) a) (hb : V2 (n := 2336) (m := 2048) (V c main_arg1) b) (hw : V3 (n := 2) (m := 1168) (l := 2048) (V c main_arg2) w) (hm : V3 (n := 2) (m := 1168) (l := 2048) (V c main_arg3) mm) (hv : V3 (n := 2) (m := 1168) (l := 2048) (V c main_arg4) vv)

include ha in
theorem in0_0 (t : Fin cfg0.N) : V2 (n := 584) (m := 512) (iblk0 V c 0 t) fun r j => a (t.val / 4 * 584 + r) (t.val % 4 * 512 + j) := fun y => by
  blk_simp [iblk0]
  refine (ha _).trans ?_
  blk_simp [ix0.1 t]
include hb in
theorem in0_1 (t : Fin cfg0.N) : V2 (n := 584) (m := 512) (iblk0 V c 1 t) fun r j => b (t.val / 4 * 584 + r) (t.val % 4 * 512 + j) := fun y => by
  blk_simp [iblk0]
  refine (hb _).trans ?_
  blk_simp [ix0.2.1 t]
include hw in
theorem in0_2 (t : Fin cfg0.N) : V3 (n := 1) (m := 584) (l := 512) (iblk0 V c 2 t) fun s r j => w (t.val / 8 + s) (t.val / 4 % 2 * 584 + r) (t.val % 4 * 512 + j) := fun y => by
  blk_simp [iblk0]
  refine (hw _).trans ?_
  blk_simp [ix0.2.2.1 t]
include hm in
theorem in0_3 (t : Fin cfg0.N) : V3 (n := 1) (m := 584) (l := 512) (iblk0 V c 3 t) fun s r j => mm (t.val / 8 + s) (t.val / 4 % 2 * 584 + r) (t.val % 4 * 512 + j) := fun y => by
  blk_simp [iblk0]
  refine (hm _).trans ?_
  blk_simp [ix0.2.2.2.1 t]
include hv in
theorem in0_4 (t : Fin cfg0.N) : V3 (n := 1) (m := 584) (l := 512) (iblk0 V c 4 t) fun s r j => vv (t.val / 8 + s) (t.val / 4 % 2 * 584 + r) (t.val % 4 * 512 + j) := fun y => by
  blk_simp [iblk0]
  refine (hv _).trans ?_
  blk_simp [ix0.2.2.2.2.1 t]
include ha hb in
theorem g_array0 : V3 (n := 2) (m := 1168) (l := 2048) ((dat0 V c).arrAt 5 cfg0.N) fun l r j => a (l * 1168 + r) j + b (l * 1168 + r) j := by
  intro i
  refine (dat0 V c).arrAt_forall_of_covers 5 (fun i v => v = a ((i 0).val * 1168 + (i 1).val) (i 2).val + b ((i 0).val * 1168 + (i 1).val) (i 2).val)
    (by decide +kernel) (fun t _ y => ?_) i
  blk_simp [ix0.2.2.2.2.2.1 t]
  rw [after0_5]
  refine (g_block0 (in0_0 c ha t) (in0_1 c hb t) _).trans ?_
  have e : t.val / 8 * 1168 + (t.val / 4 % 2 * 584 + (y 1).val) = t.val / 4 * 584 + (y 1).val := by omega
  simp only [e, Nat.add_zero]

include ha hb hw hm hv in
theorem d_array0 : V3 (n := 2) (m := 1168) (l := 2048) ((dat0 V c).arrAt 6 cfg0.N) fun l r j => delta (w l r j) (newM (a (l * 1168 + r) j + b (l * 1168 + r) j) (mm l r j)) (newV (a (l * 1168 + r) j + b (l * 1168 + r) j) (vv l r j)) := by
  intro i
  refine (dat0 V c).arrAt_forall_of_covers 6 (fun i v => v = delta (w (i 0).val (i 1).val (i 2).val) (newM (a ((i 0).val * 1168 + (i 1).val) (i 2).val + b ((i 0).val * 1168 + (i 1).val) (i 2).val) (mm (i 0).val (i 1).val (i 2).val)) (newV (a ((i 0).val * 1168 + (i 1).val) (i 2).val + b ((i 0).val * 1168 + (i 1).val) (i 2).val) (vv (i 0).val (i 1).val (i 2).val)))
    (by decide +kernel) (fun t _ y => ?_) i
  blk_simp [ix0.2.2.2.2.2.2.1 t]
  rw [after0_6]
  refine (d_block0 (in0_0 c ha t) (in0_1 c hb t) (in0_2 c hw t) (in0_3 c hm t) (in0_4 c hv t) _).trans ?_
  have e : t.val / 8 * 1168 + (t.val / 4 % 2 * 584 + (y 1).val) = t.val / 4 * 584 + (y 1).val := by omega
  simp only [e, Nat.add_zero]

include ha hb hm in
theorem m_array0 : V3 (n := 2) (m := 1168) (l := 2048) ((dat0 V c).arrAt 7 cfg0.N) fun l r j => newM (a (l * 1168 + r) j + b (l * 1168 + r) j) (mm l r j) := by
  intro i
  refine (dat0 V c).arrAt_forall_of_covers 7 (fun i v => v = newM (a ((i 0).val * 1168 + (i 1).val) (i 2).val + b ((i 0).val * 1168 + (i 1).val) (i 2).val) (mm (i 0).val (i 1).val (i 2).val))
    (by decide +kernel) (fun t _ y => ?_) i
  blk_simp [ix0.2.2.2.2.2.2.2.1 t]
  rw [after0_7]
  refine (m_block0 (in0_0 c ha t) (in0_1 c hb t) (in0_3 c hm t) _).trans ?_
  have e : t.val / 8 * 1168 + (t.val / 4 % 2 * 584 + (y 1).val) = t.val / 4 * 584 + (y 1).val := by omega
  simp only [e, Nat.add_zero]

include ha hb hv in
theorem v_array0 : V3 (n := 2) (m := 1168) (l := 2048) ((dat0 V c).arrAt 8 cfg0.N) fun l r j => newV (a (l * 1168 + r) j + b (l * 1168 + r) j) (vv l r j) := by
  intro i
  refine (dat0 V c).arrAt_forall_of_covers 8 (fun i v => v = newV (a ((i 0).val * 1168 + (i 1).val) (i 2).val + b ((i 0).val * 1168 + (i 1).val) (i 2).val) (vv (i 0).val (i 1).val (i 2).val))
    (by decide +kernel) (fun t _ y => ?_) i
  blk_simp [ix0.2.2.2.2.2.2.2.2 t]
  rw [after0_8]
  refine (v_block0 (in0_0 c ha t) (in0_1 c hb t) (in0_4 c hv t) _).trans ?_
  have e : t.val / 8 * 1168 + (t.val / 4 % 2 * 584 + (y 1).val) = t.val / 4 * 584 + (y 1).val := by omega
  simp only [e, Nat.add_zero]

end

section
variable (ha : V2 (n := 1024) (m := 192) (V c main_arg5) a) (hb : V2 (n := 1024) (m := 192) (V c main_arg6) b) (hw : V3 (n := 2) (m := 512) (l := 192) (V c main_arg7) w) (hm : V3 (n := 2) (m := 512) (l := 192) (V c main_arg8) mm) (hv : V3 (n := 2) (m := 512) (l := 192) (V c main_arg9) vv)

include ha in
theorem in1_0 (t : Fin cfg1.N) : V2 (n := 512) (m := 192) (iblk1 V c 0 t) fun r j => a (t.val * 512 + r) j := fun y => by
  blk_simp [iblk1]
  refine (ha _).trans ?_
  blk_simp [ix1.1 t]
include hb in
theorem in1_1 (t : Fin cfg1.N) : V2 (n := 512) (m := 192) (iblk1 V c 1 t) fun r j => b (t.val * 512 + r) j := fun y => by
  blk_simp [iblk1]
  refine (hb _).trans ?_
  blk_simp [ix1.2.1 t]
include hw in
theorem in1_2 (t : Fin cfg1.N) : V3 (n := 1) (m := 512) (l := 192) (iblk1 V c 2 t) fun s r j => w (t.val + s) r j := fun y => by
  blk_simp [iblk1]
  refine (hw _).trans ?_
  blk_simp [ix1.2.2.1 t]
include hm in
theorem in1_3 (t : Fin cfg1.N) : V3 (n := 1) (m := 512) (l := 192) (iblk1 V c 3 t) fun s r j => mm (t.val + s) r j := fun y => by
  blk_simp [iblk1]
  refine (hm _).trans ?_
  blk_simp [ix1.2.2.2.1 t]
include hv in
theorem in1_4 (t : Fin cfg1.N) : V3 (n := 1) (m := 512) (l := 192) (iblk1 V c 4 t) fun s r j => vv (t.val + s) r j := fun y => by
  blk_simp [iblk1]
  refine (hv _).trans ?_
  blk_simp [ix1.2.2.2.2.1 t]
include ha hb in
theorem g_array1 : V3 (n := 2) (m := 512) (l := 192) ((dat1 V c).arrAt 5 cfg1.N) fun l r j => a (l * 512 + r) j + b (l * 512 + r) j := by
  intro i
  refine (dat1 V c).arrAt_forall_of_covers 5 (fun i v => v = a ((i 0).val * 512 + (i 1).val) (i 2).val + b ((i 0).val * 512 + (i 1).val) (i 2).val)
    (by decide +kernel) (fun t _ y => ?_) i
  blk_simp [ix1.2.2.2.2.2.1 t]
  rw [after1_5]
  refine (g_block1 (in1_0 c ha t) (in1_1 c hb t) _).trans ?_
  simp only [Nat.add_zero]

include ha hb hw hm hv in
theorem d_array1 : V3 (n := 2) (m := 512) (l := 192) ((dat1 V c).arrAt 6 cfg1.N) fun l r j => delta (w l r j) (newM (a (l * 512 + r) j + b (l * 512 + r) j) (mm l r j)) (newV (a (l * 512 + r) j + b (l * 512 + r) j) (vv l r j)) := by
  intro i
  refine (dat1 V c).arrAt_forall_of_covers 6 (fun i v => v = delta (w (i 0).val (i 1).val (i 2).val) (newM (a ((i 0).val * 512 + (i 1).val) (i 2).val + b ((i 0).val * 512 + (i 1).val) (i 2).val) (mm (i 0).val (i 1).val (i 2).val)) (newV (a ((i 0).val * 512 + (i 1).val) (i 2).val + b ((i 0).val * 512 + (i 1).val) (i 2).val) (vv (i 0).val (i 1).val (i 2).val)))
    (by decide +kernel) (fun t _ y => ?_) i
  blk_simp [ix1.2.2.2.2.2.2.1 t]
  rw [after1_6]
  refine (d_block1 (in1_0 c ha t) (in1_1 c hb t) (in1_2 c hw t) (in1_3 c hm t) (in1_4 c hv t) _).trans ?_
  simp only [Nat.add_zero]

include ha hb hm in
theorem m_array1 : V3 (n := 2) (m := 512) (l := 192) ((dat1 V c).arrAt 7 cfg1.N) fun l r j => newM (a (l * 512 + r) j + b (l * 512 + r) j) (mm l r j) := by
  intro i
  refine (dat1 V c).arrAt_forall_of_covers 7 (fun i v => v = newM (a ((i 0).val * 512 + (i 1).val) (i 2).val + b ((i 0).val * 512 + (i 1).val) (i 2).val) (mm (i 0).val (i 1).val (i 2).val))
    (by decide +kernel) (fun t _ y => ?_) i
  blk_simp [ix1.2.2.2.2.2.2.2.1 t]
  rw [after1_7]
  refine (m_block1 (in1_0 c ha t) (in1_1 c hb t) (in1_3 c hm t) _).trans ?_
  simp only [Nat.add_zero]

include ha hb hv in
theorem v_array1 : V3 (n := 2) (m := 512) (l := 192) ((dat1 V c).arrAt 8 cfg1.N) fun l r j => newV (a (l * 512 + r) j + b (l * 512 + r) j) (vv l r j) := by
  intro i
  refine (dat1 V c).arrAt_forall_of_covers 8 (fun i v => v = newV (a ((i 0).val * 512 + (i 1).val) (i 2).val + b ((i 0).val * 512 + (i 1).val) (i 2).val) (vv (i 0).val (i 1).val (i 2).val))
    (by decide +kernel) (fun t _ y => ?_) i
  blk_simp [ix1.2.2.2.2.2.2.2.2 t]
  rw [after1_8]
  refine (v_block1 (in1_0 c ha t) (in1_1 c hb t) (in1_4 c hv t) _).trans ?_
  simp only [Nat.add_zero]

end

section
variable (ha : V2 (n := 1024) (m := 256) (V c main_arg10) a) (hb : V2 (n := 1024) (m := 256) (V c main_arg11) b) (hw : V3 (n := 2) (m := 512) (l := 256) (V c main_arg12) w) (hm : V3 (n := 2) (m := 512) (l := 256) (V c main_arg13) mm) (hv : V3 (n := 2) (m := 512) (l := 256) (V c main_arg14) vv)

include ha in
theorem in2_0 (t : Fin cfg2.N) : V2 (n := 512) (m := 256) (iblk2 V c 0 t) fun r j => a (t.val * 512 + r) j := fun y => by
  blk_simp [iblk2]
  refine (ha _).trans ?_
  blk_simp [ix2.1 t]
include hb in
theorem in2_1 (t : Fin cfg2.N) : V2 (n := 512) (m := 256) (iblk2 V c 1 t) fun r j => b (t.val * 512 + r) j := fun y => by
  blk_simp [iblk2]
  refine (hb _).trans ?_
  blk_simp [ix2.2.1 t]
include hw in
theorem in2_2 (t : Fin cfg2.N) : V3 (n := 1) (m := 512) (l := 256) (iblk2 V c 2 t) fun s r j => w (t.val + s) r j := fun y => by
  blk_simp [iblk2]
  refine (hw _).trans ?_
  blk_simp [ix2.2.2.1 t]
include hm in
theorem in2_3 (t : Fin cfg2.N) : V3 (n := 1) (m := 512) (l := 256) (iblk2 V c 3 t) fun s r j => mm (t.val + s) r j := fun y => by
  blk_simp [iblk2]
  refine (hm _).trans ?_
  blk_simp [ix2.2.2.2.1 t]
include hv in
theorem in2_4 (t : Fin cfg2.N) : V3 (n := 1) (m := 512) (l := 256) (iblk2 V c 4 t) fun s r j => vv (t.val + s) r j := fun y => by
  blk_simp [iblk2]
  refine (hv _).trans ?_
  blk_simp [ix2.2.2.2.2.1 t]
include ha hb in
theorem g_array2 : V3 (n := 2) (m := 512) (l := 256) ((dat2 V c).arrAt 5 cfg2.N) fun l r j => a (l * 512 + r) j + b (l * 512 + r) j := by
  intro i
  refine (dat2 V c).arrAt_forall_of_covers 5 (fun i v => v = a ((i 0).val * 512 + (i 1).val) (i 2).val + b ((i 0).val * 512 + (i 1).val) (i 2).val)
    (by decide +kernel) (fun t _ y => ?_) i
  blk_simp [ix2.2.2.2.2.2.1 t]
  rw [after2_5]
  refine (g_block2 (in2_0 c ha t) (in2_1 c hb t) _).trans ?_
  simp only [Nat.add_zero]

include ha hb hw hm hv in
theorem d_array2 : V3 (n := 2) (m := 512) (l := 256) ((dat2 V c).arrAt 6 cfg2.N) fun l r j => delta (w l r j) (newM (a (l * 512 + r) j + b (l * 512 + r) j) (mm l r j)) (newV (a (l * 512 + r) j + b (l * 512 + r) j) (vv l r j)) := by
  intro i
  refine (dat2 V c).arrAt_forall_of_covers 6 (fun i v => v = delta (w (i 0).val (i 1).val (i 2).val) (newM (a ((i 0).val * 512 + (i 1).val) (i 2).val + b ((i 0).val * 512 + (i 1).val) (i 2).val) (mm (i 0).val (i 1).val (i 2).val)) (newV (a ((i 0).val * 512 + (i 1).val) (i 2).val + b ((i 0).val * 512 + (i 1).val) (i 2).val) (vv (i 0).val (i 1).val (i 2).val)))
    (by decide +kernel) (fun t _ y => ?_) i
  blk_simp [ix2.2.2.2.2.2.2.1 t]
  rw [after2_6]
  refine (d_block2 (in2_0 c ha t) (in2_1 c hb t) (in2_2 c hw t) (in2_3 c hm t) (in2_4 c hv t) _).trans ?_
  simp only [Nat.add_zero]

include ha hb hm in
theorem m_array2 : V3 (n := 2) (m := 512) (l := 256) ((dat2 V c).arrAt 7 cfg2.N) fun l r j => newM (a (l * 512 + r) j + b (l * 512 + r) j) (mm l r j) := by
  intro i
  refine (dat2 V c).arrAt_forall_of_covers 7 (fun i v => v = newM (a ((i 0).val * 512 + (i 1).val) (i 2).val + b ((i 0).val * 512 + (i 1).val) (i 2).val) (mm (i 0).val (i 1).val (i 2).val))
    (by decide +kernel) (fun t _ y => ?_) i
  blk_simp [ix2.2.2.2.2.2.2.2.1 t]
  rw [after2_7]
  refine (m_block2 (in2_0 c ha t) (in2_1 c hb t) (in2_3 c hm t) _).trans ?_
  simp only [Nat.add_zero]

include ha hb hv in
theorem v_array2 : V3 (n := 2) (m := 512) (l := 256) ((dat2 V c).arrAt 8 cfg2.N) fun l r j => newV (a (l * 512 + r) j + b (l * 512 + r) j) (vv l r j) := by
  intro i
  refine (dat2 V c).arrAt_forall_of_covers 8 (fun i v => v = newV (a ((i 0).val * 512 + (i 1).val) (i 2).val + b ((i 0).val * 512 + (i 1).val) (i 2).val) (vv (i 0).val (i 1).val (i 2).val))
    (by decide +kernel) (fun t _ y => ?_) i
  blk_simp [ix2.2.2.2.2.2.2.2.2 t]
  rw [after2_8]
  refine (v_block2 (in2_0 c ha t) (in2_1 c hb t) (in2_4 c hv t) _).trans ?_
  simp only [Nat.add_zero]

end

section
variable (ha : V2 (n := 1024) (m := 2048) (V c main_arg15) a) (hb : V2 (n := 1024) (m := 2048) (V c main_arg16) b) (hw : V3 (n := 2) (m := 512) (l := 2048) (V c main_arg17) w) (hm : V3 (n := 2) (m := 512) (l := 2048) (V c main_arg18) mm) (hv : V3 (n := 2) (m := 512) (l := 2048) (V c main_arg19) vv)

include ha in
theorem in3_0 (t : Fin cfg3.N) : V2 (n := 256) (m := 512) (iblk3 V c 0 t) fun r j => a (t.val / 4 * 256 + r) (t.val % 4 * 512 + j) := fun y => by
  blk_simp [iblk3]
  refine (ha _).trans ?_
  blk_simp [ix3.1 t]
include hb in
theorem in3_1 (t : Fin cfg3.N) : V2 (n := 256) (m := 512) (iblk3 V c 1 t) fun r j => b (t.val / 4 * 256 + r) (t.val % 4 * 512 + j) := fun y => by
  blk_simp [iblk3]
  refine (hb _).trans ?_
  blk_simp [ix3.2.1 t]
include hw in
theorem in3_2 (t : Fin cfg3.N) : V3 (n := 1) (m := 256) (l := 512) (iblk3 V c 2 t) fun s r j => w (t.val / 8 + s) (t.val / 4 % 2 * 256 + r) (t.val % 4 * 512 + j) := fun y => by
  blk_simp [iblk3]
  refine (hw _).trans ?_
  blk_simp [ix3.2.2.1 t]
include hm in
theorem in3_3 (t : Fin cfg3.N) : V3 (n := 1) (m := 256) (l := 512) (iblk3 V c 3 t) fun s r j => mm (t.val / 8 + s) (t.val / 4 % 2 * 256 + r) (t.val % 4 * 512 + j) := fun y => by
  blk_simp [iblk3]
  refine (hm _).trans ?_
  blk_simp [ix3.2.2.2.1 t]
include hv in
theorem in3_4 (t : Fin cfg3.N) : V3 (n := 1) (m := 256) (l := 512) (iblk3 V c 4 t) fun s r j => vv (t.val / 8 + s) (t.val / 4 % 2 * 256 + r) (t.val % 4 * 512 + j) := fun y => by
  blk_simp [iblk3]
  refine (hv _).trans ?_
  blk_simp [ix3.2.2.2.2.1 t]
include ha hb in
theorem g_array3 : V3 (n := 2) (m := 512) (l := 2048) ((dat3 V c).arrAt 5 cfg3.N) fun l r j => a (l * 512 + r) j + b (l * 512 + r) j := by
  intro i
  refine (dat3 V c).arrAt_forall_of_covers 5 (fun i v => v = a ((i 0).val * 512 + (i 1).val) (i 2).val + b ((i 0).val * 512 + (i 1).val) (i 2).val)
    (by decide +kernel) (fun t _ y => ?_) i
  blk_simp [ix3.2.2.2.2.2.1 t]
  rw [after3_5]
  refine (g_block3 (in3_0 c ha t) (in3_1 c hb t) _).trans ?_
  have e : t.val / 8 * 512 + (t.val / 4 % 2 * 256 + (y 1).val) = t.val / 4 * 256 + (y 1).val := by omega
  simp only [e, Nat.add_zero]

include ha hb hw hm hv in
theorem d_array3 : V3 (n := 2) (m := 512) (l := 2048) ((dat3 V c).arrAt 6 cfg3.N) fun l r j => delta (w l r j) (newM (a (l * 512 + r) j + b (l * 512 + r) j) (mm l r j)) (newV (a (l * 512 + r) j + b (l * 512 + r) j) (vv l r j)) := by
  intro i
  refine (dat3 V c).arrAt_forall_of_covers 6 (fun i v => v = delta (w (i 0).val (i 1).val (i 2).val) (newM (a ((i 0).val * 512 + (i 1).val) (i 2).val + b ((i 0).val * 512 + (i 1).val) (i 2).val) (mm (i 0).val (i 1).val (i 2).val)) (newV (a ((i 0).val * 512 + (i 1).val) (i 2).val + b ((i 0).val * 512 + (i 1).val) (i 2).val) (vv (i 0).val (i 1).val (i 2).val)))
    (by decide +kernel) (fun t _ y => ?_) i
  blk_simp [ix3.2.2.2.2.2.2.1 t]
  rw [after3_6]
  refine (d_block3 (in3_0 c ha t) (in3_1 c hb t) (in3_2 c hw t) (in3_3 c hm t) (in3_4 c hv t) _).trans ?_
  have e : t.val / 8 * 512 + (t.val / 4 % 2 * 256 + (y 1).val) = t.val / 4 * 256 + (y 1).val := by omega
  simp only [e, Nat.add_zero]

include ha hb hm in
theorem m_array3 : V3 (n := 2) (m := 512) (l := 2048) ((dat3 V c).arrAt 7 cfg3.N) fun l r j => newM (a (l * 512 + r) j + b (l * 512 + r) j) (mm l r j) := by
  intro i
  refine (dat3 V c).arrAt_forall_of_covers 7 (fun i v => v = newM (a ((i 0).val * 512 + (i 1).val) (i 2).val + b ((i 0).val * 512 + (i 1).val) (i 2).val) (mm (i 0).val (i 1).val (i 2).val))
    (by decide +kernel) (fun t _ y => ?_) i
  blk_simp [ix3.2.2.2.2.2.2.2.1 t]
  rw [after3_7]
  refine (m_block3 (in3_0 c ha t) (in3_1 c hb t) (in3_3 c hm t) _).trans ?_
  have e : t.val / 8 * 512 + (t.val / 4 % 2 * 256 + (y 1).val) = t.val / 4 * 256 + (y 1).val := by omega
  simp only [e, Nat.add_zero]

include ha hb hv in
theorem v_array3 : V3 (n := 2) (m := 512) (l := 2048) ((dat3 V c).arrAt 8 cfg3.N) fun l r j => newV (a (l * 512 + r) j + b (l * 512 + r) j) (vv l r j) := by
  intro i
  refine (dat3 V c).arrAt_forall_of_covers 8 (fun i v => v = newV (a ((i 0).val * 512 + (i 1).val) (i 2).val + b ((i 0).val * 512 + (i 1).val) (i 2).val) (vv (i 0).val (i 1).val (i 2).val))
    (by decide +kernel) (fun t _ y => ?_) i
  blk_simp [ix3.2.2.2.2.2.2.2.2 t]
  rw [after3_8]
  refine (v_block3 (in3_0 c ha t) (in3_1 c hb t) (in3_4 c hv t) _).trans ?_
  have e : t.val / 8 * 512 + (t.val / 4 % 2 * 256 + (y 1).val) = t.val / 4 * 256 + (y 1).val := by omega
  simp only [e, Nat.add_zero]

end

section
variable (ha : V2 (n := 4096) (m := 1408) (V c main_arg20) a) (hb : V2 (n := 4096) (m := 1408) (V c main_arg21) b) (hw : V3 (n := 2) (m := 2048) (l := 1408) (V c main_arg22) w) (hm : V3 (n := 2) (m := 2048) (l := 1408) (V c main_arg23) mm) (hv : V3 (n := 2) (m := 2048) (l := 1408) (V c main_arg24) vv)

include ha in
theorem in4_0 (t : Fin cfg4.N) : V2 (n := 128) (m := 1408) (iblk4 V c 0 t) fun r j => a (t.val * 128 + r) j := fun y => by
  blk_simp [iblk4]
  refine (ha _).trans ?_
  blk_simp [ix4.1 t]
include hb in
theorem in4_1 (t : Fin cfg4.N) : V2 (n := 128) (m := 1408) (iblk4 V c 1 t) fun r j => b (t.val * 128 + r) j := fun y => by
  blk_simp [iblk4]
  refine (hb _).trans ?_
  blk_simp [ix4.2.1 t]
include hw in
theorem in4_2 (t : Fin cfg4.N) : V3 (n := 1) (m := 128) (l := 1408) (iblk4 V c 2 t) fun s r j => w (t.val / 16 + s) (t.val % 16 * 128 + r) j := fun y => by
  blk_simp [iblk4]
  refine (hw _).trans ?_
  blk_simp [ix4.2.2.1 t]
include hm in
theorem in4_3 (t : Fin cfg4.N) : V3 (n := 1) (m := 128) (l := 1408) (iblk4 V c 3 t) fun s r j => mm (t.val / 16 + s) (t.val % 16 * 128 + r) j := fun y => by
  blk_simp [iblk4]
  refine (hm _).trans ?_
  blk_simp [ix4.2.2.2.1 t]
include hv in
theorem in4_4 (t : Fin cfg4.N) : V3 (n := 1) (m := 128) (l := 1408) (iblk4 V c 4 t) fun s r j => vv (t.val / 16 + s) (t.val % 16 * 128 + r) j := fun y => by
  blk_simp [iblk4]
  refine (hv _).trans ?_
  blk_simp [ix4.2.2.2.2.1 t]
include ha hb in
theorem g_array4 : V3 (n := 2) (m := 2048) (l := 1408) ((dat4 V c).arrAt 5 cfg4.N) fun l r j => a (l * 2048 + r) j + b (l * 2048 + r) j := by
  intro i
  refine (dat4 V c).arrAt_forall_of_covers 5 (fun i v => v = a ((i 0).val * 2048 + (i 1).val) (i 2).val + b ((i 0).val * 2048 + (i 1).val) (i 2).val)
    (by decide +kernel) (fun t _ y => ?_) i
  blk_simp [ix4.2.2.2.2.2.1 t]
  rw [after4_5]
  refine (g_block4 (in4_0 c ha t) (in4_1 c hb t) _).trans ?_
  have e : t.val / 16 * 2048 + (t.val % 16 * 128 + (y 1).val) = t.val * 128 + (y 1).val := by omega
  simp only [e, Nat.add_zero]

include ha hb hw hm hv in
theorem d_array4 : V3 (n := 2) (m := 2048) (l := 1408) ((dat4 V c).arrAt 6 cfg4.N) fun l r j => delta (w l r j) (newM (a (l * 2048 + r) j + b (l * 2048 + r) j) (mm l r j)) (newV (a (l * 2048 + r) j + b (l * 2048 + r) j) (vv l r j)) := by
  intro i
  refine (dat4 V c).arrAt_forall_of_covers 6 (fun i v => v = delta (w (i 0).val (i 1).val (i 2).val) (newM (a ((i 0).val * 2048 + (i 1).val) (i 2).val + b ((i 0).val * 2048 + (i 1).val) (i 2).val) (mm (i 0).val (i 1).val (i 2).val)) (newV (a ((i 0).val * 2048 + (i 1).val) (i 2).val + b ((i 0).val * 2048 + (i 1).val) (i 2).val) (vv (i 0).val (i 1).val (i 2).val)))
    (by decide +kernel) (fun t _ y => ?_) i
  blk_simp [ix4.2.2.2.2.2.2.1 t]
  rw [after4_6]
  refine (d_block4 (in4_0 c ha t) (in4_1 c hb t) (in4_2 c hw t) (in4_3 c hm t) (in4_4 c hv t) _).trans ?_
  have e : t.val / 16 * 2048 + (t.val % 16 * 128 + (y 1).val) = t.val * 128 + (y 1).val := by omega
  simp only [e, Nat.add_zero]

include ha hb hm in
theorem m_array4 : V3 (n := 2) (m := 2048) (l := 1408) ((dat4 V c).arrAt 7 cfg4.N) fun l r j => newM (a (l * 2048 + r) j + b (l * 2048 + r) j) (mm l r j) := by
  intro i
  refine (dat4 V c).arrAt_forall_of_covers 7 (fun i v => v = newM (a ((i 0).val * 2048 + (i 1).val) (i 2).val + b ((i 0).val * 2048 + (i 1).val) (i 2).val) (mm (i 0).val (i 1).val (i 2).val))
    (by decide +kernel) (fun t _ y => ?_) i
  blk_simp [ix4.2.2.2.2.2.2.2.1 t]
  rw [after4_7]
  refine (m_block4 (in4_0 c ha t) (in4_1 c hb t) (in4_3 c hm t) _).trans ?_
  have e : t.val / 16 * 2048 + (t.val % 16 * 128 + (y 1).val) = t.val * 128 + (y 1).val := by omega
  simp only [e, Nat.add_zero]

include ha hb hv in
theorem v_array4 : V3 (n := 2) (m := 2048) (l := 1408) ((dat4 V c).arrAt 8 cfg4.N) fun l r j => newV (a (l * 2048 + r) j + b (l * 2048 + r) j) (vv l r j) := by
  intro i
  refine (dat4 V c).arrAt_forall_of_covers 8 (fun i v => v = newV (a ((i 0).val * 2048 + (i 1).val) (i 2).val + b ((i 0).val * 2048 + (i 1).val) (i 2).val) (vv (i 0).val (i 1).val (i 2).val))
    (by decide +kernel) (fun t _ y => ?_) i
  blk_simp [ix4.2.2.2.2.2.2.2.2 t]
  rw [after4_8]
  refine (v_block4 (in4_0 c ha t) (in4_1 c hb t) (in4_4 c hv t) _).trans ?_
  have e : t.val / 16 * 2048 + (t.val % 16 * 128 + (y 1).val) = t.val * 128 + (y 1).val := by omega
  simp only [e, Nat.add_zero]

end

section
variable (ha : V2 (n := 4096) (m := 1408) (V c main_arg25) a) (hb : V2 (n := 4096) (m := 1408) (V c main_arg26) b) (hw : V3 (n := 2) (m := 2048) (l := 1408) (V c main_arg27) w) (hm : V3 (n := 2) (m := 2048) (l := 1408) (V c main_arg28) mm) (hv : V3 (n := 2) (m := 2048) (l := 1408) (V c main_arg29) vv)

include ha in
theorem in5_0 (t : Fin cfg5.N) : V2 (n := 128) (m := 1408) (iblk5 V c 0 t) fun r j => a (t.val * 128 + r) j := fun y => by
  blk_simp [iblk5]
  refine (ha _).trans ?_
  blk_simp [ix5.1 t]
include hb in
theorem in5_1 (t : Fin cfg5.N) : V2 (n := 128) (m := 1408) (iblk5 V c 1 t) fun r j => b (t.val * 128 + r) j := fun y => by
  blk_simp [iblk5]
  refine (hb _).trans ?_
  blk_simp [ix5.2.1 t]
include hw in
theorem in5_2 (t : Fin cfg5.N) : V3 (n := 1) (m := 128) (l := 1408) (iblk5 V c 2 t) fun s r j => w (t.val / 16 + s) (t.val % 16 * 128 + r) j := fun y => by
  blk_simp [iblk5]
  refine (hw _).trans ?_
  blk_simp [ix5.2.2.1 t]
include hm in
theorem in5_3 (t : Fin cfg5.N) : V3 (n := 1) (m := 128) (l := 1408) (iblk5 V c 3 t) fun s r j => mm (t.val / 16 + s) (t.val % 16 * 128 + r) j := fun y => by
  blk_simp [iblk5]
  refine (hm _).trans ?_
  blk_simp [ix5.2.2.2.1 t]
include hv in
theorem in5_4 (t : Fin cfg5.N) : V3 (n := 1) (m := 128) (l := 1408) (iblk5 V c 4 t) fun s r j => vv (t.val / 16 + s) (t.val % 16 * 128 + r) j := fun y => by
  blk_simp [iblk5]
  refine (hv _).trans ?_
  blk_simp [ix5.2.2.2.2.1 t]
include ha hb in
theorem g_array5 : V3 (n := 2) (m := 2048) (l := 1408) ((dat5 V c).arrAt 5 cfg5.N) fun l r j => a (l * 2048 + r) j + b (l * 2048 + r) j := by
  intro i
  refine (dat5 V c).arrAt_forall_of_covers 5 (fun i v => v = a ((i 0).val * 2048 + (i 1).val) (i 2).val + b ((i 0).val * 2048 + (i 1).val) (i 2).val)
    (by decide +kernel) (fun t _ y => ?_) i
  blk_simp [ix5.2.2.2.2.2.1 t]
  rw [after5_5]
  refine (g_block5 (in5_0 c ha t) (in5_1 c hb t) _).trans ?_
  have e : t.val / 16 * 2048 + (t.val % 16 * 128 + (y 1).val) = t.val * 128 + (y 1).val := by omega
  simp only [e, Nat.add_zero]

include ha hb hw hm hv in
theorem d_array5 : V3 (n := 2) (m := 2048) (l := 1408) ((dat5 V c).arrAt 6 cfg5.N) fun l r j => delta (w l r j) (newM (a (l * 2048 + r) j + b (l * 2048 + r) j) (mm l r j)) (newV (a (l * 2048 + r) j + b (l * 2048 + r) j) (vv l r j)) := by
  intro i
  refine (dat5 V c).arrAt_forall_of_covers 6 (fun i v => v = delta (w (i 0).val (i 1).val (i 2).val) (newM (a ((i 0).val * 2048 + (i 1).val) (i 2).val + b ((i 0).val * 2048 + (i 1).val) (i 2).val) (mm (i 0).val (i 1).val (i 2).val)) (newV (a ((i 0).val * 2048 + (i 1).val) (i 2).val + b ((i 0).val * 2048 + (i 1).val) (i 2).val) (vv (i 0).val (i 1).val (i 2).val)))
    (by decide +kernel) (fun t _ y => ?_) i
  blk_simp [ix5.2.2.2.2.2.2.1 t]
  rw [after5_6]
  refine (d_block5 (in5_0 c ha t) (in5_1 c hb t) (in5_2 c hw t) (in5_3 c hm t) (in5_4 c hv t) _).trans ?_
  have e : t.val / 16 * 2048 + (t.val % 16 * 128 + (y 1).val) = t.val * 128 + (y 1).val := by omega
  simp only [e, Nat.add_zero]

include ha hb hm in
theorem m_array5 : V3 (n := 2) (m := 2048) (l := 1408) ((dat5 V c).arrAt 7 cfg5.N) fun l r j => newM (a (l * 2048 + r) j + b (l * 2048 + r) j) (mm l r j) := by
  intro i
  refine (dat5 V c).arrAt_forall_of_covers 7 (fun i v => v = newM (a ((i 0).val * 2048 + (i 1).val) (i 2).val + b ((i 0).val * 2048 + (i 1).val) (i 2).val) (mm (i 0).val (i 1).val (i 2).val))
    (by decide +kernel) (fun t _ y => ?_) i
  blk_simp [ix5.2.2.2.2.2.2.2.1 t]
  rw [after5_7]
  refine (m_block5 (in5_0 c ha t) (in5_1 c hb t) (in5_3 c hm t) _).trans ?_
  have e : t.val / 16 * 2048 + (t.val % 16 * 128 + (y 1).val) = t.val * 128 + (y 1).val := by omega
  simp only [e, Nat.add_zero]

include ha hb hv in
theorem v_array5 : V3 (n := 2) (m := 2048) (l := 1408) ((dat5 V c).arrAt 8 cfg5.N) fun l r j => newV (a (l * 2048 + r) j + b (l * 2048 + r) j) (vv l r j) := by
  intro i
  refine (dat5 V c).arrAt_forall_of_covers 8 (fun i v => v = newV (a ((i 0).val * 2048 + (i 1).val) (i 2).val + b ((i 0).val * 2048 + (i 1).val) (i 2).val) (vv (i 0).val (i 1).val (i 2).val))
    (by decide +kernel) (fun t _ y => ?_) i
  blk_simp [ix5.2.2.2.2.2.2.2.2 t]
  rw [after5_8]
  refine (v_block5 (in5_0 c ha t) (in5_1 c hb t) (in5_4 c hv t) _).trans ?_
  have e : t.val / 16 * 2048 + (t.val % 16 * 128 + (y 1).val) = t.val * 128 + (y 1).val := by omega
  simp only [e, Nat.add_zero]

end

section
variable (ha : V2 (n := 2816) (m := 2048) (V c main_arg30) a) (hb : V2 (n := 2816) (m := 2048) (V c main_arg31) b) (hw : V3 (n := 2) (m := 1408) (l := 2048) (V c main_arg32) w) (hm : V3 (n := 2) (m := 1408) (l := 2048) (V c main_arg33) mm) (hv : V3 (n := 2) (m := 1408) (l := 2048) (V c main_arg34) vv)

include ha in
theorem in6_0 (t : Fin cfg6.N) : V2 (n := 352) (m := 512) (iblk6 V c 0 t) fun r j => a (t.val / 4 * 352 + r) (t.val % 4 * 512 + j) := fun y => by
  blk_simp [iblk6]
  refine (ha _).trans ?_
  blk_simp [ix6.1 t]
include hb in
theorem in6_1 (t : Fin cfg6.N) : V2 (n := 352) (m := 512) (iblk6 V c 1 t) fun r j => b (t.val / 4 * 352 + r) (t.val % 4 * 512 + j) := fun y => by
  blk_simp [iblk6]
  refine (hb _).trans ?_
  blk_simp [ix6.2.1 t]
include hw in
theorem in6_2 (t : Fin cfg6.N) : V3 (n := 1) (m := 352) (l := 512) (iblk6 V c 2 t) fun s r j => w (t.val / 16 + s) (t.val / 4 % 4 * 352 + r) (t.val % 4 * 512 + j) := fun y => by
  blk_simp [iblk6]
  refine (hw _).trans ?_
  blk_simp [ix6.2.2.1 t]
include hm in
theorem in6_3 (t : Fin cfg6.N) : V3 (n := 1) (m := 352) (l := 512) (iblk6 V c 3 t) fun s r j => mm (t.val / 16 + s) (t.val / 4 % 4 * 352 + r) (t.val % 4 * 512 + j) := fun y => by
  blk_simp [iblk6]
  refine (hm _).trans ?_
  blk_simp [ix6.2.2.2.1 t]
include hv in
theorem in6_4 (t : Fin cfg6.N) : V3 (n := 1) (m := 352) (l := 512) (iblk6 V c 4 t) fun s r j => vv (t.val / 16 + s) (t.val / 4 % 4 * 352 + r) (t.val % 4 * 512 + j) := fun y => by
  blk_simp [iblk6]
  refine (hv _).trans ?_
  blk_simp [ix6.2.2.2.2.1 t]
include ha hb in
theorem g_array6 : V3 (n := 2) (m := 1408) (l := 2048) ((dat6 V c).arrAt 5 cfg6.N) fun l r j => a (l * 1408 + r) j + b (l * 1408 + r) j := by
  intro i
  refine (dat6 V c).arrAt_forall_of_covers 5 (fun i v => v = a ((i 0).val * 1408 + (i 1).val) (i 2).val + b ((i 0).val * 1408 + (i 1).val) (i 2).val)
    (by decide +kernel) (fun t _ y => ?_) i
  blk_simp [ix6.2.2.2.2.2.1 t]
  rw [after6_5]
  refine (g_block6 (in6_0 c ha t) (in6_1 c hb t) _).trans ?_
  have e : t.val / 16 * 1408 + (t.val / 4 % 4 * 352 + (y 1).val) = t.val / 4 * 352 + (y 1).val := by omega
  simp only [e, Nat.add_zero]

include ha hb hw hm hv in
theorem d_array6 : V3 (n := 2) (m := 1408) (l := 2048) ((dat6 V c).arrAt 6 cfg6.N) fun l r j => delta (w l r j) (newM (a (l * 1408 + r) j + b (l * 1408 + r) j) (mm l r j)) (newV (a (l * 1408 + r) j + b (l * 1408 + r) j) (vv l r j)) := by
  intro i
  refine (dat6 V c).arrAt_forall_of_covers 6 (fun i v => v = delta (w (i 0).val (i 1).val (i 2).val) (newM (a ((i 0).val * 1408 + (i 1).val) (i 2).val + b ((i 0).val * 1408 + (i 1).val) (i 2).val) (mm (i 0).val (i 1).val (i 2).val)) (newV (a ((i 0).val * 1408 + (i 1).val) (i 2).val + b ((i 0).val * 1408 + (i 1).val) (i 2).val) (vv (i 0).val (i 1).val (i 2).val)))
    (by decide +kernel) (fun t _ y => ?_) i
  blk_simp [ix6.2.2.2.2.2.2.1 t]
  rw [after6_6]
  refine (d_block6 (in6_0 c ha t) (in6_1 c hb t) (in6_2 c hw t) (in6_3 c hm t) (in6_4 c hv t) _).trans ?_
  have e : t.val / 16 * 1408 + (t.val / 4 % 4 * 352 + (y 1).val) = t.val / 4 * 352 + (y 1).val := by omega
  simp only [e, Nat.add_zero]

include ha hb hm in
theorem m_array6 : V3 (n := 2) (m := 1408) (l := 2048) ((dat6 V c).arrAt 7 cfg6.N) fun l r j => newM (a (l * 1408 + r) j + b (l * 1408 + r) j) (mm l r j) := by
  intro i
  refine (dat6 V c).arrAt_forall_of_covers 7 (fun i v => v = newM (a ((i 0).val * 1408 + (i 1).val) (i 2).val + b ((i 0).val * 1408 + (i 1).val) (i 2).val) (mm (i 0).val (i 1).val (i 2).val))
    (by decide +kernel) (fun t _ y => ?_) i
  blk_simp [ix6.2.2.2.2.2.2.2.1 t]
  rw [after6_7]
  refine (m_block6 (in6_0 c ha t) (in6_1 c hb t) (in6_3 c hm t) _).trans ?_
  have e : t.val / 16 * 1408 + (t.val / 4 % 4 * 352 + (y 1).val) = t.val / 4 * 352 + (y 1).val := by omega
  simp only [e, Nat.add_zero]

include ha hb hv in
theorem v_array6 : V3 (n := 2) (m := 1408) (l := 2048) ((dat6 V c).arrAt 8 cfg6.N) fun l r j => newV (a (l * 1408 + r) j + b (l * 1408 + r) j) (vv l r j) := by
  intro i
  refine (dat6 V c).arrAt_forall_of_covers 8 (fun i v => v = newV (a ((i 0).val * 1408 + (i 1).val) (i 2).val + b ((i 0).val * 1408 + (i 1).val) (i 2).val) (vv (i 0).val (i 1).val (i 2).val))
    (by decide +kernel) (fun t _ y => ?_) i
  blk_simp [ix6.2.2.2.2.2.2.2.2 t]
  rw [after6_8]
  refine (v_block6 (in6_0 c ha t) (in6_1 c hb t) (in6_4 c hv t) _).trans ?_
  have e : t.val / 16 * 1408 + (t.val / 4 % 4 * 352 + (y 1).val) = t.val / 4 * 352 + (y 1).val := by omega
  simp only [e, Nat.add_zero]

end

end Arrays

end Cert.Kernel7Ideal.Val
-- ==== Proof.AdamGains.lean ====
/-
  The optimiser's call for the gains: the sum of eight devices' gradients, and the step, over the extended reals.
-/
module

public import proofs.«01_k».proof.Proof.Gen.Kernel7Ideal.Frame
public import proofs.«01_k».proof.Proof.AdamSpec

@[expose] public section

set_option maxRecDepth 16384

noncomputable section

namespace Cert.Kernel7Ideal.Val

open Idealize.ShloMosaic Idealize.ShloMosaic.TcCoe Idealize.SL.Sem Idealize.ShloMosaic.Pipeline
open Cert.Kernel7Ideal Cert.Kernel7Ideal.Gen Cert.Ext Cert.Adam

section Block
variable {G : Vec Ideal S8x136x128 .f32} {P Q S : Vec Ideal S136x128 .f32} {g : ℕ → ℕ → ℕ → EReal} {w mm vv : ℕ → ℕ → EReal}
  (hG : V3 G g) (hP : V2 P w) (hQ : V2 Q mm) (hS : V2 S vv)

include hG
/-- One device's gradient. -/
theorem part7 (k : ℕ) (inb : ∀ a, (![k, 0, 0] : Fin 3 → ℕ) a + S1x136x128.size a ≤ S8x136x128.size a) :
    V2 (n := 136) (m := 128) (shapeCast S136x128 (fun i => G ((Rect.unit (s := S8x136x128) ![k, 0, 0] S1x136x128.size inb).idx i)) shapeCasts_S1x136x128_S136x128) (g k) :=
  V3.plane (x := fun s r j => g (k + s) r j) (fun i => (hG _).trans (by congr 1 <;> simp [Rect.idx_unit_val])) _

theorem g_pay7 : V2 (k7_pay6 (F := Ideal) G P Q S) (fun r j => ∑ k : Fin 8, g k r j) := fun i => by
  refine Eq.trans ?_ (Fin.sum_univ_eight fun k : Fin 8 => g k.val (i 0).val (i 1).val).symm
  exact (congrArg₂ (· + ·) ((congrArg₂ (· + ·) ((congrArg₂ (· + ·) ((congrArg₂ (· + ·) ((congrArg₂ (· + ·) ((congrArg₂ (· + ·) ((congrArg₂ (· + ·) (part7 hG 0 inb_S8x136x128_S1x136x128_0_0_0 i) (part7 hG 1 inb_S8x136x128_S1x136x128_1_0_0 i))) (part7 hG 2 inb_S8x136x128_S1x136x128_2_0_0 i))) (part7 hG 3 inb_S8x136x128_S1x136x128_3_0_0 i))) (part7 hG 4 inb_S8x136x128_S1x136x128_4_0_0 i))) (part7 hG 5 inb_S8x136x128_S1x136x128_5_0_0 i))) (part7 hG 6 inb_S8x136x128_S1x136x128_6_0_0 i))) (part7 hG 7 inb_S8x136x128_S1x136x128_7_0_0 i))

include hQ in
theorem m_pay7 : V2 (k7_pay1 (F := Ideal) (k7_pay6 G P Q S) (k7_pay7 G P Q S) (Scalar.ofBits .f32 0x3DCCCCCD#32))
    (fun r j => newM (∑ k : Fin 8, g k r j) (mm r j)) := fun i =>
  congrArg₂ newM (g_pay7 hG i) ((hQ.ld inb_S136x128_S136x128_0_0) i)
include hS in
theorem v_pay7 : V2 (k7_pay2 (F := Ideal) (k7_pay6 G P Q S) (View.ld S r7_8)) (fun r j => newV (∑ k : Fin 8, g k r j) (vv r j)) := fun i =>
  congrArg₂ newV (g_pay7 hG i) ((hS.ld inb_S136x128_S136x128_0_0) i)

theorem g_block7 : V2 (out7_4 (F := Ideal) G P Q S) (fun r j => ∑ k : Fin 8, g k r j) := fun y => by
  unfold out7_4
  canon_tiles x ha using cover7_4 ..
  exact (g_pay7 hG x).trans (by rw [ha0, ha1])
include hP hQ hS in
theorem d_block7 : V2 (out7_5 (F := Ideal) G P Q S)
    (fun r j => delta (w r j) (newM (∑ k : Fin 8, g k r j) (mm r j)) (newV (∑ k : Fin 8, g k r j) (vv r j))) := fun y => by
  unfold out7_5
  canon_tiles x ha using cover7_5 ..
  exact (delta_congr ((hP.ld inb_S136x128_S136x128_0_0) x) (m_pay7 hG hQ x) (v_pay7 hG hS x)).trans (by rw [ha0, ha1])
include hQ in
theorem m_block7 : V2 (out7_6 (F := Ideal) G P Q S) (fun r j => newM (∑ k : Fin 8, g k r j) (mm r j)) := fun y => by
  unfold out7_6
  canon_tiles x ha using cover7_6 ..
  exact (m_pay7 hG hQ x).trans (by rw [ha0, ha1])
include hS in
theorem v_block7 : V2 (out7_7 (F := Ideal) G P Q S) (fun r j => newV (∑ k : Fin 8, g k r j) (vv r j)) := fun y => by
  unfold out7_7
  canon_tiles x ha using cover7_7 ..
  exact (v_pay7 hG hS x).trans (by rw [ha0, ha1])
end Block

theorem ix7 : (∀ t : Fin cfg7.N, win7_0.index t = ![0, 0, 0]) ∧ (∀ t : Fin cfg7.N, win7_1.index t = ![0, 0]) ∧ (∀ t : Fin cfg7.N, win7_2.index t = ![0, 0]) ∧ (∀ t : Fin cfg7.N, win7_3.index t = ![0, 0]) ∧ (∀ t : Fin cfg7.N, win7_4.index t = ![0, 0]) ∧ (∀ t : Fin cfg7.N, win7_5.index t = ![0, 0]) ∧ (∀ t : Fin cfg7.N, win7_6.index t = ![0, 0]) ∧ (∀ t : Fin cfg7.N, win7_7.index t = ![0, 0]) := by
  decide +kernel

section Arrays
variable {V : (c : Dev nD) → (b : Ref sig .tc) → Buf (Elt Ideal) ((c : Thread nD τ).loc b)} (c : Dev nD)
  {g : ℕ → ℕ → ℕ → EReal} {w mm vv : ℕ → ℕ → EReal} (hg : V3 (n := 8) (m := 136) (l := 128) (V c main_arg35) g)
  (hw : V2 (n := 136) (m := 128) (V c main_arg36) w) (hm : V2 (n := 136) (m := 128) (V c main_arg37) mm)
  (hv : V2 (n := 136) (m := 128) (V c main_arg38) vv)

include hg in
theorem in7_0 (t : Fin cfg7.N) : V3 (n := 8) (m := 136) (l := 128) (iblk7 V c 0 t) g := fun y => by
  blk_simp [iblk7]
  refine (hg _).trans ?_
  blk_simp [ix7.1 t]
include hw in
theorem in7_1 (t : Fin cfg7.N) : V2 (n := 136) (m := 128) (iblk7 V c 1 t) w := fun y => by
  blk_simp [iblk7]
  refine (hw _).trans ?_
  blk_simp [ix7.2.1 t]
include hm in
theorem in7_2 (t : Fin cfg7.N) : V2 (n := 136) (m := 128) (iblk7 V c 2 t) mm := fun y => by
  blk_simp [iblk7]
  refine (hm _).trans ?_
  blk_simp [ix7.2.2.1 t]
include hv in
theorem in7_3 (t : Fin cfg7.N) : V2 (n := 136) (m := 128) (iblk7 V c 3 t) vv := fun y => by
  blk_simp [iblk7]
  refine (hv _).trans ?_
  blk_simp [ix7.2.2.2.1 t]
include hg in
theorem g_array7 : V2 (n := 136) (m := 128) ((dat7 V c).arrAt 4 cfg7.N) fun r j => (∑ k : Fin 8, g k r j) := by
  intro i
  refine (dat7 V c).arrAt_forall_of_covers 4 (fun i v => v = (∑ k : Fin 8, g k (i 0).val (i 1).val))
    (by decide +kernel) (fun t _ y => ?_) i
  blk_simp [ix7.2.2.2.2.1 t]
  rw [after7_4]
  exact g_block7 (in7_0 c hg t) _
include hg hw hm hv in
theorem d_array7 : V2 (n := 136) (m := 128) ((dat7 V c).arrAt 5 cfg7.N) fun r j => delta (w r j) (newM (∑ k : Fin 8, g k r j) (mm r j)) (newV (∑ k : Fin 8, g k r j) (vv r j)) := by
  intro i
  refine (dat7 V c).arrAt_forall_of_covers 5 (fun i v => v = delta (w (i 0).val (i 1).val) (newM (∑ k : Fin 8, g k (i 0).val (i 1).val) (mm (i 0).val (i 1).val)) (newV (∑ k : Fin 8, g k (i 0).val (i 1).val) (vv (i 0).val (i 1).val)))
    (by decide +kernel) (fun t _ y => ?_) i
  blk_simp [ix7.2.2.2.2.2.1 t]
  rw [after7_5]
  exact d_block7 (in7_0 c hg t) (in7_1 c hw t) (in7_2 c hm t) (in7_3 c hv t) _
include hg hm in
theorem m_array7 : V2 (n := 136) (m := 128) ((dat7 V c).arrAt 6 cfg7.N) fun r j => newM (∑ k : Fin 8, g k r j) (mm r j) := by
  intro i
  refine (dat7 V c).arrAt_forall_of_covers 6 (fun i v => v = newM (∑ k : Fin 8, g k (i 0).val (i 1).val) (mm (i 0).val (i 1).val))
    (by decide +kernel) (fun t _ y => ?_) i
  blk_simp [ix7.2.2.2.2.2.2.1 t]
  rw [after7_6]
  exact m_block7 (in7_0 c hg t) (in7_2 c hm t) _
include hg hv in
theorem v_array7 : V2 (n := 136) (m := 128) ((dat7 V c).arrAt 7 cfg7.N) fun r j => newV (∑ k : Fin 8, g k r j) (vv r j) := by
  intro i
  refine (dat7 V c).arrAt_forall_of_covers 7 (fun i v => v = newV (∑ k : Fin 8, g k (i 0).val (i 1).val) (vv (i 0).val (i 1).val))
    (by decide +kernel) (fun t _ y => ?_) i
  blk_simp [ix7.2.2.2.2.2.2.2 t]
  rw [after7_7]
  exact v_block7 (in7_0 c hg t) (in7_3 c hv t) _
end Arrays

end Cert.Kernel7Ideal.Val
-- ==== Proof.AdamRun.lean ====
/-
  The optimiser's run with every buffer's final contents, and the 32 results at the ideal values.
-/
module

public import proofs.«01_k».proof.Proof.Gen.Kernel7Ideal.Frame
public import proofs.«01_k».proof.Proof.Adam
public import proofs.«01_k».proof.Proof.AdamGains

@[expose] public section

set_option maxRecDepth 16384

noncomputable section

namespace Cert.Kernel7Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen Cert.Ext Cert.Adam

section
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and each buffer then holds what the eight launches leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)
end

variable {m : (ℓ : Loc nD τ sig) → Buf (Elt Ideal) ℓ} (ρ : Dev nD → PrngReg) (c : Dev nD)

/-! Region 0. -/

section
variable {a b : ℕ → ℕ → EReal} {w mm vv : ℕ → ℕ → ℕ → EReal}
  (ha : Ext.V2 (n := 2336) (m := 2048) (m ((c.tc : Thread nD τ).loc main_arg0)) a)
  (hb : Ext.V2 (n := 2336) (m := 2048) (m ((c.tc : Thread nD τ).loc main_arg1)) b)
  (hw : Ext.V3 (n := 2) (m := 1168) (l := 2048) (m ((c.tc : Thread nD τ).loc main_arg2)) w)
  (hm : Ext.V3 (n := 2) (m := 1168) (l := 2048) (m ((c.tc : Thread nD τ).loc main_arg3)) mm)
  (hv : Ext.V3 (n := 2) (m := 1168) (l := 2048) (m ((c.tc : Thread nD τ).loc main_arg4)) vv)

include ha in
theorem at_ha0 : Ext.V2 (n := 2336) (m := 2048) (Gen.V0 m ρ c main_arg0) a := by
  rw [show Gen.V0 m ρ c main_arg0 = _ from W0_args m ρ c main_arg0 (by decide)]; exact ha
include hb in
theorem at_hb0 : Ext.V2 (n := 2336) (m := 2048) (Gen.V0 m ρ c main_arg1) b := by
  rw [show Gen.V0 m ρ c main_arg1 = _ from W0_args m ρ c main_arg1 (by decide)]; exact hb
include hw in
theorem at_hw0 : Ext.V3 (n := 2) (m := 1168) (l := 2048) (Gen.V0 m ρ c main_arg2) w := by
  rw [show Gen.V0 m ρ c main_arg2 = _ from W0_args m ρ c main_arg2 (by decide)]; exact hw
include hm in
theorem at_hm0 : Ext.V3 (n := 2) (m := 1168) (l := 2048) (Gen.V0 m ρ c main_arg3) mm := by
  rw [show Gen.V0 m ρ c main_arg3 = _ from W0_args m ρ c main_arg3 (by decide)]; exact hm
include hv in
theorem at_hv0 : Ext.V3 (n := 2) (m := 1168) (l := 2048) (Gen.V0 m ρ c main_arg4) vv := by
  rw [show Gen.V0 m ρ c main_arg4 = _ from W0_args m ρ c main_arg4 (by decide)]; exact hv

include ha hb in
theorem g_res0 : Ext.V3 (n := 2) (m := 1168) (l := 2048) (W8 m ρ c (Proc.devRef .tc main_v0_0)) fun l r j => a (l * 1168 + r) j + b (l * 1168 + r) j := by
  rw [show W8 m ρ c (Proc.devRef .tc main_v0_0) = _ from W8_of m ρ c main_v0_0 (by decide),
    show W7 m ρ c (Proc.devRef .tc main_v0_0) = _ from W7_of m ρ c main_v0_0 (by decide),
    show W6 m ρ c (Proc.devRef .tc main_v0_0) = _ from W6_of m ρ c main_v0_0 (by decide),
    show W5 m ρ c (Proc.devRef .tc main_v0_0) = _ from W5_of m ρ c main_v0_0 (by decide),
    show W4 m ρ c (Proc.devRef .tc main_v0_0) = _ from W4_of m ρ c main_v0_0 (by decide),
    show W3 m ρ c (Proc.devRef .tc main_v0_0) = _ from W3_of m ρ c main_v0_0 (by decide),
    show W2 m ρ c (Proc.devRef .tc main_v0_0) = _ from W2_of m ρ c main_v0_0 (by decide),
    show W1 m ρ c (Proc.devRef .tc main_v0_0) = _ from W1_arr m ρ c 5]
  exact g_array0 c (at_ha0 ρ c ha) (at_hb0 ρ c hb)

include ha hb hw hm hv in
theorem d_res0 : Ext.V3 (n := 2) (m := 1168) (l := 2048) (W8 m ρ c (Proc.devRef .tc main_v0_1)) fun l r j => delta (w l r j) (newM (a (l * 1168 + r) j + b (l * 1168 + r) j) (mm l r j)) (newV (a (l * 1168 + r) j + b (l * 1168 + r) j) (vv l r j)) := by
  rw [show W8 m ρ c (Proc.devRef .tc main_v0_1) = _ from W8_of m ρ c main_v0_1 (by decide),
    show W7 m ρ c (Proc.devRef .tc main_v0_1) = _ from W7_of m ρ c main_v0_1 (by decide),
    show W6 m ρ c (Proc.devRef .tc main_v0_1) = _ from W6_of m ρ c main_v0_1 (by decide),
    show W5 m ρ c (Proc.devRef .tc main_v0_1) = _ from W5_of m ρ c main_v0_1 (by decide),
    show W4 m ρ c (Proc.devRef .tc main_v0_1) = _ from W4_of m ρ c main_v0_1 (by decide),
    show W3 m ρ c (Proc.devRef .tc main_v0_1) = _ from W3_of m ρ c main_v0_1 (by decide),
    show W2 m ρ c (Proc.devRef .tc main_v0_1) = _ from W2_of m ρ c main_v0_1 (by decide),
    show W1 m ρ c (Proc.devRef .tc main_v0_1) = _ from W1_arr m ρ c 6]
  exact d_array0 c (at_ha0 ρ c ha) (at_hb0 ρ c hb) (at_hw0 ρ c hw) (at_hm0 ρ c hm) (at_hv0 ρ c hv)

include ha hb hm in
theorem m_res0 : Ext.V3 (n := 2) (m := 1168) (l := 2048) (W8 m ρ c (Proc.devRef .tc main_v0_2)) fun l r j => newM (a (l * 1168 + r) j + b (l * 1168 + r) j) (mm l r j) := by
  rw [show W8 m ρ c (Proc.devRef .tc main_v0_2) = _ from W8_of m ρ c main_v0_2 (by decide),
    show W7 m ρ c (Proc.devRef .tc main_v0_2) = _ from W7_of m ρ c main_v0_2 (by decide),
    show W6 m ρ c (Proc.devRef .tc main_v0_2) = _ from W6_of m ρ c main_v0_2 (by decide),
    show W5 m ρ c (Proc.devRef .tc main_v0_2) = _ from W5_of m ρ c main_v0_2 (by decide),
    show W4 m ρ c (Proc.devRef .tc main_v0_2) = _ from W4_of m ρ c main_v0_2 (by decide),
    show W3 m ρ c (Proc.devRef .tc main_v0_2) = _ from W3_of m ρ c main_v0_2 (by decide),
    show W2 m ρ c (Proc.devRef .tc main_v0_2) = _ from W2_of m ρ c main_v0_2 (by decide),
    show W1 m ρ c (Proc.devRef .tc main_v0_2) = _ from W1_arr m ρ c 7]
  exact m_array0 c (at_ha0 ρ c ha) (at_hb0 ρ c hb) (at_hm0 ρ c hm)

include ha hb hv in
theorem v_res0 : Ext.V3 (n := 2) (m := 1168) (l := 2048) (W8 m ρ c (Proc.devRef .tc main_v0_3)) fun l r j => newV (a (l * 1168 + r) j + b (l * 1168 + r) j) (vv l r j) := by
  rw [show W8 m ρ c (Proc.devRef .tc main_v0_3) = _ from W8_of m ρ c main_v0_3 (by decide),
    show W7 m ρ c (Proc.devRef .tc main_v0_3) = _ from W7_of m ρ c main_v0_3 (by decide),
    show W6 m ρ c (Proc.devRef .tc main_v0_3) = _ from W6_of m ρ c main_v0_3 (by decide),
    show W5 m ρ c (Proc.devRef .tc main_v0_3) = _ from W5_of m ρ c main_v0_3 (by decide),
    show W4 m ρ c (Proc.devRef .tc main_v0_3) = _ from W4_of m ρ c main_v0_3 (by decide),
    show W3 m ρ c (Proc.devRef .tc main_v0_3) = _ from W3_of m ρ c main_v0_3 (by decide),
    show W2 m ρ c (Proc.devRef .tc main_v0_3) = _ from W2_of m ρ c main_v0_3 (by decide),
    show W1 m ρ c (Proc.devRef .tc main_v0_3) = _ from W1_arr m ρ c 8]
  exact v_array0 c (at_ha0 ρ c ha) (at_hb0 ρ c hb) (at_hv0 ρ c hv)

end

/-! Region 1. -/

section
variable {a b : ℕ → ℕ → EReal} {w mm vv : ℕ → ℕ → ℕ → EReal}
  (ha : Ext.V2 (n := 1024) (m := 192) (m ((c.tc : Thread nD τ).loc main_arg5)) a)
  (hb : Ext.V2 (n := 1024) (m := 192) (m ((c.tc : Thread nD τ).loc main_arg6)) b)
  (hw : Ext.V3 (n := 2) (m := 512) (l := 192) (m ((c.tc : Thread nD τ).loc main_arg7)) w)
  (hm : Ext.V3 (n := 2) (m := 512) (l := 192) (m ((c.tc : Thread nD τ).loc main_arg8)) mm)
  (hv : Ext.V3 (n := 2) (m := 512) (l := 192) (m ((c.tc : Thread nD τ).loc main_arg9)) vv)

include ha in
theorem at_ha1 : Ext.V2 (n := 1024) (m := 192) (Gen.V1 m ρ c main_arg5) a := by
  rw [show Gen.V1 m ρ c main_arg5 = _ from W1_args m ρ c main_arg5 (by decide)]; exact ha
include hb in
theorem at_hb1 : Ext.V2 (n := 1024) (m := 192) (Gen.V1 m ρ c main_arg6) b := by
  rw [show Gen.V1 m ρ c main_arg6 = _ from W1_args m ρ c main_arg6 (by decide)]; exact hb
include hw in
theorem at_hw1 : Ext.V3 (n := 2) (m := 512) (l := 192) (Gen.V1 m ρ c main_arg7) w := by
  rw [show Gen.V1 m ρ c main_arg7 = _ from W1_args m ρ c main_arg7 (by decide)]; exact hw
include hm in
theorem at_hm1 : Ext.V3 (n := 2) (m := 512) (l := 192) (Gen.V1 m ρ c main_arg8) mm := by
  rw [show Gen.V1 m ρ c main_arg8 = _ from W1_args m ρ c main_arg8 (by decide)]; exact hm
include hv in
theorem at_hv1 : Ext.V3 (n := 2) (m := 512) (l := 192) (Gen.V1 m ρ c main_arg9) vv := by
  rw [show Gen.V1 m ρ c main_arg9 = _ from W1_args m ρ c main_arg9 (by decide)]; exact hv

include ha hb in
theorem g_res1 : Ext.V3 (n := 2) (m := 512) (l := 192) (W8 m ρ c (Proc.devRef .tc main_v1_0)) fun l r j => a (l * 512 + r) j + b (l * 512 + r) j := by
  rw [show W8 m ρ c (Proc.devRef .tc main_v1_0) = _ from W8_of m ρ c main_v1_0 (by decide),
    show W7 m ρ c (Proc.devRef .tc main_v1_0) = _ from W7_of m ρ c main_v1_0 (by decide),
    show W6 m ρ c (Proc.devRef .tc main_v1_0) = _ from W6_of m ρ c main_v1_0 (by decide),
    show W5 m ρ c (Proc.devRef .tc main_v1_0) = _ from W5_of m ρ c main_v1_0 (by decide),
    show W4 m ρ c (Proc.devRef .tc main_v1_0) = _ from W4_of m ρ c main_v1_0 (by decide),
    show W3 m ρ c (Proc.devRef .tc main_v1_0) = _ from W3_of m ρ c main_v1_0 (by decide),
    show W2 m ρ c (Proc.devRef .tc main_v1_0) = _ from W2_arr m ρ c 5]
  exact g_array1 c (at_ha1 ρ c ha) (at_hb1 ρ c hb)

include ha hb hw hm hv in
theorem d_res1 : Ext.V3 (n := 2) (m := 512) (l := 192) (W8 m ρ c (Proc.devRef .tc main_v1_1)) fun l r j => delta (w l r j) (newM (a (l * 512 + r) j + b (l * 512 + r) j) (mm l r j)) (newV (a (l * 512 + r) j + b (l * 512 + r) j) (vv l r j)) := by
  rw [show W8 m ρ c (Proc.devRef .tc main_v1_1) = _ from W8_of m ρ c main_v1_1 (by decide),
    show W7 m ρ c (Proc.devRef .tc main_v1_1) = _ from W7_of m ρ c main_v1_1 (by decide),
    show W6 m ρ c (Proc.devRef .tc main_v1_1) = _ from W6_of m ρ c main_v1_1 (by decide),
    show W5 m ρ c (Proc.devRef .tc main_v1_1) = _ from W5_of m ρ c main_v1_1 (by decide),
    show W4 m ρ c (Proc.devRef .tc main_v1_1) = _ from W4_of m ρ c main_v1_1 (by decide),
    show W3 m ρ c (Proc.devRef .tc main_v1_1) = _ from W3_of m ρ c main_v1_1 (by decide),
    show W2 m ρ c (Proc.devRef .tc main_v1_1) = _ from W2_arr m ρ c 6]
  exact d_array1 c (at_ha1 ρ c ha) (at_hb1 ρ c hb) (at_hw1 ρ c hw) (at_hm1 ρ c hm) (at_hv1 ρ c hv)

include ha hb hm in
theorem m_res1 : Ext.V3 (n := 2) (m := 512) (l := 192) (W8 m ρ c (Proc.devRef .tc main_v1_2)) fun l r j => newM (a (l * 512 + r) j + b (l * 512 + r) j) (mm l r j) := by
  rw [show W8 m ρ c (Proc.devRef .tc main_v1_2) = _ from W8_of m ρ c main_v1_2 (by decide),
    show W7 m ρ c (Proc.devRef .tc main_v1_2) = _ from W7_of m ρ c main_v1_2 (by decide),
    show W6 m ρ c (Proc.devRef .tc main_v1_2) = _ from W6_of m ρ c main_v1_2 (by decide),
    show W5 m ρ c (Proc.devRef .tc main_v1_2) = _ from W5_of m ρ c main_v1_2 (by decide),
    show W4 m ρ c (Proc.devRef .tc main_v1_2) = _ from W4_of m ρ c main_v1_2 (by decide),
    show W3 m ρ c (Proc.devRef .tc main_v1_2) = _ from W3_of m ρ c main_v1_2 (by decide),
    show W2 m ρ c (Proc.devRef .tc main_v1_2) = _ from W2_arr m ρ c 7]
  exact m_array1 c (at_ha1 ρ c ha) (at_hb1 ρ c hb) (at_hm1 ρ c hm)

include ha hb hv in
theorem v_res1 : Ext.V3 (n := 2) (m := 512) (l := 192) (W8 m ρ c (Proc.devRef .tc main_v1_3)) fun l r j => newV (a (l * 512 + r) j + b (l * 512 + r) j) (vv l r j) := by
  rw [show W8 m ρ c (Proc.devRef .tc main_v1_3) = _ from W8_of m ρ c main_v1_3 (by decide),
    show W7 m ρ c (Proc.devRef .tc main_v1_3) = _ from W7_of m ρ c main_v1_3 (by decide),
    show W6 m ρ c (Proc.devRef .tc main_v1_3) = _ from W6_of m ρ c main_v1_3 (by decide),
    show W5 m ρ c (Proc.devRef .tc main_v1_3) = _ from W5_of m ρ c main_v1_3 (by decide),
    show W4 m ρ c (Proc.devRef .tc main_v1_3) = _ from W4_of m ρ c main_v1_3 (by decide),
    show W3 m ρ c (Proc.devRef .tc main_v1_3) = _ from W3_of m ρ c main_v1_3 (by decide),
    show W2 m ρ c (Proc.devRef .tc main_v1_3) = _ from W2_arr m ρ c 8]
  exact v_array1 c (at_ha1 ρ c ha) (at_hb1 ρ c hb) (at_hv1 ρ c hv)

end

/-! Region 2. -/

section
variable {a b : ℕ → ℕ → EReal} {w mm vv : ℕ → ℕ → ℕ → EReal}
  (ha : Ext.V2 (n := 1024) (m := 256) (m ((c.tc : Thread nD τ).loc main_arg10)) a)
  (hb : Ext.V2 (n := 1024) (m := 256) (m ((c.tc : Thread nD τ).loc main_arg11)) b)
  (hw : Ext.V3 (n := 2) (m := 512) (l := 256) (m ((c.tc : Thread nD τ).loc main_arg12)) w)
  (hm : Ext.V3 (n := 2) (m := 512) (l := 256) (m ((c.tc : Thread nD τ).loc main_arg13)) mm)
  (hv : Ext.V3 (n := 2) (m := 512) (l := 256) (m ((c.tc : Thread nD τ).loc main_arg14)) vv)

include ha in
theorem at_ha2 : Ext.V2 (n := 1024) (m := 256) (Gen.V2 m ρ c main_arg10) a := by
  rw [show Gen.V2 m ρ c main_arg10 = _ from W2_args m ρ c main_arg10 (by decide)]; exact ha
include hb in
theorem at_hb2 : Ext.V2 (n := 1024) (m := 256) (Gen.V2 m ρ c main_arg11) b := by
  rw [show Gen.V2 m ρ c main_arg11 = _ from W2_args m ρ c main_arg11 (by decide)]; exact hb
include hw in
theorem at_hw2 : Ext.V3 (n := 2) (m := 512) (l := 256) (Gen.V2 m ρ c main_arg12) w := by
  rw [show Gen.V2 m ρ c main_arg12 = _ from W2_args m ρ c main_arg12 (by decide)]; exact hw
include hm in
theorem at_hm2 : Ext.V3 (n := 2) (m := 512) (l := 256) (Gen.V2 m ρ c main_arg13) mm := by
  rw [show Gen.V2 m ρ c main_arg13 = _ from W2_args m ρ c main_arg13 (by decide)]; exact hm
include hv in
theorem at_hv2 : Ext.V3 (n := 2) (m := 512) (l := 256) (Gen.V2 m ρ c main_arg14) vv := by
  rw [show Gen.V2 m ρ c main_arg14 = _ from W2_args m ρ c main_arg14 (by decide)]; exact hv

include ha hb in
theorem g_res2 : Ext.V3 (n := 2) (m := 512) (l := 256) (W8 m ρ c (Proc.devRef .tc main_v2_0)) fun l r j => a (l * 512 + r) j + b (l * 512 + r) j := by
  rw [show W8 m ρ c (Proc.devRef .tc main_v2_0) = _ from W8_of m ρ c main_v2_0 (by decide),
    show W7 m ρ c (Proc.devRef .tc main_v2_0) = _ from W7_of m ρ c main_v2_0 (by decide),
    show W6 m ρ c (Proc.devRef .tc main_v2_0) = _ from W6_of m ρ c main_v2_0 (by decide),
    show W5 m ρ c (Proc.devRef .tc main_v2_0) = _ from W5_of m ρ c main_v2_0 (by decide),
    show W4 m ρ c (Proc.devRef .tc main_v2_0) = _ from W4_of m ρ c main_v2_0 (by decide),
    show W3 m ρ c (Proc.devRef .tc main_v2_0) = _ from W3_arr m ρ c 5]
  exact g_array2 c (at_ha2 ρ c ha) (at_hb2 ρ c hb)

include ha hb hw hm hv in
theorem d_res2 : Ext.V3 (n := 2) (m := 512) (l := 256) (W8 m ρ c (Proc.devRef .tc main_v2_1)) fun l r j => delta (w l r j) (newM (a (l * 512 + r) j + b (l * 512 + r) j) (mm l r j)) (newV (a (l * 512 + r) j + b (l * 512 + r) j) (vv l r j)) := by
  rw [show W8 m ρ c (Proc.devRef .tc main_v2_1) = _ from W8_of m ρ c main_v2_1 (by decide),
    show W7 m ρ c (Proc.devRef .tc main_v2_1) = _ from W7_of m ρ c main_v2_1 (by decide),
    show W6 m ρ c (Proc.devRef .tc main_v2_1) = _ from W6_of m ρ c main_v2_1 (by decide),
    show W5 m ρ c (Proc.devRef .tc main_v2_1) = _ from W5_of m ρ c main_v2_1 (by decide),
    show W4 m ρ c (Proc.devRef .tc main_v2_1) = _ from W4_of m ρ c main_v2_1 (by decide),
    show W3 m ρ c (Proc.devRef .tc main_v2_1) = _ from W3_arr m ρ c 6]
  exact d_array2 c (at_ha2 ρ c ha) (at_hb2 ρ c hb) (at_hw2 ρ c hw) (at_hm2 ρ c hm) (at_hv2 ρ c hv)

include ha hb hm in
theorem m_res2 : Ext.V3 (n := 2) (m := 512) (l := 256) (W8 m ρ c (Proc.devRef .tc main_v2_2)) fun l r j => newM (a (l * 512 + r) j + b (l * 512 + r) j) (mm l r j) := by
  rw [show W8 m ρ c (Proc.devRef .tc main_v2_2) = _ from W8_of m ρ c main_v2_2 (by decide),
    show W7 m ρ c (Proc.devRef .tc main_v2_2) = _ from W7_of m ρ c main_v2_2 (by decide),
    show W6 m ρ c (Proc.devRef .tc main_v2_2) = _ from W6_of m ρ c main_v2_2 (by decide),
    show W5 m ρ c (Proc.devRef .tc main_v2_2) = _ from W5_of m ρ c main_v2_2 (by decide),
    show W4 m ρ c (Proc.devRef .tc main_v2_2) = _ from W4_of m ρ c main_v2_2 (by decide),
    show W3 m ρ c (Proc.devRef .tc main_v2_2) = _ from W3_arr m ρ c 7]
  exact m_array2 c (at_ha2 ρ c ha) (at_hb2 ρ c hb) (at_hm2 ρ c hm)

include ha hb hv in
theorem v_res2 : Ext.V3 (n := 2) (m := 512) (l := 256) (W8 m ρ c (Proc.devRef .tc main_v2_3)) fun l r j => newV (a (l * 512 + r) j + b (l * 512 + r) j) (vv l r j) := by
  rw [show W8 m ρ c (Proc.devRef .tc main_v2_3) = _ from W8_of m ρ c main_v2_3 (by decide),
    show W7 m ρ c (Proc.devRef .tc main_v2_3) = _ from W7_of m ρ c main_v2_3 (by decide),
    show W6 m ρ c (Proc.devRef .tc main_v2_3) = _ from W6_of m ρ c main_v2_3 (by decide),
    show W5 m ρ c (Proc.devRef .tc main_v2_3) = _ from W5_of m ρ c main_v2_3 (by decide),
    show W4 m ρ c (Proc.devRef .tc main_v2_3) = _ from W4_of m ρ c main_v2_3 (by decide),
    show W3 m ρ c (Proc.devRef .tc main_v2_3) = _ from W3_arr m ρ c 8]
  exact v_array2 c (at_ha2 ρ c ha) (at_hb2 ρ c hb) (at_hv2 ρ c hv)

end

/-! Region 3. -/

section
variable {a b : ℕ → ℕ → EReal} {w mm vv : ℕ → ℕ → ℕ → EReal}
  (ha : Ext.V2 (n := 1024) (m := 2048) (m ((c.tc : Thread nD τ).loc main_arg15)) a)
  (hb : Ext.V2 (n := 1024) (m := 2048) (m ((c.tc : Thread nD τ).loc main_arg16)) b)
  (hw : Ext.V3 (n := 2) (m := 512) (l := 2048) (m ((c.tc : Thread nD τ).loc main_arg17)) w)
  (hm : Ext.V3 (n := 2) (m := 512) (l := 2048) (m ((c.tc : Thread nD τ).loc main_arg18)) mm)
  (hv : Ext.V3 (n := 2) (m := 512) (l := 2048) (m ((c.tc : Thread nD τ).loc main_arg19)) vv)

include ha in
theorem at_ha3 : Ext.V2 (n := 1024) (m := 2048) (Gen.V3 m ρ c main_arg15) a := by
  rw [show Gen.V3 m ρ c main_arg15 = _ from W3_args m ρ c main_arg15 (by decide)]; exact ha
include hb in
theorem at_hb3 : Ext.V2 (n := 1024) (m := 2048) (Gen.V3 m ρ c main_arg16) b := by
  rw [show Gen.V3 m ρ c main_arg16 = _ from W3_args m ρ c main_arg16 (by decide)]; exact hb
include hw in
theorem at_hw3 : Ext.V3 (n := 2) (m := 512) (l := 2048) (Gen.V3 m ρ c main_arg17) w := by
  rw [show Gen.V3 m ρ c main_arg17 = _ from W3_args m ρ c main_arg17 (by decide)]; exact hw
include hm in
theorem at_hm3 : Ext.V3 (n := 2) (m := 512) (l := 2048) (Gen.V3 m ρ c main_arg18) mm := by
  rw [show Gen.V3 m ρ c main_arg18 = _ from W3_args m ρ c main_arg18 (by decide)]; exact hm
include hv in
theorem at_hv3 : Ext.V3 (n := 2) (m := 512) (l := 2048) (Gen.V3 m ρ c main_arg19) vv := by
  rw [show Gen.V3 m ρ c main_arg19 = _ from W3_args m ρ c main_arg19 (by decide)]; exact hv

include ha hb in
theorem g_res3 : Ext.V3 (n := 2) (m := 512) (l := 2048) (W8 m ρ c (Proc.devRef .tc main_v3_0)) fun l r j => a (l * 512 + r) j + b (l * 512 + r) j := by
  rw [show W8 m ρ c (Proc.devRef .tc main_v3_0) = _ from W8_of m ρ c main_v3_0 (by decide),
    show W7 m ρ c (Proc.devRef .tc main_v3_0) = _ from W7_of m ρ c main_v3_0 (by decide),
    show W6 m ρ c (Proc.devRef .tc main_v3_0) = _ from W6_of m ρ c main_v3_0 (by decide),
    show W5 m ρ c (Proc.devRef .tc main_v3_0) = _ from W5_of m ρ c main_v3_0 (by decide),
    show W4 m ρ c (Proc.devRef .tc main_v3_0) = _ from W4_arr m ρ c 5]
  exact g_array3 c (at_ha3 ρ c ha) (at_hb3 ρ c hb)

include ha hb hw hm hv in
theorem d_res3 : Ext.V3 (n := 2) (m := 512) (l := 2048) (W8 m ρ c (Proc.devRef .tc main_v3_1)) fun l r j => delta (w l r j) (newM (a (l * 512 + r) j + b (l * 512 + r) j) (mm l r j)) (newV (a (l * 512 + r) j + b (l * 512 + r) j) (vv l r j)) := by
  rw [show W8 m ρ c (Proc.devRef .tc main_v3_1) = _ from W8_of m ρ c main_v3_1 (by decide),
    show W7 m ρ c (Proc.devRef .tc main_v3_1) = _ from W7_of m ρ c main_v3_1 (by decide),
    show W6 m ρ c (Proc.devRef .tc main_v3_1) = _ from W6_of m ρ c main_v3_1 (by decide),
    show W5 m ρ c (Proc.devRef .tc main_v3_1) = _ from W5_of m ρ c main_v3_1 (by decide),
    show W4 m ρ c (Proc.devRef .tc main_v3_1) = _ from W4_arr m ρ c 6]
  exact d_array3 c (at_ha3 ρ c ha) (at_hb3 ρ c hb) (at_hw3 ρ c hw) (at_hm3 ρ c hm) (at_hv3 ρ c hv)

include ha hb hm in
theorem m_res3 : Ext.V3 (n := 2) (m := 512) (l := 2048) (W8 m ρ c (Proc.devRef .tc main_v3_2)) fun l r j => newM (a (l * 512 + r) j + b (l * 512 + r) j) (mm l r j) := by
  rw [show W8 m ρ c (Proc.devRef .tc main_v3_2) = _ from W8_of m ρ c main_v3_2 (by decide),
    show W7 m ρ c (Proc.devRef .tc main_v3_2) = _ from W7_of m ρ c main_v3_2 (by decide),
    show W6 m ρ c (Proc.devRef .tc main_v3_2) = _ from W6_of m ρ c main_v3_2 (by decide),
    show W5 m ρ c (Proc.devRef .tc main_v3_2) = _ from W5_of m ρ c main_v3_2 (by decide),
    show W4 m ρ c (Proc.devRef .tc main_v3_2) = _ from W4_arr m ρ c 7]
  exact m_array3 c (at_ha3 ρ c ha) (at_hb3 ρ c hb) (at_hm3 ρ c hm)

include ha hb hv in
theorem v_res3 : Ext.V3 (n := 2) (m := 512) (l := 2048) (W8 m ρ c (Proc.devRef .tc main_v3_3)) fun l r j => newV (a (l * 512 + r) j + b (l * 512 + r) j) (vv l r j) := by
  rw [show W8 m ρ c (Proc.devRef .tc main_v3_3) = _ from W8_of m ρ c main_v3_3 (by decide),
    show W7 m ρ c (Proc.devRef .tc main_v3_3) = _ from W7_of m ρ c main_v3_3 (by decide),
    show W6 m ρ c (Proc.devRef .tc main_v3_3) = _ from W6_of m ρ c main_v3_3 (by decide),
    show W5 m ρ c (Proc.devRef .tc main_v3_3) = _ from W5_of m ρ c main_v3_3 (by decide),
    show W4 m ρ c (Proc.devRef .tc main_v3_3) = _ from W4_arr m ρ c 8]
  exact v_array3 c (at_ha3 ρ c ha) (at_hb3 ρ c hb) (at_hv3 ρ c hv)

end

/-! Region 4. -/

section
variable {a b : ℕ → ℕ → EReal} {w mm vv : ℕ → ℕ → ℕ → EReal}
  (ha : Ext.V2 (n := 4096) (m := 1408) (m ((c.tc : Thread nD τ).loc main_arg20)) a)
  (hb : Ext.V2 (n := 4096) (m := 1408) (m ((c.tc : Thread nD τ).loc main_arg21)) b)
  (hw : Ext.V3 (n := 2) (m := 2048) (l := 1408) (m ((c.tc : Thread nD τ).loc main_arg22)) w)
  (hm : Ext.V3 (n := 2) (m := 2048) (l := 1408) (m ((c.tc : Thread nD τ).loc main_arg23)) mm)
  (hv : Ext.V3 (n := 2) (m := 2048) (l := 1408) (m ((c.tc : Thread nD τ).loc main_arg24)) vv)

include ha in
theorem at_ha4 : Ext.V2 (n := 4096) (m := 1408) (Gen.V4 m ρ c main_arg20) a := by
  rw [show Gen.V4 m ρ c main_arg20 = _ from W4_args m ρ c main_arg20 (by decide)]; exact ha
include hb in
theorem at_hb4 : Ext.V2 (n := 4096) (m := 1408) (Gen.V4 m ρ c main_arg21) b := by
  rw [show Gen.V4 m ρ c main_arg21 = _ from W4_args m ρ c main_arg21 (by decide)]; exact hb
include hw in
theorem at_hw4 : Ext.V3 (n := 2) (m := 2048) (l := 1408) (Gen.V4 m ρ c main_arg22) w := by
  rw [show Gen.V4 m ρ c main_arg22 = _ from W4_args m ρ c main_arg22 (by decide)]; exact hw
include hm in
theorem at_hm4 : Ext.V3 (n := 2) (m := 2048) (l := 1408) (Gen.V4 m ρ c main_arg23) mm := by
  rw [show Gen.V4 m ρ c main_arg23 = _ from W4_args m ρ c main_arg23 (by decide)]; exact hm
include hv in
theorem at_hv4 : Ext.V3 (n := 2) (m := 2048) (l := 1408) (Gen.V4 m ρ c main_arg24) vv := by
  rw [show Gen.V4 m ρ c main_arg24 = _ from W4_args m ρ c main_arg24 (by decide)]; exact hv

include ha hb in
theorem g_res4 : Ext.V3 (n := 2) (m := 2048) (l := 1408) (W8 m ρ c (Proc.devRef .tc main_v4_0)) fun l r j => a (l * 2048 + r) j + b (l * 2048 + r) j := by
  rw [show W8 m ρ c (Proc.devRef .tc main_v4_0) = _ from W8_of m ρ c main_v4_0 (by decide),
    show W7 m ρ c (Proc.devRef .tc main_v4_0) = _ from W7_of m ρ c main_v4_0 (by decide),
    show W6 m ρ c (Proc.devRef .tc main_v4_0) = _ from W6_of m ρ c main_v4_0 (by decide),
    show W5 m ρ c (Proc.devRef .tc main_v4_0) = _ from W5_arr m ρ c 5]
  exact g_array4 c (at_ha4 ρ c ha) (at_hb4 ρ c hb)

include ha hb hw hm hv in
theorem d_res4 : Ext.V3 (n := 2) (m := 2048) (l := 1408) (W8 m ρ c (Proc.devRef .tc main_v4_1)) fun l r j => delta (w l r j) (newM (a (l * 2048 + r) j + b (l * 2048 + r) j) (mm l r j)) (newV (a (l * 2048 + r) j + b (l * 2048 + r) j) (vv l r j)) := by
  rw [show W8 m ρ c (Proc.devRef .tc main_v4_1) = _ from W8_of m ρ c main_v4_1 (by decide),
    show W7 m ρ c (Proc.devRef .tc main_v4_1) = _ from W7_of m ρ c main_v4_1 (by decide),
    show W6 m ρ c (Proc.devRef .tc main_v4_1) = _ from W6_of m ρ c main_v4_1 (by decide),
    show W5 m ρ c (Proc.devRef .tc main_v4_1) = _ from W5_arr m ρ c 6]
  exact d_array4 c (at_ha4 ρ c ha) (at_hb4 ρ c hb) (at_hw4 ρ c hw) (at_hm4 ρ c hm) (at_hv4 ρ c hv)

include ha hb hm in
theorem m_res4 : Ext.V3 (n := 2) (m := 2048) (l := 1408) (W8 m ρ c (Proc.devRef .tc main_v4_2)) fun l r j => newM (a (l * 2048 + r) j + b (l * 2048 + r) j) (mm l r j) := by
  rw [show W8 m ρ c (Proc.devRef .tc main_v4_2) = _ from W8_of m ρ c main_v4_2 (by decide),
    show W7 m ρ c (Proc.devRef .tc main_v4_2) = _ from W7_of m ρ c main_v4_2 (by decide),
    show W6 m ρ c (Proc.devRef .tc main_v4_2) = _ from W6_of m ρ c main_v4_2 (by decide),
    show W5 m ρ c (Proc.devRef .tc main_v4_2) = _ from W5_arr m ρ c 7]
  exact m_array4 c (at_ha4 ρ c ha) (at_hb4 ρ c hb) (at_hm4 ρ c hm)

include ha hb hv in
theorem v_res4 : Ext.V3 (n := 2) (m := 2048) (l := 1408) (W8 m ρ c (Proc.devRef .tc main_v4_3)) fun l r j => newV (a (l * 2048 + r) j + b (l * 2048 + r) j) (vv l r j) := by
  rw [show W8 m ρ c (Proc.devRef .tc main_v4_3) = _ from W8_of m ρ c main_v4_3 (by decide),
    show W7 m ρ c (Proc.devRef .tc main_v4_3) = _ from W7_of m ρ c main_v4_3 (by decide),
    show W6 m ρ c (Proc.devRef .tc main_v4_3) = _ from W6_of m ρ c main_v4_3 (by decide),
    show W5 m ρ c (Proc.devRef .tc main_v4_3) = _ from W5_arr m ρ c 8]
  exact v_array4 c (at_ha4 ρ c ha) (at_hb4 ρ c hb) (at_hv4 ρ c hv)

end

/-! Region 5. -/

section
variable {a b : ℕ → ℕ → EReal} {w mm vv : ℕ → ℕ → ℕ → EReal}
  (ha : Ext.V2 (n := 4096) (m := 1408) (m ((c.tc : Thread nD τ).loc main_arg25)) a)
  (hb : Ext.V2 (n := 4096) (m := 1408) (m ((c.tc : Thread nD τ).loc main_arg26)) b)
  (hw : Ext.V3 (n := 2) (m := 2048) (l := 1408) (m ((c.tc : Thread nD τ).loc main_arg27)) w)
  (hm : Ext.V3 (n := 2) (m := 2048) (l := 1408) (m ((c.tc : Thread nD τ).loc main_arg28)) mm)
  (hv : Ext.V3 (n := 2) (m := 2048) (l := 1408) (m ((c.tc : Thread nD τ).loc main_arg29)) vv)

include ha in
theorem at_ha5 : Ext.V2 (n := 4096) (m := 1408) (Gen.V5 m ρ c main_arg25) a := by
  rw [show Gen.V5 m ρ c main_arg25 = _ from W5_args m ρ c main_arg25 (by decide)]; exact ha
include hb in
theorem at_hb5 : Ext.V2 (n := 4096) (m := 1408) (Gen.V5 m ρ c main_arg26) b := by
  rw [show Gen.V5 m ρ c main_arg26 = _ from W5_args m ρ c main_arg26 (by decide)]; exact hb
include hw in
theorem at_hw5 : Ext.V3 (n := 2) (m := 2048) (l := 1408) (Gen.V5 m ρ c main_arg27) w := by
  rw [show Gen.V5 m ρ c main_arg27 = _ from W5_args m ρ c main_arg27 (by decide)]; exact hw
include hm in
theorem at_hm5 : Ext.V3 (n := 2) (m := 2048) (l := 1408) (Gen.V5 m ρ c main_arg28) mm := by
  rw [show Gen.V5 m ρ c main_arg28 = _ from W5_args m ρ c main_arg28 (by decide)]; exact hm
include hv in
theorem at_hv5 : Ext.V3 (n := 2) (m := 2048) (l := 1408) (Gen.V5 m ρ c main_arg29) vv := by
  rw [show Gen.V5 m ρ c main_arg29 = _ from W5_args m ρ c main_arg29 (by decide)]; exact hv

include ha hb in
theorem g_res5 : Ext.V3 (n := 2) (m := 2048) (l := 1408) (W8 m ρ c (Proc.devRef .tc main_v5_0)) fun l r j => a (l * 2048 + r) j + b (l * 2048 + r) j := by
  rw [show W8 m ρ c (Proc.devRef .tc main_v5_0) = _ from W8_of m ρ c main_v5_0 (by decide),
    show W7 m ρ c (Proc.devRef .tc main_v5_0) = _ from W7_of m ρ c main_v5_0 (by decide),
    show W6 m ρ c (Proc.devRef .tc main_v5_0) = _ from W6_arr m ρ c 5]
  exact g_array5 c (at_ha5 ρ c ha) (at_hb5 ρ c hb)

include ha hb hw hm hv in
theorem d_res5 : Ext.V3 (n := 2) (m := 2048) (l := 1408) (W8 m ρ c (Proc.devRef .tc main_v5_1)) fun l r j => delta (w l r j) (newM (a (l * 2048 + r) j + b (l * 2048 + r) j) (mm l r j)) (newV (a (l * 2048 + r) j + b (l * 2048 + r) j) (vv l r j)) := by
  rw [show W8 m ρ c (Proc.devRef .tc main_v5_1) = _ from W8_of m ρ c main_v5_1 (by decide),
    show W7 m ρ c (Proc.devRef .tc main_v5_1) = _ from W7_of m ρ c main_v5_1 (by decide),
    show W6 m ρ c (Proc.devRef .tc main_v5_1) = _ from W6_arr m ρ c 6]
  exact d_array5 c (at_ha5 ρ c ha) (at_hb5 ρ c hb) (at_hw5 ρ c hw) (at_hm5 ρ c hm) (at_hv5 ρ c hv)

include ha hb hm in
theorem m_res5 : Ext.V3 (n := 2) (m := 2048) (l := 1408) (W8 m ρ c (Proc.devRef .tc main_v5_2)) fun l r j => newM (a (l * 2048 + r) j + b (l * 2048 + r) j) (mm l r j) := by
  rw [show W8 m ρ c (Proc.devRef .tc main_v5_2) = _ from W8_of m ρ c main_v5_2 (by decide),
    show W7 m ρ c (Proc.devRef .tc main_v5_2) = _ from W7_of m ρ c main_v5_2 (by decide),
    show W6 m ρ c (Proc.devRef .tc main_v5_2) = _ from W6_arr m ρ c 7]
  exact m_array5 c (at_ha5 ρ c ha) (at_hb5 ρ c hb) (at_hm5 ρ c hm)

include ha hb hv in
theorem v_res5 : Ext.V3 (n := 2) (m := 2048) (l := 1408) (W8 m ρ c (Proc.devRef .tc main_v5_3)) fun l r j => newV (a (l * 2048 + r) j + b (l * 2048 + r) j) (vv l r j) := by
  rw [show W8 m ρ c (Proc.devRef .tc main_v5_3) = _ from W8_of m ρ c main_v5_3 (by decide),
    show W7 m ρ c (Proc.devRef .tc main_v5_3) = _ from W7_of m ρ c main_v5_3 (by decide),
    show W6 m ρ c (Proc.devRef .tc main_v5_3) = _ from W6_arr m ρ c 8]
  exact v_array5 c (at_ha5 ρ c ha) (at_hb5 ρ c hb) (at_hv5 ρ c hv)

end

/-! Region 6. -/

section
variable {a b : ℕ → ℕ → EReal} {w mm vv : ℕ → ℕ → ℕ → EReal}
  (ha : Ext.V2 (n := 2816) (m := 2048) (m ((c.tc : Thread nD τ).loc main_arg30)) a)
  (hb : Ext.V2 (n := 2816) (m := 2048) (m ((c.tc : Thread nD τ).loc main_arg31)) b)
  (hw : Ext.V3 (n := 2) (m := 1408) (l := 2048) (m ((c.tc : Thread nD τ).loc main_arg32)) w)
  (hm : Ext.V3 (n := 2) (m := 1408) (l := 2048) (m ((c.tc : Thread nD τ).loc main_arg33)) mm)
  (hv : Ext.V3 (n := 2) (m := 1408) (l := 2048) (m ((c.tc : Thread nD τ).loc main_arg34)) vv)

include ha in
theorem at_ha6 : Ext.V2 (n := 2816) (m := 2048) (Gen.V6 m ρ c main_arg30) a := by
  rw [show Gen.V6 m ρ c main_arg30 = _ from W6_args m ρ c main_arg30 (by decide)]; exact ha
include hb in
theorem at_hb6 : Ext.V2 (n := 2816) (m := 2048) (Gen.V6 m ρ c main_arg31) b := by
  rw [show Gen.V6 m ρ c main_arg31 = _ from W6_args m ρ c main_arg31 (by decide)]; exact hb
include hw in
theorem at_hw6 : Ext.V3 (n := 2) (m := 1408) (l := 2048) (Gen.V6 m ρ c main_arg32) w := by
  rw [show Gen.V6 m ρ c main_arg32 = _ from W6_args m ρ c main_arg32 (by decide)]; exact hw
include hm in
theorem at_hm6 : Ext.V3 (n := 2) (m := 1408) (l := 2048) (Gen.V6 m ρ c main_arg33) mm := by
  rw [show Gen.V6 m ρ c main_arg33 = _ from W6_args m ρ c main_arg33 (by decide)]; exact hm
include hv in
theorem at_hv6 : Ext.V3 (n := 2) (m := 1408) (l := 2048) (Gen.V6 m ρ c main_arg34) vv := by
  rw [show Gen.V6 m ρ c main_arg34 = _ from W6_args m ρ c main_arg34 (by decide)]; exact hv

include ha hb in
theorem g_res6 : Ext.V3 (n := 2) (m := 1408) (l := 2048) (W8 m ρ c (Proc.devRef .tc main_v6_0)) fun l r j => a (l * 1408 + r) j + b (l * 1408 + r) j := by
  rw [show W8 m ρ c (Proc.devRef .tc main_v6_0) = _ from W8_of m ρ c main_v6_0 (by decide),
    show W7 m ρ c (Proc.devRef .tc main_v6_0) = _ from W7_arr m ρ c 5]
  exact g_array6 c (at_ha6 ρ c ha) (at_hb6 ρ c hb)

include ha hb hw hm hv in
theorem d_res6 : Ext.V3 (n := 2) (m := 1408) (l := 2048) (W8 m ρ c (Proc.devRef .tc main_v6_1)) fun l r j => delta (w l r j) (newM (a (l * 1408 + r) j + b (l * 1408 + r) j) (mm l r j)) (newV (a (l * 1408 + r) j + b (l * 1408 + r) j) (vv l r j)) := by
  rw [show W8 m ρ c (Proc.devRef .tc main_v6_1) = _ from W8_of m ρ c main_v6_1 (by decide),
    show W7 m ρ c (Proc.devRef .tc main_v6_1) = _ from W7_arr m ρ c 6]
  exact d_array6 c (at_ha6 ρ c ha) (at_hb6 ρ c hb) (at_hw6 ρ c hw) (at_hm6 ρ c hm) (at_hv6 ρ c hv)

include ha hb hm in
theorem m_res6 : Ext.V3 (n := 2) (m := 1408) (l := 2048) (W8 m ρ c (Proc.devRef .tc main_v6_2)) fun l r j => newM (a (l * 1408 + r) j + b (l * 1408 + r) j) (mm l r j) := by
  rw [show W8 m ρ c (Proc.devRef .tc main_v6_2) = _ from W8_of m ρ c main_v6_2 (by decide),
    show W7 m ρ c (Proc.devRef .tc main_v6_2) = _ from W7_arr m ρ c 7]
  exact m_array6 c (at_ha6 ρ c ha) (at_hb6 ρ c hb) (at_hm6 ρ c hm)

include ha hb hv in
theorem v_res6 : Ext.V3 (n := 2) (m := 1408) (l := 2048) (W8 m ρ c (Proc.devRef .tc main_v6_3)) fun l r j => newV (a (l * 1408 + r) j + b (l * 1408 + r) j) (vv l r j) := by
  rw [show W8 m ρ c (Proc.devRef .tc main_v6_3) = _ from W8_of m ρ c main_v6_3 (by decide),
    show W7 m ρ c (Proc.devRef .tc main_v6_3) = _ from W7_arr m ρ c 8]
  exact v_array6 c (at_ha6 ρ c ha) (at_hb6 ρ c hb) (at_hv6 ρ c hv)

end

/-! Region 7. -/

section
variable {g : ℕ → ℕ → ℕ → EReal} {w mm vv : ℕ → ℕ → EReal}
  (hg : Ext.V3 (n := 8) (m := 136) (l := 128) (m ((c.tc : Thread nD τ).loc main_arg35)) g)
  (hw : Ext.V2 (n := 136) (m := 128) (m ((c.tc : Thread nD τ).loc main_arg36)) w)
  (hm : Ext.V2 (n := 136) (m := 128) (m ((c.tc : Thread nD τ).loc main_arg37)) mm)
  (hv : Ext.V2 (n := 136) (m := 128) (m ((c.tc : Thread nD τ).loc main_arg38)) vv)

include hg in
theorem at_hg7 : Ext.V3 (n := 8) (m := 136) (l := 128) (Gen.V7 m ρ c main_arg35) g := by
  rw [show Gen.V7 m ρ c main_arg35 = _ from W7_args m ρ c main_arg35 (by decide)]; exact hg
include hw in
theorem at_hw7 : Ext.V2 (n := 136) (m := 128) (Gen.V7 m ρ c main_arg36) w := by
  rw [show Gen.V7 m ρ c main_arg36 = _ from W7_args m ρ c main_arg36 (by decide)]; exact hw
include hm in
theorem at_hm7 : Ext.V2 (n := 136) (m := 128) (Gen.V7 m ρ c main_arg37) mm := by
  rw [show Gen.V7 m ρ c main_arg37 = _ from W7_args m ρ c main_arg37 (by decide)]; exact hm
include hv in
theorem at_hv7 : Ext.V2 (n := 136) (m := 128) (Gen.V7 m ρ c main_arg38) vv := by
  rw [show Gen.V7 m ρ c main_arg38 = _ from W7_args m ρ c main_arg38 (by decide)]; exact hv

include hg in
theorem g_res7 : Ext.V2 (n := 136) (m := 128) (W8 m ρ c (Proc.devRef .tc main_v7_0)) fun r j => ∑ k : Fin 8, g k r j := by
  rw [show W8 m ρ c (Proc.devRef .tc main_v7_0) = _ from W8_arr m ρ c 4]
  exact g_array7 c (at_hg7 ρ c hg)

include hg hw hm hv in
theorem d_res7 : Ext.V2 (n := 136) (m := 128) (W8 m ρ c (Proc.devRef .tc main_v7_1)) fun r j => delta (w r j) (newM (∑ k : Fin 8, g k r j) (mm r j)) (newV (∑ k : Fin 8, g k r j) (vv r j)) := by
  rw [show W8 m ρ c (Proc.devRef .tc main_v7_1) = _ from W8_arr m ρ c 5]
  exact d_array7 c (at_hg7 ρ c hg) (at_hw7 ρ c hw) (at_hm7 ρ c hm) (at_hv7 ρ c hv)

include hg hm in
theorem m_res7 : Ext.V2 (n := 136) (m := 128) (W8 m ρ c (Proc.devRef .tc main_v7_2)) fun r j => newM (∑ k : Fin 8, g k r j) (mm r j) := by
  rw [show W8 m ρ c (Proc.devRef .tc main_v7_2) = _ from W8_arr m ρ c 6]
  exact m_array7 c (at_hg7 ρ c hg) (at_hm7 ρ c hm)

include hg hv in
theorem v_res7 : Ext.V2 (n := 136) (m := 128) (W8 m ρ c (Proc.devRef .tc main_v7_3)) fun r j => newV (∑ k : Fin 8, g k r j) (vv r j) := by
  rw [show W8 m ρ c (Proc.devRef .tc main_v7_3) = _ from W8_arr m ρ c 7]
  exact v_array7 c (at_hg7 ρ c hg) (at_hv7 ρ c hv)

end

end Cert.Kernel7Ideal.Val
-- ==== Proof.AdamRef.lean ====
/-
  The reference of the optimiser, over the extended reals.
-/
module

public import proofs.«01_k».proof.Proof.Gen.Reference7Ideal.Read
public import proofs.«01_k».proof.Proof.AdamSpec

@[expose] public section

set_option maxRecDepth 16384

noncomputable section

namespace Cert.Reference7Ideal.Val

open Idealize.ShloMosaic
open Cert.Reference7Ideal Cert.Reference7Ideal.Gen Cert.Reference7Ideal.Read Cert.Adam

/-! Weight 0. -/

section
variable {xa xb : (⟨S2336x2048, .f32⟩ : BufTy).Contents (Elt Ideal)} {xw xm xv : (⟨S2x1168x2048, .f32⟩ : BufTy).Contents (Elt Ideal)}
  {a b : ℕ → ℕ → EReal} {w mm vv : ℕ → ℕ → ℕ → EReal}
  (ha : Ext.V2 (n := 2336) (m := 2048) xa a)
  (hb : Ext.V2 (n := 2336) (m := 2048) xb b)
  (hw : Ext.V3 (n := 2) (m := 1168) (l := 2048) xw w)
  (hm : Ext.V3 (n := 2) (m := 1168) (l := 2048) xm mm)
  (hv : Ext.V3 (n := 2) (m := 1168) (l := 2048) xv vv)

include ha hb in
theorem g_ref0 : Ext.V3 (n := 2) (m := 1168) (l := 2048) (val_main_v1 (F := Ideal) xa xb) fun l r j => a (l * 1168 + r) j + b (l * 1168 + r) j := fun i => by
  have h0 : (i 0).val < 2 := (i 0).isLt
  have h1 : (i 1).val < 1168 := (i 1).isLt
  have h2 : (i 2).val < 2048 := (i 2).isLt
  have er : (((i 0).val * 1168 + (i 1).val) * 2048 + (i 2).val) / 2048 = (i 0).val * 1168 + (i 1).val := by omega
  have ec : (((i 0).val * 1168 + (i 1).val) * 2048 + (i 2).val) % 2048 = (i 2).val := by omega
  rw [val_main_v1_apply, val_main_v0_apply]
  exact congrArg₂ (· + ·) ((ha _).trans (congrArg₂ a er ec)) ((hb _).trans (congrArg₂ b er ec))

include ha hb hm in
theorem m_ref0 : Ext.V3 (n := 2) (m := 1168) (l := 2048) (val_main_v19 (F := Ideal) xa xb xm) fun l r j => newM (a (l * 1168 + r) j + b (l * 1168 + r) j) (mm l r j) := fun i => by
  exact congrArg₂ newM (g_ref0 ha hb i) (hm i)

include ha hb hv in
theorem v_ref0 : Ext.V3 (n := 2) (m := 1168) (l := 2048) (val_main_v25 (F := Ideal) xa xb xv) fun l r j => newV (a (l * 1168 + r) j + b (l * 1168 + r) j) (vv l r j) := fun i => by
  exact congrArg₂ newV (g_ref0 ha hb i) (hv i)

include ha hb hw hm hv in
theorem d_ref0 : Ext.V3 (n := 2) (m := 1168) (l := 2048) (val_main_v38 (F := Ideal) xa xb xw xm xv) fun l r j => delta (w l r j) (newM (a (l * 1168 + r) j + b (l * 1168 + r) j) (mm l r j)) (newV (a (l * 1168 + r) j + b (l * 1168 + r) j) (vv l r j)) := fun i => by
  exact delta_congr (hw i) (m_ref0 ha hb hm i) (v_ref0 ha hb hv i)

end

/-! Weight 1. -/

section
variable {xa xb : (⟨S1024x192, .f32⟩ : BufTy).Contents (Elt Ideal)} {xw xm xv : (⟨S2x512x192, .f32⟩ : BufTy).Contents (Elt Ideal)}
  {a b : ℕ → ℕ → EReal} {w mm vv : ℕ → ℕ → ℕ → EReal}
  (ha : Ext.V2 (n := 1024) (m := 192) xa a)
  (hb : Ext.V2 (n := 1024) (m := 192) xb b)
  (hw : Ext.V3 (n := 2) (m := 512) (l := 192) xw w)
  (hm : Ext.V3 (n := 2) (m := 512) (l := 192) xm mm)
  (hv : Ext.V3 (n := 2) (m := 512) (l := 192) xv vv)

include ha hb in
theorem g_ref1 : Ext.V3 (n := 2) (m := 512) (l := 192) (val_main_v3 (F := Ideal) xa xb) fun l r j => a (l * 512 + r) j + b (l * 512 + r) j := fun i => by
  have h0 : (i 0).val < 2 := (i 0).isLt
  have h1 : (i 1).val < 512 := (i 1).isLt
  have h2 : (i 2).val < 192 := (i 2).isLt
  have er : (((i 0).val * 512 + (i 1).val) * 192 + (i 2).val) / 192 = (i 0).val * 512 + (i 1).val := by omega
  have ec : (((i 0).val * 512 + (i 1).val) * 192 + (i 2).val) % 192 = (i 2).val := by omega
  rw [val_main_v3_apply, val_main_v2_apply]
  exact congrArg₂ (· + ·) ((ha _).trans (congrArg₂ a er ec)) ((hb _).trans (congrArg₂ b er ec))

include ha hb hm in
theorem m_ref1 : Ext.V3 (n := 2) (m := 512) (l := 192) (val_main_v43 (F := Ideal) xa xb xm) fun l r j => newM (a (l * 512 + r) j + b (l * 512 + r) j) (mm l r j) := fun i => by
  exact congrArg₂ newM (g_ref1 ha hb i) (hm i)

include ha hb hv in
theorem v_ref1 : Ext.V3 (n := 2) (m := 512) (l := 192) (val_main_v49 (F := Ideal) xa xb xv) fun l r j => newV (a (l * 512 + r) j + b (l * 512 + r) j) (vv l r j) := fun i => by
  exact congrArg₂ newV (g_ref1 ha hb i) (hv i)

include ha hb hw hm hv in
theorem d_ref1 : Ext.V3 (n := 2) (m := 512) (l := 192) (val_main_v62 (F := Ideal) xa xb xw xm xv) fun l r j => delta (w l r j) (newM (a (l * 512 + r) j + b (l * 512 + r) j) (mm l r j)) (newV (a (l * 512 + r) j + b (l * 512 + r) j) (vv l r j)) := fun i => by
  exact delta_congr (hw i) (m_ref1 ha hb hm i) (v_ref1 ha hb hv i)

end

/-! Weight 2. -/

section
variable {xa xb : (⟨S1024x256, .f32⟩ : BufTy).Contents (Elt Ideal)} {xw xm xv : (⟨S2x512x256, .f32⟩ : BufTy).Contents (Elt Ideal)}
  {a b : ℕ → ℕ → EReal} {w mm vv : ℕ → ℕ → ℕ → EReal}
  (ha : Ext.V2 (n := 1024) (m := 256) xa a)
  (hb : Ext.V2 (n := 1024) (m := 256) xb b)
  (hw : Ext.V3 (n := 2) (m := 512) (l := 256) xw w)
  (hm : Ext.V3 (n := 2) (m := 512) (l := 256) xm mm)
  (hv : Ext.V3 (n := 2) (m := 512) (l := 256) xv vv)

include ha hb in
theorem g_ref2 : Ext.V3 (n := 2) (m := 512) (l := 256) (val_main_v5 (F := Ideal) xa xb) fun l r j => a (l * 512 + r) j + b (l * 512 + r) j := fun i => by
  have h0 : (i 0).val < 2 := (i 0).isLt
  have h1 : (i 1).val < 512 := (i 1).isLt
  have h2 : (i 2).val < 256 := (i 2).isLt
  have er : (((i 0).val * 512 + (i 1).val) * 256 + (i 2).val) / 256 = (i 0).val * 512 + (i 1).val := by omega
  have ec : (((i 0).val * 512 + (i 1).val) * 256 + (i 2).val) % 256 = (i 2).val := by omega
  rw [val_main_v5_apply, val_main_v4_apply]
  exact congrArg₂ (· + ·) ((ha _).trans (congrArg₂ a er ec)) ((hb _).trans (congrArg₂ b er ec))

include ha hb hm in
theorem m_ref2 : Ext.V3 (n := 2) (m := 512) (l := 256) (val_main_v67 (F := Ideal) xa xb xm) fun l r j => newM (a (l * 512 + r) j + b (l * 512 + r) j) (mm l r j) := fun i => by
  exact congrArg₂ newM (g_ref2 ha hb i) (hm i)

include ha hb hv in
theorem v_ref2 : Ext.V3 (n := 2) (m := 512) (l := 256) (val_main_v73 (F := Ideal) xa xb xv) fun l r j => newV (a (l * 512 + r) j + b (l * 512 + r) j) (vv l r j) := fun i => by
  exact congrArg₂ newV (g_ref2 ha hb i) (hv i)

include ha hb hw hm hv in
theorem d_ref2 : Ext.V3 (n := 2) (m := 512) (l := 256) (val_main_v86 (F := Ideal) xa xb xw xm xv) fun l r j => delta (w l r j) (newM (a (l * 512 + r) j + b (l * 512 + r) j) (mm l r j)) (newV (a (l * 512 + r) j + b (l * 512 + r) j) (vv l r j)) := fun i => by
  exact delta_congr (hw i) (m_ref2 ha hb hm i) (v_ref2 ha hb hv i)

end

/-! Weight 3. -/

section
variable {xa xb : (⟨S1024x2048, .f32⟩ : BufTy).Contents (Elt Ideal)} {xw xm xv : (⟨S2x512x2048, .f32⟩ : BufTy).Contents (Elt Ideal)}
  {a b : ℕ → ℕ → EReal} {w mm vv : ℕ → ℕ → ℕ → EReal}
  (ha : Ext.V2 (n := 1024) (m := 2048) xa a)
  (hb : Ext.V2 (n := 1024) (m := 2048) xb b)
  (hw : Ext.V3 (n := 2) (m := 512) (l := 2048) xw w)
  (hm : Ext.V3 (n := 2) (m := 512) (l := 2048) xm mm)
  (hv : Ext.V3 (n := 2) (m := 512) (l := 2048) xv vv)

include ha hb in
theorem g_ref3 : Ext.V3 (n := 2) (m := 512) (l := 2048) (val_main_v7 (F := Ideal) xa xb) fun l r j => a (l * 512 + r) j + b (l * 512 + r) j := fun i => by
  have h0 : (i 0).val < 2 := (i 0).isLt
  have h1 : (i 1).val < 512 := (i 1).isLt
  have h2 : (i 2).val < 2048 := (i 2).isLt
  have er : (((i 0).val * 512 + (i 1).val) * 2048 + (i 2).val) / 2048 = (i 0).val * 512 + (i 1).val := by omega
  have ec : (((i 0).val * 512 + (i 1).val) * 2048 + (i 2).val) % 2048 = (i 2).val := by omega
  rw [val_main_v7_apply, val_main_v6_apply]
  exact congrArg₂ (· + ·) ((ha _).trans (congrArg₂ a er ec)) ((hb _).trans (congrArg₂ b er ec))

include ha hb hm in
theorem m_ref3 : Ext.V3 (n := 2) (m := 512) (l := 2048) (val_main_v91 (F := Ideal) xa xb xm) fun l r j => newM (a (l * 512 + r) j + b (l * 512 + r) j) (mm l r j) := fun i => by
  exact congrArg₂ newM (g_ref3 ha hb i) (hm i)

include ha hb hv in
theorem v_ref3 : Ext.V3 (n := 2) (m := 512) (l := 2048) (val_main_v97 (F := Ideal) xa xb xv) fun l r j => newV (a (l * 512 + r) j + b (l * 512 + r) j) (vv l r j) := fun i => by
  exact congrArg₂ newV (g_ref3 ha hb i) (hv i)

include ha hb hw hm hv in
theorem d_ref3 : Ext.V3 (n := 2) (m := 512) (l := 2048) (val_main_v110 (F := Ideal) xa xb xw xm xv) fun l r j => delta (w l r j) (newM (a (l * 512 + r) j + b (l * 512 + r) j) (mm l r j)) (newV (a (l * 512 + r) j + b (l * 512 + r) j) (vv l r j)) := fun i => by
  exact delta_congr (hw i) (m_ref3 ha hb hm i) (v_ref3 ha hb hv i)

end

/-! Weight 4. -/

section
variable {xa xb : (⟨S4096x1408, .f32⟩ : BufTy).Contents (Elt Ideal)} {xw xm xv : (⟨S2x2048x1408, .f32⟩ : BufTy).Contents (Elt Ideal)}
  {a b : ℕ → ℕ → EReal} {w mm vv : ℕ → ℕ → ℕ → EReal}
  (ha : Ext.V2 (n := 4096) (m := 1408) xa a)
  (hb : Ext.V2 (n := 4096) (m := 1408) xb b)
  (hw : Ext.V3 (n := 2) (m := 2048) (l := 1408) xw w)
  (hm : Ext.V3 (n := 2) (m := 2048) (l := 1408) xm mm)
  (hv : Ext.V3 (n := 2) (m := 2048) (l := 1408) xv vv)

include ha hb in
theorem g_ref4 : Ext.V3 (n := 2) (m := 2048) (l := 1408) (val_main_v9 (F := Ideal) xa xb) fun l r j => a (l * 2048 + r) j + b (l * 2048 + r) j := fun i => by
  have h0 : (i 0).val < 2 := (i 0).isLt
  have h1 : (i 1).val < 2048 := (i 1).isLt
  have h2 : (i 2).val < 1408 := (i 2).isLt
  have er : (((i 0).val * 2048 + (i 1).val) * 1408 + (i 2).val) / 1408 = (i 0).val * 2048 + (i 1).val := by omega
  have ec : (((i 0).val * 2048 + (i 1).val) * 1408 + (i 2).val) % 1408 = (i 2).val := by omega
  rw [val_main_v9_apply, val_main_v8_apply]
  exact congrArg₂ (· + ·) ((ha _).trans (congrArg₂ a er ec)) ((hb _).trans (congrArg₂ b er ec))

include ha hb hm in
theorem m_ref4 : Ext.V3 (n := 2) (m := 2048) (l := 1408) (val_main_v115 (F := Ideal) xa xb xm) fun l r j => newM (a (l * 2048 + r) j + b (l * 2048 + r) j) (mm l r j) := fun i => by
  exact congrArg₂ newM (g_ref4 ha hb i) (hm i)

include ha hb hv in
theorem v_ref4 : Ext.V3 (n := 2) (m := 2048) (l := 1408) (val_main_v121 (F := Ideal) xa xb xv) fun l r j => newV (a (l * 2048 + r) j + b (l * 2048 + r) j) (vv l r j) := fun i => by
  exact congrArg₂ newV (g_ref4 ha hb i) (hv i)

include ha hb hw hm hv in
theorem d_ref4 : Ext.V3 (n := 2) (m := 2048) (l := 1408) (val_main_v134 (F := Ideal) xa xb xw xm xv) fun l r j => delta (w l r j) (newM (a (l * 2048 + r) j + b (l * 2048 + r) j) (mm l r j)) (newV (a (l * 2048 + r) j + b (l * 2048 + r) j) (vv l r j)) := fun i => by
  exact delta_congr (hw i) (m_ref4 ha hb hm i) (v_ref4 ha hb hv i)

end

/-! Weight 5. -/

section
variable {xa xb : (⟨S4096x1408, .f32⟩ : BufTy).Contents (Elt Ideal)} {xw xm xv : (⟨S2x2048x1408, .f32⟩ : BufTy).Contents (Elt Ideal)}
  {a b : ℕ → ℕ → EReal} {w mm vv : ℕ → ℕ → ℕ → EReal}
  (ha : Ext.V2 (n := 4096) (m := 1408) xa a)
  (hb : Ext.V2 (n := 4096) (m := 1408) xb b)
  (hw : Ext.V3 (n := 2) (m := 2048) (l := 1408) xw w)
  (hm : Ext.V3 (n := 2) (m := 2048) (l := 1408) xm mm)
  (hv : Ext.V3 (n := 2) (m := 2048) (l := 1408) xv vv)

include ha hb in
theorem g_ref5 : Ext.V3 (n := 2) (m := 2048) (l := 1408) (val_main_v11 (F := Ideal) xa xb) fun l r j => a (l * 2048 + r) j + b (l * 2048 + r) j := fun i => by
  have h0 : (i 0).val < 2 := (i 0).isLt
  have h1 : (i 1).val < 2048 := (i 1).isLt
  have h2 : (i 2).val < 1408 := (i 2).isLt
  have er : (((i 0).val * 2048 + (i 1).val) * 1408 + (i 2).val) / 1408 = (i 0).val * 2048 + (i 1).val := by omega
  have ec : (((i 0).val * 2048 + (i 1).val) * 1408 + (i 2).val) % 1408 = (i 2).val := by omega
  rw [val_main_v11_apply, val_main_v10_apply]
  exact congrArg₂ (· + ·) ((ha _).trans (congrArg₂ a er ec)) ((hb _).trans (congrArg₂ b er ec))

include ha hb hm in
theorem m_ref5 : Ext.V3 (n := 2) (m := 2048) (l := 1408) (val_main_v139 (F := Ideal) xa xb xm) fun l r j => newM (a (l * 2048 + r) j + b (l * 2048 + r) j) (mm l r j) := fun i => by
  exact congrArg₂ newM (g_ref5 ha hb i) (hm i)

include ha hb hv in
theorem v_ref5 : Ext.V3 (n := 2) (m := 2048) (l := 1408) (val_main_v145 (F := Ideal) xa xb xv) fun l r j => newV (a (l * 2048 + r) j + b (l * 2048 + r) j) (vv l r j) := fun i => by
  exact congrArg₂ newV (g_ref5 ha hb i) (hv i)

include ha hb hw hm hv in
theorem d_ref5 : Ext.V3 (n := 2) (m := 2048) (l := 1408) (val_main_v158 (F := Ideal) xa xb xw xm xv) fun l r j => delta (w l r j) (newM (a (l * 2048 + r) j + b (l * 2048 + r) j) (mm l r j)) (newV (a (l * 2048 + r) j + b (l * 2048 + r) j) (vv l r j)) := fun i => by
  exact delta_congr (hw i) (m_ref5 ha hb hm i) (v_ref5 ha hb hv i)

end

/-! Weight 6. -/

section
variable {xa xb : (⟨S2816x2048, .f32⟩ : BufTy).Contents (Elt Ideal)} {xw xm xv : (⟨S2x1408x2048, .f32⟩ : BufTy).Contents (Elt Ideal)}
  {a b : ℕ → ℕ → EReal} {w mm vv : ℕ → ℕ → ℕ → EReal}
  (ha : Ext.V2 (n := 2816) (m := 2048) xa a)
  (hb : Ext.V2 (n := 2816) (m := 2048) xb b)
  (hw : Ext.V3 (n := 2) (m := 1408) (l := 2048) xw w)
  (hm : Ext.V3 (n := 2) (m := 1408) (l := 2048) xm mm)
  (hv : Ext.V3 (n := 2) (m := 1408) (l := 2048) xv vv)

include ha hb in
theorem g_ref6 : Ext.V3 (n := 2) (m := 1408) (l := 2048) (val_main_v13 (F := Ideal) xa xb) fun l r j => a (l * 1408 + r) j + b (l * 1408 + r) j := fun i => by
  have h0 : (i 0).val < 2 := (i 0).isLt
  have h1 : (i 1).val < 1408 := (i 1).isLt
  have h2 : (i 2).val < 2048 := (i 2).isLt
  have er : (((i 0).val * 1408 + (i 1).val) * 2048 + (i 2).val) / 2048 = (i 0).val * 1408 + (i 1).val := by omega
  have ec : (((i 0).val * 1408 + (i 1).val) * 2048 + (i 2).val) % 2048 = (i 2).val := by omega
  rw [val_main_v13_apply, val_main_v12_apply]
  exact congrArg₂ (· + ·) ((ha _).trans (congrArg₂ a er ec)) ((hb _).trans (congrArg₂ b er ec))

include ha hb hm in
theorem m_ref6 : Ext.V3 (n := 2) (m := 1408) (l := 2048) (val_main_v163 (F := Ideal) xa xb xm) fun l r j => newM (a (l * 1408 + r) j + b (l * 1408 + r) j) (mm l r j) := fun i => by
  exact congrArg₂ newM (g_ref6 ha hb i) (hm i)

include ha hb hv in
theorem v_ref6 : Ext.V3 (n := 2) (m := 1408) (l := 2048) (val_main_v169 (F := Ideal) xa xb xv) fun l r j => newV (a (l * 1408 + r) j + b (l * 1408 + r) j) (vv l r j) := fun i => by
  exact congrArg₂ newV (g_ref6 ha hb i) (hv i)

include ha hb hw hm hv in
theorem d_ref6 : Ext.V3 (n := 2) (m := 1408) (l := 2048) (val_main_v182 (F := Ideal) xa xb xw xm xv) fun l r j => delta (w l r j) (newM (a (l * 1408 + r) j + b (l * 1408 + r) j) (mm l r j)) (newV (a (l * 1408 + r) j + b (l * 1408 + r) j) (vv l r j)) := fun i => by
  exact delta_congr (hw i) (m_ref6 ha hb hm i) (v_ref6 ha hb hv i)

end

/-! Weight 7. -/

section
variable {xg : (⟨S8x136x128, .f32⟩ : BufTy).Contents (Elt Ideal)} {xw xm xv : (⟨S136x128, .f32⟩ : BufTy).Contents (Elt Ideal)}
  {g : ℕ → ℕ → ℕ → EReal} {w mm vv : ℕ → ℕ → EReal}
  (hg : Ext.V3 (n := 8) (m := 136) (l := 128) xg g)
  (hw : Ext.V2 (n := 136) (m := 128) xw w)
  (hm : Ext.V2 (n := 136) (m := 128) xm mm)
  (hv : Ext.V2 (n := 136) (m := 128) xv vv)

include hg in
theorem g_ref7 : Ext.V2 (n := 136) (m := 128) (val_main_v14 (F := Ideal) xg) fun r j => ∑ k : Fin 8, g k r j := fun i => by
  rw [val_main_v14_apply]
  refine (congrArg₂ (· + ·) (Ideal.ofBits_zero_f32 : _ = (0 : EReal)) (Finset.sum_congr rfl fun k _ => hg _)).trans ?_
  exact zero_add _

include hg hm in
theorem m_ref7 : Ext.V2 (n := 136) (m := 128) (val_main_v187 (F := Ideal) xg xm) fun r j => newM (∑ k : Fin 8, g k r j) (mm r j) := fun i => by
  exact congrArg₂ newM (g_ref7 hg i) (hm i)

include hg hv in
theorem v_ref7 : Ext.V2 (n := 136) (m := 128) (val_main_v193 (F := Ideal) xg xv) fun r j => newV (∑ k : Fin 8, g k r j) (vv r j) := fun i => by
  exact congrArg₂ newV (g_ref7 hg i) (hv i)

include hg hw hm hv in
theorem d_ref7 : Ext.V2 (n := 136) (m := 128) (val_main_v206 (F := Ideal) xg xw xm xv) fun r j => delta (w r j) (newM (∑ k : Fin 8, g k r j) (mm r j)) (newV (∑ k : Fin 8, g k r j) (vv r j)) := fun i => by
  exact delta_congr (hw i) (m_ref7 hg hm i) (v_ref7 hg hv i)

end

end Cert.Reference7Ideal.Val
-- ==== Proof.AdamEq.lean ====
/-
  The optimiser's 32 results are the reference's.
-/
module

public import proofs.«01_k».proof.Proof.AdamRun
public import proofs.«01_k».proof.Proof.AdamRef

@[expose] public section

set_option maxRecDepth 16384

noncomputable section

namespace Cert.AdamEq

open Idealize.ShloMosaic Cert.Kernel7Ideal Cert.Kernel7Ideal.Gen Cert.Ext

/-- Two arrays of the same values are equal. -/
theorem same {n m : ℕ} {X Y : (⟨2, ![n, m]⟩ : Shape).Idx → EReal} {x : ℕ → ℕ → EReal} (hX : Ext.V2 X x) (hY : Ext.V2 Y x) : X = Y :=
  funext fun i => (hX i).trans (hY i).symm
theorem same3 {n m l : ℕ} {X Y : (⟨3, ![n, m, l]⟩ : Shape).Idx → EReal} {x : ℕ → ℕ → ℕ → EReal} (hX : Ext.V3 X x) (hY : Ext.V3 Y x) : X = Y :=
  funext fun i => (hX i).trans (hY i).symm

variable (m : (ℓ : Loc nD τ sig) → Buf (Elt Ideal) ℓ) (ρ : Dev nD → PrngReg) (c : Dev nD)

theorem eq0 : Cert.Reference7Ideal.Read.val_main_v1 (F := Ideal) (m ((c.tc : Thread nD τ).loc main_arg0)) (m ((c.tc : Thread nD τ).loc main_arg1))
        = W8 m ρ c (Proc.devRef .tc main_v0_0)
    ∧ Cert.Reference7Ideal.Read.val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        = W8 m ρ c (Proc.devRef .tc main_v0_1)
    ∧ Cert.Reference7Ideal.Read.val_main_v19 (F := Ideal) (m ((c.tc : Thread nD τ).loc main_arg0)) (m ((c.tc : Thread nD τ).loc main_arg1)) (m ((c.tc : Thread nD τ).loc main_arg3))
        = W8 m ρ c (Proc.devRef .tc main_v0_2)
    ∧ Cert.Reference7Ideal.Read.val_main_v25 (F := Ideal) (m ((c.tc : Thread nD τ).loc main_arg0)) (m ((c.tc : Thread nD τ).loc main_arg1)) (m ((c.tc : Thread nD τ).loc main_arg4))
        = W8 m ρ c (Proc.devRef .tc main_v0_3) := by
  obtain ⟨a, ha⟩ := v2_of (n := 2336) (m := 2048) (by decide) (by decide) (m ((c.tc : Thread nD τ).loc main_arg0))
  obtain ⟨b, hb⟩ := v2_of (n := 2336) (m := 2048) (by decide) (by decide) (m ((c.tc : Thread nD τ).loc main_arg1))
  obtain ⟨w, hw⟩ := v3_of (n := 2) (m := 1168) (l := 2048) (by decide) (by decide) (by decide) (m ((c.tc : Thread nD τ).loc main_arg2))
  obtain ⟨mm, hm⟩ := v3_of (n := 2) (m := 1168) (l := 2048) (by decide) (by decide) (by decide) (m ((c.tc : Thread nD τ).loc main_arg3))
  obtain ⟨vv, hv⟩ := v3_of (n := 2) (m := 1168) (l := 2048) (by decide) (by decide) (by decide) (m ((c.tc : Thread nD τ).loc main_arg4))
  exact ⟨same3 (Cert.Reference7Ideal.Val.g_ref0 ha hb) (Cert.Kernel7Ideal.Val.g_res0 ρ c ha hb),
    same3 (Cert.Reference7Ideal.Val.d_ref0 ha hb hw hm hv) (Cert.Kernel7Ideal.Val.d_res0 ρ c ha hb hw hm hv),
    same3 (Cert.Reference7Ideal.Val.m_ref0 ha hb hm) (Cert.Kernel7Ideal.Val.m_res0 ρ c ha hb hm),
    same3 (Cert.Reference7Ideal.Val.v_ref0 ha hb hv) (Cert.Kernel7Ideal.Val.v_res0 ρ c ha hb hv)⟩

theorem eq1 : Cert.Reference7Ideal.Read.val_main_v3 (F := Ideal) (m ((c.tc : Thread nD τ).loc main_arg5)) (m ((c.tc : Thread nD τ).loc main_arg6))
        = W8 m ρ c (Proc.devRef .tc main_v1_0)
    ∧ Cert.Reference7Ideal.Read.val_main_v62 (F := Ideal) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        = W8 m ρ c (Proc.devRef .tc main_v1_1)
    ∧ Cert.Reference7Ideal.Read.val_main_v43 (F := Ideal) (m ((c.tc : Thread nD τ).loc main_arg5)) (m ((c.tc : Thread nD τ).loc main_arg6)) (m ((c.tc : Thread nD τ).loc main_arg8))
        = W8 m ρ c (Proc.devRef .tc main_v1_2)
    ∧ Cert.Reference7Ideal.Read.val_main_v49 (F := Ideal) (m ((c.tc : Thread nD τ).loc main_arg5)) (m ((c.tc : Thread nD τ).loc main_arg6)) (m ((c.tc : Thread nD τ).loc main_arg9))
        = W8 m ρ c (Proc.devRef .tc main_v1_3) := by
  obtain ⟨a, ha⟩ := v2_of (n := 1024) (m := 192) (by decide) (by decide) (m ((c.tc : Thread nD τ).loc main_arg5))
  obtain ⟨b, hb⟩ := v2_of (n := 1024) (m := 192) (by decide) (by decide) (m ((c.tc : Thread nD τ).loc main_arg6))
  obtain ⟨w, hw⟩ := v3_of (n := 2) (m := 512) (l := 192) (by decide) (by decide) (by decide) (m ((c.tc : Thread nD τ).loc main_arg7))
  obtain ⟨mm, hm⟩ := v3_of (n := 2) (m := 512) (l := 192) (by decide) (by decide) (by decide) (m ((c.tc : Thread nD τ).loc main_arg8))
  obtain ⟨vv, hv⟩ := v3_of (n := 2) (m := 512) (l := 192) (by decide) (by decide) (by decide) (m ((c.tc : Thread nD τ).loc main_arg9))
  exact ⟨same3 (Cert.Reference7Ideal.Val.g_ref1 ha hb) (Cert.Kernel7Ideal.Val.g_res1 ρ c ha hb),
    same3 (Cert.Reference7Ideal.Val.d_ref1 ha hb hw hm hv) (Cert.Kernel7Ideal.Val.d_res1 ρ c ha hb hw hm hv),
    same3 (Cert.Reference7Ideal.Val.m_ref1 ha hb hm) (Cert.Kernel7Ideal.Val.m_res1 ρ c ha hb hm),
    same3 (Cert.Reference7Ideal.Val.v_ref1 ha hb hv) (Cert.Kernel7Ideal.Val.v_res1 ρ c ha hb hv)⟩

theorem eq2 : Cert.Reference7Ideal.Read.val_main_v5 (F := Ideal) (m ((c.tc : Thread nD τ).loc main_arg10)) (m ((c.tc : Thread nD τ).loc main_arg11))
        = W8 m ρ c (Proc.devRef .tc main_v2_0)
    ∧ Cert.Reference7Ideal.Read.val_main_v86 (F := Ideal) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
        = W8 m ρ c (Proc.devRef .tc main_v2_1)
    ∧ Cert.Reference7Ideal.Read.val_main_v67 (F := Ideal) (m ((c.tc : Thread nD τ).loc main_arg10)) (m ((c.tc : Thread nD τ).loc main_arg11)) (m ((c.tc : Thread nD τ).loc main_arg13))
        = W8 m ρ c (Proc.devRef .tc main_v2_2)
    ∧ Cert.Reference7Ideal.Read.val_main_v73 (F := Ideal) (m ((c.tc : Thread nD τ).loc main_arg10)) (m ((c.tc : Thread nD τ).loc main_arg11)) (m ((c.tc : Thread nD τ).loc main_arg14))
        = W8 m ρ c (Proc.devRef .tc main_v2_3) := by
  obtain ⟨a, ha⟩ := v2_of (n := 1024) (m := 256) (by decide) (by decide) (m ((c.tc : Thread nD τ).loc main_arg10))
  obtain ⟨b, hb⟩ := v2_of (n := 1024) (m := 256) (by decide) (by decide) (m ((c.tc : Thread nD τ).loc main_arg11))
  obtain ⟨w, hw⟩ := v3_of (n := 2) (m := 512) (l := 256) (by decide) (by decide) (by decide) (m ((c.tc : Thread nD τ).loc main_arg12))
  obtain ⟨mm, hm⟩ := v3_of (n := 2) (m := 512) (l := 256) (by decide) (by decide) (by decide) (m ((c.tc : Thread nD τ).loc main_arg13))
  obtain ⟨vv, hv⟩ := v3_of (n := 2) (m := 512) (l := 256) (by decide) (by decide) (by decide) (m ((c.tc : Thread nD τ).loc main_arg14))
  exact ⟨same3 (Cert.Reference7Ideal.Val.g_ref2 ha hb) (Cert.Kernel7Ideal.Val.g_res2 ρ c ha hb),
    same3 (Cert.Reference7Ideal.Val.d_ref2 ha hb hw hm hv) (Cert.Kernel7Ideal.Val.d_res2 ρ c ha hb hw hm hv),
    same3 (Cert.Reference7Ideal.Val.m_ref2 ha hb hm) (Cert.Kernel7Ideal.Val.m_res2 ρ c ha hb hm),
    same3 (Cert.Reference7Ideal.Val.v_ref2 ha hb hv) (Cert.Kernel7Ideal.Val.v_res2 ρ c ha hb hv)⟩

theorem eq3 : Cert.Reference7Ideal.Read.val_main_v7 (F := Ideal) (m ((c.tc : Thread nD τ).loc main_arg15)) (m ((c.tc : Thread nD τ).loc main_arg16))
        = W8 m ρ c (Proc.devRef .tc main_v3_0)
    ∧ Cert.Reference7Ideal.Read.val_main_v110 (F := Ideal) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
        = W8 m ρ c (Proc.devRef .tc main_v3_1)
    ∧ Cert.Reference7Ideal.Read.val_main_v91 (F := Ideal) (m ((c.tc : Thread nD τ).loc main_arg15)) (m ((c.tc : Thread nD τ).loc main_arg16)) (m ((c.tc : Thread nD τ).loc main_arg18))
        = W8 m ρ c (Proc.devRef .tc main_v3_2)
    ∧ Cert.Reference7Ideal.Read.val_main_v97 (F := Ideal) (m ((c.tc : Thread nD τ).loc main_arg15)) (m ((c.tc : Thread nD τ).loc main_arg16)) (m ((c.tc : Thread nD τ).loc main_arg19))
        = W8 m ρ c (Proc.devRef .tc main_v3_3) := by
  obtain ⟨a, ha⟩ := v2_of (n := 1024) (m := 2048) (by decide) (by decide) (m ((c.tc : Thread nD τ).loc main_arg15))
  obtain ⟨b, hb⟩ := v2_of (n := 1024) (m := 2048) (by decide) (by decide) (m ((c.tc : Thread nD τ).loc main_arg16))
  obtain ⟨w, hw⟩ := v3_of (n := 2) (m := 512) (l := 2048) (by decide) (by decide) (by decide) (m ((c.tc : Thread nD τ).loc main_arg17))
  obtain ⟨mm, hm⟩ := v3_of (n := 2) (m := 512) (l := 2048) (by decide) (by decide) (by decide) (m ((c.tc : Thread nD τ).loc main_arg18))
  obtain ⟨vv, hv⟩ := v3_of (n := 2) (m := 512) (l := 2048) (by decide) (by decide) (by decide) (m ((c.tc : Thread nD τ).loc main_arg19))
  exact ⟨same3 (Cert.Reference7Ideal.Val.g_ref3 ha hb) (Cert.Kernel7Ideal.Val.g_res3 ρ c ha hb),
    same3 (Cert.Reference7Ideal.Val.d_ref3 ha hb hw hm hv) (Cert.Kernel7Ideal.Val.d_res3 ρ c ha hb hw hm hv),
    same3 (Cert.Reference7Ideal.Val.m_ref3 ha hb hm) (Cert.Kernel7Ideal.Val.m_res3 ρ c ha hb hm),
    same3 (Cert.Reference7Ideal.Val.v_ref3 ha hb hv) (Cert.Kernel7Ideal.Val.v_res3 ρ c ha hb hv)⟩

theorem eq4 : Cert.Reference7Ideal.Read.val_main_v9 (F := Ideal) (m ((c.tc : Thread nD τ).loc main_arg20)) (m ((c.tc : Thread nD τ).loc main_arg21))
        = W8 m ρ c (Proc.devRef .tc main_v4_0)
    ∧ Cert.Reference7Ideal.Read.val_main_v134 (F := Ideal) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
        = W8 m ρ c (Proc.devRef .tc main_v4_1)
    ∧ Cert.Reference7Ideal.Read.val_main_v115 (F := Ideal) (m ((c.tc : Thread nD τ).loc main_arg20)) (m ((c.tc : Thread nD τ).loc main_arg21)) (m ((c.tc : Thread nD τ).loc main_arg23))
        = W8 m ρ c (Proc.devRef .tc main_v4_2)
    ∧ Cert.Reference7Ideal.Read.val_main_v121 (F := Ideal) (m ((c.tc : Thread nD τ).loc main_arg20)) (m ((c.tc : Thread nD τ).loc main_arg21)) (m ((c.tc : Thread nD τ).loc main_arg24))
        = W8 m ρ c (Proc.devRef .tc main_v4_3) := by
  obtain ⟨a, ha⟩ := v2_of (n := 4096) (m := 1408) (by decide) (by decide) (m ((c.tc : Thread nD τ).loc main_arg20))
  obtain ⟨b, hb⟩ := v2_of (n := 4096) (m := 1408) (by decide) (by decide) (m ((c.tc : Thread nD τ).loc main_arg21))
  obtain ⟨w, hw⟩ := v3_of (n := 2) (m := 2048) (l := 1408) (by decide) (by decide) (by decide) (m ((c.tc : Thread nD τ).loc main_arg22))
  obtain ⟨mm, hm⟩ := v3_of (n := 2) (m := 2048) (l := 1408) (by decide) (by decide) (by decide) (m ((c.tc : Thread nD τ).loc main_arg23))
  obtain ⟨vv, hv⟩ := v3_of (n := 2) (m := 2048) (l := 1408) (by decide) (by decide) (by decide) (m ((c.tc : Thread nD τ).loc main_arg24))
  exact ⟨same3 (Cert.Reference7Ideal.Val.g_ref4 ha hb) (Cert.Kernel7Ideal.Val.g_res4 ρ c ha hb),
    same3 (Cert.Reference7Ideal.Val.d_ref4 ha hb hw hm hv) (Cert.Kernel7Ideal.Val.d_res4 ρ c ha hb hw hm hv),
    same3 (Cert.Reference7Ideal.Val.m_ref4 ha hb hm) (Cert.Kernel7Ideal.Val.m_res4 ρ c ha hb hm),
    same3 (Cert.Reference7Ideal.Val.v_ref4 ha hb hv) (Cert.Kernel7Ideal.Val.v_res4 ρ c ha hb hv)⟩

theorem eq5 : Cert.Reference7Ideal.Read.val_main_v11 (F := Ideal) (m ((c.tc : Thread nD τ).loc main_arg25)) (m ((c.tc : Thread nD τ).loc main_arg26))
        = W8 m ρ c (Proc.devRef .tc main_v5_0)
    ∧ Cert.Reference7Ideal.Read.val_main_v158 (F := Ideal) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
        = W8 m ρ c (Proc.devRef .tc main_v5_1)
    ∧ Cert.Reference7Ideal.Read.val_main_v139 (F := Ideal) (m ((c.tc : Thread nD τ).loc main_arg25)) (m ((c.tc : Thread nD τ).loc main_arg26)) (m ((c.tc : Thread nD τ).loc main_arg28))
        = W8 m ρ c (Proc.devRef .tc main_v5_2)
    ∧ Cert.Reference7Ideal.Read.val_main_v145 (F := Ideal) (m ((c.tc : Thread nD τ).loc main_arg25)) (m ((c.tc : Thread nD τ).loc main_arg26)) (m ((c.tc : Thread nD τ).loc main_arg29))
        = W8 m ρ c (Proc.devRef .tc main_v5_3) := by
  obtain ⟨a, ha⟩ := v2_of (n := 4096) (m := 1408) (by decide) (by decide) (m ((c.tc : Thread nD τ).loc main_arg25))
  obtain ⟨b, hb⟩ := v2_of (n := 4096) (m := 1408) (by decide) (by decide) (m ((c.tc : Thread nD τ).loc main_arg26))
  obtain ⟨w, hw⟩ := v3_of (n := 2) (m := 2048) (l := 1408) (by decide) (by decide) (by decide) (m ((c.tc : Thread nD τ).loc main_arg27))
  obtain ⟨mm, hm⟩ := v3_of (n := 2) (m := 2048) (l := 1408) (by decide) (by decide) (by decide) (m ((c.tc : Thread nD τ).loc main_arg28))
  obtain ⟨vv, hv⟩ := v3_of (n := 2) (m := 2048) (l := 1408) (by decide) (by decide) (by decide) (m ((c.tc : Thread nD τ).loc main_arg29))
  exact ⟨same3 (Cert.Reference7Ideal.Val.g_ref5 ha hb) (Cert.Kernel7Ideal.Val.g_res5 ρ c ha hb),
    same3 (Cert.Reference7Ideal.Val.d_ref5 ha hb hw hm hv) (Cert.Kernel7Ideal.Val.d_res5 ρ c ha hb hw hm hv),
    same3 (Cert.Reference7Ideal.Val.m_ref5 ha hb hm) (Cert.Kernel7Ideal.Val.m_res5 ρ c ha hb hm),
    same3 (Cert.Reference7Ideal.Val.v_ref5 ha hb hv) (Cert.Kernel7Ideal.Val.v_res5 ρ c ha hb hv)⟩

theorem eq6 : Cert.Reference7Ideal.Read.val_main_v13 (F := Ideal) (m ((c.tc : Thread nD τ).loc main_arg30)) (m ((c.tc : Thread nD τ).loc main_arg31))
        = W8 m ρ c (Proc.devRef .tc main_v6_0)
    ∧ Cert.Reference7Ideal.Read.val_main_v182 (F := Ideal) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34))
        = W8 m ρ c (Proc.devRef .tc main_v6_1)
    ∧ Cert.Reference7Ideal.Read.val_main_v163 (F := Ideal) (m ((c.tc : Thread nD τ).loc main_arg30)) (m ((c.tc : Thread nD τ).loc main_arg31)) (m ((c.tc : Thread nD τ).loc main_arg33))
        = W8 m ρ c (Proc.devRef .tc main_v6_2)
    ∧ Cert.Reference7Ideal.Read.val_main_v169 (F := Ideal) (m ((c.tc : Thread nD τ).loc main_arg30)) (m ((c.tc : Thread nD τ).loc main_arg31)) (m ((c.tc : Thread nD τ).loc main_arg34))
        = W8 m ρ c (Proc.devRef .tc main_v6_3) := by
  obtain ⟨a, ha⟩ := v2_of (n := 2816) (m := 2048) (by decide) (by decide) (m ((c.tc : Thread nD τ).loc main_arg30))
  obtain ⟨b, hb⟩ := v2_of (n := 2816) (m := 2048) (by decide) (by decide) (m ((c.tc : Thread nD τ).loc main_arg31))
  obtain ⟨w, hw⟩ := v3_of (n := 2) (m := 1408) (l := 2048) (by decide) (by decide) (by decide) (m ((c.tc : Thread nD τ).loc main_arg32))
  obtain ⟨mm, hm⟩ := v3_of (n := 2) (m := 1408) (l := 2048) (by decide) (by decide) (by decide) (m ((c.tc : Thread nD τ).loc main_arg33))
  obtain ⟨vv, hv⟩ := v3_of (n := 2) (m := 1408) (l := 2048) (by decide) (by decide) (by decide) (m ((c.tc : Thread nD τ).loc main_arg34))
  exact ⟨same3 (Cert.Reference7Ideal.Val.g_ref6 ha hb) (Cert.Kernel7Ideal.Val.g_res6 ρ c ha hb),
    same3 (Cert.Reference7Ideal.Val.d_ref6 ha hb hw hm hv) (Cert.Kernel7Ideal.Val.d_res6 ρ c ha hb hw hm hv),
    same3 (Cert.Reference7Ideal.Val.m_ref6 ha hb hm) (Cert.Kernel7Ideal.Val.m_res6 ρ c ha hb hm),
    same3 (Cert.Reference7Ideal.Val.v_ref6 ha hb hv) (Cert.Kernel7Ideal.Val.v_res6 ρ c ha hb hv)⟩

theorem eq7 : Cert.Reference7Ideal.Read.val_main_v14 (F := Ideal) (m ((c.tc : Thread nD τ).loc main_arg35))
        = W8 m ρ c (Proc.devRef .tc main_v7_0)
    ∧ Cert.Reference7Ideal.Read.val_main_v206 (F := Ideal) (m ((c.tc : Thread nD τ).loc main_arg35)) (m ((c.tc : Thread nD τ).loc main_arg36)) (m ((c.tc : Thread nD τ).loc main_arg37)) (m ((c.tc : Thread nD τ).loc main_arg38))
        = W8 m ρ c (Proc.devRef .tc main_v7_1)
    ∧ Cert.Reference7Ideal.Read.val_main_v187 (F := Ideal) (m ((c.tc : Thread nD τ).loc main_arg35)) (m ((c.tc : Thread nD τ).loc main_arg37))
        = W8 m ρ c (Proc.devRef .tc main_v7_2)
    ∧ Cert.Reference7Ideal.Read.val_main_v193 (F := Ideal) (m ((c.tc : Thread nD τ).loc main_arg35)) (m ((c.tc : Thread nD τ).loc main_arg38))
        = W8 m ρ c (Proc.devRef .tc main_v7_3) := by
  obtain ⟨g, hg⟩ := v3_of (n := 8) (m := 136) (l := 128) (by decide) (by decide) (by decide) (m ((c.tc : Thread nD τ).loc main_arg35))
  obtain ⟨w, hw⟩ := v2_of (n := 136) (m := 128) (by decide) (by decide) (m ((c.tc : Thread nD τ).loc main_arg36))
  obtain ⟨mm, hm⟩ := v2_of (n := 136) (m := 128) (by decide) (by decide) (m ((c.tc : Thread nD τ).loc main_arg37))
  obtain ⟨vv, hv⟩ := v2_of (n := 136) (m := 128) (by decide) (by decide) (m ((c.tc : Thread nD τ).loc main_arg38))
  exact ⟨same (Cert.Reference7Ideal.Val.g_ref7 hg) (Cert.Kernel7Ideal.Val.g_res7 ρ c hg),
    same (Cert.Reference7Ideal.Val.d_ref7 hg hw hm hv) (Cert.Kernel7Ideal.Val.d_res7 ρ c hg hw hm hv),
    same (Cert.Reference7Ideal.Val.m_ref7 hg hm) (Cert.Kernel7Ideal.Val.m_res7 ρ c hg hm),
    same (Cert.Reference7Ideal.Val.v_ref7 hg hv) (Cert.Kernel7Ideal.Val.v_res7 ρ c hg hv)⟩

end Cert.AdamEq
-- ==== Proof.NormSpec.lean ====
/-
  The root-mean-square norm of rows of any width, over the extended reals: the kernels' form of a row's gradient and the derivative
  taken term by term agree for every row, finite or not.
-/
module

public import proofs.«01_k».proof.Proof.AdamSpec

@[expose] public section

set_option maxRecDepth 16384

noncomputable section

namespace Cert.Norm

open Idealize.ShloMosaic

/-! ## The constants -/

theorem half_f32 : Ideal.ofBits .f32 0x3F000000#32 = ((1 / 2 : ℝ) : EReal) := by
  simp [Ideal.ofBits, Ideal.ieee, ← EReal.coe_mul]; norm_num
theorem neg_half_f32 : Ideal.ofBits .f32 0xBF000000#32 = ((-1 / 2 : ℝ) : EReal) := by
  simp [Ideal.ofBits, Ideal.ieee, ← EReal.coe_mul]; norm_num
theorem two_f32 : Ideal.ofBits .f32 0x40000000#32 = ((2 : ℝ) : EReal) := by
  simp [Ideal.ofBits, Ideal.ieee, ← EReal.coe_mul]; norm_num
theorem eps_f32 : ∃ e : ℝ, 0 < e ∧ Ideal.ofBits .f32 0x358637BD#32 = (e : EReal) := by
  refine ⟨_, ?_, by simp [Ideal.ofBits, Ideal.ieee, ← EReal.coe_mul]; rfl⟩
  norm_num

/-! ## Sums and products with a positive number -/

theorem pos_mul_add {a : ℝ} (ha : 0 < a) (x y : EReal) : (a : EReal) * (x + y) = a * x + a * y :=
  EReal.left_distrib_of_nonneg_of_ne_top (by exact_mod_cast ha.le) (EReal.coe_ne_top a) x y
theorem pos_mul_sum {a : ℝ} (ha : 0 < a) {ι : Type} (s : Finset ι) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, pos_mul_add ha, ih]
theorem twice (x : EReal) : x + x = ((2 : ℝ) : EReal) * x := by
  have h := EReal.right_distrib_of_nonneg (a := 1) (b := 1) (c := x) zero_le_one zero_le_one
  rw [one_mul] at h
  rw [← h, show (2 : ℝ) = 1 + 1 by norm_num, EReal.coe_add, EReal.coe_one]

theorem sq_nonneg' (x : EReal) : 0 ≤ x * x := by
  induction x with
  | bot => simp
  | top => simp
  | coe a => exact_mod_cast mul_self_nonneg a

/-- A sum from zero. -/
theorem from_zero {n : ℕ} {a : EReal} (ha : a = Ideal.ofBits .f32 0x00000000#32) {f h : Fin n → EReal} (e : ∀ k, f k = h k) :
    a + ∑ k : Fin n, f k = ∑ k : Fin n, h k := by
  rw [ha, Ideal.ofBits_zero_f32]
  exact (zero_add _).trans (Finset.sum_congr rfl fun k _ => e k)

namespace Wide

/-- A width, and the word a program writes for it. -/
structure Width (n : ℕ) (b : BitVec 32) : Prop where
  val : Ideal.ofBits .f32 b = ((n : ℝ) : EReal)
  pos : 0 < (n : ℝ)

theorem w512 : Width 512 0x44000000#32 := ⟨by simp [Ideal.ofBits, Ideal.ieee, ← EReal.coe_mul]; norm_num, by norm_num⟩
theorem w768 : Width 768 0x44400000#32 := ⟨by simp [Ideal.ofBits, Ideal.ieee, ← EReal.coe_mul]; norm_num, by norm_num⟩
theorem w128 : Width 128 0x43000000#32 := ⟨by simp [Ideal.ofBits, Ideal.ieee, ← EReal.coe_mul]; norm_num, by norm_num⟩

variable (n : ℕ) (b : BitVec 32)

/-! ## One row -/

/-- The mean square of a row, and its inverse square root. -/
def ms (x : ℕ → EReal) : EReal := Ideal.div (∑ k : Fin n, x k * x k) (Ideal.ofBits .f32 b) + (Ideal.ofBits .f32 0x358637BD#32 : EReal)
def rs (x : ℕ → EReal) : EReal := Ideal.rsqrt (ms n b x)
/-- The row's gradient as the kernels have it, from the gradient `u` of the normalised row. -/
def grad (x u : ℕ → EReal) (j : ℕ) : EReal :=
  rs n b x * (u j - x j * rs n b x * Ideal.div (∑ k : Fin n, u k * (x k * rs n b x)) (Ideal.ofBits .f32 b))
/-- The derivative through the mean square, and the row's gradient term by term. -/
def slope (x u : ℕ → EReal) : EReal :=
  Ideal.div ((∑ k : Fin n, x k * u k) * ((Ideal.ofBits .f32 0xBF000000#32 : EReal) * Ideal.div (rs n b x) (ms n b x))) (Ideal.ofBits .f32 b)
def terms (x u : ℕ → EReal) (j : ℕ) : EReal := u j * rs n b x + x j * slope n b x u + slope n b x u * x j

/-! ## Rows of an array -/

/-- The rows over their root mean squares, and those times the gain. -/
def unitRow (x : ℕ → ℕ → EReal) (r j : ℕ) : EReal := x r j * rs n b (x r)
def scaled (x g : ℕ → ℕ → EReal) (r j : ℕ) : EReal := unitRow n b x r j * g 0 j
/-- The rows' gradient from the gradient `d` of the scaled rows, and a row's share of the gain's gradient. -/
def back (x g d : ℕ → ℕ → EReal) (r j : ℕ) : EReal := grad n b (x r) (fun k => d r k * g 0 k) j
def gainPart (x d : ℕ → ℕ → EReal) (r j : ℕ) : EReal := d r j * unitRow n b x r j
/-- What `s` rows add to the gain's gradient. -/
def gainOf (s : ℕ) (x d : ℕ → ℕ → EReal) (j : ℕ) : EReal := ∑ k : Fin s, gainPart n b x d k j
variable {n b} (w : Width n b)

/-! ## Both forms of the gradient -/

include w in
theorem div_width (a : EReal) : Ideal.div a (Ideal.ofBits .f32 b) = a * (((n : ℝ)⁻¹ : ℝ) : EReal) := by
  rw [w.val, Ideal.div, if_neg (by exact_mod_cast w.pos.ne'), ← EReal.coe_inv]

include w in
/-- The mean square is infinite, or a positive number over a finite row. -/
theorem ms_cases (x : ℕ → EReal) : ms n b x = ⊤ ∨ ∃ v : ℝ, 0 < v ∧ ms n b x = v ∧ ∀ j < n, ∃ a : ℝ, x j = a := by
  obtain ⟨e, he, hE⟩ := eps_f32
  have hn := inv_pos.mpr w.pos
  have h0 : 0 ≤ ∑ k : Fin n, x k * x k := Finset.sum_nonneg fun k _ => sq_nonneg' _
  unfold ms
  rw [hE, div_width w]
  rcases eq_or_ne (∑ k : Fin n, x k * x k) ⊤ with ht | ht
  · left
    rw [ht, EReal.top_mul_coe_of_pos hn, EReal.top_add_coe]
  · right
    have hj : ∀ j < n, ∃ a : ℝ, x j = a := fun j hj => by
      have hle : x j * x j ≤ ∑ k : Fin n, x k * x k :=
        Finset.single_le_sum (f := fun k : Fin n => x k * x k) (fun k _ => sq_nonneg' _) (Finset.mem_univ (⟨j, hj⟩ : Fin n))
      have hlt := lt_of_le_of_lt hle (lt_top_iff_ne_top.mpr ht)
      induction h : x j with
      | bot => rw [h] at hlt; simp at hlt
      | top => rw [h] at hlt; simp at hlt
      | coe a => exact ⟨a, rfl⟩
    lift (∑ k : Fin n, x k * x k) to ℝ using ⟨ht, fun hb => by rw [hb] at h0; simp at h0⟩ with s hs
    have hs0 : 0 ≤ s := by exact_mod_cast h0
    exact ⟨s * (n : ℝ)⁻¹ + e, by positivity, by rw [EReal.coe_add, EReal.coe_mul], hj⟩

theorem rs_of_top {x : ℕ → EReal} (h : ms n b x = ⊤) : rs n b x = 0 := by rw [rs, h]; rfl
theorem rs_of_pos {x : ℕ → EReal} {v : ℝ} (hv : 0 < v) (h : ms n b x = v) : rs n b x = (((Real.sqrt v)⁻¹ : ℝ) : EReal) := by
  rw [rs, h]
  show (if v < 0 then ⊥ else if v = 0 then ⊤ else (((Real.sqrt v)⁻¹ : ℝ) : EReal)) = _
  rw [if_neg (not_lt.mpr hv.le), if_neg hv.ne']

include w in
theorem grad_eq (x u : ℕ → EReal) {j : ℕ} (hj : j < n) : grad n b x u j = terms n b x u j := by
  rcases ms_cases w x with h | ⟨v, hv, h, hx⟩
  · unfold grad terms slope
    rw [rs_of_top h, h, div_width w, div_width w]
    simp [Ideal.div]
  · have hq : Real.sqrt v * Real.sqrt v = v := Real.mul_self_sqrt hv.le
    have hq0 : 0 < Real.sqrt v := Real.sqrt_pos.mpr hv
    obtain ⟨a, ha⟩ := hx j hj
    unfold grad terms slope
    rw [rs_of_pos hv h, h, div_width w, div_width w, neg_half_f32, ha]
    generalize (n : ℝ)⁻¹ = q
    generalize hr : (Real.sqrt v)⁻¹ = r
    have hr0 : 0 < r := by rw [← hr]; positivity
    have hS : ∑ k : Fin n, u k * (x k * (r : EReal)) = (r : EReal) * ∑ k : Fin n, x k * u k := by
      rw [pos_mul_sum hr0]
      exact Finset.sum_congr rfl fun k _ => by ac_rfl
    rw [hS]
    generalize (∑ k : Fin n, x k * u k) = S
    have hd : Ideal.div (r : EReal) (v : EReal) = ((r * v⁻¹ : ℝ) : EReal) := by
      rw [Ideal.div, if_neg (by exact_mod_cast hv.ne'), ← EReal.coe_inv]; push_cast; rfl
    have hrv : v⁻¹ = r * r := by rw [← hr, ← mul_inv, hq]
    have e1 : (r : EReal) * (u j - (a : EReal) * r * (r * S * (q : EReal))) = u j * r + ((-(r * a * r * r * q) : ℝ) : EReal) * S := by
      rw [sub_eq_add_neg, pos_mul_add hr0, mul_comm (r : EReal) (u j), mul_neg]
      push_cast
      rw [neg_mul]
      congr 2; ac_rfl
    have e2 : (a : EReal) * (S * (((-1 / 2 : ℝ) : EReal) * ((r * v⁻¹ : ℝ) : EReal)) * (q : EReal)) = ((a * (-1 / 2) * (r * v⁻¹) * q : ℝ) : EReal) * S := by
      push_cast; ac_rfl
    rw [e1, hd, mul_comm _ (a : EReal), e2, add_assoc, twice, ← mul_assoc, ← EReal.coe_mul, hrv]
    congr 3; ring

end Wide

/-! ## Rows of 2048 -/

theorem w2048 : Wide.Width 2048 0x45000000#32 := ⟨by simp [Ideal.ofBits, Ideal.ieee, ← EReal.coe_mul]; norm_num, by norm_num⟩

abbrev ms := Wide.ms 2048 0x45000000#32
abbrev rs := Wide.rs 2048 0x45000000#32
abbrev slope := Wide.slope 2048 0x45000000#32
abbrev unitRow := Wide.unitRow 2048 0x45000000#32
abbrev back := Wide.back 2048 0x45000000#32
abbrev gainPart := Wide.gainPart 2048 0x45000000#32

/-! ## The loss -/

/-- The error, its gradient and one row's mean square error. -/
def err (x g y : ℕ → ℕ → EReal) (r j : ℕ) : EReal := unitRow x r j * g 0 j - y r j
def errGrad (x g y : ℕ → ℕ → EReal) (r j : ℕ) : EReal := Ideal.div (err x g y r j) (Ideal.ofBits .f32 0x45000000#32)
def rowLoss (x g y : ℕ → ℕ → EReal) (r : ℕ) : EReal :=
  Ideal.div (∑ k : Fin 2048, err x g y r k * err x g y r k) (Ideal.ofBits .f32 0x45000000#32)
def lossOf (x g y : ℕ → ℕ → EReal) : EReal := (Ideal.ofBits .f32 0x3F000000#32 : EReal) * ∑ r : Fin 4096, rowLoss x g y r

/-- The gradient of half a mean square. -/
theorem half_mean_grad (e : EReal) :
    Ideal.div ((Ideal.ofBits .f32 0x3F000000#32 : EReal) * (Ideal.ofBits .f32 0x3F800000#32 : EReal)) (Ideal.ofBits .f32 0x45000000#32) *
      ((Ideal.ofBits .f32 0x40000000#32 : EReal) * e) = Ideal.div e (Ideal.ofBits .f32 0x45000000#32) := by
  rw [Wide.div_width w2048, Wide.div_width w2048, half_f32, two_f32, Cert.Reals.one_f32, ← EReal.coe_mul, ← EReal.coe_mul, ← mul_assoc, ← EReal.coe_mul, mul_comm]
  congr 2; norm_num

/-- A sum of rows by tiles, and the halves of the tiles' sums. -/
theorem half_tiles (n : ℕ) (f : ℕ → EReal) :
    ∑ t ∈ Finset.range n, (Ideal.ofBits .f32 0x3F000000#32 : EReal) * ∑ r : Fin 128, f (t * 128 + r) =
      (Ideal.ofBits .f32 0x3F000000#32 : EReal) * ∑ r : Fin (n * 128), f r := by
  rw [Cert.Reals.sum_stretches n 128 f, half_f32, pos_mul_sum (by norm_num)]

end Cert.Norm
-- ==== Proof.NormOps.lean ====
/-
  Row sums, column sums and spread rows and columns of arrays of extended reals.
-/
module

public import proofs.«01_k».proof.Proof.NormSpec

@[expose] public section

set_option maxRecDepth 16384

noncomputable section

namespace Cert.Ext

open Idealize.ShloMosaic Idealize.ShloMosaic.TcCoe
open Idealize.ShloMosaic.ValueIdx hiding ix1 ix2 ix3 ix4 ix5 ix6

variable {n m : ℕ} {φ : FTy}

theorem V2.mul {A B : FVec Ideal ⟨2, ![n, m]⟩ φ} {a b : ℕ → ℕ → EReal} (hA : V2 A a) (hB : V2 B b) :
    V2 (mulf A B) fun r c => a r c * b r c := fun i => by rw [mulf_apply, hA, hB]
theorem V2.add {A B : FVec Ideal ⟨2, ![n, m]⟩ φ} {a b : ℕ → ℕ → EReal} (hA : V2 A a) (hB : V2 B b) :
    V2 (addf A B) fun r c => a r c + b r c := fun i => by rw [addf_apply, hA, hB]
theorem V2.sub {A B : FVec Ideal ⟨2, ![n, m]⟩ φ} {a b : ℕ → ℕ → EReal} (hA : V2 A a) (hB : V2 B b) :
    V2 (subf A B) fun r c => a r c - b r c := fun i => by rw [subf_apply, hA, hB]
theorem V2.div {A B : FVec Ideal ⟨2, ![n, m]⟩ φ} {a b : ℕ → ℕ → EReal} (hA : V2 A a) (hB : V2 B b) :
    V2 (divf A B) fun r c => Ideal.div (a r c) (b r c) := fun i => by rw [divf_apply, hA, hB]
theorem V2.rsq {A : FVec Ideal ⟨2, ![n, m]⟩ φ} {a : ℕ → ℕ → EReal} (hA : V2 A a) : V2 (rsqrt A) fun r c => Ideal.rsqrt (a r c) :=
  fun i => congrArg Ideal.rsqrt (hA i)
theorem V2.trunc {ψ : FTy} {A : FVec Ideal ⟨2, ![n, m]⟩ φ} {a : ℕ → ℕ → EReal} (hA : V2 A a) (h : ψ.bits < φ.bits) :
    V2 (truncf ψ A h) a := fun i => by rw [truncf_apply, hA]
theorem V2.same {A : (⟨2, ![n, m]⟩ : Shape).Idx → EReal} {a : ℕ → ℕ → EReal} (hA : V2 A a)
    (h : (⟨2, ![n, m]⟩ : Shape).ShapeCasts ⟨2, ![n, m]⟩) : V2 (shapeCast ⟨2, ![n, m]⟩ A h) a := fun i => by
  rw [shapeCast_self]; exact hA i
theorem V2.const (x : EReal) : V2 (broadcast ⟨2, ![n, m]⟩ x) fun _ _ => x := fun i => by rw [broadcast_apply]

/-- A column laid along the rows, and a row laid along the columns. -/
theorem V2.spreadCol {A : (⟨2, ![n, 1]⟩ : Shape).Idx → EReal} {a : ℕ → ℕ → EReal} (hA : V2 A a)
    (h : (⟨2, ![n, 1]⟩ : Shape).Broadcasts ⟨2, ![n, m]⟩) : V2 (broadcastTo ⟨2, ![n, m]⟩ A h) fun r _ => a r 0 := fun i => by
  have hi : (i 0).val < n := (i 0).isLt
  rw [broadcastTo_apply A h i (ValueIdx.ix2 (⟨(i 0).val, hi⟩ : Fin n) (0 : Fin 1)) (fun d => by
    match d with
    | ⟨0, _⟩ =>
      show (i 0).val = if n = 1 then 0 else (i 0).val
      split <;> omega
    | ⟨1, _⟩ => rfl)]
  exact hA _
theorem V2.spreadRow {A : (⟨2, ![1, m]⟩ : Shape).Idx → EReal} {a : ℕ → ℕ → EReal} (hA : V2 A a)
    (h : (⟨2, ![1, m]⟩ : Shape).Broadcasts ⟨2, ![n, m]⟩) : V2 (broadcastTo ⟨2, ![n, m]⟩ A h) fun _ c => a 0 c := fun i => by
  have hi : (i 1).val < m := (i 1).isLt
  rw [broadcastTo_apply A h i (ValueIdx.ix2 (0 : Fin 1) (⟨(i 1).val, hi⟩ : Fin m)) (fun d => by
    match d with
    | ⟨0, _⟩ => rfl
    | ⟨1, _⟩ =>
      show (i 1).val = if m = 1 then 0 else (i 1).val
      split <;> omega)]
  exact hA _

/-- Each row's sum, as a column. -/
theorem V2.rowSums {A : FVec Ideal ⟨2, ![n, m]⟩ .f32} {a : ℕ → ℕ → EReal} (hA : V2 A a)
    (h : (⟨2, ![n, m]⟩ : Shape).Reduces [1] ⟨1, ![n]⟩) (hφ : FKind.Formats .f32) (hacc : (0x00000000#32 : BitVec 32) = FKind.add.neutral .f32 hφ)
    (hc : (⟨1, ![n]⟩ : Shape).ShapeCasts ⟨2, ![n, 1]⟩) :
    V2 (shapeCast ⟨2, ![n, 1]⟩ (multiReduction .add [1] ⟨1, ![n]⟩ A 0x00000000#32 h hφ hacc) hc) fun r _ => ∑ k : Fin m, a r k := fun i => by
  conv_lhs => rw [ValueIdx.eq_ix2 i]
  refine (shapeCast_a_a1_apply _ hc (i 0) (i 1)).trans ?_
  pointwise
  exact Finset.sum_congr rfl fun k _ => hA _
/-- Each column's sum, as a row. -/
theorem V2.colSums {A : FVec Ideal ⟨2, ![n, m]⟩ .f32} {a : ℕ → ℕ → EReal} (hA : V2 A a)
    (h : (⟨2, ![n, m]⟩ : Shape).Reduces [0] ⟨1, ![m]⟩) (hφ : FKind.Formats .f32) (hacc : (0x00000000#32 : BitVec 32) = FKind.add.neutral .f32 hφ)
    (hc : (⟨1, ![m]⟩ : Shape).ShapeCasts ⟨2, ![1, m]⟩) :
    V2 (shapeCast ⟨2, ![1, m]⟩ (multiReduction .add [0] ⟨1, ![m]⟩ A 0x00000000#32 h hφ hacc) hc) fun _ c => ∑ k : Fin n, a k c := fun i => by
  refine (shapeCast_addUnit_apply ![m] _ hc i).trans ?_
  pointwise
  exact Finset.sum_congr rfl fun k _ => hA _

end Cert.Ext
-- ==== Proof.NormLoss.lean ====
/-
  The last norm and the loss: what each tile of rows gives, the sums over the tiles, and the four result arrays over the extended
  reals.
-/
module

public import proofs.«01_k».proof.Proof.Gen.Kernel8Ideal.Value
public import proofs.«01_k».proof.Proof.NormOps
public import Idealize.ShloMosaic.Lib.Pipeline.ValueKit

@[expose] public section

set_option maxRecDepth 16384

noncomputable section

namespace Cert.Kernel8Ideal.Val

open Idealize.ShloMosaic Idealize.ShloMosaic.TcCoe Idealize.SL.Sem Idealize.ShloMosaic.Pipeline
open Cert.Kernel8Ideal Cert.Kernel8Ideal.Gen Cert.Ext Cert.Norm

section Block
variable {X Y : Vec Ideal S128x2048 .f32} {G : Vec Ideal S1x2048 .f32} {x g y : ℕ → ℕ → EReal} (hX : V2 X x) (hG : V2 G g) (hY : V2 Y y)

include hX
theorem root : V2 (k0_pay5 (F := Ideal) X) fun r _ => rs (x r) :=
  (((hX.mul hX).rowSums _ _ _ _).div (V2.const _)).add (V2.const _) |>.rsq
theorem unit_rows : V2 (k0_pay6 (F := Ideal) X) (unitRow x) := hX.mul ((root hX).spreadCol _)
include hG hY
theorem errors : V2 (k0_pay7 (F := Ideal) X G Y) (err x g y) := ((unit_rows hX).mul (hG.spreadRow _)).sub hY
theorem err_grads : V2 (k0_pay8 (F := Ideal) X G Y) (errGrad x g y) := (errors hX hG hY).div (V2.const _)
theorem rows_back : V2 (k0_pay9 (F := Ideal) X G Y) (back x g (errGrad x g y)) :=
  have hd := (err_grads hX hG hY).mul (hG.spreadRow broadcasts_S1x2048_S128x2048)
  ((root hX).spreadCol broadcasts_S128x1_S128x2048).mul
    (hd.sub ((unit_rows hX).mul ((((hd.mul (unit_rows hX)).rowSums _ _ _ _).div (V2.const _)).spreadCol broadcasts_S128x1_S128x2048)))
omit hG hY
theorem add_gain {P : Vec Ideal S1x2048 .f32} {p : ℕ → ℕ → EReal} (hP : V2 P p) {D : FVec Ideal S128x2048 .f32} {d : ℕ → ℕ → EReal} (hD : V2 D d) :
    V2 (k0_pay3 (F := Ideal) (k0_pay6 X) D P) fun r j => p r j + ∑ k : Fin 128, gainPart x d k j :=
  (hP.same _).add ((hD.mul (unit_rows hX)).colSums _ _ _ _)
omit hX
theorem add_loss {P : Vec Ideal S1x128 .f32} {p : ℕ → ℕ → EReal} (hP : V2 P p) {E : FVec Ideal S128x2048 .f32} {e : ℕ → ℕ → EReal} (hE : V2 E e) :
    V2 (k0_pay4 (F := Ideal) E P) fun r j => p r j + (Ideal.ofBits .f32 0x3F000000#32 : EReal) *
      ∑ k : Fin 128, Ideal.div (∑ l : Fin 2048, e k l * e k l) (Ideal.ofBits .f32 0x45000000#32) :=
  (hP.same _).add ((((V2.const _).mul (((((hE.mul hE).rowSums _ _ _ _).div (V2.const _))).colSums _ _ _ _)).same _).spreadCol _)
theorem zero_gain : V2 (k0_pay1 (F := Ideal)) fun _ _ => 0 := fun _ => Ideal.ofBits_zero_f32
theorem zero_loss : V2 (k0_pay2 (F := Ideal)) fun _ _ => 0 := fun _ => Ideal.ofBits_zero_f32
end Block

theorem ix0 : (∀ t : Fin cfg0.N, win0_0.index t = ![t.val, 0]) ∧ (∀ t : Fin cfg0.N, win0_1.index t = ![0, 0])
    ∧ (∀ t : Fin cfg0.N, win0_2.index t = ![t.val, 0]) ∧ (∀ t : Fin cfg0.N, win0_3.index t = ![t.val, 0])
    ∧ (∀ t : Fin cfg0.N, win0_4.index t = ![0, 0]) ∧ (∀ t : Fin cfg0.N, win0_5.index t = ![0, 0])
    ∧ (∀ t : Fin cfg0.N, win0_6.index t = ![t.val, 0]) := by decide +kernel

section Run
variable (m : (ℓ : Loc nD τ sig) → Buf (Elt Ideal) ℓ) (c : Dev nD) {x g y : ℕ → ℕ → EReal}

/-- The three arguments' values. -/
structure Args (x g y : ℕ → ℕ → EReal) : Prop where
  hx : Ext.V2 (n := 4096) (m := 2048) (m ((c : Thread nD τ).loc main_arg0)) x
  hg : Ext.V2 (n := 1) (m := 2048) (m ((c : Thread nD τ).loc main_arg1)) g
  hy : Ext.V2 (n := 4096) (m := 2048) (m ((c : Thread nD τ).loc main_arg2)) y

/-- A tile's rows. -/
def tile (f : ℕ → ℕ → EReal) (t r j : ℕ) : EReal := f (t * 128 + r) j

variable {m c} (A : Args m c x g y) (t : Fin cfg0.N)
include A

theorem Args.x_block : Ext.V2 (n := 128) (m := 2048) (iblk m c 0 t) (tile x t) := fun i => by
  blk_simp [iblk]
  refine (A.hx _).trans ?_
  blk_simp [ix0.1 t]
  rfl
theorem Args.g_block : Ext.V2 (n := 1) (m := 2048) (iblk m c 1 t) g := fun i => by
  blk_simp [iblk]
  refine (A.hg _).trans ?_
  blk_simp [ix0.2.1 t]
theorem Args.y_block : Ext.V2 (n := 128) (m := 2048) (iblk m c 2 t) (tile y t) := fun i => by
  blk_simp [iblk]
  refine (A.hy _).trans ?_
  blk_simp [ix0.2.2.1 t]
  rfl

/-- What a tile adds to the gain's gradient and to the loss. -/
def gainTile (x g y : ℕ → ℕ → EReal) (t j : ℕ) : EReal := ∑ k : Fin 128, gainPart x (errGrad x g y) (t * 128 + k) j
def lossTile (x g y : ℕ → ℕ → EReal) (t : ℕ) : EReal := (Ideal.ofBits .f32 0x3F000000#32 : EReal) * ∑ k : Fin 128, rowLoss x g y (t * 128 + k)

theorem Args.dx_block : Ext.V2 (n := 128) (m := 2048) (outsAt0 m c t.val t.isLt).1 (tile (back x g (errGrad x g y)) t) := by
  by_cases h : t.val % 32 = 0
  · rw [outsAt0_A m c t h]; frame_out
    exact (rows_back (A.x_block t) (A.g_block t) (A.y_block t)).same _
  · rw [outsAt0_B m c t h]; frame_out
    exact (rows_back (A.x_block t) (A.g_block t) (A.y_block t)).same _
theorem Args.dxb_block : Ext.V2 (n := 128) (m := 2048) (outsAt0 m c t.val t.isLt).2.2.2 (tile (back x g (errGrad x g y)) t) := by
  by_cases h : t.val % 32 = 0
  · rw [outsAt0_A m c t h]; frame_out
    exact ((rows_back (A.x_block t) (A.g_block t) (A.y_block t)).trunc bitsLt_bf16_f32).same _
  · rw [outsAt0_B m c t h]; frame_out
    exact ((rows_back (A.x_block t) (A.g_block t) (A.y_block t)).trunc bitsLt_bf16_f32).same _

theorem Args.gain_sum (n : ℕ) (hn : n < cfg0.N) : Ext.V2 (n := 1) (m := 2048) (outsAt0 m c n hn).2.1
    fun _ j => ∑ s ∈ Finset.range (n + 1), gainTile x g y s j := by
  have hN : cfg0.N = 32 := N_0
  induction n with
  | zero =>
    rw [outsAt0_A m c ⟨0, hn⟩ rfl]; frame_out
    exact fun i => (add_gain (A.x_block ⟨0, hn⟩) zero_gain (err_grads (A.x_block ⟨0, hn⟩) (A.g_block ⟨0, hn⟩) (A.y_block ⟨0, hn⟩)) i).trans
      ((zero_add _).trans (Finset.sum_range_one (fun s => gainTile x g y s (i 1).val)).symm)
  | succ n ih =>
    rw [outsAt0_B m c ⟨n + 1, hn⟩ (by dsimp only; omega)]; frame_out
    exact fun i => (add_gain (A.x_block ⟨n + 1, hn⟩) (ih (by omega)) (err_grads (A.x_block ⟨n + 1, hn⟩) (A.g_block ⟨n + 1, hn⟩) (A.y_block ⟨n + 1, hn⟩)) i).trans
      (Finset.sum_range_succ (fun s => gainTile x g y s (i 1).val) (n + 1)).symm
theorem Args.loss_sum (n : ℕ) (hn : n < cfg0.N) : Ext.V2 (n := 1) (m := 128) (outsAt0 m c n hn).2.2.1
    fun _ _ => ∑ s ∈ Finset.range (n + 1), lossTile x g y s := by
  have hN : cfg0.N = 32 := N_0
  induction n with
  | zero =>
    rw [outsAt0_A m c ⟨0, hn⟩ rfl]; frame_out
    exact fun i => (add_loss zero_loss (errors (A.x_block ⟨0, hn⟩) (A.g_block ⟨0, hn⟩) (A.y_block ⟨0, hn⟩)) i).trans
      ((zero_add _).trans (Finset.sum_range_one (fun s => lossTile x g y s)).symm)
  | succ n ih =>
    rw [outsAt0_B m c ⟨n + 1, hn⟩ (by dsimp only; omega)]; frame_out
    exact fun i => (add_loss (ih (by omega)) (errors (A.x_block ⟨n + 1, hn⟩) (A.g_block ⟨n + 1, hn⟩) (A.y_block ⟨n + 1, hn⟩)) i).trans
      (Finset.sum_range_succ (fun s => lossTile x g y s) (n + 1)).symm

omit t

theorem Args.dx : Ext.V2 (n := 4096) (m := 2048) ((dats m 0 c).arrAt 3 cfg0.N) (back x g (errGrad x g y)) := by
  intro i
  refine (dats m 0 c).arrAt_forall_of_covers 3 (fun i v => v = back x g (errGrad x g y) (i 0).val (i 1).val) (by decide +kernel) (fun t _ y => ?_) i
  blk_simp [ix0.2.2.2.1 t]
  rw [after0_3]
  exact A.dx_block t _
theorem Args.dxb : Ext.V2 (n := 4096) (m := 2048) ((dats m 0 c).arrAt 6 cfg0.N) (back x g (errGrad x g y)) := by
  intro i
  refine (dats m 0 c).arrAt_forall_of_covers 6 (fun i v => v = back x g (errGrad x g y) (i 0).val (i 1).val) (by decide +kernel) (fun t _ y => ?_) i
  blk_simp [ix0.2.2.2.2.2.2 t]
  rw [after0_6]
  exact A.dxb_block t _
theorem Args.dg : Ext.V2 (n := 1) (m := 2048) ((dats m 0 c).arrAt 4 cfg0.N) fun _ j => ∑ r : Fin 4096, gainPart x (errGrad x g y) r j := by
  intro i
  refine (dats m 0 c).arrAt_forall_of_covers 4 (fun i v => v = ∑ r : Fin 4096, gainPart x (errGrad x g y) r (i 1).val) (by decide +kernel) (fun t hf z => ?_) i
  have hN : cfg0.N = 32 := N_0
  have h := (flush0_4 t).mp hf
  have ht := t.isLt
  blk_simp [ix0.2.2.2.2.1 t]
  rw [after0_4]
  refine (A.gain_sum t.val t.isLt _).trans ?_
  rw [show t.val + 1 = 32 by omega]
  exact (Cert.Reals.sum_stretches 32 128 fun r => gainPart x (errGrad x g y) r _).symm
theorem Args.loss : Ext.V2 (n := 1) (m := 128) ((dats m 0 c).arrAt 5 cfg0.N) fun _ _ => lossOf x g y := by
  intro i
  refine (dats m 0 c).arrAt_forall_of_covers 5 (fun i v => v = lossOf x g y) (by decide +kernel) (fun t hf z => ?_) i
  have hN : cfg0.N = 32 := N_0
  have h := (flush0_5 t).mp hf
  have ht := t.isLt
  blk_simp [ix0.2.2.2.2.2.1 t]
  rw [after0_5]
  refine (A.loss_sum t.val t.isLt _).trans ?_
  rw [show t.val + 1 = 32 by omega]
  exact half_tiles 32 (rowLoss x g y)
end Run

end Cert.Kernel8Ideal.Val
-- ==== Proof.NormLossRef.lean ====
/-
  The reference of the last norm and the loss, over the extended reals.
-/
module

public import proofs.«01_k».proof.Proof.Gen.Reference8Ideal.Read
public import proofs.«01_k».proof.Proof.NormOps

@[expose] public section

set_option maxRecDepth 16384

noncomputable section

namespace Cert.Reference8Ideal.Val

open Idealize.ShloMosaic
open Cert.Reference8Ideal Cert.Reference8Ideal.Gen Cert.Reference8Ideal.Read Cert.Ext Cert.Norm

variable {x0 x2 : (⟨S4096x2048, .f32⟩ : BufTy).Contents (Elt Ideal)} {x1 : (⟨S1x2048, .f32⟩ : BufTy).Contents (Elt Ideal)} {x g y : ℕ → ℕ → EReal}
  (hx : V2 (n := 4096) (m := 2048) x0 x) (hg : V2 (n := 1) (m := 2048) x1 g) (hy : V2 (n := 4096) (m := 2048) x2 y)

/-- A sum from zero. -/
theorem from_zero {n : ℕ} {a : EReal} (ha : a = Ideal.ofBits .f32 0x00000000#32) {f h : Fin n → EReal} (e : ∀ k, f k = h k) :
    a + ∑ k : Fin n, f k = ∑ k : Fin n, h k := by
  rw [ha, Ideal.ofBits_zero_f32]
  exact (zero_add _).trans (Finset.sum_congr rfl fun k _ => e k)

/-- A sum over the indices of a vector. -/
theorem sum_idx1 {n : ℕ} (f : (⟨1, ![n]⟩ : Shape).Idx → EReal) (h : Fin n → EReal) (e : ∀ i, f i = h (i 0)) : ∑ i, f i = ∑ k, h k :=
  Fintype.sum_equiv ⟨fun i => i 0, fun k a => match a with | ⟨0, _⟩ => k, fun i => funext fun a => match a with | ⟨0, _⟩ => rfl, fun _ => rfl⟩ f h e

include hx
theorem squares : V2 (n := 4096) (m := 1) (val_main_v6 (F := Ideal) x0) fun r _ => ms (x r) := fun i => by
  rw [val_main_v6_apply, val_main_v4_apply, val_main_v2_apply, val_main_v1_apply, val_main_v3_apply, val_main_v5_apply]
  exact congrArg (fun s => Ideal.div s (Ideal.ofBits .f32 0x45000000#32) + (Ideal.ofBits .f32 0x358637BD#32 : EReal))
    (from_zero rfl fun k => congrArg₂ (· * ·) (hx _) (hx _))
theorem root : V2 (n := 4096) (m := 1) (val_main_v7 (F := Ideal) x0) fun r _ => rs (x r) := fun i => congrArg Ideal.rsqrt (squares hx i)
theorem units : V2 (n := 4096) (m := 2048) (val_main_v12 (F := Ideal) x0) (unitRow x) := fun i => by
  rw [val_main_v12_apply, val_main_v11_apply]
  exact congrArg₂ (· * ·) (hx _) (root hx _)
include hg hy
theorem errors : V2 (n := 4096) (m := 2048) (val_main_v15 (F := Ideal) x0 x1 x2) (err x g y) := fun i => by
  rw [val_main_v15_apply, val_main_v14_apply, val_main_v13_apply]
  exact congrArg₂ (· - ·) (congrArg₂ (· * ·) (units hx _) (hg _)) (hy _)
theorem loss : V2 (n := 1) (m := 128) (val_main_v49 (F := Ideal) x0 x1 x2) fun _ _ => lossOf x g y := fun i => by
  rw [val_main_v49_apply, val_main_v23_apply, val_main_v22_apply]
  refine congrArg ((Ideal.ofBits .f32 0x3F000000#32 : EReal) * ·) ?_
  refine (congrArg (· + _) Ideal.ofBits_zero_f32).trans ((zero_add _).trans ?_)
  refine sum_idx1 (n := 4096) _ (fun r : Fin 4096 => rowLoss x g y r) fun j => ?_
  rw [val_main_v21_apply, val_main_v20_apply, val_main_v19_apply]
  refine congrArg (Ideal.div · (Ideal.ofBits .f32 0x45000000#32)) (from_zero rfl fun k => ?_)
  exact congrArg₂ (· * ·) (errors hx hg hy _) (errors hx hg hy _)
theorem err_grads : V2 (n := 4096) (m := 2048) (val_main_v29 (F := Ideal) x0 x1 x2) (errGrad x g y) := fun i => by
  rw [val_main_v29_apply, val_main_v28_apply, val_main_v18_apply, errors hx hg hy]
  exact half_mean_grad _
theorem gain : V2 (n := 1) (m := 2048) (val_main_v32 (F := Ideal) x0 x1 x2) fun _ j => ∑ r : Fin 4096, gainPart x (errGrad x g y) r j := fun i => by
  rw [val_main_v32_apply, val_main_v31_apply]
  have h0 : (i 0).val < 1 := (i 0).isLt
  have e : (i 0).val * 2048 + (i 1).val = (i 1).val := by omega
  exact from_zero rfl fun k => (mul_comm _ _).trans (congrArg₂ (· * ·) ((err_grads hx hg hy _).trans (congrArg (errGrad x g y k) e))
    ((units hx _).trans (congrArg (unitRow x k) e)))
theorem scaled : V2 (n := 4096) (m := 2048) (val_main_v34 (F := Ideal) x0 x1 x2) fun r k => errGrad x g y r k * g 0 k := fun i => by
  rw [val_main_v34_apply, val_main_v33_apply]
  exact congrArg₂ (· * ·) (err_grads hx hg hy _) (hg _)
theorem slopes : V2 (n := 4096) (m := 2048) (val_main_v44 (F := Ideal) x0 x1 x2) fun r _ => slope (x r) fun k => errGrad x g y r k * g 0 k := fun i => by
  rw [val_main_v44_apply, val_main_v43_apply]
  refine (congrArg (· + _) Ideal.ofBits_zero_f32).trans ((zero_add _).trans (Fin.sum_univ_one _ |>.trans ?_))
  rw [val_main_v42_apply, val_main_v40_apply, val_main_v37_apply, val_main_v36_apply, val_main_v10_apply, val_main_v8_apply]
  have e : (i 0).val * 1 + 0 = (i 0).val := by omega
  refine congrArg (Ideal.div · (Ideal.ofBits .f32 0x45000000#32)) (congrArg₂ (· * ·) (from_zero rfl fun k => congrArg₂ (· * ·)
    ((hx _).trans (congrArg (x · k) e)) ((scaled hx hg hy _).trans (congrArg (fun r => errGrad x g y r k * g 0 k) e))) ?_)
  exact congrArg ((Ideal.ofBits .f32 0xBF000000#32 : EReal) * ·) (congrArg₂ Ideal.div (root hx _) (squares hx _))
theorem dx : V2 (n := 4096) (m := 2048) (val_main_v48 (F := Ideal) x0 x1 x2) (back x g (errGrad x g y)) := fun i => by
  refine Eq.trans ?_ (Wide.grad_eq w2048 _ _ (i 1).isLt).symm
  rw [val_main_v48_apply, val_main_v46_apply, val_main_v45_apply, val_main_v47_apply, val_main_v39_apply, val_main_v38_apply]
  exact congrArg₂ (· + ·) (congrArg₂ (· + ·) (congrArg₂ (· * ·) (scaled hx hg hy _) (root hx _)) (congrArg₂ (· * ·) (hx _) (slopes hx hg hy _)))
    (congrArg₂ (· * ·) (slopes hx hg hy _) (hx _))
theorem dxb : V2 (n := 4096) (m := 2048) (val_main_v50 (F := Ideal) x0 x1 x2) (back x g (errGrad x g y)) := fun i => by
  rw [val_main_v50_apply]
  exact dx hx hg hy i

end Cert.Reference8Ideal.Val
-- ==== Proof.NormBack.lean ====
/-
  The norm before attention, forward and backward: each tile of rows, the gain's gradient summed over the tiles, and the four result
  arrays over the extended reals.
-/
module

public import proofs.«01_k».proof.Proof.Gen.Kernel9Ideal.Frame
public import proofs.«01_k».proof.Proof.NormOps
public import Idealize.ShloMosaic.Lib.Pipeline.ValueKit

@[expose] public section

set_option maxRecDepth 16384

noncomputable section

namespace Cert.Kernel9Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen Cert.Ext Cert.Norm

section
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and each buffer then holds what the two launches leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)
end

/-! ## The blocks -/

section Block
variable {X D U : Vec Ideal S128x2048 .f32} {G : Vec Ideal S1x2048 .f32} {x g d u : ℕ → ℕ → EReal} (hX : Ext.V2 X x) (hG : Ext.V2 G g) (hD : Ext.V2 D d) (hU : Ext.V2 U u)

/-- The scaled rows. -/
def scaled (x g : ℕ → ℕ → EReal) (r j : ℕ) : EReal := unitRow x r j * g 0 j

theorem fwd_rows {X : Vec Ideal S256x2048 .f32} (hX : Ext.V2 X x) (hG : Ext.V2 G g) : Ext.V2 (k0_pay1 (F := Ideal) X G) (scaled x g) :=
  have h : Ext.V2 _ fun r (_ : ℕ) => rs (x r) := (((hX.mul hX).rowSums _ _ _ _).div (V2.const _)).add (V2.const _) |>.rsq
  (((hX.mul (h.spreadCol _)).mul (hG.spreadRow _)).trunc bitsLt_bf16_f32).same _
theorem fwd_block {X : Vec Ideal S256x2048 .f32} (hX : Ext.V2 X x) (hG : Ext.V2 G g) : Ext.V2 (out0_2 (F := Ideal) X G) (scaled x g) := fun z => by
  unfold out0_2
  canon_tiles i ha using cover0_2 ..
  exact (fwd_rows (hX.ld inb_S256x2048_S256x2048_0_0) (hG.ld inb_S1x2048_S1x2048_0_0) i).trans (by rw [ha0, ha1])

include hX
theorem root : Ext.V2 (k1_pay3 (F := Ideal) X) fun r _ => rs (x r) :=
  (((hX.mul hX).rowSums _ _ _ _).div (V2.const _)).add (V2.const _) |>.rsq
theorem unit_rows : Ext.V2 (k1_pay4 (F := Ideal) X) (unitRow x) := hX.mul ((root hX).spreadCol _)
include hG hD hU
theorem rows_back : Ext.V2 (k1_pay5 (F := Ideal) X D G U) fun r j => back x g d r j + u r j :=
  have hd := hD.mul (hG.spreadRow broadcasts_S1x2048_S128x2048)
  (((root hX).spreadCol broadcasts_S128x1_S128x2048).mul
    (hd.sub ((unit_rows hX).mul ((((hd.mul (unit_rows hX)).rowSums _ _ _ _).div (V2.const _)).spreadCol broadcasts_S128x1_S128x2048)))).add hU
omit hG hU
theorem add_gain {P : Vec Ideal S1x2048 .f32} {p : ℕ → ℕ → EReal} (hP : Ext.V2 P p) :
    Ext.V2 (k1_pay2 (F := Ideal) D (k1_pay4 X) P) fun r j => p r j + ∑ k : Fin 128, gainPart x d k j :=
  (hP.same _).add ((hD.mul (unit_rows hX)).colSums _ _ _ _)
omit hX hD
theorem zero_gain : Ext.V2 (k1_pay1 (F := Ideal)) fun _ _ => 0 := fun _ => Ideal.ofBits_zero_f32
end Block

theorem ix0 : (∀ t : Fin cfg0.N, win0_0.index t = ![t.val, 0]) ∧ (∀ t : Fin cfg0.N, win0_1.index t = ![0, 0])
    ∧ (∀ t : Fin cfg0.N, win0_2.index t = ![t.val, 0]) := by decide +kernel
theorem ix1 : (∀ t : Fin cfg1.N, win1_0.index t = ![t.val, 0]) ∧ (∀ t : Fin cfg1.N, win1_1.index t = ![0, 0])
    ∧ (∀ t : Fin cfg1.N, win1_2.index t = ![t.val, 0]) ∧ (∀ t : Fin cfg1.N, win1_3.index t = ![t.val, 0])
    ∧ (∀ t : Fin cfg1.N, win1_4.index t = ![t.val, 0]) ∧ (∀ t : Fin cfg1.N, win1_5.index t = ![0, 0])
    ∧ (∀ t : Fin cfg1.N, win1_6.index t = ![t.val, 0]) := by decide +kernel

/-- A tile's rows. -/
def tile (n : ℕ) (f : ℕ → ℕ → EReal) (t r j : ℕ) : EReal := f (t * n + r) j

/-! ## The arrays of each launch -/

section Forward
variable {V : (c : Dev nD) → (b : Ref sig .tc) → Buf (Elt Ideal) ((c : Thread nD τ).loc b)} (c : Dev nD) {x g : ℕ → ℕ → EReal}
  (hx : Ext.V2 (n := 4096) (m := 2048) (V c main_arg0) x) (hg : Ext.V2 (n := 1) (m := 2048) (V c main_arg1) g)

include hx in
theorem fwd_x (t : Fin cfg0.N) : Ext.V2 (n := 256) (m := 2048) (iblk0 V c 0 t) (tile 256 x t) := fun i => by
  blk_simp [iblk0]
  refine (hx _).trans ?_
  blk_simp [ix0.1 t]
  rfl
include hg in
theorem fwd_g (t : Fin cfg0.N) : Ext.V2 (n := 1) (m := 2048) (iblk0 V c 1 t) g := fun i => by
  blk_simp [iblk0]
  refine (hg _).trans ?_
  blk_simp [ix0.2.1 t]
include hx hg in
theorem fwd_array : Ext.V2 (n := 4096) (m := 2048) ((dat0 V c).arrAt 2 cfg0.N) (scaled x g) := by
  intro i
  refine (dat0 V c).arrAt_forall_of_covers 2 (fun i v => v = scaled x g (i 0).val (i 1).val) (by decide +kernel) (fun t _ y => ?_) i
  blk_simp [ix0.2.2 t]
  rw [after0_2]
  exact fwd_block (fwd_x c hx t) (fwd_g c hg t) _
end Forward

section Backward
variable (V : (c : Dev nD) → (b : Ref sig .tc) → Buf (Elt Ideal) ((c : Thread nD τ).loc b)) (c : Dev nD) {x g d u : ℕ → ℕ → EReal}

/-- The four arguments' values as the second launch finds them. -/
structure Start (x g d u : ℕ → ℕ → EReal) : Prop where
  hx : Ext.V2 (n := 4096) (m := 2048) (V c main_arg0) x
  hg : Ext.V2 (n := 1) (m := 2048) (V c main_arg1) g
  hd : Ext.V2 (n := 4096) (m := 2048) (V c main_arg2) d
  hu : Ext.V2 (n := 4096) (m := 2048) (V c main_arg3) u

variable {V c} (S : Start V c x g d u) (t : Fin cfg1.N)
include S

theorem Start.x_block : Ext.V2 (n := 128) (m := 2048) (iblk1 V c 0 t) (tile 128 x t) := fun i => by
  blk_simp [iblk1]
  refine (S.hx _).trans ?_
  blk_simp [ix1.1 t]
  rfl
theorem Start.g_block : Ext.V2 (n := 1) (m := 2048) (iblk1 V c 1 t) g := fun i => by
  blk_simp [iblk1]
  refine (S.hg _).trans ?_
  blk_simp [ix1.2.1 t]
theorem Start.d_block : Ext.V2 (n := 128) (m := 2048) (iblk1 V c 2 t) (tile 128 d t) := fun i => by
  blk_simp [iblk1]
  refine (S.hd _).trans ?_
  blk_simp [ix1.2.2.1 t]
  rfl
theorem Start.u_block : Ext.V2 (n := 128) (m := 2048) (iblk1 V c 3 t) (tile 128 u t) := fun i => by
  blk_simp [iblk1]
  refine (S.hu _).trans ?_
  blk_simp [ix1.2.2.2.1 t]
  rfl

omit S in
/-- The rows' gradient with the other path's added, and what a tile adds to the gain's gradient. -/
def summed (x g d u : ℕ → ℕ → EReal) (r j : ℕ) : EReal := back x g d r j + u r j
omit S in
def gainTile (x d : ℕ → ℕ → EReal) (t j : ℕ) : EReal := ∑ k : Fin 128, gainPart x d (t * 128 + k) j

theorem Start.dx_block : Ext.V2 (n := 128) (m := 2048) (outsAt1 V c t.val t.isLt).1 (tile 128 (summed x g d u) t) := by
  by_cases h : t.val % 32 = 0
  · rw [outsAt1_A V c t h]; frame_out
    exact (rows_back (S.x_block t) (S.g_block t) (S.d_block t) (S.u_block t)).same _
  · rw [outsAt1_B V c t h]; frame_out
    exact (rows_back (S.x_block t) (S.g_block t) (S.d_block t) (S.u_block t)).same _
theorem Start.dxb_block : Ext.V2 (n := 128) (m := 2048) (outsAt1 V c t.val t.isLt).2.2 (tile 128 (summed x g d u) t) := by
  by_cases h : t.val % 32 = 0
  · rw [outsAt1_A V c t h]; frame_out
    exact ((rows_back (S.x_block t) (S.g_block t) (S.d_block t) (S.u_block t)).trunc bitsLt_bf16_f32).same _
  · rw [outsAt1_B V c t h]; frame_out
    exact ((rows_back (S.x_block t) (S.g_block t) (S.d_block t) (S.u_block t)).trunc bitsLt_bf16_f32).same _
theorem Start.gain_sum (n : ℕ) (hn : n < cfg1.N) : Ext.V2 (n := 1) (m := 2048) (outsAt1 V c n hn).2.1
    fun _ j => ∑ s ∈ Finset.range (n + 1), gainTile x d s j := by
  have hN : cfg1.N = 32 := N_1
  induction n with
  | zero =>
    rw [outsAt1_A V c ⟨0, hn⟩ rfl]; frame_out
    exact fun i => (add_gain (S.x_block ⟨0, hn⟩) (S.d_block ⟨0, hn⟩) zero_gain i).trans
      ((zero_add _).trans (Finset.sum_range_one (fun s => gainTile x d s (i 1).val)).symm)
  | succ n ih =>
    rw [outsAt1_B V c ⟨n + 1, hn⟩ (by dsimp only; omega)]; frame_out
    exact fun i => (add_gain (S.x_block ⟨n + 1, hn⟩) (S.d_block ⟨n + 1, hn⟩) (ih (by omega)) i).trans
      (Finset.sum_range_succ (fun s => gainTile x d s (i 1).val) (n + 1)).symm

omit t

theorem Start.dx_array : Ext.V2 (n := 4096) (m := 2048) ((dat1 V c).arrAt 4 cfg1.N) (summed x g d u) := by
  intro i
  refine (dat1 V c).arrAt_forall_of_covers 4 (fun i v => v = summed x g d u (i 0).val (i 1).val) (by decide +kernel) (fun t _ y => ?_) i
  blk_simp [ix1.2.2.2.2.1 t]
  rw [after1_4]
  exact S.dx_block t _
theorem Start.dg_array : Ext.V2 (n := 1) (m := 2048) ((dat1 V c).arrAt 5 cfg1.N) fun _ j => ∑ r : Fin 4096, gainPart x d r j := by
  intro i
  refine (dat1 V c).arrAt_forall_of_covers 5 (fun i v => v = ∑ r : Fin 4096, gainPart x d r (i 1).val) (by decide +kernel) (fun t hf z => ?_) i
  have hN : cfg1.N = 32 := N_1
  have h := (flush1_5 t).mp hf
  have ht := t.isLt
  blk_simp [ix1.2.2.2.2.2.1 t]
  rw [after1_5]
  refine (S.gain_sum t.val t.isLt _).trans ?_
  rw [show t.val + 1 = 32 by omega]
  exact (Cert.Reals.sum_stretches 32 128 fun r => gainPart x d r _).symm
theorem Start.dxb_array : Ext.V2 (n := 4096) (m := 2048) ((dat1 V c).arrAt 6 cfg1.N) (summed x g d u) := by
  intro i
  refine (dat1 V c).arrAt_forall_of_covers 6 (fun i v => v = summed x g d u (i 0).val (i 1).val) (by decide +kernel) (fun t _ y => ?_) i
  blk_simp [ix1.2.2.2.2.2.2 t]
  rw [after1_6]
  exact S.dxb_block t _
end Backward

/-! ## The results -/

section Results
variable (m : (ℓ : Loc nD τ sig) → Buf (Elt Ideal) ℓ) (ρ : Dev nD → PrngReg) (c : Dev nD) {x g d u : ℕ → ℕ → EReal}

/-- The four arguments' values. -/
structure Args (x g d u : ℕ → ℕ → EReal) : Prop where
  hx : Ext.V2 (n := 4096) (m := 2048) (m ((c.tc : Thread nD τ).loc main_arg0)) x
  hg : Ext.V2 (n := 1) (m := 2048) (m ((c.tc : Thread nD τ).loc main_arg1)) g
  hd : Ext.V2 (n := 4096) (m := 2048) (m ((c.tc : Thread nD τ).loc main_arg2)) d
  hu : Ext.V2 (n := 4096) (m := 2048) (m ((c.tc : Thread nD τ).loc main_arg3)) u

variable {m c} (A : Args m c x g d u)
include A

theorem Args.start : Start (V1 m ρ) c x g d u where
  hx := by rw [show V1 m ρ c main_arg0 = _ from W1_args m ρ c main_arg0 (by decide)]; exact A.hx
  hg := by rw [show V1 m ρ c main_arg1 = _ from W1_args m ρ c main_arg1 (by decide)]; exact A.hg
  hd := by rw [show V1 m ρ c main_arg2 = _ from W1_args m ρ c main_arg2 (by decide)]; exact A.hd
  hu := by rw [show V1 m ρ c main_arg3 = _ from W1_args m ρ c main_arg3 (by decide)]; exact A.hu
theorem Args.fwd : Ext.V2 (n := 4096) (m := 2048) (W2 m ρ c (Proc.devRef .tc main_v0)) (scaled x g) := by
  rw [show W2 m ρ c (Proc.devRef .tc main_v0) = _ from W2_of m ρ c main_v0 (by decide),
    show W1 m ρ c (Proc.devRef .tc main_v0) = _ from W1_arr m ρ c 2]
  exact fwd_array c A.hx A.hg
theorem Args.dx : Ext.V2 (n := 4096) (m := 2048) (W2 m ρ c (Proc.devRef .tc main_v1_0)) (summed x g d u) := by
  rw [show W2 m ρ c (Proc.devRef .tc main_v1_0) = _ from W2_arr m ρ c 4]
  exact (A.start ρ).dx_array
theorem Args.dg : Ext.V2 (n := 1) (m := 2048) (W2 m ρ c (Proc.devRef .tc main_v1_1)) fun _ j => ∑ r : Fin 4096, gainPart x d r j := by
  rw [show W2 m ρ c (Proc.devRef .tc main_v1_1) = _ from W2_arr m ρ c 5]
  exact (A.start ρ).dg_array
theorem Args.dxb : Ext.V2 (n := 4096) (m := 2048) (W2 m ρ c (Proc.devRef .tc main_v1_2)) (summed x g d u) := by
  rw [show W2 m ρ c (Proc.devRef .tc main_v1_2) = _ from W2_arr m ρ c 6]
  exact (A.start ρ).dxb_array
end Results

end Cert.Kernel9Ideal.Val
-- ==== Proof.NormBackRef.lean ====
/-
  The reference of the norm before attention, forward and backward, over the extended reals.
-/
module

public import proofs.«01_k».proof.Proof.Gen.Reference9Ideal.Read
public import proofs.«01_k».proof.Proof.NormOps

@[expose] public section

set_option maxRecDepth 16384

noncomputable section

namespace Cert.Reference9Ideal.Val

open Idealize.ShloMosaic
open Cert.Reference9Ideal Cert.Reference9Ideal.Gen Cert.Reference9Ideal.Read Cert.Ext Cert.Norm

variable {x0 x2 x3 : (⟨S4096x2048, .f32⟩ : BufTy).Contents (Elt Ideal)} {x1 : (⟨S1x2048, .f32⟩ : BufTy).Contents (Elt Ideal)} {x g d u : ℕ → ℕ → EReal}
  (hx : V2 (n := 4096) (m := 2048) x0 x) (hg : V2 (n := 1) (m := 2048) x1 g) (hd : V2 (n := 4096) (m := 2048) x2 d)
  (hu : V2 (n := 4096) (m := 2048) x3 u)

include hx
theorem squares : V2 (n := 4096) (m := 1) (val_main_v6 (F := Ideal) x0) fun r _ => ms (x r) := fun i => by
  rw [val_main_v6_apply, val_main_v4_apply, val_main_v2_apply, val_main_v1_apply, val_main_v3_apply, val_main_v5_apply]
  exact congrArg (fun s => Ideal.div s (Ideal.ofBits .f32 0x45000000#32) + (Ideal.ofBits .f32 0x358637BD#32 : EReal))
    (from_zero rfl fun k => congrArg₂ (· * ·) (hx _) (hx _))
theorem root : V2 (n := 4096) (m := 1) (val_main_v7 (F := Ideal) x0) fun r _ => rs (x r) := fun i => congrArg Ideal.rsqrt (squares hx i)
theorem units : V2 (n := 4096) (m := 2048) (val_main_v12 (F := Ideal) x0) (unitRow x) := fun i => by
  rw [val_main_v12_apply, val_main_v11_apply]
  exact congrArg₂ (· * ·) (hx _) (root hx _)
include hg in
theorem fwd : V2 (n := 4096) (m := 2048) (val_main_v35 (F := Ideal) x0 x1) fun r j => unitRow x r j * g 0 j := fun i => by
  rw [val_main_v35_apply, val_main_v14_apply, val_main_v13_apply]
  exact congrArg₂ (· * ·) (units hx _) (hg _)
include hd
theorem gain : V2 (n := 1) (m := 2048) (val_main_v17 (F := Ideal) x0 x2) fun _ j => ∑ r : Fin 4096, gainPart x d r j := fun i => by
  rw [val_main_v17_apply, val_main_v16_apply]
  have h0 : (i 0).val < 1 := (i 0).isLt
  have e : (i 0).val * 2048 + (i 1).val = (i 1).val := by omega
  exact from_zero rfl fun k => (mul_comm _ _).trans (congrArg₂ (· * ·) ((hd _).trans (congrArg (d k) e))
    ((units hx _).trans (congrArg (unitRow x k) e)))
include hg
omit hx in
theorem scaled : V2 (n := 4096) (m := 2048) (val_main_v19 (F := Ideal) x1 x2) fun r k => d r k * g 0 k := fun i => by
  rw [val_main_v19_apply, val_main_v18_apply]
  exact congrArg₂ (· * ·) (hd _) (hg _)
theorem slopes : V2 (n := 4096) (m := 2048) (val_main_v29 (F := Ideal) x0 x1 x2) fun r _ => slope (x r) fun k => d r k * g 0 k := fun i => by
  rw [val_main_v29_apply, val_main_v28_apply]
  refine (congrArg (· + _) Ideal.ofBits_zero_f32).trans ((zero_add _).trans (Fin.sum_univ_one _ |>.trans ?_))
  rw [val_main_v27_apply, val_main_v25_apply, val_main_v22_apply, val_main_v21_apply, val_main_v10_apply, val_main_v8_apply]
  have e : (i 0).val * 1 + 0 = (i 0).val := by omega
  refine congrArg (Ideal.div · (Ideal.ofBits .f32 0x45000000#32)) (congrArg₂ (· * ·) (from_zero rfl fun k => congrArg₂ (· * ·)
    ((hx _).trans (congrArg (x · k) e)) ((scaled hg hd _).trans (congrArg (fun r => d r k * g 0 k) e))) ?_)
  exact congrArg ((Ideal.ofBits .f32 0xBF000000#32 : EReal) * ·) (congrArg₂ Ideal.div (root hx _) (squares hx _))
include hu
theorem dx : V2 (n := 4096) (m := 2048) (val_main_v34 (F := Ideal) x0 x1 x2 x3) fun r j => back x g d r j + u r j := fun i => by
  rw [val_main_v34_apply, val_main_v33_apply, val_main_v31_apply, val_main_v30_apply, val_main_v32_apply, val_main_v24_apply, val_main_v23_apply]
  refine congrArg₂ (· + ·) (Eq.trans ?_ (Wide.grad_eq w2048 _ _ (i 1).isLt).symm) (hu _)
  exact congrArg₂ (· + ·) (congrArg₂ (· + ·) (congrArg₂ (· * ·) (scaled hg hd _) (root hx _)) (congrArg₂ (· * ·) (hx _) (slopes hx hg hd _)))
    (congrArg₂ (· * ·) (slopes hx hg hd _) (hx _))
theorem dxb : V2 (n := 4096) (m := 2048) (val_main_v36 (F := Ideal) x0 x1 x2 x3) fun r j => back x g d r j + u r j := fun i => by
  rw [val_main_v36_apply]
  exact dx hx hg hd hu i

end Cert.Reference9Ideal.Val
-- ==== Proof.NormWide.lean ====
/-
  Arrays' rows by tiles and columns, and rows summed step by step.
-/
module

public import proofs.«01_k».proof.Proof.NormOps

@[expose] public section

set_option maxRecDepth 16384

noncomputable section

namespace Cert.Norm.Wide

open Idealize.ShloMosaic Cert.Norm

/-- A tile's rows, and an array's columns from `o` on. -/
def tile (s : ℕ) (f : ℕ → ℕ → EReal) (t r j : ℕ) : EReal := f (t * s + r) j
def cut (o : ℕ) (f : ℕ → ℕ → EReal) (r j : ℕ) : EReal := f r (o + j)

/-- An array's values, through an equality. -/
theorem of_eq {n m : ℕ} {X Y : (⟨2, ![n, m]⟩ : Shape).Idx → EReal} {x : ℕ → ℕ → EReal} (e : X = Y) (h : Ext.V2 Y x) : Ext.V2 X x := e ▸ h

/-- A row that starts at the first of some rows and takes one more at each step is their sum. -/
theorem sum_steps {m N : ℕ} (o : (k : ℕ) → k < N → (⟨2, ![1, m]⟩ : Shape).Idx → EReal) {p : ℕ → ℕ → EReal}
    (h0 : ∀ h, Ext.V2 (o 0 h) fun _ j => 0 + p 0 j)
    (hs : ∀ k h q, Ext.V2 (o k (Nat.lt_of_succ_lt h)) q → Ext.V2 (o (k + 1) h) fun r j => q r j + p (k + 1) j) (k : ℕ) (h : k < N) :
    Ext.V2 (o k h) fun _ j => ∑ s ∈ Finset.range (k + 1), p s j := by
  induction k with
  | zero => exact fun i => (h0 h i).trans ((zero_add _).trans (Finset.sum_range_one fun s => p s (i 1).val).symm)
  | succ k ih => exact fun i => (hs k h _ (ih _) i).trans (Finset.sum_range_succ (fun s => p s (i 1).val) (k + 1)).symm

end Cert.Norm.Wide
-- ==== Proof.NormOut.lean ====
/-
  The norms of the three mixers' outputs, forward and backward: each tile of rows, each gain's gradient summed over the tiles, and the
  nine result arrays over the extended reals.
-/
module

public import proofs.«01_k».proof.Proof.Gen.Kernel11Ideal.Frame
public import proofs.«01_k».proof.Proof.NormWide
public import Idealize.ShloMosaic.Lib.Pipeline.ValueKit

@[expose] public section

set_option maxRecDepth 16384

noncomputable section

namespace Cert.Kernel11Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal Cert.Kernel11Ideal.Gen Cert.Ext Cert.Norm Cert.Norm.Wide

section
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and each buffer then holds what the six launches leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)
end

/-! ## Launch 0 -/

namespace L0

section
variable {X : Vec Ideal S1024x512 .f32} {G : Vec Ideal S1x512 .f32} {x g : ℕ → ℕ → EReal}

theorem rows (hX : Ext.V2 X x) (hG : Ext.V2 G g) : Ext.V2 (k0_pay1 (F := Ideal) X G) (scaled 512 0x44000000#32 x g) :=
  have h : Ext.V2 _ fun r (_ : ℕ) => rs 512 0x44000000#32 (x r) := (((hX.mul hX).rowSums _ _ _ _).div (V2.const _)).add (V2.const _) |>.rsq
  (((hX.mul (h.spreadCol _)).mul (hG.spreadRow _)).trunc bitsLt_bf16_f32).same _
theorem block (hX : Ext.V2 X x) (hG : Ext.V2 G g) : Ext.V2 (out0_2 (F := Ideal) X G) (scaled 512 0x44000000#32 x g) := fun z => by
  unfold out0_2
  canon_tiles i ha using cover0_2 ..
  exact (rows (hX.ld inb_S1024x512_S1024x512_0_0) (hG.ld inb_S1x512_S1x512_0_0) i).trans (by rw [ha0, ha1])
end

theorem ix : (∀ t : Fin cfg0.N, win0_0.index t = ![t.val, 0]) ∧ (∀ t : Fin cfg0.N, win0_1.index t = ![0, 0])
    ∧ (∀ t : Fin cfg0.N, win0_2.index t = ![t.val, 0]) := by decide +kernel

variable {V : (c : Dev nD) → (b : Ref sig .tc) → Buf (Elt Ideal) ((c : Thread nD τ).loc b)} {c : Dev nD} {x g : ℕ → ℕ → EReal}
  (hx : Ext.V2 (n := 4096) (m := 512) (V c main_arg0) x) (hg : Ext.V2 (n := 1) (m := 512) (V c main_arg3) g)

include hx in
theorem x_block (t : Fin cfg0.N) : Ext.V2 (n := 1024) (m := 512) (iblk0 V c 0 t) (tile 1024 x t) := fun i => by
  blk_simp [iblk0]
  refine (hx _).trans ?_
  blk_simp [ix.1 t]
  rfl
include hg in
theorem g_block (t : Fin cfg0.N) : Ext.V2 (n := 1) (m := 512) (iblk0 V c 1 t) g := fun i => by
  blk_simp [iblk0]
  refine (hg _).trans ?_
  blk_simp [ix.2.1 t]
include hx hg in
theorem array : Ext.V2 (n := 4096) (m := 512) ((dat0 V c).arrAt 2 cfg0.N) (scaled 512 0x44000000#32 x g) := by
  intro i
  refine (dat0 V c).arrAt_forall_of_covers 2 (fun i v => v = scaled 512 0x44000000#32 x g (i 0).val (i 1).val) (by decide +kernel) (fun t _ y => ?_) i
  blk_simp [ix.2.2 t]
  rw [after0_2]
  exact L0.block (x_block hx t) (g_block hg t) _

end L0

/-! ## Launch 1 -/

namespace L1

section
variable {X : Vec Ideal S512x768 .f32} {G : Vec Ideal S1x768 .f32} {x g : ℕ → ℕ → EReal}

theorem rows (hX : Ext.V2 X x) (hG : Ext.V2 G g) : Ext.V2 (k1_pay1 (F := Ideal) X G) (scaled 768 0x44400000#32 x g) :=
  have h : Ext.V2 _ fun r (_ : ℕ) => rs 768 0x44400000#32 (x r) := (((hX.mul hX).rowSums _ _ _ _).div (V2.const _)).add (V2.const _) |>.rsq
  (((hX.mul (h.spreadCol _)).mul (hG.spreadRow _)).trunc bitsLt_bf16_f32).same _
theorem block (hX : Ext.V2 X x) (hG : Ext.V2 G g) : Ext.V2 (out1_2 (F := Ideal) X G) (scaled 768 0x44400000#32 x g) := fun z => by
  unfold out1_2
  canon_tiles i ha using cover1_2 ..
  exact (rows (hX.ld inb_S512x768_S512x768_0_0) (hG.ld inb_S1x768_S1x768_0_0) i).trans (by rw [ha0, ha1])
end

theorem ix : (∀ t : Fin cfg1.N, win1_0.index t = ![t.val, 0]) ∧ (∀ t : Fin cfg1.N, win1_1.index t = ![0, 0])
    ∧ (∀ t : Fin cfg1.N, win1_2.index t = ![t.val, 0]) := by decide +kernel

variable {V : (c : Dev nD) → (b : Ref sig .tc) → Buf (Elt Ideal) ((c : Thread nD τ).loc b)} {c : Dev nD} {x g : ℕ → ℕ → EReal}
  (hx : Ext.V2 (n := 4096) (m := 768) (V c main_arg1) x) (hg : Ext.V2 (n := 1) (m := 768) (V c main_arg4) g)

include hx in
theorem x_block (t : Fin cfg1.N) : Ext.V2 (n := 512) (m := 768) (iblk1 V c 0 t) (tile 512 x t) := fun i => by
  blk_simp [iblk1]
  refine (hx _).trans ?_
  blk_simp [ix.1 t]
  rfl
include hg in
theorem g_block (t : Fin cfg1.N) : Ext.V2 (n := 1) (m := 768) (iblk1 V c 1 t) g := fun i => by
  blk_simp [iblk1]
  refine (hg _).trans ?_
  blk_simp [ix.2.1 t]
include hx hg in
theorem array : Ext.V2 (n := 4096) (m := 768) ((dat1 V c).arrAt 2 cfg1.N) (scaled 768 0x44400000#32 x g) := by
  intro i
  refine (dat1 V c).arrAt_forall_of_covers 2 (fun i v => v = scaled 768 0x44400000#32 x g (i 0).val (i 1).val) (by decide +kernel) (fun t _ y => ?_) i
  blk_simp [ix.2.2 t]
  rw [after1_2]
  exact L1.block (x_block hx t) (g_block hg t) _

end L1

/-! ## Launch 2 -/

namespace L2

theorem ix : (∀ t : Fin cfg2.N, win2_0.index t = ![t.val, 0]) ∧ (∀ t : Fin cfg2.N, win2_1.index t = ![0, 0])
    ∧ (∀ t : Fin cfg2.N, win2_2.index t = ![t.val, 0]) := by decide +kernel

variable {V : (c : Dev nD) → (b : Ref sig .tc) → Buf (Elt Ideal) ((c : Thread nD τ).loc b)} {c : Dev nD} {x g : ℕ → ℕ → EReal}
  (hx : Ext.V2 (n := 4096) (m := 768) (V c main_arg2) x) (hg : Ext.V2 (n := 1) (m := 768) (V c main_arg5) g)

include hx in
theorem x_block (t : Fin cfg2.N) : Ext.V2 (n := 512) (m := 768) (iblk2 V c 0 t) (tile 512 x t) := fun i => by
  blk_simp [iblk2]
  refine (hx _).trans ?_
  blk_simp [ix.1 t]
  rfl
include hg in
theorem g_block (t : Fin cfg2.N) : Ext.V2 (n := 1) (m := 768) (iblk2 V c 1 t) g := fun i => by
  blk_simp [iblk2]
  refine (hg _).trans ?_
  blk_simp [ix.2.1 t]
include hx hg in
theorem array : Ext.V2 (n := 4096) (m := 768) ((dat2 V c).arrAt 2 cfg2.N) (scaled 768 0x44400000#32 x g) := by
  intro i
  refine (dat2 V c).arrAt_forall_of_covers 2 (fun i v => v = scaled 768 0x44400000#32 x g (i 0).val (i 1).val) (by decide +kernel) (fun t _ y => ?_) i
  blk_simp [ix.2.2 t]
  rw [after2_2]
  exact L1.block (x_block hx t) (g_block hg t) _

end L2

/-! ## Launch 3 -/

namespace L3

section
variable {X D : Vec Ideal S512x512 .f32} {G P : Vec Ideal S1x512 .f32} {x g d q : ℕ → ℕ → EReal}

theorem root (hX : Ext.V2 X x) : Ext.V2 (k3_pay2 (F := Ideal) X) fun r _ => rs 512 0x44000000#32 (x r) :=
  (((hX.mul hX).rowSums _ _ _ _).div (V2.const _)).add (V2.const _) |>.rsq
theorem units (hX : Ext.V2 X x) : Ext.V2 (k3_pay3 (F := Ideal) X) (unitRow 512 0x44000000#32 x) := hX.mul ((root hX).spreadCol _)
theorem rows (hX : Ext.V2 X x) (hG : Ext.V2 G g) (hD : Ext.V2 D d) : Ext.V2 (k3_pay4 (F := Ideal) X D G) (back 512 0x44000000#32 x g d) :=
  have hd := hD.mul (hG.spreadRow broadcasts_S1x512_S512x512)
  (((root hX).spreadCol broadcasts_S512x1_S512x512).mul
    (hd.sub ((units hX).mul ((((hd.mul (units hX)).rowSums _ _ _ _).div (V2.const _)).spreadCol broadcasts_S512x1_S512x512)))).same _
theorem add_gain (hX : Ext.V2 X x) (hD : Ext.V2 D d) (hP : Ext.V2 P q) :
    Ext.V2 (k3_pay1 (F := Ideal) (k3_pay6 P) (k3_pay7 X D)) fun r j => q r j + gainOf 512 0x44000000#32 512 x d j :=
  (hP.same _).add ((hD.mul (units hX)).colSums _ (.inl rfl) rfl _)
theorem zero_gain : Ext.V2 (k3_pay5 (F := Ideal)) fun _ _ => 0 := fun _ => Ideal.ofBits_zero_f32
end

theorem ix : (∀ t : Fin cfg3.N, win3_0.index t = ![t.val, 0]) ∧ (∀ t : Fin cfg3.N, win3_1.index t = ![0, 0])
    ∧ (∀ t : Fin cfg3.N, win3_2.index t = ![t.val, 0]) ∧ (∀ t : Fin cfg3.N, win3_3.index t = ![t.val, 0])
    ∧ (∀ t : Fin cfg3.N, win3_4.index t = ![0, 0]) := by decide +kernel

variable {V : (c : Dev nD) → (b : Ref sig .tc) → Buf (Elt Ideal) ((c : Thread nD τ).loc b)} {c : Dev nD} {x g d : ℕ → ℕ → EReal}
  (hx : Ext.V2 (n := 4096) (m := 512) (V c main_arg0) x) (hg : Ext.V2 (n := 1) (m := 512) (V c main_arg3) g)
  (hd : Ext.V2 (n := 4096) (m := 512) (V c main_arg6) d)

include hx in
theorem x_block (t : Fin cfg3.N) : Ext.V2 (n := 512) (m := 512) (iblk3 V c 0 t) (tile 512 x t) := fun i => by
  blk_simp [iblk3]
  refine (hx _).trans ?_
  blk_simp [ix.1 t]
  rfl
include hg in
theorem g_block (t : Fin cfg3.N) : Ext.V2 (n := 1) (m := 512) (iblk3 V c 1 t) g := fun i => by
  blk_simp [iblk3]
  refine (hg _).trans ?_
  blk_simp [ix.2.1 t]
include hd in
theorem d_block (t : Fin cfg3.N) : Ext.V2 (n := 512) (m := 512) (iblk3 V c 2 t) (tile 512 d t) := fun i => by
  blk_simp [iblk3]
  refine (hd _).trans ?_
  blk_simp [ix.2.2.1 t]
  rfl
include hx hg hd in
theorem dx_block (t : Fin cfg3.N) : Ext.V2 (n := 512) (m := 512) (outsAt3 V c t.val t.isLt).1 (tile 512 (back 512 0x44000000#32 x g d) t) := by
  by_cases h : t.val % 8 = 0 <;> [rw [outsAt3_A V c t h]; rw [outsAt3_B V c t h]] <;> frame_out <;>
    exact L3.rows (x_block hx t) (g_block hg t) (d_block hd t)
include hx hg hd in
theorem dx_array : Ext.V2 (n := 4096) (m := 512) ((dat3 V c).arrAt 3 cfg3.N) (back 512 0x44000000#32 x g d) := by
  intro i
  refine (dat3 V c).arrAt_forall_of_covers 3 (fun i v => v = back 512 0x44000000#32 x g d (i 0).val (i 1).val) (by decide +kernel) (fun t _ y => ?_) i
  blk_simp [ix.2.2.2.1 t]
  rw [after3_3]
  exact dx_block hx hg hd t _
include hx hd in
theorem dg_array : Ext.V2 (n := 1) (m := 512) ((dat3 V c).arrAt 4 cfg3.N) fun _ => gainOf 512 0x44000000#32 4096 x d := by
  intro i
  refine (dat3 V c).arrAt_forall_of_covers 4 (fun i v => v = gainOf 512 0x44000000#32 4096 x d (i 1).val) (by decide +kernel) (fun t hf z => ?_) i
  have hN : cfg3.N = 8 := N_3
  have h := (flush3_4 t).mp hf
  have ht := t.isLt
  blk_simp [ix.2.2.2.2 t]
  rw [after3_4]
  refine (sum_steps (fun n hn => (outsAt3 V c n hn).2) (p := fun s => gainOf 512 0x44000000#32 512 (tile 512 x s) (tile 512 d s))
    (fun hn => ?_) (fun n hn q hq => ?_) t.val t.isLt _).trans ?_
  · rw [outsAt3_A V c ⟨0, hn⟩ rfl]; frame_out
    exact L3.add_gain (x_block hx ⟨0, hn⟩) (d_block hd ⟨0, hn⟩) L3.zero_gain
  · rw [outsAt3_B V c ⟨n + 1, hn⟩ (by dsimp only; omega)]; frame_out
    exact L3.add_gain (x_block hx ⟨n + 1, hn⟩) (d_block hd ⟨n + 1, hn⟩) hq
  rw [show t.val + 1 = 8 by omega]
  exact (Cert.Reals.sum_stretches 8 512 fun r => gainPart 512 0x44000000#32 x d r _).symm

end L3

/-! ## Launch 4 -/

namespace L4

section
variable {X D : Vec Ideal S256x768 .f32} {G P : Vec Ideal S1x768 .f32} {x g d q : ℕ → ℕ → EReal}

theorem root (hX : Ext.V2 X x) : Ext.V2 (k4_pay2 (F := Ideal) X) fun r _ => rs 768 0x44400000#32 (x r) :=
  (((hX.mul hX).rowSums _ _ _ _).div (V2.const _)).add (V2.const _) |>.rsq
theorem units (hX : Ext.V2 X x) : Ext.V2 (k4_pay3 (F := Ideal) X) (unitRow 768 0x44400000#32 x) := hX.mul ((root hX).spreadCol _)
theorem rows (hX : Ext.V2 X x) (hG : Ext.V2 G g) (hD : Ext.V2 D d) : Ext.V2 (k4_pay4 (F := Ideal) X D G) (back 768 0x44400000#32 x g d) :=
  have hd := hD.mul (hG.spreadRow broadcasts_S1x768_S256x768)
  (((root hX).spreadCol broadcasts_S256x1_S256x768).mul
    (hd.sub ((units hX).mul ((((hd.mul (units hX)).rowSums _ _ _ _).div (V2.const _)).spreadCol broadcasts_S256x1_S256x768)))).same _
theorem add_gain (hX : Ext.V2 X x) (hD : Ext.V2 D d) (hP : Ext.V2 P q) :
    Ext.V2 (k4_pay1 (F := Ideal) (k4_pay6 P) (k4_pay7 X D)) fun r j => q r j + gainOf 768 0x44400000#32 256 x d j :=
  (hP.same _).add ((hD.mul (units hX)).colSums _ (.inl rfl) rfl _)
theorem zero_gain : Ext.V2 (k4_pay5 (F := Ideal)) fun _ _ => 0 := fun _ => Ideal.ofBits_zero_f32
end

theorem ix : (∀ t : Fin cfg4.N, win4_0.index t = ![t.val, 0]) ∧ (∀ t : Fin cfg4.N, win4_1.index t = ![0, 0])
    ∧ (∀ t : Fin cfg4.N, win4_2.index t = ![t.val, 0]) ∧ (∀ t : Fin cfg4.N, win4_3.index t = ![t.val, 0])
    ∧ (∀ t : Fin cfg4.N, win4_4.index t = ![0, 0]) := by decide +kernel

variable {V : (c : Dev nD) → (b : Ref sig .tc) → Buf (Elt Ideal) ((c : Thread nD τ).loc b)} {c : Dev nD} {x g d : ℕ → ℕ → EReal}
  (hx : Ext.V2 (n := 4096) (m := 768) (V c main_arg1) x) (hg : Ext.V2 (n := 1) (m := 768) (V c main_arg4) g)
  (hd : Ext.V2 (n := 4096) (m := 768) (V c main_arg7) d)

include hx in
theorem x_block (t : Fin cfg4.N) : Ext.V2 (n := 256) (m := 768) (iblk4 V c 0 t) (tile 256 x t) := fun i => by
  blk_simp [iblk4]
  refine (hx _).trans ?_
  blk_simp [ix.1 t]
  rfl
include hg in
theorem g_block (t : Fin cfg4.N) : Ext.V2 (n := 1) (m := 768) (iblk4 V c 1 t) g := fun i => by
  blk_simp [iblk4]
  refine (hg _).trans ?_
  blk_simp [ix.2.1 t]
include hd in
theorem d_block (t : Fin cfg4.N) : Ext.V2 (n := 256) (m := 768) (iblk4 V c 2 t) (tile 256 d t) := fun i => by
  blk_simp [iblk4]
  refine (hd _).trans ?_
  blk_simp [ix.2.2.1 t]
  rfl
include hx hg hd in
theorem dx_block (t : Fin cfg4.N) : Ext.V2 (n := 256) (m := 768) (outsAt4 V c t.val t.isLt).1 (tile 256 (back 768 0x44400000#32 x g d) t) := by
  by_cases h : t.val % 16 = 0 <;> [rw [outsAt4_A V c t h]; rw [outsAt4_B V c t h]] <;> frame_out <;>
    exact L4.rows (x_block hx t) (g_block hg t) (d_block hd t)
include hx hg hd in
theorem dx_array : Ext.V2 (n := 4096) (m := 768) ((dat4 V c).arrAt 3 cfg4.N) (back 768 0x44400000#32 x g d) := by
  intro i
  refine (dat4 V c).arrAt_forall_of_covers 3 (fun i v => v = back 768 0x44400000#32 x g d (i 0).val (i 1).val) (by decide +kernel) (fun t _ y => ?_) i
  blk_simp [ix.2.2.2.1 t]
  rw [after4_3]
  exact dx_block hx hg hd t _
include hx hd in
theorem dg_array : Ext.V2 (n := 1) (m := 768) ((dat4 V c).arrAt 4 cfg4.N) fun _ => gainOf 768 0x44400000#32 4096 x d := by
  intro i
  refine (dat4 V c).arrAt_forall_of_covers 4 (fun i v => v = gainOf 768 0x44400000#32 4096 x d (i 1).val) (by decide +kernel) (fun t hf z => ?_) i
  have hN : cfg4.N = 16 := N_4
  have h := (flush4_4 t).mp hf
  have ht := t.isLt
  blk_simp [ix.2.2.2.2 t]
  rw [after4_4]
  refine (sum_steps (fun n hn => (outsAt4 V c n hn).2) (p := fun s => gainOf 768 0x44400000#32 256 (tile 256 x s) (tile 256 d s))
    (fun hn => ?_) (fun n hn q hq => ?_) t.val t.isLt _).trans ?_
  · rw [outsAt4_A V c ⟨0, hn⟩ rfl]; frame_out
    exact L4.add_gain (x_block hx ⟨0, hn⟩) (d_block hd ⟨0, hn⟩) L4.zero_gain
  · rw [outsAt4_B V c ⟨n + 1, hn⟩ (by dsimp only; omega)]; frame_out
    exact L4.add_gain (x_block hx ⟨n + 1, hn⟩) (d_block hd ⟨n + 1, hn⟩) hq
  rw [show t.val + 1 = 16 by omega]
  exact (Cert.Reals.sum_stretches 16 256 fun r => gainPart 768 0x44400000#32 x d r _).symm

end L4

/-! ## Launch 5 -/

namespace L5

theorem ix : (∀ t : Fin cfg5.N, win5_0.index t = ![t.val, 0]) ∧ (∀ t : Fin cfg5.N, win5_1.index t = ![0, 0])
    ∧ (∀ t : Fin cfg5.N, win5_2.index t = ![t.val, 0]) ∧ (∀ t : Fin cfg5.N, win5_3.index t = ![t.val, 0])
    ∧ (∀ t : Fin cfg5.N, win5_4.index t = ![0, 0]) := by decide +kernel

variable {V : (c : Dev nD) → (b : Ref sig .tc) → Buf (Elt Ideal) ((c : Thread nD τ).loc b)} {c : Dev nD} {x g d : ℕ → ℕ → EReal}
  (hx : Ext.V2 (n := 4096) (m := 768) (V c main_arg2) x) (hg : Ext.V2 (n := 1) (m := 768) (V c main_arg5) g)
  (hd : Ext.V2 (n := 4096) (m := 768) (V c main_arg8) d)

include hx in
theorem x_block (t : Fin cfg5.N) : Ext.V2 (n := 256) (m := 768) (iblk5 V c 0 t) (tile 256 x t) := fun i => by
  blk_simp [iblk5]
  refine (hx _).trans ?_
  blk_simp [ix.1 t]
  rfl
include hg in
theorem g_block (t : Fin cfg5.N) : Ext.V2 (n := 1) (m := 768) (iblk5 V c 1 t) g := fun i => by
  blk_simp [iblk5]
  refine (hg _).trans ?_
  blk_simp [ix.2.1 t]
include hd in
theorem d_block (t : Fin cfg5.N) : Ext.V2 (n := 256) (m := 768) (iblk5 V c 2 t) (tile 256 d t) := fun i => by
  blk_simp [iblk5]
  refine (hd _).trans ?_
  blk_simp [ix.2.2.1 t]
  rfl
include hx hg hd in
theorem dx_block (t : Fin cfg5.N) : Ext.V2 (n := 256) (m := 768) (outsAt5 V c t.val t.isLt).1 (tile 256 (back 768 0x44400000#32 x g d) t) := by
  by_cases h : t.val % 16 = 0 <;> [rw [outsAt5_A V c t h]; rw [outsAt5_B V c t h]] <;> frame_out <;>
    exact L4.rows (x_block hx t) (g_block hg t) (d_block hd t)
include hx hg hd in
theorem dx_array : Ext.V2 (n := 4096) (m := 768) ((dat5 V c).arrAt 3 cfg5.N) (back 768 0x44400000#32 x g d) := by
  intro i
  refine (dat5 V c).arrAt_forall_of_covers 3 (fun i v => v = back 768 0x44400000#32 x g d (i 0).val (i 1).val) (by decide +kernel) (fun t _ y => ?_) i
  blk_simp [ix.2.2.2.1 t]
  rw [after5_3]
  exact dx_block hx hg hd t _
include hx hd in
theorem dg_array : Ext.V2 (n := 1) (m := 768) ((dat5 V c).arrAt 4 cfg5.N) fun _ => gainOf 768 0x44400000#32 4096 x d := by
  intro i
  refine (dat5 V c).arrAt_forall_of_covers 4 (fun i v => v = gainOf 768 0x44400000#32 4096 x d (i 1).val) (by decide +kernel) (fun t hf z => ?_) i
  have hN : cfg5.N = 16 := N_5
  have h := (flush5_4 t).mp hf
  have ht := t.isLt
  blk_simp [ix.2.2.2.2 t]
  rw [after5_4]
  refine (sum_steps (fun n hn => (outsAt5 V c n hn).2) (p := fun s => gainOf 768 0x44400000#32 256 (tile 256 x s) (tile 256 d s))
    (fun hn => ?_) (fun n hn q hq => ?_) t.val t.isLt _).trans ?_
  · rw [outsAt5_A V c ⟨0, hn⟩ rfl]; frame_out
    exact L4.add_gain (x_block hx ⟨0, hn⟩) (d_block hd ⟨0, hn⟩) L4.zero_gain
  · rw [outsAt5_B V c ⟨n + 1, hn⟩ (by dsimp only; omega)]; frame_out
    exact L4.add_gain (x_block hx ⟨n + 1, hn⟩) (d_block hd ⟨n + 1, hn⟩) hq
  rw [show t.val + 1 = 16 by omega]
  exact (Cert.Reals.sum_stretches 16 256 fun r => gainPart 768 0x44400000#32 x d r _).symm

end L5

/-! ## The results -/

section Results
variable (m : (ℓ : Loc nD τ sig) → Buf (Elt Ideal) ℓ) (ρ : Dev nD → PrngReg) (c : Dev nD) {a b e ga gb ge da db de : ℕ → ℕ → EReal}

/-- The arguments' values. -/
structure Args (a b e ga gb ge da db de : ℕ → ℕ → EReal) : Prop where
  h0 : Ext.V2 (n := 4096) (m := 512) (m ((c.tc : Thread nD τ).loc main_arg0)) a
  h1 : Ext.V2 (n := 4096) (m := 768) (m ((c.tc : Thread nD τ).loc main_arg1)) b
  h2 : Ext.V2 (n := 4096) (m := 768) (m ((c.tc : Thread nD τ).loc main_arg2)) e
  h3 : Ext.V2 (n := 1) (m := 512) (m ((c.tc : Thread nD τ).loc main_arg3)) ga
  h4 : Ext.V2 (n := 1) (m := 768) (m ((c.tc : Thread nD τ).loc main_arg4)) gb
  h5 : Ext.V2 (n := 1) (m := 768) (m ((c.tc : Thread nD τ).loc main_arg5)) ge
  h6 : Ext.V2 (n := 4096) (m := 512) (m ((c.tc : Thread nD τ).loc main_arg6)) da
  h7 : Ext.V2 (n := 4096) (m := 768) (m ((c.tc : Thread nD τ).loc main_arg7)) db
  h8 : Ext.V2 (n := 4096) (m := 768) (m ((c.tc : Thread nD τ).loc main_arg8)) de

variable {m c} (A : Args m c a b e ga gb ge da db de)
include A

theorem Args.v0 : Ext.V2 (n := 4096) (m := 512) (W6 m ρ c (Proc.devRef .tc main_v0)) (scaled 512 0x44000000#32 a ga) :=
  of_eq ((W6_of m ρ c main_v0 (by decide)).trans ((W5_of m ρ c main_v0 (by decide)).trans ((W4_of m ρ c main_v0 (by decide)).trans ((W3_of m ρ c main_v0 (by decide)).trans ((W2_of m ρ c main_v0 (by decide)).trans (W1_arr m ρ c 2))))))
    (L0.array (of_eq (W0_args m ρ c main_arg0 (by decide)) A.h0) (of_eq (W0_args m ρ c main_arg3 (by decide)) A.h3))
theorem Args.v1 : Ext.V2 (n := 4096) (m := 768) (W6 m ρ c (Proc.devRef .tc main_v1)) (scaled 768 0x44400000#32 b gb) :=
  of_eq ((W6_of m ρ c main_v1 (by decide)).trans ((W5_of m ρ c main_v1 (by decide)).trans ((W4_of m ρ c main_v1 (by decide)).trans ((W3_of m ρ c main_v1 (by decide)).trans (W2_arr m ρ c 2)))))
    (L1.array (of_eq (W1_args m ρ c main_arg1 (by decide)) A.h1) (of_eq (W1_args m ρ c main_arg4 (by decide)) A.h4))
theorem Args.v2 : Ext.V2 (n := 4096) (m := 768) (W6 m ρ c (Proc.devRef .tc main_v2)) (scaled 768 0x44400000#32 e ge) :=
  of_eq ((W6_of m ρ c main_v2 (by decide)).trans ((W5_of m ρ c main_v2 (by decide)).trans ((W4_of m ρ c main_v2 (by decide)).trans (W3_arr m ρ c 2))))
    (L2.array (of_eq (W2_args m ρ c main_arg2 (by decide)) A.h2) (of_eq (W2_args m ρ c main_arg5 (by decide)) A.h5))
theorem Args.v3_0 : Ext.V2 (n := 4096) (m := 512) (W6 m ρ c (Proc.devRef .tc main_v3_0)) (back 512 0x44000000#32 a ga da) :=
  of_eq ((W6_of m ρ c main_v3_0 (by decide)).trans ((W5_of m ρ c main_v3_0 (by decide)).trans (W4_arr m ρ c 3)))
    (L3.dx_array (of_eq (W3_args m ρ c main_arg0 (by decide)) A.h0) (of_eq (W3_args m ρ c main_arg3 (by decide)) A.h3) (of_eq (W3_args m ρ c main_arg6 (by decide)) A.h6))
theorem Args.v3_1 : Ext.V2 (n := 1) (m := 512) (W6 m ρ c (Proc.devRef .tc main_v3_1)) (fun _ => gainOf 512 0x44000000#32 4096 a da) :=
  of_eq ((W6_of m ρ c main_v3_1 (by decide)).trans ((W5_of m ρ c main_v3_1 (by decide)).trans (W4_arr m ρ c 4)))
    (L3.dg_array (of_eq (W3_args m ρ c main_arg0 (by decide)) A.h0) (of_eq (W3_args m ρ c main_arg6 (by decide)) A.h6))
theorem Args.v4_0 : Ext.V2 (n := 4096) (m := 768) (W6 m ρ c (Proc.devRef .tc main_v4_0)) (back 768 0x44400000#32 b gb db) :=
  of_eq ((W6_of m ρ c main_v4_0 (by decide)).trans (W5_arr m ρ c 3))
    (L4.dx_array (of_eq (W4_args m ρ c main_arg1 (by decide)) A.h1) (of_eq (W4_args m ρ c main_arg4 (by decide)) A.h4) (of_eq (W4_args m ρ c main_arg7 (by decide)) A.h7))
theorem Args.v4_1 : Ext.V2 (n := 1) (m := 768) (W6 m ρ c (Proc.devRef .tc main_v4_1)) (fun _ => gainOf 768 0x44400000#32 4096 b db) :=
  of_eq ((W6_of m ρ c main_v4_1 (by decide)).trans (W5_arr m ρ c 4))
    (L4.dg_array (of_eq (W4_args m ρ c main_arg1 (by decide)) A.h1) (of_eq (W4_args m ρ c main_arg7 (by decide)) A.h7))
theorem Args.v5_0 : Ext.V2 (n := 4096) (m := 768) (W6 m ρ c (Proc.devRef .tc main_v5_0)) (back 768 0x44400000#32 e ge de) :=
  of_eq (W6_arr m ρ c 3)
    (L5.dx_array (of_eq (W5_args m ρ c main_arg2 (by decide)) A.h2) (of_eq (W5_args m ρ c main_arg5 (by decide)) A.h5) (of_eq (W5_args m ρ c main_arg8 (by decide)) A.h8))
theorem Args.v5_1 : Ext.V2 (n := 1) (m := 768) (W6 m ρ c (Proc.devRef .tc main_v5_1)) (fun _ => gainOf 768 0x44400000#32 4096 e de) :=
  of_eq (W6_arr m ρ c 4)
    (L5.dg_array (of_eq (W5_args m ρ c main_arg2 (by decide)) A.h2) (of_eq (W5_args m ρ c main_arg8 (by decide)) A.h8))
end Results

end Cert.Kernel11Ideal.Val
-- ==== Proof.NormLat.lean ====
/-
  The norms of the latent queries and of the latent keys and values, forward and backward: each tile of rows, each gain's gradient
  summed over the tiles, and the six result arrays over the extended reals.
-/
module

public import proofs.«01_k».proof.Proof.Gen.Kernel10Ideal.Frame
public import proofs.«01_k».proof.Proof.NormWide
public import proofs.«01_k».proof.Proof.NormOut
public import Idealize.ShloMosaic.Lib.Pipeline.ValueKit

@[expose] public section

set_option maxRecDepth 16384

noncomputable section

namespace Cert.Kernel10Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen Cert.Ext Cert.Norm Cert.Norm.Wide

section
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and each buffer then holds what the four launches leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)
end

/-! ## Launch 0 -/

namespace L0

theorem ix : (∀ t : Fin cfg0.N, win0_0.index t = ![t.val, 0]) ∧ (∀ t : Fin cfg0.N, win0_1.index t = ![0, 0])
    ∧ (∀ t : Fin cfg0.N, win0_2.index t = ![t.val, 0]) := by decide +kernel

variable {V : (c : Dev nD) → (b : Ref sig .tc) → Buf (Elt Ideal) ((c : Thread nD τ).loc b)} {c : Dev nD} {x g : ℕ → ℕ → EReal}
  (hx : Ext.V2 (n := 4096) (m := 5120) (V c main_arg0) x) (hg : Ext.V2 (n := 1) (m := 512) (V c main_arg1) g)

include hx in
theorem x_block (t : Fin cfg0.N) : Ext.V2 (n := 1024) (m := 512) (iblk0 V c 0 t) (tile 1024 (cut 0 x) t) := fun i => by
  blk_simp [iblk0]
  refine (hx _).trans ?_
  blk_simp [ix.1 t]
  exact congrArg (x _) (Nat.zero_add _).symm
include hg in
theorem g_block (t : Fin cfg0.N) : Ext.V2 (n := 1) (m := 512) (iblk0 V c 1 t) g := fun i => by
  blk_simp [iblk0]
  refine (hg _).trans ?_
  blk_simp [ix.2.1 t]
include hx hg in
theorem array : Ext.V2 (n := 4096) (m := 512) ((dat0 V c).arrAt 2 cfg0.N) (scaled 512 0x44000000#32 (cut 0 x) g) := by
  intro i
  refine (dat0 V c).arrAt_forall_of_covers 2 (fun i v => v = scaled 512 0x44000000#32 (cut 0 x) g (i 0).val (i 1).val) (by decide +kernel) (fun t _ y => ?_) i
  blk_simp [ix.2.2 t]
  rw [after0_2]
  exact Cert.Kernel11Ideal.Val.L0.block (x_block hx t) (g_block hg t) _

end L0

/-! ## Launch 1 -/

namespace L1

theorem ix : (∀ t : Fin cfg1.N, win1_0.index t = ![t.val, 1]) ∧ (∀ t : Fin cfg1.N, win1_1.index t = ![0, 0])
    ∧ (∀ t : Fin cfg1.N, win1_2.index t = ![t.val, 0]) := by decide +kernel

variable {V : (c : Dev nD) → (b : Ref sig .tc) → Buf (Elt Ideal) ((c : Thread nD τ).loc b)} {c : Dev nD} {x g : ℕ → ℕ → EReal}
  (hx : Ext.V2 (n := 4096) (m := 5120) (V c main_arg0) x) (hg : Ext.V2 (n := 1) (m := 512) (V c main_arg2) g)

include hx in
theorem x_block (t : Fin cfg1.N) : Ext.V2 (n := 1024) (m := 512) (iblk1 V c 0 t) (tile 1024 (cut 512 x) t) := fun i => by
  blk_simp [iblk1]
  refine (hx _).trans ?_
  blk_simp [ix.1 t]
  rfl
include hg in
theorem g_block (t : Fin cfg1.N) : Ext.V2 (n := 1) (m := 512) (iblk1 V c 1 t) g := fun i => by
  blk_simp [iblk1]
  refine (hg _).trans ?_
  blk_simp [ix.2.1 t]
include hx hg in
theorem array : Ext.V2 (n := 4096) (m := 512) ((dat1 V c).arrAt 2 cfg1.N) (scaled 512 0x44000000#32 (cut 512 x) g) := by
  intro i
  refine (dat1 V c).arrAt_forall_of_covers 2 (fun i v => v = scaled 512 0x44000000#32 (cut 512 x) g (i 0).val (i 1).val) (by decide +kernel) (fun t _ y => ?_) i
  blk_simp [ix.2.2 t]
  rw [after1_2]
  exact Cert.Kernel11Ideal.Val.L0.block (x_block hx t) (g_block hg t) _

end L1

/-! ## Launch 2 -/

namespace L2

section
variable {X D : Vec Ideal S512x512 .f32} {G P : Vec Ideal S1x512 .f32} {x g d q : ℕ → ℕ → EReal}

theorem root (hX : Ext.V2 X x) : Ext.V2 (k2_pay2 (F := Ideal) X) fun r _ => rs 512 0x44000000#32 (x r) :=
  (((hX.mul hX).rowSums _ _ _ _).div (V2.const _)).add (V2.const _) |>.rsq
theorem units (hX : Ext.V2 X x) : Ext.V2 (k2_pay3 (F := Ideal) X) (unitRow 512 0x44000000#32 x) := hX.mul ((root hX).spreadCol _)
theorem rows (hX : Ext.V2 X x) (hG : Ext.V2 G g) (hD : Ext.V2 D d) : Ext.V2 (k2_pay4 (F := Ideal) X D G) (back 512 0x44000000#32 x g d) :=
  have hd := hD.mul (hG.spreadRow broadcasts_S1x512_S512x512)
  ((((root hX).spreadCol broadcasts_S512x1_S512x512).mul
    (hd.sub ((units hX).mul ((((hd.mul (units hX)).rowSums _ _ _ _).div (V2.const _)).spreadCol broadcasts_S512x1_S512x512)))).trunc bitsLt_bf16_f32).same _
theorem add_gain (hX : Ext.V2 X x) (hD : Ext.V2 D d) (hP : Ext.V2 P q) :
    Ext.V2 (k2_pay1 (F := Ideal) (k2_pay6 P) (k2_pay7 X D)) fun r j => q r j + gainOf 512 0x44000000#32 512 x d j :=
  (hP.same _).add ((hD.mul (units hX)).colSums _ (.inl rfl) rfl _)
theorem zero_gain : Ext.V2 (k2_pay5 (F := Ideal)) fun _ _ => 0 := fun _ => Ideal.ofBits_zero_f32
end

theorem ix : (∀ t : Fin cfg2.N, win2_0.index t = ![t.val, 0]) ∧ (∀ t : Fin cfg2.N, win2_1.index t = ![0, 0])
    ∧ (∀ t : Fin cfg2.N, win2_2.index t = ![t.val, 0]) ∧ (∀ t : Fin cfg2.N, win2_3.index t = ![t.val, 0])
    ∧ (∀ t : Fin cfg2.N, win2_4.index t = ![0, 0]) := by decide +kernel

variable {V : (c : Dev nD) → (b : Ref sig .tc) → Buf (Elt Ideal) ((c : Thread nD τ).loc b)} {c : Dev nD} {x g d : ℕ → ℕ → EReal}
  (hx : Ext.V2 (n := 4096) (m := 5120) (V c main_arg0) x) (hg : Ext.V2 (n := 1) (m := 512) (V c main_arg1) g)
  (hd : Ext.V2 (n := 4096) (m := 512) (V c main_arg3) d)

include hx in
theorem x_block (t : Fin cfg2.N) : Ext.V2 (n := 512) (m := 512) (iblk2 V c 0 t) (tile 512 (cut 0 x) t) := fun i => by
  blk_simp [iblk2]
  refine (hx _).trans ?_
  blk_simp [ix.1 t]
  exact congrArg (x _) (Nat.zero_add _).symm
include hg in
theorem g_block (t : Fin cfg2.N) : Ext.V2 (n := 1) (m := 512) (iblk2 V c 1 t) g := fun i => by
  blk_simp [iblk2]
  refine (hg _).trans ?_
  blk_simp [ix.2.1 t]
include hd in
theorem d_block (t : Fin cfg2.N) : Ext.V2 (n := 512) (m := 512) (iblk2 V c 2 t) (tile 512 d t) := fun i => by
  blk_simp [iblk2]
  refine (hd _).trans ?_
  blk_simp [ix.2.2.1 t]
  rfl
include hx hg hd in
theorem dx_block (t : Fin cfg2.N) : Ext.V2 (n := 512) (m := 512) (outsAt2 V c t.val t.isLt).1 (tile 512 (back 512 0x44000000#32 (cut 0 x) g d) t) := by
  by_cases h : t.val % 8 = 0 <;> [rw [outsAt2_A V c t h]; rw [outsAt2_B V c t h]] <;> frame_out <;>
    exact L2.rows (x_block hx t) (g_block hg t) (d_block hd t)
include hx hg hd in
theorem dx_array : Ext.V2 (n := 4096) (m := 512) ((dat2 V c).arrAt 3 cfg2.N) (back 512 0x44000000#32 (cut 0 x) g d) := by
  intro i
  refine (dat2 V c).arrAt_forall_of_covers 3 (fun i v => v = back 512 0x44000000#32 (cut 0 x) g d (i 0).val (i 1).val) (by decide +kernel) (fun t _ y => ?_) i
  blk_simp [ix.2.2.2.1 t]
  rw [after2_3]
  exact dx_block hx hg hd t _
include hx hd in
theorem dg_array : Ext.V2 (n := 1) (m := 512) ((dat2 V c).arrAt 4 cfg2.N) fun _ => gainOf 512 0x44000000#32 4096 (cut 0 x) d := by
  intro i
  refine (dat2 V c).arrAt_forall_of_covers 4 (fun i v => v = gainOf 512 0x44000000#32 4096 (cut 0 x) d (i 1).val) (by decide +kernel) (fun t hf z => ?_) i
  have hN : cfg2.N = 8 := N_2
  have h := (flush2_4 t).mp hf
  have ht := t.isLt
  blk_simp [ix.2.2.2.2 t]
  rw [after2_4]
  refine (sum_steps (fun n hn => (outsAt2 V c n hn).2) (p := fun s => gainOf 512 0x44000000#32 512 (tile 512 (cut 0 x) s) (tile 512 d s))
    (fun hn => ?_) (fun n hn q hq => ?_) t.val t.isLt _).trans ?_
  · rw [outsAt2_A V c ⟨0, hn⟩ rfl]; frame_out
    exact L2.add_gain (x_block hx ⟨0, hn⟩) (d_block hd ⟨0, hn⟩) L2.zero_gain
  · rw [outsAt2_B V c ⟨n + 1, hn⟩ (by dsimp only; omega)]; frame_out
    exact L2.add_gain (x_block hx ⟨n + 1, hn⟩) (d_block hd ⟨n + 1, hn⟩) hq
  rw [show t.val + 1 = 8 by omega]
  exact (Cert.Reals.sum_stretches 8 512 fun r => gainPart 512 0x44000000#32 (cut 0 x) d r _).symm

end L2

/-! ## Launch 3 -/

namespace L3

theorem ix : (∀ t : Fin cfg3.N, win3_0.index t = ![t.val, 1]) ∧ (∀ t : Fin cfg3.N, win3_1.index t = ![0, 0])
    ∧ (∀ t : Fin cfg3.N, win3_2.index t = ![t.val, 0]) ∧ (∀ t : Fin cfg3.N, win3_3.index t = ![t.val, 0])
    ∧ (∀ t : Fin cfg3.N, win3_4.index t = ![0, 0]) := by decide +kernel

variable {V : (c : Dev nD) → (b : Ref sig .tc) → Buf (Elt Ideal) ((c : Thread nD τ).loc b)} {c : Dev nD} {x g d : ℕ → ℕ → EReal}
  (hx : Ext.V2 (n := 4096) (m := 5120) (V c main_arg0) x) (hg : Ext.V2 (n := 1) (m := 512) (V c main_arg2) g)
  (hd : Ext.V2 (n := 4096) (m := 512) (V c main_arg4) d)

include hx in
theorem x_block (t : Fin cfg3.N) : Ext.V2 (n := 512) (m := 512) (iblk3 V c 0 t) (tile 512 (cut 512 x) t) := fun i => by
  blk_simp [iblk3]
  refine (hx _).trans ?_
  blk_simp [ix.1 t]
  rfl
include hg in
theorem g_block (t : Fin cfg3.N) : Ext.V2 (n := 1) (m := 512) (iblk3 V c 1 t) g := fun i => by
  blk_simp [iblk3]
  refine (hg _).trans ?_
  blk_simp [ix.2.1 t]
include hd in
theorem d_block (t : Fin cfg3.N) : Ext.V2 (n := 512) (m := 512) (iblk3 V c 2 t) (tile 512 d t) := fun i => by
  blk_simp [iblk3]
  refine (hd _).trans ?_
  blk_simp [ix.2.2.1 t]
  rfl
include hx hg hd in
theorem dx_block (t : Fin cfg3.N) : Ext.V2 (n := 512) (m := 512) (outsAt3 V c t.val t.isLt).1 (tile 512 (back 512 0x44000000#32 (cut 512 x) g d) t) := by
  by_cases h : t.val % 8 = 0 <;> [rw [outsAt3_A V c t h]; rw [outsAt3_B V c t h]] <;> frame_out <;>
    exact L2.rows (x_block hx t) (g_block hg t) (d_block hd t)
include hx hg hd in
theorem dx_array : Ext.V2 (n := 4096) (m := 512) ((dat3 V c).arrAt 3 cfg3.N) (back 512 0x44000000#32 (cut 512 x) g d) := by
  intro i
  refine (dat3 V c).arrAt_forall_of_covers 3 (fun i v => v = back 512 0x44000000#32 (cut 512 x) g d (i 0).val (i 1).val) (by decide +kernel) (fun t _ y => ?_) i
  blk_simp [ix.2.2.2.1 t]
  rw [after3_3]
  exact dx_block hx hg hd t _
include hx hd in
theorem dg_array : Ext.V2 (n := 1) (m := 512) ((dat3 V c).arrAt 4 cfg3.N) fun _ => gainOf 512 0x44000000#32 4096 (cut 512 x) d := by
  intro i
  refine (dat3 V c).arrAt_forall_of_covers 4 (fun i v => v = gainOf 512 0x44000000#32 4096 (cut 512 x) d (i 1).val) (by decide +kernel) (fun t hf z => ?_) i
  have hN : cfg3.N = 8 := N_3
  have h := (flush3_4 t).mp hf
  have ht := t.isLt
  blk_simp [ix.2.2.2.2 t]
  rw [after3_4]
  refine (sum_steps (fun n hn => (outsAt3 V c n hn).2) (p := fun s => gainOf 512 0x44000000#32 512 (tile 512 (cut 512 x) s) (tile 512 d s))
    (fun hn => ?_) (fun n hn q hq => ?_) t.val t.isLt _).trans ?_
  · rw [outsAt3_A V c ⟨0, hn⟩ rfl]; frame_out
    exact L2.add_gain (x_block hx ⟨0, hn⟩) (d_block hd ⟨0, hn⟩) L2.zero_gain
  · rw [outsAt3_B V c ⟨n + 1, hn⟩ (by dsimp only; omega)]; frame_out
    exact L2.add_gain (x_block hx ⟨n + 1, hn⟩) (d_block hd ⟨n + 1, hn⟩) hq
  rw [show t.val + 1 = 8 by omega]
  exact (Cert.Reals.sum_stretches 8 512 fun r => gainPart 512 0x44000000#32 (cut 512 x) d r _).symm

end L3

/-! ## The results -/

section Results
variable (m : (ℓ : Loc nD τ sig) → Buf (Elt Ideal) ℓ) (ρ : Dev nD → PrngReg) (c : Dev nD) {p gq gk dq dk : ℕ → ℕ → EReal}

/-- The arguments' values. -/
structure Args (p gq gk dq dk : ℕ → ℕ → EReal) : Prop where
  h0 : Ext.V2 (n := 4096) (m := 5120) (m ((c.tc : Thread nD τ).loc main_arg0)) p
  h1 : Ext.V2 (n := 1) (m := 512) (m ((c.tc : Thread nD τ).loc main_arg1)) gq
  h2 : Ext.V2 (n := 1) (m := 512) (m ((c.tc : Thread nD τ).loc main_arg2)) gk
  h3 : Ext.V2 (n := 4096) (m := 512) (m ((c.tc : Thread nD τ).loc main_arg3)) dq
  h4 : Ext.V2 (n := 4096) (m := 512) (m ((c.tc : Thread nD τ).loc main_arg4)) dk

variable {m c} (A : Args m c p gq gk dq dk)
include A

theorem Args.v0 : Ext.V2 (n := 4096) (m := 512) (W4 m ρ c (Proc.devRef .tc main_v0)) (scaled 512 0x44000000#32 (cut 0 p) gq) :=
  of_eq ((W4_of m ρ c main_v0 (by decide)).trans ((W3_of m ρ c main_v0 (by decide)).trans ((W2_of m ρ c main_v0 (by decide)).trans (W1_arr m ρ c 2))))
    (L0.array (of_eq (W0_args m ρ c main_arg0 (by decide)) A.h0) (of_eq (W0_args m ρ c main_arg1 (by decide)) A.h1))
theorem Args.v1 : Ext.V2 (n := 4096) (m := 512) (W4 m ρ c (Proc.devRef .tc main_v1)) (scaled 512 0x44000000#32 (cut 512 p) gk) :=
  of_eq ((W4_of m ρ c main_v1 (by decide)).trans ((W3_of m ρ c main_v1 (by decide)).trans (W2_arr m ρ c 2)))
    (L1.array (of_eq (W1_args m ρ c main_arg0 (by decide)) A.h0) (of_eq (W1_args m ρ c main_arg2 (by decide)) A.h2))
theorem Args.v2_0 : Ext.V2 (n := 4096) (m := 512) (W4 m ρ c (Proc.devRef .tc main_v2_0)) (back 512 0x44000000#32 (cut 0 p) gq dq) :=
  of_eq ((W4_of m ρ c main_v2_0 (by decide)).trans (W3_arr m ρ c 3))
    (L2.dx_array (of_eq (W2_args m ρ c main_arg0 (by decide)) A.h0) (of_eq (W2_args m ρ c main_arg1 (by decide)) A.h1) (of_eq (W2_args m ρ c main_arg3 (by decide)) A.h3))
theorem Args.v2_1 : Ext.V2 (n := 1) (m := 512) (W4 m ρ c (Proc.devRef .tc main_v2_1)) (fun _ => gainOf 512 0x44000000#32 4096 (cut 0 p) dq) :=
  of_eq ((W4_of m ρ c main_v2_1 (by decide)).trans (W3_arr m ρ c 4))
    (L2.dg_array (of_eq (W2_args m ρ c main_arg0 (by decide)) A.h0) (of_eq (W2_args m ρ c main_arg3 (by decide)) A.h3))
theorem Args.v3_0 : Ext.V2 (n := 4096) (m := 512) (W4 m ρ c (Proc.devRef .tc main_v3_0)) (back 512 0x44000000#32 (cut 512 p) gk dk) :=
  of_eq (W4_arr m ρ c 3)
    (L3.dx_array (of_eq (W3_args m ρ c main_arg0 (by decide)) A.h0) (of_eq (W3_args m ρ c main_arg2 (by decide)) A.h2) (of_eq (W3_args m ρ c main_arg4 (by decide)) A.h4))
theorem Args.v3_1 : Ext.V2 (n := 1) (m := 512) (W4 m ρ c (Proc.devRef .tc main_v3_1)) (fun _ => gainOf 512 0x44000000#32 4096 (cut 512 p) dk) :=
  of_eq (W4_arr m ρ c 4)
    (L3.dg_array (of_eq (W3_args m ρ c main_arg0 (by decide)) A.h0) (of_eq (W3_args m ρ c main_arg4 (by decide)) A.h4))
end Results

end Cert.Kernel10Ideal.Val
-- ==== Proof.NormOutRef.lean ====
/-
  The reference of the norms of the three mixers' outputs over the extended reals.
-/
module

public import proofs.«01_k».proof.Proof.Gen.Reference11Ideal.Read
public import proofs.«01_k».proof.Proof.NormWide

@[expose] public section

set_option maxRecDepth 16384

noncomputable section

namespace Cert.Reference11Ideal.Val

open Idealize.ShloMosaic
open Cert.Reference11Ideal Cert.Reference11Ideal.Gen Cert.Reference11Ideal.Read Cert.Ext Cert.Norm Cert.Norm.Wide

namespace N0

variable {x0 : (⟨S4096x512, .f32⟩ : BufTy).Contents (Elt Ideal)} {x3 : (⟨S1x512, .f32⟩ : BufTy).Contents (Elt Ideal)} {x6 : (⟨S4096x512, .f32⟩ : BufTy).Contents (Elt Ideal)} {f g d : ℕ → ℕ → EReal}
  (hx : V2 (n := 4096) (m := 512) x0 f) (hg : V2 (n := 1) (m := 512) x3 g) (hd : V2 (n := 4096) (m := 512) x6 d)

include hx
theorem squares : V2 (n := 4096) (m := 1) (val_main_v6 (F := Ideal) x0) fun r _ => ms 512 0x44000000#32 (f r) := fun i => by
  rw [val_main_v6_apply, val_main_v4_apply, val_main_v2_apply, val_main_v1_apply, val_main_v3_apply, val_main_v5_apply]
  exact congrArg (fun s => Ideal.div s (Ideal.ofBits .f32 0x44000000#32) + (Ideal.ofBits .f32 0x358637BD#32 : EReal))
    (from_zero rfl fun k => congrArg₂ (· * ·) (hx _) (hx _))
theorem root : V2 (n := 4096) (m := 1) (val_main_v7 (F := Ideal) x0) fun r _ => rs 512 0x44000000#32 (f r) := fun i => congrArg Ideal.rsqrt (squares hx i)
theorem units : V2 (n := 4096) (m := 512) (val_main_v12 (F := Ideal) x0) (unitRow 512 0x44000000#32 f) := fun i => by
  rw [val_main_v12_apply, val_main_v11_apply]
  exact congrArg₂ (· * ·) (hx _) (root hx _)
include hg in
theorem fwd : V2 (n := 4096) (m := 512) (val_main_v102 (F := Ideal) x0 x3) (Wide.scaled 512 0x44000000#32 f g) := fun i => by
  rw [val_main_v102_apply, val_main_v14_apply, val_main_v13_apply]
  exact congrArg₂ (· * ·) (units hx _) (hg _)
include hd
theorem gain : V2 (n := 1) (m := 512) (val_main_v17 (F := Ideal) x0 x6) fun _ => gainOf 512 0x44000000#32 4096 f d := fun i => by
  rw [val_main_v17_apply, val_main_v16_apply]
  have h0 : (i 0).val < 1 := (i 0).isLt
  have e : (i 0).val * 512 + (i 1).val = (i 1).val := by omega
  exact from_zero rfl fun k => (mul_comm _ _).trans (congrArg₂ (· * ·) ((hd _).trans (congrArg (d k) e))
    ((units hx _).trans (congrArg (unitRow 512 0x44000000#32 f k) e)))
include hg
omit hx in
theorem scaled : V2 (n := 4096) (m := 512) (val_main_v19 (F := Ideal) x3 x6) fun r k => d r k * g 0 k := fun i => by
  rw [val_main_v19_apply, val_main_v18_apply]
  exact congrArg₂ (· * ·) (hd _) (hg _)
theorem slopes : V2 (n := 4096) (m := 512) (val_main_v29 (F := Ideal) x0 x3 x6) fun r _ => slope 512 0x44000000#32 (f r) fun k => d r k * g 0 k := fun i => by
  rw [val_main_v29_apply, val_main_v28_apply]
  refine (congrArg (· + _) Ideal.ofBits_zero_f32).trans ((zero_add _).trans (Fin.sum_univ_one _ |>.trans ?_))
  rw [val_main_v27_apply, val_main_v25_apply, val_main_v22_apply, val_main_v21_apply, val_main_v10_apply, val_main_v8_apply]
  have e : (i 0).val * 1 + 0 = (i 0).val := by omega
  refine congrArg (Ideal.div · (Ideal.ofBits .f32 0x44000000#32)) (congrArg₂ (· * ·) (from_zero rfl fun k => congrArg₂ (· * ·)
    ((hx _).trans (congrArg (f · k) e)) ((scaled hg hd _).trans (congrArg (fun r => d r k * g 0 k) e))) ?_)
  exact congrArg ((Ideal.ofBits .f32 0xBF000000#32 : EReal) * ·) (congrArg₂ Ideal.div (root hx _) (squares hx _))
theorem dx : V2 (n := 4096) (m := 512) (val_main_v33 (F := Ideal) x0 x3 x6) (back 512 0x44000000#32 f g d) := fun i => by
  rw [val_main_v33_apply, val_main_v31_apply, val_main_v30_apply, val_main_v32_apply, val_main_v24_apply, val_main_v23_apply]
  refine Eq.trans ?_ (grad_eq w512 _ _ (i 1).isLt).symm
  exact congrArg₂ (· + ·) (congrArg₂ (· + ·) (congrArg₂ (· * ·) (scaled hg hd _) (root hx _)) (congrArg₂ (· * ·) (hx _) (slopes hx hg hd _)))
    (congrArg₂ (· * ·) (slopes hx hg hd _) (hx _))

end N0

namespace N1

variable {x1 : (⟨S4096x768, .f32⟩ : BufTy).Contents (Elt Ideal)} {x4 : (⟨S1x768, .f32⟩ : BufTy).Contents (Elt Ideal)} {x7 : (⟨S4096x768, .f32⟩ : BufTy).Contents (Elt Ideal)} {f g d : ℕ → ℕ → EReal}
  (hx : V2 (n := 4096) (m := 768) x1 f) (hg : V2 (n := 1) (m := 768) x4 g) (hd : V2 (n := 4096) (m := 768) x7 d)

include hx
theorem squares : V2 (n := 4096) (m := 1) (val_main_v40 (F := Ideal) x1) fun r _ => ms 768 0x44400000#32 (f r) := fun i => by
  rw [val_main_v40_apply, val_main_v38_apply, val_main_v36_apply, val_main_v35_apply, val_main_v37_apply, val_main_v39_apply]
  exact congrArg (fun s => Ideal.div s (Ideal.ofBits .f32 0x44400000#32) + (Ideal.ofBits .f32 0x358637BD#32 : EReal))
    (from_zero rfl fun k => congrArg₂ (· * ·) (hx _) (hx _))
theorem root : V2 (n := 4096) (m := 1) (val_main_v41 (F := Ideal) x1) fun r _ => rs 768 0x44400000#32 (f r) := fun i => congrArg Ideal.rsqrt (squares hx i)
theorem units : V2 (n := 4096) (m := 768) (val_main_v46 (F := Ideal) x1) (unitRow 768 0x44400000#32 f) := fun i => by
  rw [val_main_v46_apply, val_main_v45_apply]
  exact congrArg₂ (· * ·) (hx _) (root hx _)
include hg in
theorem fwd : V2 (n := 4096) (m := 768) (val_main_v103 (F := Ideal) x1 x4) (Wide.scaled 768 0x44400000#32 f g) := fun i => by
  rw [val_main_v103_apply, val_main_v48_apply, val_main_v47_apply]
  exact congrArg₂ (· * ·) (units hx _) (hg _)
include hd
theorem gain : V2 (n := 1) (m := 768) (val_main_v51 (F := Ideal) x1 x7) fun _ => gainOf 768 0x44400000#32 4096 f d := fun i => by
  rw [val_main_v51_apply, val_main_v50_apply]
  have h0 : (i 0).val < 1 := (i 0).isLt
  have e : (i 0).val * 768 + (i 1).val = (i 1).val := by omega
  exact from_zero rfl fun k => (mul_comm _ _).trans (congrArg₂ (· * ·) ((hd _).trans (congrArg (d k) e))
    ((units hx _).trans (congrArg (unitRow 768 0x44400000#32 f k) e)))
include hg
omit hx in
theorem scaled : V2 (n := 4096) (m := 768) (val_main_v53 (F := Ideal) x4 x7) fun r k => d r k * g 0 k := fun i => by
  rw [val_main_v53_apply, val_main_v52_apply]
  exact congrArg₂ (· * ·) (hd _) (hg _)
theorem slopes : V2 (n := 4096) (m := 768) (val_main_v63 (F := Ideal) x1 x4 x7) fun r _ => slope 768 0x44400000#32 (f r) fun k => d r k * g 0 k := fun i => by
  rw [val_main_v63_apply, val_main_v62_apply]
  refine (congrArg (· + _) Ideal.ofBits_zero_f32).trans ((zero_add _).trans (Fin.sum_univ_one _ |>.trans ?_))
  rw [val_main_v61_apply, val_main_v59_apply, val_main_v56_apply, val_main_v55_apply, val_main_v44_apply, val_main_v42_apply]
  have e : (i 0).val * 1 + 0 = (i 0).val := by omega
  refine congrArg (Ideal.div · (Ideal.ofBits .f32 0x44400000#32)) (congrArg₂ (· * ·) (from_zero rfl fun k => congrArg₂ (· * ·)
    ((hx _).trans (congrArg (f · k) e)) ((scaled hg hd _).trans (congrArg (fun r => d r k * g 0 k) e))) ?_)
  exact congrArg ((Ideal.ofBits .f32 0xBF000000#32 : EReal) * ·) (congrArg₂ Ideal.div (root hx _) (squares hx _))
theorem dx : V2 (n := 4096) (m := 768) (val_main_v67 (F := Ideal) x1 x4 x7) (back 768 0x44400000#32 f g d) := fun i => by
  rw [val_main_v67_apply, val_main_v65_apply, val_main_v64_apply, val_main_v66_apply, val_main_v58_apply, val_main_v57_apply]
  refine Eq.trans ?_ (grad_eq w768 _ _ (i 1).isLt).symm
  exact congrArg₂ (· + ·) (congrArg₂ (· + ·) (congrArg₂ (· * ·) (scaled hg hd _) (root hx _)) (congrArg₂ (· * ·) (hx _) (slopes hx hg hd _)))
    (congrArg₂ (· * ·) (slopes hx hg hd _) (hx _))

end N1

namespace N2

variable {x2 : (⟨S4096x768, .f32⟩ : BufTy).Contents (Elt Ideal)} {x5 : (⟨S1x768, .f32⟩ : BufTy).Contents (Elt Ideal)} {x8 : (⟨S4096x768, .f32⟩ : BufTy).Contents (Elt Ideal)} {f g d : ℕ → ℕ → EReal}
  (hx : V2 (n := 4096) (m := 768) x2 f) (hg : V2 (n := 1) (m := 768) x5 g) (hd : V2 (n := 4096) (m := 768) x8 d)

include hx hg in
theorem fwd : V2 (n := 4096) (m := 768) (val_main_v104 (F := Ideal) x2 x5) (Wide.scaled 768 0x44400000#32 f g) := N1.fwd hx hg
include hx hd in
theorem gain : V2 (n := 1) (m := 768) (val_main_v85 (F := Ideal) x2 x8) fun _ => gainOf 768 0x44400000#32 4096 f d := N1.gain hx hd
include hx hg hd in
theorem dx : V2 (n := 4096) (m := 768) (val_main_v101 (F := Ideal) x2 x5 x8) (back 768 0x44400000#32 f g d) := N1.dx hx hg hd

end N2

end Cert.Reference11Ideal.Val
-- ==== Proof.NormLatRef.lean ====
/-
  The reference of the norms of the latent queries and of the latent keys and values over the extended reals.
-/
module

public import proofs.«01_k».proof.Proof.Gen.Reference10Ideal.Read
public import proofs.«01_k».proof.Proof.NormOutRef

@[expose] public section

set_option maxRecDepth 16384

noncomputable section

namespace Cert.Reference10Ideal.Val

open Idealize.ShloMosaic
open Cert.Reference10Ideal Cert.Reference10Ideal.Gen Cert.Reference10Ideal.Read Cert.Ext Cert.Norm Cert.Norm.Wide

namespace N0

variable {x0 : (⟨S4096x5120, .f32⟩ : BufTy).Contents (Elt Ideal)} {x1 : (⟨S1x512, .f32⟩ : BufTy).Contents (Elt Ideal)} {x3 : (⟨S4096x512, .f32⟩ : BufTy).Contents (Elt Ideal)} {f g d : ℕ → ℕ → EReal}
  (hx : V2 (n := 4096) (m := 5120) x0 f) (hg : V2 (n := 1) (m := 512) x1 g) (hd : V2 (n := 4096) (m := 512) x3 d)

include hx
theorem entries : V2 (n := 4096) (m := 512) (val_main_v0 (F := Ideal) x0) (cut 0 f) := fun i => by
  rw [val_main_v0_apply]
  exact (hx _).trans (congrArg (f _) (by show _ = 0 + _; simp [idx_main_v0]))
include hg in
theorem fwd : V2 (n := 4096) (m := 512) (val_main_v70 (F := Ideal) x0 x1) (Wide.scaled 512 0x44000000#32 (cut 0 f) g) :=
  Cert.Reference11Ideal.Val.N0.fwd (entries hx) hg
include hd in
theorem gain : V2 (n := 1) (m := 512) (val_main_v18 (F := Ideal) x0 x3) fun _ => gainOf 512 0x44000000#32 4096 (cut 0 f) d :=
  Cert.Reference11Ideal.Val.N0.gain (entries hx) hd
include hg hd in
theorem dx : V2 (n := 4096) (m := 512) (val_main_v72 (F := Ideal) x0 x1 x3) (back 512 0x44000000#32 (cut 0 f) g d) :=
  Cert.Reference11Ideal.Val.N0.dx (entries hx) hg hd

end N0

namespace N1

variable {x0 : (⟨S4096x5120, .f32⟩ : BufTy).Contents (Elt Ideal)} {x2 : (⟨S1x512, .f32⟩ : BufTy).Contents (Elt Ideal)} {x4 : (⟨S4096x512, .f32⟩ : BufTy).Contents (Elt Ideal)} {f g d : ℕ → ℕ → EReal}
  (hx : V2 (n := 4096) (m := 5120) x0 f) (hg : V2 (n := 1) (m := 512) x2 g) (hd : V2 (n := 4096) (m := 512) x4 d)

include hx
theorem entries : V2 (n := 4096) (m := 512) (val_main_v35 (F := Ideal) x0) (cut 512 f) := fun i => by
  rw [val_main_v35_apply]
  exact (hx _).trans (congrArg (f _) (by show _ = 512 + _; simp [idx_main_v35]))
include hg in
theorem fwd : V2 (n := 4096) (m := 512) (val_main_v71 (F := Ideal) x0 x2) (Wide.scaled 512 0x44000000#32 (cut 512 f) g) :=
  Cert.Reference11Ideal.Val.N0.fwd (entries hx) hg
include hd in
theorem gain : V2 (n := 1) (m := 512) (val_main_v53 (F := Ideal) x0 x4) fun _ => gainOf 512 0x44000000#32 4096 (cut 512 f) d :=
  Cert.Reference11Ideal.Val.N0.gain (entries hx) hd
include hg hd in
theorem dx : V2 (n := 4096) (m := 512) (val_main_v73 (F := Ideal) x0 x2 x4) (back 512 0x44000000#32 (cut 512 f) g d) :=
  Cert.Reference11Ideal.Val.N0.dx (entries hx) hg hd

end N1

end Cert.Reference10Ideal.Val
-- ==== Proof.NormHeads.lean ====
/-
  Arrays whose rows hold several heads of 128 columns: a head's rows, all heads' rows one under the other, and the gain's gradient
  summed head by head and tile by tile.
-/
module

public import proofs.«01_k».proof.Proof.NormWide

@[expose] public section

set_option maxRecDepth 16384

noncomputable section

namespace Cert.Norm.Wide

open Idealize.ShloMosaic Cert.Norm

/-- The rows of `n` heads from column `o` on, a row's heads one under the other. -/
def byHead (n o : ℕ) (f : ℕ → ℕ → EReal) (r j : ℕ) : EReal := f (r / n) (o + r % n * 128 + j)
/-- One head's rows, and the heads side by side again. -/
def strip (n h : ℕ) (f : ℕ → ℕ → EReal) (r j : ℕ) : EReal := f (r * n + h) j
def heads (n : ℕ) (f : ℕ → ℕ → EReal) (r j : ℕ) : EReal := f (r * n + j / 128) (j % 128)

theorem byHead_at {n h : ℕ} (hh : h < n) (o : ℕ) (f : ℕ → ℕ → EReal) (r j : ℕ) :
    byHead n o f (r * n + h) j = f r (o + h * 128 + j) := by
  have h1 : (r * n + h) / n = r := by
    rw [Nat.add_comm, Nat.add_mul_div_right _ _ (by omega), Nat.div_eq_of_lt hh, Nat.zero_add]
  have h2 : (r * n + h) % n = h := by rw [Nat.add_comm, Nat.add_mul_mod_self_right, Nat.mod_eq_of_lt hh]
  rw [byHead, h1, h2]

theorem heads_at (n h : ℕ) (f : ℕ → ℕ → EReal) (r : ℕ) {j : ℕ} (hj : j < 128) : heads n f r (h * 128 + j) = strip n h f r j := by
  have h1 : (h * 128 + j) / 128 = h := by omega
  have h2 : (h * 128 + j) % 128 = j := by omega
  rw [heads, strip, h1, h2]

theorem sum_pairs (n : ℕ) (f : ℕ → ℕ → EReal) :
    ∑ s ∈ Finset.range (n * 2), f (s / 2) (s % 2) = ∑ h ∈ Finset.range n, ∑ t ∈ Finset.range 2, f h t := by
  induction n with
  | zero => rfl
  | succ n ih =>
    rw [show (n + 1) * 2 = n * 2 + 1 + 1 by omega, Finset.sum_range_succ, Finset.sum_range_succ, ih, Finset.sum_range_succ _ n,
      show n * 2 / 2 = n by omega, show n * 2 % 2 = 0 by omega, show (n * 2 + 1) / 2 = n by omega, show (n * 2 + 1) % 2 = 1 by omega,
      add_assoc, Finset.sum_range_succ (f n), Finset.sum_range_one]

theorem gain_heads (n : ℕ) (b : BitVec 32) (x d : ℕ → ℕ → EReal) (j : ℕ) :
    ∑ s ∈ Finset.range (n * 2), gainOf 128 b 2048 (tile 2048 (strip n (s / 2) x) (s % 2)) (tile 2048 (strip n (s / 2) d) (s % 2)) j =
      gainOf 128 b (4096 * n) x d j := by
  rw [sum_pairs n fun h t => gainOf 128 b 2048 (tile 2048 (strip n h x) t) (tile 2048 (strip n h d) t) j]
  unfold gainOf
  rw [Cert.Reals.sum_stretches 4096 n fun r => gainPart 128 b x d r j, Finset.sum_comm (s := Finset.range 4096), Finset.sum_range]
  refine Finset.sum_congr rfl fun h _ => ?_
  rw [Finset.sum_range (fun r => gainPart 128 b x d (r * n + h.val) j)]
  exact (Cert.Reals.sum_stretches 2 2048 fun r => gainPart 128 b (strip n h x) (strip n h d) r j).symm

end Cert.Norm.Wide
-- ==== Proof.NormHead.lean ====
/-
  The norms of each head of the queries and of the keys, forward and backward: each tile of each head, the gains' gradients summed over
  heads and tiles, and the six result arrays over the extended reals.
-/
module

public import proofs.«01_k».proof.Proof.Gen.Kernel12Ideal.Frame
public import proofs.«01_k».proof.Proof.NormHeads
public import Idealize.ShloMosaic.Lib.Pipeline.ValueKit

@[expose] public section

set_option maxRecDepth 16384

noncomputable section

namespace Cert.Kernel12Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal Cert.Kernel12Ideal.Gen Cert.Ext Cert.Norm Cert.Norm.Wide

section
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and each buffer then holds what the four launches leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)
end

/-! ## Launch 0 -/

namespace L0

section
variable {X : Vec Ideal S4096x128 .f32} {G : Vec Ideal S1x128 .f32} {x g : ℕ → ℕ → EReal}

theorem rows (hX : Ext.V2 X x) (hG : Ext.V2 G g) : Ext.V2 (k0_pay1 (F := Ideal) X G) (scaled 128 0x43000000#32 x g) :=
  have h : Ext.V2 _ fun r (_ : ℕ) => rs 128 0x43000000#32 (x r) := (((hX.mul hX).rowSums _ _ _ _).div (V2.const _)).add (V2.const _) |>.rsq
  ((hX.mul (h.spreadCol _)).mul (hG.spreadRow _)).same _
theorem block (hX : Ext.V2 X x) (hG : Ext.V2 G g) : Ext.V2 (out0_2 (F := Ideal) X G) (scaled 128 0x43000000#32 x g) := fun z => by
  unfold out0_2
  canon_tiles i ha using cover0_2 ..
  exact (rows (hX.ld inb_S4096x128_S4096x128_0_0) (hG.ld inb_S1x128_S1x128_0_0) i).trans (by rw [ha0, ha1])
end

theorem ix : (∀ t : Fin cfg0.N, win0_0.index t = ![0, 30 + t.val]) ∧ (∀ t : Fin cfg0.N, win0_1.index t = ![0, 0])
    ∧ (∀ t : Fin cfg0.N, win0_2.index t = ![0, t.val]) := by decide +kernel

variable {V : (c : Dev nD) → (b : Ref sig .tc) → Buf (Elt Ideal) ((c : Thread nD τ).loc b)} {c : Dev nD} {x g : ℕ → ℕ → EReal}
  (hx : Ext.V2 (n := 4096) (m := 5120) (V c main_arg0) x) (hg : Ext.V2 (n := 1) (m := 128) (V c main_arg1) g)

include hx in
theorem x_block (t : Fin cfg0.N) : Ext.V2 (n := 4096) (m := 128) (iblk0 V c 0 t) (strip 6 t (byHead 6 3840 x)) := fun i => by
  have hN : cfg0.N = 6 := N_0
  have ht := t.isLt
  blk_simp [iblk0]
  refine (hx _).trans ?_
  blk_simp [ix.1 t]
  exact (congrArg (x _) (by omega)).trans (byHead_at (by omega) _ _ _ _).symm
include hg in
theorem g_block (t : Fin cfg0.N) : Ext.V2 (n := 1) (m := 128) (iblk0 V c 1 t) g := fun i => by
  blk_simp [iblk0]
  refine (hg _).trans ?_
  blk_simp [ix.2.1 t]
include hx hg in
theorem array : Ext.V2 (n := 4096) (m := 768) ((dat0 V c).arrAt 2 cfg0.N) (heads 6 (scaled 128 0x43000000#32 (byHead 6 3840 x) g)) := by
  intro i
  refine (dat0 V c).arrAt_forall_of_covers 2 (fun i v => v = heads 6 (scaled 128 0x43000000#32 (byHead 6 3840 x) g) (i 0).val (i 1).val) (by decide +kernel) (fun t _ y => ?_) i
  blk_simp [ix.2.2 t]
  rw [after0_2]
  exact (L0.block (x_block hx t) (g_block hg t) _).trans (heads_at 6 t.val (scaled 128 0x43000000#32 (byHead 6 3840 x) g) _ (y 1).isLt).symm

end L0

/-! ## Launch 1 -/

namespace L1

theorem ix : (∀ t : Fin cfg1.N, win1_0.index t = ![0, 36 + t.val]) ∧ (∀ t : Fin cfg1.N, win1_1.index t = ![0, 0])
    ∧ (∀ t : Fin cfg1.N, win1_2.index t = ![0, t.val]) := by decide +kernel

variable {V : (c : Dev nD) → (b : Ref sig .tc) → Buf (Elt Ideal) ((c : Thread nD τ).loc b)} {c : Dev nD} {x g : ℕ → ℕ → EReal}
  (hx : Ext.V2 (n := 4096) (m := 5120) (V c main_arg0) x) (hg : Ext.V2 (n := 1) (m := 128) (V c main_arg2) g)

include hx in
theorem x_block (t : Fin cfg1.N) : Ext.V2 (n := 4096) (m := 128) (iblk1 V c 0 t) (strip 2 t (byHead 2 4608 x)) := fun i => by
  have hN : cfg1.N = 2 := N_1
  have ht := t.isLt
  blk_simp [iblk1]
  refine (hx _).trans ?_
  blk_simp [ix.1 t]
  exact (congrArg (x _) (by omega)).trans (byHead_at (by omega) _ _ _ _).symm
include hg in
theorem g_block (t : Fin cfg1.N) : Ext.V2 (n := 1) (m := 128) (iblk1 V c 1 t) g := fun i => by
  blk_simp [iblk1]
  refine (hg _).trans ?_
  blk_simp [ix.2.1 t]
include hx hg in
theorem array : Ext.V2 (n := 4096) (m := 256) ((dat1 V c).arrAt 2 cfg1.N) (heads 2 (scaled 128 0x43000000#32 (byHead 2 4608 x) g)) := by
  intro i
  refine (dat1 V c).arrAt_forall_of_covers 2 (fun i v => v = heads 2 (scaled 128 0x43000000#32 (byHead 2 4608 x) g) (i 0).val (i 1).val) (by decide +kernel) (fun t _ y => ?_) i
  blk_simp [ix.2.2 t]
  rw [after1_2]
  exact (L0.block (x_block hx t) (g_block hg t) _).trans (heads_at 2 t.val (scaled 128 0x43000000#32 (byHead 2 4608 x) g) _ (y 1).isLt).symm

end L1

/-! ## Launch 2 -/

namespace L2

section
variable {X D : Vec Ideal S2048x128 .f32} {G P : Vec Ideal S1x128 .f32} {x g d q : ℕ → ℕ → EReal}

theorem root (hX : Ext.V2 X x) : Ext.V2 (k2_pay2 (F := Ideal) X) fun r _ => rs 128 0x43000000#32 (x r) :=
  (((hX.mul hX).rowSums _ _ _ _).div (V2.const _)).add (V2.const _) |>.rsq
theorem units (hX : Ext.V2 X x) : Ext.V2 (k2_pay3 (F := Ideal) X) (unitRow 128 0x43000000#32 x) := hX.mul ((root hX).spreadCol _)
theorem rows (hX : Ext.V2 X x) (hG : Ext.V2 G g) (hD : Ext.V2 D d) : Ext.V2 (k2_pay4 (F := Ideal) X D G) (back 128 0x43000000#32 x g d) :=
  have hd := hD.mul (hG.spreadRow broadcasts_S1x128_S2048x128)
  ((((root hX).spreadCol broadcasts_S2048x1_S2048x128).mul
    (hd.sub ((units hX).mul ((((hd.mul (units hX)).rowSums _ _ _ _).div (V2.const _)).spreadCol broadcasts_S2048x1_S2048x128)))).trunc bitsLt_bf16_f32).same _
theorem add_gain (hX : Ext.V2 X x) (hD : Ext.V2 D d) (hP : Ext.V2 P q) :
    Ext.V2 (k2_pay1 (F := Ideal) (k2_pay6 P) (k2_pay7 X D)) fun r j => q r j + gainOf 128 0x43000000#32 2048 x d j :=
  (hP.same _).add ((hD.mul (units hX)).colSums _ (.inl rfl) rfl _)
theorem zero_gain : Ext.V2 (k2_pay5 (F := Ideal)) fun _ _ => 0 := fun _ => Ideal.ofBits_zero_f32
end

theorem ix : (∀ t : Fin cfg2.N, win2_0.index t = ![t.val % 2, 30 + t.val / 2]) ∧ (∀ t : Fin cfg2.N, win2_1.index t = ![0, 0])
    ∧ (∀ t : Fin cfg2.N, win2_2.index t = ![t.val % 2, t.val / 2]) ∧ (∀ t : Fin cfg2.N, win2_3.index t = ![t.val % 2, t.val / 2])
    ∧ (∀ t : Fin cfg2.N, win2_4.index t = ![0, 0]) := by decide +kernel

variable {V : (c : Dev nD) → (b : Ref sig .tc) → Buf (Elt Ideal) ((c : Thread nD τ).loc b)} {c : Dev nD} {x g d : ℕ → ℕ → EReal}
  (hx : Ext.V2 (n := 4096) (m := 5120) (V c main_arg0) x) (hg : Ext.V2 (n := 1) (m := 128) (V c main_arg1) g)
  (hd : Ext.V2 (n := 4096) (m := 768) (V c main_arg3) d)

include hx in
theorem x_block (t : Fin cfg2.N) : Ext.V2 (n := 2048) (m := 128) (iblk2 V c 0 t) (tile 2048 (strip 6 (t.val / 2) (byHead 6 3840 x)) (t.val % 2)) := fun i => by
  have hN : cfg2.N = 12 := N_2
  have ht := t.isLt
  blk_simp [iblk2]
  refine (hx _).trans ?_
  blk_simp [ix.1 t]
  exact (congrArg (x _) (by omega)).trans (byHead_at (by omega) _ _ _ _).symm
include hg in
theorem g_block (t : Fin cfg2.N) : Ext.V2 (n := 1) (m := 128) (iblk2 V c 1 t) g := fun i => by
  blk_simp [iblk2]
  refine (hg _).trans ?_
  blk_simp [ix.2.1 t]
include hd in
theorem d_block (t : Fin cfg2.N) : Ext.V2 (n := 2048) (m := 128) (iblk2 V c 2 t) (tile 2048 (strip 6 (t.val / 2) (byHead 6 0 d)) (t.val % 2)) := fun i => by
  have hN : cfg2.N = 12 := N_2
  have ht := t.isLt
  blk_simp [iblk2]
  refine (hd _).trans ?_
  blk_simp [ix.2.2.1 t]
  exact (congrArg (d _) (by omega)).trans (byHead_at (by omega) _ _ _ _).symm
include hx hg hd in
theorem dx_block (t : Fin cfg2.N) : Ext.V2 (n := 2048) (m := 128) (outsAt2 V c t.val t.isLt).1 (tile 2048 (strip 6 (t.val / 2) (back 128 0x43000000#32 (byHead 6 3840 x) g (byHead 6 0 d))) (t.val % 2)) := by
  by_cases h : t.val % 12 = 0 <;> [rw [outsAt2_A V c t h]; rw [outsAt2_B V c t h]] <;> frame_out <;>
    exact L2.rows (x_block hx t) (g_block hg t) (d_block hd t)
include hx hg hd in
theorem dx_array : Ext.V2 (n := 4096) (m := 768) ((dat2 V c).arrAt 3 cfg2.N) (heads 6 (back 128 0x43000000#32 (byHead 6 3840 x) g (byHead 6 0 d))) := by
  intro i
  refine (dat2 V c).arrAt_forall_of_covers 3 (fun i v => v = heads 6 (back 128 0x43000000#32 (byHead 6 3840 x) g (byHead 6 0 d)) (i 0).val (i 1).val) (by decide +kernel) (fun t _ y => ?_) i
  blk_simp [ix.2.2.2.1 t]
  rw [after2_3]
  exact (dx_block hx hg hd t _).trans (heads_at 6 (t.val / 2) (back 128 0x43000000#32 (byHead 6 3840 x) g (byHead 6 0 d)) _ (y 1).isLt).symm
include hx hd in
theorem dg_array : Ext.V2 (n := 1) (m := 128) ((dat2 V c).arrAt 4 cfg2.N) fun _ => gainOf 128 0x43000000#32 24576 (byHead 6 3840 x) (byHead 6 0 d) := by
  intro i
  refine (dat2 V c).arrAt_forall_of_covers 4 (fun i v => v = gainOf 128 0x43000000#32 24576 (byHead 6 3840 x) (byHead 6 0 d) (i 1).val) (by decide +kernel) (fun t hf z => ?_) i
  have hN : cfg2.N = 12 := N_2
  have h := (flush2_4 t).mp hf
  have ht := t.isLt
  blk_simp [ix.2.2.2.2 t]
  rw [after2_4]
  refine (sum_steps (fun n hn => (outsAt2 V c n hn).2) (p := fun s => gainOf 128 0x43000000#32 2048 (tile 2048 (strip 6 (s / 2) (byHead 6 3840 x)) (s % 2)) (tile 2048 (strip 6 (s / 2) (byHead 6 0 d)) (s % 2)))
    (fun hn => ?_) (fun n hn q hq => ?_) t.val t.isLt _).trans ?_
  · rw [outsAt2_A V c ⟨0, hn⟩ rfl]; frame_out
    exact L2.add_gain (x_block hx ⟨0, hn⟩) (d_block hd ⟨0, hn⟩) L2.zero_gain
  · rw [outsAt2_B V c ⟨n + 1, hn⟩ (by dsimp only; omega)]; frame_out
    exact L2.add_gain (x_block hx ⟨n + 1, hn⟩) (d_block hd ⟨n + 1, hn⟩) hq
  rw [show t.val + 1 = 12 by omega]
  exact gain_heads 6 0x43000000#32 (byHead 6 3840 x) (byHead 6 0 d) _

end L2

/-! ## Launch 3 -/

namespace L3

theorem ix : (∀ t : Fin cfg3.N, win3_0.index t = ![t.val % 2, 36 + t.val / 2]) ∧ (∀ t : Fin cfg3.N, win3_1.index t = ![0, 0])
    ∧ (∀ t : Fin cfg3.N, win3_2.index t = ![t.val % 2, t.val / 2]) ∧ (∀ t : Fin cfg3.N, win3_3.index t = ![t.val % 2, t.val / 2])
    ∧ (∀ t : Fin cfg3.N, win3_4.index t = ![0, 0]) := by decide +kernel

variable {V : (c : Dev nD) → (b : Ref sig .tc) → Buf (Elt Ideal) ((c : Thread nD τ).loc b)} {c : Dev nD} {x g d : ℕ → ℕ → EReal}
  (hx : Ext.V2 (n := 4096) (m := 5120) (V c main_arg0) x) (hg : Ext.V2 (n := 1) (m := 128) (V c main_arg2) g)
  (hd : Ext.V2 (n := 4096) (m := 256) (V c main_arg4) d)

include hx in
theorem x_block (t : Fin cfg3.N) : Ext.V2 (n := 2048) (m := 128) (iblk3 V c 0 t) (tile 2048 (strip 2 (t.val / 2) (byHead 2 4608 x)) (t.val % 2)) := fun i => by
  have hN : cfg3.N = 4 := N_3
  have ht := t.isLt
  blk_simp [iblk3]
  refine (hx _).trans ?_
  blk_simp [ix.1 t]
  exact (congrArg (x _) (by omega)).trans (byHead_at (by omega) _ _ _ _).symm
include hg in
theorem g_block (t : Fin cfg3.N) : Ext.V2 (n := 1) (m := 128) (iblk3 V c 1 t) g := fun i => by
  blk_simp [iblk3]
  refine (hg _).trans ?_
  blk_simp [ix.2.1 t]
include hd in
theorem d_block (t : Fin cfg3.N) : Ext.V2 (n := 2048) (m := 128) (iblk3 V c 2 t) (tile 2048 (strip 2 (t.val / 2) (byHead 2 0 d)) (t.val % 2)) := fun i => by
  have hN : cfg3.N = 4 := N_3
  have ht := t.isLt
  blk_simp [iblk3]
  refine (hd _).trans ?_
  blk_simp [ix.2.2.1 t]
  exact (congrArg (d _) (by omega)).trans (byHead_at (by omega) _ _ _ _).symm
include hx hg hd in
theorem dx_block (t : Fin cfg3.N) : Ext.V2 (n := 2048) (m := 128) (outsAt3 V c t.val t.isLt).1 (tile 2048 (strip 2 (t.val / 2) (back 128 0x43000000#32 (byHead 2 4608 x) g (byHead 2 0 d))) (t.val % 2)) := by
  by_cases h : t.val % 4 = 0 <;> [rw [outsAt3_A V c t h]; rw [outsAt3_B V c t h]] <;> frame_out <;>
    exact L2.rows (x_block hx t) (g_block hg t) (d_block hd t)
include hx hg hd in
theorem dx_array : Ext.V2 (n := 4096) (m := 256) ((dat3 V c).arrAt 3 cfg3.N) (heads 2 (back 128 0x43000000#32 (byHead 2 4608 x) g (byHead 2 0 d))) := by
  intro i
  refine (dat3 V c).arrAt_forall_of_covers 3 (fun i v => v = heads 2 (back 128 0x43000000#32 (byHead 2 4608 x) g (byHead 2 0 d)) (i 0).val (i 1).val) (by decide +kernel) (fun t _ y => ?_) i
  blk_simp [ix.2.2.2.1 t]
  rw [after3_3]
  exact (dx_block hx hg hd t _).trans (heads_at 2 (t.val / 2) (back 128 0x43000000#32 (byHead 2 4608 x) g (byHead 2 0 d)) _ (y 1).isLt).symm
include hx hd in
theorem dg_array : Ext.V2 (n := 1) (m := 128) ((dat3 V c).arrAt 4 cfg3.N) fun _ => gainOf 128 0x43000000#32 8192 (byHead 2 4608 x) (byHead 2 0 d) := by
  intro i
  refine (dat3 V c).arrAt_forall_of_covers 4 (fun i v => v = gainOf 128 0x43000000#32 8192 (byHead 2 4608 x) (byHead 2 0 d) (i 1).val) (by decide +kernel) (fun t hf z => ?_) i
  have hN : cfg3.N = 4 := N_3
  have h := (flush3_4 t).mp hf
  have ht := t.isLt
  blk_simp [ix.2.2.2.2 t]
  rw [after3_4]
  refine (sum_steps (fun n hn => (outsAt3 V c n hn).2) (p := fun s => gainOf 128 0x43000000#32 2048 (tile 2048 (strip 2 (s / 2) (byHead 2 4608 x)) (s % 2)) (tile 2048 (strip 2 (s / 2) (byHead 2 0 d)) (s % 2)))
    (fun hn => ?_) (fun n hn q hq => ?_) t.val t.isLt _).trans ?_
  · rw [outsAt3_A V c ⟨0, hn⟩ rfl]; frame_out
    exact L2.add_gain (x_block hx ⟨0, hn⟩) (d_block hd ⟨0, hn⟩) L2.zero_gain
  · rw [outsAt3_B V c ⟨n + 1, hn⟩ (by dsimp only; omega)]; frame_out
    exact L2.add_gain (x_block hx ⟨n + 1, hn⟩) (d_block hd ⟨n + 1, hn⟩) hq
  rw [show t.val + 1 = 4 by omega]
  exact gain_heads 2 0x43000000#32 (byHead 2 4608 x) (byHead 2 0 d) _

end L3

/-! ## The results -/

section Results
variable (m : (ℓ : Loc nD τ sig) → Buf (Elt Ideal) ℓ) (ρ : Dev nD → PrngReg) (c : Dev nD) {p gq gk dq dk : ℕ → ℕ → EReal}

/-- The arguments' values. -/
structure Args (p gq gk dq dk : ℕ → ℕ → EReal) : Prop where
  h0 : Ext.V2 (n := 4096) (m := 5120) (m ((c.tc : Thread nD τ).loc main_arg0)) p
  h1 : Ext.V2 (n := 1) (m := 128) (m ((c.tc : Thread nD τ).loc main_arg1)) gq
  h2 : Ext.V2 (n := 1) (m := 128) (m ((c.tc : Thread nD τ).loc main_arg2)) gk
  h3 : Ext.V2 (n := 4096) (m := 768) (m ((c.tc : Thread nD τ).loc main_arg3)) dq
  h4 : Ext.V2 (n := 4096) (m := 256) (m ((c.tc : Thread nD τ).loc main_arg4)) dk

variable {m c} (A : Args m c p gq gk dq dk)
include A

theorem Args.v0 : Ext.V2 (n := 4096) (m := 768) (W4 m ρ c (Proc.devRef .tc main_v0)) (heads 6 (scaled 128 0x43000000#32 (byHead 6 3840 p) gq)) :=
  of_eq ((W4_of m ρ c main_v0 (by decide)).trans ((W3_of m ρ c main_v0 (by decide)).trans ((W2_of m ρ c main_v0 (by decide)).trans (W1_arr m ρ c 2))))
    (L0.array (of_eq (W0_args m ρ c main_arg0 (by decide)) A.h0) (of_eq (W0_args m ρ c main_arg1 (by decide)) A.h1))
theorem Args.v1 : Ext.V2 (n := 4096) (m := 256) (W4 m ρ c (Proc.devRef .tc main_v1)) (heads 2 (scaled 128 0x43000000#32 (byHead 2 4608 p) gk)) :=
  of_eq ((W4_of m ρ c main_v1 (by decide)).trans ((W3_of m ρ c main_v1 (by decide)).trans (W2_arr m ρ c 2)))
    (L1.array (of_eq (W1_args m ρ c main_arg0 (by decide)) A.h0) (of_eq (W1_args m ρ c main_arg2 (by decide)) A.h2))
theorem Args.v2_0 : Ext.V2 (n := 4096) (m := 768) (W4 m ρ c (Proc.devRef .tc main_v2_0)) (heads 6 (back 128 0x43000000#32 (byHead 6 3840 p) gq (byHead 6 0 dq))) :=
  of_eq ((W4_of m ρ c main_v2_0 (by decide)).trans (W3_arr m ρ c 3))
    (L2.dx_array (of_eq (W2_args m ρ c main_arg0 (by decide)) A.h0) (of_eq (W2_args m ρ c main_arg1 (by decide)) A.h1) (of_eq (W2_args m ρ c main_arg3 (by decide)) A.h3))
theorem Args.v2_1 : Ext.V2 (n := 1) (m := 128) (W4 m ρ c (Proc.devRef .tc main_v2_1)) (fun _ => gainOf 128 0x43000000#32 24576 (byHead 6 3840 p) (byHead 6 0 dq)) :=
  of_eq ((W4_of m ρ c main_v2_1 (by decide)).trans (W3_arr m ρ c 4))
    (L2.dg_array (of_eq (W2_args m ρ c main_arg0 (by decide)) A.h0) (of_eq (W2_args m ρ c main_arg3 (by decide)) A.h3))
theorem Args.v3_0 : Ext.V2 (n := 4096) (m := 256) (W4 m ρ c (Proc.devRef .tc main_v3_0)) (heads 2 (back 128 0x43000000#32 (byHead 2 4608 p) gk (byHead 2 0 dk))) :=
  of_eq (W4_arr m ρ c 3)
    (L3.dx_array (of_eq (W3_args m ρ c main_arg0 (by decide)) A.h0) (of_eq (W3_args m ρ c main_arg2 (by decide)) A.h2) (of_eq (W3_args m ρ c main_arg4 (by decide)) A.h4))
theorem Args.v3_1 : Ext.V2 (n := 1) (m := 128) (W4 m ρ c (Proc.devRef .tc main_v3_1)) (fun _ => gainOf 128 0x43000000#32 8192 (byHead 2 4608 p) (byHead 2 0 dk)) :=
  of_eq (W4_arr m ρ c 4)
    (L3.dg_array (of_eq (W3_args m ρ c main_arg0 (by decide)) A.h0) (of_eq (W3_args m ρ c main_arg4 (by decide)) A.h4))
end Results

end Cert.Kernel12Ideal.Val
-- ==== Proof.NormHeadRef.lean ====
/-
  The reference of the norms of each head of the queries and of the keys over the extended reals.
-/
module

public import proofs.«01_k».proof.Proof.Gen.Reference12Ideal.Read
public import proofs.«01_k».proof.Proof.NormHeads

@[expose] public section

set_option maxRecDepth 16384

noncomputable section

namespace Cert.Reference12Ideal.Val

open Idealize.ShloMosaic
open Cert.Reference12Ideal Cert.Reference12Ideal.Gen Cert.Reference12Ideal.Read Cert.Ext Cert.Norm Cert.Norm.Wide

namespace N0

variable {x0 : (⟨S4096x5120, .f32⟩ : BufTy).Contents (Elt Ideal)} {x1 : (⟨S1x128, .f32⟩ : BufTy).Contents (Elt Ideal)} {x3 : (⟨S4096x768, .f32⟩ : BufTy).Contents (Elt Ideal)} {f g d : ℕ → ℕ → EReal}
  (hx : V2 (n := 4096) (m := 5120) x0 f) (hg : V2 (n := 1) (m := 128) x1 g) (hd : V2 (n := 4096) (m := 768) x3 d)

include hx
theorem entries : V2 (n := 24576) (m := 128) (val_main_v1 (F := Ideal) x0) (byHead 6 3840 f) := fun i => by
  have h1 : (i 1).val < 128 := (i 1).isLt
  rw [val_main_v1_apply, val_main_v0_apply]
  refine (hx _).trans (congrArg₂ f ?_ ?_)
  · show ((i 0).val * 128 + (i 1).val) / 768 = (i 0).val / 6
    omega
  · show 3840 + ((i 0).val * 128 + (i 1).val) % 768 = 3840 + (i 0).val % 6 * 128 + (i 1).val
    omega
include hd in
omit hx in
theorem d_entries : V2 (n := 24576) (m := 128) (val_main_v2 (F := Ideal) x3) (byHead 6 0 d) := fun i => by
  have h1 : (i 1).val < 128 := (i 1).isLt
  rw [val_main_v2_apply]
  refine (hd _).trans (congrArg₂ d ?_ ?_)
  · show ((i 0).val * 128 + (i 1).val) / 768 = (i 0).val / 6
    omega
  · show ((i 0).val * 128 + (i 1).val) % 768 = 0 + (i 0).val % 6 * 128 + (i 1).val
    omega
theorem squares : V2 (n := 24576) (m := 1) (val_main_v9 (F := Ideal) x0) fun r _ => ms 128 0x43000000#32 ((byHead 6 3840 f) r) := fun i => by
  rw [val_main_v9_apply, val_main_v7_apply, val_main_v5_apply, val_main_v4_apply, val_main_v6_apply, val_main_v8_apply]
  exact congrArg (fun s => Ideal.div s (Ideal.ofBits .f32 0x43000000#32) + (Ideal.ofBits .f32 0x358637BD#32 : EReal))
    (from_zero rfl fun k => congrArg₂ (· * ·) (entries hx _) (entries hx _))
theorem root : V2 (n := 24576) (m := 1) (val_main_v10 (F := Ideal) x0) fun r _ => rs 128 0x43000000#32 ((byHead 6 3840 f) r) := fun i => congrArg Ideal.rsqrt (squares hx i)
theorem units : V2 (n := 24576) (m := 128) (val_main_v15 (F := Ideal) x0) (unitRow 128 0x43000000#32 (byHead 6 3840 f)) := fun i => by
  rw [val_main_v15_apply, val_main_v14_apply]
  exact congrArg₂ (· * ·) (entries hx _) (root hx _)
include hg in
theorem fwd : V2 (n := 24576) (m := 128) (val_main_v17 (F := Ideal) x0 x1) (Wide.scaled 128 0x43000000#32 (byHead 6 3840 f) g) := fun i => by
  rw [val_main_v17_apply, val_main_v16_apply]
  exact congrArg₂ (· * ·) (units hx _) (hg _)
include hd
theorem gain : V2 (n := 1) (m := 128) (val_main_v20 (F := Ideal) x0 x3) fun _ => gainOf 128 0x43000000#32 24576 (byHead 6 3840 f) (byHead 6 0 d) := fun i => by
  rw [val_main_v20_apply, val_main_v19_apply]
  have h0 : (i 0).val < 1 := (i 0).isLt
  have e : (i 0).val * 128 + (i 1).val = (i 1).val := by omega
  exact from_zero rfl fun k => (mul_comm _ _).trans (congrArg₂ (· * ·) ((d_entries hd _).trans (congrArg ((byHead 6 0 d) k) e))
    ((units hx _).trans (congrArg (unitRow 128 0x43000000#32 (byHead 6 3840 f) k) e)))
include hg
omit hx in
theorem scaled : V2 (n := 24576) (m := 128) (val_main_v22 (F := Ideal) x1 x3) fun r k => byHead 6 0 d r k * g 0 k := fun i => by
  rw [val_main_v22_apply, val_main_v21_apply]
  exact congrArg₂ (· * ·) (d_entries hd _) (hg _)
theorem slopes : V2 (n := 24576) (m := 128) (val_main_v32 (F := Ideal) x0 x1 x3) fun r _ => slope 128 0x43000000#32 ((byHead 6 3840 f) r) fun k => byHead 6 0 d r k * g 0 k := fun i => by
  rw [val_main_v32_apply, val_main_v31_apply]
  refine (congrArg (· + _) Ideal.ofBits_zero_f32).trans ((zero_add _).trans (Fin.sum_univ_one _ |>.trans ?_))
  rw [val_main_v30_apply, val_main_v28_apply, val_main_v25_apply, val_main_v24_apply, val_main_v13_apply, val_main_v11_apply]
  have e : (i 0).val * 1 + 0 = (i 0).val := by omega
  refine congrArg (Ideal.div · (Ideal.ofBits .f32 0x43000000#32)) (congrArg₂ (· * ·) (from_zero rfl fun k => congrArg₂ (· * ·)
    ((entries hx _).trans (congrArg ((byHead 6 3840 f) · k) e)) ((scaled hg hd _).trans (congrArg (fun r => byHead 6 0 d r k * g 0 k) e))) ?_)
  exact congrArg ((Ideal.ofBits .f32 0xBF000000#32 : EReal) * ·) (congrArg₂ Ideal.div (root hx _) (squares hx _))
theorem dx : V2 (n := 24576) (m := 128) (val_main_v36 (F := Ideal) x0 x1 x3) (back 128 0x43000000#32 (byHead 6 3840 f) g (byHead 6 0 d)) := fun i => by
  rw [val_main_v36_apply, val_main_v34_apply, val_main_v33_apply, val_main_v35_apply, val_main_v27_apply, val_main_v26_apply]
  refine Eq.trans ?_ (grad_eq w128 _ _ (i 1).isLt).symm
  exact congrArg₂ (· + ·) (congrArg₂ (· + ·) (congrArg₂ (· * ·) (scaled hg hd _) (root hx _)) (congrArg₂ (· * ·) (entries hx _) (slopes hx hg hd _)))
    (congrArg₂ (· * ·) (slopes hx hg hd _) (entries hx _))
omit hd in
theorem fwd_heads : V2 (n := 4096) (m := 768) (val_main_v74 (F := Ideal) x0 x1) (heads 6 (Wide.scaled 128 0x43000000#32 (byHead 6 3840 f) g)) := fun i => by
  rw [val_main_v74_apply]
  refine (fwd hx hg _).trans (congrArg₂ (Wide.scaled 128 0x43000000#32 (byHead 6 3840 f) g) ?_ ?_)
  · show ((i 0).val * 768 + (i 1).val) / 128 = (i 0).val * 6 + (i 1).val / 128
    omega
  · show ((i 0).val * 768 + (i 1).val) % 128 = (i 1).val % 128
    omega
theorem dx_heads : V2 (n := 4096) (m := 768) (val_main_v77 (F := Ideal) x0 x1 x3) (heads 6 (back 128 0x43000000#32 (byHead 6 3840 f) g (byHead 6 0 d))) := fun i => by
  rw [val_main_v77_apply, val_main_v76_apply]
  refine (dx hx hg hd _).trans (congrArg₂ (back 128 0x43000000#32 (byHead 6 3840 f) g (byHead 6 0 d)) ?_ ?_)
  · show ((i 0).val * 768 + (i 1).val) / 128 = (i 0).val * 6 + (i 1).val / 128
    omega
  · show ((i 0).val * 768 + (i 1).val) % 128 = (i 1).val % 128
    omega

end N0

namespace N1

variable {x0 : (⟨S4096x5120, .f32⟩ : BufTy).Contents (Elt Ideal)} {x2 : (⟨S1x128, .f32⟩ : BufTy).Contents (Elt Ideal)} {x4 : (⟨S4096x256, .f32⟩ : BufTy).Contents (Elt Ideal)} {f g d : ℕ → ℕ → EReal}
  (hx : V2 (n := 4096) (m := 5120) x0 f) (hg : V2 (n := 1) (m := 128) x2 g) (hd : V2 (n := 4096) (m := 256) x4 d)

include hx
theorem entries : V2 (n := 8192) (m := 128) (val_main_v38 (F := Ideal) x0) (byHead 2 4608 f) := fun i => by
  have h1 : (i 1).val < 128 := (i 1).isLt
  rw [val_main_v38_apply, val_main_v37_apply]
  refine (hx _).trans (congrArg₂ f ?_ ?_)
  · show ((i 0).val * 128 + (i 1).val) / 256 = (i 0).val / 2
    omega
  · show 4608 + ((i 0).val * 128 + (i 1).val) % 256 = 4608 + (i 0).val % 2 * 128 + (i 1).val
    omega
include hd in
omit hx in
theorem d_entries : V2 (n := 8192) (m := 128) (val_main_v39 (F := Ideal) x4) (byHead 2 0 d) := fun i => by
  have h1 : (i 1).val < 128 := (i 1).isLt
  rw [val_main_v39_apply]
  refine (hd _).trans (congrArg₂ d ?_ ?_)
  · show ((i 0).val * 128 + (i 1).val) / 256 = (i 0).val / 2
    omega
  · show ((i 0).val * 128 + (i 1).val) % 256 = 0 + (i 0).val % 2 * 128 + (i 1).val
    omega
theorem squares : V2 (n := 8192) (m := 1) (val_main_v46 (F := Ideal) x0) fun r _ => ms 128 0x43000000#32 ((byHead 2 4608 f) r) := fun i => by
  rw [val_main_v46_apply, val_main_v44_apply, val_main_v42_apply, val_main_v41_apply, val_main_v43_apply, val_main_v45_apply]
  exact congrArg (fun s => Ideal.div s (Ideal.ofBits .f32 0x43000000#32) + (Ideal.ofBits .f32 0x358637BD#32 : EReal))
    (from_zero rfl fun k => congrArg₂ (· * ·) (entries hx _) (entries hx _))
theorem root : V2 (n := 8192) (m := 1) (val_main_v47 (F := Ideal) x0) fun r _ => rs 128 0x43000000#32 ((byHead 2 4608 f) r) := fun i => congrArg Ideal.rsqrt (squares hx i)
theorem units : V2 (n := 8192) (m := 128) (val_main_v52 (F := Ideal) x0) (unitRow 128 0x43000000#32 (byHead 2 4608 f)) := fun i => by
  rw [val_main_v52_apply, val_main_v51_apply]
  exact congrArg₂ (· * ·) (entries hx _) (root hx _)
include hg in
theorem fwd : V2 (n := 8192) (m := 128) (val_main_v54 (F := Ideal) x0 x2) (Wide.scaled 128 0x43000000#32 (byHead 2 4608 f) g) := fun i => by
  rw [val_main_v54_apply, val_main_v53_apply]
  exact congrArg₂ (· * ·) (units hx _) (hg _)
include hd
theorem gain : V2 (n := 1) (m := 128) (val_main_v57 (F := Ideal) x0 x4) fun _ => gainOf 128 0x43000000#32 8192 (byHead 2 4608 f) (byHead 2 0 d) := fun i => by
  rw [val_main_v57_apply, val_main_v56_apply]
  have h0 : (i 0).val < 1 := (i 0).isLt
  have e : (i 0).val * 128 + (i 1).val = (i 1).val := by omega
  exact from_zero rfl fun k => (mul_comm _ _).trans (congrArg₂ (· * ·) ((d_entries hd _).trans (congrArg ((byHead 2 0 d) k) e))
    ((units hx _).trans (congrArg (unitRow 128 0x43000000#32 (byHead 2 4608 f) k) e)))
include hg
omit hx in
theorem scaled : V2 (n := 8192) (m := 128) (val_main_v59 (F := Ideal) x2 x4) fun r k => byHead 2 0 d r k * g 0 k := fun i => by
  rw [val_main_v59_apply, val_main_v58_apply]
  exact congrArg₂ (· * ·) (d_entries hd _) (hg _)
theorem slopes : V2 (n := 8192) (m := 128) (val_main_v69 (F := Ideal) x0 x2 x4) fun r _ => slope 128 0x43000000#32 ((byHead 2 4608 f) r) fun k => byHead 2 0 d r k * g 0 k := fun i => by
  rw [val_main_v69_apply, val_main_v68_apply]
  refine (congrArg (· + _) Ideal.ofBits_zero_f32).trans ((zero_add _).trans (Fin.sum_univ_one _ |>.trans ?_))
  rw [val_main_v67_apply, val_main_v65_apply, val_main_v62_apply, val_main_v61_apply, val_main_v50_apply, val_main_v48_apply]
  have e : (i 0).val * 1 + 0 = (i 0).val := by omega
  refine congrArg (Ideal.div · (Ideal.ofBits .f32 0x43000000#32)) (congrArg₂ (· * ·) (from_zero rfl fun k => congrArg₂ (· * ·)
    ((entries hx _).trans (congrArg ((byHead 2 4608 f) · k) e)) ((scaled hg hd _).trans (congrArg (fun r => byHead 2 0 d r k * g 0 k) e))) ?_)
  exact congrArg ((Ideal.ofBits .f32 0xBF000000#32 : EReal) * ·) (congrArg₂ Ideal.div (root hx _) (squares hx _))
theorem dx : V2 (n := 8192) (m := 128) (val_main_v73 (F := Ideal) x0 x2 x4) (back 128 0x43000000#32 (byHead 2 4608 f) g (byHead 2 0 d)) := fun i => by
  rw [val_main_v73_apply, val_main_v71_apply, val_main_v70_apply, val_main_v72_apply, val_main_v64_apply, val_main_v63_apply]
  refine Eq.trans ?_ (grad_eq w128 _ _ (i 1).isLt).symm
  exact congrArg₂ (· + ·) (congrArg₂ (· + ·) (congrArg₂ (· * ·) (scaled hg hd _) (root hx _)) (congrArg₂ (· * ·) (entries hx _) (slopes hx hg hd _)))
    (congrArg₂ (· * ·) (slopes hx hg hd _) (entries hx _))
omit hd in
theorem fwd_heads : V2 (n := 4096) (m := 256) (val_main_v75 (F := Ideal) x0 x2) (heads 2 (Wide.scaled 128 0x43000000#32 (byHead 2 4608 f) g)) := fun i => by
  rw [val_main_v75_apply]
  refine (fwd hx hg _).trans (congrArg₂ (Wide.scaled 128 0x43000000#32 (byHead 2 4608 f) g) ?_ ?_)
  · show ((i 0).val * 256 + (i 1).val) / 128 = (i 0).val * 2 + (i 1).val / 128
    omega
  · show ((i 0).val * 256 + (i 1).val) % 128 = (i 1).val % 128
    omega
theorem dx_heads : V2 (n := 4096) (m := 256) (val_main_v79 (F := Ideal) x0 x2 x4) (heads 2 (back 128 0x43000000#32 (byHead 2 4608 f) g (byHead 2 0 d))) := fun i => by
  rw [val_main_v79_apply, val_main_v78_apply]
  refine (dx hx hg hd _).trans (congrArg₂ (back 128 0x43000000#32 (byHead 2 4608 f) g (byHead 2 0 d)) ?_ ?_)
  · show ((i 0).val * 256 + (i 1).val) / 128 = (i 0).val * 2 + (i 1).val / 128
    omega
  · show ((i 0).val * 256 + (i 1).val) % 128 = (i 1).val % 128
    omega

end N1

end Cert.Reference12Ideal.Val
-- ==== Proof.lean ====
/-
  The claim: the seven programs and their references run to the end, the named constants are the reals they stand for, and the kernels'
  results are the references' — for the two attentions and the feed-forward part wherever the arguments are real numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Run
public import proofs.«01_k».proof.Proof.Ref
public import proofs.«01_k».proof.Proof.Pre
public import proofs.«01_k».proof.Proof.FfnRun
public import proofs.«01_k».proof.Proof.FfnRef
public import proofs.«01_k».proof.Proof.FfnPre
public import proofs.«01_k».proof.Proof.FfnDx
public import proofs.«01_k».proof.Proof.FfnDxRef
public import proofs.«01_k».proof.Proof.ProjRun
public import proofs.«01_k».proof.Proof.ProjRef
public import proofs.«01_k».proof.Proof.LatRun
public import proofs.«01_k».proof.Proof.LatRef
public import proofs.«01_k».proof.Proof.LatPre
public import Idealize.ShloMosaic.Adequacy
public import Idealize.ShloMosaic.Init
public import proofs.«01_k».proof.Proof.UpRun
public import proofs.«01_k».proof.Proof.UpRef
public import proofs.«01_k».proof.Proof.AdamEq
public import proofs.«01_k».proof.Proof.NormLoss
public import proofs.«01_k».proof.Proof.NormLossRef
public import proofs.«01_k».proof.Proof.NormBack
public import proofs.«01_k».proof.Proof.NormBackRef
public import proofs.«01_k».proof.Proof.NormLat
public import proofs.«01_k».proof.Proof.NormLatRef
public import proofs.«01_k».proof.Proof.NormOut
public import proofs.«01_k».proof.Proof.NormOutRef
public import proofs.«01_k».proof.Proof.NormHead
public import proofs.«01_k».proof.Proof.NormHeadRef

@[expose] public section

set_option maxRecDepth 16384
set_option maxHeartbeats 1000000

noncomputable section

namespace Cert.Proof

open Idealize.ShloMosaic Idealize.SL.Sem Cert.Reals

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)
theorem frame_reference_finite : Cert.quiescent_ReferenceIdeal_pre_finite := fun m ρ _ => frame_reference m ρ trivial

/-- The second program's text is the same at both float values: its bodies, its body table and its frame. -/
theorem bodies2 : Cert.Kernel2.defs₀ (F := Bits) = Cert.Kernel2Ideal.defs₀ (F := Bits) := by
  unfold Cert.Kernel2.defs₀ Cert.Kernel2Ideal.defs₀
  refine congrArg _ (funext fun l => funext fun a => ?_)
  match l, a with
  | 0, (t, s) => rfl
  | 1, (t, s) => rfl
  | 2, (t, s) => rfl
  | 3, (t, s) => rfl
  | 4, (t, s) => rfl
  | 5, (t, s) => rfl
theorem table2 : Cert.Kernel2.defs (F := Bits) = Cert.Kernel2Ideal.defs (F := Bits) :=
  congrArg (Pipeline.defs (Cert.Kernel2Ideal.pcfgs (F := Bits))) bodies2
theorem frame_kernel2 : Cert.quiescent_Kernel2 := fun m ρ _ => by
  have h := Cert.Kernel2Ideal.Gen.frame (F := Bits) m ρ
  rw [← table2] at h
  exact h
theorem frame_ideal2 : Cert.quiescent_Kernel2Ideal := fun m ρ _ => Cert.Kernel2Ideal.Gen.frame m ρ
theorem frame_ideal2_finite : Cert.quiescent_Kernel2Ideal_pre_finite2 := fun m ρ _ => Cert.Kernel2Ideal.Gen.frame m ρ
theorem frame_reference2 : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)
theorem frame_reference2_finite : Cert.quiescent_Reference2Ideal_pre_finite2 := fun m ρ _ => frame_reference2 m ρ trivial

/-- And so is the third's. -/
theorem bodies3 : Cert.Kernel3.defs₀ (F := Bits) = Cert.Kernel3Ideal.defs₀ (F := Bits) := by
  unfold Cert.Kernel3.defs₀ Cert.Kernel3Ideal.defs₀
  refine congrArg _ (funext fun l => funext fun a => ?_)
  match l, a with
  | 0, (t, s) => rfl
theorem table3 : Cert.Kernel3.defs (F := Bits) = Cert.Kernel3Ideal.defs (F := Bits) :=
  congrArg (Pipeline.defs (Cert.Kernel3Ideal.pcfgs (F := Bits))) bodies3
theorem frame_kernel3 : Cert.quiescent_Kernel3 := fun m ρ _ => by
  have h := Cert.Kernel3Ideal.Gen.frame (F := Bits) m ρ
  rw [← table3] at h
  exact h
theorem frame_ideal3 : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- And the fourth's. -/
theorem bodies4 : Cert.Kernel4.defs₀ (F := Bits) = Cert.Kernel4Ideal.defs₀ (F := Bits) := by
  unfold Cert.Kernel4.defs₀ Cert.Kernel4Ideal.defs₀
  refine congrArg _ (funext fun l => funext fun a => ?_)
  match l, a with
  | 0, (t, s) => rfl
  | 1, (t, s) => rfl
  | 2, (t, s) => rfl
  | 3, (t, s) => rfl
  | 4, (t, s) => rfl
  | 5, (t, s) => rfl
  | 6, (t, s) => rfl
  | 7, (t, s) => rfl
theorem table4 : Cert.Kernel4.defs (F := Bits) = Cert.Kernel4Ideal.defs (F := Bits) :=
  congrArg (Pipeline.defs (Cert.Kernel4Ideal.pcfgs (F := Bits))) bodies4
theorem frame_kernel4 : Cert.quiescent_Kernel4 := fun m ρ _ => by
  have h := Cert.Kernel4Ideal.Gen.frame (F := Bits) m ρ
  rw [← table4] at h
  exact h
theorem frame_ideal4 : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2.2.2.2.2.2.2.2, sem_eq_zero_of_no_sems (by decide) r.2⟩)
    (Cert.Reference4Ideal.Value.run (F := Ideal) m ρ)

theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_ideal5_finite : Cert.quiescent_Kernel5Ideal_pre_finite5 := fun m ρ _ => Cert.Kernel5Ideal.Gen.frame m ρ
theorem frame_reference5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)
theorem frame_reference5_finite : Cert.quiescent_Reference5Ideal_pre_finite5 := fun m ρ _ => frame_reference5 m ρ trivial

/-- And the sixth's. -/
theorem bodies6 : Cert.Kernel6.defs₀ (F := Bits) = Cert.Kernel6Ideal.defs₀ (F := Bits) := by
  unfold Cert.Kernel6.defs₀ Cert.Kernel6Ideal.defs₀
  refine congrArg _ (funext fun l => funext fun a => ?_)
  match l, a with
  | 0, (t, s) => rfl
  | 1, (t, s) => rfl
  | 2, (t, s) => rfl
  | 3, (t, s) => rfl
  | 4, (t, s) => rfl
  | 5, (t, s) => rfl
theorem table6 : Cert.Kernel6.defs (F := Bits) = Cert.Kernel6Ideal.defs (F := Bits) :=
  congrArg (Pipeline.defs (Cert.Kernel6Ideal.pcfgs (F := Bits))) bodies6
theorem frame_kernel6 : Cert.quiescent_Kernel6 := fun m ρ _ => by
  have h := Cert.Kernel6Ideal.Gen.frame (F := Bits) m ρ
  rw [← table6] at h
  exact h
theorem frame_ideal6 : Cert.quiescent_Kernel6Ideal := fun m ρ _ => Cert.Kernel6Ideal.Gen.frame m ρ
theorem frame_reference6 : Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_reference7 : Cert.quiescent_Reference7Ideal := fun m ρ _ =>
  (θ_run Cert.Reference7Ideal.defs _ _).mono (fun r h => ⟨fun c => (h c).2.2.2.2.2.2.2.2.2.2.2.2.2.2.2.2.2.2.2.2.2.2.2.2.2.2.2.2.2.2.2.2, sem_eq_zero_of_no_sems (by decide) r.2⟩)
    (Cert.Reference7Ideal.Value.run (F := Ideal) m ρ)

/-- And the eighth's. -/
theorem bodies8 : Cert.Kernel8.defs₀ (F := Bits) = Cert.Kernel8Ideal.defs₀ (F := Bits) := by
  unfold Cert.Kernel8.defs₀ Cert.Kernel8Ideal.defs₀
  refine congrArg _ (funext fun l => funext fun a => ?_)
  match l, a with
  | 0, (t, s) => rfl
theorem table8 : Cert.Kernel8.defs (F := Bits) = Cert.Kernel8Ideal.defs (F := Bits) :=
  congrArg (Pipeline.defs (Cert.Kernel8Ideal.pcfgs (F := Bits))) bodies8
theorem frame_kernel8 : Cert.quiescent_Kernel8 := fun m ρ _ => by
  have h := Cert.Kernel8Ideal.Gen.frame (F := Bits) m ρ
  rw [← table8] at h
  exact h
theorem frame_ideal8 : Cert.quiescent_Kernel8Ideal := fun m ρ _ => Cert.Kernel8Ideal.Gen.frame m ρ
theorem frame_reference8 : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

/-- And the ninth's. -/
theorem bodies9 : Cert.Kernel9.defs₀ (F := Bits) = Cert.Kernel9Ideal.defs₀ (F := Bits) := by
  unfold Cert.Kernel9.defs₀ Cert.Kernel9Ideal.defs₀
  refine congrArg _ (funext fun l => funext fun a => ?_)
  match l, a with
  | 0, (t, s) => rfl
  | 1, (t, s) => rfl
theorem table9 : Cert.Kernel9.defs (F := Bits) = Cert.Kernel9Ideal.defs (F := Bits) :=
  congrArg (Pipeline.defs (Cert.Kernel9Ideal.pcfgs (F := Bits))) bodies9
theorem frame_kernel9 : Cert.quiescent_Kernel9 := fun m ρ _ => by
  have h := Cert.Kernel9Ideal.Gen.frame (F := Bits) m ρ
  rw [← table9] at h
  exact h
theorem frame_ideal9 : Cert.quiescent_Kernel9Ideal := fun m ρ _ => Cert.Kernel9Ideal.Gen.frame m ρ
theorem frame_reference9 : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- And the tenth's. -/
theorem bodies10 : Cert.Kernel10.defs₀ (F := Bits) = Cert.Kernel10Ideal.defs₀ (F := Bits) := by
  unfold Cert.Kernel10.defs₀ Cert.Kernel10Ideal.defs₀
  refine congrArg _ (funext fun l => funext fun a => ?_)
  match l, a with
  | 0, (t, s) => rfl
  | 1, (t, s) => rfl
  | 2, (t, s) => rfl
  | 3, (t, s) => rfl
theorem table10 : Cert.Kernel10.defs (F := Bits) = Cert.Kernel10Ideal.defs (F := Bits) :=
  congrArg (Pipeline.defs (Cert.Kernel10Ideal.pcfgs (F := Bits))) bodies10
theorem frame_kernel10 : Cert.quiescent_Kernel10 := fun m ρ _ => by
  have h := Cert.Kernel10Ideal.Gen.frame (F := Bits) m ρ
  rw [← table10] at h
  exact h
theorem frame_ideal10 : Cert.quiescent_Kernel10Ideal := fun m ρ _ => Cert.Kernel10Ideal.Gen.frame m ρ
theorem frame_reference10 : Cert.quiescent_Reference10Ideal := fun m ρ _ =>
  (θ_run Cert.Reference10Ideal.defs _ _).mono (fun r h => ⟨fun c => (h c).2.2.2.2.2.2, sem_eq_zero_of_no_sems (by decide) r.2⟩)
    (Cert.Reference10Ideal.Value.run (F := Ideal) m ρ)

/-- And the eleventh's. -/
theorem bodies11 : Cert.Kernel11.defs₀ (F := Bits) = Cert.Kernel11Ideal.defs₀ (F := Bits) := by
  unfold Cert.Kernel11.defs₀ Cert.Kernel11Ideal.defs₀
  refine congrArg _ (funext fun l => funext fun a => ?_)
  match l, a with
  | 0, (t, s) => rfl
  | 1, (t, s) => rfl
  | 2, (t, s) => rfl
  | 3, (t, s) => rfl
  | 4, (t, s) => rfl
  | 5, (t, s) => rfl
theorem table11 : Cert.Kernel11.defs (F := Bits) = Cert.Kernel11Ideal.defs (F := Bits) :=
  congrArg (Pipeline.defs (Cert.Kernel11Ideal.pcfgs (F := Bits))) bodies11
theorem frame_kernel11 : Cert.quiescent_Kernel11 := fun m ρ _ => by
  have h := Cert.Kernel11Ideal.Gen.frame (F := Bits) m ρ
  rw [← table11] at h
  exact h
theorem frame_ideal11 : Cert.quiescent_Kernel11Ideal := fun m ρ _ => Cert.Kernel11Ideal.Gen.frame m ρ
theorem frame_reference11 : Cert.quiescent_Reference11Ideal := fun m ρ _ =>
  (θ_run Cert.Reference11Ideal.defs _ _).mono (fun r h => ⟨fun c => (h c).2.2.2.2.2.2.2.2.2, sem_eq_zero_of_no_sems (by decide) r.2⟩)
    (Cert.Reference11Ideal.Value.run (F := Ideal) m ρ)

/-- And the twelfth's. -/
theorem bodies12 : Cert.Kernel12.defs₀ (F := Bits) = Cert.Kernel12Ideal.defs₀ (F := Bits) := by
  unfold Cert.Kernel12.defs₀ Cert.Kernel12Ideal.defs₀
  refine congrArg _ (funext fun l => funext fun a => ?_)
  match l, a with
  | 0, (t, s) => rfl
  | 1, (t, s) => rfl
  | 2, (t, s) => rfl
  | 3, (t, s) => rfl
theorem table12 : Cert.Kernel12.defs (F := Bits) = Cert.Kernel12Ideal.defs (F := Bits) :=
  congrArg (Pipeline.defs (Cert.Kernel12Ideal.pcfgs (F := Bits))) bodies12
theorem frame_kernel12 : Cert.quiescent_Kernel12 := fun m ρ _ => by
  have h := Cert.Kernel12Ideal.Gen.frame (F := Bits) m ρ
  rw [← table12] at h
  exact h
theorem frame_ideal12 : Cert.quiescent_Kernel12Ideal := fun m ρ _ => Cert.Kernel12Ideal.Gen.frame m ρ
theorem frame_reference12 : Cert.quiescent_Reference12Ideal := fun m ρ _ =>
  (θ_run Cert.Reference12Ideal.defs _ _).mono (fun r h => ⟨fun c => (h c).2.2.2.2.2.2, sem_eq_zero_of_no_sems (by decide) r.2⟩)
    (Cert.Reference12Ideal.Value.run (F := Ideal) m ρ)

theorem preserves : Cert.preserves_Kernel_KernelIdeal :=
  ⟨IdealRules.named_const.statement Cert.KernelIdeal.κ "scale_log2e" .f32 0x3E0293EE#32 (((Real.sqrt 128)⁻¹ * (Real.log 2)⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "scale" .f32 0x3DB504F3#32 (((Real.sqrt 128)⁻¹ : ℝ) : EReal) rfl⟩

theorem preserves5 : Cert.preserves_Kernel5_Kernel5Ideal :=
  ⟨IdealRules.named_const.statement Cert.Kernel5Ideal.κ "scale_log2e" .f32 0x3DD53B95#32 (((Real.sqrt 192)⁻¹ * (Real.log 2)⁻¹ : ℝ) : EReal) rfl,
   IdealRules.named_const.statement Cert.Kernel5Ideal.κ "log2e" .f32 0x3FB8AA3B#32 (((Real.log 2)⁻¹ : ℝ) : EReal) rfl,
   IdealRules.named_const.statement Cert.Kernel5Ideal.κ "scale" .f32 0x3D93CD3A#32 (((Real.sqrt 192)⁻¹ : ℝ) : EReal) rfl⟩

/-- Two matrices of the same real numbers are equal. -/
theorem eq_of {n m : ℕ} {X Y : (⟨2, ![n, m]⟩ : Shape).Idx → EReal} {x : ℕ → ℕ → ℝ} (hX : IsR2 X x) (hY : IsR2 Y x) : X = Y :=
  funext fun i => (hX i).trans (hY i).symm

open Cert.KernelIdeal Cert.KernelIdeal.Gen in
theorem algebraic : Cert.algebraic_KernelIdeal_ReferenceIdeal_pre_finite := by
  intro m ρ m' ρ' hpre hagree
  have hA : ∀ c : Dev nD, ∃ q k v g : ℕ → ℕ → ℝ, Cert.KernelIdeal.Val.Args m c q k v g := fun c => by
    obtain ⟨q, k, v, g, hq, hk, hv, hg⟩ := Cert.Pre_finite.Val.finite _ _ _ _ (hpre c)
    exact ⟨q, k, v, g, ⟨hq, hk, hv, hg⟩⟩
  refine ⟨fun c => W2 m ρ c (Proc.devRef .tc main_v0_0), fun c => W2 m ρ c (Proc.devRef .tc main_v1_0),
    fun c => W2 m ρ c (Proc.devRef .tc main_v1_1), fun c => W2 m ρ c (Proc.devRef .tc main_v1_2), ?_, ?_⟩
  · exact (θ_run Cert.KernelIdeal.defs _ _).mono (fun _ h c =>
      ⟨h c _ (mem_uc main_v0_0 (by decide)), h c _ (mem_uc main_v1_0 (by decide)), h c _ (mem_uc main_v1_1 (by decide)),
       h c _ (mem_uc main_v1_2 (by decide)),
       (h c _ (mem_uc main_arg0 (by decide))).trans (W2_main_arg0 m ρ c), (h c _ (mem_uc main_arg1 (by decide))).trans (W2_main_arg1 m ρ c),
       (h c _ (mem_uc main_arg2 (by decide))).trans (W2_main_arg2 m ρ c), (h c _ (mem_uc main_arg3 (by decide))).trans (W2_main_arg3 m ρ c)⟩)
      (Cert.KernelIdeal.Val.run (F := Ideal) m ρ)
  · refine (θ_run Cert.ReferenceIdeal.defs _ _).mono (fun _ h c => ?_) (Cert.ReferenceIdeal.Value.run (F := Ideal) m' ρ')
    obtain ⟨q, k, v, g, A⟩ := hA c
    obtain ⟨h0, h1, h2, h3⟩ := hagree c
    obtain ⟨ho, hdq, hdk, hdv, hargs⟩ := h c
    refine ⟨ho.trans ?_, hdq.trans ?_, hdk.trans ?_, hdv.trans ?_, hargs⟩
    · rw [Cert.ReferenceIdeal.Read.val_main_v41_eq, h0, h1, h2]
      exact eq_of (Cert.ReferenceIdeal.Val.o_eq A.hq A.hk A.hv) (A.o ρ)
    · rw [Cert.ReferenceIdeal.Read.val_main_v68_eq, h0, h1, h2, h3]
      exact eq_of (Cert.ReferenceIdeal.Val.dq_eq A.hq A.hk A.hv A.hg) (A.dq ρ)
    · rw [Cert.ReferenceIdeal.Read.val_main_v67_eq, h0, h1, h2, h3]
      exact eq_of (Cert.ReferenceIdeal.Val.dk_eq A.hq A.hk A.hv A.hg) (A.dk ρ)
    · rw [Cert.ReferenceIdeal.Read.val_main_v66_eq, h0, h1, h3]
      exact eq_of (Cert.ReferenceIdeal.Val.dv_eq A.hq A.hk A.hg) (A.dv ρ)

theorem eq_of3 {n m l : ℕ} {X Y : (⟨3, ![n, m, l]⟩ : Shape).Idx → EReal} {x : ℕ → ℕ → ℕ → ℝ} (hX : IsR3 X x) (hY : IsR3 Y x) : X = Y :=
  funext fun i => (hX i).trans (hY i).symm

open Cert.Kernel2Ideal Cert.Kernel2Ideal.Gen in
theorem algebraic2 : Cert.algebraic_Kernel2Ideal_Reference2Ideal_pre_finite2 := by
  intro m ρ m' ρ' hpre hagree
  have hA : ∀ c : Dev nD, ∃ x h wg wu wd dx, Cert.Kernel2Ideal.Val.Args m c x h wg wu wd dx := fun c => by
    obtain ⟨x, h, wg, wu, wd, dx, hx, hh, hg, hu, hw, hd⟩ := Cert.Pre_finite2.Val.finite _ _ _ _ _ _ (hpre c)
    exact ⟨x, h, wg, wu, wd, dx, ⟨hx, hh, hg, hu, hw, hd⟩⟩
  refine ⟨fun c => W6 m ρ c (Proc.devRef .tc main_v1), fun c => W6 m ρ c (Proc.devRef .tc main_v2_0),
    fun c => W6 m ρ c (Proc.devRef .tc main_v2_1), fun c => W6 m ρ c (Proc.devRef .tc main_v4),
    fun c => W6 m ρ c (Proc.devRef .tc main_v5), fun c => W6 m ρ c (Proc.devRef .tc main_v3), ?_, ?_⟩
  · exact (θ_run Cert.Kernel2Ideal.defs _ _).mono (fun _ h c =>
      ⟨h c _ (mem_uc main_v1 (by decide)), h c _ (mem_uc main_v2_0 (by decide)), h c _ (mem_uc main_v2_1 (by decide)),
       h c _ (mem_uc main_v4 (by decide)), h c _ (mem_uc main_v5 (by decide)), h c _ (mem_uc main_v3 (by decide)),
       (h c _ (mem_uc main_arg0 (by decide))).trans (W6_main_arg0 m ρ c), (h c _ (mem_uc main_arg1 (by decide))).trans (W6_main_arg1 m ρ c),
       (h c _ (mem_uc main_arg2 (by decide))).trans (W6_main_arg2 m ρ c), (h c _ (mem_uc main_arg3 (by decide))).trans (W6_main_arg3 m ρ c),
       (h c _ (mem_uc main_arg4 (by decide))).trans (W6_main_arg4 m ρ c), (h c _ (mem_uc main_arg5 (by decide))).trans (W6_main_arg5 m ρ c)⟩)
      (Cert.Kernel2Ideal.Val.run (F := Ideal) m ρ)
  · refine (θ_run Cert.Reference2Ideal.defs _ _).mono (fun _ h c => ?_) (Cert.Reference2Ideal.Value.run (F := Ideal) m' ρ')
    obtain ⟨x, hv, wg, wu, wd, dx, A⟩ := hA c
    obtain ⟨h0, h1, h2, h3, h4, h5⟩ := hagree c
    obtain ⟨r0, r1, r2, r3, r4, r5, hargs⟩ := h c
    refine ⟨r0.trans ?_, r1.trans ?_, r2.trans ?_, r3.trans ?_, r4.trans ?_, r5.trans ?_, hargs⟩
    · rw [Cert.Reference2Ideal.Read.val_main_v28_eq, h0, h1, h2, h3, h4]
      exact eq_of (Cert.Reference2Ideal.Val.x2_eq A.hh A.hg A.hu A.hw A.hx) (A.x2 ρ)
    · rw [Cert.Reference2Ideal.Read.val_main_v29_eq, h1, h2, h3, h4, h5]
      exact eq_of (Cert.Reference2Ideal.Val.dgate_eq A.hh A.hg A.hu A.hw A.hd) (A.dgate6 ρ)
    · rw [Cert.Reference2Ideal.Read.val_main_v30_eq, h1, h2, h4, h5]
      exact eq_of (Cert.Reference2Ideal.Val.dup_eq A.hh A.hg A.hw A.hd) (A.dup6 ρ)
    · rw [Cert.Reference2Ideal.Read.val_main_v31_eq, h1, h2, h3, h4, h5]
      exact eq_of3 (Cert.Reference2Ideal.Val.dwg_eq A.hh A.hg A.hu A.hw A.hd) (A.dwg ρ)
    · rw [Cert.Reference2Ideal.Read.val_main_v32_eq, h1, h2, h4, h5]
      exact eq_of3 (Cert.Reference2Ideal.Val.dwu_eq A.hh A.hg A.hw A.hd) (A.dwu ρ)
    · rw [Cert.Reference2Ideal.Read.val_main_v33_eq, h1, h2, h3, h5]
      exact eq_of (Cert.Reference2Ideal.Val.dwd_eq A.hh A.hg A.hu A.hd) (A.dwd ρ)

/-- Two matrices of the same values are equal. -/
theorem same {n m : ℕ} {X Y : (⟨2, ![n, m]⟩ : Shape).Idx → EReal} {x : ℕ → ℕ → EReal} (hX : Cert.Ext.V2 X x) (hY : Cert.Ext.V2 Y x) : X = Y :=
  funext fun i => (hX i).trans (hY i).symm

open Cert.Kernel3Ideal Cert.Kernel3Ideal.Gen Cert.Ext in
theorem algebraic3 : Cert.algebraic_Kernel3Ideal_Reference3Ideal := by
  intro m ρ m' ρ' _ hagree
  refine ⟨fun c => Cert.Kernel3Ideal.Value.G4 m c, Cert.Kernel3Ideal.Value.run (F := Ideal) m ρ, ?_⟩
  refine (θ_run Cert.Reference3Ideal.defs _ _).mono (fun _ h c => ?_) (Cert.Reference3Ideal.Value.run (F := Ideal) m' ρ')
  obtain ⟨h0, h1, h2, h3⟩ := hagree c
  obtain ⟨r0, hargs⟩ := h c
  refine ⟨r0.trans ?_, hargs⟩
  obtain ⟨dg, hdg⟩ := v2_of (n := 4096) (m := 5632) (by decide) (by decide) (V m c main_arg0)
  obtain ⟨du, hdu⟩ := v2_of (n := 4096) (m := 5632) (by decide) (by decide) (V m c main_arg1)
  obtain ⟨wg, hwg⟩ := v3_of (n := 4) (m := 2048) (l := 1408) (by decide) (by decide) (by decide) (V m c main_arg2)
  obtain ⟨wu, hwu⟩ := v3_of (n := 4) (m := 2048) (l := 1408) (by decide) (by decide) (by decide) (V m c main_arg3)
  rw [Cert.Reference3Ideal.Read.val_main_v13_eq, h0, h1, h2, h3]
  exact funext fun i => (Cert.Reference3Ideal.Val.result hdg hdu hwg hwu i).trans
    (Cert.Kernel3Ideal.Val.Args.result (⟨hdg, hdu, hwg, hwu⟩ : Cert.Kernel3Ideal.Val.Args m c dg du wg wu) i).symm

open Cert.Kernel4Ideal Cert.Kernel4Ideal.Gen in
theorem algebraic4 : Cert.algebraic_Kernel4Ideal_Reference4Ideal := by
  intro m ρ m' ρ' _ hagree
  have hA : ∀ c : Dev nD, ∃ x h wa y wo dx dp, Cert.Kernel4Ideal.Val.Args m c x h wa y wo dx dp := fun c => by
    obtain ⟨x, hx⟩ := Cert.Ext.v2_of (n := 4096) (m := 2048) (by decide) (by decide) (m ((c.tc : Thread nD τ).loc main_arg0))
    obtain ⟨h, hh⟩ := Cert.Ext.v2_of (n := 4096) (m := 2048) (by decide) (by decide) (m ((c.tc : Thread nD τ).loc main_arg1))
    obtain ⟨wa, hwa⟩ := Cert.Ext.v2_of (n := 5120) (m := 2048) (by decide) (by decide) (m ((c.tc : Thread nD τ).loc main_arg2))
    obtain ⟨y, hy⟩ := Cert.Ext.v2_of (n := 4096) (m := 2048) (by decide) (by decide) (m ((c.tc : Thread nD τ).loc main_arg3))
    obtain ⟨wo, hwo⟩ := Cert.Ext.v2_of (n := 2048) (m := 2048) (by decide) (by decide) (m ((c.tc : Thread nD τ).loc main_arg4))
    obtain ⟨dx, hdx⟩ := Cert.Ext.v2_of (n := 4096) (m := 2048) (by decide) (by decide) (m ((c.tc : Thread nD τ).loc main_arg5))
    obtain ⟨dp, hdp⟩ := Cert.Ext.v2_of (n := 4096) (m := 5120) (by decide) (by decide) (m ((c.tc : Thread nD τ).loc main_arg6))
    exact ⟨x, h, wa, y, wo, dx, dp, ⟨hx, hh, hwa, hy, hwo, hdx, hdp⟩⟩
  refine ⟨fun c => W11 m ρ c (Proc.devRef .tc main_v0), fun c => W11 m ρ c (Proc.devRef .tc main_v1),
    fun c => W11 m ρ c (Proc.devRef .tc main_v3), fun c => W11 m ρ c (Proc.devRef .tc main_v5),
    fun c => W11 m ρ c (Proc.devRef .tc main_v7), fun c => W11 m ρ c (Proc.devRef .tc main_v8),
    fun c => W11 m ρ c (Proc.devRef .tc main_v9), fun c => W11 m ρ c (Proc.devRef .tc main_v10), ?_, ?_⟩
  · exact (θ_run Cert.Kernel4Ideal.defs _ _).mono (fun _ h c =>
      ⟨h c _ (mem_uc main_v0 (by decide)), h c _ (mem_uc main_v1 (by decide)), h c _ (mem_uc main_v3 (by decide)),
       h c _ (mem_uc main_v5 (by decide)), h c _ (mem_uc main_v7 (by decide)), h c _ (mem_uc main_v8 (by decide)),
       h c _ (mem_uc main_v9 (by decide)), h c _ (mem_uc main_v10 (by decide)),
       (h c _ (mem_uc main_arg0 (by decide))).trans (W11_main_arg0 m ρ c), (h c _ (mem_uc main_arg1 (by decide))).trans (W11_main_arg1 m ρ c),
       (h c _ (mem_uc main_arg2 (by decide))).trans (W11_main_arg2 m ρ c), (h c _ (mem_uc main_arg3 (by decide))).trans (W11_main_arg3 m ρ c),
       (h c _ (mem_uc main_arg4 (by decide))).trans (W11_main_arg4 m ρ c), (h c _ (mem_uc main_arg5 (by decide))).trans (W11_main_arg5 m ρ c),
       (h c _ (mem_uc main_arg6 (by decide))).trans (W11_main_arg6 m ρ c)⟩)
      (Cert.Kernel4Ideal.Val.run (F := Ideal) m ρ)
  · refine (θ_run Cert.Reference4Ideal.defs _ _).mono (fun _ h c => ?_) (Cert.Reference4Ideal.Value.run (F := Ideal) m' ρ')
    obtain ⟨x, hv, wa, y, wo, dx, dp, A⟩ := hA c
    obtain ⟨h0, h1, h2, h3, h4, h5, h6⟩ := hagree c
    obtain ⟨r0, r1, r2, r3, r4, r5, r6, r7, hargs⟩ := h c
    refine ⟨r0.trans ?_, r1.trans ?_, r2.trans ?_, r3.trans ?_, r4.trans ?_, r5.trans ?_, r6.trans ?_, r7.trans ?_, hargs⟩
    · rw [Cert.Reference4Ideal.Read.val_main_v7_eq, h1, h2]
      exact same (Cert.Reference4Ideal.Val.p A.hh A.hwa) (A.p ρ)
    · rw [Cert.Reference4Ideal.Read.val_main_v19_eq, h0, h3, h4]
      exact same (Cert.Reference4Ideal.Val.sum A.hx A.hy A.hwo) (A.x1 ρ)
    · rw [Cert.Reference4Ideal.Read.val_main_v16_eq, h4, h5]
      exact same (Cert.Reference4Ideal.Val.dya A.hwo A.hdx) (A.dya ρ)
    · rw [Cert.Reference4Ideal.Read.val_main_v17_eq, h4, h5]
      exact same (Cert.Reference4Ideal.Val.dyb A.hwo A.hdx) (A.dyb ρ)
    · rw [Cert.Reference4Ideal.Read.val_main_v18_eq, h4, h5]
      exact same (Cert.Reference4Ideal.Val.dyc A.hwo A.hdx) (A.dyc ρ)
    · rw [Cert.Reference4Ideal.Read.val_main_v20_eq, h3, h5]
      exact same (Cert.Reference4Ideal.Val.dwo A.hy A.hdx) (A.dwo ρ)
    · rw [Cert.Reference4Ideal.Read.val_main_v21_eq, h1, h6]
      exact same (Cert.Reference4Ideal.Val.dwa A.hh A.hdp) (A.dwa ρ)
    · rw [Cert.Reference4Ideal.Read.val_main_v11_eq, h2, h6]
      exact same (Cert.Reference4Ideal.Val.dh A.hwa A.hdp) (A.dh ρ)

open Cert.Kernel5Ideal Cert.Kernel5Ideal.Gen in
theorem algebraic5 : Cert.algebraic_Kernel5Ideal_Reference5Ideal_pre_finite5 := by
  intro m ρ m' ρ' hpre hagree
  have hA : ∀ c : Dev nD, ∃ q k kv g : ℕ → ℕ → ℝ, Cert.Kernel5Ideal.Val.Args m c q k kv g := fun c => by
    obtain ⟨q, k, kv, g, hq, hk, hv, hg⟩ := Cert.Pre_finite5.Val.finite _ _ _ _ (hpre c)
    exact ⟨q, k, kv, g, ⟨hq, hk, hv, hg⟩⟩
  refine ⟨fun c => W2 m ρ c (Proc.devRef .tc main_v0_0), fun c => W2 m ρ c (Proc.devRef .tc main_v1_0),
    fun c => W2 m ρ c (Proc.devRef .tc main_v1_1), fun c => W2 m ρ c (Proc.devRef .tc main_v1_2), ?_, ?_⟩
  · exact (θ_run Cert.Kernel5Ideal.defs _ _).mono (fun _ h c =>
      ⟨h c _ (mem_uc main_v0_0 (by decide)), h c _ (mem_uc main_v1_0 (by decide)), h c _ (mem_uc main_v1_1 (by decide)),
       h c _ (mem_uc main_v1_2 (by decide)),
       (h c _ (mem_uc main_arg0 (by decide))).trans (W2_main_arg0 m ρ c), (h c _ (mem_uc main_arg1 (by decide))).trans (W2_main_arg1 m ρ c),
       (h c _ (mem_uc main_arg2 (by decide))).trans (W2_main_arg2 m ρ c), (h c _ (mem_uc main_arg3 (by decide))).trans (W2_main_arg3 m ρ c)⟩)
      (Cert.Kernel5Ideal.Val.run (F := Ideal) m ρ)
  · refine (θ_run Cert.Reference5Ideal.defs _ _).mono (fun _ h c => ?_) (Cert.Reference5Ideal.Value.run (F := Ideal) m' ρ')
    obtain ⟨q, k, kv, g, A⟩ := hA c
    obtain ⟨h0, h1, h2, h3⟩ := hagree c
    obtain ⟨ho, hdq, hdk, hdv, hargs⟩ := h c
    refine ⟨ho.trans ?_, hdq.trans ?_, hdk.trans ?_, hdv.trans ?_, hargs⟩
    · rw [Cert.Reference5Ideal.Read.val_main_v41_eq, h0, h1, h2]
      exact eq_of (Cert.Reference5Ideal.Val.o_eq A.hq A.hk A.hv) (A.o ρ)
    · rw [Cert.Reference5Ideal.Read.val_main_v66_eq, h0, h1, h2, h3]
      exact eq_of (Cert.Reference5Ideal.Val.dq_eq A.hq A.hk A.hv A.hg) (A.dq ρ)
    · rw [Cert.Reference5Ideal.Read.val_main_v65_eq, h0, h1, h2, h3]
      exact eq_of (Cert.Reference5Ideal.Val.dk_eq A.hq A.hk A.hv A.hg) (A.dk ρ)
    · rw [Cert.Reference5Ideal.Read.val_main_v67_eq, h0, h1, h3]
      exact eq_of (Cert.Reference5Ideal.Val.dv_eq A.hq A.hk A.hg) (A.dv ρ)

open Cert.Kernel6Ideal Cert.Kernel6Ideal.Gen in
theorem algebraic6 : Cert.algebraic_Kernel6Ideal_Reference6Ideal := by
  intro m ρ m' ρ' _ hagree
  refine ⟨fun c => W6 m ρ c (Proc.devRef .tc main_v0), fun c => W6 m ρ c (Proc.devRef .tc main_v1), fun c => W6 m ρ c (Proc.devRef .tc main_v2), fun c => W6 m ρ c (Proc.devRef .tc main_v3), fun c => W6 m ρ c (Proc.devRef .tc main_v4), fun c => W6 m ρ c (Proc.devRef .tc main_v5), ?_, ?_⟩
  · exact (θ_run Cert.Kernel6Ideal.defs _ _).mono (fun _ h c =>
      ⟨h c _ (mem_uc main_v0 (by decide)), h c _ (mem_uc main_v1 (by decide)), h c _ (mem_uc main_v2 (by decide)), h c _ (mem_uc main_v3 (by decide)), h c _ (mem_uc main_v4 (by decide)), h c _ (mem_uc main_v5 (by decide)),
       (h c _ (mem_uc main_arg0 (by decide))).trans (W6_main_arg0 m ρ c), (h c _ (mem_uc main_arg1 (by decide))).trans (W6_main_arg1 m ρ c),
       (h c _ (mem_uc main_arg2 (by decide))).trans (W6_main_arg2 m ρ c), (h c _ (mem_uc main_arg3 (by decide))).trans (W6_main_arg3 m ρ c),
       (h c _ (mem_uc main_arg4 (by decide))).trans (W6_main_arg4 m ρ c), (h c _ (mem_uc main_arg5 (by decide))).trans (W6_main_arg5 m ρ c)⟩)
      (Cert.Kernel6Ideal.Val.run (F := Ideal) m ρ)
  · refine (θ_run Cert.Reference6Ideal.defs _ _).mono (fun _ h c => ?_) (Cert.Reference6Ideal.Value.run (F := Ideal) m' ρ')
    obtain ⟨h0, h1, h2, h3, h4, h5⟩ := hagree c
    obtain ⟨r0, r1, r2, r3, r4, r5, hargs⟩ := h c
    obtain ⟨cq, hcq⟩ := Cert.Ext.v2_of (n := 4096) (m := 512) (by decide) (by decide) (m ((c.tc : Thread nD τ).loc main_arg0))
    obtain ⟨uq, huq⟩ := Cert.Ext.v2_of (n := 512) (m := 1024) (by decide) (by decide) (m ((c.tc : Thread nD τ).loc main_arg1))
    obtain ⟨ckv, hckv⟩ := Cert.Ext.v2_of (n := 4096) (m := 512) (by decide) (by decide) (m ((c.tc : Thread nD τ).loc main_arg2))
    obtain ⟨ukv, hukv⟩ := Cert.Ext.v2_of (n := 512) (m := 1024) (by decide) (by decide) (m ((c.tc : Thread nD τ).loc main_arg3))
    obtain ⟨dq, hdq⟩ := Cert.Ext.v2_of (n := 4096) (m := 1024) (by decide) (by decide) (m ((c.tc : Thread nD τ).loc main_arg4))
    obtain ⟨dkv, hdkv⟩ := Cert.Ext.v2_of (n := 4096) (m := 1024) (by decide) (by decide) (m ((c.tc : Thread nD τ).loc main_arg5))
    have A : Cert.Kernel6Ideal.Val.Args m c cq uq ckv ukv dq dkv := ⟨hcq, huq, hckv, hukv, hdq, hdkv⟩
    refine ⟨r0.trans ?_, r1.trans ?_, r2.trans ?_, r3.trans ?_, r4.trans ?_, r5.trans ?_, hargs⟩
    · rw [Cert.Reference6Ideal.Read.val_main_v6_eq, h0, h1]
      exact same (Cert.Reference6Ideal.Val.q A.hcq A.huq) (A.q ρ)
    · rw [Cert.Reference6Ideal.Read.val_main_v14_eq, h2, h3]
      exact same (Cert.Reference6Ideal.Val.kv A.hckv A.hukv) (A.kv ρ)
    · rw [Cert.Reference6Ideal.Read.val_main_v13_eq, h3, h5]
      exact same (Cert.Reference6Ideal.Val.dckv A.hukv A.hdkv) (A.dckv ρ)
    · rw [Cert.Reference6Ideal.Read.val_main_v15_eq, h2, h5]
      exact same (Cert.Reference6Ideal.Val.dukv A.hckv A.hdkv) (A.dukv ρ)
    · rw [Cert.Reference6Ideal.Read.val_main_v10_eq, h1, h4]
      exact same (Cert.Reference6Ideal.Val.dcq A.huq A.hdq) (A.dcq ρ)
    · rw [Cert.Reference6Ideal.Read.val_main_v16_eq, h0, h4]
      exact same (Cert.Reference6Ideal.Val.duq A.hcq A.hdq) (A.duq ρ)

open Cert.Kernel7Ideal Cert.Kernel7Ideal.Gen in
theorem algebraic7 : Cert.algebraic_Kernel7Ideal_Reference7Ideal := by
  intro m ρ m' ρ' _ hagree
  refine ⟨fun c => W8 m ρ c (Proc.devRef .tc main_v0_0), fun c => W8 m ρ c (Proc.devRef .tc main_v0_1), fun c => W8 m ρ c (Proc.devRef .tc main_v0_2), fun c => W8 m ρ c (Proc.devRef .tc main_v0_3),
    fun c => W8 m ρ c (Proc.devRef .tc main_v1_0), fun c => W8 m ρ c (Proc.devRef .tc main_v1_1), fun c => W8 m ρ c (Proc.devRef .tc main_v1_2), fun c => W8 m ρ c (Proc.devRef .tc main_v1_3),
    fun c => W8 m ρ c (Proc.devRef .tc main_v2_0), fun c => W8 m ρ c (Proc.devRef .tc main_v2_1), fun c => W8 m ρ c (Proc.devRef .tc main_v2_2), fun c => W8 m ρ c (Proc.devRef .tc main_v2_3),
    fun c => W8 m ρ c (Proc.devRef .tc main_v3_0), fun c => W8 m ρ c (Proc.devRef .tc main_v3_1), fun c => W8 m ρ c (Proc.devRef .tc main_v3_2), fun c => W8 m ρ c (Proc.devRef .tc main_v3_3),
    fun c => W8 m ρ c (Proc.devRef .tc main_v4_0), fun c => W8 m ρ c (Proc.devRef .tc main_v4_1), fun c => W8 m ρ c (Proc.devRef .tc main_v4_2), fun c => W8 m ρ c (Proc.devRef .tc main_v4_3),
    fun c => W8 m ρ c (Proc.devRef .tc main_v5_0), fun c => W8 m ρ c (Proc.devRef .tc main_v5_1), fun c => W8 m ρ c (Proc.devRef .tc main_v5_2), fun c => W8 m ρ c (Proc.devRef .tc main_v5_3),
    fun c => W8 m ρ c (Proc.devRef .tc main_v6_0), fun c => W8 m ρ c (Proc.devRef .tc main_v6_1), fun c => W8 m ρ c (Proc.devRef .tc main_v6_2), fun c => W8 m ρ c (Proc.devRef .tc main_v6_3),
    fun c => W8 m ρ c (Proc.devRef .tc main_v7_0), fun c => W8 m ρ c (Proc.devRef .tc main_v7_1), fun c => W8 m ρ c (Proc.devRef .tc main_v7_2), fun c => W8 m ρ c (Proc.devRef .tc main_v7_3), ?_, ?_⟩
  · exact (θ_run Cert.Kernel7Ideal.defs _ _).mono (fun _ h c =>
      ⟨h c _ (mem_uc main_v0_0 (by decide)), h c _ (mem_uc main_v0_1 (by decide)), h c _ (mem_uc main_v0_2 (by decide)), h c _ (mem_uc main_v0_3 (by decide)),
       h c _ (mem_uc main_v1_0 (by decide)), h c _ (mem_uc main_v1_1 (by decide)), h c _ (mem_uc main_v1_2 (by decide)), h c _ (mem_uc main_v1_3 (by decide)),
       h c _ (mem_uc main_v2_0 (by decide)), h c _ (mem_uc main_v2_1 (by decide)), h c _ (mem_uc main_v2_2 (by decide)), h c _ (mem_uc main_v2_3 (by decide)),
       h c _ (mem_uc main_v3_0 (by decide)), h c _ (mem_uc main_v3_1 (by decide)), h c _ (mem_uc main_v3_2 (by decide)), h c _ (mem_uc main_v3_3 (by decide)),
       h c _ (mem_uc main_v4_0 (by decide)), h c _ (mem_uc main_v4_1 (by decide)), h c _ (mem_uc main_v4_2 (by decide)), h c _ (mem_uc main_v4_3 (by decide)),
       h c _ (mem_uc main_v5_0 (by decide)), h c _ (mem_uc main_v5_1 (by decide)), h c _ (mem_uc main_v5_2 (by decide)), h c _ (mem_uc main_v5_3 (by decide)),
       h c _ (mem_uc main_v6_0 (by decide)), h c _ (mem_uc main_v6_1 (by decide)), h c _ (mem_uc main_v6_2 (by decide)), h c _ (mem_uc main_v6_3 (by decide)),
       h c _ (mem_uc main_v7_0 (by decide)), h c _ (mem_uc main_v7_1 (by decide)), h c _ (mem_uc main_v7_2 (by decide)), h c _ (mem_uc main_v7_3 (by decide)),
       (h c _ (mem_uc main_arg0 (by decide))).trans (W8_main_arg0 m ρ c), (h c _ (mem_uc main_arg1 (by decide))).trans (W8_main_arg1 m ρ c),
       (h c _ (mem_uc main_arg2 (by decide))).trans (W8_main_arg2 m ρ c), (h c _ (mem_uc main_arg3 (by decide))).trans (W8_main_arg3 m ρ c),
       (h c _ (mem_uc main_arg4 (by decide))).trans (W8_main_arg4 m ρ c), (h c _ (mem_uc main_arg5 (by decide))).trans (W8_main_arg5 m ρ c),
       (h c _ (mem_uc main_arg6 (by decide))).trans (W8_main_arg6 m ρ c), (h c _ (mem_uc main_arg7 (by decide))).trans (W8_main_arg7 m ρ c),
       (h c _ (mem_uc main_arg8 (by decide))).trans (W8_main_arg8 m ρ c), (h c _ (mem_uc main_arg9 (by decide))).trans (W8_main_arg9 m ρ c),
       (h c _ (mem_uc main_arg10 (by decide))).trans (W8_main_arg10 m ρ c), (h c _ (mem_uc main_arg11 (by decide))).trans (W8_main_arg11 m ρ c),
       (h c _ (mem_uc main_arg12 (by decide))).trans (W8_main_arg12 m ρ c), (h c _ (mem_uc main_arg13 (by decide))).trans (W8_main_arg13 m ρ c),
       (h c _ (mem_uc main_arg14 (by decide))).trans (W8_main_arg14 m ρ c), (h c _ (mem_uc main_arg15 (by decide))).trans (W8_main_arg15 m ρ c),
       (h c _ (mem_uc main_arg16 (by decide))).trans (W8_main_arg16 m ρ c), (h c _ (mem_uc main_arg17 (by decide))).trans (W8_main_arg17 m ρ c),
       (h c _ (mem_uc main_arg18 (by decide))).trans (W8_main_arg18 m ρ c), (h c _ (mem_uc main_arg19 (by decide))).trans (W8_main_arg19 m ρ c),
       (h c _ (mem_uc main_arg20 (by decide))).trans (W8_main_arg20 m ρ c), (h c _ (mem_uc main_arg21 (by decide))).trans (W8_main_arg21 m ρ c),
       (h c _ (mem_uc main_arg22 (by decide))).trans (W8_main_arg22 m ρ c), (h c _ (mem_uc main_arg23 (by decide))).trans (W8_main_arg23 m ρ c),
       (h c _ (mem_uc main_arg24 (by decide))).trans (W8_main_arg24 m ρ c), (h c _ (mem_uc main_arg25 (by decide))).trans (W8_main_arg25 m ρ c),
       (h c _ (mem_uc main_arg26 (by decide))).trans (W8_main_arg26 m ρ c), (h c _ (mem_uc main_arg27 (by decide))).trans (W8_main_arg27 m ρ c),
       (h c _ (mem_uc main_arg28 (by decide))).trans (W8_main_arg28 m ρ c), (h c _ (mem_uc main_arg29 (by decide))).trans (W8_main_arg29 m ρ c),
       (h c _ (mem_uc main_arg30 (by decide))).trans (W8_main_arg30 m ρ c), (h c _ (mem_uc main_arg31 (by decide))).trans (W8_main_arg31 m ρ c),
       (h c _ (mem_uc main_arg32 (by decide))).trans (W8_main_arg32 m ρ c), (h c _ (mem_uc main_arg33 (by decide))).trans (W8_main_arg33 m ρ c),
       (h c _ (mem_uc main_arg34 (by decide))).trans (W8_main_arg34 m ρ c), (h c _ (mem_uc main_arg35 (by decide))).trans (W8_main_arg35 m ρ c),
       (h c _ (mem_uc main_arg36 (by decide))).trans (W8_main_arg36 m ρ c), (h c _ (mem_uc main_arg37 (by decide))).trans (W8_main_arg37 m ρ c),
       (h c _ (mem_uc main_arg38 (by decide))).trans (W8_main_arg38 m ρ c)⟩)
      (Cert.Kernel7Ideal.Val.run (F := Ideal) m ρ)
  · refine (θ_run Cert.Reference7Ideal.defs _ _).mono (fun _ h c => ?_) (Cert.Reference7Ideal.Value.run (F := Ideal) m' ρ')
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38⟩ := hagree c
    obtain ⟨r0, r1, r2, r3, r4, r5, r6, r7, r8, r9, r10, r11, r12, r13, r14, r15, r16, r17, r18, r19, r20, r21, r22, r23, r24, r25, r26, r27, r28, r29, r30, r31, hargs⟩ := h c
    obtain ⟨e0_0, e0_1, e0_2, e0_3⟩ := Cert.AdamEq.eq0 m ρ c
    obtain ⟨e1_0, e1_1, e1_2, e1_3⟩ := Cert.AdamEq.eq1 m ρ c
    obtain ⟨e2_0, e2_1, e2_2, e2_3⟩ := Cert.AdamEq.eq2 m ρ c
    obtain ⟨e3_0, e3_1, e3_2, e3_3⟩ := Cert.AdamEq.eq3 m ρ c
    obtain ⟨e4_0, e4_1, e4_2, e4_3⟩ := Cert.AdamEq.eq4 m ρ c
    obtain ⟨e5_0, e5_1, e5_2, e5_3⟩ := Cert.AdamEq.eq5 m ρ c
    obtain ⟨e6_0, e6_1, e6_2, e6_3⟩ := Cert.AdamEq.eq6 m ρ c
    obtain ⟨e7_0, e7_1, e7_2, e7_3⟩ := Cert.AdamEq.eq7 m ρ c
    refine ⟨r0.trans ((Cert.Reference7Ideal.Read.val_main_v1_eq _).trans ?_), r1.trans ((Cert.Reference7Ideal.Read.val_main_v38_eq _).trans ?_),
      r2.trans ((Cert.Reference7Ideal.Read.val_main_v19_eq _).trans ?_), r3.trans ((Cert.Reference7Ideal.Read.val_main_v25_eq _).trans ?_),
      r4.trans ((Cert.Reference7Ideal.Read.val_main_v3_eq _).trans ?_), r5.trans ((Cert.Reference7Ideal.Read.val_main_v62_eq _).trans ?_),
      r6.trans ((Cert.Reference7Ideal.Read.val_main_v43_eq _).trans ?_), r7.trans ((Cert.Reference7Ideal.Read.val_main_v49_eq _).trans ?_),
      r8.trans ((Cert.Reference7Ideal.Read.val_main_v5_eq _).trans ?_), r9.trans ((Cert.Reference7Ideal.Read.val_main_v86_eq _).trans ?_),
      r10.trans ((Cert.Reference7Ideal.Read.val_main_v67_eq _).trans ?_), r11.trans ((Cert.Reference7Ideal.Read.val_main_v73_eq _).trans ?_),
      r12.trans ((Cert.Reference7Ideal.Read.val_main_v7_eq _).trans ?_), r13.trans ((Cert.Reference7Ideal.Read.val_main_v110_eq _).trans ?_),
      r14.trans ((Cert.Reference7Ideal.Read.val_main_v91_eq _).trans ?_), r15.trans ((Cert.Reference7Ideal.Read.val_main_v97_eq _).trans ?_),
      r16.trans ((Cert.Reference7Ideal.Read.val_main_v9_eq _).trans ?_), r17.trans ((Cert.Reference7Ideal.Read.val_main_v134_eq _).trans ?_),
      r18.trans ((Cert.Reference7Ideal.Read.val_main_v115_eq _).trans ?_), r19.trans ((Cert.Reference7Ideal.Read.val_main_v121_eq _).trans ?_),
      r20.trans ((Cert.Reference7Ideal.Read.val_main_v11_eq _).trans ?_), r21.trans ((Cert.Reference7Ideal.Read.val_main_v158_eq _).trans ?_),
      r22.trans ((Cert.Reference7Ideal.Read.val_main_v139_eq _).trans ?_), r23.trans ((Cert.Reference7Ideal.Read.val_main_v145_eq _).trans ?_),
      r24.trans ((Cert.Reference7Ideal.Read.val_main_v13_eq _).trans ?_), r25.trans ((Cert.Reference7Ideal.Read.val_main_v182_eq _).trans ?_),
      r26.trans ((Cert.Reference7Ideal.Read.val_main_v163_eq _).trans ?_), r27.trans ((Cert.Reference7Ideal.Read.val_main_v169_eq _).trans ?_),
      r28.trans ((Cert.Reference7Ideal.Read.val_main_v14_eq _).trans ?_), r29.trans ((Cert.Reference7Ideal.Read.val_main_v206_eq _).trans ?_),
      r30.trans ((Cert.Reference7Ideal.Read.val_main_v187_eq _).trans ?_), r31.trans ((Cert.Reference7Ideal.Read.val_main_v193_eq _).trans ?_), hargs⟩ <;>
      simp only [StableHlo.launchContents_devRef, h0, h1, h2, h3, h4, h5, h6, h7, h8, h9, h10, h11, h12, h13, h14, h15, h16, h17, h18, h19, h20, h21, h22, h23, h24, h25, h26, h27, h28, h29, h30, h31, h32, h33, h34, h35, h36, h37, h38]
    exacts [e0_0, e0_1, e0_2, e0_3, e1_0, e1_1, e1_2, e1_3, e2_0, e2_1, e2_2, e2_3, e3_0, e3_1, e3_2, e3_3, e4_0, e4_1, e4_2, e4_3, e5_0, e5_1, e5_2, e5_3, e6_0, e6_1, e6_2, e6_3, e7_0, e7_1, e7_2, e7_3]

open Cert.Kernel8Ideal Cert.Kernel8Ideal.Gen in
theorem algebraic8 : Cert.algebraic_Kernel8Ideal_Reference8Ideal := by
  intro m ρ m' ρ' _ hagree
  refine ⟨fun c => (dats m 0 c).arrAt 3 cfg0.N, fun c => (dats m 0 c).arrAt 4 cfg0.N, fun c => (dats m 0 c).arrAt 5 cfg0.N, fun c => (dats m 0 c).arrAt 6 cfg0.N,
    Cert.Kernel8Ideal.Value.run_blocks (F := Ideal) m ρ, ?_⟩
  refine (θ_run Cert.Reference8Ideal.defs _ _).mono (fun _ h c => ?_) (Cert.Reference8Ideal.Value.run (F := Ideal) m' ρ')
  obtain ⟨h0, h1, h2⟩ := hagree c
  obtain ⟨r0, r1, r2, r3, hargs⟩ := h c
  obtain ⟨x, hx⟩ := Cert.Ext.v2_of (n := 4096) (m := 2048) (by decide) (by decide) (m ((c.tc : Thread nD τ).loc main_arg0))
  obtain ⟨g, hg⟩ := Cert.Ext.v2_of (n := 1) (m := 2048) (by decide) (by decide) (m ((c.tc : Thread nD τ).loc main_arg1))
  obtain ⟨y, hy⟩ := Cert.Ext.v2_of (n := 4096) (m := 2048) (by decide) (by decide) (m ((c.tc : Thread nD τ).loc main_arg2))
  have A : Cert.Kernel8Ideal.Val.Args m c x g y := ⟨hx, hg, hy⟩
  refine ⟨r0.trans ?_, r1.trans ?_, r2.trans ?_, r3.trans ?_, hargs⟩
  · refine (Cert.Reference8Ideal.Read.val_main_v48_eq m' c).trans ?_
    rw [h0, h1, h2]
    exact same (Cert.Reference8Ideal.Val.dx A.hx A.hg A.hy) A.dx
  · rw [Cert.Reference8Ideal.Read.val_main_v32_eq, h0, h1, h2]
    exact same (Cert.Reference8Ideal.Val.gain A.hx A.hg A.hy) A.dg
  · rw [Cert.Reference8Ideal.Read.val_main_v49_eq, h0, h1, h2]
    exact same (Cert.Reference8Ideal.Val.loss A.hx A.hg A.hy) A.loss
  · refine (Cert.Reference8Ideal.Read.val_main_v50_eq m' c).trans ?_
    rw [h0, h1, h2]
    exact same (Cert.Reference8Ideal.Val.dxb A.hx A.hg A.hy) A.dxb

open Cert.Kernel9Ideal Cert.Kernel9Ideal.Gen in
theorem algebraic9 : Cert.algebraic_Kernel9Ideal_Reference9Ideal := by
  intro m ρ m' ρ' _ hagree
  refine ⟨fun c => W2 m ρ c (Proc.devRef .tc main_v0), fun c => W2 m ρ c (Proc.devRef .tc main_v1_0), fun c => W2 m ρ c (Proc.devRef .tc main_v1_1),
    fun c => W2 m ρ c (Proc.devRef .tc main_v1_2), ?_, ?_⟩
  · exact (θ_run Cert.Kernel9Ideal.defs _ _).mono (fun _ h c =>
      ⟨h c _ (mem_uc main_v0 (by decide)), h c _ (mem_uc main_v1_0 (by decide)), h c _ (mem_uc main_v1_1 (by decide)), h c _ (mem_uc main_v1_2 (by decide)),
       (h c _ (mem_uc main_arg0 (by decide))).trans (W2_main_arg0 m ρ c), (h c _ (mem_uc main_arg1 (by decide))).trans (W2_main_arg1 m ρ c),
       (h c _ (mem_uc main_arg2 (by decide))).trans (W2_main_arg2 m ρ c), (h c _ (mem_uc main_arg3 (by decide))).trans (W2_main_arg3 m ρ c)⟩)
      (Cert.Kernel9Ideal.Val.run (F := Ideal) m ρ)
  · refine (θ_run Cert.Reference9Ideal.defs _ _).mono (fun _ h c => ?_) (Cert.Reference9Ideal.Value.run (F := Ideal) m' ρ')
    obtain ⟨h0, h1, h2, h3⟩ := hagree c
    obtain ⟨r0, r1, r2, r3, hargs⟩ := h c
    obtain ⟨x, hx⟩ := Cert.Ext.v2_of (n := 4096) (m := 2048) (by decide) (by decide) (m ((c.tc : Thread nD τ).loc main_arg0))
    obtain ⟨g, hg⟩ := Cert.Ext.v2_of (n := 1) (m := 2048) (by decide) (by decide) (m ((c.tc : Thread nD τ).loc main_arg1))
    obtain ⟨d, hd⟩ := Cert.Ext.v2_of (n := 4096) (m := 2048) (by decide) (by decide) (m ((c.tc : Thread nD τ).loc main_arg2))
    obtain ⟨u, hu⟩ := Cert.Ext.v2_of (n := 4096) (m := 2048) (by decide) (by decide) (m ((c.tc : Thread nD τ).loc main_arg3))
    have A : Cert.Kernel9Ideal.Val.Args m c x g d u := ⟨hx, hg, hd, hu⟩
    refine ⟨r0.trans ?_, r1.trans ?_, r2.trans ?_, r3.trans ?_, hargs⟩
    · rw [Cert.Reference9Ideal.Read.val_main_v35_eq, h0, h1]
      exact same (Cert.Reference9Ideal.Val.fwd A.hx A.hg) (A.fwd ρ)
    · rw [Cert.Reference9Ideal.Read.val_main_v34_eq, h0, h1, h2, h3]
      exact same (Cert.Reference9Ideal.Val.dx A.hx A.hg A.hd A.hu) (A.dx ρ)
    · rw [Cert.Reference9Ideal.Read.val_main_v17_eq, h0, h2]
      exact same (Cert.Reference9Ideal.Val.gain A.hx A.hd) (A.dg ρ)
    · rw [Cert.Reference9Ideal.Read.val_main_v36_eq, h0, h1, h2, h3]
      exact same (Cert.Reference9Ideal.Val.dxb A.hx A.hg A.hd A.hu) (A.dxb ρ)

open Cert.Kernel10Ideal Cert.Kernel10Ideal.Gen in
theorem algebraic10 : Cert.algebraic_Kernel10Ideal_Reference10Ideal := by
  intro m ρ m' ρ' _ hagree
  refine ⟨fun c => W4 m ρ c (Proc.devRef .tc main_v0),
    fun c => W4 m ρ c (Proc.devRef .tc main_v1),
    fun c => W4 m ρ c (Proc.devRef .tc main_v2_0),
    fun c => W4 m ρ c (Proc.devRef .tc main_v2_1),
    fun c => W4 m ρ c (Proc.devRef .tc main_v3_0),
    fun c => W4 m ρ c (Proc.devRef .tc main_v3_1), ?_, ?_⟩
  · exact (θ_run Cert.Kernel10Ideal.defs _ _).mono (fun _ h c =>
      ⟨h c _ (mem_uc main_v0 (by decide)),
       h c _ (mem_uc main_v1 (by decide)),
       h c _ (mem_uc main_v2_0 (by decide)),
       h c _ (mem_uc main_v2_1 (by decide)),
       h c _ (mem_uc main_v3_0 (by decide)),
       h c _ (mem_uc main_v3_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)
      (Cert.Kernel10Ideal.Val.run (F := Ideal) m ρ)
  · refine (θ_run Cert.Reference10Ideal.defs _ _).mono (fun _ h c => ?_) (Cert.Reference10Ideal.Value.run (F := Ideal) m' ρ')
    obtain ⟨h0, h1, h2, h3, h4⟩ := hagree c
    obtain ⟨r0, r1, r2, r3, r4, r5, hargs⟩ := h c
    obtain ⟨p, k0⟩ := Cert.Ext.v2_of (n := 4096) (m := 5120) (by decide) (by decide) (m ((c.tc : Thread nD τ).loc main_arg0))
    obtain ⟨gq, k1⟩ := Cert.Ext.v2_of (n := 1) (m := 512) (by decide) (by decide) (m ((c.tc : Thread nD τ).loc main_arg1))
    obtain ⟨gk, k2⟩ := Cert.Ext.v2_of (n := 1) (m := 512) (by decide) (by decide) (m ((c.tc : Thread nD τ).loc main_arg2))
    obtain ⟨dq, k3⟩ := Cert.Ext.v2_of (n := 4096) (m := 512) (by decide) (by decide) (m ((c.tc : Thread nD τ).loc main_arg3))
    obtain ⟨dk, k4⟩ := Cert.Ext.v2_of (n := 4096) (m := 512) (by decide) (by decide) (m ((c.tc : Thread nD τ).loc main_arg4))
    have A : Cert.Kernel10Ideal.Val.Args m c p gq gk dq dk := ⟨k0, k1, k2, k3, k4⟩
    refine ⟨r0.trans ?_, r1.trans ?_, r2.trans ?_, r3.trans ?_, r4.trans ?_, r5.trans ?_, hargs⟩
    · rw [Cert.Reference10Ideal.Read.val_main_v70_eq, h0, h1]
      exact same (Cert.Reference10Ideal.Val.N0.fwd A.h0 A.h1) (A.v0 ρ)
    · rw [Cert.Reference10Ideal.Read.val_main_v71_eq, h0, h2]
      exact same (Cert.Reference10Ideal.Val.N1.fwd A.h0 A.h2) (A.v1 ρ)
    · refine (Cert.Reference10Ideal.Read.val_main_v72_eq m' c).trans ?_
      rw [h0, h1, h3]
      exact same (Cert.Reference10Ideal.Val.N0.dx A.h0 A.h1 A.h3) (A.v2_0 ρ)
    · rw [Cert.Reference10Ideal.Read.val_main_v18_eq, h0, h3]
      exact same (Cert.Reference10Ideal.Val.N0.gain A.h0 A.h3) (A.v2_1 ρ)
    · refine (Cert.Reference10Ideal.Read.val_main_v73_eq m' c).trans ?_
      rw [h0, h2, h4]
      exact same (Cert.Reference10Ideal.Val.N1.dx A.h0 A.h2 A.h4) (A.v3_0 ρ)
    · rw [Cert.Reference10Ideal.Read.val_main_v53_eq, h0, h4]
      exact same (Cert.Reference10Ideal.Val.N1.gain A.h0 A.h4) (A.v3_1 ρ)

open Cert.Kernel11Ideal Cert.Kernel11Ideal.Gen in
theorem algebraic11 : Cert.algebraic_Kernel11Ideal_Reference11Ideal := by
  intro m ρ m' ρ' _ hagree
  refine ⟨fun c => W6 m ρ c (Proc.devRef .tc main_v0),
    fun c => W6 m ρ c (Proc.devRef .tc main_v1),
    fun c => W6 m ρ c (Proc.devRef .tc main_v2),
    fun c => W6 m ρ c (Proc.devRef .tc main_v3_0),
    fun c => W6 m ρ c (Proc.devRef .tc main_v3_1),
    fun c => W6 m ρ c (Proc.devRef .tc main_v4_0),
    fun c => W6 m ρ c (Proc.devRef .tc main_v4_1),
    fun c => W6 m ρ c (Proc.devRef .tc main_v5_0),
    fun c => W6 m ρ c (Proc.devRef .tc main_v5_1), ?_, ?_⟩
  · exact (θ_run Cert.Kernel11Ideal.defs _ _).mono (fun _ h c =>
      ⟨h c _ (mem_uc main_v0 (by decide)),
       h c _ (mem_uc main_v1 (by decide)),
       h c _ (mem_uc main_v2 (by decide)),
       h c _ (mem_uc main_v3_0 (by decide)),
       h c _ (mem_uc main_v3_1 (by decide)),
       h c _ (mem_uc main_v4_0 (by decide)),
       h c _ (mem_uc main_v4_1 (by decide)),
       h c _ (mem_uc main_v5_0 (by decide)),
       h c _ (mem_uc main_v5_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)
      (Cert.Kernel11Ideal.Val.run (F := Ideal) m ρ)
  · refine (θ_run Cert.Reference11Ideal.defs _ _).mono (fun _ h c => ?_) (Cert.Reference11Ideal.Value.run (F := Ideal) m' ρ')
    obtain ⟨h0, h1, h2, h3, h4, h5, h6, h7, h8⟩ := hagree c
    obtain ⟨r0, r1, r2, r3, r4, r5, r6, r7, r8, hargs⟩ := h c
    obtain ⟨a, k0⟩ := Cert.Ext.v2_of (n := 4096) (m := 512) (by decide) (by decide) (m ((c.tc : Thread nD τ).loc main_arg0))
    obtain ⟨b, k1⟩ := Cert.Ext.v2_of (n := 4096) (m := 768) (by decide) (by decide) (m ((c.tc : Thread nD τ).loc main_arg1))
    obtain ⟨e, k2⟩ := Cert.Ext.v2_of (n := 4096) (m := 768) (by decide) (by decide) (m ((c.tc : Thread nD τ).loc main_arg2))
    obtain ⟨ga, k3⟩ := Cert.Ext.v2_of (n := 1) (m := 512) (by decide) (by decide) (m ((c.tc : Thread nD τ).loc main_arg3))
    obtain ⟨gb, k4⟩ := Cert.Ext.v2_of (n := 1) (m := 768) (by decide) (by decide) (m ((c.tc : Thread nD τ).loc main_arg4))
    obtain ⟨ge, k5⟩ := Cert.Ext.v2_of (n := 1) (m := 768) (by decide) (by decide) (m ((c.tc : Thread nD τ).loc main_arg5))
    obtain ⟨da, k6⟩ := Cert.Ext.v2_of (n := 4096) (m := 512) (by decide) (by decide) (m ((c.tc : Thread nD τ).loc main_arg6))
    obtain ⟨db, k7⟩ := Cert.Ext.v2_of (n := 4096) (m := 768) (by decide) (by decide) (m ((c.tc : Thread nD τ).loc main_arg7))
    obtain ⟨de, k8⟩ := Cert.Ext.v2_of (n := 4096) (m := 768) (by decide) (by decide) (m ((c.tc : Thread nD τ).loc main_arg8))
    have A : Cert.Kernel11Ideal.Val.Args m c a b e ga gb ge da db de := ⟨k0, k1, k2, k3, k4, k5, k6, k7, k8⟩
    refine ⟨r0.trans ?_, r1.trans ?_, r2.trans ?_, r3.trans ?_, r4.trans ?_, r5.trans ?_, r6.trans ?_, r7.trans ?_, r8.trans ?_, hargs⟩
    · rw [Cert.Reference11Ideal.Read.val_main_v102_eq, h0, h3]
      exact same (Cert.Reference11Ideal.Val.N0.fwd A.h0 A.h3) (A.v0 ρ)
    · rw [Cert.Reference11Ideal.Read.val_main_v103_eq, h1, h4]
      exact same (Cert.Reference11Ideal.Val.N1.fwd A.h1 A.h4) (A.v1 ρ)
    · rw [Cert.Reference11Ideal.Read.val_main_v104_eq, h2, h5]
      exact same (Cert.Reference11Ideal.Val.N2.fwd A.h2 A.h5) (A.v2 ρ)
    · rw [Cert.Reference11Ideal.Read.val_main_v33_eq, h0, h3, h6]
      exact same (Cert.Reference11Ideal.Val.N0.dx A.h0 A.h3 A.h6) (A.v3_0 ρ)
    · rw [Cert.Reference11Ideal.Read.val_main_v17_eq, h0, h6]
      exact same (Cert.Reference11Ideal.Val.N0.gain A.h0 A.h6) (A.v3_1 ρ)
    · rw [Cert.Reference11Ideal.Read.val_main_v67_eq, h1, h4, h7]
      exact same (Cert.Reference11Ideal.Val.N1.dx A.h1 A.h4 A.h7) (A.v4_0 ρ)
    · rw [Cert.Reference11Ideal.Read.val_main_v51_eq, h1, h7]
      exact same (Cert.Reference11Ideal.Val.N1.gain A.h1 A.h7) (A.v4_1 ρ)
    · rw [Cert.Reference11Ideal.Read.val_main_v101_eq, h2, h5, h8]
      exact same (Cert.Reference11Ideal.Val.N2.dx A.h2 A.h5 A.h8) (A.v5_0 ρ)
    · rw [Cert.Reference11Ideal.Read.val_main_v85_eq, h2, h8]
      exact same (Cert.Reference11Ideal.Val.N2.gain A.h2 A.h8) (A.v5_1 ρ)

open Cert.Kernel12Ideal Cert.Kernel12Ideal.Gen in
theorem algebraic12 : Cert.algebraic_Kernel12Ideal_Reference12Ideal := by
  intro m ρ m' ρ' _ hagree
  refine ⟨fun c => W4 m ρ c (Proc.devRef .tc main_v0),
    fun c => W4 m ρ c (Proc.devRef .tc main_v1),
    fun c => W4 m ρ c (Proc.devRef .tc main_v2_0),
    fun c => W4 m ρ c (Proc.devRef .tc main_v2_1),
    fun c => W4 m ρ c (Proc.devRef .tc main_v3_0),
    fun c => W4 m ρ c (Proc.devRef .tc main_v3_1), ?_, ?_⟩
  · exact (θ_run Cert.Kernel12Ideal.defs _ _).mono (fun _ h c =>
      ⟨h c _ (mem_uc main_v0 (by decide)),
       h c _ (mem_uc main_v1 (by decide)),
       h c _ (mem_uc main_v2_0 (by decide)),
       h c _ (mem_uc main_v2_1 (by decide)),
       h c _ (mem_uc main_v3_0 (by decide)),
       h c _ (mem_uc main_v3_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)
      (Cert.Kernel12Ideal.Val.run (F := Ideal) m ρ)
  · refine (θ_run Cert.Reference12Ideal.defs _ _).mono (fun _ h c => ?_) (Cert.Reference12Ideal.Value.run (F := Ideal) m' ρ')
    obtain ⟨h0, h1, h2, h3, h4⟩ := hagree c
    obtain ⟨r0, r1, r2, r3, r4, r5, hargs⟩ := h c
    obtain ⟨p, k0⟩ := Cert.Ext.v2_of (n := 4096) (m := 5120) (by decide) (by decide) (m ((c.tc : Thread nD τ).loc main_arg0))
    obtain ⟨gq, k1⟩ := Cert.Ext.v2_of (n := 1) (m := 128) (by decide) (by decide) (m ((c.tc : Thread nD τ).loc main_arg1))
    obtain ⟨gk, k2⟩ := Cert.Ext.v2_of (n := 1) (m := 128) (by decide) (by decide) (m ((c.tc : Thread nD τ).loc main_arg2))
    obtain ⟨dq, k3⟩ := Cert.Ext.v2_of (n := 4096) (m := 768) (by decide) (by decide) (m ((c.tc : Thread nD τ).loc main_arg3))
    obtain ⟨dk, k4⟩ := Cert.Ext.v2_of (n := 4096) (m := 256) (by decide) (by decide) (m ((c.tc : Thread nD τ).loc main_arg4))
    have A : Cert.Kernel12Ideal.Val.Args m c p gq gk dq dk := ⟨k0, k1, k2, k3, k4⟩
    refine ⟨r0.trans ?_, r1.trans ?_, r2.trans ?_, r3.trans ?_, r4.trans ?_, r5.trans ?_, hargs⟩
    · rw [Cert.Reference12Ideal.Read.val_main_v74_eq, h0, h1]
      exact same (Cert.Reference12Ideal.Val.N0.fwd_heads A.h0 A.h1) (A.v0 ρ)
    · rw [Cert.Reference12Ideal.Read.val_main_v75_eq, h0, h2]
      exact same (Cert.Reference12Ideal.Val.N1.fwd_heads A.h0 A.h2) (A.v1 ρ)
    · refine (Cert.Reference12Ideal.Read.val_main_v77_eq m' c).trans ?_
      rw [h0, h1, h3]
      exact same (Cert.Reference12Ideal.Val.N0.dx_heads A.h0 A.h1 A.h3) (A.v2_0 ρ)
    · rw [Cert.Reference12Ideal.Read.val_main_v20_eq, h0, h3]
      exact same (Cert.Reference12Ideal.Val.N0.gain A.h0 A.h3) (A.v2_1 ρ)
    · refine (Cert.Reference12Ideal.Read.val_main_v79_eq m' c).trans ?_
      rw [h0, h2, h4]
      exact same (Cert.Reference12Ideal.Val.N1.dx_heads A.h0 A.h2 A.h4) (A.v3_0 ρ)
    · rw [Cert.Reference12Ideal.Read.val_main_v57_eq, h0, h4]
      exact same (Cert.Reference12Ideal.Val.N1.gain A.h0 A.h4) (A.v3_1 ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Val.facts, Cert.Pre_finite2.Val.facts, Cert.Pre_finite5.Val.facts, frame_kernel, frame_ideal, frame_ideal_finite, frame_reference, frame_reference_finite,
  frame_kernel2, frame_ideal2, frame_ideal2_finite, frame_reference2, frame_reference2_finite, frame_kernel3, frame_ideal3, frame_reference3,
  frame_kernel4, frame_ideal4, frame_reference4,
  frame_kernel5, frame_ideal5, frame_ideal5_finite, frame_reference5, frame_reference5_finite,
  frame_kernel6, frame_ideal6, frame_reference6, frame_kernel7, frame_ideal7, frame_reference7,
  frame_kernel8, frame_ideal8, frame_reference8, frame_kernel9, frame_ideal9, frame_reference9,
  frame_kernel10, frame_ideal10, frame_reference10, frame_kernel11, frame_ideal11, frame_reference11, frame_kernel12, frame_ideal12, frame_reference12,
  preserves, algebraic, trivial, algebraic2, trivial, algebraic3, trivial, algebraic4,
  preserves5, algebraic5, trivial, algebraic6, trivial, algebraic7, trivial, algebraic8, trivial, algebraic9, trivial, algebraic10, trivial, algebraic11, trivial, algebraic12⟩

end Cert.Proof

end
